-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Kernel2 [hPre_pages : Cert.Pre_pages.Facts] (m : (ℓ : Loc Cert.Kernel2.nD Cert.Kernel2.τ Cert.Kernel2.sig) → Buf (Elt Bits) ℓ) : Prop :=
  ∀ c : Dev Cert.Kernel2.nD,
    (Cert.Pre_pages.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_pages : Cert.Pre_pages.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pages.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_pages : Cert.Pre_pages.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pages.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 [hPre_pages3 : Cert.Pre_pages3.Facts] (m : (ℓ : Loc Cert.Kernel3.nD Cert.Kernel3.τ Cert.Kernel3.sig) → Buf (Elt Bits) ℓ) : Prop :=
  ∀ c : Dev Cert.Kernel3.nD,
    (Cert.Pre_pages3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))) = (fun _ => 1#1)

def Pre_Kernel3Ideal [hPre_pages3 : Cert.Pre_pages3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_pages3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal [hPre_pages3 : Cert.Pre_pages3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_pages3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Kernel2 [hKernel2 : Cert.Kernel2.Facts] [hPre_pages : Cert.Pre_pages.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_pages : Cert.Pre_pages.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_pages : Cert.Pre_pages.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_pages3 : Cert.Pre_pages3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] [hPre_pages3 : Cert.Pre_pages3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] [hPre_pages3 : Cert.Pre_pages3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2_0)) (v1 : (c : Dev Cert.Kernel.nD) → Buf (Elt Bits) ((c.tc : Thread Cert.Kernel.nD Cert.Kernel.τ).loc Cert.Kernel.main_v2_1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2_0) = v0 c
          ∧ r.2.mem ((c.tc : Thread Cert.Kernel.nD Cert.Kernel.τ).loc Cert.Kernel.main_v2_1) = v1 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_v10) = v1 c
          ∧ r.2.mem ((c.tc : Thread Cert.Reference.nD Cert.Reference.τ).loc Cert.Reference.main_arg0) = m' ((c.tc : Thread Cert.Reference.nD Cert.Reference.τ).loc Cert.Reference.main_arg0))

def preserves_Kernel2_Kernel2Ideal : Prop :=
  True

def algebraic_Kernel2Ideal_Reference2Ideal [hKernel2Ideal : Cert.Kernel2Ideal.Facts] [hReference2Ideal : Cert.Reference2Ideal.Facts] [hPre_pages : Cert.Pre_pages.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_pages3 : Cert.Pre_pages3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v12) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v102) = v0 c
          ∧ r.2.mem ((c.tc : Thread Cert.Reference5Ideal.nD Cert.Reference5Ideal.τ).loc Cert.Reference5Ideal.main_v95) = v1 c
          ∧ r.2.mem ((c.tc : Thread Cert.Reference5Ideal.nD Cert.Reference5Ideal.τ).loc Cert.Reference5Ideal.main_v101) = v2 c
          ∧ r.2.mem ((c.tc : Thread Cert.Reference5Ideal.nD Cert.Reference5Ideal.τ).loc Cert.Reference5Ideal.main_v25) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_pages : Cert.Pre_pages.Facts) (hPre_pages3 : Cert.Pre_pages3.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Kernel2 (hKernel2 := hKernel2) (hPre_pages := hPre_pages)
    ∧ quiescent_Kernel2Ideal (hKernel2Ideal := hKernel2Ideal) (hPre_pages := hPre_pages)
    ∧ quiescent_Reference2Ideal (hReference2Ideal := hReference2Ideal) (hPre_pages := hPre_pages)
    ∧ quiescent_Kernel3 (hKernel3 := hKernel3) (hPre_pages3 := hPre_pages3)
    ∧ quiescent_Kernel3Ideal (hKernel3Ideal := hKernel3Ideal) (hPre_pages3 := hPre_pages3)
    ∧ quiescent_Reference3Ideal (hReference3Ideal := hReference3Ideal) (hPre_pages3 := hPre_pages3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal) (hPre_pages := hPre_pages)
    ∧ preserves_Kernel3_Kernel3Ideal
    ∧ algebraic_Kernel3Ideal_Reference3Ideal (hKernel3Ideal := hKernel3Ideal) (hReference3Ideal := hReference3Ideal) (hPre_pages3 := hPre_pages3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_pages.lean ====
abbrev S4x2048x2048 : Shape := ⟨3, ![4, 2048, 2048]⟩
abbrev S1x2048 : Shape := ⟨2, ![1, 2048]⟩
abbrev S13312x2048 : Shape := ⟨2, ![13312, 2048]⟩
abbrev S128x2048 : Shape := ⟨2, ![128, 2048]⟩
abbrev S32x128 : Shape := ⟨2, ![32, 128]⟩
abbrev S1x5120x128x8x128 : Shape := ⟨5, ![1, 5120, 128, 8, 128]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : FVec F S4x2048x2048 .f32) (main_arg1 : FVec F S1x2048 .f32) (main_arg2 : FVec F S13312x2048 .bf16) (main_arg3 : FVec F S128x2048 .bf16) (main_arg4 : IVec S32x128 32) (main_arg5 : FVec F S1x5120x128x8x128 .f32) : IVec S32x128 1 :=
  let main_c : IVec S_ 32 := constantI S_ 32 0#32
  let main_v0 : IVec S32x128 32 := broadcastInDim S32x128 ![] bcast_S_S32x128 main_c
  let main_v1 : IVec S32x128 1 := cmpi .sge main_arg4 main_v0
  let main_c_0 : IVec S_ 32 := constantI S_ 32 5120#32
  let main_v2 : IVec S32x128 32 := broadcastInDim S32x128 ![] bcast_S_S32x128 main_c_0
  let main_v3 : IVec S32x128 1 := cmpi .slt main_arg4 main_v2
  let main_v4 : IVec S32x128 1 := andi main_v1 main_v3
  main_v4
-- ==== Pre_pages3.lean ====
abbrev S8192x1024 : Shape := ⟨2, ![8192, 1024]⟩
abbrev S8192x13312 : Shape := ⟨2, ![8192, 13312]⟩
abbrev S4x2048x2048 : Shape := ⟨3, ![4, 2048, 2048]⟩
abbrev S1x1024x2048 : Shape := ⟨3, ![1, 1024, 2048]⟩
abbrev S1x2048x2048 : Shape := ⟨3, ![1, 2048, 2048]⟩
abbrev S32x128 : Shape := ⟨2, ![32, 128]⟩
abbrev S1x5120x128x8x128 : Shape := ⟨5, ![1, 5120, 128, 8, 128]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : FVec F S8192x1024 .bf16) (main_arg1 : FVec F S8192x1024 .bf16) (main_arg2 : FVec F S8192x13312 .bf16) (main_arg3 : FVec F S4x2048x2048 .f32) (main_arg4 : FVec F S1x1024x2048 .f32) (main_arg5 : FVec F S1x1024x2048 .f32) (main_arg6 : FVec F S1x2048x2048 .f32) (main_arg7 : IVec S32x128 32) (main_arg8 : FVec F S1x5120x128x8x128 .f32) : IVec S32x128 1 :=
  let main_c : IVec S_ 32 := constantI S_ 32 0#32
  let main_v0 : IVec S32x128 32 := broadcastInDim S32x128 ![] bcast_S_S32x128 main_c
  let main_v1 : IVec S32x128 1 := cmpi .sge main_arg7 main_v0
  let main_c_0 : IVec S_ 32 := constantI S_ 32 5120#32
  let main_v2 : IVec S32x128 32 := broadcastInDim S32x128 ![] bcast_S_S32x128 main_c_0
  let main_v3 : IVec S32x128 1 := cmpi .slt main_arg7 main_v2
  let main_v4 : IVec S32x128 1 := andi main_v1 main_v3
  main_v4
-- ==== Kernel.lean ====
abbrev S1x2048x13320 : Shape := ⟨3, ![1, 2048, 13320]⟩
abbrev S2048x13320 : Shape := ⟨2, ![2048, 13320]⟩
abbrev S13320x2048 : Shape := ⟨2, ![13320, 2048]⟩
abbrev S13312x2048 : Shape := ⟨2, ![13312, 2048]⟩
abbrev S128x2048 : Shape := ⟨2, ![128, 2048]⟩
abbrev S512x2048 : Shape := ⟨2, ![512, 2048]⟩
abbrev S8x2048 : Shape := ⟨2, ![8, 2048]⟩
abbrev S120x2048 : Shape := ⟨2, ![120, 2048]⟩

abbrev nBuf : Space → Nat
  | .hbm => 5
  | .vmem => 6
  | .smem => 0
  | _ => 0

abbrev bufTy : (tb : Table) → Fin (tcTables nBuf tb) → BufTy
  | .hbm, ⟨0, _⟩ => ⟨S1x2048x13320, .f32⟩
  | .hbm, ⟨1, _⟩ => ⟨S2048x13320, .f32⟩
  | .hbm, ⟨2, _⟩ => ⟨S13320x2048, .f32⟩
  | .hbm, ⟨3, _⟩ => ⟨S13312x2048, .bf16⟩
  | .hbm, ⟨4, _⟩ => ⟨S128x2048, .bf16⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S512x2048, .bf16⟩
  | .local _ .vmem, ⟨4, _⟩ => ⟨S512x2048, .bf16⟩
  | .local _ .vmem, ⟨5, _⟩ => ⟨S128x2048, .bf16⟩
  | _, _ => ⟨S1x2048x13320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![26], ![false]⟩

def k0_mult1 (i : grid0.Coords) : BitVec 32 :=
  let arg0 : BitVec 32 := BitVec.ofNat 32 (i 0).val
  let c8_i32 : BitVec 32 := 8#32
  let v0 : BitVec 1 := Scalar.cmpi .slt arg0 c8_i32
  let c9224_i32 : BitVec 32 := 9224#32
  let c512_i32 : BitVec 32 := 512#32
  let v1 : BitVec 32 := Scalar.muli arg0 c512_i32
  let v2 : BitVec 32 := Scalar.addi c9224_i32 v1
  let c18_i32 : BitVec 32 := 18#32
  let v3 : BitVec 1 := Scalar.cmpi .slt arg0 c18_i32
  let c8_i32_0 : BitVec 32 := 8#32
  let v4 : BitVec 32 := Scalar.subi arg0 c8_i32_0
  let c512_i32_1 : BitVec 32 := 512#32
  let v5 : BitVec 32 := Scalar.muli v4 c512_i32_1
  let c5128_i32 : BitVec 32 := 5128#32
  let c8_i32_2 : BitVec 32 := 8#32
  let v6 : BitVec 32 := Scalar.subi arg0 c8_i32_2
  let c10_i32 : BitVec 32 := 10#32
  let v7 : BitVec 32 := Scalar.subi v6 c10_i32
  let c512_i32_3 : BitVec 32 := 512#32
  let v8 : BitVec 32 := Scalar.muli v7 c512_i32_3
  let v9 : BitVec 32 := Scalar.addi c5128_i32 v8
  let v10 : BitVec 32 := Scalar.select v3 v5 v9
  let v11 : BitVec 32 := Scalar.select v0 v2 v10
  v11
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c8_i32 : BitVec 32 := 8#32
  let v0 : BitVec 1 := Scalar.cmpi .slt arg0 c8_i32
  let c512_i32 : BitVec 32 := 512#32
  let v1 : BitVec 32 := Scalar.muli arg0 c512_i32
  let c9224_i32 : BitVec 32 := 9224#32
  let v2 : BitVec 32 := Scalar.addi c9224_i32 v1
  let c18_i32 : BitVec 32 := 18#32
  let v3 : BitVec 1 := Scalar.cmpi .slt arg0 c18_i32
  let c8_i32_0 : BitVec 32 := 8#32
  let v4 : BitVec 32 := Scalar.subi arg0 c8_i32_0
  let c512_i32_1 : BitVec 32 := 512#32
  let v5 : BitVec 32 := Scalar.muli v4 c512_i32_1
  let c8_i32_2 : BitVec 32 := 8#32
  let v6 : BitVec 32 := Scalar.subi arg0 c8_i32_2
  let c10_i32 : BitVec 32 := 10#32
  let v7 : BitVec 32 := Scalar.subi v6 c10_i32
  let c512_i32_3 : BitVec 32 := 512#32
  let v8 : BitVec 32 := Scalar.muli v7 c512_i32_3
  let c5128_i32 : BitVec 32 := 5128#32
  let v9 : BitVec 32 := Scalar.addi c5128_i32 v8
  let v10 : BitVec 32 := Scalar.select v3 v5 v9
  let v11 : BitVec 32 := Scalar.select v0 v2 v10
  let v12 : BitVec 32 := v11
  let c0_i32 : BitVec 32 := 0#32
  let c0_i32_4 : BitVec 32 := 0#32
  ![v12.toNat, c0_i32.toNat]

def cc0_transform_1 (i : grid0.Coords) : Fin 2 → Nat :=
  let arg0 : BitVec 32 := BitVec.ofNat 32 (i 0).val
  let c640_i32 : BitVec 32 := 640#32
  let c0_i32 : BitVec 32 := 0#32
  let c0_i32_0 : BitVec 32 := 0#32
  ![c640_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference.lean ====
abbrev S1x2048x13320 : Shape := ⟨3, ![1, 2048, 13320]⟩
abbrev S2048x13320 : Shape := ⟨2, ![2048, 13320]⟩
abbrev S13320x2048 : Shape := ⟨2, ![13320, 2048]⟩
abbrev S4096x2048 : Shape := ⟨2, ![4096, 2048]⟩
abbrev S5120x2048 : Shape := ⟨2, ![5120, 2048]⟩
abbrev S13312x2048 : Shape := ⟨2, ![13312, 2048]⟩
abbrev S8x2048 : Shape := ⟨2, ![8, 2048]⟩
abbrev S_ : Shape := ⟨0, ![]⟩
abbrev S120x2048 : Shape := ⟨2, ![120, 2048]⟩
abbrev S128x2048 : Shape := ⟨2, ![128, 2048]⟩

abbrev nBuf : Space → Nat
  | .hbm => 13
  | .vmem => 0
  | .smem => 0
  | _ => 0

abbrev bufTy : (tb : Table) → Fin (tcTables nBuf tb) → BufTy
  | .hbm, ⟨0, _⟩ => ⟨S1x2048x13320, .f32⟩
  | .hbm, ⟨1, _⟩ => ⟨S2048x13320, .f32⟩
  | .hbm, ⟨2, _⟩ => ⟨S13320x2048, .f32⟩
  | .hbm, ⟨3, _⟩ => ⟨S4096x2048, .f32⟩
  | .hbm, ⟨4, _⟩ => ⟨S5120x2048, .f32⟩
  | .hbm, ⟨5, _⟩ => ⟨S4096x2048, .f32⟩
  | .hbm, ⟨6, _⟩ => ⟨S13312x2048, .f32⟩
  | .hbm, ⟨7, _⟩ => ⟨S8x2048, .f32⟩
  | .hbm, ⟨8, _⟩ => ⟨S_, .f32⟩
  | .hbm, ⟨9, _⟩ => ⟨S120x2048, .f32⟩
  | .hbm, ⟨10, _⟩ => ⟨S128x2048, .f32⟩
  | .hbm, ⟨11, _⟩ => ⟨S13312x2048, .bf16⟩
  | .hbm, ⟨12, _⟩ => ⟨S128x2048, .bf16⟩
  | _, _ => ⟨S1x2048x13320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel2.lean ====
abbrev S4x2048x2048 : Shape := ⟨3, ![4, 2048, 2048]⟩
abbrev S1x2048 : Shape := ⟨2, ![1, 2048]⟩
abbrev S13312x2048 : Shape := ⟨2, ![13312, 2048]⟩
abbrev S128x2048 : Shape := ⟨2, ![128, 2048]⟩
abbrev S32x128 : Shape := ⟨2, ![32, 128]⟩
abbrev S1x5120x128x8x128 : Shape := ⟨5, ![1, 5120, 128, 8, 128]⟩
abbrev S4096 : Shape := ⟨1, ![4096]⟩
abbrev S1792 : Shape := ⟨1, ![1792]⟩
abbrev S8192x2048 : Shape := ⟨2, ![8192, 2048]⟩
abbrev S2048 : Shape := ⟨1, ![2048]⟩
abbrev S5120x128x8x128 : Shape := ⟨4, ![5120, 128, 8, 128]⟩
abbrev S_ : Shape := ⟨0, ![]⟩
abbrev S1872 : Shape := ⟨1, ![1872]⟩
abbrev S8192x13312 : Shape := ⟨2, ![8192, 13312]⟩
abbrev S8192x128 : Shape := ⟨2, ![8192, 128]⟩
abbrev S1872x8x128 : Shape := ⟨3, ![1872, 8, 128]⟩
abbrev S1024x2048 : Shape := ⟨2, ![1024, 2048]⟩
abbrev S512x2048 : Shape := ⟨2, ![512, 2048]⟩
abbrev S1024x512 : Shape := ⟨2, ![1024, 512]⟩
abbrev S1024x128 : Shape := ⟨2, ![1024, 128]⟩
abbrev S9x8x128 : Shape := ⟨3, ![9, 8, 128]⟩
abbrev S2x9x128x8x128 : Shape := ⟨5, ![2, 9, 128, 8, 128]⟩
abbrev S2 : Shape := ⟨1, ![2]⟩
abbrev S1 : Shape := ⟨1, ![1]⟩
abbrev S1x1x128x8x128 : Shape := ⟨5, ![1, 1, 128, 8, 128]⟩
abbrev S128x8x128 : Shape := ⟨3, ![128, 8, 128]⟩
abbrev S1x128x8x128 : Shape := ⟨4, ![1, 128, 8, 128]⟩
abbrev S128 : Shape := ⟨1, ![128]⟩
abbrev S128x1 : Shape := ⟨2, ![128, 1]⟩
abbrev S16x8x128 : Shape := ⟨3, ![16, 8, 128]⟩
abbrev S8x8x128 : Shape := ⟨3, ![8, 8, 128]⟩
abbrev S4x8x128 : Shape := ⟨3, ![4, 8, 128]⟩
abbrev S2x8x128 : Shape := ⟨3, ![2, 8, 128]⟩
abbrev S1x8x128 : Shape := ⟨3, ![1, 8, 128]⟩
abbrev S8x128 : Shape := ⟨2, ![8, 128]⟩

abbrev nBuf : Space → Nat
  | .hbm => 17
  | .vmem => 14
  | .smem => 1
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S13312x2048, .bf16⟩
  | .hbm, ⟨3, _⟩ => ⟨S128x2048, .bf16⟩
  | .hbm, ⟨4, _⟩ => ⟨S32x128, .i32⟩
  | .hbm, ⟨5, _⟩ => ⟨S1x5120x128x8x128, .f32⟩
  | .hbm, ⟨6, _⟩ => ⟨S4096, .i32⟩
  | .hbm, ⟨7, _⟩ => ⟨S1792, .i32⟩
  | .hbm, ⟨8, _⟩ => ⟨S8192x2048, .f32⟩
  | .hbm, ⟨9, _⟩ => ⟨S2048, .f32⟩
  | .hbm, ⟨10, _⟩ => ⟨S5120x128x8x128, .f32⟩
  | .hbm, ⟨11, _⟩ => ⟨S1x2048, .f32⟩
  | .hbm, ⟨12, _⟩ => ⟨S_, .i32⟩
  | .hbm, ⟨13, _⟩ => ⟨S_, .i32⟩
  | .hbm, ⟨14, _⟩ => ⟨S8192x13312, .bf16⟩
  | .hbm, ⟨15, _⟩ => ⟨S8192x128, .f32⟩
  | .hbm, ⟨16, _⟩ => ⟨S1872x8x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S128x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .f32⟩
  | .local _ .vmem, ⟨9, _⟩ => ⟨S1024x128, .f32⟩
  | .local _ .vmem, ⟨10, _⟩ => ⟨S9x8x128, .f32⟩
  | .local _ .vmem, ⟨11, _⟩ => ⟨S9x8x128, .f32⟩
  | .local _ .vmem, ⟨12, _⟩ => ⟨S1024x2048, .bf16⟩
  | .local _ .vmem, ⟨13, _⟩ => ⟨S2x9x128x8x128, .f32⟩
  | .local _ .smem, ⟨0, _⟩ => ⟨S1872, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 26], ![false, false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_off1 (v544 : BitVec 32) : Fin 4 → Nat :=
  let c0_i32_619 : BitVec 32 := 0#32
  let c0_i32_620 : BitVec 32 := 0#32
  let c0_i32_621 : BitVec 32 := 0#32
  ![v544.toNat, 0, 0, 0]

def k0_chk1 (i : grid0.Coords) (v544 : BitVec 32) : Prop :=
  (∀ (k0_h1 : k0_cond1 i = 1#1), ∀ a, (k0_off1 v544) a + S1x128x8x128.size a ≤ S5120x128x8x128.size a)
theorem k0_off1_inb : ∀ (i : grid0.Coords) (v544 : BitVec 32) (k0_hw1 : k0_chk1 i v544), ∀ (k0_h1 : k0_cond1 i = 1#1), ∀ a, (k0_off1 v544) a + S1x128x8x128.size a ≤ S5120x128x8x128.size a := fun i v544 k0_hw1 k0_h1 => k0_hw1 k0_h1

def k0_off2 (v551 : BitVec 32) : Fin 4 → Nat :=
  let c0_i32_629 : BitVec 32 := 0#32
  let c0_i32_630 : BitVec 32 := 0#32
  let c0_i32_631 : BitVec 32 := 0#32
  ![v551.toNat, 0, 0, 0]

def k0_chk2 (i : grid0.Coords) (v551 : BitVec 32) : Prop :=
  (∀ (k0_h1 : k0_cond1 i = 1#1), ∀ a, (k0_off2 v551) a + S1x128x8x128.size a ≤ S5120x128x8x128.size a)
theorem k0_off2_inb : ∀ (i : grid0.Coords) (v551 : BitVec 32) (k0_hw2 : k0_chk2 i v551), ∀ (k0_h1 : k0_cond1 i = 1#1), ∀ a, (k0_off2 v551) a + S1x128x8x128.size a ≤ S5120x128x8x128.size a := fun i v551 k0_hw2 k0_h1 => k0_hw2 k0_h1

def k0_off3 (v558 : BitVec 32) : Fin 4 → Nat :=
  let c0_i32_639 : BitVec 32 := 0#32
  let c0_i32_640 : BitVec 32 := 0#32
  let c0_i32_641 : BitVec 32 := 0#32
  ![v558.toNat, 0, 0, 0]

def k0_chk3 (i : grid0.Coords) (v558 : BitVec 32) : Prop :=
  (∀ (k0_h1 : k0_cond1 i = 1#1), ∀ a, (k0_off3 v558) a + S1x128x8x128.size a ≤ S5120x128x8x128.size a)
theorem k0_off3_inb : ∀ (i : grid0.Coords) (v558 : BitVec 32) (k0_hw3 : k0_chk3 i v558), ∀ (k0_h1 : k0_cond1 i = 1#1), ∀ a, (k0_off3 v558) a + S1x128x8x128.size a ≤ S5120x128x8x128.size a := fun i v558 k0_hw3 k0_h1 => k0_hw3 k0_h1

def k0_off4 (v565 : BitVec 32) : Fin 4 → Nat :=
  let c0_i32_649 : BitVec 32 := 0#32
  let c0_i32_650 : BitVec 32 := 0#32
  let c0_i32_651 : BitVec 32 := 0#32
  ![v565.toNat, 0, 0, 0]

def k0_chk4 (i : grid0.Coords) (v565 : BitVec 32) : Prop :=
  (∀ (k0_h1 : k0_cond1 i = 1#1), ∀ a, (k0_off4 v565) a + S1x128x8x128.size a ≤ S5120x128x8x128.size a)
theorem k0_off4_inb : ∀ (i : grid0.Coords) (v565 : BitVec 32) (k0_hw4 : k0_chk4 i v565), ∀ (k0_h1 : k0_cond1 i = 1#1), ∀ a, (k0_off4 v565) a + S1x128x8x128.size a ≤ S5120x128x8x128.size a := fun i v565 k0_hw4 k0_h1 => k0_hw4 k0_h1

def k0_off5 (v572 : BitVec 32) : Fin 4 → Nat :=
  let c0_i32_659 : BitVec 32 := 0#32
  let c0_i32_660 : BitVec 32 := 0#32
  let c0_i32_661 : BitVec 32 := 0#32
  ![v572.toNat, 0, 0, 0]

def k0_chk5 (i : grid0.Coords) (v572 : BitVec 32) : Prop :=
  (∀ (k0_h1 : k0_cond1 i = 1#1), ∀ a, (k0_off5 v572) a + S1x128x8x128.size a ≤ S5120x128x8x128.size a)
theorem k0_off5_inb : ∀ (i : grid0.Coords) (v572 : BitVec 32) (k0_hw5 : k0_chk5 i v572), ∀ (k0_h1 : k0_cond1 i = 1#1), ∀ a, (k0_off5 v572) a + S1x128x8x128.size a ≤ S5120x128x8x128.size a := fun i v572 k0_hw5 k0_h1 => k0_hw5 k0_h1

def k0_off6 (v579 : BitVec 32) : Fin 4 → Nat :=
  let c0_i32_669 : BitVec 32 := 0#32
  let c0_i32_670 : BitVec 32 := 0#32
  let c0_i32_671 : BitVec 32 := 0#32
  ![v579.toNat, 0, 0, 0]

def k0_chk6 (i : grid0.Coords) (v579 : BitVec 32) : Prop :=
  (∀ (k0_h1 : k0_cond1 i = 1#1), ∀ a, (k0_off6 v579) a + S1x128x8x128.size a ≤ S5120x128x8x128.size a)
theorem k0_off6_inb : ∀ (i : grid0.Coords) (v579 : BitVec 32) (k0_hw6 : k0_chk6 i v579), ∀ (k0_h1 : k0_cond1 i = 1#1), ∀ a, (k0_off6 v579) a + S1x128x8x128.size a ≤ S5120x128x8x128.size a := fun i v579 k0_hw6 k0_h1 => k0_hw6 k0_h1

def k0_off7 (v586 : BitVec 32) : Fin 4 → Nat :=
  let c0_i32_679 : BitVec 32 := 0#32
  let c0_i32_680 : BitVec 32 := 0#32
  let c0_i32_681 : BitVec 32 := 0#32
  ![v586.toNat, 0, 0, 0]

def k0_chk7 (i : grid0.Coords) (v586 : BitVec 32) : Prop :=
  (∀ (k0_h1 : k0_cond1 i = 1#1), ∀ a, (k0_off7 v586) a + S1x128x8x128.size a ≤ S5120x128x8x128.size a)
theorem k0_off7_inb : ∀ (i : grid0.Coords) (v586 : BitVec 32) (k0_hw7 : k0_chk7 i v586), ∀ (k0_h1 : k0_cond1 i = 1#1), ∀ a, (k0_off7 v586) a + S1x128x8x128.size a ≤ S5120x128x8x128.size a := fun i v586 k0_hw7 k0_h1 => k0_hw7 k0_h1

def k0_off8 (v593 : BitVec 32) : Fin 4 → Nat :=
  let c0_i32_689 : BitVec 32 := 0#32
  let c0_i32_690 : BitVec 32 := 0#32
  let c0_i32_691 : BitVec 32 := 0#32
  ![v593.toNat, 0, 0, 0]

def k0_chk8 (i : grid0.Coords) (v593 : BitVec 32) : Prop :=
  (∀ (k0_h1 : k0_cond1 i = 1#1), ∀ a, (k0_off8 v593) a + S1x128x8x128.size a ≤ S5120x128x8x128.size a)
theorem k0_off8_inb : ∀ (i : grid0.Coords) (v593 : BitVec 32) (k0_hw8 : k0_chk8 i v593), ∀ (k0_h1 : k0_cond1 i = 1#1), ∀ a, (k0_off8 v593) a + S1x128x8x128.size a ≤ S5120x128x8x128.size a := fun i v593 k0_hw8 k0_h1 => k0_hw8 k0_h1

def k0_off9 (v600 : BitVec 32) : Fin 4 → Nat :=
  let c0_i32_699 : BitVec 32 := 0#32
  let c0_i32_700 : BitVec 32 := 0#32
  let c0_i32_701 : BitVec 32 := 0#32
  ![v600.toNat, 0, 0, 0]

def k0_chk9 (i : grid0.Coords) (v600 : BitVec 32) : Prop :=
  (∀ (k0_h1 : k0_cond1 i = 1#1), ∀ a, (k0_off9 v600) a + S1x128x8x128.size a ≤ S5120x128x8x128.size a)
theorem k0_off9_inb : ∀ (i : grid0.Coords) (v600 : BitVec 32) (k0_hw9 : k0_chk9 i v600), ∀ (k0_h1 : k0_cond1 i = 1#1), ∀ a, (k0_off9 v600) a + S1x128x8x128.size a ≤ S5120x128x8x128.size a := fun i v600 k0_hw9 k0_h1 => k0_hw9 k0_h1

def k0_cond2 (i : grid0.Coords) : BitVec 1 :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_2 : BitVec 32 := 1#32
  let v7 : BitVec 32 := Scalar.addi v1 c1_i32_2
  let c208_i32 : BitVec 32 := 208#32
  let v8 : BitVec 1 := Scalar.cmpi .slt v7 c208_i32
  let v9 : BitVec 32 := Scalar.extui v8
  let c0_i32_3 : BitVec 32 := 0#32
  let v10 : BitVec 1 := Scalar.cmpi .ne v9 c0_i32_3
  v10

def k0_off10 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_612 : BitVec 32 := 1#32
  let v544 : BitVec 32 := Scalar.addi v1 c1_i32_612
  let c9_i32_615 : BitVec 32 := 9#32
  let v547 : BitVec 32 := Scalar.muli v544 c9_i32_615
  let c0_i32_616 : BitVec 32 := 0#32
  let v548 : BitVec 32 := Scalar.addi v547 c0_i32_616
  let c0_i32_617 : BitVec 32 := 0#32
  let v549 : BitVec 32 := Scalar.addi v548 c0_i32_617
  let v550 : Index := Scalar.indexCast v549
  ![v550.toNat]
def k0_off11 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  ![v546.toNat]
def k0_off12 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  let c0_i32_618 : BitVec 32 := 0#32
  let c0_i32_619 : BitVec 32 := 0#32
  let c0_i32_620 : BitVec 32 := 0#32
  let c0_i32_621 : BitVec 32 := 0#32
  ![v546.toNat, 0, 0, 0, 0]
def k0_off13 (v551 : BitVec 32) : Fin 4 → Nat :=
  let c0_i32_622 : BitVec 32 := 0#32
  let c0_i32_623 : BitVec 32 := 0#32
  let c0_i32_624 : BitVec 32 := 0#32
  ![v551.toNat, 0, 0, 0]

def k0_chk10 (i : grid0.Coords) (v551 : BitVec 32) : Prop :=
  (∀ (k0_h2 : k0_cond2 i = 1#1), ∀ a, (k0_off13 v551) a + S1x128x8x128.size a ≤ S5120x128x8x128.size a)
theorem k0_off13_inb : ∀ (i : grid0.Coords) (v551 : BitVec 32) (k0_hw10 : k0_chk10 i v551), ∀ (k0_h2 : k0_cond2 i = 1#1), ∀ a, (k0_off13 v551) a + S1x128x8x128.size a ≤ S5120x128x8x128.size a := fun i v551 k0_hw10 k0_h2 => k0_hw10 k0_h2

def k0_off14 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_612 : BitVec 32 := 1#32
  let v544 : BitVec 32 := Scalar.addi v1 c1_i32_612
  let c9_i32_625 : BitVec 32 := 9#32
  let v558 : BitVec 32 := Scalar.muli v544 c9_i32_625
  let c0_i32_626 : BitVec 32 := 0#32
  let v559 : BitVec 32 := Scalar.addi v558 c0_i32_626
  let c1_i32_627 : BitVec 32 := 1#32
  let v560 : BitVec 32 := Scalar.addi v559 c1_i32_627
  let v561 : Index := Scalar.indexCast v560
  ![v561.toNat]
def k0_off15 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  ![v546.toNat]
def k0_off16 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  let c1_i32_628 : BitVec 32 := 1#32
  let c0_i32_629 : BitVec 32 := 0#32
  let c0_i32_630 : BitVec 32 := 0#32
  let c0_i32_631 : BitVec 32 := 0#32
  ![v546.toNat, 1, 0, 0, 0]
def k0_off17 (v562 : BitVec 32) : Fin 4 → Nat :=
  let c0_i32_632 : BitVec 32 := 0#32
  let c0_i32_633 : BitVec 32 := 0#32
  let c0_i32_634 : BitVec 32 := 0#32
  ![v562.toNat, 0, 0, 0]

def k0_chk11 (i : grid0.Coords) (v562 : BitVec 32) : Prop :=
  (∀ (k0_h2 : k0_cond2 i = 1#1), ∀ a, (k0_off17 v562) a + S1x128x8x128.size a ≤ S5120x128x8x128.size a)
theorem k0_off17_inb : ∀ (i : grid0.Coords) (v562 : BitVec 32) (k0_hw11 : k0_chk11 i v562), ∀ (k0_h2 : k0_cond2 i = 1#1), ∀ a, (k0_off17 v562) a + S1x128x8x128.size a ≤ S5120x128x8x128.size a := fun i v562 k0_hw11 k0_h2 => k0_hw11 k0_h2

def k0_off18 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_612 : BitVec 32 := 1#32
  let v544 : BitVec 32 := Scalar.addi v1 c1_i32_612
  let c9_i32_635 : BitVec 32 := 9#32
  let v569 : BitVec 32 := Scalar.muli v544 c9_i32_635
  let c0_i32_636 : BitVec 32 := 0#32
  let v570 : BitVec 32 := Scalar.addi v569 c0_i32_636
  let c2_i32_637 : BitVec 32 := 2#32
  let v571 : BitVec 32 := Scalar.addi v570 c2_i32_637
  let v572 : Index := Scalar.indexCast v571
  ![v572.toNat]
def k0_off19 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  ![v546.toNat]
def k0_off20 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  let c2_i32_638 : BitVec 32 := 2#32
  let c0_i32_639 : BitVec 32 := 0#32
  let c0_i32_640 : BitVec 32 := 0#32
  let c0_i32_641 : BitVec 32 := 0#32
  ![v546.toNat, 2, 0, 0, 0]
def k0_off21 (v573 : BitVec 32) : Fin 4 → Nat :=
  let c0_i32_642 : BitVec 32 := 0#32
  let c0_i32_643 : BitVec 32 := 0#32
  let c0_i32_644 : BitVec 32 := 0#32
  ![v573.toNat, 0, 0, 0]

def k0_chk12 (i : grid0.Coords) (v573 : BitVec 32) : Prop :=
  (∀ (k0_h2 : k0_cond2 i = 1#1), ∀ a, (k0_off21 v573) a + S1x128x8x128.size a ≤ S5120x128x8x128.size a)
theorem k0_off21_inb : ∀ (i : grid0.Coords) (v573 : BitVec 32) (k0_hw12 : k0_chk12 i v573), ∀ (k0_h2 : k0_cond2 i = 1#1), ∀ a, (k0_off21 v573) a + S1x128x8x128.size a ≤ S5120x128x8x128.size a := fun i v573 k0_hw12 k0_h2 => k0_hw12 k0_h2

def k0_off22 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_612 : BitVec 32 := 1#32
  let v544 : BitVec 32 := Scalar.addi v1 c1_i32_612
  let c9_i32_645 : BitVec 32 := 9#32
  let v580 : BitVec 32 := Scalar.muli v544 c9_i32_645
  let c0_i32_646 : BitVec 32 := 0#32
  let v581 : BitVec 32 := Scalar.addi v580 c0_i32_646
  let c3_i32_647 : BitVec 32 := 3#32
  let v582 : BitVec 32 := Scalar.addi v581 c3_i32_647
  let v583 : Index := Scalar.indexCast v582
  ![v583.toNat]
def k0_off23 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  ![v546.toNat]
def k0_off24 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  let c3_i32_648 : BitVec 32 := 3#32
  let c0_i32_649 : BitVec 32 := 0#32
  let c0_i32_650 : BitVec 32 := 0#32
  let c0_i32_651 : BitVec 32 := 0#32
  ![v546.toNat, 3, 0, 0, 0]
def k0_off25 (v584 : BitVec 32) : Fin 4 → Nat :=
  let c0_i32_652 : BitVec 32 := 0#32
  let c0_i32_653 : BitVec 32 := 0#32
  let c0_i32_654 : BitVec 32 := 0#32
  ![v584.toNat, 0, 0, 0]

def k0_chk13 (i : grid0.Coords) (v584 : BitVec 32) : Prop :=
  (∀ (k0_h2 : k0_cond2 i = 1#1), ∀ a, (k0_off25 v584) a + S1x128x8x128.size a ≤ S5120x128x8x128.size a)
theorem k0_off25_inb : ∀ (i : grid0.Coords) (v584 : BitVec 32) (k0_hw13 : k0_chk13 i v584), ∀ (k0_h2 : k0_cond2 i = 1#1), ∀ a, (k0_off25 v584) a + S1x128x8x128.size a ≤ S5120x128x8x128.size a := fun i v584 k0_hw13 k0_h2 => k0_hw13 k0_h2

def k0_off26 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_612 : BitVec 32 := 1#32
  let v544 : BitVec 32 := Scalar.addi v1 c1_i32_612
  let c9_i32_655 : BitVec 32 := 9#32
  let v591 : BitVec 32 := Scalar.muli v544 c9_i32_655
  let c0_i32_656 : BitVec 32 := 0#32
  let v592 : BitVec 32 := Scalar.addi v591 c0_i32_656
  let c4_i32_657 : BitVec 32 := 4#32
  let v593 : BitVec 32 := Scalar.addi v592 c4_i32_657
  let v594 : Index := Scalar.indexCast v593
  ![v594.toNat]
def k0_off27 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  ![v546.toNat]
def k0_off28 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  let c4_i32_658 : BitVec 32 := 4#32
  let c0_i32_659 : BitVec 32 := 0#32
  let c0_i32_660 : BitVec 32 := 0#32
  let c0_i32_661 : BitVec 32 := 0#32
  ![v546.toNat, 4, 0, 0, 0]
def k0_off29 (v595 : BitVec 32) : Fin 4 → Nat :=
  let c0_i32_662 : BitVec 32 := 0#32
  let c0_i32_663 : BitVec 32 := 0#32
  let c0_i32_664 : BitVec 32 := 0#32
  ![v595.toNat, 0, 0, 0]

def k0_chk14 (i : grid0.Coords) (v595 : BitVec 32) : Prop :=
  (∀ (k0_h2 : k0_cond2 i = 1#1), ∀ a, (k0_off29 v595) a + S1x128x8x128.size a ≤ S5120x128x8x128.size a)
theorem k0_off29_inb : ∀ (i : grid0.Coords) (v595 : BitVec 32) (k0_hw14 : k0_chk14 i v595), ∀ (k0_h2 : k0_cond2 i = 1#1), ∀ a, (k0_off29 v595) a + S1x128x8x128.size a ≤ S5120x128x8x128.size a := fun i v595 k0_hw14 k0_h2 => k0_hw14 k0_h2

def k0_off30 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_612 : BitVec 32 := 1#32
  let v544 : BitVec 32 := Scalar.addi v1 c1_i32_612
  let c9_i32_665 : BitVec 32 := 9#32
  let v602 : BitVec 32 := Scalar.muli v544 c9_i32_665
  let c0_i32_666 : BitVec 32 := 0#32
  let v603 : BitVec 32 := Scalar.addi v602 c0_i32_666
  let c5_i32_667 : BitVec 32 := 5#32
  let v604 : BitVec 32 := Scalar.addi v603 c5_i32_667
  let v605 : Index := Scalar.indexCast v604
  ![v605.toNat]
def k0_off31 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  ![v546.toNat]
def k0_off32 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  let c5_i32_668 : BitVec 32 := 5#32
  let c0_i32_669 : BitVec 32 := 0#32
  let c0_i32_670 : BitVec 32 := 0#32
  let c0_i32_671 : BitVec 32 := 0#32
  ![v546.toNat, 5, 0, 0, 0]
def k0_off33 (v606 : BitVec 32) : Fin 4 → Nat :=
  let c0_i32_672 : BitVec 32 := 0#32
  let c0_i32_673 : BitVec 32 := 0#32
  let c0_i32_674 : BitVec 32 := 0#32
  ![v606.toNat, 0, 0, 0]

def k0_chk15 (i : grid0.Coords) (v606 : BitVec 32) : Prop :=
  (∀ (k0_h2 : k0_cond2 i = 1#1), ∀ a, (k0_off33 v606) a + S1x128x8x128.size a ≤ S5120x128x8x128.size a)
theorem k0_off33_inb : ∀ (i : grid0.Coords) (v606 : BitVec 32) (k0_hw15 : k0_chk15 i v606), ∀ (k0_h2 : k0_cond2 i = 1#1), ∀ a, (k0_off33 v606) a + S1x128x8x128.size a ≤ S5120x128x8x128.size a := fun i v606 k0_hw15 k0_h2 => k0_hw15 k0_h2

def k0_off34 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_612 : BitVec 32 := 1#32
  let v544 : BitVec 32 := Scalar.addi v1 c1_i32_612
  let c9_i32_675 : BitVec 32 := 9#32
  let v613 : BitVec 32 := Scalar.muli v544 c9_i32_675
  let c0_i32_676 : BitVec 32 := 0#32
  let v614 : BitVec 32 := Scalar.addi v613 c0_i32_676
  let c6_i32_677 : BitVec 32 := 6#32
  let v615 : BitVec 32 := Scalar.addi v614 c6_i32_677
  let v616 : Index := Scalar.indexCast v615
  ![v616.toNat]
def k0_off35 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  ![v546.toNat]
def k0_off36 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  let c6_i32_678 : BitVec 32 := 6#32
  let c0_i32_679 : BitVec 32 := 0#32
  let c0_i32_680 : BitVec 32 := 0#32
  let c0_i32_681 : BitVec 32 := 0#32
  ![v546.toNat, 6, 0, 0, 0]
def k0_off37 (v617 : BitVec 32) : Fin 4 → Nat :=
  let c0_i32_682 : BitVec 32 := 0#32
  let c0_i32_683 : BitVec 32 := 0#32
  let c0_i32_684 : BitVec 32 := 0#32
  ![v617.toNat, 0, 0, 0]

def k0_chk16 (i : grid0.Coords) (v617 : BitVec 32) : Prop :=
  (∀ (k0_h2 : k0_cond2 i = 1#1), ∀ a, (k0_off37 v617) a + S1x128x8x128.size a ≤ S5120x128x8x128.size a)
theorem k0_off37_inb : ∀ (i : grid0.Coords) (v617 : BitVec 32) (k0_hw16 : k0_chk16 i v617), ∀ (k0_h2 : k0_cond2 i = 1#1), ∀ a, (k0_off37 v617) a + S1x128x8x128.size a ≤ S5120x128x8x128.size a := fun i v617 k0_hw16 k0_h2 => k0_hw16 k0_h2

def k0_off38 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_612 : BitVec 32 := 1#32
  let v544 : BitVec 32 := Scalar.addi v1 c1_i32_612
  let c9_i32_685 : BitVec 32 := 9#32
  let v624 : BitVec 32 := Scalar.muli v544 c9_i32_685
  let c0_i32_686 : BitVec 32 := 0#32
  let v625 : BitVec 32 := Scalar.addi v624 c0_i32_686
  let c7_i32_687 : BitVec 32 := 7#32
  let v626 : BitVec 32 := Scalar.addi v625 c7_i32_687
  let v627 : Index := Scalar.indexCast v626
  ![v627.toNat]
def k0_off39 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  ![v546.toNat]
def k0_off40 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  let c7_i32_688 : BitVec 32 := 7#32
  let c0_i32_689 : BitVec 32 := 0#32
  let c0_i32_690 : BitVec 32 := 0#32
  let c0_i32_691 : BitVec 32 := 0#32
  ![v546.toNat, 7, 0, 0, 0]
def k0_off41 (v628 : BitVec 32) : Fin 4 → Nat :=
  let c0_i32_692 : BitVec 32 := 0#32
  let c0_i32_693 : BitVec 32 := 0#32
  let c0_i32_694 : BitVec 32 := 0#32
  ![v628.toNat, 0, 0, 0]

def k0_chk17 (i : grid0.Coords) (v628 : BitVec 32) : Prop :=
  (∀ (k0_h2 : k0_cond2 i = 1#1), ∀ a, (k0_off41 v628) a + S1x128x8x128.size a ≤ S5120x128x8x128.size a)
theorem k0_off41_inb : ∀ (i : grid0.Coords) (v628 : BitVec 32) (k0_hw17 : k0_chk17 i v628), ∀ (k0_h2 : k0_cond2 i = 1#1), ∀ a, (k0_off41 v628) a + S1x128x8x128.size a ≤ S5120x128x8x128.size a := fun i v628 k0_hw17 k0_h2 => k0_hw17 k0_h2

def k0_off42 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_612 : BitVec 32 := 1#32
  let v544 : BitVec 32 := Scalar.addi v1 c1_i32_612
  let c9_i32_695 : BitVec 32 := 9#32
  let v635 : BitVec 32 := Scalar.muli v544 c9_i32_695
  let c0_i32_696 : BitVec 32 := 0#32
  let v636 : BitVec 32 := Scalar.addi v635 c0_i32_696
  let c8_i32_697 : BitVec 32 := 8#32
  let v637 : BitVec 32 := Scalar.addi v636 c8_i32_697
  let v638 : Index := Scalar.indexCast v637
  ![v638.toNat]
def k0_off43 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  ![v546.toNat]
def k0_off44 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32 : BitVec 32 := 1#32
  let v5 : BitVec 32 := Scalar.muli v1 c1_i32
  let c0_i32_1 : BitVec 32 := 0#32
  let v6 : BitVec 32 := Scalar.addi v5 c0_i32_1
  let c1_i32_613 : BitVec 32 := 1#32
  let v545 : BitVec 32 := Scalar.addi v6 c1_i32_613
  let c2_i32_614 : BitVec 32 := 2#32
  let v546 : BitVec 32 := Scalar.remsi v545 c2_i32_614
  let c8_i32_698 : BitVec 32 := 8#32
  let c0_i32_699 : BitVec 32 := 0#32
  let c0_i32_700 : BitVec 32 := 0#32
  let c0_i32_701 : BitVec 32 := 0#32
  ![v546.toNat, 8, 0, 0, 0]
def k0_off45 (v639 : BitVec 32) : Fin 4 → Nat :=
  let c0_i32_702 : BitVec 32 := 0#32
  let c0_i32_703 : BitVec 32 := 0#32
  let c0_i32_704 : BitVec 32 := 0#32
  ![v639.toNat, 0, 0, 0]

def k0_chk18 (i : grid0.Coords) (v639 : BitVec 32) : Prop :=
  (∀ (k0_h2 : k0_cond2 i = 1#1), ∀ a, (k0_off45 v639) a + S1x128x8x128.size a ≤ S5120x128x8x128.size a)
theorem k0_off45_inb : ∀ (i : grid0.Coords) (v639 : BitVec 32) (k0_hw18 : k0_chk18 i v639), ∀ (k0_h2 : k0_cond2 i = 1#1), ∀ a, (k0_off45 v639) a + S1x128x8x128.size a ≤ S5120x128x8x128.size a := fun i v639 k0_hw18 k0_h2 => k0_hw18 k0_h2

def k0_cond3 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_612 : BitVec 32 := 0#32
  let c8_i32_613 : BitVec 32 := 8#32
  let v544 : BitVec 32 := Scalar.addi c0_i32_612 c8_i32_613
  let c1_i32_614 : BitVec 32 := 1#32
  ⟨c0_i32_612, v544, c1_i32_614⟩
def k0_mult1 (k0_t1 : Fin k0_t1_loop.trips) : BitVec 32 :=
  let c0_i32_612 : BitVec 32 := 0#32
  let c1_i32_614 : BitVec 32 := 1#32
  let arg14 : BitVec 32 := Scf.iv c0_i32_612 c1_i32_614 k0_t1
  let c128_i32 : BitVec 32 := 128#32
  let v549 : BitVec 32 := Scalar.muli arg14 c128_i32
  v549
def k0_off46 (k0_t1 : Fin k0_t1_loop.trips) : Fin 2 → Nat :=
  let c0_i32_612 : BitVec 32 := 0#32
  let c1_i32_614 : BitVec 32 := 1#32
  let arg14 : BitVec 32 := Scf.iv c0_i32_612 c1_i32_614 k0_t1
  let c128_i32 : BitVec 32 := 128#32
  let v549 : BitVec 32 := Scalar.muli arg14 c128_i32
  let v550 : BitVec 32 := v549
  let v551 : Index := Scalar.indexCast v550
  let c0_623 : Index := 0#32
  ![v551.toNat, 0]
def k0_off47 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c9_i32 : BitVec 32 := 9#32
  let v22 : BitVec 32 := Scalar.muli v1 c9_i32
  let c0_i32_13 : BitVec 32 := 0#32
  let v23 : BitVec 32 := Scalar.addi v22 c0_i32_13
  let c0_i32_14 : BitVec 32 := 0#32
  let v24 : BitVec 32 := Scalar.addi v23 c0_i32_14
  let v25 : Index := Scalar.indexCast v24
  ![v25.toNat]
def k0_off48 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  ![v21.toNat]
def k0_off49 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c0_i32_15 : BitVec 32 := 0#32
  let c0_i32_16 : BitVec 32 := 0#32
  let c0_i32_17 : BitVec 32 := 0#32
  let c0_i32_18 : BitVec 32 := 0#32
  ![v21.toNat, 0, 0, 0, 0]
def k0_off50 (v26 : BitVec 32) : Fin 4 → Nat :=
  let c0_i32_19 : BitVec 32 := 0#32
  let c0_i32_20 : BitVec 32 := 0#32
  let c0_i32_21 : BitVec 32 := 0#32
  ![v26.toNat, 0, 0, 0]

def k0_chk19 (v26 : BitVec 32) : Prop :=
  (∀ a, (k0_off50 v26) a + S1x128x8x128.size a ≤ S5120x128x8x128.size a)
theorem k0_off50_inb : ∀ (v26 : BitVec 32) (k0_hw19 : k0_chk19 v26), ∀ a, (k0_off50 v26) a + S1x128x8x128.size a ≤ S5120x128x8x128.size a := fun v26 k0_hw19 => k0_hw19

def k0_off51 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c9_i32_22 : BitVec 32 := 9#32
  let v33 : BitVec 32 := Scalar.muli v1 c9_i32_22
  let c0_i32_23 : BitVec 32 := 0#32
  let v34 : BitVec 32 := Scalar.addi v33 c0_i32_23
  let c1_i32_24 : BitVec 32 := 1#32
  let v35 : BitVec 32 := Scalar.addi v34 c1_i32_24
  let v36 : Index := Scalar.indexCast v35
  ![v36.toNat]
def k0_off52 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  ![v21.toNat]
def k0_off53 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c1_i32_25 : BitVec 32 := 1#32
  let c0_i32_26 : BitVec 32 := 0#32
  let c0_i32_27 : BitVec 32 := 0#32
  let c0_i32_28 : BitVec 32 := 0#32
  ![v21.toNat, 1, 0, 0, 0]
def k0_off54 (v37 : BitVec 32) : Fin 4 → Nat :=
  let c0_i32_29 : BitVec 32 := 0#32
  let c0_i32_30 : BitVec 32 := 0#32
  let c0_i32_31 : BitVec 32 := 0#32
  ![v37.toNat, 0, 0, 0]

def k0_chk20 (v37 : BitVec 32) : Prop :=
  (∀ a, (k0_off54 v37) a + S1x128x8x128.size a ≤ S5120x128x8x128.size a)
theorem k0_off54_inb : ∀ (v37 : BitVec 32) (k0_hw20 : k0_chk20 v37), ∀ a, (k0_off54 v37) a + S1x128x8x128.size a ≤ S5120x128x8x128.size a := fun v37 k0_hw20 => k0_hw20

def k0_off55 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c9_i32_32 : BitVec 32 := 9#32
  let v44 : BitVec 32 := Scalar.muli v1 c9_i32_32
  let c0_i32_33 : BitVec 32 := 0#32
  let v45 : BitVec 32 := Scalar.addi v44 c0_i32_33
  let c2_i32_34 : BitVec 32 := 2#32
  let v46 : BitVec 32 := Scalar.addi v45 c2_i32_34
  let v47 : Index := Scalar.indexCast v46
  ![v47.toNat]
def k0_off56 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  ![v21.toNat]
def k0_off57 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c2_i32_35 : BitVec 32 := 2#32
  let c0_i32_36 : BitVec 32 := 0#32
  let c0_i32_37 : BitVec 32 := 0#32
  let c0_i32_38 : BitVec 32 := 0#32
  ![v21.toNat, 2, 0, 0, 0]
def k0_off58 (v48 : BitVec 32) : Fin 4 → Nat :=
  let c0_i32_39 : BitVec 32 := 0#32
  let c0_i32_40 : BitVec 32 := 0#32
  let c0_i32_41 : BitVec 32 := 0#32
  ![v48.toNat, 0, 0, 0]

def k0_chk21 (v48 : BitVec 32) : Prop :=
  (∀ a, (k0_off58 v48) a + S1x128x8x128.size a ≤ S5120x128x8x128.size a)
theorem k0_off58_inb : ∀ (v48 : BitVec 32) (k0_hw21 : k0_chk21 v48), ∀ a, (k0_off58 v48) a + S1x128x8x128.size a ≤ S5120x128x8x128.size a := fun v48 k0_hw21 => k0_hw21

def k0_off59 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c9_i32_42 : BitVec 32 := 9#32
  let v55 : BitVec 32 := Scalar.muli v1 c9_i32_42
  let c0_i32_43 : BitVec 32 := 0#32
  let v56 : BitVec 32 := Scalar.addi v55 c0_i32_43
  let c3_i32 : BitVec 32 := 3#32
  let v57 : BitVec 32 := Scalar.addi v56 c3_i32
  let v58 : Index := Scalar.indexCast v57
  ![v58.toNat]
def k0_off60 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  ![v21.toNat]
def k0_off61 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c3_i32_44 : BitVec 32 := 3#32
  let c0_i32_45 : BitVec 32 := 0#32
  let c0_i32_46 : BitVec 32 := 0#32
  let c0_i32_47 : BitVec 32 := 0#32
  ![v21.toNat, 3, 0, 0, 0]
def k0_off62 (v59 : BitVec 32) : Fin 4 → Nat :=
  let c0_i32_48 : BitVec 32 := 0#32
  let c0_i32_49 : BitVec 32 := 0#32
  let c0_i32_50 : BitVec 32 := 0#32
  ![v59.toNat, 0, 0, 0]

def k0_chk22 (v59 : BitVec 32) : Prop :=
  (∀ a, (k0_off62 v59) a + S1x128x8x128.size a ≤ S5120x128x8x128.size a)
theorem k0_off62_inb : ∀ (v59 : BitVec 32) (k0_hw22 : k0_chk22 v59), ∀ a, (k0_off62 v59) a + S1x128x8x128.size a ≤ S5120x128x8x128.size a := fun v59 k0_hw22 => k0_hw22

def k0_off63 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c9_i32_51 : BitVec 32 := 9#32
  let v66 : BitVec 32 := Scalar.muli v1 c9_i32_51
  let c0_i32_52 : BitVec 32 := 0#32
  let v67 : BitVec 32 := Scalar.addi v66 c0_i32_52
  let c4_i32 : BitVec 32 := 4#32
  let v68 : BitVec 32 := Scalar.addi v67 c4_i32
  let v69 : Index := Scalar.indexCast v68
  ![v69.toNat]
def k0_off64 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  ![v21.toNat]
def k0_off65 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c4_i32_53 : BitVec 32 := 4#32
  let c0_i32_54 : BitVec 32 := 0#32
  let c0_i32_55 : BitVec 32 := 0#32
  let c0_i32_56 : BitVec 32 := 0#32
  ![v21.toNat, 4, 0, 0, 0]
def k0_off66 (v70 : BitVec 32) : Fin 4 → Nat :=
  let c0_i32_57 : BitVec 32 := 0#32
  let c0_i32_58 : BitVec 32 := 0#32
  let c0_i32_59 : BitVec 32 := 0#32
  ![v70.toNat, 0, 0, 0]

def k0_chk23 (v70 : BitVec 32) : Prop :=
  (∀ a, (k0_off66 v70) a + S1x128x8x128.size a ≤ S5120x128x8x128.size a)
theorem k0_off66_inb : ∀ (v70 : BitVec 32) (k0_hw23 : k0_chk23 v70), ∀ a, (k0_off66 v70) a + S1x128x8x128.size a ≤ S5120x128x8x128.size a := fun v70 k0_hw23 => k0_hw23

def k0_off67 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c9_i32_60 : BitVec 32 := 9#32
  let v77 : BitVec 32 := Scalar.muli v1 c9_i32_60
  let c0_i32_61 : BitVec 32 := 0#32
  let v78 : BitVec 32 := Scalar.addi v77 c0_i32_61
  let c5_i32 : BitVec 32 := 5#32
  let v79 : BitVec 32 := Scalar.addi v78 c5_i32
  let v80 : Index := Scalar.indexCast v79
  ![v80.toNat]
def k0_off68 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  ![v21.toNat]
def k0_off69 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c5_i32_62 : BitVec 32 := 5#32
  let c0_i32_63 : BitVec 32 := 0#32
  let c0_i32_64 : BitVec 32 := 0#32
  let c0_i32_65 : BitVec 32 := 0#32
  ![v21.toNat, 5, 0, 0, 0]
def k0_off70 (v81 : BitVec 32) : Fin 4 → Nat :=
  let c0_i32_66 : BitVec 32 := 0#32
  let c0_i32_67 : BitVec 32 := 0#32
  let c0_i32_68 : BitVec 32 := 0#32
  ![v81.toNat, 0, 0, 0]

def k0_chk24 (v81 : BitVec 32) : Prop :=
  (∀ a, (k0_off70 v81) a + S1x128x8x128.size a ≤ S5120x128x8x128.size a)
theorem k0_off70_inb : ∀ (v81 : BitVec 32) (k0_hw24 : k0_chk24 v81), ∀ a, (k0_off70 v81) a + S1x128x8x128.size a ≤ S5120x128x8x128.size a := fun v81 k0_hw24 => k0_hw24

def k0_off71 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c9_i32_69 : BitVec 32 := 9#32
  let v88 : BitVec 32 := Scalar.muli v1 c9_i32_69
  let c0_i32_70 : BitVec 32 := 0#32
  let v89 : BitVec 32 := Scalar.addi v88 c0_i32_70
  let c6_i32 : BitVec 32 := 6#32
  let v90 : BitVec 32 := Scalar.addi v89 c6_i32
  let v91 : Index := Scalar.indexCast v90
  ![v91.toNat]
def k0_off72 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  ![v21.toNat]
def k0_off73 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c6_i32_71 : BitVec 32 := 6#32
  let c0_i32_72 : BitVec 32 := 0#32
  let c0_i32_73 : BitVec 32 := 0#32
  let c0_i32_74 : BitVec 32 := 0#32
  ![v21.toNat, 6, 0, 0, 0]
def k0_off74 (v92 : BitVec 32) : Fin 4 → Nat :=
  let c0_i32_75 : BitVec 32 := 0#32
  let c0_i32_76 : BitVec 32 := 0#32
  let c0_i32_77 : BitVec 32 := 0#32
  ![v92.toNat, 0, 0, 0]

def k0_chk25 (v92 : BitVec 32) : Prop :=
  (∀ a, (k0_off74 v92) a + S1x128x8x128.size a ≤ S5120x128x8x128.size a)
theorem k0_off74_inb : ∀ (v92 : BitVec 32) (k0_hw25 : k0_chk25 v92), ∀ a, (k0_off74 v92) a + S1x128x8x128.size a ≤ S5120x128x8x128.size a := fun v92 k0_hw25 => k0_hw25

def k0_off75 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c9_i32_78 : BitVec 32 := 9#32
  let v99 : BitVec 32 := Scalar.muli v1 c9_i32_78
  let c0_i32_79 : BitVec 32 := 0#32
  let v100 : BitVec 32 := Scalar.addi v99 c0_i32_79
  let c7_i32 : BitVec 32 := 7#32
  let v101 : BitVec 32 := Scalar.addi v100 c7_i32
  let v102 : Index := Scalar.indexCast v101
  ![v102.toNat]
def k0_off76 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  ![v21.toNat]
def k0_off77 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c7_i32_80 : BitVec 32 := 7#32
  let c0_i32_81 : BitVec 32 := 0#32
  let c0_i32_82 : BitVec 32 := 0#32
  let c0_i32_83 : BitVec 32 := 0#32
  ![v21.toNat, 7, 0, 0, 0]
def k0_off78 (v103 : BitVec 32) : Fin 4 → Nat :=
  let c0_i32_84 : BitVec 32 := 0#32
  let c0_i32_85 : BitVec 32 := 0#32
  let c0_i32_86 : BitVec 32 := 0#32
  ![v103.toNat, 0, 0, 0]

def k0_chk26 (v103 : BitVec 32) : Prop :=
  (∀ a, (k0_off78 v103) a + S1x128x8x128.size a ≤ S5120x128x8x128.size a)
theorem k0_off78_inb : ∀ (v103 : BitVec 32) (k0_hw26 : k0_chk26 v103), ∀ a, (k0_off78 v103) a + S1x128x8x128.size a ≤ S5120x128x8x128.size a := fun v103 k0_hw26 => k0_hw26

def k0_off79 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c9_i32_87 : BitVec 32 := 9#32
  let v110 : BitVec 32 := Scalar.muli v1 c9_i32_87
  let c0_i32_88 : BitVec 32 := 0#32
  let v111 : BitVec 32 := Scalar.addi v110 c0_i32_88
  let c8_i32 : BitVec 32 := 8#32
  let v112 : BitVec 32 := Scalar.addi v111 c8_i32
  let v113 : Index := Scalar.indexCast v112
  ![v113.toNat]
def k0_off80 (i : grid0.Coords) : Fin 1 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  ![v21.toNat]
def k0_off81 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c8_i32_89 : BitVec 32 := 8#32
  let c0_i32_90 : BitVec 32 := 0#32
  let c0_i32_91 : BitVec 32 := 0#32
  let c0_i32_92 : BitVec 32 := 0#32
  ![v21.toNat, 8, 0, 0, 0]
def k0_off82 (v114 : BitVec 32) : Fin 4 → Nat :=
  let c0_i32_93 : BitVec 32 := 0#32
  let c0_i32_94 : BitVec 32 := 0#32
  let c0_i32_95 : BitVec 32 := 0#32
  ![v114.toNat, 0, 0, 0]

def k0_chk27 (v114 : BitVec 32) : Prop :=
  (∀ a, (k0_off82 v114) a + S1x128x8x128.size a ≤ S5120x128x8x128.size a)
theorem k0_off82_inb : ∀ (v114 : BitVec 32) (k0_hw27 : k0_chk27 v114), ∀ a, (k0_off82 v114) a + S1x128x8x128.size a ≤ S5120x128x8x128.size a := fun v114 k0_hw27 => k0_hw27

def k0_off83 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c0_i32_96 : BitVec 32 := 0#32
  let c0_i32_97 : BitVec 32 := 0#32
  let c0_i32_98 : BitVec 32 := 0#32
  let c0_i32_99 : BitVec 32 := 0#32
  ![v21.toNat, 0, 0, 0, 0]
def k0_off84 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c1_i32_148 : BitVec 32 := 1#32
  let c0_i32_149 : BitVec 32 := 0#32
  let c0_i32_150 : BitVec 32 := 0#32
  let c0_i32_151 : BitVec 32 := 0#32
  ![v21.toNat, 1, 0, 0, 0]
def k0_off85 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c2_i32_206 : BitVec 32 := 2#32
  let c0_i32_207 : BitVec 32 := 0#32
  let c0_i32_208 : BitVec 32 := 0#32
  let c0_i32_209 : BitVec 32 := 0#32
  ![v21.toNat, 2, 0, 0, 0]
def k0_off86 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c3_i32_264 : BitVec 32 := 3#32
  let c0_i32_265 : BitVec 32 := 0#32
  let c0_i32_266 : BitVec 32 := 0#32
  let c0_i32_267 : BitVec 32 := 0#32
  ![v21.toNat, 3, 0, 0, 0]
def k0_off87 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c4_i32_322 : BitVec 32 := 4#32
  let c0_i32_323 : BitVec 32 := 0#32
  let c0_i32_324 : BitVec 32 := 0#32
  let c0_i32_325 : BitVec 32 := 0#32
  ![v21.toNat, 4, 0, 0, 0]
def k0_off88 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c5_i32_380 : BitVec 32 := 5#32
  let c0_i32_381 : BitVec 32 := 0#32
  let c0_i32_382 : BitVec 32 := 0#32
  let c0_i32_383 : BitVec 32 := 0#32
  ![v21.toNat, 5, 0, 0, 0]
def k0_off89 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c6_i32_438 : BitVec 32 := 6#32
  let c0_i32_439 : BitVec 32 := 0#32
  let c0_i32_440 : BitVec 32 := 0#32
  let c0_i32_441 : BitVec 32 := 0#32
  ![v21.toNat, 6, 0, 0, 0]
def k0_off90 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c7_i32_496 : BitVec 32 := 7#32
  let c0_i32_497 : BitVec 32 := 0#32
  let c0_i32_498 : BitVec 32 := 0#32
  let c0_i32_499 : BitVec 32 := 0#32
  ![v21.toNat, 7, 0, 0, 0]
def k0_off91 (i : grid0.Coords) : Fin 5 → Nat :=
  let arg0 : BitVec 32 := BitVec.ofNat 32 (i 0).val
  let c26_i32 : BitVec 32 := 26#32
  let v0 : BitVec 32 := Scalar.muli arg0 c26_i32
  let arg1 : BitVec 32 := BitVec.ofNat 32 (i 1).val
  let v1 : BitVec 32 := Scalar.addi v0 arg1
  let c1_i32_11 : BitVec 32 := 1#32
  let v19 : BitVec 32 := Scalar.muli v1 c1_i32_11
  let c0_i32_12 : BitVec 32 := 0#32
  let v20 : BitVec 32 := Scalar.addi v19 c0_i32_12
  let c2_i32 : BitVec 32 := 2#32
  let v21 : BitVec 32 := Scalar.remsi v20 c2_i32
  let c8_i32_554 : BitVec 32 := 8#32
  let c0_i32_555 : BitVec 32 := 0#32
  let c0_i32_556 : BitVec 32 := 0#32
  let c0_i32_557 : BitVec 32 := 0#32
  ![v21.toNat, 8, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.muli arg0 c26_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S9x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x2048x2048 : Shape := ⟨3, ![4, 2048, 2048]⟩
abbrev S1x2048 : Shape := ⟨2, ![1, 2048]⟩
abbrev S13312x2048 : Shape := ⟨2, ![13312, 2048]⟩
abbrev S128x2048 : Shape := ⟨2, ![128, 2048]⟩
abbrev S32x128 : Shape := ⟨2, ![32, 128]⟩
abbrev S1x5120x128x8x128 : Shape := ⟨5, ![1, 5120, 128, 8, 128]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S2048x13312 : Shape := ⟨2, ![2048, 13312]⟩
abbrev S8192x13312 : Shape := ⟨2, ![8192, 13312]⟩
abbrev S2048x128 : Shape := ⟨2, ![2048, 128]⟩
abbrev S8192x128 : Shape := ⟨2, ![8192, 128]⟩
abbrev S4096 : Shape := ⟨1, ![4096]⟩
abbrev S1792 : Shape := ⟨1, ![1792]⟩
abbrev S1872 : Shape := ⟨1, ![1872]⟩
abbrev S5120x128x8x128 : Shape := ⟨4, ![5120, 128, 8, 128]⟩
abbrev S1872x1 : Shape := ⟨2, ![1872, 1]⟩
abbrev S1872x128x8x128 : Shape := ⟨4, ![1872, 128, 8, 128]⟩
abbrev S1872x8x128 : Shape := ⟨3, ![1872, 8, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S13312x2048, .bf16⟩
  | .hbm, ⟨3, _⟩ => ⟨S128x2048, .bf16⟩
  | .hbm, ⟨4, _⟩ => ⟨S32x128, .i32⟩
  | .hbm, ⟨5, _⟩ => ⟨S1x5120x128x8x128, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | .hbm, ⟨25, _⟩ => ⟨S2048x13312, .bf16⟩
  | .hbm, ⟨26, _⟩ => ⟨S8192x13312, .f32⟩
  | .hbm, ⟨27, _⟩ => ⟨S8192x13312, .bf16⟩
  | .hbm, ⟨28, _⟩ => ⟨S2048x128, .bf16⟩
  | .hbm, ⟨29, _⟩ => ⟨S8192x128, .f32⟩
  | .hbm, ⟨30, _⟩ => ⟨S4096, .i32⟩
  | .hbm, ⟨31, _⟩ => ⟨S1792, .i32⟩
  | .hbm, ⟨32, _⟩ => ⟨S_, .i32⟩
  | .hbm, ⟨33, _⟩ => ⟨S_, .i32⟩
  | .hbm, ⟨34, _⟩ => ⟨S1872, .i32⟩
  | .hbm, ⟨35, _⟩ => ⟨S5120x128x8x128, .f32⟩
  | .hbm, ⟨36, _⟩ => ⟨S1872x1, .i32⟩
  | .hbm, ⟨37, _⟩ => ⟨S1872x128x8x128, .f32⟩
  | .hbm, ⟨38, _⟩ => ⟨S_, .f32⟩
  | .hbm, ⟨39, _⟩ => ⟨S1872x8x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_call1_v0 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel3.lean ====
abbrev S8192x1024 : Shape := ⟨2, ![8192, 1024]⟩
abbrev S8192x13312 : Shape := ⟨2, ![8192, 13312]⟩
abbrev S4x2048x2048 : Shape := ⟨3, ![4, 2048, 2048]⟩
abbrev S1x1024x2048 : Shape := ⟨3, ![1, 1024, 2048]⟩
abbrev S1x2048x2048 : Shape := ⟨3, ![1, 2048, 2048]⟩
abbrev S32x128 : Shape := ⟨2, ![32, 128]⟩
abbrev S1x5120x128x8x128 : Shape := ⟨5, ![1, 5120, 128, 8, 128]⟩
abbrev S4096 : Shape := ⟨1, ![4096]⟩
abbrev S512 : Shape := ⟨1, ![512]⟩
abbrev S8192x2048 : Shape := ⟨2, ![8192, 2048]⟩
abbrev S1024x2048 : Shape := ⟨2, ![1024, 2048]⟩
abbrev S2048x2048 : Shape := ⟨2, ![2048, 2048]⟩
abbrev S5120x128x8x128 : Shape := ⟨4, ![5120, 128, 8, 128]⟩
abbrev S_ : Shape := ⟨0, ![]⟩
abbrev S512x8x128 : Shape := ⟨3, ![512, 8, 128]⟩
abbrev S256x1024 : Shape := ⟨2, ![256, 1024]⟩
abbrev S256x2048 : Shape := ⟨2, ![256, 2048]⟩
abbrev S16x8x128 : Shape := ⟨3, ![16, 8, 128]⟩
abbrev S2x16x128x8x128 : Shape := ⟨5, ![2, 16, 128, 8, 128]⟩
abbrev S2 : Shape := ⟨1, ![2]⟩
abbrev S1 : Shape := ⟨1, ![1]⟩
abbrev S1x1x128x8x128 : Shape := ⟨5, ![1, 1, 128, 8, 128]⟩
abbrev S128x8x128 : Shape := ⟨3, ![128, 8, 128]⟩
abbrev S1x128x8x128 : Shape := ⟨4, ![1, 128, 8, 128]⟩
abbrev S8x8x128 : Shape := ⟨3, ![8, 8, 128]⟩
abbrev S4x8x128 : Shape := ⟨3, ![4, 8, 128]⟩
abbrev S2x8x128 : Shape := ⟨3, ![2, 8, 128]⟩
abbrev S1x8x128 : Shape := ⟨3, ![1, 8, 128]⟩
abbrev S8x128 : Shape := ⟨2, ![8, 128]⟩

abbrev nBuf : Space → Nat
  | .hbm => 23
  | .vmem => 18
  | .smem => 1
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x13312, .bf16⟩
  | .hbm, ⟨3, _⟩ => ⟨S4x2048x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S32x128, .i32⟩
  | .hbm, ⟨8, _⟩ => ⟨S1x5120x128x8x128, .f32⟩
  | .hbm, ⟨9, _⟩ => ⟨S4096, .i32⟩
  | .hbm, ⟨10, _⟩ => ⟨S512, .i32⟩
  | .hbm, ⟨11, _⟩ => ⟨S8192x2048, .f32⟩
  | .hbm, ⟨12, _⟩ => ⟨S1024x2048, .f32⟩
  | .hbm, ⟨13, _⟩ => ⟨S1024x2048, .bf16⟩
  | .hbm, ⟨14, _⟩ => ⟨S1024x2048, .f32⟩
  | .hbm, ⟨15, _⟩ => ⟨S1024x2048, .bf16⟩
  | .hbm, ⟨16, _⟩ => ⟨S2048x2048, .f32⟩
  | .hbm, ⟨17, _⟩ => ⟨S2048x2048, .bf16⟩
  | .hbm, ⟨18, _⟩ => ⟨S5120x128x8x128, .f32⟩
  | .hbm, ⟨19, _⟩ => ⟨S_, .i32⟩
  | .hbm, ⟨20, _⟩ => ⟨S_, .i32⟩
  | .hbm, ⟨21, _⟩ => ⟨S8192x2048, .f32⟩
  | .hbm, ⟨22, _⟩ => ⟨S512x8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | .local _ .vmem, ⟨15, _⟩ => ⟨S16x8x128, .f32⟩
  | .local _ .vmem, ⟨16, _⟩ => ⟨S16x8x128, .f32⟩
  | .local _ .vmem, ⟨17, _⟩ => ⟨S2x16x128x8x128, .f32⟩
  | .local _ .smem, ⟨0, _⟩ => ⟨S512, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v11_0 : Ref sig .tc := ⟨.hbm, 21, rfl⟩
abbrev main_v11_1 : Ref sig .tc := ⟨.hbm, 22, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v977 : BitVec 32) : Fin 4 → Nat :=
  let c0_i32_1106 : BitVec 32 := 0#32
  let c0_i32_1107 : BitVec 32 := 0#32
  let c0_i32_1108 : BitVec 32 := 0#32
  ![v977.toNat, 0, 0, 0]

def k0_chk1 (i : grid0.Coords) (v977 : BitVec 32) : Prop :=
  (∀ (k0_h1 : k0_cond1 i = 1#1), ∀ a, (k0_off1 v977) a + S1x128x8x128.size a ≤ S5120x128x8x128.size a)
theorem k0_off1_inb : ∀ (i : grid0.Coords) (v977 : BitVec 32) (k0_hw1 : k0_chk1 i v977), ∀ (k0_h1 : k0_cond1 i = 1#1), ∀ a, (k0_off1 v977) a + S1x128x8x128.size a ≤ S5120x128x8x128.size a := fun i v977 k0_hw1 k0_h1 => k0_hw1 k0_h1

def k0_off2 (v984 : BitVec 32) : Fin 4 → Nat :=
  let c0_i32_1116 : BitVec 32 := 0#32
  let c0_i32_1117 : BitVec 32 := 0#32
  let c0_i32_1118 : BitVec 32 := 0#32
  ![v984.toNat, 0, 0, 0]

def k0_chk2 (i : grid0.Coords) (v984 : BitVec 32) : Prop :=
  (∀ (k0_h1 : k0_cond1 i = 1#1), ∀ a, (k0_off2 v984) a + S1x128x8x128.size a ≤ S5120x128x8x128.size a)
theorem k0_off2_inb : ∀ (i : grid0.Coords) (v984 : BitVec 32) (k0_hw2 : k0_chk2 i v984), ∀ (k0_h1 : k0_cond1 i = 1#1), ∀ a, (k0_off2 v984) a + S1x128x8x128.size a ≤ S5120x128x8x128.size a := fun i v984 k0_hw2 k0_h1 => k0_hw2 k0_h1

def k0_off3 (v991 : BitVec 32) : Fin 4 → Nat :=
  let c0_i32_1126 : BitVec 32 := 0#32
  let c0_i32_1127 : BitVec 32 := 0#32
  let c0_i32_1128 : BitVec 32 := 0#32
  ![v991.toNat, 0, 0, 0]

def k0_chk3 (i : grid0.Coords) (v991 : BitVec 32) : Prop :=
  (∀ (k0_h1 : k0_cond1 i = 1#1), ∀ a, (k0_off3 v991) a + S1x128x8x128.size a ≤ S5120x128x8x128.size a)
theorem k0_off3_inb : ∀ (i : grid0.Coords) (v991 : BitVec 32) (k0_hw3 : k0_chk3 i v991), ∀ (k0_h1 : k0_cond1 i = 1#1), ∀ a, (k0_off3 v991) a + S1x128x8x128.size a ≤ S5120x128x8x128.size a := fun i v991 k0_hw3 k0_h1 => k0_hw3 k0_h1

def k0_off4 (v998 : BitVec 32) : Fin 4 → Nat :=
  let c0_i32_1136 : BitVec 32 := 0#32
  let c0_i32_1137 : BitVec 32 := 0#32
  let c0_i32_1138 : BitVec 32 := 0#32
  ![v998.toNat, 0, 0, 0]

def k0_chk4 (i : grid0.Coords) (v998 : BitVec 32) : Prop :=
  (∀ (k0_h1 : k0_cond1 i = 1#1), ∀ a, (k0_off4 v998) a + S1x128x8x128.size a ≤ S5120x128x8x128.size a)
theorem k0_off4_inb : ∀ (i : grid0.Coords) (v998 : BitVec 32) (k0_hw4 : k0_chk4 i v998), ∀ (k0_h1 : k0_cond1 i = 1#1), ∀ a, (k0_off4 v998) a + S1x128x8x128.size a ≤ S5120x128x8x128.size a := fun i v998 k0_hw4 k0_h1 => k0_hw4 k0_h1

def k0_off5 (v1005 : BitVec 32) : Fin 4 → Nat :=
  let c0_i32_1146 : BitVec 32 := 0#32
  let c0_i32_1147 : BitVec 32 := 0#32
  let c0_i32_1148 : BitVec 32 := 0#32
  ![v1005.toNat, 0, 0, 0]

def k0_chk5 (i : grid0.Coords) (v1005 : BitVec 32) : Prop :=
  (∀ (k0_h1 : k0_cond1 i = 1#1), ∀ a, (k0_off5 v1005) a + S1x128x8x128.size a ≤ S5120x128x8x128.size a)
theorem k0_off5_inb : ∀ (i : grid0.Coords) (v1005 : BitVec 32) (k0_hw5 : k0_chk5 i v1005), ∀ (k0_h1 : k0_cond1 i = 1#1), ∀ a, (k0_off5 v1005) a + S1x128x8x128.size a ≤ S5120x128x8x128.size a := fun i v1005 k0_hw5 k0_h1 => k0_hw5 k0_h1

def k0_off6 (v1012 : BitVec 32) : Fin 4 → Nat :=
  let c0_i32_1156 : BitVec 32 := 0#32
  let c0_i32_1157 : BitVec 32 := 0#32
  let c0_i32_1158 : BitVec 32 := 0#32
  ![v1012.toNat, 0, 0, 0]

def k0_chk6 (i : grid0.Coords) (v1012 : BitVec 32) : Prop :=
  (∀ (k0_h1 : k0_cond1 i = 1#1), ∀ a, (k0_off6 v1012) a + S1x128x8x128.size a ≤ S5120x128x8x128.size a)
theorem k0_off6_inb : ∀ (i : grid0.Coords) (v1012 : BitVec 32) (k0_hw6 : k0_chk6 i v1012), ∀ (k0_h1 : k0_cond1 i = 1#1), ∀ a, (k0_off6 v1012) a + S1x128x8x128.size a ≤ S5120x128x8x128.size a := fun i v1012 k0_hw6 k0_h1 => k0_hw6 k0_h1

def k0_off7 (v1019 : BitVec 32) : Fin 4 → Nat :=
  let c0_i32_1166 : BitVec 32 := 0#32
  let c0_i32_1167 : BitVec 32 := 0#32
  let c0_i32_1168 : BitVec 32 := 0#32
  ![v1019.toNat, 0, 0, 0]

def k0_chk7 (i : grid0.Coords) (v1019 : BitVec 32) : Prop :=
  (∀ (k0_h1 : k0_cond1 i = 1#1), ∀ a, (k0_off7 v1019) a + S1x128x8x128.size a ≤ S5120x128x8x128.size a)
theorem k0_off7_inb : ∀ (i : grid0.Coords) (v1019 : BitVec 32) (k0_hw7 : k0_chk7 i v1019), ∀ (k0_h1 : k0_cond1 i = 1#1), ∀ a, (k0_off7 v1019) a + S1x128x8x128.size a ≤ S5120x128x8x128.size a := fun i v1019 k0_hw7 k0_h1 => k0_hw7 k0_h1

def k0_off8 (v1026 : BitVec 32) : Fin 4 → Nat :=
  let c0_i32_1176 : BitVec 32 := 0#32
  let c0_i32_1177 : BitVec 32 := 0#32
  let c0_i32_1178 : BitVec 32 := 0#32
  ![v1026.toNat, 0, 0, 0]

def k0_chk8 (i : grid0.Coords) (v1026 : BitVec 32) : Prop :=
  (∀ (k0_h1 : k0_cond1 i = 1#1), ∀ a, (k0_off8 v1026) a + S1x128x8x128.size a ≤ S5120x128x8x128.size a)
theorem k0_off8_inb : ∀ (i : grid0.Coords) (v1026 : BitVec 32) (k0_hw8 : k0_chk8 i v1026), ∀ (k0_h1 : k0_cond1 i = 1#1), ∀ a, (k0_off8 v1026) a + S1x128x8x128.size a ≤ S5120x128x8x128.size a := fun i v1026 k0_hw8 k0_h1 => k0_hw8 k0_h1

def k0_off9 (v1033 : BitVec 32) : Fin 4 → Nat :=
  let c0_i32_1186 : BitVec 32 := 0#32
  let c0_i32_1187 : BitVec 32 := 0#32
  let c0_i32_1188 : BitVec 32 := 0#32
  ![v1033.toNat, 0, 0, 0]

def k0_chk9 (i : grid0.Coords) (v1033 : BitVec 32) : Prop :=
  (∀ (k0_h1 : k0_cond1 i = 1#1), ∀ a, (k0_off9 v1033) a + S1x128x8x128.size a ≤ S5120x128x8x128.size a)
theorem k0_off9_inb : ∀ (i : grid0.Coords) (v1033 : BitVec 32) (k0_hw9 : k0_chk9 i v1033), ∀ (k0_h1 : k0_cond1 i = 1#1), ∀ a, (k0_off9 v1033) a + S1x128x8x128.size a ≤ S5120x128x8x128.size a := fun i v1033 k0_hw9 k0_h1 => k0_hw9 k0_h1

def k0_off10 (v1040 : BitVec 32) : Fin 4 → Nat :=
  let c0_i32_1196 : BitVec 32 := 0#32
  let c0_i32_1197 : BitVec 32 := 0#32
  let c0_i32_1198 : BitVec 32 := 0#32
  ![v1040.toNat, 0, 0, 0]

def k0_chk10 (i : grid0.Coords) (v1040 : BitVec 32) : Prop :=
  (∀ (k0_h1 : k0_cond1 i = 1#1), ∀ a, (k0_off10 v1040) a + S1x128x8x128.size a ≤ S5120x128x8x128.size a)
theorem k0_off10_inb : ∀ (i : grid0.Coords) (v1040 : BitVec 32) (k0_hw10 : k0_chk10 i v1040), ∀ (k0_h1 : k0_cond1 i = 1#1), ∀ a, (k0_off10 v1040) a + S1x128x8x128.size a ≤ S5120x128x8x128.size a := fun i v1040 k0_hw10 k0_h1 => k0_hw10 k0_h1

def k0_off11 (v1047 : BitVec 32) : Fin 4 → Nat :=
  let c0_i32_1206 : BitVec 32 := 0#32
  let c0_i32_1207 : BitVec 32 := 0#32
  let c0_i32_1208 : BitVec 32 := 0#32
  ![v1047.toNat, 0, 0, 0]

def k0_chk11 (i : grid0.Coords) (v1047 : BitVec 32) : Prop :=
  (∀ (k0_h1 : k0_cond1 i = 1#1), ∀ a, (k0_off11 v1047) a + S1x128x8x128.size a ≤ S5120x128x8x128.size a)
theorem k0_off11_inb : ∀ (i : grid0.Coords) (v1047 : BitVec 32) (k0_hw11 : k0_chk11 i v1047), ∀ (k0_h1 : k0_cond1 i = 1#1), ∀ a, (k0_off11 v1047) a + S1x128x8x128.size a ≤ S5120x128x8x128.size a := fun i v1047 k0_hw11 k0_h1 => k0_hw11 k0_h1

def k0_off12 (v1054 : BitVec 32) : Fin 4 → Nat :=
  let c0_i32_1216 : BitVec 32 := 0#32
  let c0_i32_1217 : BitVec 32 := 0#32
  let c0_i32_1218 : BitVec 32 := 0#32
  ![v1054.toNat, 0, 0, 0]

def k0_chk12 (i : grid0.Coords) (v1054 : BitVec 32) : Prop :=
  (∀ (k0_h1 : k0_cond1 i = 1#1), ∀ a, (k0_off12 v1054) a + S1x128x8x128.size a ≤ S5120x128x8x128.size a)
theorem k0_off12_inb : ∀ (i : grid0.Coords) (v1054 : BitVec 32) (k0_hw12 : k0_chk12 i v1054), ∀ (k0_h1 : k0_cond1 i = 1#1), ∀ a, (k0_off12 v1054) a + S1x128x8x128.size a ≤ S5120x128x8x128.size a := fun i v1054 k0_hw12 k0_h1 => k0_hw12 k0_h1

def k0_off13 (v1061 : BitVec 32) : Fin 4 → Nat :=
  let c0_i32_1226 : BitVec 32 := 0#32
  let c0_i32_1227 : BitVec 32 := 0#32
  let c0_i32_1228 : BitVec 32 := 0#32
  ![v1061.toNat, 0, 0, 0]

def k0_chk13 (i : grid0.Coords) (v1061 : BitVec 32) : Prop :=
  (∀ (k0_h1 : k0_cond1 i = 1#1), ∀ a, (k0_off13 v1061) a + S1x128x8x128.size a ≤ S5120x128x8x128.size a)
theorem k0_off13_inb : ∀ (i : grid0.Coords) (v1061 : BitVec 32) (k0_hw13 : k0_chk13 i v1061), ∀ (k0_h1 : k0_cond1 i = 1#1), ∀ a, (k0_off13 v1061) a + S1x128x8x128.size a ≤ S5120x128x8x128.size a := fun i v1061 k0_hw13 k0_h1 => k0_hw13 k0_h1

def k0_off14 (v1068 : BitVec 32) : Fin 4 → Nat :=
  let c0_i32_1236 : BitVec 32 := 0#32
  let c0_i32_1237 : BitVec 32 := 0#32
  let c0_i32_1238 : BitVec 32 := 0#32
  ![v1068.toNat, 0, 0, 0]

def k0_chk14 (i : grid0.Coords) (v1068 : BitVec 32) : Prop :=
  (∀ (k0_h1 : k0_cond1 i = 1#1), ∀ a, (k0_off14 v1068) a + S1x128x8x128.size a ≤ S5120x128x8x128.size a)
theorem k0_off14_inb : ∀ (i : grid0.Coords) (v1068 : BitVec 32) (k0_hw14 : k0_chk14 i v1068), ∀ (k0_h1 : k0_cond1 i = 1#1), ∀ a, (k0_off14 v1068) a + S1x128x8x128.size a ≤ S5120x128x8x128.size a := fun i v1068 k0_hw14 k0_h1 => k0_hw14 k0_h1

def k0_off15 (v1075 : BitVec 32) : Fin 4 → Nat :=
  let c0_i32_1246 : BitVec 32 := 0#32
  let c0_i32_1247 : BitVec 32 := 0#32
  let c0_i32_1248 : BitVec 32 := 0#32
  ![v1075.toNat, 0, 0, 0]

def k0_chk15 (i : grid0.Coords) (v1075 : BitVec 32) : Prop :=
  (∀ (k0_h1 : k0_cond1 i = 1#1), ∀ a, (k0_off15 v1075) a + S1x128x8x128.size a ≤ S5120x128x8x128.size a)
theorem k0_off15_inb : ∀ (i : grid0.Coords) (v1075 : BitVec 32) (k0_hw15 : k0_chk15 i v1075), ∀ (k0_h1 : k0_cond1 i = 1#1), ∀ a, (k0_off15 v1075) a + S1x128x8x128.size a ≤ S5120x128x8x128.size a := fun i v1075 k0_hw15 k0_h1 => k0_hw15 k0_h1

def k0_off16 (v1082 : BitVec 32) : Fin 4 → Nat :=
  let c0_i32_1256 : BitVec 32 := 0#32
  let c0_i32_1257 : BitVec 32 := 0#32
  let c0_i32_1258 : BitVec 32 := 0#32
  ![v1082.toNat, 0, 0, 0]

def k0_chk16 (i : grid0.Coords) (v1082 : BitVec 32) : Prop :=
  (∀ (k0_h1 : k0_cond1 i = 1#1), ∀ a, (k0_off16 v1082) a + S1x128x8x128.size a ≤ S5120x128x8x128.size a)
theorem k0_off16_inb : ∀ (i : grid0.Coords) (v1082 : BitVec 32) (k0_hw16 : k0_chk16 i v1082), ∀ (k0_h1 : k0_cond1 i = 1#1), ∀ a, (k0_off16 v1082) a + S1x128x8x128.size a ≤ S5120x128x8x128.size a := fun i v1082 k0_hw16 k0_h1 => k0_hw16 k0_h1

def k0_cond2 (i : grid0.Coords) : BitVec 1 :=
  let arg0 : BitVec 32 := BitVec.ofNat 32 (i 0).val
  let c1_i32_2 : BitVec 32 := 1#32
  let v5 : BitVec 32 := Scalar.addi arg0 c1_i32_2
  let c32_i32 : BitVec 32 := 32#32
  let v6 : BitVec 1 := Scalar.cmpi .slt v5 c32_i32
  let v7 : BitVec 32 := Scalar.extui v6
  let c0_i32_3 : BitVec 32 := 0#32
  let v8 : BitVec 1 := Scalar.cmpi .ne v7 c0_i32_3
  v8

def k0_off17 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1102 : BitVec 32 := 16#32
  let v980 : BitVec 32 := Scalar.muli v977 c16_i32_1102
  let c0_i32_1103 : BitVec 32 := 0#32
  let v981 : BitVec 32 := Scalar.addi v980 c0_i32_1103
  let c0_i32_1104 : BitVec 32 := 0#32
  let v982 : BitVec 32 := Scalar.addi v981 c0_i32_1104
  let v983 : Index := Scalar.indexCast v982
  ![v983.toNat]
def k0_off18 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off19 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c0_i32_1105 : BitVec 32 := 0#32
  let c0_i32_1106 : BitVec 32 := 0#32
  let c0_i32_1107 : BitVec 32 := 0#32
  let c0_i32_1108 : BitVec 32 := 0#32
  ![v979.toNat, 0, 0, 0, 0]
def k0_off20 (v984 : BitVec 32) : Fin 4 → Nat :=
  let c0_i32_1109 : BitVec 32 := 0#32
  let c0_i32_1110 : BitVec 32 := 0#32
  let c0_i32_1111 : BitVec 32 := 0#32
  ![v984.toNat, 0, 0, 0]

def k0_chk17 (i : grid0.Coords) (v984 : BitVec 32) : Prop :=
  (∀ (k0_h2 : k0_cond2 i = 1#1), ∀ a, (k0_off20 v984) a + S1x128x8x128.size a ≤ S5120x128x8x128.size a)
theorem k0_off20_inb : ∀ (i : grid0.Coords) (v984 : BitVec 32) (k0_hw17 : k0_chk17 i v984), ∀ (k0_h2 : k0_cond2 i = 1#1), ∀ a, (k0_off20 v984) a + S1x128x8x128.size a ≤ S5120x128x8x128.size a := fun i v984 k0_hw17 k0_h2 => k0_hw17 k0_h2

def k0_off21 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1112 : BitVec 32 := 16#32
  let v991 : BitVec 32 := Scalar.muli v977 c16_i32_1112
  let c0_i32_1113 : BitVec 32 := 0#32
  let v992 : BitVec 32 := Scalar.addi v991 c0_i32_1113
  let c1_i32_1114 : BitVec 32 := 1#32
  let v993 : BitVec 32 := Scalar.addi v992 c1_i32_1114
  let v994 : Index := Scalar.indexCast v993
  ![v994.toNat]
def k0_off22 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off23 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c1_i32_1115 : BitVec 32 := 1#32
  let c0_i32_1116 : BitVec 32 := 0#32
  let c0_i32_1117 : BitVec 32 := 0#32
  let c0_i32_1118 : BitVec 32 := 0#32
  ![v979.toNat, 1, 0, 0, 0]
def k0_off24 (v995 : BitVec 32) : Fin 4 → Nat :=
  let c0_i32_1119 : BitVec 32 := 0#32
  let c0_i32_1120 : BitVec 32 := 0#32
  let c0_i32_1121 : BitVec 32 := 0#32
  ![v995.toNat, 0, 0, 0]

def k0_chk18 (i : grid0.Coords) (v995 : BitVec 32) : Prop :=
  (∀ (k0_h2 : k0_cond2 i = 1#1), ∀ a, (k0_off24 v995) a + S1x128x8x128.size a ≤ S5120x128x8x128.size a)
theorem k0_off24_inb : ∀ (i : grid0.Coords) (v995 : BitVec 32) (k0_hw18 : k0_chk18 i v995), ∀ (k0_h2 : k0_cond2 i = 1#1), ∀ a, (k0_off24 v995) a + S1x128x8x128.size a ≤ S5120x128x8x128.size a := fun i v995 k0_hw18 k0_h2 => k0_hw18 k0_h2

def k0_off25 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1122 : BitVec 32 := 16#32
  let v1002 : BitVec 32 := Scalar.muli v977 c16_i32_1122
  let c0_i32_1123 : BitVec 32 := 0#32
  let v1003 : BitVec 32 := Scalar.addi v1002 c0_i32_1123
  let c2_i32_1124 : BitVec 32 := 2#32
  let v1004 : BitVec 32 := Scalar.addi v1003 c2_i32_1124
  let v1005 : Index := Scalar.indexCast v1004
  ![v1005.toNat]
def k0_off26 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off27 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c2_i32_1125 : BitVec 32 := 2#32
  let c0_i32_1126 : BitVec 32 := 0#32
  let c0_i32_1127 : BitVec 32 := 0#32
  let c0_i32_1128 : BitVec 32 := 0#32
  ![v979.toNat, 2, 0, 0, 0]
def k0_off28 (v1006 : BitVec 32) : Fin 4 → Nat :=
  let c0_i32_1129 : BitVec 32 := 0#32
  let c0_i32_1130 : BitVec 32 := 0#32
  let c0_i32_1131 : BitVec 32 := 0#32
  ![v1006.toNat, 0, 0, 0]

def k0_chk19 (i : grid0.Coords) (v1006 : BitVec 32) : Prop :=
  (∀ (k0_h2 : k0_cond2 i = 1#1), ∀ a, (k0_off28 v1006) a + S1x128x8x128.size a ≤ S5120x128x8x128.size a)
theorem k0_off28_inb : ∀ (i : grid0.Coords) (v1006 : BitVec 32) (k0_hw19 : k0_chk19 i v1006), ∀ (k0_h2 : k0_cond2 i = 1#1), ∀ a, (k0_off28 v1006) a + S1x128x8x128.size a ≤ S5120x128x8x128.size a := fun i v1006 k0_hw19 k0_h2 => k0_hw19 k0_h2

def k0_off29 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1132 : BitVec 32 := 16#32
  let v1013 : BitVec 32 := Scalar.muli v977 c16_i32_1132
  let c0_i32_1133 : BitVec 32 := 0#32
  let v1014 : BitVec 32 := Scalar.addi v1013 c0_i32_1133
  let c3_i32_1134 : BitVec 32 := 3#32
  let v1015 : BitVec 32 := Scalar.addi v1014 c3_i32_1134
  let v1016 : Index := Scalar.indexCast v1015
  ![v1016.toNat]
def k0_off30 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off31 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c3_i32_1135 : BitVec 32 := 3#32
  let c0_i32_1136 : BitVec 32 := 0#32
  let c0_i32_1137 : BitVec 32 := 0#32
  let c0_i32_1138 : BitVec 32 := 0#32
  ![v979.toNat, 3, 0, 0, 0]
def k0_off32 (v1017 : BitVec 32) : Fin 4 → Nat :=
  let c0_i32_1139 : BitVec 32 := 0#32
  let c0_i32_1140 : BitVec 32 := 0#32
  let c0_i32_1141 : BitVec 32 := 0#32
  ![v1017.toNat, 0, 0, 0]

def k0_chk20 (i : grid0.Coords) (v1017 : BitVec 32) : Prop :=
  (∀ (k0_h2 : k0_cond2 i = 1#1), ∀ a, (k0_off32 v1017) a + S1x128x8x128.size a ≤ S5120x128x8x128.size a)
theorem k0_off32_inb : ∀ (i : grid0.Coords) (v1017 : BitVec 32) (k0_hw20 : k0_chk20 i v1017), ∀ (k0_h2 : k0_cond2 i = 1#1), ∀ a, (k0_off32 v1017) a + S1x128x8x128.size a ≤ S5120x128x8x128.size a := fun i v1017 k0_hw20 k0_h2 => k0_hw20 k0_h2

def k0_off33 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1142 : BitVec 32 := 16#32
  let v1024 : BitVec 32 := Scalar.muli v977 c16_i32_1142
  let c0_i32_1143 : BitVec 32 := 0#32
  let v1025 : BitVec 32 := Scalar.addi v1024 c0_i32_1143
  let c4_i32_1144 : BitVec 32 := 4#32
  let v1026 : BitVec 32 := Scalar.addi v1025 c4_i32_1144
  let v1027 : Index := Scalar.indexCast v1026
  ![v1027.toNat]
def k0_off34 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off35 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c4_i32_1145 : BitVec 32 := 4#32
  let c0_i32_1146 : BitVec 32 := 0#32
  let c0_i32_1147 : BitVec 32 := 0#32
  let c0_i32_1148 : BitVec 32 := 0#32
  ![v979.toNat, 4, 0, 0, 0]
def k0_off36 (v1028 : BitVec 32) : Fin 4 → Nat :=
  let c0_i32_1149 : BitVec 32 := 0#32
  let c0_i32_1150 : BitVec 32 := 0#32
  let c0_i32_1151 : BitVec 32 := 0#32
  ![v1028.toNat, 0, 0, 0]

def k0_chk21 (i : grid0.Coords) (v1028 : BitVec 32) : Prop :=
  (∀ (k0_h2 : k0_cond2 i = 1#1), ∀ a, (k0_off36 v1028) a + S1x128x8x128.size a ≤ S5120x128x8x128.size a)
theorem k0_off36_inb : ∀ (i : grid0.Coords) (v1028 : BitVec 32) (k0_hw21 : k0_chk21 i v1028), ∀ (k0_h2 : k0_cond2 i = 1#1), ∀ a, (k0_off36 v1028) a + S1x128x8x128.size a ≤ S5120x128x8x128.size a := fun i v1028 k0_hw21 k0_h2 => k0_hw21 k0_h2

def k0_off37 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1152 : BitVec 32 := 16#32
  let v1035 : BitVec 32 := Scalar.muli v977 c16_i32_1152
  let c0_i32_1153 : BitVec 32 := 0#32
  let v1036 : BitVec 32 := Scalar.addi v1035 c0_i32_1153
  let c5_i32_1154 : BitVec 32 := 5#32
  let v1037 : BitVec 32 := Scalar.addi v1036 c5_i32_1154
  let v1038 : Index := Scalar.indexCast v1037
  ![v1038.toNat]
def k0_off38 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off39 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c5_i32_1155 : BitVec 32 := 5#32
  let c0_i32_1156 : BitVec 32 := 0#32
  let c0_i32_1157 : BitVec 32 := 0#32
  let c0_i32_1158 : BitVec 32 := 0#32
  ![v979.toNat, 5, 0, 0, 0]
def k0_off40 (v1039 : BitVec 32) : Fin 4 → Nat :=
  let c0_i32_1159 : BitVec 32 := 0#32
  let c0_i32_1160 : BitVec 32 := 0#32
  let c0_i32_1161 : BitVec 32 := 0#32
  ![v1039.toNat, 0, 0, 0]

def k0_chk22 (i : grid0.Coords) (v1039 : BitVec 32) : Prop :=
  (∀ (k0_h2 : k0_cond2 i = 1#1), ∀ a, (k0_off40 v1039) a + S1x128x8x128.size a ≤ S5120x128x8x128.size a)
theorem k0_off40_inb : ∀ (i : grid0.Coords) (v1039 : BitVec 32) (k0_hw22 : k0_chk22 i v1039), ∀ (k0_h2 : k0_cond2 i = 1#1), ∀ a, (k0_off40 v1039) a + S1x128x8x128.size a ≤ S5120x128x8x128.size a := fun i v1039 k0_hw22 k0_h2 => k0_hw22 k0_h2

def k0_off41 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1162 : BitVec 32 := 16#32
  let v1046 : BitVec 32 := Scalar.muli v977 c16_i32_1162
  let c0_i32_1163 : BitVec 32 := 0#32
  let v1047 : BitVec 32 := Scalar.addi v1046 c0_i32_1163
  let c6_i32_1164 : BitVec 32 := 6#32
  let v1048 : BitVec 32 := Scalar.addi v1047 c6_i32_1164
  let v1049 : Index := Scalar.indexCast v1048
  ![v1049.toNat]
def k0_off42 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off43 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c6_i32_1165 : BitVec 32 := 6#32
  let c0_i32_1166 : BitVec 32 := 0#32
  let c0_i32_1167 : BitVec 32 := 0#32
  let c0_i32_1168 : BitVec 32 := 0#32
  ![v979.toNat, 6, 0, 0, 0]
def k0_off44 (v1050 : BitVec 32) : Fin 4 → Nat :=
  let c0_i32_1169 : BitVec 32 := 0#32
  let c0_i32_1170 : BitVec 32 := 0#32
  let c0_i32_1171 : BitVec 32 := 0#32
  ![v1050.toNat, 0, 0, 0]

def k0_chk23 (i : grid0.Coords) (v1050 : BitVec 32) : Prop :=
  (∀ (k0_h2 : k0_cond2 i = 1#1), ∀ a, (k0_off44 v1050) a + S1x128x8x128.size a ≤ S5120x128x8x128.size a)
theorem k0_off44_inb : ∀ (i : grid0.Coords) (v1050 : BitVec 32) (k0_hw23 : k0_chk23 i v1050), ∀ (k0_h2 : k0_cond2 i = 1#1), ∀ a, (k0_off44 v1050) a + S1x128x8x128.size a ≤ S5120x128x8x128.size a := fun i v1050 k0_hw23 k0_h2 => k0_hw23 k0_h2

def k0_off45 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1172 : BitVec 32 := 16#32
  let v1057 : BitVec 32 := Scalar.muli v977 c16_i32_1172
  let c0_i32_1173 : BitVec 32 := 0#32
  let v1058 : BitVec 32 := Scalar.addi v1057 c0_i32_1173
  let c7_i32_1174 : BitVec 32 := 7#32
  let v1059 : BitVec 32 := Scalar.addi v1058 c7_i32_1174
  let v1060 : Index := Scalar.indexCast v1059
  ![v1060.toNat]
def k0_off46 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off47 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c7_i32_1175 : BitVec 32 := 7#32
  let c0_i32_1176 : BitVec 32 := 0#32
  let c0_i32_1177 : BitVec 32 := 0#32
  let c0_i32_1178 : BitVec 32 := 0#32
  ![v979.toNat, 7, 0, 0, 0]
def k0_off48 (v1061 : BitVec 32) : Fin 4 → Nat :=
  let c0_i32_1179 : BitVec 32 := 0#32
  let c0_i32_1180 : BitVec 32 := 0#32
  let c0_i32_1181 : BitVec 32 := 0#32
  ![v1061.toNat, 0, 0, 0]

def k0_chk24 (i : grid0.Coords) (v1061 : BitVec 32) : Prop :=
  (∀ (k0_h2 : k0_cond2 i = 1#1), ∀ a, (k0_off48 v1061) a + S1x128x8x128.size a ≤ S5120x128x8x128.size a)
theorem k0_off48_inb : ∀ (i : grid0.Coords) (v1061 : BitVec 32) (k0_hw24 : k0_chk24 i v1061), ∀ (k0_h2 : k0_cond2 i = 1#1), ∀ a, (k0_off48 v1061) a + S1x128x8x128.size a ≤ S5120x128x8x128.size a := fun i v1061 k0_hw24 k0_h2 => k0_hw24 k0_h2

def k0_off49 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1182 : BitVec 32 := 16#32
  let v1068 : BitVec 32 := Scalar.muli v977 c16_i32_1182
  let c0_i32_1183 : BitVec 32 := 0#32
  let v1069 : BitVec 32 := Scalar.addi v1068 c0_i32_1183
  let c8_i32_1184 : BitVec 32 := 8#32
  let v1070 : BitVec 32 := Scalar.addi v1069 c8_i32_1184
  let v1071 : Index := Scalar.indexCast v1070
  ![v1071.toNat]
def k0_off50 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off51 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c8_i32_1185 : BitVec 32 := 8#32
  let c0_i32_1186 : BitVec 32 := 0#32
  let c0_i32_1187 : BitVec 32 := 0#32
  let c0_i32_1188 : BitVec 32 := 0#32
  ![v979.toNat, 8, 0, 0, 0]
def k0_off52 (v1072 : BitVec 32) : Fin 4 → Nat :=
  let c0_i32_1189 : BitVec 32 := 0#32
  let c0_i32_1190 : BitVec 32 := 0#32
  let c0_i32_1191 : BitVec 32 := 0#32
  ![v1072.toNat, 0, 0, 0]

def k0_chk25 (i : grid0.Coords) (v1072 : BitVec 32) : Prop :=
  (∀ (k0_h2 : k0_cond2 i = 1#1), ∀ a, (k0_off52 v1072) a + S1x128x8x128.size a ≤ S5120x128x8x128.size a)
theorem k0_off52_inb : ∀ (i : grid0.Coords) (v1072 : BitVec 32) (k0_hw25 : k0_chk25 i v1072), ∀ (k0_h2 : k0_cond2 i = 1#1), ∀ a, (k0_off52 v1072) a + S1x128x8x128.size a ≤ S5120x128x8x128.size a := fun i v1072 k0_hw25 k0_h2 => k0_hw25 k0_h2

def k0_off53 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1192 : BitVec 32 := 16#32
  let v1079 : BitVec 32 := Scalar.muli v977 c16_i32_1192
  let c0_i32_1193 : BitVec 32 := 0#32
  let v1080 : BitVec 32 := Scalar.addi v1079 c0_i32_1193
  let c9_i32_1194 : BitVec 32 := 9#32
  let v1081 : BitVec 32 := Scalar.addi v1080 c9_i32_1194
  let v1082 : Index := Scalar.indexCast v1081
  ![v1082.toNat]
def k0_off54 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off55 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c9_i32_1195 : BitVec 32 := 9#32
  let c0_i32_1196 : BitVec 32 := 0#32
  let c0_i32_1197 : BitVec 32 := 0#32
  let c0_i32_1198 : BitVec 32 := 0#32
  ![v979.toNat, 9, 0, 0, 0]
def k0_off56 (v1083 : BitVec 32) : Fin 4 → Nat :=
  let c0_i32_1199 : BitVec 32 := 0#32
  let c0_i32_1200 : BitVec 32 := 0#32
  let c0_i32_1201 : BitVec 32 := 0#32
  ![v1083.toNat, 0, 0, 0]

def k0_chk26 (i : grid0.Coords) (v1083 : BitVec 32) : Prop :=
  (∀ (k0_h2 : k0_cond2 i = 1#1), ∀ a, (k0_off56 v1083) a + S1x128x8x128.size a ≤ S5120x128x8x128.size a)
theorem k0_off56_inb : ∀ (i : grid0.Coords) (v1083 : BitVec 32) (k0_hw26 : k0_chk26 i v1083), ∀ (k0_h2 : k0_cond2 i = 1#1), ∀ a, (k0_off56 v1083) a + S1x128x8x128.size a ≤ S5120x128x8x128.size a := fun i v1083 k0_hw26 k0_h2 => k0_hw26 k0_h2

def k0_off57 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1202 : BitVec 32 := 16#32
  let v1090 : BitVec 32 := Scalar.muli v977 c16_i32_1202
  let c0_i32_1203 : BitVec 32 := 0#32
  let v1091 : BitVec 32 := Scalar.addi v1090 c0_i32_1203
  let c10_i32_1204 : BitVec 32 := 10#32
  let v1092 : BitVec 32 := Scalar.addi v1091 c10_i32_1204
  let v1093 : Index := Scalar.indexCast v1092
  ![v1093.toNat]
def k0_off58 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off59 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c10_i32_1205 : BitVec 32 := 10#32
  let c0_i32_1206 : BitVec 32 := 0#32
  let c0_i32_1207 : BitVec 32 := 0#32
  let c0_i32_1208 : BitVec 32 := 0#32
  ![v979.toNat, 10, 0, 0, 0]
def k0_off60 (v1094 : BitVec 32) : Fin 4 → Nat :=
  let c0_i32_1209 : BitVec 32 := 0#32
  let c0_i32_1210 : BitVec 32 := 0#32
  let c0_i32_1211 : BitVec 32 := 0#32
  ![v1094.toNat, 0, 0, 0]

def k0_chk27 (i : grid0.Coords) (v1094 : BitVec 32) : Prop :=
  (∀ (k0_h2 : k0_cond2 i = 1#1), ∀ a, (k0_off60 v1094) a + S1x128x8x128.size a ≤ S5120x128x8x128.size a)
theorem k0_off60_inb : ∀ (i : grid0.Coords) (v1094 : BitVec 32) (k0_hw27 : k0_chk27 i v1094), ∀ (k0_h2 : k0_cond2 i = 1#1), ∀ a, (k0_off60 v1094) a + S1x128x8x128.size a ≤ S5120x128x8x128.size a := fun i v1094 k0_hw27 k0_h2 => k0_hw27 k0_h2

def k0_off61 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1212 : BitVec 32 := 16#32
  let v1101 : BitVec 32 := Scalar.muli v977 c16_i32_1212
  let c0_i32_1213 : BitVec 32 := 0#32
  let v1102 : BitVec 32 := Scalar.addi v1101 c0_i32_1213
  let c11_i32_1214 : BitVec 32 := 11#32
  let v1103 : BitVec 32 := Scalar.addi v1102 c11_i32_1214
  let v1104 : Index := Scalar.indexCast v1103
  ![v1104.toNat]
def k0_off62 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off63 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c11_i32_1215 : BitVec 32 := 11#32
  let c0_i32_1216 : BitVec 32 := 0#32
  let c0_i32_1217 : BitVec 32 := 0#32
  let c0_i32_1218 : BitVec 32 := 0#32
  ![v979.toNat, 11, 0, 0, 0]
def k0_off64 (v1105 : BitVec 32) : Fin 4 → Nat :=
  let c0_i32_1219 : BitVec 32 := 0#32
  let c0_i32_1220 : BitVec 32 := 0#32
  let c0_i32_1221 : BitVec 32 := 0#32
  ![v1105.toNat, 0, 0, 0]

def k0_chk28 (i : grid0.Coords) (v1105 : BitVec 32) : Prop :=
  (∀ (k0_h2 : k0_cond2 i = 1#1), ∀ a, (k0_off64 v1105) a + S1x128x8x128.size a ≤ S5120x128x8x128.size a)
theorem k0_off64_inb : ∀ (i : grid0.Coords) (v1105 : BitVec 32) (k0_hw28 : k0_chk28 i v1105), ∀ (k0_h2 : k0_cond2 i = 1#1), ∀ a, (k0_off64 v1105) a + S1x128x8x128.size a ≤ S5120x128x8x128.size a := fun i v1105 k0_hw28 k0_h2 => k0_hw28 k0_h2

def k0_off65 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1222 : BitVec 32 := 16#32
  let v1112 : BitVec 32 := Scalar.muli v977 c16_i32_1222
  let c0_i32_1223 : BitVec 32 := 0#32
  let v1113 : BitVec 32 := Scalar.addi v1112 c0_i32_1223
  let c12_i32_1224 : BitVec 32 := 12#32
  let v1114 : BitVec 32 := Scalar.addi v1113 c12_i32_1224
  let v1115 : Index := Scalar.indexCast v1114
  ![v1115.toNat]
def k0_off66 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off67 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c12_i32_1225 : BitVec 32 := 12#32
  let c0_i32_1226 : BitVec 32 := 0#32
  let c0_i32_1227 : BitVec 32 := 0#32
  let c0_i32_1228 : BitVec 32 := 0#32
  ![v979.toNat, 12, 0, 0, 0]
def k0_off68 (v1116 : BitVec 32) : Fin 4 → Nat :=
  let c0_i32_1229 : BitVec 32 := 0#32
  let c0_i32_1230 : BitVec 32 := 0#32
  let c0_i32_1231 : BitVec 32 := 0#32
  ![v1116.toNat, 0, 0, 0]

def k0_chk29 (i : grid0.Coords) (v1116 : BitVec 32) : Prop :=
  (∀ (k0_h2 : k0_cond2 i = 1#1), ∀ a, (k0_off68 v1116) a + S1x128x8x128.size a ≤ S5120x128x8x128.size a)
theorem k0_off68_inb : ∀ (i : grid0.Coords) (v1116 : BitVec 32) (k0_hw29 : k0_chk29 i v1116), ∀ (k0_h2 : k0_cond2 i = 1#1), ∀ a, (k0_off68 v1116) a + S1x128x8x128.size a ≤ S5120x128x8x128.size a := fun i v1116 k0_hw29 k0_h2 => k0_hw29 k0_h2

def k0_off69 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1232 : BitVec 32 := 16#32
  let v1123 : BitVec 32 := Scalar.muli v977 c16_i32_1232
  let c0_i32_1233 : BitVec 32 := 0#32
  let v1124 : BitVec 32 := Scalar.addi v1123 c0_i32_1233
  let c13_i32_1234 : BitVec 32 := 13#32
  let v1125 : BitVec 32 := Scalar.addi v1124 c13_i32_1234
  let v1126 : Index := Scalar.indexCast v1125
  ![v1126.toNat]
def k0_off70 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off71 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c13_i32_1235 : BitVec 32 := 13#32
  let c0_i32_1236 : BitVec 32 := 0#32
  let c0_i32_1237 : BitVec 32 := 0#32
  let c0_i32_1238 : BitVec 32 := 0#32
  ![v979.toNat, 13, 0, 0, 0]
def k0_off72 (v1127 : BitVec 32) : Fin 4 → Nat :=
  let c0_i32_1239 : BitVec 32 := 0#32
  let c0_i32_1240 : BitVec 32 := 0#32
  let c0_i32_1241 : BitVec 32 := 0#32
  ![v1127.toNat, 0, 0, 0]

def k0_chk30 (i : grid0.Coords) (v1127 : BitVec 32) : Prop :=
  (∀ (k0_h2 : k0_cond2 i = 1#1), ∀ a, (k0_off72 v1127) a + S1x128x8x128.size a ≤ S5120x128x8x128.size a)
theorem k0_off72_inb : ∀ (i : grid0.Coords) (v1127 : BitVec 32) (k0_hw30 : k0_chk30 i v1127), ∀ (k0_h2 : k0_cond2 i = 1#1), ∀ a, (k0_off72 v1127) a + S1x128x8x128.size a ≤ S5120x128x8x128.size a := fun i v1127 k0_hw30 k0_h2 => k0_hw30 k0_h2

def k0_off73 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1242 : BitVec 32 := 16#32
  let v1134 : BitVec 32 := Scalar.muli v977 c16_i32_1242
  let c0_i32_1243 : BitVec 32 := 0#32
  let v1135 : BitVec 32 := Scalar.addi v1134 c0_i32_1243
  let c14_i32_1244 : BitVec 32 := 14#32
  let v1136 : BitVec 32 := Scalar.addi v1135 c14_i32_1244
  let v1137 : Index := Scalar.indexCast v1136
  ![v1137.toNat]
def k0_off74 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off75 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c14_i32_1245 : BitVec 32 := 14#32
  let c0_i32_1246 : BitVec 32 := 0#32
  let c0_i32_1247 : BitVec 32 := 0#32
  let c0_i32_1248 : BitVec 32 := 0#32
  ![v979.toNat, 14, 0, 0, 0]
def k0_off76 (v1138 : BitVec 32) : Fin 4 → Nat :=
  let c0_i32_1249 : BitVec 32 := 0#32
  let c0_i32_1250 : BitVec 32 := 0#32
  let c0_i32_1251 : BitVec 32 := 0#32
  ![v1138.toNat, 0, 0, 0]

def k0_chk31 (i : grid0.Coords) (v1138 : BitVec 32) : Prop :=
  (∀ (k0_h2 : k0_cond2 i = 1#1), ∀ a, (k0_off76 v1138) a + S1x128x8x128.size a ≤ S5120x128x8x128.size a)
theorem k0_off76_inb : ∀ (i : grid0.Coords) (v1138 : BitVec 32) (k0_hw31 : k0_chk31 i v1138), ∀ (k0_h2 : k0_cond2 i = 1#1), ∀ a, (k0_off76 v1138) a + S1x128x8x128.size a ≤ S5120x128x8x128.size a := fun i v1138 k0_hw31 k0_h2 => k0_hw31 k0_h2

def k0_off77 (i : grid0.Coords) : Fin 1 → Nat :=
  let arg0 : BitVec 32 := BitVec.ofNat 32 (i 0).val
  let c1_i32_1099 : BitVec 32 := 1#32
  let v977 : BitVec 32 := Scalar.addi arg0 c1_i32_1099
  let c16_i32_1252 : BitVec 32 := 16#32
  let v1145 : BitVec 32 := Scalar.muli v977 c16_i32_1252
  let c0_i32_1253 : BitVec 32 := 0#32
  let v1146 : BitVec 32 := Scalar.addi v1145 c0_i32_1253
  let c15_i32_1254 : BitVec 32 := 15#32
  let v1147 : BitVec 32 := Scalar.addi v1146 c15_i32_1254
  let v1148 : Index := Scalar.indexCast v1147
  ![v1148.toNat]
def k0_off78 (i : grid0.Coords) : Fin 1 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  ![v979.toNat]
def k0_off79 (i : grid0.Coords) : Fin 5 → Nat :=
  let arg0 : BitVec 32 := BitVec.ofNat 32 (i 0).val
  let c1_i32 : BitVec 32 := 1#32
  let v3 : BitVec 32 := Scalar.muli arg0 c1_i32
  let c0_i32_1 : BitVec 32 := 0#32
  let v4 : BitVec 32 := Scalar.addi v3 c0_i32_1
  let c1_i32_1100 : BitVec 32 := 1#32
  let v978 : BitVec 32 := Scalar.addi v4 c1_i32_1100
  let c2_i32_1101 : BitVec 32 := 2#32
  let v979 : BitVec 32 := Scalar.remsi v978 c2_i32_1101
  let c15_i32_1255 : BitVec 32 := 15#32
  let c0_i32_1256 : BitVec 32 := 0#32
  let c0_i32_1257 : BitVec 32 := 0#32
  let c0_i32_1258 : BitVec 32 := 0#32
  ![v979.toNat, 15, 0, 0, 0]
def k0_off80 (v1149 : BitVec 32) : Fin 4 → Nat :=
  let c0_i32_1259 : BitVec 32 := 0#32
  let c0_i32_1260 : BitVec 32 := 0#32
  let c0_i32_1261 : BitVec 32 := 0#32
  ![v1149.toNat, 0, 0, 0]

def k0_chk32 (i : grid0.Coords) (v1149 : BitVec 32) : Prop :=
  (∀ (k0_h2 : k0_cond2 i = 1#1), ∀ a, (k0_off80 v1149) a + S1x128x8x128.size a ≤ S5120x128x8x128.size a)
theorem k0_off80_inb : ∀ (i : grid0.Coords) (v1149 : BitVec 32) (k0_hw32 : k0_chk32 i v1149), ∀ (k0_h2 : k0_cond2 i = 1#1), ∀ a, (k0_off80 v1149) a + S1x128x8x128.size a ≤ S5120x128x8x128.size a := fun i v1149 k0_hw32 k0_h2 => k0_hw32 k0_h2

def k0_off81 (i : grid0.Coords) : Fin 1 → Nat :=
  let arg0 : BitVec 32 := BitVec.ofNat 32 (i 0).val
  let c16_i32 : BitVec 32 := 16#32
  let v49 : BitVec 32 := Scalar.muli arg0 c16_i32
  let c0_i32_31 : BitVec 32 := 0#32
  let v50 : BitVec 32 := Scalar.addi v49 c0_i32_31
  let c0_i32_32 : BitVec 32 := 0#32
  let v51 : BitVec 32 := Scalar.addi v50 c0_i32_32
  let v52 : Index := Scalar.indexCast v51
  ![v52.toNat]
def k0_off82 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off83 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c0_i32_33 : BitVec 32 := 0#32
  let c0_i32_34 : BitVec 32 := 0#32
  let c0_i32_35 : BitVec 32 := 0#32
  let c0_i32_36 : BitVec 32 := 0#32
  ![v48.toNat, 0, 0, 0, 0]
def k0_off84 (v53 : BitVec 32) : Fin 4 → Nat :=
  let c0_i32_37 : BitVec 32 := 0#32
  let c0_i32_38 : BitVec 32 := 0#32
  let c0_i32_39 : BitVec 32 := 0#32
  ![v53.toNat, 0, 0, 0]

def k0_chk33 (v53 : BitVec 32) : Prop :=
  (∀ a, (k0_off84 v53) a + S1x128x8x128.size a ≤ S5120x128x8x128.size a)
theorem k0_off84_inb : ∀ (v53 : BitVec 32) (k0_hw33 : k0_chk33 v53), ∀ a, (k0_off84 v53) a + S1x128x8x128.size a ≤ S5120x128x8x128.size a := fun v53 k0_hw33 => k0_hw33

def k0_off85 (i : grid0.Coords) : Fin 1 → Nat :=
  let arg0 : BitVec 32 := BitVec.ofNat 32 (i 0).val
  let c16_i32_40 : BitVec 32 := 16#32
  let v60 : BitVec 32 := Scalar.muli arg0 c16_i32_40
  let c0_i32_41 : BitVec 32 := 0#32
  let v61 : BitVec 32 := Scalar.addi v60 c0_i32_41
  let c1_i32_42 : BitVec 32 := 1#32
  let v62 : BitVec 32 := Scalar.addi v61 c1_i32_42
  let v63 : Index := Scalar.indexCast v62
  ![v63.toNat]
def k0_off86 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off87 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c1_i32_43 : BitVec 32 := 1#32
  let c0_i32_44 : BitVec 32 := 0#32
  let c0_i32_45 : BitVec 32 := 0#32
  let c0_i32_46 : BitVec 32 := 0#32
  ![v48.toNat, 1, 0, 0, 0]
def k0_off88 (v64 : BitVec 32) : Fin 4 → Nat :=
  let c0_i32_47 : BitVec 32 := 0#32
  let c0_i32_48 : BitVec 32 := 0#32
  let c0_i32_49 : BitVec 32 := 0#32
  ![v64.toNat, 0, 0, 0]

def k0_chk34 (v64 : BitVec 32) : Prop :=
  (∀ a, (k0_off88 v64) a + S1x128x8x128.size a ≤ S5120x128x8x128.size a)
theorem k0_off88_inb : ∀ (v64 : BitVec 32) (k0_hw34 : k0_chk34 v64), ∀ a, (k0_off88 v64) a + S1x128x8x128.size a ≤ S5120x128x8x128.size a := fun v64 k0_hw34 => k0_hw34

def k0_off89 (i : grid0.Coords) : Fin 1 → Nat :=
  let arg0 : BitVec 32 := BitVec.ofNat 32 (i 0).val
  let c16_i32_50 : BitVec 32 := 16#32
  let v71 : BitVec 32 := Scalar.muli arg0 c16_i32_50
  let c0_i32_51 : BitVec 32 := 0#32
  let v72 : BitVec 32 := Scalar.addi v71 c0_i32_51
  let c2_i32_52 : BitVec 32 := 2#32
  let v73 : BitVec 32 := Scalar.addi v72 c2_i32_52
  let v74 : Index := Scalar.indexCast v73
  ![v74.toNat]
def k0_off90 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off91 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c2_i32_53 : BitVec 32 := 2#32
  let c0_i32_54 : BitVec 32 := 0#32
  let c0_i32_55 : BitVec 32 := 0#32
  let c0_i32_56 : BitVec 32 := 0#32
  ![v48.toNat, 2, 0, 0, 0]
def k0_off92 (v75 : BitVec 32) : Fin 4 → Nat :=
  let c0_i32_57 : BitVec 32 := 0#32
  let c0_i32_58 : BitVec 32 := 0#32
  let c0_i32_59 : BitVec 32 := 0#32
  ![v75.toNat, 0, 0, 0]

def k0_chk35 (v75 : BitVec 32) : Prop :=
  (∀ a, (k0_off92 v75) a + S1x128x8x128.size a ≤ S5120x128x8x128.size a)
theorem k0_off92_inb : ∀ (v75 : BitVec 32) (k0_hw35 : k0_chk35 v75), ∀ a, (k0_off92 v75) a + S1x128x8x128.size a ≤ S5120x128x8x128.size a := fun v75 k0_hw35 => k0_hw35

def k0_off93 (i : grid0.Coords) : Fin 1 → Nat :=
  let arg0 : BitVec 32 := BitVec.ofNat 32 (i 0).val
  let c16_i32_60 : BitVec 32 := 16#32
  let v82 : BitVec 32 := Scalar.muli arg0 c16_i32_60
  let c0_i32_61 : BitVec 32 := 0#32
  let v83 : BitVec 32 := Scalar.addi v82 c0_i32_61
  let c3_i32 : BitVec 32 := 3#32
  let v84 : BitVec 32 := Scalar.addi v83 c3_i32
  let v85 : Index := Scalar.indexCast v84
  ![v85.toNat]
def k0_off94 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off95 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c3_i32_62 : BitVec 32 := 3#32
  let c0_i32_63 : BitVec 32 := 0#32
  let c0_i32_64 : BitVec 32 := 0#32
  let c0_i32_65 : BitVec 32 := 0#32
  ![v48.toNat, 3, 0, 0, 0]
def k0_off96 (v86 : BitVec 32) : Fin 4 → Nat :=
  let c0_i32_66 : BitVec 32 := 0#32
  let c0_i32_67 : BitVec 32 := 0#32
  let c0_i32_68 : BitVec 32 := 0#32
  ![v86.toNat, 0, 0, 0]

def k0_chk36 (v86 : BitVec 32) : Prop :=
  (∀ a, (k0_off96 v86) a + S1x128x8x128.size a ≤ S5120x128x8x128.size a)
theorem k0_off96_inb : ∀ (v86 : BitVec 32) (k0_hw36 : k0_chk36 v86), ∀ a, (k0_off96 v86) a + S1x128x8x128.size a ≤ S5120x128x8x128.size a := fun v86 k0_hw36 => k0_hw36

def k0_off97 (i : grid0.Coords) : Fin 1 → Nat :=
  let arg0 : BitVec 32 := BitVec.ofNat 32 (i 0).val
  let c16_i32_69 : BitVec 32 := 16#32
  let v93 : BitVec 32 := Scalar.muli arg0 c16_i32_69
  let c0_i32_70 : BitVec 32 := 0#32
  let v94 : BitVec 32 := Scalar.addi v93 c0_i32_70
  let c4_i32 : BitVec 32 := 4#32
  let v95 : BitVec 32 := Scalar.addi v94 c4_i32
  let v96 : Index := Scalar.indexCast v95
  ![v96.toNat]
def k0_off98 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off99 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c4_i32_71 : BitVec 32 := 4#32
  let c0_i32_72 : BitVec 32 := 0#32
  let c0_i32_73 : BitVec 32 := 0#32
  let c0_i32_74 : BitVec 32 := 0#32
  ![v48.toNat, 4, 0, 0, 0]
def k0_off100 (v97 : BitVec 32) : Fin 4 → Nat :=
  let c0_i32_75 : BitVec 32 := 0#32
  let c0_i32_76 : BitVec 32 := 0#32
  let c0_i32_77 : BitVec 32 := 0#32
  ![v97.toNat, 0, 0, 0]

def k0_chk37 (v97 : BitVec 32) : Prop :=
  (∀ a, (k0_off100 v97) a + S1x128x8x128.size a ≤ S5120x128x8x128.size a)
theorem k0_off100_inb : ∀ (v97 : BitVec 32) (k0_hw37 : k0_chk37 v97), ∀ a, (k0_off100 v97) a + S1x128x8x128.size a ≤ S5120x128x8x128.size a := fun v97 k0_hw37 => k0_hw37

def k0_off101 (i : grid0.Coords) : Fin 1 → Nat :=
  let arg0 : BitVec 32 := BitVec.ofNat 32 (i 0).val
  let c16_i32_78 : BitVec 32 := 16#32
  let v104 : BitVec 32 := Scalar.muli arg0 c16_i32_78
  let c0_i32_79 : BitVec 32 := 0#32
  let v105 : BitVec 32 := Scalar.addi v104 c0_i32_79
  let c5_i32 : BitVec 32 := 5#32
  let v106 : BitVec 32 := Scalar.addi v105 c5_i32
  let v107 : Index := Scalar.indexCast v106
  ![v107.toNat]
def k0_off102 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off103 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c5_i32_80 : BitVec 32 := 5#32
  let c0_i32_81 : BitVec 32 := 0#32
  let c0_i32_82 : BitVec 32 := 0#32
  let c0_i32_83 : BitVec 32 := 0#32
  ![v48.toNat, 5, 0, 0, 0]
def k0_off104 (v108 : BitVec 32) : Fin 4 → Nat :=
  let c0_i32_84 : BitVec 32 := 0#32
  let c0_i32_85 : BitVec 32 := 0#32
  let c0_i32_86 : BitVec 32 := 0#32
  ![v108.toNat, 0, 0, 0]

def k0_chk38 (v108 : BitVec 32) : Prop :=
  (∀ a, (k0_off104 v108) a + S1x128x8x128.size a ≤ S5120x128x8x128.size a)
theorem k0_off104_inb : ∀ (v108 : BitVec 32) (k0_hw38 : k0_chk38 v108), ∀ a, (k0_off104 v108) a + S1x128x8x128.size a ≤ S5120x128x8x128.size a := fun v108 k0_hw38 => k0_hw38

def k0_off105 (i : grid0.Coords) : Fin 1 → Nat :=
  let arg0 : BitVec 32 := BitVec.ofNat 32 (i 0).val
  let c16_i32_87 : BitVec 32 := 16#32
  let v115 : BitVec 32 := Scalar.muli arg0 c16_i32_87
  let c0_i32_88 : BitVec 32 := 0#32
  let v116 : BitVec 32 := Scalar.addi v115 c0_i32_88
  let c6_i32 : BitVec 32 := 6#32
  let v117 : BitVec 32 := Scalar.addi v116 c6_i32
  let v118 : Index := Scalar.indexCast v117
  ![v118.toNat]
def k0_off106 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off107 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c6_i32_89 : BitVec 32 := 6#32
  let c0_i32_90 : BitVec 32 := 0#32
  let c0_i32_91 : BitVec 32 := 0#32
  let c0_i32_92 : BitVec 32 := 0#32
  ![v48.toNat, 6, 0, 0, 0]
def k0_off108 (v119 : BitVec 32) : Fin 4 → Nat :=
  let c0_i32_93 : BitVec 32 := 0#32
  let c0_i32_94 : BitVec 32 := 0#32
  let c0_i32_95 : BitVec 32 := 0#32
  ![v119.toNat, 0, 0, 0]

def k0_chk39 (v119 : BitVec 32) : Prop :=
  (∀ a, (k0_off108 v119) a + S1x128x8x128.size a ≤ S5120x128x8x128.size a)
theorem k0_off108_inb : ∀ (v119 : BitVec 32) (k0_hw39 : k0_chk39 v119), ∀ a, (k0_off108 v119) a + S1x128x8x128.size a ≤ S5120x128x8x128.size a := fun v119 k0_hw39 => k0_hw39

def k0_off109 (i : grid0.Coords) : Fin 1 → Nat :=
  let arg0 : BitVec 32 := BitVec.ofNat 32 (i 0).val
  let c16_i32_96 : BitVec 32 := 16#32
  let v126 : BitVec 32 := Scalar.muli arg0 c16_i32_96
  let c0_i32_97 : BitVec 32 := 0#32
  let v127 : BitVec 32 := Scalar.addi v126 c0_i32_97
  let c7_i32 : BitVec 32 := 7#32
  let v128 : BitVec 32 := Scalar.addi v127 c7_i32
  let v129 : Index := Scalar.indexCast v128
  ![v129.toNat]
def k0_off110 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off111 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c7_i32_98 : BitVec 32 := 7#32
  let c0_i32_99 : BitVec 32 := 0#32
  let c0_i32_100 : BitVec 32 := 0#32
  let c0_i32_101 : BitVec 32 := 0#32
  ![v48.toNat, 7, 0, 0, 0]
def k0_off112 (v130 : BitVec 32) : Fin 4 → Nat :=
  let c0_i32_102 : BitVec 32 := 0#32
  let c0_i32_103 : BitVec 32 := 0#32
  let c0_i32_104 : BitVec 32 := 0#32
  ![v130.toNat, 0, 0, 0]

def k0_chk40 (v130 : BitVec 32) : Prop :=
  (∀ a, (k0_off112 v130) a + S1x128x8x128.size a ≤ S5120x128x8x128.size a)
theorem k0_off112_inb : ∀ (v130 : BitVec 32) (k0_hw40 : k0_chk40 v130), ∀ a, (k0_off112 v130) a + S1x128x8x128.size a ≤ S5120x128x8x128.size a := fun v130 k0_hw40 => k0_hw40

def k0_off113 (i : grid0.Coords) : Fin 1 → Nat :=
  let arg0 : BitVec 32 := BitVec.ofNat 32 (i 0).val
  let c16_i32_105 : BitVec 32 := 16#32
  let v137 : BitVec 32 := Scalar.muli arg0 c16_i32_105
  let c0_i32_106 : BitVec 32 := 0#32
  let v138 : BitVec 32 := Scalar.addi v137 c0_i32_106
  let c8_i32 : BitVec 32 := 8#32
  let v139 : BitVec 32 := Scalar.addi v138 c8_i32
  let v140 : Index := Scalar.indexCast v139
  ![v140.toNat]
def k0_off114 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off115 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c8_i32_107 : BitVec 32 := 8#32
  let c0_i32_108 : BitVec 32 := 0#32
  let c0_i32_109 : BitVec 32 := 0#32
  let c0_i32_110 : BitVec 32 := 0#32
  ![v48.toNat, 8, 0, 0, 0]
def k0_off116 (v141 : BitVec 32) : Fin 4 → Nat :=
  let c0_i32_111 : BitVec 32 := 0#32
  let c0_i32_112 : BitVec 32 := 0#32
  let c0_i32_113 : BitVec 32 := 0#32
  ![v141.toNat, 0, 0, 0]

def k0_chk41 (v141 : BitVec 32) : Prop :=
  (∀ a, (k0_off116 v141) a + S1x128x8x128.size a ≤ S5120x128x8x128.size a)
theorem k0_off116_inb : ∀ (v141 : BitVec 32) (k0_hw41 : k0_chk41 v141), ∀ a, (k0_off116 v141) a + S1x128x8x128.size a ≤ S5120x128x8x128.size a := fun v141 k0_hw41 => k0_hw41

def k0_off117 (i : grid0.Coords) : Fin 1 → Nat :=
  let arg0 : BitVec 32 := BitVec.ofNat 32 (i 0).val
  let c16_i32_114 : BitVec 32 := 16#32
  let v148 : BitVec 32 := Scalar.muli arg0 c16_i32_114
  let c0_i32_115 : BitVec 32 := 0#32
  let v149 : BitVec 32 := Scalar.addi v148 c0_i32_115
  let c9_i32 : BitVec 32 := 9#32
  let v150 : BitVec 32 := Scalar.addi v149 c9_i32
  let v151 : Index := Scalar.indexCast v150
  ![v151.toNat]
def k0_off118 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off119 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c9_i32_116 : BitVec 32 := 9#32
  let c0_i32_117 : BitVec 32 := 0#32
  let c0_i32_118 : BitVec 32 := 0#32
  let c0_i32_119 : BitVec 32 := 0#32
  ![v48.toNat, 9, 0, 0, 0]
def k0_off120 (v152 : BitVec 32) : Fin 4 → Nat :=
  let c0_i32_120 : BitVec 32 := 0#32
  let c0_i32_121 : BitVec 32 := 0#32
  let c0_i32_122 : BitVec 32 := 0#32
  ![v152.toNat, 0, 0, 0]

def k0_chk42 (v152 : BitVec 32) : Prop :=
  (∀ a, (k0_off120 v152) a + S1x128x8x128.size a ≤ S5120x128x8x128.size a)
theorem k0_off120_inb : ∀ (v152 : BitVec 32) (k0_hw42 : k0_chk42 v152), ∀ a, (k0_off120 v152) a + S1x128x8x128.size a ≤ S5120x128x8x128.size a := fun v152 k0_hw42 => k0_hw42

def k0_off121 (i : grid0.Coords) : Fin 1 → Nat :=
  let arg0 : BitVec 32 := BitVec.ofNat 32 (i 0).val
  let c16_i32_123 : BitVec 32 := 16#32
  let v159 : BitVec 32 := Scalar.muli arg0 c16_i32_123
  let c0_i32_124 : BitVec 32 := 0#32
  let v160 : BitVec 32 := Scalar.addi v159 c0_i32_124
  let c10_i32 : BitVec 32 := 10#32
  let v161 : BitVec 32 := Scalar.addi v160 c10_i32
  let v162 : Index := Scalar.indexCast v161
  ![v162.toNat]
def k0_off122 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off123 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c10_i32_125 : BitVec 32 := 10#32
  let c0_i32_126 : BitVec 32 := 0#32
  let c0_i32_127 : BitVec 32 := 0#32
  let c0_i32_128 : BitVec 32 := 0#32
  ![v48.toNat, 10, 0, 0, 0]
def k0_off124 (v163 : BitVec 32) : Fin 4 → Nat :=
  let c0_i32_129 : BitVec 32 := 0#32
  let c0_i32_130 : BitVec 32 := 0#32
  let c0_i32_131 : BitVec 32 := 0#32
  ![v163.toNat, 0, 0, 0]

def k0_chk43 (v163 : BitVec 32) : Prop :=
  (∀ a, (k0_off124 v163) a + S1x128x8x128.size a ≤ S5120x128x8x128.size a)
theorem k0_off124_inb : ∀ (v163 : BitVec 32) (k0_hw43 : k0_chk43 v163), ∀ a, (k0_off124 v163) a + S1x128x8x128.size a ≤ S5120x128x8x128.size a := fun v163 k0_hw43 => k0_hw43

def k0_off125 (i : grid0.Coords) : Fin 1 → Nat :=
  let arg0 : BitVec 32 := BitVec.ofNat 32 (i 0).val
  let c16_i32_132 : BitVec 32 := 16#32
  let v170 : BitVec 32 := Scalar.muli arg0 c16_i32_132
  let c0_i32_133 : BitVec 32 := 0#32
  let v171 : BitVec 32 := Scalar.addi v170 c0_i32_133
  let c11_i32 : BitVec 32 := 11#32
  let v172 : BitVec 32 := Scalar.addi v171 c11_i32
  let v173 : Index := Scalar.indexCast v172
  ![v173.toNat]
def k0_off126 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off127 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c11_i32_134 : BitVec 32 := 11#32
  let c0_i32_135 : BitVec 32 := 0#32
  let c0_i32_136 : BitVec 32 := 0#32
  let c0_i32_137 : BitVec 32 := 0#32
  ![v48.toNat, 11, 0, 0, 0]
def k0_off128 (v174 : BitVec 32) : Fin 4 → Nat :=
  let c0_i32_138 : BitVec 32 := 0#32
  let c0_i32_139 : BitVec 32 := 0#32
  let c0_i32_140 : BitVec 32 := 0#32
  ![v174.toNat, 0, 0, 0]

def k0_chk44 (v174 : BitVec 32) : Prop :=
  (∀ a, (k0_off128 v174) a + S1x128x8x128.size a ≤ S5120x128x8x128.size a)
theorem k0_off128_inb : ∀ (v174 : BitVec 32) (k0_hw44 : k0_chk44 v174), ∀ a, (k0_off128 v174) a + S1x128x8x128.size a ≤ S5120x128x8x128.size a := fun v174 k0_hw44 => k0_hw44

def k0_off129 (i : grid0.Coords) : Fin 1 → Nat :=
  let arg0 : BitVec 32 := BitVec.ofNat 32 (i 0).val
  let c16_i32_141 : BitVec 32 := 16#32
  let v181 : BitVec 32 := Scalar.muli arg0 c16_i32_141
  let c0_i32_142 : BitVec 32 := 0#32
  let v182 : BitVec 32 := Scalar.addi v181 c0_i32_142
  let c12_i32 : BitVec 32 := 12#32
  let v183 : BitVec 32 := Scalar.addi v182 c12_i32
  let v184 : Index := Scalar.indexCast v183
  ![v184.toNat]
def k0_off130 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off131 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c12_i32_143 : BitVec 32 := 12#32
  let c0_i32_144 : BitVec 32 := 0#32
  let c0_i32_145 : BitVec 32 := 0#32
  let c0_i32_146 : BitVec 32 := 0#32
  ![v48.toNat, 12, 0, 0, 0]
def k0_off132 (v185 : BitVec 32) : Fin 4 → Nat :=
  let c0_i32_147 : BitVec 32 := 0#32
  let c0_i32_148 : BitVec 32 := 0#32
  let c0_i32_149 : BitVec 32 := 0#32
  ![v185.toNat, 0, 0, 0]

def k0_chk45 (v185 : BitVec 32) : Prop :=
  (∀ a, (k0_off132 v185) a + S1x128x8x128.size a ≤ S5120x128x8x128.size a)
theorem k0_off132_inb : ∀ (v185 : BitVec 32) (k0_hw45 : k0_chk45 v185), ∀ a, (k0_off132 v185) a + S1x128x8x128.size a ≤ S5120x128x8x128.size a := fun v185 k0_hw45 => k0_hw45

def k0_off133 (i : grid0.Coords) : Fin 1 → Nat :=
  let arg0 : BitVec 32 := BitVec.ofNat 32 (i 0).val
  let c16_i32_150 : BitVec 32 := 16#32
  let v192 : BitVec 32 := Scalar.muli arg0 c16_i32_150
  let c0_i32_151 : BitVec 32 := 0#32
  let v193 : BitVec 32 := Scalar.addi v192 c0_i32_151
  let c13_i32 : BitVec 32 := 13#32
  let v194 : BitVec 32 := Scalar.addi v193 c13_i32
  let v195 : Index := Scalar.indexCast v194
  ![v195.toNat]
def k0_off134 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off135 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c13_i32_152 : BitVec 32 := 13#32
  let c0_i32_153 : BitVec 32 := 0#32
  let c0_i32_154 : BitVec 32 := 0#32
  let c0_i32_155 : BitVec 32 := 0#32
  ![v48.toNat, 13, 0, 0, 0]
def k0_off136 (v196 : BitVec 32) : Fin 4 → Nat :=
  let c0_i32_156 : BitVec 32 := 0#32
  let c0_i32_157 : BitVec 32 := 0#32
  let c0_i32_158 : BitVec 32 := 0#32
  ![v196.toNat, 0, 0, 0]

def k0_chk46 (v196 : BitVec 32) : Prop :=
  (∀ a, (k0_off136 v196) a + S1x128x8x128.size a ≤ S5120x128x8x128.size a)
theorem k0_off136_inb : ∀ (v196 : BitVec 32) (k0_hw46 : k0_chk46 v196), ∀ a, (k0_off136 v196) a + S1x128x8x128.size a ≤ S5120x128x8x128.size a := fun v196 k0_hw46 => k0_hw46

def k0_off137 (i : grid0.Coords) : Fin 1 → Nat :=
  let arg0 : BitVec 32 := BitVec.ofNat 32 (i 0).val
  let c16_i32_159 : BitVec 32 := 16#32
  let v203 : BitVec 32 := Scalar.muli arg0 c16_i32_159
  let c0_i32_160 : BitVec 32 := 0#32
  let v204 : BitVec 32 := Scalar.addi v203 c0_i32_160
  let c14_i32 : BitVec 32 := 14#32
  let v205 : BitVec 32 := Scalar.addi v204 c14_i32
  let v206 : Index := Scalar.indexCast v205
  ![v206.toNat]
def k0_off138 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off139 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c14_i32_161 : BitVec 32 := 14#32
  let c0_i32_162 : BitVec 32 := 0#32
  let c0_i32_163 : BitVec 32 := 0#32
  let c0_i32_164 : BitVec 32 := 0#32
  ![v48.toNat, 14, 0, 0, 0]
def k0_off140 (v207 : BitVec 32) : Fin 4 → Nat :=
  let c0_i32_165 : BitVec 32 := 0#32
  let c0_i32_166 : BitVec 32 := 0#32
  let c0_i32_167 : BitVec 32 := 0#32
  ![v207.toNat, 0, 0, 0]

def k0_chk47 (v207 : BitVec 32) : Prop :=
  (∀ a, (k0_off140 v207) a + S1x128x8x128.size a ≤ S5120x128x8x128.size a)
theorem k0_off140_inb : ∀ (v207 : BitVec 32) (k0_hw47 : k0_chk47 v207), ∀ a, (k0_off140 v207) a + S1x128x8x128.size a ≤ S5120x128x8x128.size a := fun v207 k0_hw47 => k0_hw47

def k0_off141 (i : grid0.Coords) : Fin 1 → Nat :=
  let arg0 : BitVec 32 := BitVec.ofNat 32 (i 0).val
  let c16_i32_168 : BitVec 32 := 16#32
  let v214 : BitVec 32 := Scalar.muli arg0 c16_i32_168
  let c0_i32_169 : BitVec 32 := 0#32
  let v215 : BitVec 32 := Scalar.addi v214 c0_i32_169
  let c15_i32 : BitVec 32 := 15#32
  let v216 : BitVec 32 := Scalar.addi v215 c15_i32
  let v217 : Index := Scalar.indexCast v216
  ![v217.toNat]
def k0_off142 (i : grid0.Coords) : Fin 1 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  ![v48.toNat]
def k0_off143 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c15_i32_170 : BitVec 32 := 15#32
  let c0_i32_171 : BitVec 32 := 0#32
  let c0_i32_172 : BitVec 32 := 0#32
  let c0_i32_173 : BitVec 32 := 0#32
  ![v48.toNat, 15, 0, 0, 0]
def k0_off144 (v218 : BitVec 32) : Fin 4 → Nat :=
  let c0_i32_174 : BitVec 32 := 0#32
  let c0_i32_175 : BitVec 32 := 0#32
  let c0_i32_176 : BitVec 32 := 0#32
  ![v218.toNat, 0, 0, 0]

def k0_chk48 (v218 : BitVec 32) : Prop :=
  (∀ a, (k0_off144 v218) a + S1x128x8x128.size a ≤ S5120x128x8x128.size a)
theorem k0_off144_inb : ∀ (v218 : BitVec 32) (k0_hw48 : k0_chk48 v218), ∀ a, (k0_off144 v218) a + S1x128x8x128.size a ≤ S5120x128x8x128.size a := fun v218 k0_hw48 => k0_hw48

def k0_off145 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c0_i32_177 : BitVec 32 := 0#32
  let c0_i32_178 : BitVec 32 := 0#32
  let c0_i32_179 : BitVec 32 := 0#32
  let c0_i32_180 : BitVec 32 := 0#32
  ![v48.toNat, 0, 0, 0, 0]
def k0_off146 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c1_i32_229 : BitVec 32 := 1#32
  let c0_i32_230 : BitVec 32 := 0#32
  let c0_i32_231 : BitVec 32 := 0#32
  let c0_i32_232 : BitVec 32 := 0#32
  ![v48.toNat, 1, 0, 0, 0]
def k0_off147 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c2_i32_287 : BitVec 32 := 2#32
  let c0_i32_288 : BitVec 32 := 0#32
  let c0_i32_289 : BitVec 32 := 0#32
  let c0_i32_290 : BitVec 32 := 0#32
  ![v48.toNat, 2, 0, 0, 0]
def k0_off148 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c3_i32_345 : BitVec 32 := 3#32
  let c0_i32_346 : BitVec 32 := 0#32
  let c0_i32_347 : BitVec 32 := 0#32
  let c0_i32_348 : BitVec 32 := 0#32
  ![v48.toNat, 3, 0, 0, 0]
def k0_off149 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c4_i32_403 : BitVec 32 := 4#32
  let c0_i32_404 : BitVec 32 := 0#32
  let c0_i32_405 : BitVec 32 := 0#32
  let c0_i32_406 : BitVec 32 := 0#32
  ![v48.toNat, 4, 0, 0, 0]
def k0_off150 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c5_i32_461 : BitVec 32 := 5#32
  let c0_i32_462 : BitVec 32 := 0#32
  let c0_i32_463 : BitVec 32 := 0#32
  let c0_i32_464 : BitVec 32 := 0#32
  ![v48.toNat, 5, 0, 0, 0]
def k0_off151 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c6_i32_519 : BitVec 32 := 6#32
  let c0_i32_520 : BitVec 32 := 0#32
  let c0_i32_521 : BitVec 32 := 0#32
  let c0_i32_522 : BitVec 32 := 0#32
  ![v48.toNat, 6, 0, 0, 0]
def k0_off152 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c7_i32_577 : BitVec 32 := 7#32
  let c0_i32_578 : BitVec 32 := 0#32
  let c0_i32_579 : BitVec 32 := 0#32
  let c0_i32_580 : BitVec 32 := 0#32
  ![v48.toNat, 7, 0, 0, 0]
def k0_off153 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c8_i32_635 : BitVec 32 := 8#32
  let c0_i32_636 : BitVec 32 := 0#32
  let c0_i32_637 : BitVec 32 := 0#32
  let c0_i32_638 : BitVec 32 := 0#32
  ![v48.toNat, 8, 0, 0, 0]
def k0_off154 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c9_i32_693 : BitVec 32 := 9#32
  let c0_i32_694 : BitVec 32 := 0#32
  let c0_i32_695 : BitVec 32 := 0#32
  let c0_i32_696 : BitVec 32 := 0#32
  ![v48.toNat, 9, 0, 0, 0]
def k0_off155 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c10_i32_751 : BitVec 32 := 10#32
  let c0_i32_752 : BitVec 32 := 0#32
  let c0_i32_753 : BitVec 32 := 0#32
  let c0_i32_754 : BitVec 32 := 0#32
  ![v48.toNat, 10, 0, 0, 0]
def k0_off156 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c11_i32_809 : BitVec 32 := 11#32
  let c0_i32_810 : BitVec 32 := 0#32
  let c0_i32_811 : BitVec 32 := 0#32
  let c0_i32_812 : BitVec 32 := 0#32
  ![v48.toNat, 11, 0, 0, 0]
def k0_off157 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c12_i32_867 : BitVec 32 := 12#32
  let c0_i32_868 : BitVec 32 := 0#32
  let c0_i32_869 : BitVec 32 := 0#32
  let c0_i32_870 : BitVec 32 := 0#32
  ![v48.toNat, 12, 0, 0, 0]
def k0_off158 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c13_i32_925 : BitVec 32 := 13#32
  let c0_i32_926 : BitVec 32 := 0#32
  let c0_i32_927 : BitVec 32 := 0#32
  let c0_i32_928 : BitVec 32 := 0#32
  ![v48.toNat, 13, 0, 0, 0]
def k0_off159 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c14_i32_983 : BitVec 32 := 14#32
  let c0_i32_984 : BitVec 32 := 0#32
  let c0_i32_985 : BitVec 32 := 0#32
  let c0_i32_986 : BitVec 32 := 0#32
  ![v48.toNat, 14, 0, 0, 0]
def k0_off160 (i : grid0.Coords) : Fin 5 → Nat :=
  let arg0 : BitVec 32 := BitVec.ofNat 32 (i 0).val
  let c1_i32_29 : BitVec 32 := 1#32
  let v46 : BitVec 32 := Scalar.muli arg0 c1_i32_29
  let c0_i32_30 : BitVec 32 := 0#32
  let v47 : BitVec 32 := Scalar.addi v46 c0_i32_30
  let c2_i32 : BitVec 32 := 2#32
  let v48 : BitVec 32 := Scalar.remsi v47 c2_i32
  let c15_i32_1041 : BitVec 32 := 15#32
  let c0_i32_1042 : BitVec 32 := 0#32
  let c0_i32_1043 : BitVec 32 := 0#32
  let c0_i32_1044 : BitVec 32 := 0#32
  ![v48.toNat, 15, 0, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8192x1024 : Shape := ⟨2, ![8192, 1024]⟩
abbrev S8192x13312 : Shape := ⟨2, ![8192, 13312]⟩
abbrev S4x2048x2048 : Shape := ⟨3, ![4, 2048, 2048]⟩
abbrev S1x1024x2048 : Shape := ⟨3, ![1, 1024, 2048]⟩
abbrev S1x2048x2048 : Shape := ⟨3, ![1, 2048, 2048]⟩
abbrev S32x128 : Shape := ⟨2, ![32, 128]⟩
abbrev S1x5120x128x8x128 : Shape := ⟨5, ![1, 5120, 128, 8, 128]⟩
abbrev S8192x2048 : Shape := ⟨2, ![8192, 2048]⟩
abbrev S_ : Shape := ⟨0, ![]⟩
abbrev S1024x2048 : Shape := ⟨2, ![1024, 2048]⟩
abbrev S2048x2048 : Shape := ⟨2, ![2048, 2048]⟩
abbrev S5120x128x8x128 : Shape := ⟨4, ![5120, 128, 8, 128]⟩
abbrev S4096 : Shape := ⟨1, ![4096]⟩
abbrev S512 : Shape := ⟨1, ![512]⟩
abbrev S512x1 : Shape := ⟨2, ![512, 1]⟩
abbrev S512x128x8x128 : Shape := ⟨4, ![512, 128, 8, 128]⟩
abbrev S512x8x128 : Shape := ⟨3, ![512, 8, 128]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x13312, .bf16⟩
  | .hbm, ⟨3, _⟩ => ⟨S4x2048x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S32x128, .i32⟩
  | .hbm, ⟨8, _⟩ => ⟨S1x5120x128x8x128, .f32⟩
  | .hbm, ⟨9, _⟩ => ⟨S8192x2048, .bf16⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S1024x2048, .f32⟩
  | .hbm, ⟨30, _⟩ => ⟨S1024x2048, .bf16⟩
  | .hbm, ⟨31, _⟩ => ⟨S8192x2048, .f32⟩
  | .hbm, ⟨32, _⟩ => ⟨S8192x2048, .f32⟩
  | .hbm, ⟨33, _⟩ => ⟨S1024x2048, .f32⟩
  | .hbm, ⟨34, _⟩ => ⟨S1024x2048, .bf16⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | .hbm, ⟨40, _⟩ => ⟨S2048x2048, .f32⟩
  | .hbm, ⟨41, _⟩ => ⟨S2048x2048, .bf16⟩
  | .hbm, ⟨42, _⟩ => ⟨S8192x2048, .f32⟩
  | .hbm, ⟨43, _⟩ => ⟨S8192x2048, .f32⟩
  | .hbm, ⟨44, _⟩ => ⟨S5120x128x8x128, .f32⟩
  | .hbm, ⟨45, _⟩ => ⟨S4096, .i32⟩
  | .hbm, ⟨46, _⟩ => ⟨S512, .i32⟩
  | .hbm, ⟨47, _⟩ => ⟨S512x1, .i32⟩
  | .hbm, ⟨48, _⟩ => ⟨S512x128x8x128, .f32⟩
  | .hbm, ⟨49, _⟩ => ⟨S_, .f32⟩
  | .hbm, ⟨50, _⟩ => ⟨S512x8x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_v0 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Kernel4.lean ====
abbrev S32x1x1024 : Shape := ⟨3, ![32, 1, 1024]⟩
abbrev S32x8x128 : Shape := ⟨3, ![32, 8, 128]⟩
abbrev S32x13312 : Shape := ⟨2, ![32, 13312]⟩
abbrev S32x1x2048 : Shape := ⟨3, ![32, 1, 2048]⟩
abbrev S1x1024x2048 : Shape := ⟨3, ![1, 1024, 2048]⟩
abbrev S1x2048x2048 : Shape := ⟨3, ![1, 2048, 2048]⟩
abbrev S32x1024 : Shape := ⟨2, ![32, 1024]⟩
abbrev S32x2048 : Shape := ⟨2, ![32, 2048]⟩
abbrev S1024x2048 : Shape := ⟨2, ![1024, 2048]⟩
abbrev S2048x2048 : Shape := ⟨2, ![2048, 2048]⟩

abbrev nBuf : Space → Nat
  | .hbm => 17
  | .vmem => 9
  | .smem => 0
  | _ => 0

abbrev bufTy : (tb : Table) → Fin (tcTables nBuf tb) → BufTy
  | .hbm, ⟨0, _⟩ => ⟨S32x1x1024, .f32⟩
  | .hbm, ⟨1, _⟩ => ⟨S32x8x128, .f32⟩
  | .hbm, ⟨2, _⟩ => ⟨S32x13312, .f32⟩
  | .hbm, ⟨3, _⟩ => ⟨S32x1x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S32x1024, .f32⟩
  | .hbm, ⟨8, _⟩ => ⟨S32x1024, .f32⟩
  | .hbm, ⟨9, _⟩ => ⟨S32x2048, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S2048x2048, .f32⟩
  | .hbm, ⟨15, _⟩ => ⟨S2048x2048, .bf16⟩
  | .hbm, ⟨16, _⟩ => ⟨S32x2048, .f32⟩
  | .local _ .vmem, ⟨0, _⟩ => ⟨S32x1024, .f32⟩
  | .local _ .vmem, ⟨1, _⟩ => ⟨S32x1024, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S1024x2048, .bf16⟩
  | .local _ .vmem, ⟨6, _⟩ => ⟨S1024x2048, .bf16⟩
  | .local _ .vmem, ⟨7, _⟩ => ⟨S2048x2048, .bf16⟩
  | .local _ .vmem, ⟨8, _⟩ => ⟨S32x2048, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference4Ideal.lean ====
abbrev S32x1x1024 : Shape := ⟨3, ![32, 1, 1024]⟩
abbrev S32x8x128 : Shape := ⟨3, ![32, 8, 128]⟩
abbrev S32x13312 : Shape := ⟨2, ![32, 13312]⟩
abbrev S32x1x2048 : Shape := ⟨3, ![32, 1, 2048]⟩
abbrev S1x1024x2048 : Shape := ⟨3, ![1, 1024, 2048]⟩
abbrev S1x2048x2048 : Shape := ⟨3, ![1, 2048, 2048]⟩
abbrev S32x1024 : Shape := ⟨2, ![32, 1024]⟩
abbrev S1024x2048 : Shape := ⟨2, ![1024, 2048]⟩
abbrev S32x2048 : Shape := ⟨2, ![32, 2048]⟩
abbrev S_ : Shape := ⟨0, ![]⟩
abbrev S2048x2048 : Shape := ⟨2, ![2048, 2048]⟩

abbrev nBuf : Space → Nat
  | .hbm => 44
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x8x128, .f32⟩
  | .hbm, ⟨2, _⟩ => ⟨S32x13312, .f32⟩
  | .hbm, ⟨3, _⟩ => ⟨S32x1x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S32x1024, .f32⟩
  | .hbm, ⟨8, _⟩ => ⟨S32x1024, .bf16⟩
  | .hbm, ⟨9, _⟩ => ⟨S1024x2048, .f32⟩
  | .hbm, ⟨10, _⟩ => ⟨S1024x2048, .bf16⟩
  | .hbm, ⟨11, _⟩ => ⟨S32x2048, .f32⟩
  | .hbm, ⟨12, _⟩ => ⟨S32x1024, .f32⟩
  | .hbm, ⟨13, _⟩ => ⟨S32x1024, .bf16⟩
  | .hbm, ⟨14, _⟩ => ⟨S1024x2048, .f32⟩
  | .hbm, ⟨15, _⟩ => ⟨S1024x2048, .bf16⟩
  | .hbm, ⟨16, _⟩ => ⟨S32x2048, .f32⟩
  | .hbm, ⟨17, _⟩ => ⟨S32x2048, .f32⟩
  | .hbm, ⟨18, _⟩ => ⟨S32x2048, .f32⟩
  | .hbm, ⟨19, _⟩ => ⟨S32x2048, .f32⟩
  | .hbm, ⟨20, _⟩ => ⟨S_, .f32⟩
  | .hbm, ⟨21, _⟩ => ⟨S32x2048, .f32⟩
  | .hbm, ⟨22, _⟩ => ⟨S32x2048, .f32⟩
  | .hbm, ⟨23, _⟩ => ⟨S_, .f32⟩
  | .hbm, ⟨24, _⟩ => ⟨S32x2048, .f32⟩
  | .hbm, ⟨25, _⟩ => ⟨S32x2048, .f32⟩
  | .hbm, ⟨26, _⟩ => ⟨S32x2048, .f32⟩
  | .hbm, ⟨27, _⟩ => ⟨S32x2048, .f32⟩
  | .hbm, ⟨28, _⟩ => ⟨S32x2048, .f32⟩
  | .hbm, ⟨29, _⟩ => ⟨S32x2048, .f32⟩
  | .hbm, ⟨30, _⟩ => ⟨S_, .f32⟩
  | .hbm, ⟨31, _⟩ => ⟨S32x2048, .f32⟩
  | .hbm, ⟨32, _⟩ => ⟨S32x2048, .f32⟩
  | .hbm, ⟨33, _⟩ => ⟨S_, .f32⟩
  | .hbm, ⟨34, _⟩ => ⟨S32x2048, .f32⟩
  | .hbm, ⟨35, _⟩ => ⟨S32x2048, .f32⟩
  | .hbm, ⟨36, _⟩ => ⟨S32x2048, .f32⟩
  | .hbm, ⟨37, _⟩ => ⟨S32x2048, .f32⟩
  | .hbm, ⟨38, _⟩ => ⟨S32x2048, .f32⟩
  | .hbm, ⟨39, _⟩ => ⟨S32x2048, .bf16⟩
  | .hbm, ⟨40, _⟩ => ⟨S2048x2048, .f32⟩
  | .hbm, ⟨41, _⟩ => ⟨S2048x2048, .bf16⟩
  | .hbm, ⟨42, _⟩ => ⟨S32x2048, .f32⟩
  | .hbm, ⟨43, _⟩ => ⟨S32x2048, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel5.lean ====
abbrev S32x13312 : Shape := ⟨2, ![32, 13312]⟩
abbrev S32x128 : Shape := ⟨2, ![32, 128]⟩
abbrev S1x4 : Shape := ⟨2, ![1, 4]⟩
abbrev S1x1024 : Shape := ⟨2, ![1, 1024]⟩
abbrev S1x32x4x256x256 : Shape := ⟨5, ![1, 32, 4, 256, 256]⟩
abbrev S1x32x4x256 : Shape := ⟨4, ![1, 32, 4, 256]⟩
abbrev S1x32x4 : Shape := ⟨3, ![1, 32, 4]⟩
abbrev S4 : Shape := ⟨1, ![4]⟩
abbrev S8 : Shape := ⟨1, ![8]⟩
abbrev S_ : Shape := ⟨0, ![]⟩
abbrev S128 : Shape := ⟨1, ![128]⟩
abbrev S1x128 : Shape := ⟨2, ![1, 128]⟩
abbrev S1024 : Shape := ⟨1, ![1024]⟩
abbrev S32x4x256x256 : Shape := ⟨4, ![32, 4, 256, 256]⟩
abbrev S32x4x256 : Shape := ⟨3, ![32, 4, 256]⟩
abbrev S32x4 : Shape := ⟨2, ![32, 4]⟩
abbrev S32x1x1024 : Shape := ⟨3, ![32, 1, 1024]⟩
abbrev S32x4x128 : Shape := ⟨3, ![32, 4, 128]⟩
abbrev S32x1024 : Shape := ⟨2, ![32, 1024]⟩
abbrev S1x4x256x256 : Shape := ⟨4, ![1, 4, 256, 256]⟩
abbrev S1x4x256 : Shape := ⟨3, ![1, 4, 256]⟩
abbrev S1x1x1024 : Shape := ⟨3, ![1, 1, 1024]⟩
abbrev S1x4x128 : Shape := ⟨3, ![1, 4, 128]⟩
abbrev S256x256 : Shape := ⟨2, ![256, 256]⟩
abbrev S1x256 : Shape := ⟨2, ![1, 256]⟩
abbrev S1x1x256x256 : Shape := ⟨4, ![1, 1, 256, 256]⟩
abbrev S1x1x256 : Shape := ⟨3, ![1, 1, 256]⟩
abbrev S1x1 : Shape := ⟨2, ![1, 1]⟩
abbrev S1 : Shape := ⟨1, ![1]⟩
abbrev S256 : Shape := ⟨1, ![256]⟩
abbrev S256x1 : Shape := ⟨2, ![256, 1]⟩
abbrev S1x1x128 : Shape := ⟨3, ![1, 1, 128]⟩
abbrev S32x4x1 : Shape := ⟨3, ![32, 4, 1]⟩

abbrev nBuf : Space → Nat
  | .hbm => 26
  | .vmem => 21
  | .smem => 0
  | _ => 0

abbrev bufTy : (tb : Table) → Fin (tcTables nBuf tb) → BufTy
  | .hbm, ⟨0, _⟩ => ⟨S32x13312, .f32⟩
  | .hbm, ⟨1, _⟩ => ⟨S32x128, .f32⟩
  | .hbm, ⟨2, _⟩ => ⟨S1x4, .f32⟩
  | .hbm, ⟨3, _⟩ => ⟨S1x4, .f32⟩
  | .hbm, ⟨4, _⟩ => ⟨S1x1024, .f32⟩
  | .hbm, ⟨5, _⟩ => ⟨S1x32x4x256x256, .f32⟩
  | .hbm, ⟨6, _⟩ => ⟨S1x32x4x256, .f32⟩
  | .hbm, ⟨7, _⟩ => ⟨S1x32x4, .f32⟩
  | .hbm, ⟨8, _⟩ => ⟨S4, .f32⟩
  | .hbm, ⟨9, _⟩ => ⟨S4, .f32⟩
  | .hbm, ⟨10, _⟩ => ⟨S8, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1024, .f32⟩
  | .hbm, ⟨16, _⟩ => ⟨S32x4x256x256, .f32⟩
  | .hbm, ⟨17, _⟩ => ⟨S32x4x256, .f32⟩
  | .hbm, ⟨18, _⟩ => ⟨S32x4, .f32⟩
  | .hbm, ⟨19, _⟩ => ⟨S1x1024, .f32⟩
  | .hbm, ⟨20, _⟩ => ⟨S32x1x1024, .f32⟩
  | .hbm, ⟨21, _⟩ => ⟨S32x4x256x256, .f32⟩
  | .hbm, ⟨22, _⟩ => ⟨S32x4x256, .f32⟩
  | .hbm, ⟨23, _⟩ => ⟨S32x4x128, .f32⟩
  | .hbm, ⟨24, _⟩ => ⟨S32x4x1, .f32⟩
  | .hbm, ⟨25, _⟩ => ⟨S32x4, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x128, .f32⟩
  | .local _ .vmem, ⟨6, _⟩ => ⟨S1x128, .f32⟩
  | .local _ .vmem, ⟨7, _⟩ => ⟨S1x1024, .f32⟩
  | .local _ .vmem, ⟨8, _⟩ => ⟨S1x4x256x256, .f32⟩
  | .local _ .vmem, ⟨9, _⟩ => ⟨S1x4x256x256, .f32⟩
  | .local _ .vmem, ⟨10, _⟩ => ⟨S1x4x256, .f32⟩
  | .local _ .vmem, ⟨11, _⟩ => ⟨S1x4x256, .f32⟩
  | .local _ .vmem, ⟨12, _⟩ => ⟨S32x4, .f32⟩
  | .local _ .vmem, ⟨13, _⟩ => ⟨S1x1x1024, .f32⟩
  | .local _ .vmem, ⟨14, _⟩ => ⟨S1x1x1024, .f32⟩
  | .local _ .vmem, ⟨15, _⟩ => ⟨S1x4x256x256, .f32⟩
  | .local _ .vmem, ⟨16, _⟩ => ⟨S1x4x256x256, .f32⟩
  | .local _ .vmem, ⟨17, _⟩ => ⟨S1x4x256, .f32⟩
  | .local _ .vmem, ⟨18, _⟩ => ⟨S1x4x256, .f32⟩
  | .local _ .vmem, ⟨19, _⟩ => ⟨S1x4x128, .f32⟩
  | .local _ .vmem, ⟨20, _⟩ => ⟨S1x4x128, .f32⟩
  | _, _ => ⟨S32x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v3 : Index := Scalar.indexCast arg0
  let c0 : Index := 0#32
  ![v3.toNat, 0]
def k0_off2 (i : grid0.Coords) : Fin 2 → Nat :=
  let arg0 : BitVec 32 := BitVec.ofNat 32 (i 0).val
  let v8 : Index := Scalar.indexCast arg0
  let c0_2 : Index := 0#32
  ![v8.toNat, 0]
def k0_off3 (i : grid0.Coords) : Fin 2 → Nat :=
  let arg0 : BitVec 32 := BitVec.ofNat 32 (i 0).val
  let v11 : Index := Scalar.indexCast arg0
  let c0_3 : Index := 0#32
  ![v11.toNat, 0]
def k0_off4 (i : grid0.Coords) : Fin 2 → Nat :=
  let arg0 : BitVec 32 := BitVec.ofNat 32 (i 0).val
  let v138 : Index := Scalar.indexCast arg0
  let c256 : Index := 256#32
  ![v138.toNat, 256]
def k0_off5 (i : grid0.Coords) : Fin 2 → Nat :=
  let arg0 : BitVec 32 := BitVec.ofNat 32 (i 0).val
  let v265 : Index := Scalar.indexCast arg0
  let c512 : Index := 512#32
  ![v265.toNat, 512]
def k0_off6 (i : grid0.Coords) : Fin 2 → Nat :=
  let arg0 : BitVec 32 := BitVec.ofNat 32 (i 0).val
  let v392 : Index := Scalar.indexCast arg0
  let c768 : Index := 768#32
  ![v392.toNat, 768]
def cc0_transform_0 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_1 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_2 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_3 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_4 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S32x13312 : Shape := ⟨2, ![32, 13312]⟩
abbrev S32x128 : Shape := ⟨2, ![32, 128]⟩
abbrev S1x4 : Shape := ⟨2, ![1, 4]⟩
abbrev S1x1024 : Shape := ⟨2, ![1, 1024]⟩
abbrev S1x32x4x256x256 : Shape := ⟨5, ![1, 32, 4, 256, 256]⟩
abbrev S1x32x4x256 : Shape := ⟨4, ![1, 32, 4, 256]⟩
abbrev S1x32x4 : Shape := ⟨3, ![1, 32, 4]⟩
abbrev S32x1024 : Shape := ⟨2, ![32, 1024]⟩
abbrev S32x4x256 : Shape := ⟨3, ![32, 4, 256]⟩
abbrev S_ : Shape := ⟨0, ![]⟩
abbrev S32x4 : Shape := ⟨2, ![32, 4]⟩
abbrev S4 : Shape := ⟨1, ![4]⟩
abbrev S32x4x1 : Shape := ⟨3, ![32, 4, 1]⟩
abbrev S32x4x256x256 : Shape := ⟨4, ![32, 4, 256, 256]⟩
abbrev S32x4x1x256 : Shape := ⟨4, ![32, 4, 1, 256]⟩
abbrev S1024 : Shape := ⟨1, ![1024]⟩
abbrev S4x256 : Shape := ⟨2, ![4, 256]⟩
abbrev S1x4x256 : Shape := ⟨3, ![1, 4, 256]⟩
abbrev S32x4x1x1 : Shape := ⟨4, ![32, 4, 1, 1]⟩
abbrev S32x4x256x1 : Shape := ⟨4, ![32, 4, 256, 1]⟩
abbrev S32x1x1024 : Shape := ⟨3, ![32, 1, 1024]⟩

abbrev nBuf : Space → Nat
  | .hbm => 143
  | .vmem => 0
  | .smem => 0
  | _ => 0

abbrev hbmTy0_0 (i : Nat) : BufTy := match i % 128 with
  | 0 => ⟨S32x13312, .f32⟩
  | 1 => ⟨S32x128, .f32⟩
  | 2 => ⟨S1x4, .f32⟩
  | 3 => ⟨S1x4, .f32⟩
  | 4 => ⟨S1x1024, .f32⟩
  | 5 => ⟨S1x32x4x256x256, .f32⟩
  | 6 => ⟨S1x32x4x256, .f32⟩
  | 7 => ⟨S1x32x4, .f32⟩
  | 8 => ⟨S32x1024, .f32⟩
  | 9 => ⟨S32x4x256, .f32⟩
  | 10 => ⟨S32x1024, .f32⟩
  | 11 => ⟨S32x4x256, .f32⟩
  | 12 => ⟨S32x1024, .f32⟩
  | 13 => ⟨S32x4x256, .f32⟩
  | 14 => ⟨S32x1024, .f32⟩
  | 15 => ⟨S32x4x256, .f32⟩
  | 16 => ⟨S32x1024, .f32⟩
  | 17 => ⟨S32x4x256, .f32⟩
  | 18 => ⟨S_, .f32⟩
  | 19 => ⟨S32x4x256, .f32⟩
  | 20 => ⟨S32x4x256, .f32⟩
  | 21 => ⟨S32x4, .f32⟩
  | 22 => ⟨S4, .f32⟩
  | 23 => ⟨S1x4, .f32⟩
  | 24 => ⟨S32x4, .f32⟩
  | 25 => ⟨S32x4, .f32⟩
  | 26 => ⟨S32x4, .f32⟩
  | 27 => ⟨S32x4, .f32⟩
  | 28 => ⟨S4, .f32⟩
  | 29 => ⟨S1x4, .f32⟩
  | 30 => ⟨S32x4, .f32⟩
  | 31 => ⟨S32x4, .f32⟩
  | 32 => ⟨S32x4, .f32⟩
  | 33 => ⟨S_, .f32⟩
  | 34 => ⟨S32x4, .f32⟩
  | 35 => ⟨S32x4, .f32⟩
  | 36 => ⟨S32x4, .f32⟩
  | 37 => ⟨S32x4, .f32⟩
  | 38 => ⟨S32x4, .i1⟩
  | 39 => ⟨S32x4, .f32⟩
  | 40 => ⟨S32x4, .f32⟩
  | 41 => ⟨S32x4, .f32⟩
  | 42 => ⟨S32x4, .f32⟩
  | 43 => ⟨S32x4, .f32⟩
  | 44 => ⟨S32x4, .f32⟩
  | 45 => ⟨S32x4, .f32⟩
  | 46 => ⟨S32x4, .f32⟩
  | 47 => ⟨S32x4, .f32⟩
  | 48 => ⟨S32x4, .f32⟩
  | 49 => ⟨S32x4, .f32⟩
  | 50 => ⟨S32x4, .f32⟩
  | 51 => ⟨S32x4, .f32⟩
  | 52 => ⟨S32x4x1, .f32⟩
  | 53 => ⟨S32x4, .f32⟩
  | 54 => ⟨S32x4, .f32⟩
  | 55 => ⟨S32x4x1, .f32⟩
  | 56 => ⟨S32x4x256, .f32⟩
  | 57 => ⟨S_, .f32⟩
  | 58 => ⟨S32x4, .f32⟩
  | 59 => ⟨S32x4x1, .f32⟩
  | 60 => ⟨S32x4x1, .f32⟩
  | 61 => ⟨S32x4x256, .f32⟩
  | 62 => ⟨S32x4x256, .f32⟩
  | 63 => ⟨S32x4x256x256, .f32⟩
  | 64 => ⟨S32x4x1x256, .f32⟩
  | 65 => ⟨S32x4x256x256, .f32⟩
  | 66 => ⟨S32x4x256x256, .f32⟩
  | 67 => ⟨S_, .f32⟩
  | 68 => ⟨S32x4x256, .f32⟩
  | 69 => ⟨S32x4x256, .f32⟩
  | 70 => ⟨S32x4x256, .f32⟩
  | 71 => ⟨S32x4x256, .f32⟩
  | 72 => ⟨S32x4x256, .f32⟩
  | 73 => ⟨S32x4x256, .f32⟩
  | 74 => ⟨S_, .f32⟩
  | 75 => ⟨S32x4, .f32⟩
  | 76 => ⟨S32x4x1, .f32⟩
  | 77 => ⟨S32x4x1, .f32⟩
  | 78 => ⟨S32x4x1, .f32⟩
  | 79 => ⟨S32x4x1, .f32⟩
  | 80 => ⟨S32x4, .f32⟩
  | 81 => ⟨S32x4, .f32⟩
  | 82 => ⟨S32x4x1, .f32⟩
  | 83 => ⟨S32x4x1, .f32⟩
  | 84 => ⟨S32x4x256, .f32⟩
  | 85 => ⟨S32x4x256, .f32⟩
  | 86 => ⟨S32x4x256, .f32⟩
  | 87 => ⟨S_, .f32⟩
  | 88 => ⟨S32x4, .f32⟩
  | 89 => ⟨S32x4x1, .f32⟩
  | 90 => ⟨S_, .f32⟩
  | 91 => ⟨S32x4x1, .f32⟩
  | 92 => ⟨S32x4x1, .f32⟩
  | 93 => ⟨S_, .f32⟩
  | 94 => ⟨S32x4x1, .f32⟩
  | 95 => ⟨S32x4x1, .f32⟩
  | 96 => ⟨S32x4x1, .f32⟩
  | 97 => ⟨S32x4x256, .f32⟩
  | 98 => ⟨S32x4x256, .f32⟩
  | 99 => ⟨S1024, .f32⟩
  | 100 => ⟨S4x256, .f32⟩
  | 101 => ⟨S1x4x256, .f32⟩
  | 102 => ⟨S32x4x256, .f32⟩
  | 103 => ⟨S32x4x256, .f32⟩
  | 104 => ⟨S32x4x256, .f32⟩
  | 105 => ⟨S32x4x256, .f32⟩
  | 106 => ⟨S_, .f32⟩
  | 107 => ⟨S32x4x256, .f32⟩
  | 108 => ⟨S32x4x256, .f32⟩
  | 109 => ⟨S_, .f32⟩
  | 110 => ⟨S32x4x256, .f32⟩
  | 111 => ⟨S32x4x256, .f32⟩
  | 112 => ⟨S32x4x256, .f32⟩
  | 113 => ⟨S32x4x256, .f32⟩
  | 114 => ⟨S32x4x256, .f32⟩
  | 115 => ⟨S_, .f32⟩
  | 116 => ⟨S32x4x256, .f32⟩
  | 117 => ⟨S32x4x256, .f32⟩
  | 118 => ⟨S_, .f32⟩
  | 119 => ⟨S32x4x256, .f32⟩
  | 120 => ⟨S32x4x256, .f32⟩
  | 121 => ⟨S32x4x256, .f32⟩
  | 122 => ⟨S32x4x256, .f32⟩
  | 123 => ⟨S32x4x1x1, .f32⟩
  | 124 => ⟨S32x4x256x256, .f32⟩
  | 125 => ⟨S32x4x256x256, .f32⟩
  | 126 => ⟨S32x4x256x256, .f32⟩
  | 127 => ⟨S32x4x1x1, .f32⟩
  | _ => ⟨S32x13312, .f32⟩

abbrev hbmTy0_1 (i : Nat) : BufTy := match i % 128 with
  | 0 => ⟨S32x4x256x1, .f32⟩
  | 1 => ⟨S32x4x256x1, .f32⟩
  | 2 => ⟨S32x4x256x1, .f32⟩
  | 3 => ⟨S32x4x1x256, .f32⟩
  | 4 => ⟨S32x4x256x256, .f32⟩
  | 5 => ⟨S32x4x256x256, .f32⟩
  | 6 => ⟨S32x4x256x256, .f32⟩
  | 7 => ⟨S32x4x256x256, .f32⟩
  | 8 => ⟨S32x4x256, .f32⟩
  | 9 => ⟨S32x4x256, .f32⟩
  | 10 => ⟨S32x4x256, .f32⟩
  | 11 => ⟨S32x4x256, .f32⟩
  | 12 => ⟨S32x4x256, .f32⟩
  | 13 => ⟨S32x4x256, .f32⟩
  | 14 => ⟨S32x1x1024, .f32⟩
  | _ => ⟨S32x13312, .f32⟩

abbrev hbmTy (i : Nat) : BufTy := match i / 128 with
  | 0 => hbmTy0_0 i
  | 1 => hbmTy0_1 i
  | _ => ⟨S32x13312, .f32⟩

abbrev bufTy : (tb : Table) → Fin (tcTables nBuf tb) → BufTy
  | .hbm, ⟨i, _⟩ => hbmTy i
  | _, _ => ⟨S32x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_1 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_2 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_3 : Ref sig .tc := ⟨.hbm, 87, rfl⟩
abbrev main_v60 : Ref sig .tc := ⟨.hbm, 88, rfl⟩
abbrev main_v61 : Ref sig .tc := ⟨.hbm, 89, rfl⟩
abbrev main_cst_4 : Ref sig .tc := ⟨.hbm, 90, rfl⟩
abbrev main_v62 : Ref sig .tc := ⟨.hbm, 91, rfl⟩
abbrev main_v63 : Ref sig .tc := ⟨.hbm, 92, rfl⟩
abbrev main_cst_5 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_6 : Ref sig .tc := ⟨.hbm, 106, rfl⟩
abbrev main_v76 : Ref sig .tc := ⟨.hbm, 107, rfl⟩
abbrev main_v77 : Ref sig .tc := ⟨.hbm, 108, rfl⟩
abbrev main_cst_7 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩

abbrev nD : Nat := 1
abbrev τ : Topo := Topo.v7x

variable {F : FTy → Type} [FloatOps F]
-- ==== Proof.Whole.lean ====
/- A staging buffer stored or loaded as a whole: the store leaves its payload, the load reads the contents. -/
module

public import Idealize.ShloMosaic.Lib.Pipeline.ValueKit
public import Idealize.ShloMosaic.Lib.Ring

@[expose] public section

namespace Cert.Whole

open Idealize.ShloMosaic

variable {Val : EltTy → Type} {sig : RefSig} {κ : Kind} {sp : Space} {S : Shape} {e : EltTy}

/-- The box of all of a shape, placed at zero, holds every index. -/
theorem mem_all {off : Fin S.rank → Nat} (inb : ∀ a, off a + S.size a ≤ S.size a) (h : ∀ a, off a = 0) (y : S.Idx) :
    y ∈ (Rect.unit off S.size inb).set := by
  rw [Rect.mem_set_unit]
  intro a
  rw [h a]
  exact ⟨Nat.zero_le _, by simpa using (y a).isLt⟩

/-- A store over a whole buffer leaves the stored array. -/
theorem read_store [∀ e, Nonempty (Val e)] (v : View sig κ sp S e) (f : v.ty.Contents Val) {off : Fin S.rank → Nat}
    (inb : ∀ a, off a + S.size a ≤ S.size a) (h : ∀ a, off a = 0) (w : S.Idx → Val e) :
    v.read Val (v.writes Val f [(⟨Rect.unit off S.size inb, w⟩ : View.Piece Val S e)]) = w :=
  (View.read_writes_eq_canon v f _ fun y => ⟨_, List.mem_singleton.mpr rfl, mem_all inb h y⟩).trans
    (View.canon_cons_unit_lit inb w [] h)

/-- A load of a whole buffer that holds `X` reads `X`. -/
theorem load {m : Memref sig κ sp S e} (hm : m.IsWhole) (X : S.Idx → Val e) {off : Fin S.rank → Nat}
    (inb : ∀ a, off a + S.size a ≤ S.size a) (h : ∀ a, off a = 0) :
    View.readAt Val m.view (Rect.unit off S.size inb).toLoadRect (hm.unread X) = X := by
  rw [View.readAt_eq_ld, hm.read_unread, View.ld_unit_lit inb X h]

end Cert.Whole
-- ==== Proof.PrepBody.lean ====
/- The weight-packing call on its staging buffers: what its body leaves in the two outputs, in each of the two cases
   of its conditional, for any float values. -/
module

public import proofs.«01_k».proof.Proof.Gen.KernelIdeal.Frame
public import proofs.«01_k».proof.Proof.Gen.KernelIdeal.Skeleton
public import proofs.«01_k».proof.Proof.Whole

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gates are written at the first grid point only. -/
theorem cond_iff (t : Fin cfg0.N) : k0_cond1 (grid0.coords t) = 1#1 ↔ t.val = 0 := by
  have ht : t.val < 26 := Nat.lt_of_lt_of_eq t.isLt N_0
  have e0 : (grid0.coords t 0).val = t.val / 1 % 26 := Pipeline.Grid.coords_val t 0 (by decide) rfl
  have h : k0_cond1 (grid0.coords t) = 1#1 ↔ t.val % 26 = 0 := by
    simp only [k0_cond1, e0]
    word_cmp
  rw [h]; omega

set_option maxHeartbeats 1000000 in
/-- At the first point: the weight block cast, and the gate rows padded and cast. -/
theorem body_first (c : Dev nD) (i : grid0.Coords) (a1 : Memref sig .tc .vmem S512x2048 .f32) (h1 : a1.IsWhole)
    (a2 : Memref sig .tc .vmem S8x2048 .f32) (h2 : a2.IsWhole) (a3 : Memref sig .tc .vmem S512x2048 .bf16) (h3 : a3.IsWhole)
    (a4 : Memref sig .tc .vmem S128x2048 .bf16) (h4 : a4.IsWhole) (hc0 : k0_cond1 i = 1#1)
    (x0 : Vec F S512x2048 .f32) (x1 : Vec F S8x2048 .f32) (E : Set ℕ) (K : PUnit → sProp 𝕄) :
    iprop(owns (c : Thread nD τ) a1 fullShare x0 ∗ owns (c : Thread nD τ) a2 fullShare x1
        ∗ (∃ d, owns (c : Thread nD τ) a3 fullShare d) ∗ (∃ d, owns (c : Thread nD τ) a4 fullShare d)
        ∗ (iprop(owns (c : Thread nD τ) a1 fullShare x0 ∗ owns (c : Thread nD τ) a2 fullShare x1
            ∗ owns (c : Thread nD τ) a3 fullShare (k0_pay1 x0) ∗ owns (c : Thread nD τ) a4 fullShare (k0_pay2 x1)) -∗ K ⟨⟩))
      ⊢ wp frame (wpE (defs₀ (F := F)) Variants.none c none) E (cc0_prep_w_in i a1 h1 a2 h2 a3 h3 a4 h4) K := by
  simp only [cc0_prep_w_in_eq_skeleton]; unfold cc0_prep_w_in_skel
  unfold owns
  iintro ⟨⟨%f0, %hf0, H0⟩, ⟨%f1, %hf1, H1⟩, ⟨%d2, %f2, -, H2⟩, ⟨%d3, %f3, -, H3⟩, Hk⟩
  obtain rfl := h1.eq_unread hf0; obtain rfl := h2.eq_unread hf1
  sl_exec (disch := first | sl_exact hc0)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro
    rw [Whole.load h1 x0 _ (by decide)]
    exact Whole.read_store _ _ _ (by decide) _
  iexists _; isplitr; swap; · iexact H3
  ipureintro
  rw [Whole.load h2 x1 _ (by decide)]
  exact Whole.read_store _ _ _ (by decide) _

set_option maxHeartbeats 1000000 in
/-- At every other point: the weight block cast, the gate buffer left as found. -/
theorem body_rest (c : Dev nD) (i : grid0.Coords) (a1 : Memref sig .tc .vmem S512x2048 .f32) (h1 : a1.IsWhole)
    (a2 : Memref sig .tc .vmem S8x2048 .f32) (h2 : a2.IsWhole) (a3 : Memref sig .tc .vmem S512x2048 .bf16) (h3 : a3.IsWhole)
    (a4 : Memref sig .tc .vmem S128x2048 .bf16) (h4 : a4.IsWhole) (hc0 : ¬ k0_cond1 i = 1#1)
    (x0 : Vec F S512x2048 .f32) (x1 : Vec F S8x2048 .f32) (y : Vec F S128x2048 .bf16) (E : Set ℕ) (K : PUnit → sProp 𝕄) :
    iprop(owns (c : Thread nD τ) a1 fullShare x0 ∗ owns (c : Thread nD τ) a2 fullShare x1
        ∗ (∃ d, owns (c : Thread nD τ) a3 fullShare d) ∗ owns (c : Thread nD τ) a4 fullShare y
        ∗ (iprop(owns (c : Thread nD τ) a1 fullShare x0 ∗ owns (c : Thread nD τ) a2 fullShare x1
            ∗ owns (c : Thread nD τ) a3 fullShare (k0_pay1 x0) ∗ owns (c : Thread nD τ) a4 fullShare y) -∗ K ⟨⟩))
      ⊢ wp frame (wpE (defs₀ (F := F)) Variants.none c none) E (cc0_prep_w_in i a1 h1 a2 h2 a3 h3 a4 h4) K := by
  simp only [cc0_prep_w_in_eq_skeleton]; unfold cc0_prep_w_in_skel
  unfold owns
  iintro ⟨⟨%f0, %hf0, H0⟩, ⟨%f1, %hf1, H1⟩, ⟨%d2, %f2, -, H2⟩, ⟨%f3, %hf3, H3⟩, Hk⟩
  obtain rfl := h1.eq_unread hf0; obtain rfl := h2.eq_unread hf1; obtain rfl := h4.eq_unread hf3
  sl_exec (disch := first | sl_exact hc0)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro
    rw [Whole.load h1 x0 _ (by decide)]
    exact Whole.read_store _ _ _ (by decide) _
  iexists _; isplitr; swap; · iexact H3
  ipureintro; exact h4.read_unread _

end Cert.KernelIdeal.Prep

end
-- ==== Proof.PrepRun.lean ====
/- The weight-packing call's run: what each buffer holds at each grid point, the body's obligation, and the launch, for any
   float values. The gate buffer is filled at the first point, left alone at the others and written back at the last. -/
module

public import proofs.«01_k».proof.Proof.PrepBody
public import Idealize.ShloMosaic.Lib.Claim

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by decide⟩

/-- After point `t`: the inputs hold their blocks, the weight output its block cast, the gate output the padded gate rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t)
    | ⟨3, _⟩ => k0_pay2 (iblk m c 1 t0)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (iblk m c 0 t) := by dsimp only [dats]
theorem after_3 (c : Dev nD) (t : Fin cfg0.N) : (dats m 0 c).after 3 t = k0_pay2 (iblk m c 1 t0) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The gate window is idle at every point but the first. -/
theorem idle_3 (t : Fin cfg0.N) (h : t.val ≠ 0) : cfg0.idle 3 (grid0.coords t) = true := by
  have h1 : ¬ k0_cond1 (grid0.coords t) = 1#1 := fun e => h ((cond_iff t).mp e)
  show (!(k0_cond1 (grid0.coords t) == 1#1)) = true
  simp [h1]
theorem live_3 (t : Fin cfg0.N) (h : t.val = 0) : cfg0.idle 3 (grid0.coords t) = false := by
  have h1 : k0_cond1 (grid0.coords t) = 1#1 := (cond_iff t).mpr h
  show (!(k0_cond1 (grid0.coords t) == 1#1)) = false
  simp [h1]

/-- The gate buffer is written back at the last point only. -/
theorem flush_3 (t : Fin cfg0.N) (h : t.val ≠ 25) : (cfg0.win 3).flush t = false := by
  have hN : t.val < 26 := lt_of_lt_of_eq t.isLt (show cfg0.N = 26 from N_0)
  rw [Bool.eq_false_iff]; intro e; have := (flush0_3 t).mp e; omega

/-- After the first point the gate buffer holds the padded gate rows. -/
theorem before_3 (c : Dev nD) (d) : ∀ (n : ℕ) (h : n + 1 < cfg0.N),
    (dats m 0 c).before 3 ⟨n + 1, h⟩ d = k0_pay2 (iblk m c 1 t0) := by
  intro n
  have hN : cfg0.N = 26 := N_0
  induction n with
  | zero =>
    intro h
    rw [(dats m 0 c).before_of_pos 3 ⟨0 + 1, h⟩ (by simp) rfl d, flush_3 _ (by simp)]
    unfold Dat.left
    rw [live_3 _ (by simp)]
    exact after_3 m c _
  | succ n ih =>
    intro h
    rw [(dats m 0 c).before_of_pos 3 ⟨n + 1 + 1, h⟩ (by simp) rfl d, flush_3 _ (by simp; omega)]
    unfold Dat.left
    rw [idle_3 _ (by simp)]
    exact ih (by omega)

/-- The staging buffers at point `t`. -/
abbrev ms_0 (t : Fin cfg0.N) : Memref sig .tc .vmem S512x2048 .f32 := win0_0.stage (cfg0.slots t 0)
abbrev ms_1 (t : Fin cfg0.N) : Memref sig .tc .vmem S8x2048 .f32 := win0_1.stage (cfg0.slots t 1)
abbrev ms_2 (t : Fin cfg0.N) : Memref sig .tc .vmem S512x2048 .bf16 := win0_2.stage (cfg0.slots t 2)
abbrev ms_3 (t : Fin cfg0.N) : Memref sig .tc .vmem S128x2048 .bf16 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms_0 t) fullShare (iblk m c 0 t) := by
  rw [← after_0 m c t]
theorem leaves_1 (c : Dev nD) (t : Fin cfg0.N) :
    (dats m 0 c).leavesExact 1 t = owns (c : Thread nD τ) (ms_1 t) fullShare (iblk m c 1 t) := by
  rw [← after_1 m c t]
theorem leaves_2 (c : Dev nD) (t : Fin cfg0.N) :
    (dats m 0 c).leavesExact 2 t = owns (c : Thread nD τ) (ms_2 t) fullShare (k0_pay1 (iblk m c 0 t)) := by
  rw [← after_2 m c t]

/-- At the first point the gate buffer is left at the padded gate rows, -/
theorem leaves_3_first (c : Dev nD) (t : Fin cfg0.N) (h : t.val = 0) :
    (dats m 0 c).leavesExact 3 t = owns (c : Thread nD τ) (ms_3 t) fullShare (k0_pay2 (iblk m c 1 t0)) := by
  unfold Dat.leavesExact; rw [live_3 t h, after_3]
/-- and at each later one as well, since it held them. -/
theorem leaves_3_rest (c : Dev nD) (t : Fin cfg0.N) (h : t.val ≠ 0) :
    owns (c : Thread nD τ) (ms_3 t) fullShare (k0_pay2 (iblk m c 1 t0)) ⊢ ((dats m 0 c).leavesExact 3 t : sProp 𝕄) := by
  by_cases hf : t.val = 25
  · unfold Dat.leavesExact
    rw [idle_3 t h, (flush0_3 t).mpr (by omega), after_3]
  · rw [(dats m 0 c).leavesExact_idle 3 t (idle_3 t h) (flush_3 t hf)]
    obtain ⟨n, hn⟩ := t
    obtain ⟨n, rfl⟩ : ∃ k, n = k + 1 := ⟨n - 1, by simp at h; omega⟩
    iintro H
    iexists (k0_pay2 (iblk m c 1 t0))
    rw [before_3 m c _ n hn]
    iexact H

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl, leaves_0, leaves_1, leaves_2]
  by_cases h0 : t.val = 0
  · rw [leaves_3_first m c t h0, show iblk m c 1 t0 = iblk m c 1 t from by rw [show t = t0 from Fin.ext h0]]
    iintro ⟨HΦ, Ho, ⟨%d0, H0⟩, ⟨%d1, H1⟩, ⟨%d2, H2⟩, ⟨%d3, H3⟩⟩
    iapply (body_first c (grid0.coords t) _ _ _ _ _ _ _ _ ((cond_iff t).mpr h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hb : ∀ d, (dats m 0 c).before 3 t d = k0_pay2 (iblk m c 1 t0) := fun d => by
      obtain ⟨n, hn⟩ := t
      obtain ⟨n, rfl⟩ : ∃ k, n = k + 1 := ⟨n - 1, by simp at h0; omega⟩
      exact before_3 m c d n hn
    simp only [hb]
    iintro ⟨HΦ, Ho, ⟨%d0, H0⟩, ⟨%d1, H1⟩, ⟨%d2, H2⟩, ⟨%d3, H3⟩⟩
    iapply (body_rest c (grid0.coords t) _ _ _ _ _ _ _ _ (fun e => h0 ((cond_iff t).mp e)) (iblk m c 0 t) (iblk m c 1 t)
      (k0_pay2 (iblk m c 1 t0)) Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iapply (leaves_3_rest m c t h0)
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution ends, the arrays as the proof data say, every semaphore counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The argument ends unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_quiescent m ρ))

end Cert.KernelIdeal.Prep

end
-- ==== Proof.PrepValue.lean ====
/- The two arrays the weight-packing call returns, as its reference states them: the weight rows in the packed order, and the
   gate rows over zeros, both cast. For any float values: the call and the reference make the same casts of the same elements. -/
module

public import proofs.«01_k».proof.Proof.PrepRun
public import Idealize.ShloMosaic.Lib.Pipeline.ValueKit
public import Idealize.ShloMosaic.Lib.Pointwise

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- Row `r` of the packed weights is row `src r` of the model's. -/
def src (r : ℕ) : ℕ := if r < 4096 then 9224 + r else if r < 9216 then r - 4096 else r - 9216 + 5128

/-- The first row of the block that grid point `t` stages. -/
theorem index_0 : ∀ t : Fin grid0.N, win0_0.index t 0 = src (512 * t.val) ∧ win0_0.index t 1 = 0 := by decide +kernel
theorem index_1 : ∀ t : Fin grid0.N, win0_1.index t = ![640, 0] := by decide +kernel
theorem index_2 : ∀ t : Fin grid0.N, win0_2.index t = ![t.val, 0] := by decide +kernel

/-- The weights as the region finds them: the argument without its unit axis, transposed. -/
theorem V_weights (c : Dev nD) : V m c main_v1 = transpose S13320x2048 [1, 0]
    (shapeCast S2048x13320 (m ((c : Thread nD τ).loc main_arg0)) shapeCasts_S1x2048x13320_S2048x13320) transposes_S2048x13320_S13320x2048_1_0 := by
  entry_read
  rfl

theorem src_lt {r : ℕ} (h : r < 13312) : src r < 13320 := by unfold src; split_ifs <;> omega

/-- Within a block the packed order is the model's own. -/
theorem src_add {t y : ℕ} (ht : t < 26) (hy : y < 512) : src (512 * t) + y = src (512 * t + y) := by
  unfold src; split_ifs <;> omega

theorem row_lt (t : Fin cfg0.N) (y : S512x2048.Idx) : 512 * t.val + (y 0).val < 13312 := by
  have h : t.val < 26 := Nat.lt_of_lt_of_eq t.isLt N_0
  have h0 : (y 0).val < 512 := (y 0).isLt
  omega

/-- The block at point `t` is rows `512 t …` of the packed order. -/
theorem iblk_0 (c : Dev nD) (t : Fin cfg0.N) (y : S512x2048.Idx) :
    iblk m c 0 t y = V m c main_v1 (ix2 ⟨src (512 * t.val + (y 0).val), src_lt (row_lt t y)⟩ (y 1)) := by
  have e := index_0 t
  have h : t.val < 26 := Nat.lt_of_lt_of_eq t.isLt N_0
  have h0 : (y 0).val < 512 := (y 0).isLt
  show V m c main_v1 (((cfg0.win 0).blk t).view.emb y) = _
  congr 1
  funext a
  apply Fin.ext
  match a with
  | ⟨0, _⟩ =>
    refine (Pipeline.Window.rect_emb_val_off win0_0 t _ _).trans ?_
    show win0_0.index t 0 + (y 0).val = src (512 * t.val + (y 0).val)
    rw [e.1, src_add h h0]
  | ⟨1, _⟩ =>
    refine (Pipeline.Window.rect_emb_val_off win0_0 t _ _).trans ?_
    show win0_0.index t 1 + (y 1).val = (y 1).val
    rw [e.2, Nat.zero_add]

/-- The gate block is rows 5120 to 5127. -/
theorem iblk_1 (c : Dev nD) (t : Fin cfg0.N) (y : S8x2048.Idx) :
    iblk m c 1 t y = V m c main_v1 (ix2 ⟨5120 + (y 0).val, by have : (y 0).val < 8 := (y 0).isLt; omega⟩ (y 1)) := by
  have e := index_1 t
  show V m c main_v1 (((cfg0.win 1).blk t).view.emb y) = _
  congr 1
  funext a
  apply Fin.ext
  match a with
  | ⟨0, _⟩ =>
    refine (Pipeline.Window.rect_emb_val_off win0_1 t _ _).trans ?_
    show win0_1.index t 0 * 8 + (y 0).val = 5120 + (y 0).val
    rw [e]; rfl
  | ⟨1, _⟩ =>
    refine (Pipeline.Window.rect_emb_val_off win0_1 t _ _).trans ?_
    show win0_1.index t 1 * 2048 + (y 1).val = (y 1).val
    rw [e]; simp

/-- Where an element of point `t`'s output block lies. -/
theorem emb_2 (t : Fin cfg0.N) (y : S512x2048.Idx) :
    ((win0_2.blk t).view.emb y : S13312x2048.Idx) = ix2 ⟨512 * t.val + (y 0).val, row_lt t y⟩ (y 1) := by
  have e := index_2 t
  funext a
  apply Fin.ext
  match a with
  | ⟨0, _⟩ =>
    refine (Pipeline.Window.rect_emb_val_off win0_2 t _ _).trans ?_
    show win0_2.index t 0 * 512 + (y 0).val = 512 * t.val + (y 0).val
    rw [e]; simp [Nat.mul_comm]
  | ⟨1, _⟩ =>
    refine (Pipeline.Window.rect_emb_val_off win0_2 t _ _).trans ?_
    show win0_2.index t 1 * 2048 + (y 1).val = (y 1).val
    rw [e]; simp

theorem arr_2 (c : Dev nD) : (dats m 0 c).arrAt 2 (cfgs 0).N =
   truncf .bf16 (fun i : S13312x2048.Idx => V m c main_v1 (ix2 ⟨src (i 0).val, src_lt (i 0).isLt⟩ (i 1)) : FVec F S13312x2048 .f32) bitsLt_bf16_f32 := by
  refine (dats m 0 c).arrAt_eq_of_covers 2 _ (by decide +kernel) fun t hf y => ?_
  blk_simp
  rw [after_2]
  refine congrArg (FloatOps.truncf (F := F) _ _) ?_
  rw [shapeCast_self, iblk_0]
  show _ = V m c main_v1 (ix2 ⟨src (((win0_2.blk t).view.emb y : S13312x2048.Idx) 0).val, _⟩ (((win0_2.blk t).view.emb y : S13312x2048.Idx) 1))
  rw [emb_2]
  rfl

theorem arr_3 (c : Dev nD) : (dats m 0 c).arrAt 3 (cfgs 0).N = k0_pay2 (iblk m c 1 t0) := by
  refine (dats m 0 c).arrAt_eq_of_after_last 3 ⟨25, by decide⟩ (by decide +kernel) _ fun j => ?_
  blk_simp
  exact congrFun (after_3 m c _) _
end Cert.KernelIdeal.Prep

end
-- ==== Proof.PrepTie.lean ====
/- The packing call's two arrays against the reference's concatenations, for any float values. -/
module

public import proofs.«01_k».proof.Proof.PrepValue
public import proofs.«01_k».proof.Proof.Gen.ReferenceIdeal.Run

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL.Sem

variable {F : FTy → Type} [FloatOps F]

set_option maxRecDepth 200000 in
/-- The three stretches of rows, one after the other, are the packed order. -/
theorem concat_rows (X : FVec F S13320x2048 .f32) :
    (fun i : S13312x2048.Idx => X (ix2 ⟨src (i 0).val, src_lt (i 0).isLt⟩ (i 1)))
      = concatenate Cert.ReferenceIdeal.S13312x2048 0
        [⟨Cert.ReferenceIdeal.S4096x2048, extractStridedSlice Cert.ReferenceIdeal.S4096x2048 ![9224, 0] X Cert.ReferenceIdeal.Gen.slices_S13320x2048_S4096x2048_9224_0⟩,
         ⟨Cert.ReferenceIdeal.S5120x2048, extractStridedSlice Cert.ReferenceIdeal.S5120x2048 ![0, 0] X Cert.ReferenceIdeal.Gen.slices_S13320x2048_S5120x2048_0_0⟩,
         ⟨Cert.ReferenceIdeal.S4096x2048, extractStridedSlice Cert.ReferenceIdeal.S4096x2048 ![5128, 0] X Cert.ReferenceIdeal.Gen.slices_S13320x2048_S4096x2048_5128_0⟩]
        Cert.ReferenceIdeal.Gen.concatenates_S4096x2048_S5120x2048_S4096x2048_S13312x2048_d0 := by
  funext i
  idx_vars i
  pointwise; simp only [src]
  by_cases h1 : i0.val < 4096
  · simp only [h1, if_true, dif_pos]
  · by_cases h2 : i0.val < 9216
    · rw [dif_neg h1, dif_pos (show i0.val - 4096 < 5120 by omega)]
      simp only [h1, h2, if_true, if_false]
    · rw [dif_neg h1, dif_neg (show ¬ i0.val - 4096 < 5120 by omega)]
      simp only [h1, h2, if_false]
      congr 3
      omega

/-- The gate rows over zeros. -/
theorem concat_gates (X : FVec F S13320x2048 .f32) :
    k0_pay2 (fun y : S8x2048.Idx => X (ix2 ⟨5120 + (y 0).val, by have : (y 0).val < 8 := (y 0).isLt; omega⟩ (y 1)))
      = truncf .bf16 (concatenate Cert.ReferenceIdeal.S128x2048 0
        [⟨Cert.ReferenceIdeal.S8x2048, extractStridedSlice Cert.ReferenceIdeal.S8x2048 ![5120, 0] X Cert.ReferenceIdeal.Gen.slices_S13320x2048_S8x2048_5120_0⟩,
         ⟨Cert.ReferenceIdeal.S120x2048, broadcastInDim Cert.ReferenceIdeal.S120x2048 ![] Cert.ReferenceIdeal.Gen.bcast_S_S120x2048 (constant Cert.ReferenceIdeal.S_ .f32 0x00000000#32)⟩]
        Cert.ReferenceIdeal.Gen.concatenates_S8x2048_S120x2048_S128x2048_d0) Cert.ReferenceIdeal.Gen.bitsLt_bf16_f32 := by
  funext i
  idx_vars i
  pointwise [k0_pay2]
end Cert.KernelIdeal.Prep

end
-- ==== Proof.PrepMain.lean ====
/- The packing call's whole run: both results as the reference's terms of the argument, the argument unchanged, every
   semaphore counter at zero. For any float values. -/
module

public import proofs.«01_k».proof.Proof.PrepTie
public import Idealize.ShloMosaic.Lib.Claim

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL.Sem

variable {F : FTy → Type} [FloatOps F]

/-- The weights, one row per output column of the projection. -/
abbrev rows (x : FVec F Cert.ReferenceIdeal.S1x2048x13320 .f32) : FVec F Cert.ReferenceIdeal.S13320x2048 .f32 :=
  transpose Cert.ReferenceIdeal.S13320x2048 [1, 0]
    (shapeCast Cert.ReferenceIdeal.S2048x13320 x Cert.ReferenceIdeal.Gen.shapeCasts_S1x2048x13320_S2048x13320)
    Cert.ReferenceIdeal.Gen.transposes_S2048x13320_S13320x2048_1_0

/-- The packed weights, as the reference makes them. -/
abbrev packed (x : FVec F Cert.ReferenceIdeal.S1x2048x13320 .f32) : FVec F Cert.ReferenceIdeal.S13312x2048 .bf16 :=
  truncf .bf16 (concatenate Cert.ReferenceIdeal.S13312x2048 0
    [⟨Cert.ReferenceIdeal.S4096x2048, extractStridedSlice Cert.ReferenceIdeal.S4096x2048 ![9224, 0] (rows x) Cert.ReferenceIdeal.Gen.slices_S13320x2048_S4096x2048_9224_0⟩,
     ⟨Cert.ReferenceIdeal.S5120x2048, extractStridedSlice Cert.ReferenceIdeal.S5120x2048 ![0, 0] (rows x) Cert.ReferenceIdeal.Gen.slices_S13320x2048_S5120x2048_0_0⟩,
     ⟨Cert.ReferenceIdeal.S4096x2048, extractStridedSlice Cert.ReferenceIdeal.S4096x2048 ![5128, 0] (rows x) Cert.ReferenceIdeal.Gen.slices_S13320x2048_S4096x2048_5128_0⟩]
    Cert.ReferenceIdeal.Gen.concatenates_S4096x2048_S5120x2048_S4096x2048_S13312x2048_d0) Cert.ReferenceIdeal.Gen.bitsLt_bf16_f32

/-- The gate rows over zeros, as the reference makes them. -/
abbrev gates (x : FVec F Cert.ReferenceIdeal.S1x2048x13320 .f32) : FVec F Cert.ReferenceIdeal.S128x2048 .bf16 :=
  truncf .bf16 (concatenate Cert.ReferenceIdeal.S128x2048 0
    [⟨Cert.ReferenceIdeal.S8x2048, extractStridedSlice Cert.ReferenceIdeal.S8x2048 ![5120, 0] (rows x) Cert.ReferenceIdeal.Gen.slices_S13320x2048_S8x2048_5120_0⟩,
     ⟨Cert.ReferenceIdeal.S120x2048, broadcastInDim Cert.ReferenceIdeal.S120x2048 ![] Cert.ReferenceIdeal.Gen.bcast_S_S120x2048 (constant Cert.ReferenceIdeal.S_ .f32 0x00000000#32)⟩]
    Cert.ReferenceIdeal.Gen.concatenates_S8x2048_S120x2048_S128x2048_d0) Cert.ReferenceIdeal.Gen.bitsLt_bf16_f32

variable (m : (ℓ : Loc nD τ sig) → Buf (Elt F) ℓ) (ρ : Dev nD → PrngReg)

theorem value_2 (c : Dev nD) : (dats m 0 c).arrAt 2 (cfgs 0).N = packed (m ((c : Thread nD τ).loc main_arg0)) := by
  rw [arr_2, concat_rows, V_weights]

theorem value_3 (c : Dev nD) : (dats m 0 c).arrAt 3 (cfgs 0).N = gates (m ((c : Thread nD τ).loc main_arg0)) := by
  rw [arr_3, show iblk m c 1 t0 = _ from funext (iblk_1 m c t0)]
  exact (concat_gates _).trans (by rw [V_weights])

theorem run : θ_run defs (onTc (τ := τ) (main (F := F))) ⟨m, fun _ => 0, ρ⟩ (fun r => ∀ c : Dev nD,
      r.2.mem ((c.tc : Thread nD τ).loc main_v2_0) = packed (m ((c : Thread nD τ).loc main_arg0))
      ∧ r.2.mem ((c.tc : Thread nD τ).loc main_v2_1) = gates (m ((c : Thread nD τ).loc main_arg0))
      ∧ r.2.mem ((c.tc : Thread nD τ).loc main_arg0) = m ((c.tc : Thread nD τ).loc main_arg0)) := by
  run_from run_main m ρ
  · exact value_2 m c
  · exact value_3 m c

end Cert.KernelIdeal.Prep

end
-- ==== Proof.ProjRing.lean ====
/- The page ring of the streaming input projection: its pieces, the pages of the key cache, the two semaphores, and the
   kernel's own spellings of them. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table of pages, the key cache and the ring, whole. -/
abbrev tblM : Memref sig .tc .smem S1872 .i32 := Memref.whole main_v6
abbrev cacheM : Memref sig .tc .hbm S5120x128x8x128 .f32 := Memref.whole main_v4
abbrev ringM : Memref sig .tc .vmem S2x9x128x8x128 .f32 := Memref.whole cc0_scratch1

/-- A page of the ring lies in the ring. -/
theorem ring_inb (s : Fin 2) (k : Fin 9) : ∀ a, (![s.val, k.val, 0, 0, 0] : Fin 5 → Nat) a + S1x1x128x8x128.size a ≤ S2x9x128x8x128.size a := by
  have := s.isLt; have := k.isLt; intro a; fin_cases a
  · show s.val + 1 ≤ 2; omega
  · show k.val + 1 ≤ 9; omega
  · show 0 + 128 ≤ 128; omega
  · show 0 + 8 ≤ 8; omega
  · show 0 + 128 ≤ 128; omega

/-- Page `k` of slot `s` of the ring. -/
def piece (s : Fin 2) (k : Fin 9) : Memref sig .tc .vmem S128x8x128 .f32 :=
  (ringM.slice (Rect.unit (s := S2x9x128x8x128) ![s.val, k.val, 0, 0, 0] S1x1x128x8x128.size (ring_inb s k)) (fun _ => rfl)).squeeze S128x8x128 squeezes_S1x1x128x8x128_S128x8x128

/-- A page number, kept inside the cache. -/
def pageNo (w : BitVec 32) : Nat := min w.toNat 5119
theorem page_inb (w : BitVec 32) : ∀ a, (![pageNo w, 0, 0, 0] : Fin 4 → Nat) a + S1x128x8x128.size a ≤ S5120x128x8x128.size a := by
  have : pageNo w ≤ 5119 := Nat.min_le_right _ _; intro a; fin_cases a
  · show pageNo w + 1 ≤ 5120; omega
  · show 0 + 128 ≤ 128; omega
  · show 0 + 8 ≤ 8; omega
  · show 0 + 128 ≤ 128; omega

/-- The cache's page of number `w`. -/
def pageM (w : BitVec 32) : Memref sig .tc .hbm S128x8x128 .f32 :=
  (cacheM.slice (Rect.unit (s := S5120x128x8x128) ![pageNo w, 0, 0, 0] S1x128x8x128.size (page_inb w)) (fun _ => rfl)).squeeze S128x8x128 squeezes_S1x128x8x128_S128x8x128

/-- A page at any in-bounds spelling of its offsets. -/
theorem page_name (w : BitVec 32) (off : Fin 4 → Nat) (h : ∀ a, off a + S1x128x8x128.size a ≤ S5120x128x8x128.size a)
    (ho : off = ![w.toNat, 0, 0, 0]) :
    (cacheM.slice (Rect.unit (s := S5120x128x8x128) off S1x128x8x128.size h) (fun _ => rfl)).squeeze S128x8x128 squeezes_S1x128x8x128_S128x8x128 = pageM w := by
  subst ho
  have hw : w.toNat + 1 ≤ 5120 := h 0
  have e : pageNo w = w.toNat := Nat.min_eq_left (by omega)
  exact congrArg (fun M : Memref sig .tc .hbm S1x128x8x128 .f32 => M.squeeze S128x8x128 squeezes_S1x128x8x128_S128x8x128)
    (Memref.slice_unit_congr _ (by rw [e]) _ _ _ fun _ => rfl)

/-- A ring page at any spelling of its offsets. -/
theorem piece_name (s : Fin 2) (k : Fin 9) (off : Fin 5 → Nat) (h : ∀ a, off a + S1x1x128x8x128.size a ≤ S2x9x128x8x128.size a)
    (ho : off = ![s.val, k.val, 0, 0, 0]) :
    (ringM.slice (Rect.unit (s := S2x9x128x8x128) off S1x1x128x8x128.size h) (fun _ => rfl)).squeeze S128x8x128 squeezes_S1x1x128x8x128_S128x8x128 = piece s k := by
  subst ho; rfl

/-- The two slots' semaphores. -/
theorem sem_inb (s : Fin 2) : ∀ a, (![s.val] : Fin 1 → Nat) a + S1.size a ≤ S2.size a := by
  have := s.isLt; intro a; fin_cases a; show s.val + 1 ≤ 2; omega
def cellS (s : Fin 2) : DmaSems sig S_ :=
  (cc0_scratch2.slice (Rect.unit (s := S2) ![s.val] S1.size (sem_inb s))).squeeze S_ squeezes_S1_S_
theorem cell_name (s : Fin 2) (off : Fin 1 → Nat) (h : ∀ a, off a + S1.size a ≤ S2.size a) (ho : off = ![s.val]) :
    (cc0_scratch2.slice (Rect.unit (s := S2) off S1.size h)).squeeze S_ squeezes_S1_S_ = cellS s := by
  subst ho; rfl
abbrev cell (s : Fin 2) : SemLoc sig := SemLoc.dma (cellS s).sem

/-- A memref held by exactly its own elements. -/
abbrev own (c : Dev nD) {sp : Space} (M : Memref sig .tc sp S128x8x128 .f32) (q : PosShare TreeShare) (f : Buf (Elt F) (M.view.loc (c : Thread nD τ))) : sProp 𝕄 :=
  M.view.loc (c : Thread nD τ) ↦[M.view.set]{q} f

/-- One page's credit. -/
abbrev credit (s : Fin 2) : ℕ := (piece s 0).view.amount (cell s)

/-- The contents of the cache, as one buffer. -/
abbrev Cache (c : Dev nD) (F : FTy → Type) := Buf (Elt F) ((c : Thread nD τ).loc main_v4)

end Cert.Kernel2Ideal.Proj
-- ==== Proof.ProjNames.lean ====
/- The kernel's own spellings of a ring page, a cache page, a slot's semaphore and a table word, each equal to the one
   name the proof gives it. -/
module

public import proofs.«01_k».proof.Proof.ProjRing

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev Co := grid0.Coords
abbrev inRing (o : Fin 5 → Nat) : Prop := ∀ a, o a + S1x1x128x8x128.size a ≤ S2x9x128x8x128.size a
abbrev inCache (o : Fin 4 → Nat) : Prop := ∀ a, o a + S1x128x8x128.size a ≤ S5120x128x8x128.size a
abbrev inSems (o : Fin 1 → Nat) : Prop := ∀ a, o a + S1.size a ≤ S2.size a
/-- A page of the ring, a page of the cache and a slot's semaphore, at given offsets. -/
abbrev ringPg (o : Fin 5 → Nat) (h : inRing o) :=
  (ringM.slice (Rect.unit (s := S2x9x128x8x128) o S1x1x128x8x128.size h) (fun _ => rfl)).squeeze S128x8x128 squeezes_S1x1x128x8x128_S128x8x128
abbrev cachePg (o : Fin 4 → Nat) (h : inCache o) :=
  (cacheM.slice (Rect.unit (s := S5120x128x8x128) o S1x128x8x128.size h) (fun _ => rfl)).squeeze S128x8x128 squeezes_S1x128x8x128_S128x8x128
abbrev slotSem (o : Fin 1 → Nat) (h : inSems o) := (cc0_scratch2.slice (Rect.unit (s := S2) o S1.size h)).squeeze S_ squeezes_S1_S_

/-- The number of a grid point. -/
def step (i : grid0.Coords) : Nat := (i 0).val * 26 + (i 1).val
/-- The slot whose pages a point waits for. -/
def slotW (i : Co) : Fin 2 := ⟨step i % 2, Nat.mod_lt _ (by decide)⟩
/-- The slot whose copies a point starts. -/
def slotL (i : Co) : Fin 2 := ⟨(step i + 1) % 2, Nat.mod_lt _ (by decide)⟩

@[sl_canon] theorem page_canon1 (v : BitVec 32) (h : inCache (k0_off1 v)) : cachePg (k0_off1 v) h = pageM v := page_name v _ h (by rfl)

@[sl_canon] theorem ring_first0 (h : inRing (![0, 0, 0, 0, 0] : Fin 5 → Nat)) : ringPg ![0, 0, 0, 0, 0] h = piece 0 0 := rfl

@[sl_canon] theorem page_canon2 (v : BitVec 32) (h : inCache (k0_off2 v)) : cachePg (k0_off2 v) h = pageM v := page_name v _ h (by rfl)

@[sl_canon] theorem ring_first1 (h : inRing (![0, 1, 0, 0, 0] : Fin 5 → Nat)) : ringPg ![0, 1, 0, 0, 0] h = piece 0 1 := rfl

@[sl_canon] theorem page_canon3 (v : BitVec 32) (h : inCache (k0_off3 v)) : cachePg (k0_off3 v) h = pageM v := page_name v _ h (by rfl)

@[sl_canon] theorem ring_first2 (h : inRing (![0, 2, 0, 0, 0] : Fin 5 → Nat)) : ringPg ![0, 2, 0, 0, 0] h = piece 0 2 := rfl

@[sl_canon] theorem page_canon4 (v : BitVec 32) (h : inCache (k0_off4 v)) : cachePg (k0_off4 v) h = pageM v := page_name v _ h (by rfl)

@[sl_canon] theorem ring_first3 (h : inRing (![0, 3, 0, 0, 0] : Fin 5 → Nat)) : ringPg ![0, 3, 0, 0, 0] h = piece 0 3 := rfl

@[sl_canon] theorem page_canon5 (v : BitVec 32) (h : inCache (k0_off5 v)) : cachePg (k0_off5 v) h = pageM v := page_name v _ h (by rfl)

@[sl_canon] theorem ring_first4 (h : inRing (![0, 4, 0, 0, 0] : Fin 5 → Nat)) : ringPg ![0, 4, 0, 0, 0] h = piece 0 4 := rfl

@[sl_canon] theorem page_canon6 (v : BitVec 32) (h : inCache (k0_off6 v)) : cachePg (k0_off6 v) h = pageM v := page_name v _ h (by rfl)

@[sl_canon] theorem ring_first5 (h : inRing (![0, 5, 0, 0, 0] : Fin 5 → Nat)) : ringPg ![0, 5, 0, 0, 0] h = piece 0 5 := rfl

@[sl_canon] theorem page_canon7 (v : BitVec 32) (h : inCache (k0_off7 v)) : cachePg (k0_off7 v) h = pageM v := page_name v _ h (by rfl)

@[sl_canon] theorem ring_first6 (h : inRing (![0, 6, 0, 0, 0] : Fin 5 → Nat)) : ringPg ![0, 6, 0, 0, 0] h = piece 0 6 := rfl

@[sl_canon] theorem page_canon8 (v : BitVec 32) (h : inCache (k0_off8 v)) : cachePg (k0_off8 v) h = pageM v := page_name v _ h (by rfl)

@[sl_canon] theorem ring_first7 (h : inRing (![0, 7, 0, 0, 0] : Fin 5 → Nat)) : ringPg ![0, 7, 0, 0, 0] h = piece 0 7 := rfl

@[sl_canon] theorem page_canon9 (v : BitVec 32) (h : inCache (k0_off9 v)) : cachePg (k0_off9 v) h = pageM v := page_name v _ h (by rfl)

@[sl_canon] theorem ring_first8 (h : inRing (![0, 8, 0, 0, 0] : Fin 5 → Nat)) : ringPg ![0, 8, 0, 0, 0] h = piece 0 8 := rfl

@[sl_canon] theorem cell_first (h : inSems (![0] : Fin 1 → Nat)) : slotSem ![0] h = cellS 0 := rfl

theorem off10_eq : ∀ i : Co, ∀ (h2 : k0_cond2 i = 1#1), k0_off10 i = ![9 * (step i + 1) + 0] := by decide +kernel

theorem off11_eq : ∀ i : Co, ∀ (h2 : k0_cond2 i = 1#1), k0_off11 i = ![(slotL i).val] := by decide +kernel
@[sl_canon] theorem cell_canon11 (i : Co) (h2 : k0_cond2 i = 1#1) (h : inSems (k0_off11 i)) : slotSem (k0_off11 i) h = cellS (slotL i) := cell_name _ _ h (off11_eq i h2)

theorem off12_eq : ∀ i : Co, ∀ (h2 : k0_cond2 i = 1#1), k0_off12 i = ![(slotL i).val, 0, 0, 0, 0] := by decide +kernel
@[sl_canon] theorem ring_canon12 (i : Co) (h2 : k0_cond2 i = 1#1) (h : inRing (k0_off12 i)) : ringPg (k0_off12 i) h = piece (slotL i) 0 := piece_name _ _ _ h (off12_eq i h2)

@[sl_canon] theorem page_canon13 (v : BitVec 32) (h : inCache (k0_off13 v)) : cachePg (k0_off13 v) h = pageM v := page_name v _ h (by rfl)

theorem off14_eq : ∀ i : Co, ∀ (h2 : k0_cond2 i = 1#1), k0_off14 i = ![9 * (step i + 1) + 1] := by decide +kernel

theorem off15_eq : ∀ i : Co, ∀ (h2 : k0_cond2 i = 1#1), k0_off15 i = ![(slotL i).val] := by decide +kernel
@[sl_canon] theorem cell_canon15 (i : Co) (h2 : k0_cond2 i = 1#1) (h : inSems (k0_off15 i)) : slotSem (k0_off15 i) h = cellS (slotL i) := cell_name _ _ h (off15_eq i h2)

theorem off16_eq : ∀ i : Co, ∀ (h2 : k0_cond2 i = 1#1), k0_off16 i = ![(slotL i).val, 1, 0, 0, 0] := by decide +kernel
@[sl_canon] theorem ring_canon16 (i : Co) (h2 : k0_cond2 i = 1#1) (h : inRing (k0_off16 i)) : ringPg (k0_off16 i) h = piece (slotL i) 1 := piece_name _ _ _ h (off16_eq i h2)

@[sl_canon] theorem page_canon17 (v : BitVec 32) (h : inCache (k0_off17 v)) : cachePg (k0_off17 v) h = pageM v := page_name v _ h (by rfl)

theorem off18_eq : ∀ i : Co, ∀ (h2 : k0_cond2 i = 1#1), k0_off18 i = ![9 * (step i + 1) + 2] := by decide +kernel

theorem off19_eq : ∀ i : Co, ∀ (h2 : k0_cond2 i = 1#1), k0_off19 i = ![(slotL i).val] := by decide +kernel
@[sl_canon] theorem cell_canon19 (i : Co) (h2 : k0_cond2 i = 1#1) (h : inSems (k0_off19 i)) : slotSem (k0_off19 i) h = cellS (slotL i) := cell_name _ _ h (off19_eq i h2)

theorem off20_eq : ∀ i : Co, ∀ (h2 : k0_cond2 i = 1#1), k0_off20 i = ![(slotL i).val, 2, 0, 0, 0] := by decide +kernel
@[sl_canon] theorem ring_canon20 (i : Co) (h2 : k0_cond2 i = 1#1) (h : inRing (k0_off20 i)) : ringPg (k0_off20 i) h = piece (slotL i) 2 := piece_name _ _ _ h (off20_eq i h2)

@[sl_canon] theorem page_canon21 (v : BitVec 32) (h : inCache (k0_off21 v)) : cachePg (k0_off21 v) h = pageM v := page_name v _ h (by rfl)

theorem off22_eq : ∀ i : Co, ∀ (h2 : k0_cond2 i = 1#1), k0_off22 i = ![9 * (step i + 1) + 3] := by decide +kernel

theorem off23_eq : ∀ i : Co, ∀ (h2 : k0_cond2 i = 1#1), k0_off23 i = ![(slotL i).val] := by decide +kernel
@[sl_canon] theorem cell_canon23 (i : Co) (h2 : k0_cond2 i = 1#1) (h : inSems (k0_off23 i)) : slotSem (k0_off23 i) h = cellS (slotL i) := cell_name _ _ h (off23_eq i h2)

theorem off24_eq : ∀ i : Co, ∀ (h2 : k0_cond2 i = 1#1), k0_off24 i = ![(slotL i).val, 3, 0, 0, 0] := by decide +kernel
@[sl_canon] theorem ring_canon24 (i : Co) (h2 : k0_cond2 i = 1#1) (h : inRing (k0_off24 i)) : ringPg (k0_off24 i) h = piece (slotL i) 3 := piece_name _ _ _ h (off24_eq i h2)

@[sl_canon] theorem page_canon25 (v : BitVec 32) (h : inCache (k0_off25 v)) : cachePg (k0_off25 v) h = pageM v := page_name v _ h (by rfl)

theorem off26_eq : ∀ i : Co, ∀ (h2 : k0_cond2 i = 1#1), k0_off26 i = ![9 * (step i + 1) + 4] := by decide +kernel

theorem off27_eq : ∀ i : Co, ∀ (h2 : k0_cond2 i = 1#1), k0_off27 i = ![(slotL i).val] := by decide +kernel
@[sl_canon] theorem cell_canon27 (i : Co) (h2 : k0_cond2 i = 1#1) (h : inSems (k0_off27 i)) : slotSem (k0_off27 i) h = cellS (slotL i) := cell_name _ _ h (off27_eq i h2)

theorem off28_eq : ∀ i : Co, ∀ (h2 : k0_cond2 i = 1#1), k0_off28 i = ![(slotL i).val, 4, 0, 0, 0] := by decide +kernel
@[sl_canon] theorem ring_canon28 (i : Co) (h2 : k0_cond2 i = 1#1) (h : inRing (k0_off28 i)) : ringPg (k0_off28 i) h = piece (slotL i) 4 := piece_name _ _ _ h (off28_eq i h2)

@[sl_canon] theorem page_canon29 (v : BitVec 32) (h : inCache (k0_off29 v)) : cachePg (k0_off29 v) h = pageM v := page_name v _ h (by rfl)

theorem off30_eq : ∀ i : Co, ∀ (h2 : k0_cond2 i = 1#1), k0_off30 i = ![9 * (step i + 1) + 5] := by decide +kernel

theorem off31_eq : ∀ i : Co, ∀ (h2 : k0_cond2 i = 1#1), k0_off31 i = ![(slotL i).val] := by decide +kernel
@[sl_canon] theorem cell_canon31 (i : Co) (h2 : k0_cond2 i = 1#1) (h : inSems (k0_off31 i)) : slotSem (k0_off31 i) h = cellS (slotL i) := cell_name _ _ h (off31_eq i h2)

theorem off32_eq : ∀ i : Co, ∀ (h2 : k0_cond2 i = 1#1), k0_off32 i = ![(slotL i).val, 5, 0, 0, 0] := by decide +kernel
@[sl_canon] theorem ring_canon32 (i : Co) (h2 : k0_cond2 i = 1#1) (h : inRing (k0_off32 i)) : ringPg (k0_off32 i) h = piece (slotL i) 5 := piece_name _ _ _ h (off32_eq i h2)

@[sl_canon] theorem page_canon33 (v : BitVec 32) (h : inCache (k0_off33 v)) : cachePg (k0_off33 v) h = pageM v := page_name v _ h (by rfl)

theorem off34_eq : ∀ i : Co, ∀ (h2 : k0_cond2 i = 1#1), k0_off34 i = ![9 * (step i + 1) + 6] := by decide +kernel

theorem off35_eq : ∀ i : Co, ∀ (h2 : k0_cond2 i = 1#1), k0_off35 i = ![(slotL i).val] := by decide +kernel
@[sl_canon] theorem cell_canon35 (i : Co) (h2 : k0_cond2 i = 1#1) (h : inSems (k0_off35 i)) : slotSem (k0_off35 i) h = cellS (slotL i) := cell_name _ _ h (off35_eq i h2)

theorem off36_eq : ∀ i : Co, ∀ (h2 : k0_cond2 i = 1#1), k0_off36 i = ![(slotL i).val, 6, 0, 0, 0] := by decide +kernel
@[sl_canon] theorem ring_canon36 (i : Co) (h2 : k0_cond2 i = 1#1) (h : inRing (k0_off36 i)) : ringPg (k0_off36 i) h = piece (slotL i) 6 := piece_name _ _ _ h (off36_eq i h2)

@[sl_canon] theorem page_canon37 (v : BitVec 32) (h : inCache (k0_off37 v)) : cachePg (k0_off37 v) h = pageM v := page_name v _ h (by rfl)

theorem off38_eq : ∀ i : Co, ∀ (h2 : k0_cond2 i = 1#1), k0_off38 i = ![9 * (step i + 1) + 7] := by decide +kernel

theorem off39_eq : ∀ i : Co, ∀ (h2 : k0_cond2 i = 1#1), k0_off39 i = ![(slotL i).val] := by decide +kernel
@[sl_canon] theorem cell_canon39 (i : Co) (h2 : k0_cond2 i = 1#1) (h : inSems (k0_off39 i)) : slotSem (k0_off39 i) h = cellS (slotL i) := cell_name _ _ h (off39_eq i h2)

theorem off40_eq : ∀ i : Co, ∀ (h2 : k0_cond2 i = 1#1), k0_off40 i = ![(slotL i).val, 7, 0, 0, 0] := by decide +kernel
@[sl_canon] theorem ring_canon40 (i : Co) (h2 : k0_cond2 i = 1#1) (h : inRing (k0_off40 i)) : ringPg (k0_off40 i) h = piece (slotL i) 7 := piece_name _ _ _ h (off40_eq i h2)

@[sl_canon] theorem page_canon41 (v : BitVec 32) (h : inCache (k0_off41 v)) : cachePg (k0_off41 v) h = pageM v := page_name v _ h (by rfl)

theorem off42_eq : ∀ i : Co, ∀ (h2 : k0_cond2 i = 1#1), k0_off42 i = ![9 * (step i + 1) + 8] := by decide +kernel

theorem off43_eq : ∀ i : Co, ∀ (h2 : k0_cond2 i = 1#1), k0_off43 i = ![(slotL i).val] := by decide +kernel
@[sl_canon] theorem cell_canon43 (i : Co) (h2 : k0_cond2 i = 1#1) (h : inSems (k0_off43 i)) : slotSem (k0_off43 i) h = cellS (slotL i) := cell_name _ _ h (off43_eq i h2)

theorem off44_eq : ∀ i : Co, ∀ (h2 : k0_cond2 i = 1#1), k0_off44 i = ![(slotL i).val, 8, 0, 0, 0] := by decide +kernel
@[sl_canon] theorem ring_canon44 (i : Co) (h2 : k0_cond2 i = 1#1) (h : inRing (k0_off44 i)) : ringPg (k0_off44 i) h = piece (slotL i) 8 := piece_name _ _ _ h (off44_eq i h2)

@[sl_canon] theorem page_canon45 (v : BitVec 32) (h : inCache (k0_off45 v)) : cachePg (k0_off45 v) h = pageM v := page_name v _ h (by rfl)

theorem off47_eq : ∀ i : Co, k0_off47 i = ![9 * step i + 0] := by decide +kernel

theorem off48_eq : ∀ i : Co, k0_off48 i = ![(slotW i).val] := by decide +kernel
@[sl_canon] theorem cell_canon48 (i : Co) (h : inSems (k0_off48 i)) : slotSem (k0_off48 i) h = cellS (slotW i) := cell_name _ _ h (off48_eq i)

theorem off49_eq : ∀ i : Co, k0_off49 i = ![(slotW i).val, 0, 0, 0, 0] := by decide +kernel
@[sl_canon] theorem ring_canon49 (i : Co) (h : inRing (k0_off49 i)) : ringPg (k0_off49 i) h = piece (slotW i) 0 := piece_name _ _ _ h (off49_eq i)

@[sl_canon] theorem page_canon50 (v : BitVec 32) (h : inCache (k0_off50 v)) : cachePg (k0_off50 v) h = pageM v := page_name v _ h (by rfl)

theorem off51_eq : ∀ i : Co, k0_off51 i = ![9 * step i + 1] := by decide +kernel

theorem off52_eq : ∀ i : Co, k0_off52 i = ![(slotW i).val] := by decide +kernel
@[sl_canon] theorem cell_canon52 (i : Co) (h : inSems (k0_off52 i)) : slotSem (k0_off52 i) h = cellS (slotW i) := cell_name _ _ h (off52_eq i)

theorem off53_eq : ∀ i : Co, k0_off53 i = ![(slotW i).val, 1, 0, 0, 0] := by decide +kernel
@[sl_canon] theorem ring_canon53 (i : Co) (h : inRing (k0_off53 i)) : ringPg (k0_off53 i) h = piece (slotW i) 1 := piece_name _ _ _ h (off53_eq i)

@[sl_canon] theorem page_canon54 (v : BitVec 32) (h : inCache (k0_off54 v)) : cachePg (k0_off54 v) h = pageM v := page_name v _ h (by rfl)

theorem off55_eq : ∀ i : Co, k0_off55 i = ![9 * step i + 2] := by decide +kernel

theorem off56_eq : ∀ i : Co, k0_off56 i = ![(slotW i).val] := by decide +kernel
@[sl_canon] theorem cell_canon56 (i : Co) (h : inSems (k0_off56 i)) : slotSem (k0_off56 i) h = cellS (slotW i) := cell_name _ _ h (off56_eq i)

theorem off57_eq : ∀ i : Co, k0_off57 i = ![(slotW i).val, 2, 0, 0, 0] := by decide +kernel
@[sl_canon] theorem ring_canon57 (i : Co) (h : inRing (k0_off57 i)) : ringPg (k0_off57 i) h = piece (slotW i) 2 := piece_name _ _ _ h (off57_eq i)

@[sl_canon] theorem page_canon58 (v : BitVec 32) (h : inCache (k0_off58 v)) : cachePg (k0_off58 v) h = pageM v := page_name v _ h (by rfl)

theorem off59_eq : ∀ i : Co, k0_off59 i = ![9 * step i + 3] := by decide +kernel

theorem off60_eq : ∀ i : Co, k0_off60 i = ![(slotW i).val] := by decide +kernel
@[sl_canon] theorem cell_canon60 (i : Co) (h : inSems (k0_off60 i)) : slotSem (k0_off60 i) h = cellS (slotW i) := cell_name _ _ h (off60_eq i)

theorem off61_eq : ∀ i : Co, k0_off61 i = ![(slotW i).val, 3, 0, 0, 0] := by decide +kernel
@[sl_canon] theorem ring_canon61 (i : Co) (h : inRing (k0_off61 i)) : ringPg (k0_off61 i) h = piece (slotW i) 3 := piece_name _ _ _ h (off61_eq i)

@[sl_canon] theorem page_canon62 (v : BitVec 32) (h : inCache (k0_off62 v)) : cachePg (k0_off62 v) h = pageM v := page_name v _ h (by rfl)

theorem off63_eq : ∀ i : Co, k0_off63 i = ![9 * step i + 4] := by decide +kernel

theorem off64_eq : ∀ i : Co, k0_off64 i = ![(slotW i).val] := by decide +kernel
@[sl_canon] theorem cell_canon64 (i : Co) (h : inSems (k0_off64 i)) : slotSem (k0_off64 i) h = cellS (slotW i) := cell_name _ _ h (off64_eq i)

theorem off65_eq : ∀ i : Co, k0_off65 i = ![(slotW i).val, 4, 0, 0, 0] := by decide +kernel
@[sl_canon] theorem ring_canon65 (i : Co) (h : inRing (k0_off65 i)) : ringPg (k0_off65 i) h = piece (slotW i) 4 := piece_name _ _ _ h (off65_eq i)

@[sl_canon] theorem page_canon66 (v : BitVec 32) (h : inCache (k0_off66 v)) : cachePg (k0_off66 v) h = pageM v := page_name v _ h (by rfl)

theorem off67_eq : ∀ i : Co, k0_off67 i = ![9 * step i + 5] := by decide +kernel

theorem off68_eq : ∀ i : Co, k0_off68 i = ![(slotW i).val] := by decide +kernel
@[sl_canon] theorem cell_canon68 (i : Co) (h : inSems (k0_off68 i)) : slotSem (k0_off68 i) h = cellS (slotW i) := cell_name _ _ h (off68_eq i)

theorem off69_eq : ∀ i : Co, k0_off69 i = ![(slotW i).val, 5, 0, 0, 0] := by decide +kernel
@[sl_canon] theorem ring_canon69 (i : Co) (h : inRing (k0_off69 i)) : ringPg (k0_off69 i) h = piece (slotW i) 5 := piece_name _ _ _ h (off69_eq i)

@[sl_canon] theorem page_canon70 (v : BitVec 32) (h : inCache (k0_off70 v)) : cachePg (k0_off70 v) h = pageM v := page_name v _ h (by rfl)

theorem off71_eq : ∀ i : Co, k0_off71 i = ![9 * step i + 6] := by decide +kernel

theorem off72_eq : ∀ i : Co, k0_off72 i = ![(slotW i).val] := by decide +kernel
@[sl_canon] theorem cell_canon72 (i : Co) (h : inSems (k0_off72 i)) : slotSem (k0_off72 i) h = cellS (slotW i) := cell_name _ _ h (off72_eq i)

theorem off73_eq : ∀ i : Co, k0_off73 i = ![(slotW i).val, 6, 0, 0, 0] := by decide +kernel
@[sl_canon] theorem ring_canon73 (i : Co) (h : inRing (k0_off73 i)) : ringPg (k0_off73 i) h = piece (slotW i) 6 := piece_name _ _ _ h (off73_eq i)

@[sl_canon] theorem page_canon74 (v : BitVec 32) (h : inCache (k0_off74 v)) : cachePg (k0_off74 v) h = pageM v := page_name v _ h (by rfl)

theorem off75_eq : ∀ i : Co, k0_off75 i = ![9 * step i + 7] := by decide +kernel

theorem off76_eq : ∀ i : Co, k0_off76 i = ![(slotW i).val] := by decide +kernel
@[sl_canon] theorem cell_canon76 (i : Co) (h : inSems (k0_off76 i)) : slotSem (k0_off76 i) h = cellS (slotW i) := cell_name _ _ h (off76_eq i)

theorem off77_eq : ∀ i : Co, k0_off77 i = ![(slotW i).val, 7, 0, 0, 0] := by decide +kernel
@[sl_canon] theorem ring_canon77 (i : Co) (h : inRing (k0_off77 i)) : ringPg (k0_off77 i) h = piece (slotW i) 7 := piece_name _ _ _ h (off77_eq i)

@[sl_canon] theorem page_canon78 (v : BitVec 32) (h : inCache (k0_off78 v)) : cachePg (k0_off78 v) h = pageM v := page_name v _ h (by rfl)

theorem off79_eq : ∀ i : Co, k0_off79 i = ![9 * step i + 8] := by decide +kernel

theorem off80_eq : ∀ i : Co, k0_off80 i = ![(slotW i).val] := by decide +kernel
@[sl_canon] theorem cell_canon80 (i : Co) (h : inSems (k0_off80 i)) : slotSem (k0_off80 i) h = cellS (slotW i) := cell_name _ _ h (off80_eq i)

theorem off81_eq : ∀ i : Co, k0_off81 i = ![(slotW i).val, 8, 0, 0, 0] := by decide +kernel
@[sl_canon] theorem ring_canon81 (i : Co) (h : inRing (k0_off81 i)) : ringPg (k0_off81 i) h = piece (slotW i) 8 := piece_name _ _ _ h (off81_eq i)

@[sl_canon] theorem page_canon82 (v : BitVec 32) (h : inCache (k0_off82 v)) : cachePg (k0_off82 v) h = pageM v := page_name v _ h (by rfl)

theorem off83_eq : ∀ i : Co, k0_off83 i = ![(slotW i).val, 0, 0, 0, 0] := by decide +kernel
@[sl_canon] theorem ring_canon83 (i : Co) (h : inRing (k0_off83 i)) : ringPg (k0_off83 i) h = piece (slotW i) 0 := piece_name _ _ _ h (off83_eq i)

theorem off84_eq : ∀ i : Co, k0_off84 i = ![(slotW i).val, 1, 0, 0, 0] := by decide +kernel
@[sl_canon] theorem ring_canon84 (i : Co) (h : inRing (k0_off84 i)) : ringPg (k0_off84 i) h = piece (slotW i) 1 := piece_name _ _ _ h (off84_eq i)

theorem off85_eq : ∀ i : Co, k0_off85 i = ![(slotW i).val, 2, 0, 0, 0] := by decide +kernel
@[sl_canon] theorem ring_canon85 (i : Co) (h : inRing (k0_off85 i)) : ringPg (k0_off85 i) h = piece (slotW i) 2 := piece_name _ _ _ h (off85_eq i)

theorem off86_eq : ∀ i : Co, k0_off86 i = ![(slotW i).val, 3, 0, 0, 0] := by decide +kernel
@[sl_canon] theorem ring_canon86 (i : Co) (h : inRing (k0_off86 i)) : ringPg (k0_off86 i) h = piece (slotW i) 3 := piece_name _ _ _ h (off86_eq i)

theorem off87_eq : ∀ i : Co, k0_off87 i = ![(slotW i).val, 4, 0, 0, 0] := by decide +kernel
@[sl_canon] theorem ring_canon87 (i : Co) (h : inRing (k0_off87 i)) : ringPg (k0_off87 i) h = piece (slotW i) 4 := piece_name _ _ _ h (off87_eq i)

theorem off88_eq : ∀ i : Co, k0_off88 i = ![(slotW i).val, 5, 0, 0, 0] := by decide +kernel
@[sl_canon] theorem ring_canon88 (i : Co) (h : inRing (k0_off88 i)) : ringPg (k0_off88 i) h = piece (slotW i) 5 := piece_name _ _ _ h (off88_eq i)

theorem off89_eq : ∀ i : Co, k0_off89 i = ![(slotW i).val, 6, 0, 0, 0] := by decide +kernel
@[sl_canon] theorem ring_canon89 (i : Co) (h : inRing (k0_off89 i)) : ringPg (k0_off89 i) h = piece (slotW i) 6 := piece_name _ _ _ h (off89_eq i)

theorem off90_eq : ∀ i : Co, k0_off90 i = ![(slotW i).val, 7, 0, 0, 0] := by decide +kernel
@[sl_canon] theorem ring_canon90 (i : Co) (h : inRing (k0_off90 i)) : ringPg (k0_off90 i) h = piece (slotW i) 7 := piece_name _ _ _ h (off90_eq i)

theorem off91_eq : ∀ i : Co, k0_off91 i = ![(slotW i).val, 8, 0, 0, 0] := by decide +kernel
@[sl_canon] theorem ring_canon91 (i : Co) (h : inRing (k0_off91 i)) : ringPg (k0_off91 i) h = piece (slotW i) 8 := piece_name _ _ _ h (off91_eq i)

end Cert.Kernel2Ideal.Proj
-- ==== Proof.ProjDefs.lean ====
/- What a copy of a page hands back, and the kernel's body split where it begins to wait for its own pages. -/
module

public import proofs.«01_k».proof.Proof.ProjNames
public import proofs.«01_k».proof.Proof.Whole

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table held whole. -/
abbrev heldT (c : Dev nD) (q : PosShare TreeShare) (f : Buf (Elt F) (tblM.view.loc (c : Thread nD τ))) : sProp 𝕄 :=
  tblM.view.loc (c : Thread nD τ) ↦{q} f

/-- The cache's contents, seen as those of the buffer a page is a part of. -/
def asPage (c : Dev nD) (w : BitVec 32) (fc : Buf (Elt F) ((c : Thread nD τ).loc main_v4)) : Buf (Elt F) ((pageM w).view.loc (c : Thread nD τ)) := fc

/-- The contents of a ring page once the page of number `w` has landed in it. -/
abbrev landed (c : Dev nD) (s : Fin 2) (k : Fin 9) (w : BitVec 32) (fc : Buf (Elt F) ((c : Thread nD τ).loc main_v4)) :
    Buf (Elt F) ((piece s k).view.loc (c : Thread nD τ)) :=
  (piece s k).view.writes (Elt F) (piece s k).view.junk [⟨Rect.whole S128x8x128, ReadAs.same.apply ((pageM w).view.read (Elt F) (asPage c w fc))⟩]

/-- What the copy of a page hands back: the ring page filled, the cache page returned. -/
def deliv (c : Dev nD) (s : Fin 2) (w : Fin 9 → BitVec 32) (q : Fin 9 → PosShare TreeShare) (fc : Buf (Elt F) ((c : Thread nD τ).loc main_v4)) (k : Fin 9) : sProp 𝕄 :=
  iprop(own c (piece s k) fullShare (landed c s k (w k) fc) ∗ own c (pageM (w k)) (q k) (asPage c (w k) fc))

instance deliv_storable (c : Dev nD) (s : Fin 2) (w : Fin 9 → BitVec 32) (q : Fin 9 → PosShare TreeShare) (fc : Buf (Elt F) ((c : Thread nD τ).loc main_v4)) (k : Fin 9) :
    BI.Storable (upEmb : UEmb _ 𝕄) (deliv c s w q fc k) := by
  unfold deliv; infer_instance

/-- A slot's copies, `n` started. -/
abbrev flights (c : Dev nD) (s : Fin 2) (w : Fin 9 → BitVec 32) (q : Fin 9 → PosShare TreeShare) (fc : Buf (Elt F) ((c : Thread nD τ).loc main_v4)) (n : ℕ) : sProp 𝕄 :=
  Transfers.Batch (countersEmb (U := Pipeline.UD sig nD τ)) (c : Thread nD τ) (cell s) () (credit s) (deliv c s w q fc) n 0

/-- A word of the table as the kernel reads it. -/
abbrev wordAt (c : Dev nD) (ft : Buf (Elt F) (tblM.view.loc (c : Thread nD τ))) (off : Fin 1 → Nat) (h : ∀ a, off a + S1.size a ≤ S1872.size a) : BitVec 32 :=
  View.readAt (Elt F) tblM.view (Rect.unit (s := S1872) off S1.size h).toLoadRect ft (Shape.Idx.first (numel1_S1.symm ▸ Nat.one_pos))

/-- The body from its first wait on. -/
def landProg (i : grid0.Coords) (arg2 : Memref sig .tc .smem S1872 .i32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg7 : Memref sig .tc .hbm S5120x128x8x128 .f32) (harg7 : arg7.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (arg11 : Memref sig .tc .vmem S1024x2048 .bf16) (harg11 : arg11.IsWhole) (arg12 : Memref sig .tc .vmem S2x9x128x8x128 .f32) (harg12 : arg12.IsWhole) (arg13 : DmaSems sig S2) (v1 : BitVec 32) (v26 : Elt F .i32) (k0_hw19 : k0_chk19 v26) :
    Prog (TpuEff nD τ sig (Elt F) Λ₀ .tc) PUnit := do
  let ⟨v55, c0_i32_43⟩ : Σ' (v55 : BitVec 32), BitVec 32 ← k0_part7 i arg2 harg2 arg3 harg3 arg4 harg4 arg5 harg5 arg6 harg6 arg7 harg7 arg8 harg8 arg9 harg9 arg10 harg10 arg11 harg11 arg12 harg12 arg13 v1 v26 k0_hw19
  let ⟨v81, k0_hw24⟩ : Σ' (v81 : Elt F .i32), k0_chk24 v81 ← k0_part8 i arg2 harg2 arg3 harg3 arg4 harg4 arg5 harg5 arg6 harg6 arg7 harg7 arg8 harg8 arg9 harg9 arg10 harg10 arg11 harg11 arg12 harg12 arg13 v1 v55 c0_i32_43
  let v114 : Elt F .i32 ← k0_part9 i arg2 harg2 arg3 harg3 arg4 harg4 arg5 harg5 arg6 harg6 arg7 harg7 arg8 harg8 arg9 harg9 arg10 harg10 arg11 harg11 arg12 harg12 arg13 v1 v81 k0_hw24
  let v135 : FVec F S16x8x128 .f32 ← k0_part10 i arg2 harg2 arg3 harg3 arg4 harg4 arg5 harg5 arg6 harg6 arg7 harg7 arg8 harg8 arg9 harg9 arg10 harg10 arg11 harg11 arg12 harg12 arg13 v114
  let v164 : FVec F S8x128 .f32 ← k0_part11 i arg2 harg2 arg3 harg3 arg4 harg4 arg5 harg5 arg6 harg6 arg7 harg7 arg8 harg8 arg9 harg9 arg10 harg10 arg11 harg11 arg12 harg12 arg13 v135
  let v186 : FVec F S16x8x128 .f32 ← k0_part12 i arg2 harg2 arg3 harg3 arg4 harg4 arg5 harg5 arg6 harg6 arg7 harg7 arg8 harg8 arg9 harg9 arg10 harg10 arg11 harg11 arg12 harg12 arg13 v164
  let v217 : Vec F S16x8x128 .f32 ← k0_part13 i arg2 harg2 arg3 harg3 arg4 harg4 arg5 harg5 arg6 harg6 arg7 harg7 arg8 harg8 arg9 harg9 arg10 harg10 arg11 harg11 arg12 harg12 arg13 v186
  let v237 : FVec F S16x8x128 .f32 ← k0_part14 i arg2 harg2 arg3 harg3 arg4 harg4 arg5 harg5 arg6 harg6 arg7 harg7 arg8 harg8 arg9 harg9 arg10 harg10 arg11 harg11 arg12 harg12 arg13 v217
  let v268 : FVec F S16x8x128 .f32 ← k0_part15 i arg2 harg2 arg3 harg3 arg4 harg4 arg5 harg5 arg6 harg6 arg7 harg7 arg8 harg8 arg9 harg9 arg10 harg10 arg11 harg11 arg12 harg12 arg13 v237
  let v288 : FVec F S16x8x128 .f32 ← k0_part16 i arg2 harg2 arg3 harg3 arg4 harg4 arg5 harg5 arg6 harg6 arg7 harg7 arg8 harg8 arg9 harg9 arg10 harg10 arg11 harg11 arg12 harg12 arg13 v268
  let v319 : FVec F S16x8x128 .f32 ← k0_part17 i arg2 harg2 arg3 harg3 arg4 harg4 arg5 harg5 arg6 harg6 arg7 harg7 arg8 harg8 arg9 harg9 arg10 harg10 arg11 harg11 arg12 harg12 arg13 v288
  let ⟨v348, v349⟩ : Σ' (v348 : FVec F S2x8x128 .f32), FVec F S1x8x128 .f32 ← k0_part18 i arg2 harg2 arg3 harg3 arg4 harg4 arg5 harg5 arg6 harg6 arg7 harg7 arg8 harg8 arg9 harg9 arg10 harg10 arg11 harg11 arg12 harg12 arg13 v319
  let v370 : FVec F S16x8x128 .f32 ← k0_part19 i arg2 harg2 arg3 harg3 arg4 harg4 arg5 harg5 arg6 harg6 arg7 harg7 arg8 harg8 arg9 harg9 arg10 harg10 arg11 harg11 arg12 harg12 arg13 v348 v349
  k0_part20 i arg2 harg2 arg3 harg3 arg4 harg4 arg5 harg5 arg6 harg6 arg7 harg7 arg8 harg8 arg9 harg9 arg10 harg10 arg11 harg11 arg12 harg12 arg13 v370
  let v421 : FVec F S16x8x128 .f32 ← k0_part21 i arg2 harg2 arg3 harg3 arg4 harg4 arg5 harg5 arg6 harg6 arg7 harg7 arg8 harg8 arg9 harg9 arg10 harg10 arg11 harg11 arg12 harg12 arg13
  let v452 : Vec F S16x8x128 .f32 ← k0_part22 i arg2 harg2 arg3 harg3 arg4 harg4 arg5 harg5 arg6 harg6 arg7 harg7 arg8 harg8 arg9 harg9 arg10 harg10 arg11 harg11 arg12 harg12 arg13 v421
  let v476 : FVec F S16x8x128 .f32 ← k0_part23 i arg2 harg2 arg3 harg3 arg4 harg4 arg5 harg5 arg6 harg6 arg7 harg7 arg8 harg8 arg9 harg9 arg10 harg10 arg11 harg11 arg12 harg12 arg13 v452
  let v503 : FVec F S16x8x128 .f32 ← k0_part24 i arg2 harg2 arg3 harg3 arg4 harg4 arg5 harg5 arg6 harg6 arg7 harg7 arg8 harg8 arg9 harg9 arg10 harg10 arg11 harg11 arg12 harg12 arg13 v476
  let ⟨v528, v529⟩ : Σ' (v528 : FVec F S8x8x128 .f32), FVec F S8x8x128 .f32 ← k0_part25 i arg2 harg2 arg3 harg3 arg4 harg4 arg5 harg5 arg6 harg6 arg7 harg7 arg8 harg8 arg9 harg9 arg10 harg10 arg11 harg11 arg12 harg12 arg13 v503
  let v541 : Vec F S1x8x128 .f32 ← Prog.lift (.load arg10 (Rect.unit (s := S9x8x128) ![8, 0, 0] S1x8x128.size inb_S9x8x128_S1x8x128_8_0_0).toLoadRect (View.loadsAt_vmem h_S1x8x128))
  Prog.lift (.store arg10 (Rect.unit (s := S9x8x128) ![8, 0, 0] S1x8x128.size inb_S9x8x128_S1x8x128_8_0_0) (k0_pay1 v528 v529) Finset.univ (View.stores_vmem_bits_univ h_S1x8x128 rfl) (.inl rfl))
  pure ⟨⟩

set_option maxRecDepth 65536 in
/-- The body is its launches and products, then its waits and sums. -/
theorem body_split (i : grid0.Coords) (arg2 : Memref sig .tc .smem S1872 .i32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg7 : Memref sig .tc .hbm S5120x128x8x128 .f32) (harg7 : arg7.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (arg11 : Memref sig .tc .vmem S1024x2048 .bf16) (harg11 : arg11.IsWhole) (arg12 : Memref sig .tc .vmem S2x9x128x8x128 .f32) (harg12 : arg12.IsWhole) (arg13 : DmaSems sig S2) :
    cc0_in_proj_stream (F := F) i arg2 harg2 arg3 harg3 arg4 harg4 arg5 harg5 arg6 harg6 arg7 harg7 arg8 harg8 arg9 harg9 arg10 harg10 arg11 harg11 arg12 harg12 arg13
      = k0_part6 i arg2 harg2 arg3 harg3 arg4 harg4 arg5 harg5 arg6 harg6 arg7 harg7 arg8 harg8 arg9 harg9 arg10 harg10 arg11 harg11 arg12 harg12 arg13 >>= fun r => landProg i arg2 harg2 arg3 harg3 arg4 harg4 arg5 harg5 arg6 harg6 arg7 harg7 arg8 harg8 arg9 harg9 arg10 harg10 arg11 harg11 arg12 harg12 arg13 r.1 r.2.1 r.2.2 := by
  rw [cc0_in_proj_stream_eq_skeleton]; rfl

end Cert.Kernel2Ideal.Proj
-- ==== Proof.ProjWords.lean ====
/- The words of the page table, in the order the kernel reads them, and the checks the kernel makes of them. -/
module

public import proofs.«01_k».proof.Proof.ProjDefs
public import proofs.«01_k».proof.Proof.Whole

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem word_inb (n : ℕ) : ∀ a, (![min n 1871] : Fin 1 → Nat) a + S1.size a ≤ S1872.size a := by
  intro a; fin_cases a; show min n 1871 + 1 ≤ 1872; omega

/-- Word `n` of the table. -/
def word (c : Dev nD) (ft : Buf (Elt F) (tblM.view.loc (c : Thread nD τ))) (n : ℕ) : BitVec 32 := wordAt c ft ![min n 1871] (word_inb n)

/-- A word read at any spelling of its offset. -/
theorem word_at (c : Dev nD) (ft : Buf (Elt F) (tblM.view.loc (c : Thread nD τ))) (n : ℕ) (off : Fin 1 → Nat)
    (h : ∀ a, off a + S1.size a ≤ S1872.size a) (ho : off = ![n]) : wordAt c ft off h = word c ft n := by
  subst ho
  have hn : n + 1 ≤ 1872 := h 0
  have e : min n 1871 = n := Nat.min_eq_left (by omega)
  unfold word
  congr 3
  rw [e]

/-- The nine words of step `t`. -/
abbrev words (c : Dev nD) (ft : Buf (Elt F) (tblM.view.loc (c : Thread nD τ))) (t : ℕ) : Fin 9 → BitVec 32 :=
  ![word c ft (9 * t + 0), word c ft (9 * t + 1), word c ft (9 * t + 2), word c ft (9 * t + 3), word c ft (9 * t + 4), word c ft (9 * t + 5), word c ft (9 * t + 6), word c ft (9 * t + 7), word c ft (9 * t + 8)]

/-- A page of a small number lies in the cache. -/
theorem page_ok (w : BitVec 32) (h : w.toNat < 5120) : ∀ a, (![w.toNat, 0, 0, 0] : Fin 4 → Nat) a + S1x128x8x128.size a ≤ S5120x128x8x128.size a := by
  have e : pageNo w = w.toNat := Nat.min_eq_left (by omega)
  rw [← e]; exact page_inb w

theorem cond1_iff : ∀ i : grid0.Coords, k0_cond1 i = 1#1 ↔ step i = 0 := by decide +kernel
theorem cond2_iff : ∀ i : grid0.Coords, k0_cond2 i = 1#1 ↔ step i < 207 := by decide +kernel
theorem cond3_iff : ∀ i : grid0.Coords, k0_cond3 i = 1#1 ↔ (i 1).val = 0 := by decide +kernel

end Cert.Kernel2Ideal.Proj
-- ==== Proof.ProjSums.lean ====
/- The sum of a page over its tokens, in the kernel's order, and the block of nine of them. -/
module

public import proofs.«01_k».proof.Proof.ProjDefs
public import proofs.«01_k».proof.Proof.Whole
public import Idealize.ShloMosaic.Lib.WritesUnit

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A page as the kernel reads it in the cache. -/
abbrev pageVec (c : Dev nD) (w : BitVec 32) (fc : Buf (Elt F) ((c : Thread nD τ).loc main_v4)) : S128x8x128.Idx → Elt F .f32 :=
  (pageM w).view.read (Elt F) (asPage c w fc)

/-- Sixteen tokens of a page. -/
def chunk (P : S128x8x128.Idx → Elt F .f32) (o : Fin 3 → Nat) (h : ∀ a, o a + S16x8x128.size a ≤ S128x8x128.size a) : Vec F S16x8x128 .f32 :=
  fun x => P ((Rect.unit (s := S128x8x128) o S16x8x128.size h).toLoadRect.idx x)

/-- A page summed over its tokens: eight chunks added in turn, then halves. -/
def rowSum (P : S128x8x128.Idx → Elt F .f32) : FVec F S1x8x128 .f32 :=
  k0_pay7 (k0_pay6 (k0_pay5 (chunk P ![0, 0, 0] inb_S128x8x128_S16x8x128_0_0_0) (chunk P ![16, 0, 0] inb_S128x8x128_S16x8x128_16_0_0)
      (chunk P ![32, 0, 0] inb_S128x8x128_S16x8x128_32_0_0) (chunk P ![48, 0, 0] inb_S128x8x128_S16x8x128_48_0_0))
    (chunk P ![64, 0, 0] inb_S128x8x128_S16x8x128_64_0_0) (chunk P ![80, 0, 0] inb_S128x8x128_S16x8x128_80_0_0)
    (chunk P ![96, 0, 0] inb_S128x8x128_S16x8x128_96_0_0) (chunk P ![112, 0, 0] inb_S128x8x128_S16x8x128_112_0_0))

/-- Nine rows as one block. -/
def rows9 (p : Fin 9 → FVec F S1x8x128 .f32) : Vec F S9x8x128 .f32 :=
  fun y => p (y 0) fun a => match a with | ⟨0, _⟩ => (0 : Fin 1) | ⟨1, _⟩ => y 1 | ⟨2, _⟩ => y 2

/-- The block of a step's nine sums. -/
def sumsBlk (P : Fin 9 → S128x8x128.Idx → Elt F .f32) : Vec F S9x8x128 .f32 := rows9 fun k => rowSum (P k)

theorem row_pick (v : View sig .tc .vmem S9x8x128 .f32) (f : v.ty.Contents (Elt F)) (k : Nat) (off : Fin 3 → Nat) (ho : off = ![k, 0, 0])
    (inb : ∀ a, off a + S1x8x128.size a ≤ S9x8x128.size a) (p : FVec F S1x8x128 .f32) (L : List (View.Piece (Elt F) S9x8x128 .f32)) (y : S9x8x128.Idx) :
    v.read (Elt F) (v.writes (Elt F) f ((⟨Rect.unit (s := S9x8x128) off S1x8x128.size inb, p⟩ : View.Piece (Elt F) S9x8x128 .f32) :: L)) y
      = if (y 0).val = k then p (fun a => match a with | ⟨0, _⟩ => (0 : Fin 1) | ⟨1, _⟩ => y 1 | ⟨2, _⟩ => y 2)
        else v.read (Elt F) (v.writes (Elt F) f L) y := by
  by_cases hk : (y 0).val = k
  · rw [if_pos hk]
    refine View.read_writes_cons_unit_of_mem v f inb p L y _ ho fun a => ?_
    match a with
    | ⟨0, _⟩ => exact hk
    | ⟨1, _⟩ => exact (Nat.zero_add _).symm
    | ⟨2, _⟩ => exact (Nat.zero_add _).symm
  · rw [if_neg hk]
    refine View.read_writes_cons_unit_of_not_mem v f inb p L y ho 0 ?_
    show (y 0).val < k ∨ k + 1 ≤ (y 0).val
    omega

/-- Nine rows stored one after the other read as the block. -/
theorem read_rows9 (v : View sig .tc .vmem S9x8x128 .f32) (f : v.ty.Contents (Elt F)) (p0 p1 p2 p3 p4 p5 p6 p7 p8 : FVec F S1x8x128 .f32) (p : Fin 9 → FVec F S1x8x128 .f32)
    (h0 : p0 = p 0) (h1 : p1 = p 1) (h2 : p2 = p 2) (h3 : p3 = p 3) (h4 : p4 = p 4) (h5 : p5 = p 5) (h6 : p6 = p 6) (h7 : p7 = p 7) (h8 : p8 = p 8) :
    v.read (Elt F) (v.writes (Elt F) f [(⟨Rect.unit (s := S9x8x128) ![8, 0, 0] S1x8x128.size inb_S9x8x128_S1x8x128_8_0_0, p8⟩ : View.Piece (Elt F) S9x8x128 .f32), (⟨Rect.unit (s := S9x8x128) ![7, 0, 0] S1x8x128.size inb_S9x8x128_S1x8x128_7_0_0, p7⟩ : View.Piece (Elt F) S9x8x128 .f32), (⟨Rect.unit (s := S9x8x128) ![6, 0, 0] S1x8x128.size inb_S9x8x128_S1x8x128_6_0_0, p6⟩ : View.Piece (Elt F) S9x8x128 .f32), (⟨Rect.unit (s := S9x8x128) ![5, 0, 0] S1x8x128.size inb_S9x8x128_S1x8x128_5_0_0, p5⟩ : View.Piece (Elt F) S9x8x128 .f32), (⟨Rect.unit (s := S9x8x128) ![4, 0, 0] S1x8x128.size inb_S9x8x128_S1x8x128_4_0_0, p4⟩ : View.Piece (Elt F) S9x8x128 .f32), (⟨Rect.unit (s := S9x8x128) ![3, 0, 0] S1x8x128.size inb_S9x8x128_S1x8x128_3_0_0, p3⟩ : View.Piece (Elt F) S9x8x128 .f32), (⟨Rect.unit (s := S9x8x128) ![2, 0, 0] S1x8x128.size inb_S9x8x128_S1x8x128_2_0_0, p2⟩ : View.Piece (Elt F) S9x8x128 .f32), (⟨Rect.unit (s := S9x8x128) ![1, 0, 0] S1x8x128.size inb_S9x8x128_S1x8x128_1_0_0, p1⟩ : View.Piece (Elt F) S9x8x128 .f32), (⟨Rect.unit (s := S9x8x128) ![0, 0, 0] S1x8x128.size inb_S9x8x128_S1x8x128_0_0_0, p0⟩ : View.Piece (Elt F) S9x8x128 .f32)]) = rows9 p := by
  subst h0 h1 h2 h3 h4 h5 h6 h7 h8
  funext y
  have hy := (y 0).isLt
  rw [row_pick v f 8 _ rfl, row_pick v f 7 _ rfl, row_pick v f 6 _ rfl, row_pick v f 5 _ rfl, row_pick v f 4 _ rfl, row_pick v f 3 _ rfl, row_pick v f 2 _ rfl, row_pick v f 1 _ rfl, row_pick v f 0 _ rfl]
  unfold rows9
  have hlt : (y 0).val < 9 := hy
  generalize hz : (fun a => match a with | ⟨0, _⟩ => (0 : Fin 1) | ⟨1, _⟩ => y 1 | ⟨2, _⟩ => y 2 : S1x8x128.Idx) = z
  have hy0 : ∀ k : Fin 9, (y 0).val = k.val → p (y 0) = p k := fun k h => congrArg p (Fin.ext h)
  split_ifs with a8 a7 a6 a5 a4 a3 a2 a1 a0
  · exact congrFun (hy0 8 a8).symm z
  · exact congrFun (hy0 7 a7).symm z
  · exact congrFun (hy0 6 a6).symm z
  · exact congrFun (hy0 5 a5).symm z
  · exact congrFun (hy0 4 a4).symm z
  · exact congrFun (hy0 3 a3).symm z
  · exact congrFun (hy0 2 a2).symm z
  · exact congrFun (hy0 1 a1).symm z
  · exact congrFun (hy0 0 a0).symm z
  · omega

/-- What a ring page holds after its copy: the cache page. -/
theorem landed_read (c : Dev nD) (s : Fin 2) (k : Fin 9) (w : BitVec 32) (fc : Buf (Elt F) ((c : Thread nD τ).loc main_v4)) :
    (piece s k).view.read (Elt F) (landed c s k w fc) = pageVec c w fc :=
  View.read_writes_whole _ _ _

end Cert.Kernel2Ideal.Proj
-- ==== Proof.ProjLand.lean ====
/- The waits for a slot's nine pages and the nine sums stored from them. -/
module

public import proofs.«01_k».proof.Proof.ProjSums
public import proofs.«01_k».proof.Proof.Whole

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
/-- From a slot's nine copies in flight: the pages come back and the sums' block is written. -/
theorem land (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (v1 : BitVec 32) (v26 : Elt F .i32) (k0_hw19 : k0_chk19 v26)
    (w : Fin 9 → BitVec 32) (q : Fin 9 → PosShare TreeShare) (qt : PosShare TreeShare)
    (ft : Buf (Elt F) (tblM.view.loc (c : Thread nD τ))) (fc : Buf (Elt F) ((c : Thread nD τ).loc main_v4))
    (hc1 : k0_chk20 (wordAt c ft (k0_off51 i) (k0_off51_inb i)))
    (hc2 : k0_chk21 (wordAt c ft (k0_off55 i) (k0_off55_inb i)))
    (hc3 : k0_chk22 (wordAt c ft (k0_off59 i) (k0_off59_inb i)))
    (hc4 : k0_chk23 (wordAt c ft (k0_off63 i) (k0_off63_inb i)))
    (hc5 : k0_chk24 (wordAt c ft (k0_off67 i) (k0_off67_inb i)))
    (hc6 : k0_chk25 (wordAt c ft (k0_off71 i) (k0_off71_inb i)))
    (hc7 : k0_chk26 (wordAt c ft (k0_off75 i) (k0_off75_inb i)))
    (hc8 : k0_chk27 (wordAt c ft (k0_off79 i) (k0_off79_inb i)))
    (W : Waits sig Unit) (K : PUnit → sProp 𝕄) :
    iprop(flights c (slotW i) w q fc 9 ∗ heldT c qt ft ∗ (∃ d, owns (c : Thread nD τ) arg10 fullShare d) ∗ owes (c : Thread nD τ) 0 W
        ∗ (iprop(own c (piece (slotW i) 0) fullShare (landed c (slotW i) 0 (w 0) fc) ∗ own c (piece (slotW i) 1) fullShare (landed c (slotW i) 1 (w 1) fc) ∗ own c (piece (slotW i) 2) fullShare (landed c (slotW i) 2 (w 2) fc) ∗ own c (piece (slotW i) 3) fullShare (landed c (slotW i) 3 (w 3) fc) ∗ own c (piece (slotW i) 4) fullShare (landed c (slotW i) 4 (w 4) fc) ∗ own c (piece (slotW i) 5) fullShare (landed c (slotW i) 5 (w 5) fc) ∗ own c (piece (slotW i) 6) fullShare (landed c (slotW i) 6 (w 6) fc) ∗ own c (piece (slotW i) 7) fullShare (landed c (slotW i) 7 (w 7) fc) ∗ own c (piece (slotW i) 8) fullShare (landed c (slotW i) 8 (w 8) fc) ∗ own c (pageM (w 0)) (q 0) (asPage c (w 0) fc) ∗ own c (pageM (w 1)) (q 1) (asPage c (w 1) fc) ∗ own c (pageM (w 2)) (q 2) (asPage c (w 2) fc) ∗ own c (pageM (w 3)) (q 3) (asPage c (w 3) fc) ∗ own c (pageM (w 4)) (q 4) (asPage c (w 4) fc) ∗ own c (pageM (w 5)) (q 5) (asPage c (w 5) fc) ∗ own c (pageM (w 6)) (q 6) (asPage c (w 6) fc) ∗ own c (pageM (w 7)) (q 7) (asPage c (w 7) fc) ∗ own c (pageM (w 8)) (q 8) (asPage c (w 8) fc)
            ∗ semVal ((c : Thread nD τ), cell (slotW i)) 0 ∗ heldT c qt ft ∗ owns (c : Thread nD τ) arg10 fullShare (sumsBlk fun k => pageVec c (w k) fc) ∗ ∃ W', owes (c : Thread nD τ) 0 W') -∗ K ⟨⟩))
      ⊢ wp frame (wpE (defs₀ (F := F)) Variants.none c none) Set.univ
          (landProg i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 v1 v26 k0_hw19) K := by
  unfold owns
  iintro ⟨HB, HT, ⟨%d, %f, -, HO⟩, HW, Hk⟩
  unfold landProg
  sl_exec (disch := (first | sl_exact hc1 | sl_exact hc2 | sl_exact hc3 | sl_exact hc4 | sl_exact hc5 | sl_exact hc6 | sl_exact hc7 | sl_exact hc8))
  sl_step
  iapply Hk
  isplitl [HB_dst0]; · iexact HB_dst0
  isplitl [HB_dst1]; · iexact HB_dst1
  isplitl [HB_dst2]; · iexact HB_dst2
  isplitl [HB_dst3]; · iexact HB_dst3
  isplitl [HB_dst4]; · iexact HB_dst4
  isplitl [HB_dst5]; · iexact HB_dst5
  isplitl [HB_dst6]; · iexact HB_dst6
  isplitl [HB_dst7]; · iexact HB_dst7
  isplitl [HB_dst8]; · iexact HB_dst8
  isplitl [HB_src0]; · iexact HB_src0
  isplitl [HB_src1]; · iexact HB_src1
  isplitl [HB_src2]; · iexact HB_src2
  isplitl [HB_src3]; · iexact HB_src3
  isplitl [HB_src4]; · iexact HB_src4
  isplitl [HB_src5]; · iexact HB_src5
  isplitl [HB_src6]; · iexact HB_src6
  isplitl [HB_src7]; · iexact HB_src7
  isplitl [HB_src8]; · iexact HB_src8
  isplitl [HB]; · iexact HB
  isplitl [HT]; · iexact HT
  isplitl [HO]
  · iexists _
    isplitr
    rotate_left
    · iexact HO
    · ipureintro
      refine read_rows9 _ _ _ _ _ _ _ _ _ _ _ _ ?_ ?_ ?_ ?_ ?_ ?_ ?_ ?_ ?_
      · exact congrArg rowSum (landed_read c (slotW i) 0 (w 0) fc)
      · exact congrArg rowSum (landed_read c (slotW i) 1 (w 1) fc)
      · exact congrArg rowSum (landed_read c (slotW i) 2 (w 2) fc)
      · exact congrArg rowSum (landed_read c (slotW i) 3 (w 3) fc)
      · exact congrArg rowSum (landed_read c (slotW i) 4 (w 4) fc)
      · exact congrArg rowSum (landed_read c (slotW i) 5 (w 5) fc)
      · exact congrArg rowSum (landed_read c (slotW i) 6 (w 6) fc)
      · exact congrArg rowSum (landed_read c (slotW i) 7 (w 7) fc)
      · exact congrArg rowSum (landed_read c (slotW i) 8 (w 8) fc)
  iexists _
  iexact HW

end Cert.Kernel2Ideal.Proj
-- ==== Proof.ProjSplit.lean ====
/- The first half of the kernel's body, cut where its conditions begin and end. -/
module

public import proofs.«01_k».proof.Proof.ProjSums
public import proofs.«01_k».proof.Proof.Whole

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The grid point's number as the kernel computes it. -/
def numb (i : grid0.Coords) : BitVec 32 := Scalar.addi (Scalar.muli (BitVec.ofNat 32 (i 0).val) 26#32) (BitVec.ofNat 32 (i 1).val)

set_option cleanup.letToHave false in
/-- The first step's own nine copies. -/
def firstProg (i : grid0.Coords) (arg2 : Memref sig .tc .smem S1872 .i32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg7 : Memref sig .tc .hbm S5120x128x8x128 .f32) (harg7 : arg7.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (arg11 : Memref sig .tc .vmem S1024x2048 .bf16) (harg11 : arg11.IsWhole) (arg12 : Memref sig .tc .vmem S2x9x128x8x128 .f32) (harg12 : arg12.IsWhole) (arg13 : DmaSems sig S2) (k0_h1 : k0_cond1 i = 1#1) : Prog (TpuEff nD τ sig (Elt F) Λ₀ .tc) PUnit := do
  let ⟨v565, k0_hw4⟩ : Σ' (v565 : Elt F .i32), k0_chk4 i v565 ← k0_part1 i arg2 harg2 arg3 harg3 arg4 harg4 arg5 harg5 arg6 harg6 arg7 harg7 arg8 harg8 arg9 harg9 arg10 harg10 arg11 harg11 arg12 harg12 arg13 k0_h1
  let ⟨v586, k0_hw7⟩ : Σ' (v586 : Elt F .i32), k0_chk7 i v586 ← k0_part2 i arg2 harg2 arg3 harg3 arg4 harg4 arg5 harg5 arg6 harg6 arg7 harg7 arg8 harg8 arg9 harg9 arg10 harg10 arg11 harg11 arg12 harg12 arg13 k0_h1 v565 k0_hw4
  let v587 : DmaSems sig S1 := arg13.slice (Rect.unit (s := S2) ![0] S1.size inb_S2_S1_0)
  let v588 : DmaSems sig S_ := v587.squeeze S_ squeezes_S1_S_
  let v589 : Memref sig .tc .vmem S1x1x128x8x128 .f32 := arg12.slice (Rect.unit (s := S2x9x128x8x128) ![0, 6, 0, 0, 0] S1x1x128x8x128.size inb_S2x9x128x8x128_S1x1x128x8x128_0_6_0_0_0) (fun _ => rfl)
  let v590 : Memref sig .tc .vmem S128x8x128 .f32 := v589.squeeze S128x8x128 squeezes_S1x1x128x8x128_S128x8x128
  let v591 : Memref sig .tc .hbm S1x128x8x128 .f32 := arg7.slice (Rect.unit (s := S5120x128x8x128) (k0_off7 v586) S1x128x8x128.size (k0_off7_inb i v586 k0_hw7 k0_h1)) (fun _ => rfl)
  let v592 : Memref sig .tc .hbm S128x8x128 .f32 := v591.squeeze S128x8x128 squeezes_S1x128x8x128_S128x8x128
  Prog.lift (.enqueueDma v592 (.here v590) (.dma v588.sem) ((View.wordExact_bits rfl).reshape _ _) ((View.wordExact_bits rfl).reshape _ _) ⟨Or.inl rfl, trivial⟩)
  let v593 : Elt F .i32 ← smemLoad arg2 (Rect.unit (s := S1872) ![7] S1.size inb_S1872_S1_7) numel1_S1 rfl
  have k0_hw8 : k0_chk8 i v593 := (← Prog.lift (TpuEff.assume (k0_chk8 i v593) (k0_chk8.dec i v593))).down
  let v594 : DmaSems sig S1 := arg13.slice (Rect.unit (s := S2) ![0] S1.size inb_S2_S1_0)
  let v595 : DmaSems sig S_ := v594.squeeze S_ squeezes_S1_S_
  let v596 : Memref sig .tc .vmem S1x1x128x8x128 .f32 := arg12.slice (Rect.unit (s := S2x9x128x8x128) ![0, 7, 0, 0, 0] S1x1x128x8x128.size inb_S2x9x128x8x128_S1x1x128x8x128_0_7_0_0_0) (fun _ => rfl)
  let v597 : Memref sig .tc .vmem S128x8x128 .f32 := v596.squeeze S128x8x128 squeezes_S1x1x128x8x128_S128x8x128
  let v598 : Memref sig .tc .hbm S1x128x8x128 .f32 := arg7.slice (Rect.unit (s := S5120x128x8x128) (k0_off8 v593) S1x128x8x128.size (k0_off8_inb i v593 k0_hw8 k0_h1)) (fun _ => rfl)
  let v599 : Memref sig .tc .hbm S128x8x128 .f32 := v598.squeeze S128x8x128 squeezes_S1x128x8x128_S128x8x128
  Prog.lift (.enqueueDma v599 (.here v597) (.dma v595.sem) ((View.wordExact_bits rfl).reshape _ _) ((View.wordExact_bits rfl).reshape _ _) ⟨Or.inl rfl, trivial⟩)
  let v600 : Elt F .i32 ← smemLoad arg2 (Rect.unit (s := S1872) ![8] S1.size inb_S1872_S1_8) numel1_S1 rfl
  have k0_hw9 : k0_chk9 i v600 := (← Prog.lift (TpuEff.assume (k0_chk9 i v600) (k0_chk9.dec i v600))).down
  let v601 : DmaSems sig S1 := arg13.slice (Rect.unit (s := S2) ![0] S1.size inb_S2_S1_0)
  let v602 : DmaSems sig S_ := v601.squeeze S_ squeezes_S1_S_
  let v603 : Memref sig .tc .vmem S1x1x128x8x128 .f32 := arg12.slice (Rect.unit (s := S2x9x128x8x128) ![0, 8, 0, 0, 0] S1x1x128x8x128.size inb_S2x9x128x8x128_S1x1x128x8x128_0_8_0_0_0) (fun _ => rfl)
  let v604 : Memref sig .tc .vmem S128x8x128 .f32 := v603.squeeze S128x8x128 squeezes_S1x1x128x8x128_S128x8x128
  let v605 : Memref sig .tc .hbm S1x128x8x128 .f32 := arg7.slice (Rect.unit (s := S5120x128x8x128) (k0_off9 v600) S1x128x8x128.size (k0_off9_inb i v600 k0_hw9 k0_h1)) (fun _ => rfl)
  let v606 : Memref sig .tc .hbm S128x8x128 .f32 := v605.squeeze S128x8x128 squeezes_S1x128x8x128_S128x8x128
  Prog.lift (.enqueueDma v606 (.here v604) (.dma v602.sem) ((View.wordExact_bits rfl).reshape _ _) ((View.wordExact_bits rfl).reshape _ _) ⟨Or.inl rfl, trivial⟩)
  pure ⟨⟩

set_option cleanup.letToHave false in
/-- The nine copies for the step after. -/
def nextProg (i : grid0.Coords) (arg2 : Memref sig .tc .smem S1872 .i32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg7 : Memref sig .tc .hbm S5120x128x8x128 .f32) (harg7 : arg7.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (arg11 : Memref sig .tc .vmem S1024x2048 .bf16) (harg11 : arg11.IsWhole) (arg12 : Memref sig .tc .vmem S2x9x128x8x128 .f32) (harg12 : arg12.IsWhole) (arg13 : DmaSems sig S2) (v1 v6 : BitVec 32) (k0_h2 : k0_cond2 i = 1#1) : Prog (TpuEff nD τ sig (Elt F) Λ₀ .tc) PUnit := do
  let ⟨v544, v573⟩ : Σ' (v544 : BitVec 32), Elt F .i32 ← k0_part3 i arg2 harg2 arg3 harg3 arg4 harg4 arg5 harg5 arg6 harg6 arg7 harg7 arg8 harg8 arg9 harg9 arg10 harg10 arg11 harg11 arg12 harg12 arg13 v1 v6 k0_h2
  let ⟨v595, k0_hw14⟩ : Σ' (v595 : Elt F .i32), k0_chk14 i v595 ← k0_part4 i arg2 harg2 arg3 harg3 arg4 harg4 arg5 harg5 arg6 harg6 arg7 harg7 arg8 harg8 arg9 harg9 arg10 harg10 arg11 harg11 arg12 harg12 arg13 k0_h2 v544 v573
  let ⟨v628, k0_hw17⟩ : Σ' (v628 : Elt F .i32), k0_chk17 i v628 ← k0_part5 i arg2 harg2 arg3 harg3 arg4 harg4 arg5 harg5 arg6 harg6 arg7 harg7 arg8 harg8 arg9 harg9 arg10 harg10 arg11 harg11 arg12 harg12 arg13 k0_h2 v544 v595 k0_hw14
  let v631 : Memref sig .tc .vmem S1x1x128x8x128 .f32 := arg12.slice (Rect.unit (s := S2x9x128x8x128) (k0_off40 i) S1x1x128x8x128.size (k0_off40_inb i k0_h2)) (fun _ => rfl)
  let v632 : Memref sig .tc .vmem S128x8x128 .f32 := v631.squeeze S128x8x128 squeezes_S1x1x128x8x128_S128x8x128
  let v633 : Memref sig .tc .hbm S1x128x8x128 .f32 := arg7.slice (Rect.unit (s := S5120x128x8x128) (k0_off41 v628) S1x128x8x128.size (k0_off41_inb i v628 k0_hw17 k0_h2)) (fun _ => rfl)
  let v634 : Memref sig .tc .hbm S128x8x128 .f32 := v633.squeeze S128x8x128 squeezes_S1x128x8x128_S128x8x128
  let v629 : DmaSems sig S1 := arg13.slice (Rect.unit (s := S2) (k0_off39 i) S1.size (k0_off39_inb i k0_h2))
  let v630 : DmaSems sig S_ := v629.squeeze S_ squeezes_S1_S_
  Prog.lift (.enqueueDma v634 (.here v632) (.dma v630.sem) ((View.wordExact_bits rfl).reshape _ _) ((View.wordExact_bits rfl).reshape _ _) ⟨Or.inl rfl, trivial⟩)
  let v639 : Elt F .i32 ← smemLoad arg2 (Rect.unit (s := S1872) (k0_off42 i) S1.size (k0_off42_inb i k0_h2)) numel1_S1 rfl
  have k0_hw18 : k0_chk18 i v639 := (← Prog.lift (TpuEff.assume (k0_chk18 i v639) (k0_chk18.dec i v639))).down
  let v640 : DmaSems sig S1 := arg13.slice (Rect.unit (s := S2) (k0_off43 i) S1.size (k0_off43_inb i k0_h2))
  let v641 : DmaSems sig S_ := v640.squeeze S_ squeezes_S1_S_
  let v642 : Memref sig .tc .vmem S1x1x128x8x128 .f32 := arg12.slice (Rect.unit (s := S2x9x128x8x128) (k0_off44 i) S1x1x128x8x128.size (k0_off44_inb i k0_h2)) (fun _ => rfl)
  let v643 : Memref sig .tc .vmem S128x8x128 .f32 := v642.squeeze S128x8x128 squeezes_S1x1x128x8x128_S128x8x128
  let v644 : Memref sig .tc .hbm S1x128x8x128 .f32 := arg7.slice (Rect.unit (s := S5120x128x8x128) (k0_off45 v639) S1x128x8x128.size (k0_off45_inb i v639 k0_hw18 k0_h2)) (fun _ => rfl)
  let v645 : Memref sig .tc .hbm S128x8x128 .f32 := v644.squeeze S128x8x128 squeezes_S1x128x8x128_S128x8x128
  Prog.lift (.enqueueDma v645 (.here v643) (.dma v641.sem) ((View.wordExact_bits rfl).reshape _ _) ((View.wordExact_bits rfl).reshape _ _) ⟨Or.inl rfl, trivial⟩)
  pure ⟨⟩

set_option cleanup.letToHave false in
/-- The normalisation of a row block and its gates. -/
def normProg (i : grid0.Coords) (arg2 : Memref sig .tc .smem S1872 .i32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg7 : Memref sig .tc .hbm S5120x128x8x128 .f32) (harg7 : arg7.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (arg11 : Memref sig .tc .vmem S1024x2048 .bf16) (harg11 : arg11.IsWhole) (arg12 : Memref sig .tc .vmem S2x9x128x8x128 .f32) (harg12 : arg12.IsWhole) (arg13 : DmaSems sig S2) (k0_h3 : k0_cond3 i = 1#1) : Prog (TpuEff nD τ sig (Elt F) Λ₀ .tc) PUnit := do
  Scf.Loop.for k0_t1_loop (k0_t1_ok i k0_h3) ⟨⟩ (k0_t1_body i arg2 harg2 arg3 harg3 arg4 harg4 arg5 harg5 arg6 harg6 arg7 harg7 arg8 harg8 arg9 harg9 arg10 harg10 arg11 harg11 arg12 harg12 arg13 k0_h3)
  let v545 : Vec F S1024x2048 .bf16 ← Prog.lift (.load arg11 (Rect.unit (s := S1024x2048) ![0, 0] S1024x2048.size inb_S1024x2048_S1024x2048_0_0).toLoadRect (View.loadsAt_vmem h_S1024x2048))
  let v546 : Vec F S128x2048 .bf16 ← Prog.lift (.load arg6 (Rect.unit (s := S128x2048) ![0, 0] S128x2048.size inb_S128x2048_S128x2048_0_0).toLoadRect (View.loadsAt_vmem h_S128x2048))
  let v548 : Vec F S1024x128 .f32 ← Prog.lift (.load arg9 (Rect.unit (s := S1024x128) ![0, 0] S1024x128.size inb_S1024x128_S1024x128_0_0).toLoadRect (View.loadsAt_vmem h_S1024x128))
  Prog.lift (.store arg9 (Rect.unit (s := S1024x128) ![0, 0] S1024x128.size inb_S1024x128_S1024x128_0_0) (k0_pay3 v545 v546) Finset.univ (View.stores_vmem_bits_univ h_S1024x128 rfl) (.inl rfl))
  pure ⟨⟩

set_option cleanup.letToHave false in
/-- The product of a step, and the first word of its pages. -/
def dotProg (i : grid0.Coords) (arg2 : Memref sig .tc .smem S1872 .i32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg7 : Memref sig .tc .hbm S5120x128x8x128 .f32) (harg7 : arg7.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (arg11 : Memref sig .tc .vmem S1024x2048 .bf16) (harg11 : arg11.IsWhole) (arg12 : Memref sig .tc .vmem S2x9x128x8x128 .f32) (harg12 : arg12.IsWhole) (arg13 : DmaSems sig S2) (v1 : BitVec 32) : Prog (TpuEff nD τ sig (Elt F) Λ₀ .tc) (Σ' (v1 : BitVec 32) (v26 : Elt F .i32), k0_chk19 v26) := do
  let v14 : Vec F S1024x2048 .bf16 ← Prog.lift (.load arg11 (Rect.unit (s := S1024x2048) ![0, 0] S1024x2048.size inb_S1024x2048_S1024x2048_0_0).toLoadRect (View.loadsAt_vmem h_S1024x2048))
  let v15 : Vec F S512x2048 .bf16 ← Prog.lift (.load arg5 (Rect.unit (s := S512x2048) ![0, 0] S512x2048.size inb_S512x2048_S512x2048_0_0).toLoadRect (View.loadsAt_vmem h_S512x2048))
  let v18 : Vec F S1024x512 .bf16 ← Prog.lift (.load arg8 (Rect.unit (s := S1024x512) ![0, 0] S1024x512.size inb_S1024x512_S1024x512_0_0).toLoadRect (View.loadsAt_vmem h_S1024x512))
  Prog.lift (.store arg8 (Rect.unit (s := S1024x512) ![0, 0] S1024x512.size inb_S1024x512_S1024x512_0_0) (k0_pay4 v14 v15) Finset.univ (View.stores_vmem h_S1024x512 (harg8.storeExact_slice rfl _ packedbf16_S1024x512_S1024x512_0_0) (fun _ => rfl)) (.inl rfl))
  let v26 : Elt F .i32 ← smemLoad arg2 (Rect.unit (s := S1872) (k0_off47 i) S1.size (k0_off47_inb i)) numel1_S1 rfl
  have k0_hw19 : k0_chk19 v26 := (← Prog.lift (TpuEff.assume (k0_chk19 v26) (k0_chk19.dec v26))).down
  pure ⟨v1, v26, k0_hw19⟩

set_option maxRecDepth 65536 in
/-- The body's first half is these four, the first three under their conditions. -/
theorem part6_split (i : grid0.Coords) (arg2 : Memref sig .tc .smem S1872 .i32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg7 : Memref sig .tc .hbm S5120x128x8x128 .f32) (harg7 : arg7.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (arg11 : Memref sig .tc .vmem S1024x2048 .bf16) (harg11 : arg11.IsWhole) (arg12 : Memref sig .tc .vmem S2x9x128x8x128 .f32) (harg12 : arg12.IsWhole) (arg13 : DmaSems sig S2) :
    k0_part6 (F := F) i arg2 harg2 arg3 harg3 arg4 harg4 arg5 harg5 arg6 harg6 arg7 harg7 arg8 harg8 arg9 harg9 arg10 harg10 arg11 harg11 arg12 harg12 arg13
      = (if h : k0_cond1 i = 1#1 then firstProg i arg2 harg2 arg3 harg3 arg4 harg4 arg5 harg5 arg6 harg6 arg7 harg7 arg8 harg8 arg9 harg9 arg10 harg10 arg11 harg11 arg12 harg12 arg13 h else pure ⟨⟩) >>= fun _ =>
        (if h : k0_cond2 i = 1#1 then nextProg i arg2 harg2 arg3 harg3 arg4 harg4 arg5 harg5 arg6 harg6 arg7 harg7 arg8 harg8 arg9 harg9 arg10 harg10 arg11 harg11 arg12 harg12 arg13 (numb i) (Scalar.addi (Scalar.muli (numb i) 1#32) 0#32) h else pure ⟨⟩) >>= fun _ =>
        (if h : k0_cond3 i = 1#1 then normProg i arg2 harg2 arg3 harg3 arg4 harg4 arg5 harg5 arg6 harg6 arg7 harg7 arg8 harg8 arg9 harg9 arg10 harg10 arg11 harg11 arg12 harg12 arg13 h else pure ⟨⟩) >>= fun _ => dotProg i arg2 harg2 arg3 harg3 arg4 harg4 arg5 harg5 arg6 harg6 arg7 harg7 arg8 harg8 arg9 harg9 arg10 harg10 arg11 harg11 arg12 harg12 arg13 (numb i) := by
  rw [k0_part6_eq_skeleton]
  unfold k0_part6_skel firstProg nextProg normProg dotProg numb
  by_cases h1 : k0_cond1 i = 1#1 <;> by_cases h2 : k0_cond2 i = 1#1 <;> by_cases h3 : k0_cond3 i = 1#1 <;>
    simp only [dif_pos, dif_neg, h1, h2, h3, not_false_eq_true, bind_assoc, pure_bind, ↓reduceDIte]

end Cert.Kernel2Ideal.Proj
-- ==== Proof.ProjFirst.lean ====
/- The first step starts its own nine copies into slot 0. -/
module

public import proofs.«01_k».proof.Proof.ProjSplit
public import proofs.«01_k».proof.Proof.Whole

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
/-- The first step starts its own nine copies into slot 0. -/
theorem first (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (h1 : k0_cond1 i = 1#1)
    (w0 w1 w2 w3 w4 w5 w6 w7 w8 : BitVec 32) (q : Fin 9 → PosShare TreeShare) (qt : PosShare TreeShare)
    (ft : Buf (Elt F) (tblM.view.loc (c : Thread nD τ))) (fc : Buf (Elt F) ((c : Thread nD τ).loc main_v4))
    (hw0 : wordAt c ft ![0] inb_S1872_S1_0 = w0)
    (hw1 : wordAt c ft ![1] inb_S1872_S1_1 = w1)
    (hw2 : wordAt c ft ![2] inb_S1872_S1_2 = w2)
    (hw3 : wordAt c ft ![3] inb_S1872_S1_3 = w3)
    (hw4 : wordAt c ft ![4] inb_S1872_S1_4 = w4)
    (hw5 : wordAt c ft ![5] inb_S1872_S1_5 = w5)
    (hw6 : wordAt c ft ![6] inb_S1872_S1_6 = w6)
    (hw7 : wordAt c ft ![7] inb_S1872_S1_7 = w7)
    (hw8 : wordAt c ft ![8] inb_S1872_S1_8 = w8)
    (hc0 : k0_chk1 i w0)
    (hc1 : k0_chk2 i w1)
    (hc2 : k0_chk3 i w2)
    (hc3 : k0_chk4 i w3)
    (hc4 : k0_chk5 i w4)
    (hc5 : k0_chk6 i w5)
    (hc6 : k0_chk7 i w6)
    (hc7 : k0_chk8 i w7)
    (hc8 : k0_chk9 i w8)
    (K : PUnit → sProp 𝕄) :
    iprop(((∃ f, own (F := F) c (piece 0 0) fullShare f) ∗ (∃ f, own (F := F) c (piece 0 1) fullShare f) ∗ (∃ f, own (F := F) c (piece 0 2) fullShare f) ∗ (∃ f, own (F := F) c (piece 0 3) fullShare f) ∗ (∃ f, own (F := F) c (piece 0 4) fullShare f) ∗ (∃ f, own (F := F) c (piece 0 5) fullShare f) ∗ (∃ f, own (F := F) c (piece 0 6) fullShare f) ∗ (∃ f, own (F := F) c (piece 0 7) fullShare f) ∗ (∃ f, own (F := F) c (piece 0 8) fullShare f)) ∗ (own c (pageM w0) (q 0) (asPage c w0 fc) ∗ own c (pageM w1) (q 1) (asPage c w1 fc) ∗ own c (pageM w2) (q 2) (asPage c w2 fc) ∗ own c (pageM w3) (q 3) (asPage c w3 fc) ∗ own c (pageM w4) (q 4) (asPage c w4 fc) ∗ own c (pageM w5) (q 5) (asPage c w5 fc) ∗ own c (pageM w6) (q 6) (asPage c w6 fc) ∗ own c (pageM w7) (q 7) (asPage c w7 fc) ∗ own c (pageM w8) (q 8) (asPage c w8 fc))
        ∗ heldT c qt ft ∗ flights c 0 ![w0, w1, w2, w3, w4, w5, w6, w7, w8] q fc 0
        ∗ (iprop(heldT c qt ft ∗ flights c 0 ![w0, w1, w2, w3, w4, w5, w6, w7, w8] q fc 9) -∗ K ⟨⟩))
      ⊢ wp frame (wpE (defs₀ (F := F)) Variants.none c none) Set.univ
          (firstProg i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 h1) K := by
  unfold firstProg; rw [k0_part1_eq_skeleton, k0_part2_eq_skeleton]; unfold k0_part1_skel k0_part2_skel
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, ⟨P0, P1, P2, P3, P4, P5, P6, P7, P8⟩, HT, HB, Hk⟩
  subst hw0 hw1 hw2 hw3 hw4 hw5 hw6 hw7 hw8
  sl_exec (disch := (first | sl_exact hc0 | sl_exact hc1 | sl_exact hc2 | sl_exact hc3 | sl_exact hc4 | sl_exact hc5 | sl_exact hc6 | sl_exact hc7 | sl_exact hc8))
  sl_step
  iapply Hk
  isplitl [HT]; · iexact HT
  iexact HB

end Cert.Kernel2Ideal.Proj
-- ==== Proof.ProjNext.lean ====
/- A step starts the nine copies of the step after. -/
module

public import proofs.«01_k».proof.Proof.ProjSplit
public import proofs.«01_k».proof.Proof.Whole

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
/-- A step starts the nine copies of the step after. -/
theorem next (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (v1 v6 : BitVec 32) (h2 : k0_cond2 i = 1#1)
    (w0 w1 w2 w3 w4 w5 w6 w7 w8 : BitVec 32) (q : Fin 9 → PosShare TreeShare) (qt : PosShare TreeShare)
    (ft : Buf (Elt F) (tblM.view.loc (c : Thread nD τ))) (fc : Buf (Elt F) ((c : Thread nD τ).loc main_v4))
    (hw0 : wordAt c ft (k0_off10 i) (k0_off10_inb i h2) = w0)
    (hw1 : wordAt c ft (k0_off14 i) (k0_off14_inb i h2) = w1)
    (hw2 : wordAt c ft (k0_off18 i) (k0_off18_inb i h2) = w2)
    (hw3 : wordAt c ft (k0_off22 i) (k0_off22_inb i h2) = w3)
    (hw4 : wordAt c ft (k0_off26 i) (k0_off26_inb i h2) = w4)
    (hw5 : wordAt c ft (k0_off30 i) (k0_off30_inb i h2) = w5)
    (hw6 : wordAt c ft (k0_off34 i) (k0_off34_inb i h2) = w6)
    (hw7 : wordAt c ft (k0_off38 i) (k0_off38_inb i h2) = w7)
    (hw8 : wordAt c ft (k0_off42 i) (k0_off42_inb i h2) = w8)
    (hc0 : k0_chk10 i w0)
    (hc1 : k0_chk11 i w1)
    (hc2 : k0_chk12 i w2)
    (hc3 : k0_chk13 i w3)
    (hc4 : k0_chk14 i w4)
    (hc5 : k0_chk15 i w5)
    (hc6 : k0_chk16 i w6)
    (hc7 : k0_chk17 i w7)
    (hc8 : k0_chk18 i w8)
    (K : PUnit → sProp 𝕄) :
    iprop(((∃ f, own (F := F) c (piece (slotL i) 0) fullShare f) ∗ (∃ f, own (F := F) c (piece (slotL i) 1) fullShare f) ∗ (∃ f, own (F := F) c (piece (slotL i) 2) fullShare f) ∗ (∃ f, own (F := F) c (piece (slotL i) 3) fullShare f) ∗ (∃ f, own (F := F) c (piece (slotL i) 4) fullShare f) ∗ (∃ f, own (F := F) c (piece (slotL i) 5) fullShare f) ∗ (∃ f, own (F := F) c (piece (slotL i) 6) fullShare f) ∗ (∃ f, own (F := F) c (piece (slotL i) 7) fullShare f) ∗ (∃ f, own (F := F) c (piece (slotL i) 8) fullShare f)) ∗ (own c (pageM w0) (q 0) (asPage c w0 fc) ∗ own c (pageM w1) (q 1) (asPage c w1 fc) ∗ own c (pageM w2) (q 2) (asPage c w2 fc) ∗ own c (pageM w3) (q 3) (asPage c w3 fc) ∗ own c (pageM w4) (q 4) (asPage c w4 fc) ∗ own c (pageM w5) (q 5) (asPage c w5 fc) ∗ own c (pageM w6) (q 6) (asPage c w6 fc) ∗ own c (pageM w7) (q 7) (asPage c w7 fc) ∗ own c (pageM w8) (q 8) (asPage c w8 fc))
        ∗ heldT c qt ft ∗ flights c (slotL i) ![w0, w1, w2, w3, w4, w5, w6, w7, w8] q fc 0
        ∗ (iprop(heldT c qt ft ∗ flights c (slotL i) ![w0, w1, w2, w3, w4, w5, w6, w7, w8] q fc 9) -∗ K ⟨⟩))
      ⊢ wp frame (wpE (defs₀ (F := F)) Variants.none c none) Set.univ
          (nextProg i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 v1 v6 h2) K := by
  unfold nextProg; rw [k0_part3_eq_skeleton, k0_part4_eq_skeleton, k0_part5_eq_skeleton]; unfold k0_part3_skel k0_part4_skel k0_part5_skel
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, ⟨P0, P1, P2, P3, P4, P5, P6, P7, P8⟩, HT, HB, Hk⟩
  subst hw0 hw1 hw2 hw3 hw4 hw5 hw6 hw7 hw8
  sl_exec (disch := (first | sl_exact hc0 | sl_exact hc1 | sl_exact hc2 | sl_exact hc3 | sl_exact hc4 | sl_exact hc5 | sl_exact hc6 | sl_exact hc7 | sl_exact hc8))
  sl_step
  iapply Hk
  isplitl [HT]; · iexact HT
  iexact HB

end Cert.Kernel2Ideal.Proj
-- ==== Proof.ProjState.lean ====
/- The two states of a slot of the ring, and the launches and waits as steps between them. -/
module

public import proofs.«01_k».proof.Proof.ProjWords
public import proofs.«01_k».proof.Proof.ProjLand
public import proofs.«01_k».proof.Proof.ProjFirst
public import proofs.«01_k».proof.Proof.ProjNext

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The read share of the cache the copy into page `k` of slot `s` takes. -/
def tok (s : Fin 2) (k : Fin 9) : PosShare TreeShare := Transfers.shareTokN fullShare (9 * s.val + k.val)

/-- The cache held whole at a share. -/
abbrev atLeast (c : Dev nD) (q : PosShare TreeShare) (fc : Cache c F) : sProp 𝕄 := ((c : Thread nD τ).loc main_v4) ↦{q} fc

/-- The cache but for one page. -/
def restC (c : Dev nD) (w : BitVec 32) (q : PosShare TreeShare) (fc : Cache c F) : sProp 𝕄 :=
  (pageM w).view.loc (c : Thread nD τ) ↦[Finset.univ \ (pageM w).view.set]{q} (asPage c w fc)

theorem page_cut (c : Dev nD) (w : BitVec 32) (q : PosShare TreeShare) (fc : Cache c F) :
    (atLeast c q fc : sProp 𝕄) ⊢ iprop(own c (pageM w) q (asPage c w fc) ∗ restC c w q fc) :=
  (pointsTo_split_subset (ℓ := (pageM w).view.loc (c : Thread nD τ)) (Finset.subset_univ _)).1
theorem page_glue (c : Dev nD) (w : BitVec 32) (q : PosShare TreeShare) (fc : Cache c F) :
    iprop(own c (pageM w) q (asPage c w fc) ∗ restC c w q fc) ⊢ (atLeast c q fc : sProp 𝕄) :=
  (pointsTo_split_subset (ℓ := (pageM w).view.loc (c : Thread nD τ)) (Finset.subset_univ _)).2

/-- A slot at rest: its pages at anything, its semaphore at zero, its nine read shares of the cache whole. -/
def calm (c : Dev nD) (s : Fin 2) (fc : Cache c F) : sProp 𝕄 :=
  iprop(((∃ f, own (F := F) c (piece s 0) fullShare f) ∗ (∃ f, own (F := F) c (piece s 1) fullShare f) ∗ (∃ f, own (F := F) c (piece s 2) fullShare f) ∗ (∃ f, own (F := F) c (piece s 3) fullShare f) ∗ (∃ f, own (F := F) c (piece s 4) fullShare f) ∗ (∃ f, own (F := F) c (piece s 5) fullShare f) ∗ (∃ f, own (F := F) c (piece s 6) fullShare f) ∗ (∃ f, own (F := F) c (piece s 7) fullShare f) ∗ (∃ f, own (F := F) c (piece s 8) fullShare f)) ∗ semVal ((c : Thread nD τ), cell s) 0 ∗ (atLeast c (tok s 0) fc ∗ atLeast c (tok s 1) fc ∗ atLeast c (tok s 2) fc ∗ atLeast c (tok s 3) fc ∗ atLeast c (tok s 4) fc ∗ atLeast c (tok s 5) fc ∗ atLeast c (tok s 6) fc ∗ atLeast c (tok s 7) fc ∗ atLeast c (tok s 8) fc))

/-- A slot being filled with the pages `w`. -/
def busy (c : Dev nD) (s : Fin 2) (w : Fin 9 → BitVec 32) (fc : Cache c F) : sProp 𝕄 :=
  iprop(flights c s w (tok s) fc 9 ∗ (restC c (w 0) (tok s 0) fc ∗ restC c (w 1) (tok s 1) fc ∗ restC c (w 2) (tok s 2) fc ∗ restC c (w 3) (tok s 3) fc ∗ restC c (w 4) (tok s 4) fc ∗ restC c (w 5) (tok s 5) fc ∗ restC c (w 6) (tok s 6) fc ∗ restC c (w 7) (tok s 7) fc ∗ restC c (w 8) (tok s 8) fc))

set_option maxHeartbeats 2000000 in
/-- Starting a slot's copies. -/
theorem first_calm (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (h1 : k0_cond1 i = 1#1) (qt : PosShare TreeShare)
    (ft : Buf (Elt F) (tblM.view.loc (c : Thread nD τ))) (fc : Cache c F) (hft : ∀ n, (word c ft n).toNat < 5120) (K : PUnit → sProp 𝕄) :
    iprop(calm c 0 fc ∗ heldT c qt ft ∗ (iprop(heldT c qt ft ∗ busy c 0 (words c ft 0) fc) -∗ K ⟨⟩))
      ⊢ wp frame (wpE (defs₀ (F := F)) Variants.none c none) Set.univ (firstProg i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 h1) K := by
  unfold calm
  iintro ⟨⟨HP, HS, ⟨C0, C1, C2, C3, C4, C5, C6, C7, C8⟩⟩, HT, Hk⟩
  imod (Transfers.batch_alloc' (Lvl := ℕ) (countersEmb (U := Pipeline.UD sig nD τ)) (c : Thread nD τ) () (credit 0) (deliv c 0 (words c ft 0) (tok 0) fc)
    (sm := cell 0) (E := Set.univ)) $$ HS with HB
  ihave C0 := (page_cut c (words c ft 0 0) (tok 0 0) fc) $$ C0
  icases C0 with ⟨G0, R0⟩
  ihave C1 := (page_cut c (words c ft 0 1) (tok 0 1) fc) $$ C1
  icases C1 with ⟨G1, R1⟩
  ihave C2 := (page_cut c (words c ft 0 2) (tok 0 2) fc) $$ C2
  icases C2 with ⟨G2, R2⟩
  ihave C3 := (page_cut c (words c ft 0 3) (tok 0 3) fc) $$ C3
  icases C3 with ⟨G3, R3⟩
  ihave C4 := (page_cut c (words c ft 0 4) (tok 0 4) fc) $$ C4
  icases C4 with ⟨G4, R4⟩
  ihave C5 := (page_cut c (words c ft 0 5) (tok 0 5) fc) $$ C5
  icases C5 with ⟨G5, R5⟩
  ihave C6 := (page_cut c (words c ft 0 6) (tok 0 6) fc) $$ C6
  icases C6 with ⟨G6, R6⟩
  ihave C7 := (page_cut c (words c ft 0 7) (tok 0 7) fc) $$ C7
  icases C7 with ⟨G7, R7⟩
  ihave C8 := (page_cut c (words c ft 0 8) (tok 0 8) fc) $$ C8
  icases C8 with ⟨G8, R8⟩
  iapply (first c i arg3 harg3 arg4 harg4 arg5 harg5 arg6 harg6 arg8 harg8 arg9 harg9 arg10 harg10 h1 _ _ _ _ _ _ _ _ _ (tok 0) qt ft fc
    (word_at c ft (9 * 0 + 0) _ _ rfl) (word_at c ft (9 * 0 + 1) _ _ rfl) (word_at c ft (9 * 0 + 2) _ _ rfl) (word_at c ft (9 * 0 + 3) _ _ rfl) (word_at c ft (9 * 0 + 4) _ _ rfl) (word_at c ft (9 * 0 + 5) _ _ rfl) (word_at c ft (9 * 0 + 6) _ _ rfl) (word_at c ft (9 * 0 + 7) _ _ rfl) (word_at c ft (9 * 0 + 8) _ _ rfl)
    (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) K)
  isplitl [HP]; · iexact HP
  isplitl [G0 G1 G2 G3 G4 G5 G6 G7 G8]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  isplitl [HT]; · iexact HT
  isplitl [HB]; · iexact HB
  iintro ⟨HT, HB⟩
  iapply Hk
  isplitl [HT]; · iexact HT
  unfold busy
  isplitl [HB]; · iexact HB
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  iexact R8

set_option maxHeartbeats 2000000 in
/-- Starting a slot's copies. -/
theorem next_calm (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (v1 v6 : BitVec 32) (h2 : k0_cond2 i = 1#1) (qt : PosShare TreeShare)
    (ft : Buf (Elt F) (tblM.view.loc (c : Thread nD τ))) (fc : Cache c F) (hft : ∀ n, (word c ft n).toNat < 5120) (K : PUnit → sProp 𝕄) :
    iprop(calm c (slotL i) fc ∗ heldT c qt ft ∗ (iprop(heldT c qt ft ∗ busy c (slotL i) (words c ft (step i + 1)) fc) -∗ K ⟨⟩))
      ⊢ wp frame (wpE (defs₀ (F := F)) Variants.none c none) Set.univ (nextProg i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 v1 v6 h2) K := by
  unfold calm
  iintro ⟨⟨HP, HS, ⟨C0, C1, C2, C3, C4, C5, C6, C7, C8⟩⟩, HT, Hk⟩
  imod (Transfers.batch_alloc' (Lvl := ℕ) (countersEmb (U := Pipeline.UD sig nD τ)) (c : Thread nD τ) () (credit (slotL i)) (deliv c (slotL i) (words c ft (step i + 1)) (tok (slotL i)) fc)
    (sm := cell (slotL i)) (E := Set.univ)) $$ HS with HB
  ihave C0 := (page_cut c (words c ft (step i + 1) 0) (tok (slotL i) 0) fc) $$ C0
  icases C0 with ⟨G0, R0⟩
  ihave C1 := (page_cut c (words c ft (step i + 1) 1) (tok (slotL i) 1) fc) $$ C1
  icases C1 with ⟨G1, R1⟩
  ihave C2 := (page_cut c (words c ft (step i + 1) 2) (tok (slotL i) 2) fc) $$ C2
  icases C2 with ⟨G2, R2⟩
  ihave C3 := (page_cut c (words c ft (step i + 1) 3) (tok (slotL i) 3) fc) $$ C3
  icases C3 with ⟨G3, R3⟩
  ihave C4 := (page_cut c (words c ft (step i + 1) 4) (tok (slotL i) 4) fc) $$ C4
  icases C4 with ⟨G4, R4⟩
  ihave C5 := (page_cut c (words c ft (step i + 1) 5) (tok (slotL i) 5) fc) $$ C5
  icases C5 with ⟨G5, R5⟩
  ihave C6 := (page_cut c (words c ft (step i + 1) 6) (tok (slotL i) 6) fc) $$ C6
  icases C6 with ⟨G6, R6⟩
  ihave C7 := (page_cut c (words c ft (step i + 1) 7) (tok (slotL i) 7) fc) $$ C7
  icases C7 with ⟨G7, R7⟩
  ihave C8 := (page_cut c (words c ft (step i + 1) 8) (tok (slotL i) 8) fc) $$ C8
  icases C8 with ⟨G8, R8⟩
  iapply (next c i arg3 harg3 arg4 harg4 arg5 harg5 arg6 harg6 arg8 harg8 arg9 harg9 arg10 harg10 v1 v6 h2 _ _ _ _ _ _ _ _ _ (tok (slotL i)) qt ft fc
    (word_at c ft (9 * (step i + 1) + 0) _ _ (off10_eq i h2)) (word_at c ft (9 * (step i + 1) + 1) _ _ (off14_eq i h2)) (word_at c ft (9 * (step i + 1) + 2) _ _ (off18_eq i h2)) (word_at c ft (9 * (step i + 1) + 3) _ _ (off22_eq i h2)) (word_at c ft (9 * (step i + 1) + 4) _ _ (off26_eq i h2)) (word_at c ft (9 * (step i + 1) + 5) _ _ (off30_eq i h2)) (word_at c ft (9 * (step i + 1) + 6) _ _ (off34_eq i h2)) (word_at c ft (9 * (step i + 1) + 7) _ _ (off38_eq i h2)) (word_at c ft (9 * (step i + 1) + 8) _ _ (off42_eq i h2))
    (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) K)
  isplitl [HP]; · iexact HP
  isplitl [G0 G1 G2 G3 G4 G5 G6 G7 G8]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  isplitl [HT]; · iexact HT
  isplitl [HB]; · iexact HB
  iintro ⟨HT, HB⟩
  iapply Hk
  isplitl [HT]; · iexact HT
  unfold busy
  isplitl [HB]; · iexact HB
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  iexact R8

set_option maxHeartbeats 2000000 in
/-- Waiting for a slot's copies, and summing the pages. -/
theorem land_busy (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (v1 : BitVec 32) (v26 : Elt F .i32) (k0_hw19 : k0_chk19 v26) (w : Fin 9 → BitVec 32) (qt : PosShare TreeShare)
    (ft : Buf (Elt F) (tblM.view.loc (c : Thread nD τ))) (fc : Cache c F) (hft : ∀ n, (word c ft n).toNat < 5120) (W : Waits sig Unit) (K : PUnit → sProp 𝕄) :
    iprop(busy c (slotW i) w fc ∗ heldT c qt ft ∗ (∃ d, owns (c : Thread nD τ) arg10 fullShare d) ∗ owes (c : Thread nD τ) 0 W
        ∗ (iprop(calm c (slotW i) fc ∗ heldT c qt ft ∗ owns (c : Thread nD τ) arg10 fullShare (sumsBlk fun k => pageVec c (w k) fc) ∗ ∃ W', owes (c : Thread nD τ) 0 W') -∗ K ⟨⟩))
      ⊢ wp frame (wpE (defs₀ (F := F)) Variants.none c none) Set.univ (landProg i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 v1 v26 k0_hw19) K := by
  unfold busy
  iintro ⟨⟨HB, ⟨R0, R1, R2, R3, R4, R5, R6, R7, R8⟩⟩, HT, HO, HW, Hk⟩
  iapply (land c i arg3 harg3 arg4 harg4 arg5 harg5 arg6 harg6 arg8 harg8 arg9 harg9 arg10 harg10 v1 v26 k0_hw19 w (tok (slotW i)) qt ft fc
    (page_ok _ (by rw [word_at c ft (9 * step i + 1) _ _ (off51_eq i)]; exact hft _))
    (page_ok _ (by rw [word_at c ft (9 * step i + 2) _ _ (off55_eq i)]; exact hft _))
    (page_ok _ (by rw [word_at c ft (9 * step i + 3) _ _ (off59_eq i)]; exact hft _))
    (page_ok _ (by rw [word_at c ft (9 * step i + 4) _ _ (off63_eq i)]; exact hft _))
    (page_ok _ (by rw [word_at c ft (9 * step i + 5) _ _ (off67_eq i)]; exact hft _))
    (page_ok _ (by rw [word_at c ft (9 * step i + 6) _ _ (off71_eq i)]; exact hft _))
    (page_ok _ (by rw [word_at c ft (9 * step i + 7) _ _ (off75_eq i)]; exact hft _))
    (page_ok _ (by rw [word_at c ft (9 * step i + 8) _ _ (off79_eq i)]; exact hft _)) W K)
  isplitl [HB]; · iexact HB
  isplitl [HT]; · iexact HT
  isplitl [HO]; · iexact HO
  isplitl [HW]; · iexact HW
  iintro ⟨P0, P1, P2, P3, P4, P5, P6, P7, P8, G0, G1, G2, G3, G4, G5, G6, G7, G8, HS, HT, HO, HW⟩
  iapply Hk
  isplitl [P0 G0 R0 P1 G1 R1 P2 G2 R2 P3 G3 R3 P4 G4 R4 P5 G5 R5 P6 G6 R6 P7 G7 R7 P8 G8 R8 HS]
  · unfold calm
    isplitl [P0 P1 P2 P3 P4 P5 P6 P7 P8]
    · isplitl [P0]; · iexists _; iexact P0
      isplitl [P1]; · iexists _; iexact P1
      isplitl [P2]; · iexists _; iexact P2
      isplitl [P3]; · iexists _; iexact P3
      isplitl [P4]; · iexists _; iexact P4
      isplitl [P5]; · iexists _; iexact P5
      isplitl [P6]; · iexists _; iexact P6
      isplitl [P7]; · iexists _; iexact P7
      iexists _; iexact P8
    isplitl [HS]; · iexact HS
    isplitl [G0 R0]; · iapply (page_glue c (w 0) (tok (slotW i) 0) fc); isplitl [G0] <;> iassumption
    isplitl [G1 R1]; · iapply (page_glue c (w 1) (tok (slotW i) 1) fc); isplitl [G1] <;> iassumption
    isplitl [G2 R2]; · iapply (page_glue c (w 2) (tok (slotW i) 2) fc); isplitl [G2] <;> iassumption
    isplitl [G3 R3]; · iapply (page_glue c (w 3) (tok (slotW i) 3) fc); isplitl [G3] <;> iassumption
    isplitl [G4 R4]; · iapply (page_glue c (w 4) (tok (slotW i) 4) fc); isplitl [G4] <;> iassumption
    isplitl [G5 R5]; · iapply (page_glue c (w 5) (tok (slotW i) 5) fc); isplitl [G5] <;> iassumption
    isplitl [G6 R6]; · iapply (page_glue c (w 6) (tok (slotW i) 6) fc); isplitl [G6] <;> iassumption
    isplitl [G7 R7]; · iapply (page_glue c (w 7) (tok (slotW i) 7) fc); isplitl [G7] <;> iassumption
    iapply (page_glue c (w 8) (tok (slotW i) 8) fc); isplitl [G8] <;> iassumption
  isplitl [HT]; · iexact HT
  isplitl [HO]; · iexact HO
  iexact HW

end Cert.Kernel2Ideal.Proj
-- ==== Proof.ProjNorm.lean ====
/- The normalisation of a row block, 128 rows at a time, and the gates' product. -/
module

public import proofs.«01_k».proof.Proof.ProjSplit
public import proofs.«01_k».proof.Proof.Whole
public import Idealize.ShloMosaic.Lib.WritesUnit

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The scratch the normalised block is kept in. -/
abbrev hM : Memref sig .tc .vmem S1024x2048 .bf16 := Memref.whole cc0_scratch0

/-- A row block of `x` at 128 rows. -/
def rows128 (x : Vec F S1024x2048 .f32) (r : Fin 8) : Vec F S128x2048 .f32 :=
  fun J => x fun a => match a with | ⟨0, _⟩ => (⟨128 * r.val + (J 0).val, by have := r.isLt; have h : (J 0).val < 128 := (J 0).isLt; show _ < 1024; omega⟩ : Fin 1024) | ⟨1, _⟩ => J 1

/-- The normalised row block. -/
def hblk (x : Vec F S1024x2048 .f32) (g : Vec F S1x2048 .f32) : Vec F S1024x2048 .bf16 :=
  fun I => k0_pay2 (rows128 x ⟨(I 0).val / 128, by have h : (I 0).val < 1024 := (I 0).isLt; omega⟩) g
    fun a => match a with | ⟨0, _⟩ => (⟨(I 0).val % 128, Nat.mod_lt _ (by decide)⟩ : Fin 128) | ⟨1, _⟩ => I 1

/-- A load of a whole buffer reads its contents. -/
theorem readAll {κ : Kind} {sp : Space} {S : Shape} {e : EltTy} (v : View sig κ sp S e) (f : v.ty.Contents (Elt F)) {off : Fin S.rank → Nat}
    (inb : ∀ a, off a + S.size a ≤ S.size a) (h : ∀ a, off a = 0) :
    View.readAt (Elt F) v (Rect.unit off S.size inb).toLoadRect f = v.read (Elt F) f := by
  rw [View.readAt_eq_ld, View.ld_unit_lit inb _ h]

theorem off46_eq (k : Fin k0_t1_loop.trips) : k0_off46 k = ![128 * k.val, 0] := by
  revert k; decide +kernel

/-- The rows done before trip `k` are normalised. -/
def normInv (c : Dev nD) (arg3 : Memref sig .tc .vmem S1024x2048 .f32) (arg4 : Memref sig .tc .vmem S1x2048 .f32)
    (x : Vec F S1024x2048 .f32) (g : Vec F S1x2048 .f32) (k : Nat) (_ : Unit) : sProp 𝕄 :=
  iprop(owns (c : Thread nD τ) arg3 fullShare x ∗ owns (c : Thread nD τ) arg4 fullShare g
    ∗ ∃ f : hM.view.ty.Contents (Elt F), ⌜∀ I : S1024x2048.Idx, (I 0).val < 128 * k → hM.view.read (Elt F) f I = hblk x g I⌝ ∗ (hM.view.loc (c : Thread nD τ) ↦[hM.view.set]{fullShare} f))

theorem norm_step (f : hM.view.ty.Contents (Elt F)) (x : Vec F S1024x2048 .f32) (g : Vec F S1x2048 .f32) (k : Fin k0_t1_loop.trips)
    (hin : ∀ a, k0_off46 k a + S128x2048.size a ≤ S1024x2048.size a)
    (hf : ∀ I : S1024x2048.Idx, (I 0).val < 128 * k.val → hM.view.read (Elt F) f I = hblk x g I)
    (w : Vec F S128x2048 .f32) (hw : w = fun J => x ((Rect.unit (s := S1024x2048) (k0_off46 k) S128x2048.size hin).toLoadRect.idx J))
    (I : S1024x2048.Idx) (hI : (I 0).val < 128 * (k.val + 1)) :
    hM.view.read (Elt F) (hM.view.writes (Elt F) f [(⟨Rect.unit (s := S1024x2048) (k0_off46 k) S128x2048.size hin, k0_pay2 w g⟩ : View.Piece (Elt F) S1024x2048 .bf16)]) I = hblk x g I := by
  have hk : k.val < 8 := k.isLt
  by_cases h : (I 0).val < 128 * k.val
  · rw [View.read_writes_cons_unit_of_not_mem hM.view f hin _ _ I (off46_eq k) 0 (Or.inl h)]
    exact hf I h
  · have hdiv : (I 0).val / 128 = k.val := by omega
    rw [View.read_writes_cons_unit_of_mem hM.view f hin (k0_pay2 w g) _ I
      (fun a => match a with | ⟨0, _⟩ => (⟨(I 0).val % 128, Nat.mod_lt _ (by decide)⟩ : Fin 128) | ⟨1, _⟩ => I 1) (off46_eq k) (fun a => by
        match a with
        | ⟨0, _⟩ => show (I 0).val = 128 * k.val + (I 0).val % 128; omega
        | ⟨1, _⟩ => exact (Nat.zero_add _).symm)]
    unfold hblk
    refine congrFun (congrArg (fun w => k0_pay2 w g) ?_) _
    rw [hw]
    funext J
    unfold rows128
    refine congrArg x (funext fun a => Fin.ext ?_)
    have e0 : k0_off46 k 0 = 128 * k.val := congrFun (off46_eq k) 0
    have e1 : k0_off46 k 1 = 0 := congrFun (off46_eq k) 1
    match a with
    | ⟨0, _⟩ => show k0_off46 k 0 + 1 * (J 0).val = 128 * ((I 0).val / 128) + (J 0).val; rw [e0, hdiv]; omega
    | ⟨1, _⟩ => show k0_off46 k 1 + 1 * (J 1).val = (J 1).val; rw [e1]; omega

set_option maxHeartbeats 4000000 in
theorem norm_trip (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (h3 : k0_cond3 i = 1#1) (x : Vec F S1024x2048 .f32) (g : Vec F S1x2048 .f32) (k : Fin k0_t1_loop.trips) (acc : Unit) :
    normInv c arg3 arg4 x g k.val acc ⊢ wp frame (wpE (defs₀ (F := F)) Variants.none c none) Set.univ
      (k0_t1_body i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 h3 k acc) (normInv c arg3 arg4 x g (k.val + 1)) := by
  unfold normInv owns k0_t1_body
  iintro ⟨⟨%f3, %h3', H3⟩, ⟨%f4, %h4, H4⟩, %f, %hf, HS⟩
  sl_exec
  sl_step
  isplitl [H3]
  · iexists f3; isplitr; ipureintro; exact h3'
    iexact H3
  isplitl [H4]
  · iexists f4; isplitr; ipureintro; exact h4
    iexact H4
  iexists _
  isplitr
  rotate_left
  · iexact HS
  · ipureintro
    intro I hI
    subst h4
    have e := readAll arg4.view f4 inb_S1x2048_S1x2048_0_0 (by decide)
    refine Eq.trans (congrFun (congrArg (hM.view.read (Elt F)) (congrArg (hM.view.writes (Elt F) f) (congrArg (fun p => [p]) (congrArg (fun w => (⟨_, w⟩ : View.Piece (Elt F) S1024x2048 .bf16)) (congrArg (k0_pay2 _) e))))) I) (norm_step f x _ k (k0_off46_inb i k h3) hf _ ?_ I hI)
    subst h3'
    rfl

set_option maxHeartbeats 4000000 in
/-- A row block is normalised and its gates computed. -/
theorem norm (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (h3 : k0_cond3 i = 1#1) (x : Vec F S1024x2048 .f32) (g : Vec F S1x2048 .f32) (wif : Vec F S128x2048 .bf16)
    (K : PUnit → sProp 𝕄) :
    iprop(owns (c : Thread nD τ) arg3 fullShare x ∗ owns (c : Thread nD τ) arg4 fullShare g ∗ owns (c : Thread nD τ) arg6 fullShare wif
        ∗ (∃ d, owns (c : Thread nD τ) arg9 fullShare d) ∗ (∃ d, owns (c : Thread nD τ) hM fullShare d)
        ∗ (iprop(owns (c : Thread nD τ) arg3 fullShare x ∗ owns (c : Thread nD τ) arg4 fullShare g ∗ owns (c : Thread nD τ) arg6 fullShare wif
          ∗ owns (c : Thread nD τ) arg9 fullShare (k0_pay3 (hblk x g) wif) ∗ owns (c : Thread nD τ) hM fullShare (hblk x g)) -∗ K ⟨⟩))
      ⊢ wp frame (wpE (defs₀ (F := F)) Variants.none c none) Set.univ (normProg i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 h3) K := by
  unfold normProg
  iintro ⟨H3, H4, H6, H9, HS, Hk⟩
  sl_for (normInv c arg3 arg4 x g) $$ [H3 H4 HS]
  · intro k acc; exact norm_trip c i arg3 harg3 arg4 harg4 arg5 harg5 arg6 harg6 arg8 harg8 arg9 harg9 arg10 harg10 h3 x g k acc
  · unfold normInv owns
    isplitl [H3]; · iexact H3
    isplitl [H4]; · iexact H4
    icases HS with ⟨%d, %f, -, HS⟩
    iexists f
    isplitr
    · ipureintro
      intro I hI
      exact absurd hI (by omega)
    · iexact HS
  iintro %acc HI
  unfold normInv owns
  icases HI with ⟨H3, H4, %f, %hf, HS⟩
  icases H6 with ⟨%f6, %h6, H6⟩
  icases H9 with ⟨%d9, %f9, -, H9⟩
  sl_exec
  sl_step
  iapply Hk
  have hfull : hM.view.read (Elt F) f = hblk x g := funext fun I => hf I (by
    have h : (I 0).val < 1024 := (I 0).isLt
    show (I 0).val < 128 * 8
    omega)
  isplitl [H3]; · iexact H3
  isplitl [H4]; · iexact H4
  isplitl [H6]
  · iexists f6; isplitr; ipureintro; exact h6
    iexact H6
  isplitl [H9]
  · iexists _
    isplitr
    rotate_left
    · iexact H9
    · ipureintro
      refine (Cert.Whole.read_store _ _ _ (by decide) _).trans ?_
      exact congrArg₂ k0_pay3 ((readAll hM.view f inb_S1024x2048_S1024x2048_0_0 (by decide)).trans hfull)
        ((readAll arg6.view f6 inb_S128x2048_S128x2048_0_0 (by decide)).trans h6)
  iexists f; isplitr; ipureintro; exact hfull
  iexact HS

set_option maxHeartbeats 4000000 in
/-- A step's product of the normalised block and a block of weights. -/
theorem dot (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (v1 : BitVec 32) (h : Vec F S1024x2048 .bf16) (w : Vec F S512x2048 .bf16) (qt : PosShare TreeShare)
    (ft : Buf (Elt F) (tblM.view.loc (c : Thread nD τ))) (hc0 : k0_chk19 (wordAt c ft (k0_off47 i) (k0_off47_inb i)))
    (K : (Σ' (v1 : BitVec 32) (v26 : Elt F .i32), k0_chk19 v26) → sProp 𝕄) :
    iprop(owns (c : Thread nD τ) arg5 fullShare w ∗ (∃ d, owns (c : Thread nD τ) arg8 fullShare d) ∗ owns (c : Thread nD τ) hM fullShare h ∗ heldT c qt ft
        ∗ (∀ r, iprop(owns (c : Thread nD τ) arg5 fullShare w ∗ owns (c : Thread nD τ) arg8 fullShare (k0_pay4 h w)
          ∗ owns (c : Thread nD τ) hM fullShare h ∗ heldT c qt ft) -∗ K r))
      ⊢ wp frame (wpE (defs₀ (F := F)) Variants.none c none) Set.univ (dotProg i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 v1) K := by
  unfold dotProg owns
  iintro ⟨⟨%f5, %h5, H5⟩, ⟨%d8, %f8, -, H8⟩, ⟨%f, %hf, HS⟩, HT, Hk⟩
  sl_exec (disch := (first | sl_exact hc0))
  sl_step
  iapply Hk
  isplitl [H5]
  · iexists f5; isplitr; ipureintro; exact h5
    iexact H5
  isplitl [H8]
  · iexists _
    isplitr
    rotate_left
    · iexact H8
    · ipureintro
      refine (Cert.Whole.read_store _ _ _ (by decide) _).trans ?_
      exact congrArg₂ k0_pay4 ((readAll hM.view f inb_S1024x2048_S1024x2048_0_0 (by decide)).trans hf)
        ((readAll arg5.view f5 inb_S512x2048_S512x2048_0_0 (by decide)).trans h5)
  isplitl [HS]
  · iexists f; isplitr; ipureintro; exact hf
    iexact HS
  iexact HT

end Cert.Kernel2Ideal.Proj
-- ==== Proof.ProjBody.lean ====
/- The whole body of a step, from the state of the ring before it to the state after it. -/
module

public import proofs.«01_k».proof.Proof.ProjState
public import proofs.«01_k».proof.Proof.ProjNorm

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The ring before step `i`: nothing in flight at the first, its own pages in flight at every other. -/
def ringBefore (c : Dev nD) (i : grid0.Coords) (ft : Buf (Elt F) (tblM.view.loc (c : Thread nD τ))) (fc : Cache c F) : sProp 𝕄 :=
  if step i = 0 then iprop(calm c 0 fc ∗ calm c 1 fc) else iprop(busy c (slotW i) (words c ft (step i)) fc ∗ calm c (slotL i) fc)
/-- The other slot once the step after has been started. -/
def nextSlot (c : Dev nD) (i : grid0.Coords) (ft : Buf (Elt F) (tblM.view.loc (c : Thread nD τ))) (fc : Cache c F) : sProp 𝕄 :=
  if step i < 207 then busy c (slotL i) (words c ft (step i + 1)) fc else calm c (slotL i) fc

theorem first_if (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (qt : PosShare TreeShare)
    (ft : Buf (Elt F) (tblM.view.loc (c : Thread nD τ))) (fc : Cache c F) (hft : ∀ n, (word c ft n).toNat < 5120) (K : PUnit → sProp 𝕄) :
    iprop(ringBefore c i ft fc ∗ heldT c qt ft
        ∗ (iprop(heldT c qt ft ∗ busy c (slotW i) (words c ft (step i)) fc ∗ calm c (slotL i) fc) -∗ K ⟨⟩))
      ⊢ wp frame (wpE (defs₀ (F := F)) Variants.none c none) Set.univ (if h : k0_cond1 i = 1#1 then firstProg i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 h else pure ⟨⟩) K := by
  unfold ringBefore
  by_cases h0 : step i = 0
  · have h1 := (cond1_iff i).mpr h0
    have eW : slotW i = 0 := Fin.ext (by show step i % 2 = 0; rw [h0])
    have eL : slotL i = 1 := Fin.ext (by show (step i + 1) % 2 = 1; rw [h0])
    rw [dif_pos h1, if_pos h0, eW, eL, h0]
    iintro ⟨⟨H0, H1⟩, HT, Hk⟩
    iapply (first_calm c i arg3 harg3 arg4 harg4 arg5 harg5 arg6 harg6 arg8 harg8 arg9 harg9 arg10 harg10 h1 qt ft fc hft K)
    isplitl [H0]; · iexact H0
    isplitl [HT]; · iexact HT
    iintro ⟨HT, HB⟩
    iapply Hk
    isplitl [HT]; · iexact HT
    isplitl [HB]; · iexact HB
    iexact H1
  · have h1 : ¬ k0_cond1 i = 1#1 := fun e => h0 ((cond1_iff i).mp e)
    rw [dif_neg h1, if_neg h0, wp_pure]
    iintro ⟨⟨H0, H1⟩, HT, Hk⟩
    imodintro
    iapply Hk
    isplitl [HT]; · iexact HT
    isplitl [H0]; · iexact H0
    iexact H1

theorem next_if (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (v1 v6 : BitVec 32) (qt : PosShare TreeShare)
    (ft : Buf (Elt F) (tblM.view.loc (c : Thread nD τ))) (fc : Cache c F) (hft : ∀ n, (word c ft n).toNat < 5120) (K : PUnit → sProp 𝕄) :
    iprop(calm c (slotL i) fc ∗ heldT c qt ft ∗ (iprop(heldT c qt ft ∗ nextSlot c i ft fc) -∗ K ⟨⟩))
      ⊢ wp frame (wpE (defs₀ (F := F)) Variants.none c none) Set.univ (if h : k0_cond2 i = 1#1 then nextProg i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 v1 v6 h else pure ⟨⟩) K := by
  unfold nextSlot
  by_cases h0 : step i < 207
  · have h1 := (cond2_iff i).mpr h0
    rw [dif_pos h1, if_pos h0]
    exact next_calm c i arg3 harg3 arg4 harg4 arg5 harg5 arg6 harg6 arg8 harg8 arg9 harg9 arg10 harg10 v1 v6 h1 qt ft fc hft K
  · have h1 : ¬ k0_cond2 i = 1#1 := fun e => h0 ((cond2_iff i).mp e)
    rw [dif_neg h1, if_neg h0, wp_pure]
    iintro ⟨H0, HT, Hk⟩
    imodintro
    iapply Hk
    isplitl [HT]; · iexact HT
    iexact H0

theorem norm_if (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (x : Vec F S1024x2048 .f32) (g : Vec F S1x2048 .f32) (wif : Vec F S128x2048 .bf16) (d9 : Vec F S1024x128 .f32) (K : PUnit → sProp 𝕄) :
    iprop(owns (c : Thread nD τ) arg3 fullShare x ∗ owns (c : Thread nD τ) arg4 fullShare g ∗ owns (c : Thread nD τ) arg6 fullShare wif
        ∗ owns (c : Thread nD τ) arg9 fullShare d9 ∗ (∃ d, ⌜(i 1).val ≠ 0 → d = hblk x g⌝ ∗ owns (c : Thread nD τ) hM fullShare d)
        ∗ (iprop(owns (c : Thread nD τ) arg3 fullShare x ∗ owns (c : Thread nD τ) arg4 fullShare g ∗ owns (c : Thread nD τ) arg6 fullShare wif
          ∗ owns (c : Thread nD τ) arg9 fullShare (if (i 1).val = 0 then k0_pay3 (hblk x g) wif else d9) ∗ owns (c : Thread nD τ) hM fullShare (hblk x g)) -∗ K ⟨⟩))
      ⊢ wp frame (wpE (defs₀ (F := F)) Variants.none c none) Set.univ (if h : k0_cond3 i = 1#1 then normProg i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2 h else pure ⟨⟩) K := by
  by_cases h0 : (i 1).val = 0
  · have h1 := (cond3_iff i).mpr h0
    rw [dif_pos h1, if_pos h0]
    iintro ⟨H3, H4, H6, H9, ⟨%d, -, HS⟩, Hk⟩
    iapply (norm c i arg3 harg3 arg4 harg4 arg5 harg5 arg6 harg6 arg8 harg8 arg9 harg9 arg10 harg10 h1 x g wif K)
    isplitl [H3]; · iexact H3
    isplitl [H4]; · iexact H4
    isplitl [H6]; · iexact H6
    isplitl [H9]; · iexists _; iexact H9
    isplitl [HS]; · iexists _; iexact HS
    iexact Hk
  · have h1 : ¬ k0_cond3 i = 1#1 := fun e => h0 ((cond3_iff i).mp e)
    rw [dif_neg h1, if_neg h0, wp_pure]
    iintro ⟨H3, H4, H6, H9, ⟨%d, %hd, HS⟩, Hk⟩
    obtain rfl := hd h0
    imodintro
    iapply Hk
    isplitl [H3]; · iexact H3
    isplitl [H4]; · iexact H4
    isplitl [H6]; · iexact H6
    isplitl [H9]; · iexact H9
    iexact HS

set_option maxHeartbeats 1000000 in
/-- A step of the body: the copies of the next step started, the block's product, and the step's pages waited for and summed. -/
theorem body (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S128x2048 .bf16) (harg6 : arg6.IsWhole) (arg8 : Memref sig .tc .vmem S1024x512 .bf16) (harg8 : arg8.IsWhole) (arg9 : Memref sig .tc .vmem S1024x128 .f32) (harg9 : arg9.IsWhole) (arg10 : Memref sig .tc .vmem S9x8x128 .f32) (harg10 : arg10.IsWhole) (qt : PosShare TreeShare)
    (ft : Buf (Elt F) (tblM.view.loc (c : Thread nD τ))) (fc : Cache c F) (hft : ∀ n, (word c ft n).toNat < 5120)
    (x : Vec F S1024x2048 .f32) (g : Vec F S1x2048 .f32) (w : Vec F S512x2048 .bf16) (wif : Vec F S128x2048 .bf16) (d9 : Vec F S1024x128 .f32)
    (W : Waits sig Unit) (K : PUnit → sProp 𝕄) :
    iprop(ringBefore c i ft fc ∗ heldT c qt ft ∗ (∃ d, ⌜(i 1).val ≠ 0 → d = hblk x g⌝ ∗ owns (c : Thread nD τ) hM fullShare d)
        ∗ owns (c : Thread nD τ) arg3 fullShare x ∗ owns (c : Thread nD τ) arg4 fullShare g ∗ owns (c : Thread nD τ) arg5 fullShare w ∗ owns (c : Thread nD τ) arg6 fullShare wif
        ∗ (∃ d, owns (c : Thread nD τ) arg8 fullShare d) ∗ owns (c : Thread nD τ) arg9 fullShare d9 ∗ (∃ d, owns (c : Thread nD τ) arg10 fullShare d)
        ∗ owes (c : Thread nD τ) 0 W
        ∗ (iprop(calm c (slotW i) fc ∗ nextSlot c i ft fc ∗ heldT c qt ft ∗ owns (c : Thread nD τ) hM fullShare (hblk x g)
            ∗ owns (c : Thread nD τ) arg3 fullShare x ∗ owns (c : Thread nD τ) arg4 fullShare g ∗ owns (c : Thread nD τ) arg5 fullShare w ∗ owns (c : Thread nD τ) arg6 fullShare wif
            ∗ owns (c : Thread nD τ) arg8 fullShare (k0_pay4 (hblk x g) w) ∗ owns (c : Thread nD τ) arg9 fullShare (if (i 1).val = 0 then k0_pay3 (hblk x g) wif else d9)
            ∗ owns (c : Thread nD τ) arg10 fullShare (sumsBlk fun k => pageVec c (words c ft (step i) k) fc) ∗ ∃ W', owes (c : Thread nD τ) 0 W') -∗ K ⟨⟩))
      ⊢ wp frame (wpE (defs₀ (F := F)) Variants.none c none) Set.univ (cc0_in_proj_stream (F := F) i tblM (Memref.isWhole_whole _) arg3 harg3 arg4 harg4 arg5 harg5 arg6 harg6 cacheM (Memref.isWhole_whole _) arg8 harg8 arg9 harg9 arg10 harg10 (Memref.whole cc0_scratch0) (Memref.isWhole_whole _) ringM (Memref.isWhole_whole _) cc0_scratch2) K := by
  rw [body_split, part6_split, wp_bind, wp_bind]
  iintro ⟨HR, HT, HM, H3, H4, H5, H6, H8, H9, H10, HW, Hk⟩
  iapply (first_if c i arg3 harg3 arg4 harg4 arg5 harg5 arg6 harg6 arg8 harg8 arg9 harg9 arg10 harg10 qt ft fc hft _)
  isplitl [HR]; · iexact HR
  isplitl [HT]; · iexact HT
  iintro ⟨HT, HB, HL⟩
  rw [wp_bind]
  iapply (next_if c i arg3 harg3 arg4 harg4 arg5 harg5 arg6 harg6 arg8 harg8 arg9 harg9 arg10 harg10 _ _ qt ft fc hft _)
  isplitl [HL]; · iexact HL
  isplitl [HT]; · iexact HT
  iintro ⟨HT, HL⟩
  rw [wp_bind]
  iapply (norm_if c i arg3 harg3 arg4 harg4 arg5 harg5 arg6 harg6 arg8 harg8 arg9 harg9 arg10 harg10 x g wif d9 _)
  isplitl [H3]; · iexact H3
  isplitl [H4]; · iexact H4
  isplitl [H6]; · iexact H6
  isplitl [H9]; · iexact H9
  isplitl [HM]; · iexact HM
  iintro ⟨H3, H4, H6, H9, HM⟩
  iapply (dot c i arg3 harg3 arg4 harg4 arg5 harg5 arg6 harg6 arg8 harg8 arg9 harg9 arg10 harg10 _ (hblk x g) w qt ft (page_ok _ (by rw [word_at c ft (9 * step i + 0) _ _ (off47_eq i)]; exact hft _)) _)
  isplitl [H5]; · iexact H5
  isplitl [H8]; · iexact H8
  isplitl [HM]; · iexact HM
  isplitl [HT]; · iexact HT
  iintro %r ⟨H5, H8, HM, HT⟩
  iapply (land_busy c i arg3 harg3 arg4 harg4 arg5 harg5 arg6 harg6 arg8 harg8 arg9 harg9 arg10 harg10 _ _ _ (words c ft (step i)) qt ft fc hft W K)
  isplitl [HB]; · iexact HB
  isplitl [HT]; · iexact HT
  isplitl [H10]; · iexact H10
  isplitl [HW]; · iexact HW
  iintro ⟨HB, HT, H10, HW⟩
  iapply Hk
  isplitl [HB]; · iexact HB
  isplitl [HL]; · iexact HL
  isplitl [HT]; · iexact HT
  isplitl [HM]; · iexact HM
  isplitl [H3]; · iexact H3
  isplitl [H4]; · iexact H4
  isplitl [H5]; · iexact H5
  isplitl [H6]; · iexact H6
  isplitl [H8]; · iexact H8
  isplitl [H9]; · iexact H9
  isplitl [H10]; · iexact H10
  iexact HW

end Cert.Kernel2Ideal.Proj
-- ==== Proof.ProjKit.lean ====
/- The program up to its region: the arrays there, the page table's words, and each window's block. -/
module

public import proofs.«01_k».proof.Proof.ProjBody
public import proofs.«01_k».proof.Proof.Gen.Kernel2Ideal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The stretches of host operations before the region. -/
abbrev hostAll : List (List (HloOp τ sig (Elt F))) := [hostOps0, hostOps0_1]

/-- Core `c`'s buffers when the region is entered. -/
abbrev V (c : Dev nD) (b : Ref sig .tc) : Buf (Elt F) ((c : Thread nD τ).loc b) := StableHlo.after hostAll.flatten (fun b => m (c, b)) b

theorem hostAll_fresh : (hostAll : List (List (HloOp τ sig (Elt F)))).Forall fun ops => ops.Forall fun op => op.fresh = ∅ := by
  simp only [List.Forall]; repeat' constructor

theorem hostAll_sub : (hostAll : List (List (HloOp τ sig (Elt F)))).Forall fun ops => ops.Forall fun op => op.bufs ⊆ StableHlo.tcRefs τ sig :=
  ⟨hostOps0_sub, hostOps0_1_sub⟩

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main hostAll hostAll_sub hostAll_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))

/-- The page table as the region finds it. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (Pipeline.UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (Pipeline.UD sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The kernel's own semaphores, one for each slot of the ring. -/
abbrev osem0 : Fin 2 → SemLoc sig := fun j => (![SemLoc.dma 12, SemLoc.dma 13] : Fin 2 → SemLoc sig) j
theorem ownSemFacts0 : Pipeline.OwnSemFacts spec0 osem0 := by decide
/-- The cache is the one array the body reads itself. -/
abbrev H0 : Finset (Ref sig .tc) := {main_v4}
theorem H0_sub : H0 ⊆ Pipeline.restRefsP sig pre0 spec0 := by decide
theorem ownSems_eq (c : Dev nD) : (Pipeline.ownSems0 (Ix := Unit) (Name := ℕ) (U := Pipeline.UD sig nD τ) (Lvl := ℕ) (Val := Elt F) osem0 c : sProp 𝕄)
    = iprop(semVal ((c : Thread nD τ), cell 0) 0 ∗ semVal ((c : Thread nD τ), cell 1) 0) := by
  rw [Pipeline.ownSems0_eq_of_list c osem0 [0, 1] (by decide) (by decide)]; rfl
theorem cache_eq (c : Dev nD) : (bigSep H0 (fun b => ((c : Thread nD τ).loc b) ↦{fullShare} V m c b) : sProp 𝕄) = atLeast c fullShare (V m c main_v4) := by
  rw [BI.bigSep_eq_bigSepL_of_eq [main_v4] (by decide) (by decide)]; rfl
theorem table_eq (c : Dev nD) : (Pipeline.ΦT pre0 (tbl m) c : sProp 𝕄) = heldT c fullShare.right (V m c main_v6) := by
  obtain rfl : c = 0 := Subsingleton.elim _ _
  unfold Pipeline.ΦT Pipeline.prefHeld
  rw [show (Finset.univ : Finset (Fin 1)) = {(0 : Fin 1)} from by decide, bigSep_singleton]; rfl

end Cert.Kernel2Ideal.Proj
-- ==== Proof.ProjBlocks.lean ====
/- Which part of its array each block of the pipeline is. -/
module

public import proofs.«01_k».proof.Proof.ProjKit
public import Idealize.ShloMosaic.Lib.Pipeline.ValueKit
public import Idealize.ShloMosaic.Lib.Pointwise

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem step_coords : ∀ t : Fin grid0.N, step (grid0.coords t) = t.val := by decide +kernel
theorem col_coords : ∀ t : Fin grid0.N, (grid0.coords t 1).val = t.val % 26 := by decide +kernel
theorem index_0 : ∀ t : Fin grid0.N, cc0_transform_0 (grid0.coords t) = ![t.val / 26, 0] := by decide +kernel
theorem index_1 : ∀ t : Fin grid0.N, cc0_transform_1 (grid0.coords t) = ![0, 0] := by decide +kernel
theorem index_2 : ∀ t : Fin grid0.N, cc0_transform_2 (grid0.coords t) = ![t.val % 26, 0] := by decide +kernel
theorem index_3 : ∀ t : Fin grid0.N, cc0_transform_3 (grid0.coords t) = ![0, 0] := by decide +kernel
theorem index_4 : ∀ t : Fin grid0.N, cc0_transform_5 (grid0.coords t) = ![t.val / 26, t.val % 26] := by decide +kernel
theorem index_5 : ∀ t : Fin grid0.N, cc0_transform_6 (grid0.coords t) = ![t.val / 26, 0] := by decide +kernel
theorem index_6 : ∀ t : Fin grid0.N, cc0_transform_7 (grid0.coords t) = ![t.val, 0, 0] := by decide +kernel

theorem lt_208 (t : Fin (cfgM m).N) : t.val < 208 := Nat.lt_of_lt_of_eq t.isLt N_0

theorem flush_5 : ∀ t : Fin grid0.N, Pipeline.Window.flushOf grid0 true cc0_transform_6 t = true ↔ t.val % 26 = 25 := by decide +kernel
theorem flush_4 : ∀ t : Fin grid0.N, Pipeline.Window.flushOf grid0 true cc0_transform_5 t = true := by decide +kernel
theorem flush_6 : ∀ t : Fin grid0.N, Pipeline.Window.flushOf grid0 true cc0_transform_7 t = true := by decide +kernel

/-- Rows `1024 b …` of the input. -/
def xAt (c : Dev nD) (b : ℕ) : Vec F S1024x2048 .f32 := fun y =>
  V m c main_v2 (ix2 ⟨1024 * min b 7 + (y 0).val, by have : (y 0).val < 1024 := (y 0).isLt; omega⟩ (y 1))
/-- Rows `512 b …` of the packed weights. -/
def wAt (c : Dev nD) (b : ℕ) : Vec F S512x2048 .bf16 := fun y =>
  V m c main_arg2 (ix2 ⟨512 * min b 25 + (y 0).val, by have : (y 0).val < 512 := (y 0).isLt; omega⟩ (y 1))

theorem iblk_0 (c : Dev nD) (t : Fin (cfgM m).N) : iblk m c 0 t = xAt m c (t.val / 26) := by
  have e := index_0 t
  have h := lt_208 m t
  refine funext fun (y : S1024x2048.Idx) => ?_
  show V m c main_v2 ((((cfgM m).win 0).blk t).view.emb y) = _
  unfold xAt
  congr 1
  funext a
  apply Fin.ext
  match a with
  | ⟨0, _⟩ =>
    refine (Pipeline.Window.rect_emb_val_off ((cfgM m).win 0) t _ _).trans ?_
    show cc0_transform_0 (grid0.coords t) 0 * 1024 + (y 0).val = 1024 * min (t.val / 26) 7 + (y 0).val
    rw [e]; show t.val / 26 * 1024 + _ = _; omega
  | ⟨1, _⟩ =>
    refine (Pipeline.Window.rect_emb_val_off ((cfgM m).win 0) t _ _).trans ?_
    show cc0_transform_0 (grid0.coords t) 1 * 2048 + (y 1).val = (y 1).val
    rw [e]; show 0 * 2048 + _ = _; omega

theorem iblk_1 (c : Dev nD) (t : Fin (cfgM m).N) : iblk m c 1 t = V m c main_v5 := by
  have e := index_1 t
  refine funext fun (y : S1x2048.Idx) => ?_
  show V m c main_v5 ((((cfgM m).win 1).blk t).view.emb y) = _
  congr 1
  funext a
  apply Fin.ext
  match a with
  | ⟨0, _⟩ =>
    refine (Pipeline.Window.rect_emb_val_off ((cfgM m).win 1) t _ _).trans ?_
    show cc0_transform_1 (grid0.coords t) 0 * 1 + (y 0).val = (y 0).val
    rw [e]; show 0 * 1 + _ = _; omega
  | ⟨1, _⟩ =>
    refine (Pipeline.Window.rect_emb_val_off ((cfgM m).win 1) t _ _).trans ?_
    show cc0_transform_1 (grid0.coords t) 1 * 2048 + (y 1).val = (y 1).val
    rw [e]; show 0 * 2048 + _ = _; omega

theorem iblk_2 (c : Dev nD) (t : Fin (cfgM m).N) : iblk m c 2 t = wAt m c (t.val % 26) := by
  have e := index_2 t
  refine funext fun (y : S512x2048.Idx) => ?_
  show V m c main_arg2 ((((cfgM m).win 2).blk t).view.emb y) = _
  unfold wAt
  congr 1
  funext a
  apply Fin.ext
  match a with
  | ⟨0, _⟩ =>
    refine (Pipeline.Window.rect_emb_val_off ((cfgM m).win 2) t _ _).trans ?_
    show cc0_transform_2 (grid0.coords t) 0 * 512 + (y 0).val = 512 * min (t.val % 26) 25 + (y 0).val
    rw [e]; show t.val % 26 * 512 + _ = _; omega
  | ⟨1, _⟩ =>
    refine (Pipeline.Window.rect_emb_val_off ((cfgM m).win 2) t _ _).trans ?_
    show cc0_transform_2 (grid0.coords t) 1 * 2048 + (y 1).val = (y 1).val
    rw [e]; show 0 * 2048 + _ = _; omega

theorem iblk_3 (c : Dev nD) (t : Fin (cfgM m).N) : iblk m c 3 t = V m c main_arg3 := by
  have e := index_3 t
  refine funext fun (y : S128x2048.Idx) => ?_
  show V m c main_arg3 ((((cfgM m).win 3).blk t).view.emb y) = _
  congr 1
  funext a
  apply Fin.ext
  match a with
  | ⟨0, _⟩ =>
    refine (Pipeline.Window.rect_emb_val_off ((cfgM m).win 3) t _ _).trans ?_
    show cc0_transform_3 (grid0.coords t) 0 * 128 + (y 0).val = (y 0).val
    rw [e]; show 0 * 128 + _ = _; omega
  | ⟨1, _⟩ =>
    refine (Pipeline.Window.rect_emb_val_off ((cfgM m).win 3) t _ _).trans ?_
    show cc0_transform_3 (grid0.coords t) 1 * 2048 + (y 1).val = (y 1).val
    rw [e]; show 0 * 2048 + _ = _; omega

end Cert.Kernel2Ideal.Proj
-- ==== Proof.ProjPhi.lean ====
/- What the kernel holds between two steps, and how the launch's resources make it and get it back. -/
module

public import proofs.«01_k».proof.Proof.ProjBlocks
public import Idealize.ShloMosaic.Lib.Ring.FamCut

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pages of a slot at anything. -/
abbrev pieces (c : Dev nD) (s : Fin 2) : sProp 𝕄 :=
  iprop((∃ f, own (F := F) c (piece s 0) fullShare f) ∗ (∃ f, own (F := F) c (piece s 1) fullShare f) ∗ (∃ f, own (F := F) c (piece s 2) fullShare f) ∗ (∃ f, own (F := F) c (piece s 3) fullShare f) ∗ (∃ f, own (F := F) c (piece s 4) fullShare f) ∗ (∃ f, own (F := F) c (piece s 5) fullShare f) ∗ (∃ f, own (F := F) c (piece s 6) fullShare f) ∗ (∃ f, own (F := F) c (piece s 7) fullShare f) ∗ (∃ f, own (F := F) c (piece s 8) fullShare f))
/-- A slot's nine read shares of the cache. -/
abbrev toks (c : Dev nD) (s : Fin 2) (fc : Cache c F) : sProp 𝕄 :=
  iprop(atLeast c (tok s 0) fc ∗ atLeast c (tok s 1) fc ∗ atLeast c (tok s 2) fc ∗ atLeast c (tok s 3) fc ∗ atLeast c (tok s 4) fc ∗ atLeast c (tok s 5) fc ∗ atLeast c (tok s 6) fc ∗ atLeast c (tok s 7) fc ∗ atLeast c (tok s 8) fc)

abbrev ringLoc (c : Dev nD) : Loc nD τ sig := (c : Thread nD τ).loc cc0_scratch1
/-- The elements of the ring that a page is. -/
def pieceSet (c : Dev nD) (b : Fin 2 × Fin 9) : Finset (Idx (ringLoc c)) := (piece b.1 b.2).view.set

theorem pieces_disjoint (c : Dev nD) (b b' : Fin 2 × Fin 9) (h : b ≠ b') : Disjoint (pieceSet c b) (pieceSet c b') := by
  unfold pieceSet piece
  rw [Memref.set_view_squeeze, Memref.set_view_squeeze]
  by_cases h0 : b.1 = b'.1
  · have h1 : b.2 ≠ b'.2 := fun e => h (Prod.ext h0 e)
    refine View.disjoint_slice_of_sep _ _ _ ⟨1, by decide⟩ rfl rfl ?_
    have : b.2.val ≠ b'.2.val := fun e => h1 (Fin.ext e)
    show b.2.val + 1 ≤ b'.2.val ∨ b'.2.val + 1 ≤ b.2.val
    omega
  · refine View.disjoint_slice_of_sep _ _ _ ⟨0, by decide⟩ rfl rfl ?_
    have : b.1.val ≠ b'.1.val := fun e => h0 (Fin.ext e)
    show b.1.val + 1 ≤ b'.1.val ∨ b'.1.val + 1 ≤ b.1.val
    omega

theorem pairs_eq (Φ : Fin 2 × Fin 9 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (0, 8) ∗ Φ (1, 0) ∗ Φ (1, 1) ∗ Φ (1, 2) ∗ Φ (1, 3) ∗ Φ (1, 4) ∗ Φ (1, 5) ∗ Φ (1, 6) ∗ Φ (1, 7) ∗ Φ (1, 8)) :=
  bigSep_univ_eq_bigSepL [(0, 0), (0, 1), (0, 2), (0, 3), (0, 4), (0, 5), (0, 6), (0, 7), (0, 8), (1, 0), (1, 1), (1, 2), (1, 3), (1, 4), (1, 5), (1, 6), (1, 7), (1, 8)] (by decide) (by decide) Φ

/-- What of the ring no page covers. -/
abbrev ringRest (c : Dev nD) : sProp 𝕄 := iprop(∃ f : Buf (Elt F) (ringLoc c), ringLoc c ↦[Ring.restOf (pieceSet c)]{fullShare} f)

theorem ring_cut (c : Dev nD) : (iprop(∃ f : Buf (Elt F) (ringLoc c), ringLoc c ↦{fullShare} f) : sProp 𝕄) ⊢ iprop(pieces (F := F) c 0 ∗ pieces (F := F) c 1 ∗ ringRest (F := F) c) := by
  refine (Ring.fam_split_ex (Ix := Unit) (Name := ℕ) (U := Pipeline.UD sig nD τ) (Lvl := ℕ) (pieceSet c) (pieces_disjoint c)).trans ?_
  rw [pairs_eq]
  iintro ⟨⟨P0, P1, P2, P3, P4, P5, P6, P7, P8, P9, P10, P11, P12, P13, P14, P15, P16, P17⟩, HR⟩
  isplitl [P0 P1 P2 P3 P4 P5 P6 P7 P8]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    iexact P8
  isplitl [P9 P10 P11 P12 P13 P14 P15 P16 P17]
  · isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    iexact P17
  iexact HR

theorem ring_join (c : Dev nD) (f₀ : Buf (Elt F) (ringLoc c)) : iprop(pieces (F := F) c 0 ∗ pieces (F := F) c 1 ∗ ringRest (F := F) c) ⊢ (iprop(∃ f : Buf (Elt F) (ringLoc c), ringLoc c ↦{fullShare} f) : sProp 𝕄) := by
  refine .trans ?_ (Ring.fam_join (Ix := Unit) (Name := ℕ) (U := Pipeline.UD sig nD τ) (Lvl := ℕ) (pieceSet c) (pieces_disjoint c) f₀)
  rw [pairs_eq]
  iintro ⟨⟨P0, P1, P2, P3, P4, P5, P6, P7, P8⟩, ⟨P9, P10, P11, P12, P13, P14, P15, P16, P17⟩, HR⟩
  isplitl [P0 P1 P2 P3 P4 P5 P6 P7 P8 P9 P10 P11 P12 P13 P14 P15 P16 P17]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    iexact P17
  iexact HR

/-- What of the cache no copy reads with. -/
abbrev cacheRest (c : Dev nD) (fc : Cache c F) : sProp 𝕄 := atLeast c (Transfers.shareDrop fullShare 18) fc

theorem range_eq (Φ : ℕ → sProp 𝕄) : bigSep (Finset.range 18) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  BI.bigSep_eq_bigSepL_of_eq [0, 1, 2, 3, 4, 5, 6, 7, 8, 9, 10, 11, 12, 13, 14, 15, 16, 17] (by decide) (by decide) Φ

theorem cache_cut (c : Dev nD) (fc : Cache c F) : (atLeast c fullShare fc : sProp 𝕄) ⊢ iprop(toks c 0 fc ∗ toks c 1 fc ∗ cacheRest c fc) := by
  refine ((Transfers.pointsTo_toks_range fullShare 18).1).trans ?_
  rw [range_eq]
  iintro ⟨HR, ⟨C0, C1, C2, C3, C4, C5, C6, C7, C8, C9, C10, C11, C12, C13, C14, C15, C16, C17⟩⟩
  isplitl [C0 C1 C2 C3 C4 C5 C6 C7 C8]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    iexact C8
  isplitl [C9 C10 C11 C12 C13 C14 C15 C16 C17]
  · isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    iexact C17
  iexact HR

theorem cache_join (c : Dev nD) (fc : Cache c F) : iprop(toks c 0 fc ∗ toks c 1 fc ∗ cacheRest c fc) ⊢ (atLeast c fullShare fc : sProp 𝕄) := by
  refine .trans ?_ ((Transfers.pointsTo_toks_range fullShare 18).2)
  rw [range_eq]
  iintro ⟨⟨C0, C1, C2, C3, C4, C5, C6, C7, C8⟩, ⟨C9, C10, C11, C12, C13, C14, C15, C16, C17⟩, HR⟩
  isplitl [HR]; · iexact HR
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  iexact C17

/-- A slot by the parity of the step. -/
def slotN (n : ℕ) : Fin 2 := ⟨n % 2, Nat.mod_lt _ (by decide)⟩

/-- The ring before step `n`: at rest before the first and after the last, the step's pages in flight otherwise. -/
def ringAt (c : Dev nD) (n : ℕ) (ft : Buf (Elt F) (tblM.view.loc (c : Thread nD τ))) (fc : Cache c F) : sProp 𝕄 :=
  if n = 0 ∨ n = 208 then iprop(calm c 0 fc ∗ calm c 1 fc) else iprop(busy c (slotN n) (words c ft n) fc ∗ calm c (slotN (n + 1)) fc)

theorem ringAt_before (c : Dev nD) (i : grid0.Coords) (ft : Buf (Elt F) (tblM.view.loc (c : Thread nD τ))) (fc : Cache c F) (h : step i < 208) :
    ringAt c (step i) ft fc = ringBefore c i ft fc := by
  unfold ringAt ringBefore
  by_cases h0 : step i = 0
  · rw [if_pos h0, if_pos (Or.inl h0)]
  · rw [if_neg h0, if_neg (by omega)]; rfl

theorem ringAt_after (c : Dev nD) (i : grid0.Coords) (ft : Buf (Elt F) (tblM.view.loc (c : Thread nD τ))) (fc : Cache c F) (h : step i < 208) :
    iprop(calm c (slotW i) fc ∗ nextSlot c i ft fc) ⊢ ringAt c (step i + 1) ft fc := by
  unfold ringAt nextSlot
  by_cases h0 : step i < 207
  · rw [if_pos h0, if_neg (by omega)]
    have e : slotW i = slotN (step i + 1 + 1) := Fin.ext (by show step i % 2 = (step i + 1 + 1) % 2; omega)
    rw [e]
    iintro ⟨H, H'⟩
    isplitl [H']; · iexact H'
    iexact H
  · have h7 : step i = 207 := by omega
    rw [if_neg h0, if_pos (by omega)]
    have e : slotW i = 1 := Fin.ext (by show step i % 2 = 1; rw [h7])
    have e' : slotL i = 0 := Fin.ext (by show (step i + 1) % 2 = 0; rw [h7])
    rw [e, e']
    iintro ⟨H, H'⟩
    isplitl [H']; · iexact H'
    iexact H

/-- The normalised rows before step `n`: those of its row block, unless the step makes them itself. -/
def rowsAt (c : Dev nD) (n : ℕ) : sProp 𝕄 :=
  iprop(∃ d, ⌜n % 26 ≠ 0 → d = hblk (xAt m c (n / 26)) (V m c main_v5)⌝ ∗ owns (c : Thread nD τ) hM fullShare d)

/-- What is held between two steps. -/
def Phi (c : Dev nD) (n : ℕ) : sProp 𝕄 :=
  iprop(ringAt c n (V m c main_v6) (V m c main_v4) ∗ rowsAt m c n ∗ heldT c fullShare.right (V m c main_v6)
    ∗ (ringRest (F := F) c ∗ (∃ r, prngReg c r) ∗ cacheRest c (V m c main_v4)))

theorem ΦD_eq (c : Dev nD) : (Pipeline.ΦD osem0 spec0 H0 (V m) c : sProp 𝕄)
    = iprop(((∃ f : Buf (Elt F) ((c : Thread nD τ).loc cc0_scratch0), ((c : Thread nD τ).loc cc0_scratch0) ↦{fullShare} f) ∗ (∃ f : Buf (Elt F) (ringLoc c), ringLoc c ↦{fullShare} f))
      ∗ (∃ r, prngReg c r) ∗ (semVal ((c : Thread nD τ), cell 0) 0 ∗ semVal ((c : Thread nD τ), cell 1) 0) ∗ atLeast c fullShare (V m c main_v4)) := by
  rw [← ownSems_eq, ← cache_eq, ← scopedRest0_eq]
  rfl

theorem hin (c : Dev nD) : iprop(Pipeline.ΦD osem0 spec0 H0 (V m) c ∗ Pipeline.ΦT pre0 (tbl m) c) ⊢ Phi m c 0 := by
  rw [ΦD_eq, table_eq]
  unfold Phi ringAt rowsAt calm
  rw [if_pos (Or.inl rfl)]
  iintro ⟨⟨⟨HS, HR⟩, HP, ⟨S0, S1⟩, HC⟩, HT⟩
  ihave HR := (ring_cut (F := F) c) $$ HR
  icases HR with ⟨A0, A1, AR⟩
  ihave HC := (cache_cut c (V m c main_v4)) $$ HC
  icases HC with ⟨B0, B1, BR⟩
  isplitl [A0 A1 B0 B1 S0 S1]
  · isplitl [A0 B0 S0]
    · isplitl [A0]; · iexact A0
      isplitl [S0]; · iexact S0
      iexact B0
    · isplitl [A1]; · iexact A1
      isplitl [S1]; · iexact S1
      iexact B1
  isplitl [HS]
  · icases HS with ⟨%f, HS⟩
    iexists f
    isplitr
    · ipureintro; intro h; exact absurd rfl h
    rw [owns_whole]; iexact HS
  isplitl [HT]; · iexact HT
  isplitl [AR]; · iexact AR
  isplitl [HP]; · iexact HP
  iexact BR

theorem rows_whole (c : Dev nD) (d : Vec F S1024x2048 .bf16) : (owns (c : Thread nD τ) hM fullShare d : sProp 𝕄) ⊢ (((c : Thread nD τ).loc cc0_scratch0) ↦{fullShare} d) :=
  BIBase.Entails.of_eq (owns_whole (c : Thread nD τ) cc0_scratch0 fullShare d)

theorem hout (c : Dev nD) : Phi m c 208 ⊢ (Pipeline.ΦD osem0 spec0 H0 (V m) c : sProp 𝕄) := by
  rw [ΦD_eq]
  unfold Phi ringAt rowsAt calm
  rw [if_pos (Or.inr rfl)]
  iintro ⟨⟨⟨A0, S0, B0⟩, ⟨A1, S1, B1⟩⟩, ⟨%d, -, HS⟩, -, AR, HP, BR⟩
  isplitl [HS A0 A1 AR]
  · isplitl [HS]
    · iexists d; iapply (rows_whole c d); iexact HS
    · iapply (ring_join (F := F) c (m (ringLoc c)))
      isplitl [A0]; · iexact A0
      isplitl [A1]; · iexact A1
      iexact AR
  isplitl [HP]; · iexact HP
  isplitl [S0 S1]
  · isplitl [S0]; · iexact S0
    iexact S1
  iapply (cache_join c (V m c main_v4))
  isplitl [B0]; · iexact B0
  isplitl [B1]; · iexact B1
  iexact BR

end Cert.Kernel2Ideal.Proj
-- ==== Proof.ProjRun.lean ====
/- The pipeline's proof data, the body at every point, and the launch. -/
module

public import proofs.«01_k».proof.Proof.ProjPhi

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The normalised rows of step `n`'s row block. -/
abbrev hAt (c : Dev nD) (n : ℕ) : Vec F S1024x2048 .bf16 := hblk (xAt m c (n / 26)) (V m c main_v5)
/-- What step `n` leaves in each output's buffer. -/
abbrev pOut (c : Dev nD) (n : ℕ) : Vec F S1024x512 .bf16 := k0_pay4 (hAt m c n) (wAt m c (n % 26))
abbrev gatesOut (c : Dev nD) (n : ℕ) : Vec F S1024x128 .f32 := k0_pay3 (hAt m c n) (V m c main_arg3)
abbrev sumsOut (c : Dev nD) (n : ℕ) : Vec F S9x8x128 .f32 := sumsBlk fun k => pageVec c (words c (V m c main_v6) n k) (V m c main_v4)

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => pOut m c t.val
    | ⟨5, _⟩ => gatesOut m c t.val
    | ⟨6, _⟩ => sumsOut m c t.val
  Φ t := Phi m c t.val
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = pOut m c t.val := by dsimp only [dats]; try rfl
theorem after_5 (c : Dev nD) (t : Fin (cfgM m).N) : (dats m 0 c).after 5 t = gatesOut m c t.val := by dsimp only [dats]; try rfl
theorem after_6 (c : Dev nD) (t : Fin (cfgM m).N) : (dats m 0 c).after 6 t = sumsOut m c t.val := by dsimp only [dats]; try rfl
theorem before_0 (c : Dev nD) (t : Fin (cfgM m).N) (d) : (dats m 0 c).before 0 t d = iblk m c 0 t :=
  before_0_of m (dats m 0 c) (A_eq m c 0) (after_0 m c) t d
theorem before_1 (c : Dev nD) (t : Fin (cfgM m).N) (d) : (dats m 0 c).before 1 t d = iblk m c 1 t :=
  before_1_of m (dats m 0 c) (A_eq m c 1) (after_1 m c) t d
theorem before_2 (c : Dev nD) (t : Fin (cfgM m).N) (d) : (dats m 0 c).before 2 t d = iblk m c 2 t :=
  before_2_of m (dats m 0 c) (A_eq m c 2) (after_2 m c) t d
theorem before_3 (c : Dev nD) (t : Fin (cfgM m).N) (d) : (dats m 0 c).before 3 t d = iblk m c 3 t :=
  before_3_of m (dats m 0 c) (A_eq m c 3) (after_3 m c) t d

theorem idle_5 (t : Fin (cfgM m).N) (h : t.val % 26 ≠ 0) : (cfgM m).idle 5 (grid0.coords t) = true := by
  have h1 : ¬ k0_cond3 (grid0.coords t) = 1#1 := fun e => h ((col_coords t).symm.trans ((cond3_iff _).mp e))
  show (!(k0_cond3 (grid0.coords t) == 1#1)) = true
  simp [h1]
theorem live_5 (t : Fin (cfgM m).N) (h : t.val % 26 = 0) : (cfgM m).idle 5 (grid0.coords t) = false := by
  have h1 : k0_cond3 (grid0.coords t) = 1#1 := (cond3_iff _).mpr ((col_coords t).trans h)
  show (!(k0_cond3 (grid0.coords t) == 1#1)) = false
  simp [h1]

theorem flush5 (t : Fin (cfgM m).N) : ((cfgM m).win 5).flush t = true ↔ t.val % 26 = 25 := flush_5 t
theorem noflush5 (t : Fin (cfgM m).N) (h : t.val % 26 ≠ 25) : ((cfgM m).win 5).flush t = false := by
  rw [Bool.eq_false_iff]; intro e; exact h ((flush5 m t).mp e)

/-- Within a row block the gates' buffer holds the block's gates from its first point on. -/
theorem before_5 (c : Dev nD) (d) : ∀ (n : ℕ) (h : n + 1 < (cfgM m).N), (n + 1) % 26 ≠ 0 →
    (dats m 0 c).before 5 ⟨n + 1, h⟩ d = gatesOut m c (n + 1) := by
  intro n
  induction n with
  | zero =>
    intro h _
    have eg : gatesOut m c (0 + 1) = gatesOut m c 0 := by unfold gatesOut hAt; rw [show (0 + 1) / 26 = 0 / 26 from by decide]
    rw [eg, (dats m 0 c).before_of_pos 5 ⟨0 + 1, h⟩ (by simp) rfl d, noflush5 m _ (by simp)]
    unfold Dat.left
    rw [live_5 m _ (by simp)]
    exact after_5 m c _
  | succ n ih =>
    intro h hk
    rw [(dats m 0 c).before_of_pos 5 ⟨n + 1 + 1, h⟩ (by simp) rfl d, noflush5 m _ (by simp; omega)]
    have e : (n + 1 + 1) / 26 = (n + 1) / 26 := by omega
    have eg : gatesOut m c (n + 1 + 1) = gatesOut m c (n + 1) := by unfold gatesOut hAt; rw [e]
    rw [eg]
    unfold Dat.left
    by_cases h0 : (n + 1) % 26 = 0
    · rw [live_5 m _ (by simpa using h0)]
      exact after_5 m c _
    · rw [idle_5 m _ (by simpa using h0)]
      exact ih (by omega) h0

/-- The staging buffers at point `t`, and the body there. -/
abbrev ms_0 (t : Fin (cfgM m).N) : Memref sig .tc .vmem S1024x2048 .f32 := spec0_0.stage ((cfgM m).slots t 0)
abbrev ms_1 (t : Fin (cfgM m).N) : Memref sig .tc .vmem S1x2048 .f32 := spec0_1.stage ((cfgM m).slots t 1)
abbrev ms_2 (t : Fin (cfgM m).N) : Memref sig .tc .vmem S512x2048 .bf16 := spec0_2.stage ((cfgM m).slots t 2)
abbrev ms_3 (t : Fin (cfgM m).N) : Memref sig .tc .vmem S128x2048 .bf16 := spec0_3.stage ((cfgM m).slots t 3)
abbrev ms_4 (t : Fin (cfgM m).N) : Memref sig .tc .vmem S1024x512 .bf16 := spec0_4.stage ((cfgM m).slots t 4)
abbrev ms_5 (t : Fin (cfgM m).N) : Memref sig .tc .vmem S1024x128 .f32 := spec0_5.stage ((cfgM m).slots t 5)
abbrev ms_6 (t : Fin (cfgM m).N) : Memref sig .tc .vmem S9x8x128 .f32 := spec0_6.stage ((cfgM m).slots t 6)

abbrev bodyAt (t : Fin (cfgM m).N) : Prog (TpuEff nD τ sig (Elt F) Λ₀ .tc) PUnit :=
  cc0_in_proj_stream (grid0.coords t) (Memref.whole main_v6) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (Memref.whole main_v4) (Memref.isWhole_whole _) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (Memref.whole cc0_scratch0) (Memref.isWhole_whole _) (Memref.whole cc0_scratch1) (Memref.isWhole_whole _) cc0_scratch2

def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare ((dats m 0 c).before 4 t d))
    ∗ (∃ d, owns (c : Thread nD τ) (ms_5 m t) fullShare ((dats m 0 c).before 5 t d))
    ∗ (∃ d, owns (c : Thread nD τ) (ms_6 m t) fullShare ((dats m 0 c).before 6 t d)))

def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin (cfgM m).N) :
    (dats m 0 c).leavesExact 0 t = owns (c : Thread nD τ) (ms_0 m t) fullShare (iblk m c 0 t) := by
  rw [← after_0 m c t]; rfl
theorem leaves_1 (c : Dev nD) (t : Fin (cfgM m).N) :
    (dats m 0 c).leavesExact 1 t = owns (c : Thread nD τ) (ms_1 m t) fullShare (iblk m c 1 t) := by
  rw [← after_1 m c t]; rfl
theorem leaves_2 (c : Dev nD) (t : Fin (cfgM m).N) :
    (dats m 0 c).leavesExact 2 t = owns (c : Thread nD τ) (ms_2 m t) fullShare (iblk m c 2 t) := by
  rw [← after_2 m c t]; rfl
theorem leaves_3 (c : Dev nD) (t : Fin (cfgM m).N) :
    (dats m 0 c).leavesExact 3 t = owns (c : Thread nD τ) (ms_3 m t) fullShare (iblk m c 3 t) := by
  rw [← after_3 m c t]; rfl
theorem leaves_4 (c : Dev nD) (t : Fin (cfgM m).N) :
    (dats m 0 c).leavesExact 4 t = owns (c : Thread nD τ) (ms_4 m t) fullShare (pOut m c t.val) := by
  rw [← after_4 m c t]; rfl
theorem leaves_6 (c : Dev nD) (t : Fin (cfgM m).N) :
    (dats m 0 c).leavesExact 6 t = owns (c : Thread nD τ) (ms_6 m t) fullShare (sumsOut m c t.val) := by
  rw [← after_6 m c t]; rfl

theorem leaves_5_first (c : Dev nD) (t : Fin (cfgM m).N) (h : t.val % 26 = 0) :
    (dats m 0 c).leavesExact 5 t = owns (c : Thread nD τ) (ms_5 m t) fullShare (gatesOut m c t.val) := by
  unfold Dat.leavesExact
  rw [live_5 m t h, after_5]; rfl
theorem leaves_5_rest (c : Dev nD) (t : Fin (cfgM m).N) (h : t.val % 26 ≠ 0) (d) :
    owns (c : Thread nD τ) (ms_5 m t) fullShare ((dats m 0 c).before 5 t d) ⊢ ((dats m 0 c).leavesExact 5 t : sProp 𝕄) := by
  by_cases hf : t.val % 26 = 25
  · unfold Dat.leavesExact
    rw [idle_5 m t h, (flush5 m t).mpr hf, after_5]
    obtain ⟨n, hn⟩ := t
    obtain ⟨n, rfl⟩ : ∃ k, n = k + 1 := ⟨n - 1, by simp at h; omega⟩
    rw [before_5 m c d n hn h]; exact .rfl
  · rw [(dats m 0 c).leavesExact_idle 5 t (idle_5 m t h) (noflush5 m t hf)]
    iintro H
    iexists d
    iexact H
theorem leaves_5 (c : Dev nD) (t : Fin (cfgM m).N) (d) (B X : Vec F S1024x128 .f32) (hB : B = (dats m 0 c).before 5 t d)
    (hX : X = if (grid0.coords t 1).val = 0 then gatesOut m c t.val else B) :
    owns (c : Thread nD τ) (ms_5 m t) fullShare X ⊢ ((dats m 0 c).leavesExact 5 t : sProp 𝕄) := by
  by_cases h : t.val % 26 = 0
  · rw [if_pos ((col_coords t).trans h)] at hX
    rw [leaves_5_first m c t h, hX]
  · rw [if_neg (fun e => h ((col_coords t).symm.trans e))] at hX
    rw [hX, hB]
    exact leaves_5_rest m c t h d

theorem Phi_castSucc (c : Dev nD) (t : Fin (cfgM m).N) : (dats m 0 c).Φ t.castSucc = Phi m c t.val := by
  dsimp only [dats]; simp only [Fin.val_castSucc]
theorem Phi_succ (c : Dev nD) (t : Fin (cfgM m).N) : (dats m 0 c).Φ t.succ = Phi m c (t.val + 1) := by
  dsimp only [dats]; simp only [Fin.val_succ]

variable (hw : ∀ (c : Dev nD) (n : ℕ), (word c (V m c main_v6) n).toNat < 5120)

include hw in
set_option maxHeartbeats 800000 in
theorem sound_body (c : Dev nD) (t : Fin (cfgM m).N) :
    bodyPre m c t ⊢ wp frame (wpE (defs₀ (F := F)) Variants.none c none) Set.univ (bodyAt m t) (fun _ => bodyPost m c t) := by
  have ht := lt_208 m t
  have es : step (grid0.coords t) = t.val := step_coords t
  have ec := col_coords t
  unfold bodyPre bodyPost bodyAt
  simp only [before_0, before_1, before_2, before_3]
  rw [Phi_castSucc, Phi_succ, leaves_0, leaves_1, leaves_2, leaves_3, leaves_4, leaves_6, iblk_0, iblk_1, iblk_2, iblk_3]
  unfold Dat.owesAt Pipeline.owesWithin
  rw [show (dats m 0 c).owed t.castSucc = 0 from rfl, show (dats m 0 c).owed t.succ = 0 from rfl]
  unfold Phi
  iintro ⟨⟨HR, HM, HT, HX⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (body c (grid0.coords t) _ _ _ _ _ _ _ _ _ _ _ _ _ _ fullShare.right (V m c main_v6) (V m c main_v4) (hw c)
    (xAt m c (t.val / 26)) (V m c main_v5) (wAt m c (t.val % 26)) (V m c main_arg3) ((dats m 0 c).before 5 t d5) W _)
  rw [← ringAt_before c (grid0.coords t) _ _ (by omega), es]
  isplitl [HR]; · iexact HR
  isplitl [HT]; · iexact HT
  isplitl [HM]
  · unfold rowsAt
    rw [ec]
    iexact HM
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [HW]; · iexact HW
  iintro ⟨HB, HN, HT, HM, H0, H1, H2, H3, H4, H5, H6, ⟨%W', HW⟩⟩
  isplitl [HB HN HT HM HX]
  · isplitl [HB HN]
    · rw [← es]
      iapply (ringAt_after c (grid0.coords t) (V m c main_v6) (V m c main_v4) (by omega))
      isplitl [HB]; · iexact HB
      iexact HN
    isplitl [HM]
    · unfold rowsAt
      iexists (hblk (xAt m c (t.val / 26)) (V m c main_v5))
      isplitr
      · ipureintro
        intro h
        rw [show (t.val + 1) / 26 = t.val / 26 by omega]
      iexact HM
    isplitl [HT]; · iexact HT
    iexact HX
  isplitl [HW]
  · iexists W'
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]
  · iapply (leaves_5 m c t d5 _ _ rfl rfl)
    iexact H5
  iexact H6

theorem defs₀_row (t : Fin (cfgM m).N) :
    defs₀ (F := F) .tc (cfgM m).body ((cfgM m).bodyArgs t ((cfgM m).slots t)) = bodyAt m t := by
  unfold defs₀; rw [Defs.onTc_tc]

include hw in
theorem body_obligation (c : Dev nD) : BodyObligation (dats (F := F) m 0 c) (defs₀ (F := F)) Variants.none () Set.univ := fun t => by
  rw [bigSep_W0, bigSep_W0, defs₀_row]
  exact triple_restated (sound_body m hw c t) rfl .rfl fun _ => .rfl

set_option backward.isDefEq.respectTransparency.types false in
include hw in
/-- The launch: every execution ends, the arrays as the proof data say, every semaphore counter at zero. -/
theorem run_quiescent : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m hw c).loose) (hshare := fun c => (dats m 0 c).share_full fun _ => rfl)
    (howed := fun _ _ => rfl) (V := V m) (hmain := hmain m Variants.none) (hA := A_eq m) (hpf := V_pre m)
    (hin := hin m) (hout := hout m)

end Cert.Kernel2Ideal.Proj
-- ==== Proof.ProjRows.lean ====
/- The arrays the region finds, and the normalised rows over the extended reals. -/
module

public import proofs.«01_k».proof.Proof.ProjRun
public import proofs.«01_k».proof.Proof.Gen.Reference2Ideal
public import Idealize.ShloMosaic.Lib.Pipeline.ValueKit
public import Idealize.ShloMosaic.Lib.Pointwise

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Entry
variable {F : FTy → Type} [FloatOps F]
variable (m : (ℓ : Loc nD τ sig) → Buf (Elt F) ℓ)

theorem V_x (c : Dev nD) : V m c main_v2 = shapeCast S8192x2048 (m ((c : Thread nD τ).loc main_arg0)) shapeCasts_S4x2048x2048_S8192x2048 := by
  entry_read
  rfl
theorem V_g (c : Dev nD) : V m c main_v5 = shapeCast S1x2048 (shapeCast S2048 (m ((c : Thread nD τ).loc main_arg1)) shapeCasts_S1x2048_S2048) shapeCasts_S2048_S1x2048 := by
  entry_read
  rfl
theorem V_cache (c : Dev nD) : V m c main_v4 = shapeCast S5120x128x8x128 (m ((c : Thread nD τ).loc main_arg5)) shapeCasts_S1x5120x128x8x128_S5120x128x8x128 := by
  entry_read
  rfl
theorem V_tbl (c : Dev nD) : V m c main_v6 = pad S1872 ![0] ![80] ![0] (extractStridedSlice S1792 ![0] (shapeCast S4096 (m ((c : Thread nD τ).loc main_arg4)) shapeCasts_S32x128_S4096) slices_S4096_S1792_0) (constantI S_ 32 0#32) pads_S1792_S1872_0800 h_S_ := by
  entry_read
  rfl
end Entry

open Cert.Reference2Ideal.Gen in
/-- The reference's normalised rows. -/
abbrev refH (X : FVec Ideal Cert.Reference2Ideal.S8192x2048 .f32) (G : FVec Ideal Cert.Reference2Ideal.S2048 .f32) : FVec Ideal Cert.Reference2Ideal.S8192x2048 .bf16 :=
  truncf .bf16 (mulf (mulf X (broadcastInDim Cert.Reference2Ideal.S8192x2048 ![0, 1] Cert.Reference2Ideal.Gen.bcast_S8192x1_S8192x2048_0_1 (Host.rsqrt (addf (Host.divf (broadcastInDim Cert.Reference2Ideal.S8192x1 ![0] Cert.Reference2Ideal.Gen.bcast_S8192_S8192x1_0 (Host.reduceAdd (mulf X X) (constant Cert.Reference2Ideal.S_ .f32 0x00000000#32) Cert.Reference2Ideal.Gen.reducesTo_S8192x2048_S8192_d1 Cert.Reference2Ideal.Gen.h_S_)) (broadcastInDim Cert.Reference2Ideal.S8192x1 ![] Cert.Reference2Ideal.Gen.bcast_S_S8192x1 (constant Cert.Reference2Ideal.S_ .f32 0x45000000#32))) (broadcastInDim Cert.Reference2Ideal.S8192x1 ![] Cert.Reference2Ideal.Gen.bcast_S_S8192x1 (constant Cert.Reference2Ideal.S_ .f32 0x358637BD#32)))))) (broadcastInDim Cert.Reference2Ideal.S8192x2048 ![0, 1] Cert.Reference2Ideal.Gen.bcast_S1x2048_S8192x2048_0_1 (broadcastInDim Cert.Reference2Ideal.S1x2048 ![1] Cert.Reference2Ideal.Gen.bcast_S2048_S1x2048_1 G))) Cert.Reference2Ideal.Gen.bitsLt_bf16_f32

theorem ref_row (X : FVec Ideal Cert.Reference2Ideal.S8192x2048 .f32) (G : FVec Ideal Cert.Reference2Ideal.S2048 .f32) (r : Fin 8192) (k : Fin 2048) :
    refH X G (ix2 r k) = X (ix2 r k) * Ideal.rsqrt (Ideal.div (∑ x : Fin 2048, X (ix2 r x) * X (ix2 r x)) (Ideal.ofBits FTy.f32 1157627904#32) + Ideal.ofBits FTy.f32 897988541#32) * G (ix1 k) := by
  pointwise [refH]

/-- A row of the kernel's normalised block. -/
theorem pay_row (x : FVec Ideal S128x2048 .f32) (G : FVec Ideal S2048 .f32) (r : Fin 128) (k : Fin 2048) :
    k0_pay2 (F := Ideal) x (shapeCast (α := Ideal .f32) S1x2048 G shapeCasts_S2048_S1x2048) (ix2 r k)
      = x (ix2 r k) * Ideal.rsqrt (Ideal.div (∑ j : Fin 2048, x (ix2 r j) * x (ix2 r j)) (Ideal.ofBits FTy.f32 1157627904#32) + Ideal.ofBits FTy.f32 897988541#32) * G (ix1 k) := by
  pointwise [k0_pay2]

theorem rows128_el (x : Vec Ideal S1024x2048 .f32) (r : Fin 1024) (k : Fin 2048) :
    rows128 x ⟨r.val / 128, by omega⟩ (ix2 ⟨r.val % 128, Nat.mod_lt _ (by decide)⟩ k) = x (ix2 r k) := by
  unfold rows128
  refine congrArg x (funext fun a => Fin.ext ?_)
  match a with
  | ⟨0, _⟩ => exact Nat.div_add_mod r.val 128
  | ⟨1, _⟩ => rfl

theorem h_row (x : Vec Ideal S1024x2048 .f32) (G : FVec Ideal S2048 .f32) (r : Fin 1024) (k : Fin 2048) :
    hblk (F := Ideal) x (shapeCast (α := Ideal .f32) S1x2048 G shapeCasts_S2048_S1x2048) (ix2 r k)
      = x (ix2 r k) * Ideal.rsqrt (Ideal.div (∑ j : Fin 2048, x (ix2 r j) * x (ix2 r j)) (Ideal.ofBits FTy.f32 1157627904#32) + Ideal.ofBits FTy.f32 897988541#32) * G (ix1 k) := by
  have e := pay_row (rows128 x ⟨r.val / 128, by omega⟩) G ⟨r.val % 128, Nat.mod_lt _ (by decide)⟩ k
  simp only [rows128_el] at e
  rw [← e]
  unfold hblk
  refine congrArg (k0_pay2 (F := Ideal) _ _) (funext fun a => ?_)
  match a with
  | ⟨0, _⟩ => rfl
  | ⟨1, _⟩ => rfl

theorem p_el (h : Vec Ideal S1024x2048 .bf16) (w : Vec Ideal S512x2048 .bf16) (r : Fin 1024) (k : Fin 512) :
    k0_pay4 (F := Ideal) h w (ix2 r k) = ∑ j : Fin 2048, h (ix2 r j) * w (ix2 k j) := by
  pointwise [k0_pay4]

theorem g_el (h : Vec Ideal S1024x2048 .bf16) (w : Vec Ideal S128x2048 .bf16) (r : Fin 1024) (k : Fin 128) :
    k0_pay3 (F := Ideal) h w (ix2 r k) = ∑ j : Fin 2048, h (ix2 r j) * w (ix2 k j) := by
  pointwise [k0_pay3]

/-- Sixteen numbers added by halves. -/
theorem tree16 {M : Type} [AddCommMonoid M] (R : ℕ → M) :
    ((((R 0 + R 8) + (R 4 + R 12)) + ((R 2 + R 10) + (R 6 + R 14))) + (((R 1 + R 9) + (R 5 + R 13)) + ((R 3 + R 11) + (R 7 + R 15)))) = ∑ a ∈ Finset.range 16, R a := by
  simp only [Finset.sum_range_succ, Finset.sum_range_zero, zero_add]
  ac_rfl

/-- A hundred and twenty-eight numbers: eight runs of sixteen added, then halves. -/
theorem tree128 {M : Type} [AddCommMonoid M] (f : ℕ → M) :
    (((((f (0 + 0) + f (16 + 0) + f (32 + 0) + f (48 + 0) + f (64 + 0) + f (80 + 0) + f (96 + 0) + f (112 + 0)) + (f (0 + 8) + f (16 + 8) + f (32 + 8) + f (48 + 8) + f (64 + 8) + f (80 + 8) + f (96 + 8) + f (112 + 8))) + ((f (0 + 4) + f (16 + 4) + f (32 + 4) + f (48 + 4) + f (64 + 4) + f (80 + 4) + f (96 + 4) + f (112 + 4)) + (f (0 + 12) + f (16 + 12) + f (32 + 12) + f (48 + 12) + f (64 + 12) + f (80 + 12) + f (96 + 12) + f (112 + 12)))) + (((f (0 + 2) + f (16 + 2) + f (32 + 2) + f (48 + 2) + f (64 + 2) + f (80 + 2) + f (96 + 2) + f (112 + 2)) + (f (0 + 10) + f (16 + 10) + f (32 + 10) + f (48 + 10) + f (64 + 10) + f (80 + 10) + f (96 + 10) + f (112 + 10))) + ((f (0 + 6) + f (16 + 6) + f (32 + 6) + f (48 + 6) + f (64 + 6) + f (80 + 6) + f (96 + 6) + f (112 + 6)) + (f (0 + 14) + f (16 + 14) + f (32 + 14) + f (48 + 14) + f (64 + 14) + f (80 + 14) + f (96 + 14) + f (112 + 14))))) + ((((f (0 + 1) + f (16 + 1) + f (32 + 1) + f (48 + 1) + f (64 + 1) + f (80 + 1) + f (96 + 1) + f (112 + 1)) + (f (0 + 9) + f (16 + 9) + f (32 + 9) + f (48 + 9) + f (64 + 9) + f (80 + 9) + f (96 + 9) + f (112 + 9))) + ((f (0 + 5) + f (16 + 5) + f (32 + 5) + f (48 + 5) + f (64 + 5) + f (80 + 5) + f (96 + 5) + f (112 + 5)) + (f (0 + 13) + f (16 + 13) + f (32 + 13) + f (48 + 13) + f (64 + 13) + f (80 + 13) + f (96 + 13) + f (112 + 13)))) + (((f (0 + 3) + f (16 + 3) + f (32 + 3) + f (48 + 3) + f (64 + 3) + f (80 + 3) + f (96 + 3) + f (112 + 3)) + (f (0 + 11) + f (16 + 11) + f (32 + 11) + f (48 + 11) + f (64 + 11) + f (80 + 11) + f (96 + 11) + f (112 + 11))) + ((f (0 + 7) + f (16 + 7) + f (32 + 7) + f (48 + 7) + f (64 + 7) + f (80 + 7) + f (96 + 7) + f (112 + 7)) + (f (0 + 15) + f (16 + 15) + f (32 + 15) + f (48 + 15) + f (64 + 15) + f (80 + 15) + f (96 + 15) + f (112 + 15))))))
      = ∑ n ∈ Finset.range 128, f n := by
  refine (tree16 fun a => (f (0 + a) + f (16 + a) + f (32 + a) + f (48 + a) + f (64 + a) + f (80 + a) + f (96 + a) + f (112 + a))).trans ?_
  simp only [Finset.sum_add_distrib]
  rw [show (128 : ℕ) = 16 + 16 + 16 + 16 + 16 + 16 + 16 + 16 from rfl]
  simp only [Finset.sum_range_add, zero_add]

/-- A page's element by its token's number. -/
def tokAt (P : Vec Ideal S128x8x128 .f32) (u : Fin 8) (k : Fin 128) (n : ℕ) : EReal := if h : n < 128 then P (ix3 ⟨n, h⟩ u k) else 0

theorem chunk_el (P : Vec Ideal S128x8x128 .f32) (o : ℕ) (h : ∀ a, (![o, 0, 0] : Fin 3 → ℕ) a + S16x8x128.size a ≤ S128x8x128.size a) (a : Fin 16) (u : Fin 8) (k : Fin 128) :
    chunk (F := Ideal) P ![o, 0, 0] h (ix3 a u k) = tokAt P u k (o + a.val) := by
  have ho : o + 16 ≤ 128 := h 0
  unfold chunk tokAt
  rw [dif_pos (by omega)]
  refine congrArg P (funext fun b => Fin.ext ?_)
  match b with
  | ⟨0, _⟩ => show o + 1 * a.val = o + a.val; omega
  | ⟨1, _⟩ => show 0 + 1 * u.val = u.val; omega
  | ⟨2, _⟩ => show 0 + 1 * k.val = k.val; omega

theorem sum_el (P : Vec Ideal S128x8x128 .f32) (r : Fin 1) (u : Fin 8) (k : Fin 128) :
    rowSum (F := Ideal) P (ix3 r u k) = ∑ t : Fin 128, P (ix3 t u k) := by
  unfold rowSum
  pointwise [k0_pay5, k0_pay6, k0_pay7]
  simp only [chunk_el]
  refine (tree128 (tokAt P u k)).trans ?_
  rw [Finset.sum_range]
  refine Finset.sum_congr rfl fun t _ => ?_
  unfold tokAt
  rw [dif_pos t.isLt]

end Cert.Kernel2Ideal.Proj
-- ==== Proof.ProjTable.lean ====
/- The page table as the region finds it: its words, their bound under the precondition, and a page gathered by the reference. -/
module

public import proofs.«01_k».proof.Proof.ProjRows
public import proofs.«01_k».proof.Proof.Gen.Pre_pages
public import Idealize.ShloMosaic.Lib.StableHlo.Predicate
public import Idealize.ShloMosaic.Lib.KernelVsHost

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL.Sem

section AnyF
variable {F : FTy → Type} [FloatOps F]
variable (m : (ℓ : Loc nD τ sig) → Buf (Elt F) ℓ)

/-- A word of the table by its index. -/
theorem word_val (c : Dev nD) (ft : Buf (Elt F) (tblM.view.loc (c : Thread nD τ))) (n : ℕ) :
    word c ft n = (ft : IVec S1872 32) (ix1 ⟨min n 1871, by omega⟩) := by
  unfold word
  refine congrArg ft (funext fun a => Fin.ext ?_)
  match a with
  | ⟨0, _⟩ => rfl

/-- The table's entries from the argument's. -/
theorem tbl_small (A : IVec S32x128 32) (hA : ∀ x, (A x).toNat < 5120) (n : Fin 1872) :
    (pad S1872 ![0] ![80] ![0] (extractStridedSlice S1792 ![0] (shapeCast S4096 A shapeCasts_S32x128_S4096) slices_S4096_S1792_0) (constantI S_ 32 0#32) pads_S1792_S1872_0800 h_S_ (ix1 n)).toNat < 5120 := by
  unfold pad
  split
  · exact hA _
  · show (0#32 : BitVec 32).toNat < 5120
    decide

/-- What the precondition says of an entry of the argument. -/
theorem entry_small {A0 : FVec F Cert.Pre_pages.S4x2048x2048 .f32} {A1 : FVec F Cert.Pre_pages.S1x2048 .f32} {A2 : FVec F Cert.Pre_pages.S13312x2048 .bf16} {A3 : FVec F Cert.Pre_pages.S128x2048 .bf16} {A4 : IVec Cert.Pre_pages.S32x128 32} {A5 : FVec F Cert.Pre_pages.S1x5120x128x8x128 .f32}
    (h : Cert.Pre_pages.fn A0 A1 A2 A3 A4 A5 = fun _ => 1#1) (x : Cert.Pre_pages.S32x128.Idx) : (A4 x).toNat < 5120 := by
  have e := congrFun h x
  simp only [Cert.Pre_pages.fn, andi, cmpi, constantI, broadcastInDim] at e
  generalize A4 x = v at e ⊢
  have h2 : ∀ a b : BitVec 1, IntOp.andi a b = 1#1 → a = 1#1 ∧ b = 1#1 := by decide
  obtain ⟨e1, e2⟩ := h2 _ _ e
  have hb : ∀ b : Bool, BitVec.ofBool b = 1#1 → b = true := by decide
  have f1 : (0 : ℤ) ≤ v.toInt := by
    have := of_decide_eq_true (hb _ e1)
    simpa using this
  have f2 : v.toInt < 5120 := by
    have := of_decide_eq_true (hb _ e2)
    simpa using this
  have ht := BitVec.toInt_eq_toNat_cond v
  split at ht <;> omega

/-- The words the kernel reads are page numbers. -/
theorem words_small (hA : ∀ (c : Dev nD) x, ((m ((c : Thread nD τ).loc main_arg4) : IVec S32x128 32) x).toNat < 5120) (c : Dev nD) (n : ℕ) :
    (word c (V m c main_v6) n).toNat < 5120 := by
  rw [word_val, V_tbl]
  exact tbl_small _ (hA c) _

/-- A page's element in the cache. -/
theorem page_el (c : Dev nD) (w : BitVec 32) (fc : Buf (Elt F) ((c : Thread nD τ).loc main_v4)) (t : Fin 128) (u : Fin 8) (k : Fin 128) :
    pageVec c w fc (ix3 t u k) = (fc : FVec F S5120x128x8x128 .f32) (ix4 ⟨pageNo w, by unfold pageNo; omega⟩ t u k) := by
  have e : pageVec c w fc = shapeCast S128x8x128 (fun z : S1x128x8x128.Idx => (fc : FVec F S5120x128x8x128 .f32)
      ((Rect.unit (s := S5120x128x8x128) ![pageNo w, 0, 0, 0] S1x128x8x128.size (page_inb w)).emb z)) (by decide) := rfl
  rw [e]
  pointwise
  refine congrArg fc (funext fun a => Fin.ext ?_)
  match a with
  | ⟨0, _⟩ => show pageNo w + 1 * 0 = pageNo w; omega
  | ⟨1, _⟩ => show 0 + 1 * t.val = t.val; omega
  | ⟨2, _⟩ => show 0 + 1 * u.val = u.val; omega
  | ⟨3, _⟩ => show 0 + 1 * k.val = k.val; omega
end AnyF

/-- The reference's choice of pages. -/
abbrev takePages := Cert.Reference2Ideal.gather_S5120x128x8x128_S1872x1_S1872x128x8x128_123_0_n_n_0_1_11288128

theorem take_0 (I : IVec Cert.Reference2Ideal.S1872x1 32) (r : Fin 1872) (t : Fin 128) (u : Fin 8) (k : Fin 128)
    (hb : (I (ix2 r (0 : Fin 1))).toNat < 5120) :
    takePages.start (ix4 r t u k) I (0 : Fin 4) + takePages.batchCoord (ix4 r t u k) (0 : Fin 4) + takePages.offCoord (ix4 r t u k) (0 : Fin 4) = (I (ix2 r (0 : Fin 1))).toNat := by
  rw [takePages.batchCoord_eq_zero _ _ List.not_mem_nil,
    takePages.offCoord_eq_zero _ _ (fun h => ((GatherDims.mem_sKept _ _).mp h).1 (List.mem_singleton.mpr rfl))]
  simp only [Nat.add_zero]
  unfold GatherDims.start
  rw [dif_pos (show (0 : Fin 4) ∈ takePages.startIndexMap from List.mem_singleton.mpr rfl)]
  have hsi : takePages.siIdx (ix4 r t u k)
      ⟨List.idxOf (0 : Fin 4) takePages.startIndexMap, List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  have hi : (I (ix2 r (0 : Fin 1))).toInt = ((I (ix2 r (0 : Fin 1))).toNat : ℤ) := BitVec.toInt_eq_toNat_of_lt (by omega)
  show min (I (ix2 r (0 : Fin 1))).toInt.toNat 5119 = (I (ix2 r (0 : Fin 1))).toNat
  rw [hi]
  omega

theorem take_1 (I : IVec Cert.Reference2Ideal.S1872x1 32) (r : Fin 1872) (t : Fin 128) (u : Fin 8) (k : Fin 128) :
    takePages.start (ix4 r t u k) I (1 : Fin 4) + takePages.batchCoord (ix4 r t u k) (1 : Fin 4) + takePages.offCoord (ix4 r t u k) (1 : Fin 4) = t.val := by
  have e0 : takePages.start (ix4 r t u k) I (1 : Fin 4) = 0 := by
    unfold GatherDims.start
    rw [dif_neg (show (1 : Fin 4) ∉ takePages.startIndexMap by decide)]
  rw [takePages.batchCoord_eq_zero _ _ List.not_mem_nil, e0]
  have e1 : takePages.offCoord (ix4 r t u k) (1 : Fin 4) = t.val := by
    unfold GatherDims.offCoord
    rw [dif_pos (show (1 : Fin 4) ∈ takePages.sKept by decide)]
    rfl
  rw [e1]; omega

theorem take_2 (I : IVec Cert.Reference2Ideal.S1872x1 32) (r : Fin 1872) (t : Fin 128) (u : Fin 8) (k : Fin 128) :
    takePages.start (ix4 r t u k) I (2 : Fin 4) + takePages.batchCoord (ix4 r t u k) (2 : Fin 4) + takePages.offCoord (ix4 r t u k) (2 : Fin 4) = u.val := by
  have e0 : takePages.start (ix4 r t u k) I (2 : Fin 4) = 0 := by
    unfold GatherDims.start
    rw [dif_neg (show (2 : Fin 4) ∉ takePages.startIndexMap by decide)]
  rw [takePages.batchCoord_eq_zero _ _ List.not_mem_nil, e0]
  have e1 : takePages.offCoord (ix4 r t u k) (2 : Fin 4) = u.val := by
    unfold GatherDims.offCoord
    rw [dif_pos (show (2 : Fin 4) ∈ takePages.sKept by decide)]
    rfl
  rw [e1]; omega

theorem take_3 (I : IVec Cert.Reference2Ideal.S1872x1 32) (r : Fin 1872) (t : Fin 128) (u : Fin 8) (k : Fin 128) :
    takePages.start (ix4 r t u k) I (3 : Fin 4) + takePages.batchCoord (ix4 r t u k) (3 : Fin 4) + takePages.offCoord (ix4 r t u k) (3 : Fin 4) = k.val := by
  have e0 : takePages.start (ix4 r t u k) I (3 : Fin 4) = 0 := by
    unfold GatherDims.start
    rw [dif_neg (show (3 : Fin 4) ∉ takePages.startIndexMap by decide)]
  rw [takePages.batchCoord_eq_zero _ _ List.not_mem_nil, e0]
  have e1 : takePages.offCoord (ix4 r t u k) (3 : Fin 4) = k.val := by
    unfold GatherDims.offCoord
    rw [dif_pos (show (3 : Fin 4) ∈ takePages.sKept by decide)]
    rfl
  rw [e1]; omega

/-- The reference's gather at an element: the page its table names. -/
theorem gather_page (C : FVec Ideal S5120x128x8x128 .f32) (I : IVec Cert.Reference2Ideal.S1872x1 32) (r : Fin 1872) (t : Fin 128) (u : Fin 8) (k : Fin 128)
    (hb : (I (ix2 r (0 : Fin 1))).toNat < 5120) :
    Host.gather takePages C I (ix4 r t u k) = C (ix4 ⟨(I (ix2 r (0 : Fin 1))).toNat, hb⟩ t u k) := by
  unfold Host.gather
  refine congrArg C (funext fun a => Fin.ext ?_)
  match a with
  | ⟨0, _⟩ => exact take_0 I r t u k hb
  | ⟨1, _⟩ => exact take_1 I r t u k
  | ⟨2, _⟩ => exact take_2 I r t u k
  | ⟨3, _⟩ => exact take_3 I r t u k

end Cert.Kernel2Ideal.Proj
-- ==== Proof.ProjFrame.lean ====
/- The streamed projection's frame: its arguments unchanged, every semaphore counter at zero. For any float values. -/
module

public import proofs.«01_k».proof.Proof.ProjTable
public import Idealize.ShloMosaic.Lib.Claim

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

theorem kept_2 (c : Dev nD) : (dats m 0 c).arrAt 2 (cfgM m).N = m ((c : Thread nD τ).loc main_arg2) :=
  ((dats m 0 c).arrAt_in 2 rfl _).trans ((A_eq m c 2).trans (V_main_arg2 m c))
theorem kept_3 (c : Dev nD) : (dats m 0 c).arrAt 3 (cfgM m).N = m ((c : Thread nD τ).loc main_arg3) :=
  ((dats m 0 c).arrAt_in 3 rfl _).trans ((A_eq m c 3).trans (V_main_arg3 m c))

/-- What the launch leaves of the arguments. -/
theorem args_of (r : PUnit × MemSt nD τ sig (Elt F)) (h : Pipeline.FramePost (Pipeline.pin pcfgs fun _ => adm m) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (show ∀ w : Fin 7, (spec0 w).arr.view.ref ≠ main_arg0 by decide))).trans (V_main_arg0 m c),
     ((h c).2 main_arg1 (Pipeline.mem_restRefs_of main_arg1 (by decide) (show ∀ w : Fin 7, (spec0 w).arr.view.ref ≠ main_arg1 by decide))).trans (V_main_arg1 m c),
     ((h c).1 2).trans (kept_2 m c),
     ((h c).1 3).trans (kept_3 m c),
     ((h c).2 main_arg4 (Pipeline.mem_restRefs_of main_arg4 (by decide) (show ∀ w : Fin 7, (spec0 w).arr.view.ref ≠ main_arg4 by decide))).trans (V_main_arg4 m c),
     ((h c).2 main_arg5 (Pipeline.mem_restRefs_of main_arg5 (by decide) (show ∀ w : Fin 7, (spec0 w).arr.view.ref ≠ main_arg5 by decide))).trans (V_main_arg5 m c)⟩

theorem frame_of (hw : ∀ (c : Dev nD) (n : ℕ), (word c (V m c main_v6) n).toNat < 5120) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_of m r h.1 c, h.2⟩) (run_quiescent m ρ hw)

end Cert.Kernel2Ideal.Proj
-- ==== Proof.ProjValue.lean ====
/- The three arrays the streamed projection returns, as its reference states them, over the extended reals. -/
module

public import proofs.«01_k».proof.Proof.ProjFrame

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL.Sem

section AnyF
variable {F : FTy → Type} [FloatOps F]
variable (m : (ℓ : Loc nD τ sig) → Buf (Elt F) ℓ)

theorem emb_4 (t : Fin (cfgM m).N) (y : S1024x512.Idx) :
    ((((cfgM m).win 4).blk t).view.emb y : S8192x13312.Idx) = ix2 ⟨1024 * (t.val / 26) + (y 0).val, by have := lt_208 m t; have : (y 0).val < 1024 := (y 0).isLt; omega⟩ ⟨512 * (t.val % 26) + (y 1).val, by have : (y 1).val < 512 := (y 1).isLt; omega⟩ := by
  have e := index_4 t
  funext a
  apply Fin.ext
  match a with
  | ⟨0, _⟩ =>
    refine (Pipeline.Window.rect_emb_val_off ((cfgM m).win 4) t _ _).trans ?_
    show cc0_transform_5 (grid0.coords t) 0 * 1024 + (y 0).val = 1024 * (t.val / 26) + (y 0).val
    rw [e]; show t.val / 26 * 1024 + _ = _; omega
  | ⟨1, _⟩ =>
    refine (Pipeline.Window.rect_emb_val_off ((cfgM m).win 4) t _ _).trans ?_
    show cc0_transform_5 (grid0.coords t) 1 * 512 + (y 1).val = 512 * (t.val % 26) + (y 1).val
    rw [e]; show t.val % 26 * 512 + _ = _; omega

theorem emb_5 (t : Fin (cfgM m).N) (y : S1024x128.Idx) :
    ((((cfgM m).win 5).blk t).view.emb y : S8192x128.Idx) = ix2 ⟨1024 * (t.val / 26) + (y 0).val, by have := lt_208 m t; have : (y 0).val < 1024 := (y 0).isLt; omega⟩ (y 1) := by
  have e := index_5 t
  funext a
  apply Fin.ext
  match a with
  | ⟨0, _⟩ =>
    refine (Pipeline.Window.rect_emb_val_off ((cfgM m).win 5) t _ _).trans ?_
    show cc0_transform_6 (grid0.coords t) 0 * 1024 + (y 0).val = 1024 * (t.val / 26) + (y 0).val
    rw [e]; show t.val / 26 * 1024 + _ = _; omega
  | ⟨1, _⟩ =>
    refine (Pipeline.Window.rect_emb_val_off ((cfgM m).win 5) t _ _).trans ?_
    show cc0_transform_6 (grid0.coords t) 1 * 128 + (y 1).val = (y 1).val
    rw [e]; show 0 * 128 + _ = _; omega

theorem emb_6 (t : Fin (cfgM m).N) (y : S9x8x128.Idx) :
    ((((cfgM m).win 6).blk t).view.emb y : S1872x8x128.Idx) = ix3 ⟨9 * t.val + (y 0).val, by have := lt_208 m t; have : (y 0).val < 9 := (y 0).isLt; omega⟩ (y 1) (y 2) := by
  have e := index_6 t
  funext a
  apply Fin.ext
  match a with
  | ⟨0, _⟩ =>
    refine (Pipeline.Window.rect_emb_val_off ((cfgM m).win 6) t _ _).trans ?_
    show cc0_transform_7 (grid0.coords t) 0 * 9 + (y 0).val = 9 * t.val + (y 0).val
    rw [e]; show t.val * 9 + _ = _; omega
  | ⟨1, _⟩ =>
    refine (Pipeline.Window.rect_emb_val_off ((cfgM m).win 6) t _ _).trans ?_
    show cc0_transform_7 (grid0.coords t) 1 * 8 + (y 1).val = (y 1).val
    rw [e]; show 0 * 8 + _ = _; omega
  | ⟨2, _⟩ =>
    refine (Pipeline.Window.rect_emb_val_off ((cfgM m).win 6) t _ _).trans ?_
    show cc0_transform_7 (grid0.coords t) 2 * 128 + (y 2).val = (y 2).val
    rw [e]; show 0 * 128 + _ = _; omega

/-- The element a view places an index at is one of its elements. -/
theorem mem_of_emb {κ : Kind} {sp : Space} {S : Shape} {e : EltTy} (v : View sig κ sp S e) {i : v.ty.Idx} {x : S.Idx} (h : v.emb x = i) : i ∈ v.set :=
  h ▸ v.emb_mem_set x

theorem cover_4 (i : S8192x13312.Idx) : ∃ t : Fin (cfgM m).N, ((cfgM m).win 4).flush t = true ∧ i ∈ (((cfgM m).win 4).blk t).view.set := by
  have h0 : (i 0).val < 8192 := (i 0).isLt
  have h1 : (i 1).val < 13312 := (i 1).isLt
  have ht : 26 * ((i 0).val / 1024) + (i 1).val / 512 < grid0.N := by rw [show grid0.N = 208 from N_0]; omega
  refine ⟨⟨26 * ((i 0).val / 1024) + (i 1).val / 512, ht⟩, flush_4 _, ?_⟩
  have e := emb_4 m ⟨26 * ((i 0).val / 1024) + (i 1).val / 512, ht⟩ (ix2 ⟨(i 0).val % 1024, Nat.mod_lt _ (by decide)⟩ ⟨(i 1).val % 512, Nat.mod_lt _ (by decide)⟩)
  refine mem_of_emb _ (e.trans ?_)
  · funext a
    apply Fin.ext
    symm
    match a with
    | ⟨0, _⟩ => show (i 0).val = 1024 * ((26 * ((i 0).val / 1024) + (i 1).val / 512) / 26) + (i 0).val % 1024; omega
    | ⟨1, _⟩ => show (i 1).val = 512 * ((26 * ((i 0).val / 1024) + (i 1).val / 512) % 26) + (i 1).val % 512; omega

theorem cover_5 (i : S8192x128.Idx) : ∃ t : Fin (cfgM m).N, ((cfgM m).win 5).flush t = true ∧ i ∈ (((cfgM m).win 5).blk t).view.set := by
  have h0 : (i 0).val < 8192 := (i 0).isLt
  have ht : 26 * ((i 0).val / 1024) + 25 < grid0.N := by rw [show grid0.N = 208 from N_0]; omega
  refine ⟨⟨26 * ((i 0).val / 1024) + 25, ht⟩, (flush_5 _).mpr (show (26 * ((i 0).val / 1024) + 25) % 26 = 25 by omega), ?_⟩
  have e := emb_5 m ⟨26 * ((i 0).val / 1024) + 25, ht⟩ (ix2 ⟨(i 0).val % 1024, Nat.mod_lt _ (by decide)⟩ (i 1))
  refine mem_of_emb _ (e.trans ?_)
  · funext a
    apply Fin.ext
    symm
    match a with
    | ⟨0, _⟩ => show (i 0).val = 1024 * ((26 * ((i 0).val / 1024) + 25) / 26) + (i 0).val % 1024; omega
    | ⟨1, _⟩ => rfl

theorem cover_6 (i : S1872x8x128.Idx) : ∃ t : Fin (cfgM m).N, ((cfgM m).win 6).flush t = true ∧ i ∈ (((cfgM m).win 6).blk t).view.set := by
  have h0 : (i 0).val < 1872 := (i 0).isLt
  have ht : (i 0).val / 9 < grid0.N := by rw [show grid0.N = 208 from N_0]; omega
  refine ⟨⟨(i 0).val / 9, ht⟩, flush_6 _, ?_⟩
  have e := emb_6 m ⟨(i 0).val / 9, ht⟩ (ix3 ⟨(i 0).val % 9, Nat.mod_lt _ (by decide)⟩ (i 1) (i 2))
  refine mem_of_emb _ (e.trans ?_)
  · funext a
    apply Fin.ext
    symm
    match a with
    | ⟨0, _⟩ => show (i 0).val = 9 * ((i 0).val / 9) + (i 0).val % 9; omega
    | ⟨1, _⟩ => rfl
    | ⟨2, _⟩ => rfl

end AnyF

variable (m : (ℓ : Loc nD τ sig) → Buf (Elt Ideal) ℓ)

theorem arr_4 (c : Dev nD) (G : FVec Ideal S8192x13312 .bf16)
    (hG : ∀ (b : Fin 8) (q : Fin 26) (r : Fin 1024) (k : Fin 512), pOut m c (26 * b.val + q.val) (ix2 r k)
      = G (ix2 ⟨1024 * b.val + r.val, by omega⟩ ⟨512 * q.val + k.val, by omega⟩)) :
    (dats m 0 c).arrAt 4 (cfgM m).N = G := by
  have key : ∀ (t : Fin (cfgM m).N) (y : S1024x512.Idx), pOut m c t.val y = G ((((cfgM m).win 4).blk t).view.emb y : S8192x13312.Idx) := fun t y => by
    have h := lt_208 m t
    refine Eq.trans ?_ (congrArg G (emb_4 m t y).symm)
    have e := hG ⟨t.val / 26, by omega⟩ ⟨t.val % 26, by omega⟩ (y 0) (y 1)
    rw [show 26 * (t.val / 26) + t.val % 26 = t.val by omega] at e
    exact (congrArg (pOut m c t.val) (eq_ix2 y)).trans e
  refine (dats m 0 c).arrAt_eq_of_emb 4 G (fun t hf y => ?_) (cover_4 m)
  blk_simp
  rw [after_4]
  exact key t y

theorem arr_5 (c : Dev nD) (G : FVec Ideal S8192x128 .f32)
    (hG : ∀ (b : Fin 8) (n : ℕ), n / 26 = b.val → ∀ (r : Fin 1024) (k : Fin 128), gatesOut m c n (ix2 r k) = G (ix2 ⟨1024 * b.val + r.val, by omega⟩ k)) :
    (dats m 0 c).arrAt 5 (cfgM m).N = G := by
  have key : ∀ (t : Fin (cfgM m).N) (y : S1024x128.Idx), gatesOut m c t.val y = G ((((cfgM m).win 5).blk t).view.emb y : S8192x128.Idx) := fun t y => by
    have h := lt_208 m t
    refine Eq.trans ?_ (congrArg G (emb_5 m t y).symm)
    have e := hG ⟨t.val / 26, by omega⟩ t.val rfl (y 0) (y 1)
    exact (congrArg (gatesOut m c t.val) (eq_ix2 y)).trans e
  refine (dats m 0 c).arrAt_eq_of_emb 5 G (fun t hf y => ?_) (cover_5 m)
  blk_simp
  rw [after_5]
  exact key t y

theorem arr_6 (c : Dev nD) (G : FVec Ideal S1872x8x128 .f32)
    (hG : ∀ (n : Fin 208) (r : Fin 9) (u : Fin 8) (k : Fin 128), sumsOut m c n.val (ix3 r u k) = G (ix3 ⟨9 * n.val + r.val, by omega⟩ u k)) :
    (dats m 0 c).arrAt 6 (cfgM m).N = G := by
  have key : ∀ (t : Fin (cfgM m).N) (y : S9x8x128.Idx), sumsOut m c t.val y = G ((((cfgM m).win 6).blk t).view.emb y : S1872x8x128.Idx) := fun t y => by
    have h := lt_208 m t
    refine Eq.trans ?_ (congrArg G (emb_6 m t y).symm)
    have e := hG ⟨t.val, h⟩ (y 0) (y 1) (y 2)
    exact (congrArg (sumsOut m c t.val) (eq_ix3 y)).trans e
  refine (dats m 0 c).arrAt_eq_of_emb 6 G (fun t hf y => ?_) (cover_6 m)
  blk_simp
  rw [after_6]
  exact key t y

end Cert.Kernel2Ideal.Proj
-- ==== Proof.ProjTie.lean ====
/- The streamed projection's three results are its reference's, over the extended reals: the same normalised rows, the same
   products summed in any order, the same pages summed. -/
module

public import proofs.«01_k».proof.Proof.ProjValue

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL.Sem

variable (m : (ℓ : Loc nD τ sig) → Buf (Elt Ideal) ℓ)

/-- The tokens, one row each. -/
abbrev tokens (c : Dev nD) : FVec Ideal Cert.Reference2Ideal.S8192x2048 .f32 :=
  shapeCast Cert.Reference2Ideal.S8192x2048 (m ((c : Thread nD τ).loc main_arg0)) Cert.Reference2Ideal.Gen.shapeCasts_S4x2048x2048_S8192x2048
/-- The norm's scale. -/
abbrev scale (c : Dev nD) : FVec Ideal Cert.Reference2Ideal.S2048 .f32 :=
  shapeCast Cert.Reference2Ideal.S2048 (m ((c : Thread nD τ).loc main_arg1)) Cert.Reference2Ideal.Gen.shapeCasts_S1x2048_S2048
/-- The pages the reference takes. -/
abbrev taken (A : IVec Cert.Reference2Ideal.S32x128 32) : IVec Cert.Reference2Ideal.S1872 32 :=
  pad Cert.Reference2Ideal.S1872 ![0] ![80] ![0] (extractStridedSlice Cert.Reference2Ideal.S1792 ![0] (shapeCast Cert.Reference2Ideal.S4096 A Cert.Reference2Ideal.Gen.shapeCasts_S32x128_S4096) Cert.Reference2Ideal.Gen.slices_S4096_S1792_0) (constantI Cert.Reference2Ideal.S_ 32 0#32) Cert.Reference2Ideal.Gen.pads_S1792_S1872_0800 Cert.Reference2Ideal.Gen.h_S_

/-- The projection, as the reference makes it. -/
abbrev refP (X : FVec Ideal Cert.Reference2Ideal.S8192x2048 .f32) (G : FVec Ideal Cert.Reference2Ideal.S2048 .f32) (W : FVec Ideal Cert.Reference2Ideal.S13312x2048 .bf16) : FVec Ideal Cert.Reference2Ideal.S8192x13312 .bf16 :=
  truncf .bf16 (Host.dotGeneral Cert.Reference2Ideal.dot_S8192x2048_S2048x13312_S8192x13312_1_0_0_1_n_n none (refH X G)
    (transpose Cert.Reference2Ideal.S2048x13312 [1, 0] W Cert.Reference2Ideal.Gen.transposes_S13312x2048_S2048x13312_1_0)) Cert.Reference2Ideal.Gen.bitsLt_bf16_f32
/-- The gates, as the reference makes them. -/
abbrev refGates (X : FVec Ideal Cert.Reference2Ideal.S8192x2048 .f32) (G : FVec Ideal Cert.Reference2Ideal.S2048 .f32) (W : FVec Ideal Cert.Reference2Ideal.S128x2048 .bf16) : FVec Ideal Cert.Reference2Ideal.S8192x128 .f32 :=
  Host.dotGeneral Cert.Reference2Ideal.dot_S8192x2048_S2048x128_S8192x128_1_0_0_1_n_n none (refH X G)
    (transpose Cert.Reference2Ideal.S2048x128 [1, 0] W Cert.Reference2Ideal.Gen.transposes_S128x2048_S2048x128_1_0)
/-- The page sums, as the reference makes them. -/
abbrev refSums (C : FVec Ideal Cert.Reference2Ideal.S5120x128x8x128 .f32) (T : IVec Cert.Reference2Ideal.S1872 32) : FVec Ideal Cert.Reference2Ideal.S1872x8x128 .f32 :=
  Host.reduceAdd (Host.gather takePages C (broadcastInDim Cert.Reference2Ideal.S1872x1 ![0] Cert.Reference2Ideal.Gen.bcast_S1872_S1872x1_0 T))
    (constant Cert.Reference2Ideal.S_ .f32 0x00000000#32) Cert.Reference2Ideal.Gen.reducesTo_S1872x128x8x128_S1872x8x128_d1 Cert.Reference2Ideal.Gen.h_S_

theorem refP_el (X : FVec Ideal Cert.Reference2Ideal.S8192x2048 .f32) (G : FVec Ideal Cert.Reference2Ideal.S2048 .f32) (W : FVec Ideal Cert.Reference2Ideal.S13312x2048 .bf16) (r : Fin 8192) (k : Fin 13312) :
    refP X G W (ix2 r k) = ∑ j : Fin 2048, refH X G (ix2 r j) * W (ix2 k j) := by
  unfold refP
  generalize refH X G = H
  pointwise

theorem refGates_el (X : FVec Ideal Cert.Reference2Ideal.S8192x2048 .f32) (G : FVec Ideal Cert.Reference2Ideal.S2048 .f32) (W : FVec Ideal Cert.Reference2Ideal.S128x2048 .bf16) (r : Fin 8192) (k : Fin 128) :
    refGates X G W (ix2 r k) = ∑ j : Fin 2048, refH X G (ix2 r j) * W (ix2 k j) := by
  unfold refGates
  generalize refH X G = H
  pointwise

theorem refSums_el (C : FVec Ideal Cert.Reference2Ideal.S5120x128x8x128 .f32) (T : IVec Cert.Reference2Ideal.S1872 32) (r : Fin 1872) (u : Fin 8) (k : Fin 128)
    (hb : (T (ix1 r)).toNat < 5120) : refSums C T (ix3 r u k) = ∑ t : Fin 128, C (ix4 ⟨(T (ix1 r)).toNat, hb⟩ t u k) := by
  unfold refSums
  have hg : ∀ t : Fin 128, Host.gather takePages C (broadcastInDim Cert.Reference2Ideal.S1872x1 ![0] Cert.Reference2Ideal.Gen.bcast_S1872_S1872x1_0 T) (ix4 r t u k)
      = C (ix4 ⟨(T (ix1 r)).toNat, hb⟩ t u k) := fun t => by
    have e : broadcastInDim Cert.Reference2Ideal.S1872x1 ![0] Cert.Reference2Ideal.Gen.bcast_S1872_S1872x1_0 T (ix2 r (0 : Fin 1)) = T (ix1 r) := by pointwise
    refine (gather_page C _ r t u k (by rw [e]; exact hb)).trans ?_
    congr 2
    exact Fin.ext (congrArg BitVec.toNat e)
  generalize Host.gather takePages C _ = Q at hg ⊢
  rw [← Finset.sum_congr rfl fun t _ => hg t]
  pointwise

/-- The kernel's normalised rows are the reference's. -/
theorem hAt_el (c : Dev nD) (b : Fin 8) (n : ℕ) (hn : n / 26 = b.val) (r : Fin 1024) (j : Fin 2048) :
    hAt m c n (ix2 r j) = refH (tokens m c) (scale m c) (ix2 ⟨1024 * b.val + r.val, by omega⟩ j) := by
  have hx : ∀ k : Fin 2048, xAt m c (n / 26) (ix2 r k) = tokens m c (ix2 ⟨1024 * b.val + r.val, by omega⟩ k) := fun k => by
    unfold xAt
    rw [V_x]
    refine congrArg (tokens m c) (funext fun a => Fin.ext ?_)
    match a with
    | ⟨0, _⟩ => show 1024 * min (n / 26) 7 + r.val = 1024 * b.val + r.val; omega
    | ⟨1, _⟩ => rfl
  unfold hAt
  rw [V_g, ref_row]
  refine (h_row (xAt m c (n / 26)) (scale m c) r j).trans ?_
  simp only [hx]

theorem value_4 (c : Dev nD) : (dats m 0 c).arrAt 4 (cfgM m).N = refP (tokens m c) (scale m c) (m ((c : Thread nD τ).loc main_arg2)) := by
  refine arr_4 m c _ fun b q r k => ?_
  unfold pOut
  rw [p_el, refP_el]
  refine Finset.sum_congr rfl fun j _ => ?_
  rw [hAt_el m c b _ (by omega)]
  congr 1
  unfold wAt
  rw [V_main_arg2]
  refine congrArg (m ((c : Thread nD τ).loc main_arg2)) (funext fun a => Fin.ext ?_)
  match a with
  | ⟨0, _⟩ => show 512 * min ((26 * b.val + q.val) % 26) 25 + k.val = 512 * q.val + k.val; omega
  | ⟨1, _⟩ => rfl

theorem value_5 (c : Dev nD) : (dats m 0 c).arrAt 5 (cfgM m).N = refGates (tokens m c) (scale m c) (m ((c : Thread nD τ).loc main_arg3)) := by
  refine arr_5 m c _ fun b n hn r k => ?_
  unfold gatesOut
  rw [g_el, refGates_el]
  refine Finset.sum_congr rfl fun j _ => ?_
  rw [hAt_el m c b _ hn, V_main_arg3]

theorem value_6 (hA : ∀ (c : Dev nD) x, ((m ((c : Thread nD τ).loc main_arg4) : IVec S32x128 32) x).toNat < 5120) (c : Dev nD) :
    (dats m 0 c).arrAt 6 (cfgM m).N = refSums (shapeCast Cert.Reference2Ideal.S5120x128x8x128 (m ((c : Thread nD τ).loc main_arg5)) Cert.Reference2Ideal.Gen.shapeCasts_S1x5120x128x8x128_S5120x128x8x128) (taken (m ((c : Thread nD τ).loc main_arg4))) := by
  refine arr_6 m c _ fun n r u k => ?_
  have hb : (taken (m ((c : Thread nD τ).loc main_arg4)) (ix1 ⟨9 * n.val + r.val, by omega⟩)).toNat < 5120 := tbl_small _ (hA c) _
  rw [refSums_el _ _ _ _ _ hb]
  have ew : words c (V m c main_v6) n.val r = taken (m ((c : Thread nD τ).loc main_arg4)) (ix1 ⟨9 * n.val + r.val, by omega⟩) := by
    have e0 : words c (V m c main_v6) n.val r = word c (V m c main_v6) (9 * n.val + r.val) := by
      fin_cases r <;> rfl
    rw [e0, word_val, V_tbl]
    refine congrArg (taken (m ((c : Thread nD τ).loc main_arg4))) ?_
    congr 1
    exact Fin.ext (show min (9 * n.val + r.val) 1871 = 9 * n.val + r.val by omega)
  have er : sumsOut m c n.val (ix3 r u k) = rowSum (pageVec c (words c (V m c main_v6) n.val r) (V m c main_v4)) (ix3 (0 : Fin 1) u k) := by
    unfold sumsOut sumsBlk rows9
    refine congrArg (rowSum (pageVec c (words c (V m c main_v6) n.val r) (V m c main_v4))) (funext fun a => ?_)
    match a with
    | ⟨0, _⟩ => rfl
    | ⟨1, _⟩ => rfl
    | ⟨2, _⟩ => rfl
  rw [er, sum_el]
  refine Finset.sum_congr rfl fun t _ => ?_
  rw [page_el, V_cache]
  refine congrArg (shapeCast Cert.Reference2Ideal.S5120x128x8x128 (m ((c : Thread nD τ).loc main_arg5)) Cert.Reference2Ideal.Gen.shapeCasts_S1x5120x128x8x128_S5120x128x8x128) ?_
  congr 1
  refine Fin.ext ?_
  show pageNo (words c (V m c main_v6) n.val r) = _
  rw [ew]
  exact Nat.min_eq_left (by omega)

end Cert.Kernel2Ideal.Proj
-- ==== Proof.ProjMain.lean ====
/- The streamed projection's whole run over the extended reals: its three results as its reference's terms of the arguments,
   the arguments unchanged. -/
module

public import proofs.«01_k».proof.Proof.ProjTie
public import Idealize.ShloMosaic.Lib.Claim

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem run (hA : ∀ (c : Dev nD) x, ((m ((c : Thread nD τ).loc main_arg4) : IVec S32x128 32) x).toNat < 5120) :
    θ_run defs (onTc (τ := τ) (main (F := Ideal))) ⟨m, fun _ => 0, ρ⟩ (fun r => ∀ c : Dev nD,
      r.2.mem ((c.tc : Thread nD τ).loc main_v7_0) = refP (tokens m c) (scale m c) (m ((c : Thread nD τ).loc main_arg2))
      ∧ r.2.mem ((c.tc : Thread nD τ).loc main_v7_1) = refGates (tokens m c) (scale m c) (m ((c : Thread nD τ).loc main_arg3))
      ∧ r.2.mem ((c.tc : Thread nD τ).loc main_v7_2) = refSums (shapeCast Cert.Reference2Ideal.S5120x128x8x128 (m ((c : Thread nD τ).loc main_arg5)) Cert.Reference2Ideal.Gen.shapeCasts_S1x5120x128x8x128_S5120x128x8x128) (taken (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h.1 c).1 4).trans (value_4 m c), ((h.1 c).1 5).trans (value_5 m c), ((h.1 c).1 6).trans (value_6 m hA c), args_of m r h.1 c⟩)
    (run_quiescent m ρ (words_small m hA))

end Cert.Kernel2Ideal.Proj
-- ==== Proof.OutRing.lean ====
/- The page ring of the streaming output projection: its pieces, the pages of the key cache, the two semaphores, and the
   kernel's own spellings of them. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table of pages, the key cache and the ring, whole. -/
abbrev tblM : Memref sig .tc .smem S512 .i32 := Memref.whole main_v10
abbrev cacheM : Memref sig .tc .hbm S5120x128x8x128 .f32 := Memref.whole main_v9
abbrev ringM : Memref sig .tc .vmem S2x16x128x8x128 .f32 := Memref.whole cc0_scratch0

/-- A page of the ring lies in the ring. -/
theorem ring_inb (s : Fin 2) (k : Fin 16) : ∀ a, (![s.val, k.val, 0, 0, 0] : Fin 5 → Nat) a + S1x1x128x8x128.size a ≤ S2x16x128x8x128.size a := by
  have := s.isLt; have := k.isLt; intro a; fin_cases a
  · show s.val + 1 ≤ 2; omega
  · show k.val + 1 ≤ 16; omega
  · show 0 + 128 ≤ 128; omega
  · show 0 + 8 ≤ 8; omega
  · show 0 + 128 ≤ 128; omega

/-- Page `k` of slot `s` of the ring. -/
def piece (s : Fin 2) (k : Fin 16) : Memref sig .tc .vmem S128x8x128 .f32 :=
  (ringM.slice (Rect.unit (s := S2x16x128x8x128) ![s.val, k.val, 0, 0, 0] S1x1x128x8x128.size (ring_inb s k)) (fun _ => rfl)).squeeze S128x8x128 squeezes_S1x1x128x8x128_S128x8x128

/-- A page number, kept inside the cache. -/
def pageNo (w : BitVec 32) : Nat := min w.toNat 5119
theorem page_inb (w : BitVec 32) : ∀ a, (![pageNo w, 0, 0, 0] : Fin 4 → Nat) a + S1x128x8x128.size a ≤ S5120x128x8x128.size a := by
  have : pageNo w ≤ 5119 := Nat.min_le_right _ _; intro a; fin_cases a
  · show pageNo w + 1 ≤ 5120; omega
  · show 0 + 128 ≤ 128; omega
  · show 0 + 8 ≤ 8; omega
  · show 0 + 128 ≤ 128; omega

/-- The cache's page of number `w`. -/
def pageM (w : BitVec 32) : Memref sig .tc .hbm S128x8x128 .f32 :=
  (cacheM.slice (Rect.unit (s := S5120x128x8x128) ![pageNo w, 0, 0, 0] S1x128x8x128.size (page_inb w)) (fun _ => rfl)).squeeze S128x8x128 squeezes_S1x128x8x128_S128x8x128

/-- A page at any in-bounds spelling of its offsets. -/
theorem page_name (w : BitVec 32) (off : Fin 4 → Nat) (h : ∀ a, off a + S1x128x8x128.size a ≤ S5120x128x8x128.size a)
    (ho : off = ![w.toNat, 0, 0, 0]) :
    (cacheM.slice (Rect.unit (s := S5120x128x8x128) off S1x128x8x128.size h) (fun _ => rfl)).squeeze S128x8x128 squeezes_S1x128x8x128_S128x8x128 = pageM w := by
  subst ho
  have hw : w.toNat + 1 ≤ 5120 := h 0
  have e : pageNo w = w.toNat := Nat.min_eq_left (by omega)
  exact congrArg (fun M : Memref sig .tc .hbm S1x128x8x128 .f32 => M.squeeze S128x8x128 squeezes_S1x128x8x128_S128x8x128)
    (Memref.slice_unit_congr _ (by rw [e]) _ _ _ fun _ => rfl)

/-- A ring page at any spelling of its offsets. -/
theorem piece_name (s : Fin 2) (k : Fin 16) (off : Fin 5 → Nat) (h : ∀ a, off a + S1x1x128x8x128.size a ≤ S2x16x128x8x128.size a)
    (ho : off = ![s.val, k.val, 0, 0, 0]) :
    (ringM.slice (Rect.unit (s := S2x16x128x8x128) off S1x1x128x8x128.size h) (fun _ => rfl)).squeeze S128x8x128 squeezes_S1x1x128x8x128_S128x8x128 = piece s k := by
  subst ho; rfl

/-- The two slots' semaphores. -/
theorem sem_inb (s : Fin 2) : ∀ a, (![s.val] : Fin 1 → Nat) a + S1.size a ≤ S2.size a := by
  have := s.isLt; intro a; fin_cases a; show s.val + 1 ≤ 2; omega
def cellS (s : Fin 2) : DmaSems sig S_ :=
  (cc0_scratch1.slice (Rect.unit (s := S2) ![s.val] S1.size (sem_inb s))).squeeze S_ squeezes_S1_S_
theorem cell_name (s : Fin 2) (off : Fin 1 → Nat) (h : ∀ a, off a + S1.size a ≤ S2.size a) (ho : off = ![s.val]) :
    (cc0_scratch1.slice (Rect.unit (s := S2) off S1.size h)).squeeze S_ squeezes_S1_S_ = cellS s := by
  subst ho; rfl
abbrev cell (s : Fin 2) : SemLoc sig := SemLoc.dma (cellS s).sem

/-- A memref held by exactly its own elements. -/
abbrev own (c : Dev nD) {sp : Space} (M : Memref sig .tc sp S128x8x128 .f32) (q : PosShare TreeShare) (f : Buf (Elt F) (M.view.loc (c : Thread nD τ))) : sProp 𝕄 :=
  M.view.loc (c : Thread nD τ) ↦[M.view.set]{q} f

/-- One page's credit. -/
abbrev credit (s : Fin 2) : ℕ := (piece s 0).view.amount (cell s)

/-- The contents of the cache, as one buffer. -/
abbrev Cache (c : Dev nD) (F : FTy → Type) := Buf (Elt F) ((c : Thread nD τ).loc main_v9)

end Cert.Kernel3Ideal.Out
-- ==== Proof.OutNames.lean ====
/- The kernel's own spellings of a ring page, a cache page, a slot's semaphore and a table word, each equal to the one
   name the proof gives it. -/
module

public import proofs.«01_k».proof.Proof.OutRing

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev Co := grid0.Coords
abbrev inRing (o : Fin 5 → Nat) : Prop := ∀ a, o a + S1x1x128x8x128.size a ≤ S2x16x128x8x128.size a
abbrev inCache (o : Fin 4 → Nat) : Prop := ∀ a, o a + S1x128x8x128.size a ≤ S5120x128x8x128.size a
abbrev inSems (o : Fin 1 → Nat) : Prop := ∀ a, o a + S1.size a ≤ S2.size a
/-- A page of the ring, a page of the cache and a slot's semaphore, at given offsets. -/
abbrev ringPg (o : Fin 5 → Nat) (h : inRing o) :=
  (ringM.slice (Rect.unit (s := S2x16x128x8x128) o S1x1x128x8x128.size h) (fun _ => rfl)).squeeze S128x8x128 squeezes_S1x1x128x8x128_S128x8x128
abbrev cachePg (o : Fin 4 → Nat) (h : inCache o) :=
  (cacheM.slice (Rect.unit (s := S5120x128x8x128) o S1x128x8x128.size h) (fun _ => rfl)).squeeze S128x8x128 squeezes_S1x128x8x128_S128x8x128
abbrev slotSem (o : Fin 1 → Nat) (h : inSems o) := (cc0_scratch1.slice (Rect.unit (s := S2) o S1.size h)).squeeze S_ squeezes_S1_S_

/-- The number of a grid point. -/
def step (i : grid0.Coords) : Nat := (i 0).val
/-- The slot whose pages a point waits for. -/
def slotW (i : Co) : Fin 2 := ⟨step i % 2, Nat.mod_lt _ (by decide)⟩
/-- The slot whose copies a point starts. -/
def slotL (i : Co) : Fin 2 := ⟨(step i + 1) % 2, Nat.mod_lt _ (by decide)⟩

@[sl_canon] theorem page_canon1 (v : BitVec 32) (h : inCache (k0_off1 v)) : cachePg (k0_off1 v) h = pageM v := page_name v _ h (by rfl)

@[sl_canon] theorem ring_first0 (h : inRing (![0, 0, 0, 0, 0] : Fin 5 → Nat)) : ringPg ![0, 0, 0, 0, 0] h = piece 0 0 := rfl

@[sl_canon] theorem page_canon2 (v : BitVec 32) (h : inCache (k0_off2 v)) : cachePg (k0_off2 v) h = pageM v := page_name v _ h (by rfl)

@[sl_canon] theorem ring_first1 (h : inRing (![0, 1, 0, 0, 0] : Fin 5 → Nat)) : ringPg ![0, 1, 0, 0, 0] h = piece 0 1 := rfl

@[sl_canon] theorem page_canon3 (v : BitVec 32) (h : inCache (k0_off3 v)) : cachePg (k0_off3 v) h = pageM v := page_name v _ h (by rfl)

@[sl_canon] theorem ring_first2 (h : inRing (![0, 2, 0, 0, 0] : Fin 5 → Nat)) : ringPg ![0, 2, 0, 0, 0] h = piece 0 2 := rfl

@[sl_canon] theorem page_canon4 (v : BitVec 32) (h : inCache (k0_off4 v)) : cachePg (k0_off4 v) h = pageM v := page_name v _ h (by rfl)

@[sl_canon] theorem ring_first3 (h : inRing (![0, 3, 0, 0, 0] : Fin 5 → Nat)) : ringPg ![0, 3, 0, 0, 0] h = piece 0 3 := rfl

@[sl_canon] theorem page_canon5 (v : BitVec 32) (h : inCache (k0_off5 v)) : cachePg (k0_off5 v) h = pageM v := page_name v _ h (by rfl)

@[sl_canon] theorem ring_first4 (h : inRing (![0, 4, 0, 0, 0] : Fin 5 → Nat)) : ringPg ![0, 4, 0, 0, 0] h = piece 0 4 := rfl

@[sl_canon] theorem page_canon6 (v : BitVec 32) (h : inCache (k0_off6 v)) : cachePg (k0_off6 v) h = pageM v := page_name v _ h (by rfl)

@[sl_canon] theorem ring_first5 (h : inRing (![0, 5, 0, 0, 0] : Fin 5 → Nat)) : ringPg ![0, 5, 0, 0, 0] h = piece 0 5 := rfl

@[sl_canon] theorem page_canon7 (v : BitVec 32) (h : inCache (k0_off7 v)) : cachePg (k0_off7 v) h = pageM v := page_name v _ h (by rfl)

@[sl_canon] theorem ring_first6 (h : inRing (![0, 6, 0, 0, 0] : Fin 5 → Nat)) : ringPg ![0, 6, 0, 0, 0] h = piece 0 6 := rfl

@[sl_canon] theorem page_canon8 (v : BitVec 32) (h : inCache (k0_off8 v)) : cachePg (k0_off8 v) h = pageM v := page_name v _ h (by rfl)

@[sl_canon] theorem ring_first7 (h : inRing (![0, 7, 0, 0, 0] : Fin 5 → Nat)) : ringPg ![0, 7, 0, 0, 0] h = piece 0 7 := rfl

@[sl_canon] theorem page_canon9 (v : BitVec 32) (h : inCache (k0_off9 v)) : cachePg (k0_off9 v) h = pageM v := page_name v _ h (by rfl)

@[sl_canon] theorem ring_first8 (h : inRing (![0, 8, 0, 0, 0] : Fin 5 → Nat)) : ringPg ![0, 8, 0, 0, 0] h = piece 0 8 := rfl

@[sl_canon] theorem page_canon10 (v : BitVec 32) (h : inCache (k0_off10 v)) : cachePg (k0_off10 v) h = pageM v := page_name v _ h (by rfl)

@[sl_canon] theorem ring_first9 (h : inRing (![0, 9, 0, 0, 0] : Fin 5 → Nat)) : ringPg ![0, 9, 0, 0, 0] h = piece 0 9 := rfl

@[sl_canon] theorem page_canon11 (v : BitVec 32) (h : inCache (k0_off11 v)) : cachePg (k0_off11 v) h = pageM v := page_name v _ h (by rfl)

@[sl_canon] theorem ring_first10 (h : inRing (![0, 10, 0, 0, 0] : Fin 5 → Nat)) : ringPg ![0, 10, 0, 0, 0] h = piece 0 10 := rfl

@[sl_canon] theorem page_canon12 (v : BitVec 32) (h : inCache (k0_off12 v)) : cachePg (k0_off12 v) h = pageM v := page_name v _ h (by rfl)

@[sl_canon] theorem ring_first11 (h : inRing (![0, 11, 0, 0, 0] : Fin 5 → Nat)) : ringPg ![0, 11, 0, 0, 0] h = piece 0 11 := rfl

@[sl_canon] theorem page_canon13 (v : BitVec 32) (h : inCache (k0_off13 v)) : cachePg (k0_off13 v) h = pageM v := page_name v _ h (by rfl)

@[sl_canon] theorem ring_first12 (h : inRing (![0, 12, 0, 0, 0] : Fin 5 → Nat)) : ringPg ![0, 12, 0, 0, 0] h = piece 0 12 := rfl

@[sl_canon] theorem page_canon14 (v : BitVec 32) (h : inCache (k0_off14 v)) : cachePg (k0_off14 v) h = pageM v := page_name v _ h (by rfl)

@[sl_canon] theorem ring_first13 (h : inRing (![0, 13, 0, 0, 0] : Fin 5 → Nat)) : ringPg ![0, 13, 0, 0, 0] h = piece 0 13 := rfl

@[sl_canon] theorem page_canon15 (v : BitVec 32) (h : inCache (k0_off15 v)) : cachePg (k0_off15 v) h = pageM v := page_name v _ h (by rfl)

@[sl_canon] theorem ring_first14 (h : inRing (![0, 14, 0, 0, 0] : Fin 5 → Nat)) : ringPg ![0, 14, 0, 0, 0] h = piece 0 14 := rfl

@[sl_canon] theorem page_canon16 (v : BitVec 32) (h : inCache (k0_off16 v)) : cachePg (k0_off16 v) h = pageM v := page_name v _ h (by rfl)

@[sl_canon] theorem ring_first15 (h : inRing (![0, 15, 0, 0, 0] : Fin 5 → Nat)) : ringPg ![0, 15, 0, 0, 0] h = piece 0 15 := rfl

@[sl_canon] theorem cell_first (h : inSems (![0] : Fin 1 → Nat)) : slotSem ![0] h = cellS 0 := rfl

theorem off17_eq : ∀ i : Co, ∀ (h2 : k0_cond2 i = 1#1), k0_off17 i = ![16 * (step i + 1) + 0] := by decide +kernel

theorem off18_eq : ∀ i : Co, ∀ (h2 : k0_cond2 i = 1#1), k0_off18 i = ![(slotL i).val] := by decide +kernel
@[sl_canon] theorem cell_canon18 (i : Co) (h2 : k0_cond2 i = 1#1) (h : inSems (k0_off18 i)) : slotSem (k0_off18 i) h = cellS (slotL i) := cell_name _ _ h (off18_eq i h2)

theorem off19_eq : ∀ i : Co, ∀ (h2 : k0_cond2 i = 1#1), k0_off19 i = ![(slotL i).val, 0, 0, 0, 0] := by decide +kernel
@[sl_canon] theorem ring_canon19 (i : Co) (h2 : k0_cond2 i = 1#1) (h : inRing (k0_off19 i)) : ringPg (k0_off19 i) h = piece (slotL i) 0 := piece_name _ _ _ h (off19_eq i h2)

@[sl_canon] theorem page_canon20 (v : BitVec 32) (h : inCache (k0_off20 v)) : cachePg (k0_off20 v) h = pageM v := page_name v _ h (by rfl)

theorem off21_eq : ∀ i : Co, ∀ (h2 : k0_cond2 i = 1#1), k0_off21 i = ![16 * (step i + 1) + 1] := by decide +kernel

theorem off22_eq : ∀ i : Co, ∀ (h2 : k0_cond2 i = 1#1), k0_off22 i = ![(slotL i).val] := by decide +kernel
@[sl_canon] theorem cell_canon22 (i : Co) (h2 : k0_cond2 i = 1#1) (h : inSems (k0_off22 i)) : slotSem (k0_off22 i) h = cellS (slotL i) := cell_name _ _ h (off22_eq i h2)

theorem off23_eq : ∀ i : Co, ∀ (h2 : k0_cond2 i = 1#1), k0_off23 i = ![(slotL i).val, 1, 0, 0, 0] := by decide +kernel
@[sl_canon] theorem ring_canon23 (i : Co) (h2 : k0_cond2 i = 1#1) (h : inRing (k0_off23 i)) : ringPg (k0_off23 i) h = piece (slotL i) 1 := piece_name _ _ _ h (off23_eq i h2)

@[sl_canon] theorem page_canon24 (v : BitVec 32) (h : inCache (k0_off24 v)) : cachePg (k0_off24 v) h = pageM v := page_name v _ h (by rfl)

theorem off25_eq : ∀ i : Co, ∀ (h2 : k0_cond2 i = 1#1), k0_off25 i = ![16 * (step i + 1) + 2] := by decide +kernel

theorem off26_eq : ∀ i : Co, ∀ (h2 : k0_cond2 i = 1#1), k0_off26 i = ![(slotL i).val] := by decide +kernel
@[sl_canon] theorem cell_canon26 (i : Co) (h2 : k0_cond2 i = 1#1) (h : inSems (k0_off26 i)) : slotSem (k0_off26 i) h = cellS (slotL i) := cell_name _ _ h (off26_eq i h2)

theorem off27_eq : ∀ i : Co, ∀ (h2 : k0_cond2 i = 1#1), k0_off27 i = ![(slotL i).val, 2, 0, 0, 0] := by decide +kernel
@[sl_canon] theorem ring_canon27 (i : Co) (h2 : k0_cond2 i = 1#1) (h : inRing (k0_off27 i)) : ringPg (k0_off27 i) h = piece (slotL i) 2 := piece_name _ _ _ h (off27_eq i h2)

@[sl_canon] theorem page_canon28 (v : BitVec 32) (h : inCache (k0_off28 v)) : cachePg (k0_off28 v) h = pageM v := page_name v _ h (by rfl)

theorem off29_eq : ∀ i : Co, ∀ (h2 : k0_cond2 i = 1#1), k0_off29 i = ![16 * (step i + 1) + 3] := by decide +kernel

theorem off30_eq : ∀ i : Co, ∀ (h2 : k0_cond2 i = 1#1), k0_off30 i = ![(slotL i).val] := by decide +kernel
@[sl_canon] theorem cell_canon30 (i : Co) (h2 : k0_cond2 i = 1#1) (h : inSems (k0_off30 i)) : slotSem (k0_off30 i) h = cellS (slotL i) := cell_name _ _ h (off30_eq i h2)

theorem off31_eq : ∀ i : Co, ∀ (h2 : k0_cond2 i = 1#1), k0_off31 i = ![(slotL i).val, 3, 0, 0, 0] := by decide +kernel
@[sl_canon] theorem ring_canon31 (i : Co) (h2 : k0_cond2 i = 1#1) (h : inRing (k0_off31 i)) : ringPg (k0_off31 i) h = piece (slotL i) 3 := piece_name _ _ _ h (off31_eq i h2)

@[sl_canon] theorem page_canon32 (v : BitVec 32) (h : inCache (k0_off32 v)) : cachePg (k0_off32 v) h = pageM v := page_name v _ h (by rfl)

theorem off33_eq : ∀ i : Co, ∀ (h2 : k0_cond2 i = 1#1), k0_off33 i = ![16 * (step i + 1) + 4] := by decide +kernel

theorem off34_eq : ∀ i : Co, ∀ (h2 : k0_cond2 i = 1#1), k0_off34 i = ![(slotL i).val] := by decide +kernel
@[sl_canon] theorem cell_canon34 (i : Co) (h2 : k0_cond2 i = 1#1) (h : inSems (k0_off34 i)) : slotSem (k0_off34 i) h = cellS (slotL i) := cell_name _ _ h (off34_eq i h2)

theorem off35_eq : ∀ i : Co, ∀ (h2 : k0_cond2 i = 1#1), k0_off35 i = ![(slotL i).val, 4, 0, 0, 0] := by decide +kernel
@[sl_canon] theorem ring_canon35 (i : Co) (h2 : k0_cond2 i = 1#1) (h : inRing (k0_off35 i)) : ringPg (k0_off35 i) h = piece (slotL i) 4 := piece_name _ _ _ h (off35_eq i h2)

@[sl_canon] theorem page_canon36 (v : BitVec 32) (h : inCache (k0_off36 v)) : cachePg (k0_off36 v) h = pageM v := page_name v _ h (by rfl)

theorem off37_eq : ∀ i : Co, ∀ (h2 : k0_cond2 i = 1#1), k0_off37 i = ![16 * (step i + 1) + 5] := by decide +kernel

theorem off38_eq : ∀ i : Co, ∀ (h2 : k0_cond2 i = 1#1), k0_off38 i = ![(slotL i).val] := by decide +kernel
@[sl_canon] theorem cell_canon38 (i : Co) (h2 : k0_cond2 i = 1#1) (h : inSems (k0_off38 i)) : slotSem (k0_off38 i) h = cellS (slotL i) := cell_name _ _ h (off38_eq i h2)

theorem off39_eq : ∀ i : Co, ∀ (h2 : k0_cond2 i = 1#1), k0_off39 i = ![(slotL i).val, 5, 0, 0, 0] := by decide +kernel
@[sl_canon] theorem ring_canon39 (i : Co) (h2 : k0_cond2 i = 1#1) (h : inRing (k0_off39 i)) : ringPg (k0_off39 i) h = piece (slotL i) 5 := piece_name _ _ _ h (off39_eq i h2)

@[sl_canon] theorem page_canon40 (v : BitVec 32) (h : inCache (k0_off40 v)) : cachePg (k0_off40 v) h = pageM v := page_name v _ h (by rfl)

theorem off41_eq : ∀ i : Co, ∀ (h2 : k0_cond2 i = 1#1), k0_off41 i = ![16 * (step i + 1) + 6] := by decide +kernel

theorem off42_eq : ∀ i : Co, ∀ (h2 : k0_cond2 i = 1#1), k0_off42 i = ![(slotL i).val] := by decide +kernel
@[sl_canon] theorem cell_canon42 (i : Co) (h2 : k0_cond2 i = 1#1) (h : inSems (k0_off42 i)) : slotSem (k0_off42 i) h = cellS (slotL i) := cell_name _ _ h (off42_eq i h2)

theorem off43_eq : ∀ i : Co, ∀ (h2 : k0_cond2 i = 1#1), k0_off43 i = ![(slotL i).val, 6, 0, 0, 0] := by decide +kernel
@[sl_canon] theorem ring_canon43 (i : Co) (h2 : k0_cond2 i = 1#1) (h : inRing (k0_off43 i)) : ringPg (k0_off43 i) h = piece (slotL i) 6 := piece_name _ _ _ h (off43_eq i h2)

@[sl_canon] theorem page_canon44 (v : BitVec 32) (h : inCache (k0_off44 v)) : cachePg (k0_off44 v) h = pageM v := page_name v _ h (by rfl)

theorem off45_eq : ∀ i : Co, ∀ (h2 : k0_cond2 i = 1#1), k0_off45 i = ![16 * (step i + 1) + 7] := by decide +kernel

theorem off46_eq : ∀ i : Co, ∀ (h2 : k0_cond2 i = 1#1), k0_off46 i = ![(slotL i).val] := by decide +kernel
@[sl_canon] theorem cell_canon46 (i : Co) (h2 : k0_cond2 i = 1#1) (h : inSems (k0_off46 i)) : slotSem (k0_off46 i) h = cellS (slotL i) := cell_name _ _ h (off46_eq i h2)

theorem off47_eq : ∀ i : Co, ∀ (h2 : k0_cond2 i = 1#1), k0_off47 i = ![(slotL i).val, 7, 0, 0, 0] := by decide +kernel
@[sl_canon] theorem ring_canon47 (i : Co) (h2 : k0_cond2 i = 1#1) (h : inRing (k0_off47 i)) : ringPg (k0_off47 i) h = piece (slotL i) 7 := piece_name _ _ _ h (off47_eq i h2)

@[sl_canon] theorem page_canon48 (v : BitVec 32) (h : inCache (k0_off48 v)) : cachePg (k0_off48 v) h = pageM v := page_name v _ h (by rfl)

theorem off49_eq : ∀ i : Co, ∀ (h2 : k0_cond2 i = 1#1), k0_off49 i = ![16 * (step i + 1) + 8] := by decide +kernel

theorem off50_eq : ∀ i : Co, ∀ (h2 : k0_cond2 i = 1#1), k0_off50 i = ![(slotL i).val] := by decide +kernel
@[sl_canon] theorem cell_canon50 (i : Co) (h2 : k0_cond2 i = 1#1) (h : inSems (k0_off50 i)) : slotSem (k0_off50 i) h = cellS (slotL i) := cell_name _ _ h (off50_eq i h2)

theorem off51_eq : ∀ i : Co, ∀ (h2 : k0_cond2 i = 1#1), k0_off51 i = ![(slotL i).val, 8, 0, 0, 0] := by decide +kernel
@[sl_canon] theorem ring_canon51 (i : Co) (h2 : k0_cond2 i = 1#1) (h : inRing (k0_off51 i)) : ringPg (k0_off51 i) h = piece (slotL i) 8 := piece_name _ _ _ h (off51_eq i h2)

@[sl_canon] theorem page_canon52 (v : BitVec 32) (h : inCache (k0_off52 v)) : cachePg (k0_off52 v) h = pageM v := page_name v _ h (by rfl)

theorem off53_eq : ∀ i : Co, ∀ (h2 : k0_cond2 i = 1#1), k0_off53 i = ![16 * (step i + 1) + 9] := by decide +kernel

theorem off54_eq : ∀ i : Co, ∀ (h2 : k0_cond2 i = 1#1), k0_off54 i = ![(slotL i).val] := by decide +kernel
@[sl_canon] theorem cell_canon54 (i : Co) (h2 : k0_cond2 i = 1#1) (h : inSems (k0_off54 i)) : slotSem (k0_off54 i) h = cellS (slotL i) := cell_name _ _ h (off54_eq i h2)

theorem off55_eq : ∀ i : Co, ∀ (h2 : k0_cond2 i = 1#1), k0_off55 i = ![(slotL i).val, 9, 0, 0, 0] := by decide +kernel
@[sl_canon] theorem ring_canon55 (i : Co) (h2 : k0_cond2 i = 1#1) (h : inRing (k0_off55 i)) : ringPg (k0_off55 i) h = piece (slotL i) 9 := piece_name _ _ _ h (off55_eq i h2)

@[sl_canon] theorem page_canon56 (v : BitVec 32) (h : inCache (k0_off56 v)) : cachePg (k0_off56 v) h = pageM v := page_name v _ h (by rfl)

theorem off57_eq : ∀ i : Co, ∀ (h2 : k0_cond2 i = 1#1), k0_off57 i = ![16 * (step i + 1) + 10] := by decide +kernel

theorem off58_eq : ∀ i : Co, ∀ (h2 : k0_cond2 i = 1#1), k0_off58 i = ![(slotL i).val] := by decide +kernel
@[sl_canon] theorem cell_canon58 (i : Co) (h2 : k0_cond2 i = 1#1) (h : inSems (k0_off58 i)) : slotSem (k0_off58 i) h = cellS (slotL i) := cell_name _ _ h (off58_eq i h2)

theorem off59_eq : ∀ i : Co, ∀ (h2 : k0_cond2 i = 1#1), k0_off59 i = ![(slotL i).val, 10, 0, 0, 0] := by decide +kernel
@[sl_canon] theorem ring_canon59 (i : Co) (h2 : k0_cond2 i = 1#1) (h : inRing (k0_off59 i)) : ringPg (k0_off59 i) h = piece (slotL i) 10 := piece_name _ _ _ h (off59_eq i h2)

@[sl_canon] theorem page_canon60 (v : BitVec 32) (h : inCache (k0_off60 v)) : cachePg (k0_off60 v) h = pageM v := page_name v _ h (by rfl)

theorem off61_eq : ∀ i : Co, ∀ (h2 : k0_cond2 i = 1#1), k0_off61 i = ![16 * (step i + 1) + 11] := by decide +kernel

theorem off62_eq : ∀ i : Co, ∀ (h2 : k0_cond2 i = 1#1), k0_off62 i = ![(slotL i).val] := by decide +kernel
@[sl_canon] theorem cell_canon62 (i : Co) (h2 : k0_cond2 i = 1#1) (h : inSems (k0_off62 i)) : slotSem (k0_off62 i) h = cellS (slotL i) := cell_name _ _ h (off62_eq i h2)

theorem off63_eq : ∀ i : Co, ∀ (h2 : k0_cond2 i = 1#1), k0_off63 i = ![(slotL i).val, 11, 0, 0, 0] := by decide +kernel
@[sl_canon] theorem ring_canon63 (i : Co) (h2 : k0_cond2 i = 1#1) (h : inRing (k0_off63 i)) : ringPg (k0_off63 i) h = piece (slotL i) 11 := piece_name _ _ _ h (off63_eq i h2)

@[sl_canon] theorem page_canon64 (v : BitVec 32) (h : inCache (k0_off64 v)) : cachePg (k0_off64 v) h = pageM v := page_name v _ h (by rfl)

theorem off65_eq : ∀ i : Co, ∀ (h2 : k0_cond2 i = 1#1), k0_off65 i = ![16 * (step i + 1) + 12] := by decide +kernel

theorem off66_eq : ∀ i : Co, ∀ (h2 : k0_cond2 i = 1#1), k0_off66 i = ![(slotL i).val] := by decide +kernel
@[sl_canon] theorem cell_canon66 (i : Co) (h2 : k0_cond2 i = 1#1) (h : inSems (k0_off66 i)) : slotSem (k0_off66 i) h = cellS (slotL i) := cell_name _ _ h (off66_eq i h2)

theorem off67_eq : ∀ i : Co, ∀ (h2 : k0_cond2 i = 1#1), k0_off67 i = ![(slotL i).val, 12, 0, 0, 0] := by decide +kernel
@[sl_canon] theorem ring_canon67 (i : Co) (h2 : k0_cond2 i = 1#1) (h : inRing (k0_off67 i)) : ringPg (k0_off67 i) h = piece (slotL i) 12 := piece_name _ _ _ h (off67_eq i h2)

@[sl_canon] theorem page_canon68 (v : BitVec 32) (h : inCache (k0_off68 v)) : cachePg (k0_off68 v) h = pageM v := page_name v _ h (by rfl)

theorem off69_eq : ∀ i : Co, ∀ (h2 : k0_cond2 i = 1#1), k0_off69 i = ![16 * (step i + 1) + 13] := by decide +kernel

theorem off70_eq : ∀ i : Co, ∀ (h2 : k0_cond2 i = 1#1), k0_off70 i = ![(slotL i).val] := by decide +kernel
@[sl_canon] theorem cell_canon70 (i : Co) (h2 : k0_cond2 i = 1#1) (h : inSems (k0_off70 i)) : slotSem (k0_off70 i) h = cellS (slotL i) := cell_name _ _ h (off70_eq i h2)

theorem off71_eq : ∀ i : Co, ∀ (h2 : k0_cond2 i = 1#1), k0_off71 i = ![(slotL i).val, 13, 0, 0, 0] := by decide +kernel
@[sl_canon] theorem ring_canon71 (i : Co) (h2 : k0_cond2 i = 1#1) (h : inRing (k0_off71 i)) : ringPg (k0_off71 i) h = piece (slotL i) 13 := piece_name _ _ _ h (off71_eq i h2)

@[sl_canon] theorem page_canon72 (v : BitVec 32) (h : inCache (k0_off72 v)) : cachePg (k0_off72 v) h = pageM v := page_name v _ h (by rfl)

theorem off73_eq : ∀ i : Co, ∀ (h2 : k0_cond2 i = 1#1), k0_off73 i = ![16 * (step i + 1) + 14] := by decide +kernel

theorem off74_eq : ∀ i : Co, ∀ (h2 : k0_cond2 i = 1#1), k0_off74 i = ![(slotL i).val] := by decide +kernel
@[sl_canon] theorem cell_canon74 (i : Co) (h2 : k0_cond2 i = 1#1) (h : inSems (k0_off74 i)) : slotSem (k0_off74 i) h = cellS (slotL i) := cell_name _ _ h (off74_eq i h2)

theorem off75_eq : ∀ i : Co, ∀ (h2 : k0_cond2 i = 1#1), k0_off75 i = ![(slotL i).val, 14, 0, 0, 0] := by decide +kernel
@[sl_canon] theorem ring_canon75 (i : Co) (h2 : k0_cond2 i = 1#1) (h : inRing (k0_off75 i)) : ringPg (k0_off75 i) h = piece (slotL i) 14 := piece_name _ _ _ h (off75_eq i h2)

@[sl_canon] theorem page_canon76 (v : BitVec 32) (h : inCache (k0_off76 v)) : cachePg (k0_off76 v) h = pageM v := page_name v _ h (by rfl)

theorem off77_eq : ∀ i : Co, ∀ (h2 : k0_cond2 i = 1#1), k0_off77 i = ![16 * (step i + 1) + 15] := by decide +kernel

theorem off78_eq : ∀ i : Co, ∀ (h2 : k0_cond2 i = 1#1), k0_off78 i = ![(slotL i).val] := by decide +kernel
@[sl_canon] theorem cell_canon78 (i : Co) (h2 : k0_cond2 i = 1#1) (h : inSems (k0_off78 i)) : slotSem (k0_off78 i) h = cellS (slotL i) := cell_name _ _ h (off78_eq i h2)

theorem off79_eq : ∀ i : Co, ∀ (h2 : k0_cond2 i = 1#1), k0_off79 i = ![(slotL i).val, 15, 0, 0, 0] := by decide +kernel
@[sl_canon] theorem ring_canon79 (i : Co) (h2 : k0_cond2 i = 1#1) (h : inRing (k0_off79 i)) : ringPg (k0_off79 i) h = piece (slotL i) 15 := piece_name _ _ _ h (off79_eq i h2)

@[sl_canon] theorem page_canon80 (v : BitVec 32) (h : inCache (k0_off80 v)) : cachePg (k0_off80 v) h = pageM v := page_name v _ h (by rfl)

theorem off81_eq : ∀ i : Co, k0_off81 i = ![16 * step i + 0] := by decide +kernel

theorem off82_eq : ∀ i : Co, k0_off82 i = ![(slotW i).val] := by decide +kernel
@[sl_canon] theorem cell_canon82 (i : Co) (h : inSems (k0_off82 i)) : slotSem (k0_off82 i) h = cellS (slotW i) := cell_name _ _ h (off82_eq i)

theorem off83_eq : ∀ i : Co, k0_off83 i = ![(slotW i).val, 0, 0, 0, 0] := by decide +kernel
@[sl_canon] theorem ring_canon83 (i : Co) (h : inRing (k0_off83 i)) : ringPg (k0_off83 i) h = piece (slotW i) 0 := piece_name _ _ _ h (off83_eq i)

@[sl_canon] theorem page_canon84 (v : BitVec 32) (h : inCache (k0_off84 v)) : cachePg (k0_off84 v) h = pageM v := page_name v _ h (by rfl)

theorem off85_eq : ∀ i : Co, k0_off85 i = ![16 * step i + 1] := by decide +kernel

theorem off86_eq : ∀ i : Co, k0_off86 i = ![(slotW i).val] := by decide +kernel
@[sl_canon] theorem cell_canon86 (i : Co) (h : inSems (k0_off86 i)) : slotSem (k0_off86 i) h = cellS (slotW i) := cell_name _ _ h (off86_eq i)

theorem off87_eq : ∀ i : Co, k0_off87 i = ![(slotW i).val, 1, 0, 0, 0] := by decide +kernel
@[sl_canon] theorem ring_canon87 (i : Co) (h : inRing (k0_off87 i)) : ringPg (k0_off87 i) h = piece (slotW i) 1 := piece_name _ _ _ h (off87_eq i)

@[sl_canon] theorem page_canon88 (v : BitVec 32) (h : inCache (k0_off88 v)) : cachePg (k0_off88 v) h = pageM v := page_name v _ h (by rfl)

theorem off89_eq : ∀ i : Co, k0_off89 i = ![16 * step i + 2] := by decide +kernel

theorem off90_eq : ∀ i : Co, k0_off90 i = ![(slotW i).val] := by decide +kernel
@[sl_canon] theorem cell_canon90 (i : Co) (h : inSems (k0_off90 i)) : slotSem (k0_off90 i) h = cellS (slotW i) := cell_name _ _ h (off90_eq i)

theorem off91_eq : ∀ i : Co, k0_off91 i = ![(slotW i).val, 2, 0, 0, 0] := by decide +kernel
@[sl_canon] theorem ring_canon91 (i : Co) (h : inRing (k0_off91 i)) : ringPg (k0_off91 i) h = piece (slotW i) 2 := piece_name _ _ _ h (off91_eq i)

@[sl_canon] theorem page_canon92 (v : BitVec 32) (h : inCache (k0_off92 v)) : cachePg (k0_off92 v) h = pageM v := page_name v _ h (by rfl)

theorem off93_eq : ∀ i : Co, k0_off93 i = ![16 * step i + 3] := by decide +kernel

theorem off94_eq : ∀ i : Co, k0_off94 i = ![(slotW i).val] := by decide +kernel
@[sl_canon] theorem cell_canon94 (i : Co) (h : inSems (k0_off94 i)) : slotSem (k0_off94 i) h = cellS (slotW i) := cell_name _ _ h (off94_eq i)

theorem off95_eq : ∀ i : Co, k0_off95 i = ![(slotW i).val, 3, 0, 0, 0] := by decide +kernel
@[sl_canon] theorem ring_canon95 (i : Co) (h : inRing (k0_off95 i)) : ringPg (k0_off95 i) h = piece (slotW i) 3 := piece_name _ _ _ h (off95_eq i)

@[sl_canon] theorem page_canon96 (v : BitVec 32) (h : inCache (k0_off96 v)) : cachePg (k0_off96 v) h = pageM v := page_name v _ h (by rfl)

theorem off97_eq : ∀ i : Co, k0_off97 i = ![16 * step i + 4] := by decide +kernel

theorem off98_eq : ∀ i : Co, k0_off98 i = ![(slotW i).val] := by decide +kernel
@[sl_canon] theorem cell_canon98 (i : Co) (h : inSems (k0_off98 i)) : slotSem (k0_off98 i) h = cellS (slotW i) := cell_name _ _ h (off98_eq i)

theorem off99_eq : ∀ i : Co, k0_off99 i = ![(slotW i).val, 4, 0, 0, 0] := by decide +kernel
@[sl_canon] theorem ring_canon99 (i : Co) (h : inRing (k0_off99 i)) : ringPg (k0_off99 i) h = piece (slotW i) 4 := piece_name _ _ _ h (off99_eq i)

@[sl_canon] theorem page_canon100 (v : BitVec 32) (h : inCache (k0_off100 v)) : cachePg (k0_off100 v) h = pageM v := page_name v _ h (by rfl)

theorem off101_eq : ∀ i : Co, k0_off101 i = ![16 * step i + 5] := by decide +kernel

theorem off102_eq : ∀ i : Co, k0_off102 i = ![(slotW i).val] := by decide +kernel
@[sl_canon] theorem cell_canon102 (i : Co) (h : inSems (k0_off102 i)) : slotSem (k0_off102 i) h = cellS (slotW i) := cell_name _ _ h (off102_eq i)

theorem off103_eq : ∀ i : Co, k0_off103 i = ![(slotW i).val, 5, 0, 0, 0] := by decide +kernel
@[sl_canon] theorem ring_canon103 (i : Co) (h : inRing (k0_off103 i)) : ringPg (k0_off103 i) h = piece (slotW i) 5 := piece_name _ _ _ h (off103_eq i)

@[sl_canon] theorem page_canon104 (v : BitVec 32) (h : inCache (k0_off104 v)) : cachePg (k0_off104 v) h = pageM v := page_name v _ h (by rfl)

theorem off105_eq : ∀ i : Co, k0_off105 i = ![16 * step i + 6] := by decide +kernel

theorem off106_eq : ∀ i : Co, k0_off106 i = ![(slotW i).val] := by decide +kernel
@[sl_canon] theorem cell_canon106 (i : Co) (h : inSems (k0_off106 i)) : slotSem (k0_off106 i) h = cellS (slotW i) := cell_name _ _ h (off106_eq i)

theorem off107_eq : ∀ i : Co, k0_off107 i = ![(slotW i).val, 6, 0, 0, 0] := by decide +kernel
@[sl_canon] theorem ring_canon107 (i : Co) (h : inRing (k0_off107 i)) : ringPg (k0_off107 i) h = piece (slotW i) 6 := piece_name _ _ _ h (off107_eq i)

@[sl_canon] theorem page_canon108 (v : BitVec 32) (h : inCache (k0_off108 v)) : cachePg (k0_off108 v) h = pageM v := page_name v _ h (by rfl)

theorem off109_eq : ∀ i : Co, k0_off109 i = ![16 * step i + 7] := by decide +kernel

theorem off110_eq : ∀ i : Co, k0_off110 i = ![(slotW i).val] := by decide +kernel
@[sl_canon] theorem cell_canon110 (i : Co) (h : inSems (k0_off110 i)) : slotSem (k0_off110 i) h = cellS (slotW i) := cell_name _ _ h (off110_eq i)

theorem off111_eq : ∀ i : Co, k0_off111 i = ![(slotW i).val, 7, 0, 0, 0] := by decide +kernel
@[sl_canon] theorem ring_canon111 (i : Co) (h : inRing (k0_off111 i)) : ringPg (k0_off111 i) h = piece (slotW i) 7 := piece_name _ _ _ h (off111_eq i)

@[sl_canon] theorem page_canon112 (v : BitVec 32) (h : inCache (k0_off112 v)) : cachePg (k0_off112 v) h = pageM v := page_name v _ h (by rfl)

theorem off113_eq : ∀ i : Co, k0_off113 i = ![16 * step i + 8] := by decide +kernel

theorem off114_eq : ∀ i : Co, k0_off114 i = ![(slotW i).val] := by decide +kernel
@[sl_canon] theorem cell_canon114 (i : Co) (h : inSems (k0_off114 i)) : slotSem (k0_off114 i) h = cellS (slotW i) := cell_name _ _ h (off114_eq i)

theorem off115_eq : ∀ i : Co, k0_off115 i = ![(slotW i).val, 8, 0, 0, 0] := by decide +kernel
@[sl_canon] theorem ring_canon115 (i : Co) (h : inRing (k0_off115 i)) : ringPg (k0_off115 i) h = piece (slotW i) 8 := piece_name _ _ _ h (off115_eq i)

@[sl_canon] theorem page_canon116 (v : BitVec 32) (h : inCache (k0_off116 v)) : cachePg (k0_off116 v) h = pageM v := page_name v _ h (by rfl)

theorem off117_eq : ∀ i : Co, k0_off117 i = ![16 * step i + 9] := by decide +kernel

theorem off118_eq : ∀ i : Co, k0_off118 i = ![(slotW i).val] := by decide +kernel
@[sl_canon] theorem cell_canon118 (i : Co) (h : inSems (k0_off118 i)) : slotSem (k0_off118 i) h = cellS (slotW i) := cell_name _ _ h (off118_eq i)

theorem off119_eq : ∀ i : Co, k0_off119 i = ![(slotW i).val, 9, 0, 0, 0] := by decide +kernel
@[sl_canon] theorem ring_canon119 (i : Co) (h : inRing (k0_off119 i)) : ringPg (k0_off119 i) h = piece (slotW i) 9 := piece_name _ _ _ h (off119_eq i)

@[sl_canon] theorem page_canon120 (v : BitVec 32) (h : inCache (k0_off120 v)) : cachePg (k0_off120 v) h = pageM v := page_name v _ h (by rfl)

theorem off121_eq : ∀ i : Co, k0_off121 i = ![16 * step i + 10] := by decide +kernel

theorem off122_eq : ∀ i : Co, k0_off122 i = ![(slotW i).val] := by decide +kernel
@[sl_canon] theorem cell_canon122 (i : Co) (h : inSems (k0_off122 i)) : slotSem (k0_off122 i) h = cellS (slotW i) := cell_name _ _ h (off122_eq i)

theorem off123_eq : ∀ i : Co, k0_off123 i = ![(slotW i).val, 10, 0, 0, 0] := by decide +kernel
@[sl_canon] theorem ring_canon123 (i : Co) (h : inRing (k0_off123 i)) : ringPg (k0_off123 i) h = piece (slotW i) 10 := piece_name _ _ _ h (off123_eq i)

@[sl_canon] theorem page_canon124 (v : BitVec 32) (h : inCache (k0_off124 v)) : cachePg (k0_off124 v) h = pageM v := page_name v _ h (by rfl)

theorem off125_eq : ∀ i : Co, k0_off125 i = ![16 * step i + 11] := by decide +kernel

theorem off126_eq : ∀ i : Co, k0_off126 i = ![(slotW i).val] := by decide +kernel
@[sl_canon] theorem cell_canon126 (i : Co) (h : inSems (k0_off126 i)) : slotSem (k0_off126 i) h = cellS (slotW i) := cell_name _ _ h (off126_eq i)

theorem off127_eq : ∀ i : Co, k0_off127 i = ![(slotW i).val, 11, 0, 0, 0] := by decide +kernel
@[sl_canon] theorem ring_canon127 (i : Co) (h : inRing (k0_off127 i)) : ringPg (k0_off127 i) h = piece (slotW i) 11 := piece_name _ _ _ h (off127_eq i)

@[sl_canon] theorem page_canon128 (v : BitVec 32) (h : inCache (k0_off128 v)) : cachePg (k0_off128 v) h = pageM v := page_name v _ h (by rfl)

theorem off129_eq : ∀ i : Co, k0_off129 i = ![16 * step i + 12] := by decide +kernel

theorem off130_eq : ∀ i : Co, k0_off130 i = ![(slotW i).val] := by decide +kernel
@[sl_canon] theorem cell_canon130 (i : Co) (h : inSems (k0_off130 i)) : slotSem (k0_off130 i) h = cellS (slotW i) := cell_name _ _ h (off130_eq i)

theorem off131_eq : ∀ i : Co, k0_off131 i = ![(slotW i).val, 12, 0, 0, 0] := by decide +kernel
@[sl_canon] theorem ring_canon131 (i : Co) (h : inRing (k0_off131 i)) : ringPg (k0_off131 i) h = piece (slotW i) 12 := piece_name _ _ _ h (off131_eq i)

@[sl_canon] theorem page_canon132 (v : BitVec 32) (h : inCache (k0_off132 v)) : cachePg (k0_off132 v) h = pageM v := page_name v _ h (by rfl)

theorem off133_eq : ∀ i : Co, k0_off133 i = ![16 * step i + 13] := by decide +kernel

theorem off134_eq : ∀ i : Co, k0_off134 i = ![(slotW i).val] := by decide +kernel
@[sl_canon] theorem cell_canon134 (i : Co) (h : inSems (k0_off134 i)) : slotSem (k0_off134 i) h = cellS (slotW i) := cell_name _ _ h (off134_eq i)

theorem off135_eq : ∀ i : Co, k0_off135 i = ![(slotW i).val, 13, 0, 0, 0] := by decide +kernel
@[sl_canon] theorem ring_canon135 (i : Co) (h : inRing (k0_off135 i)) : ringPg (k0_off135 i) h = piece (slotW i) 13 := piece_name _ _ _ h (off135_eq i)

@[sl_canon] theorem page_canon136 (v : BitVec 32) (h : inCache (k0_off136 v)) : cachePg (k0_off136 v) h = pageM v := page_name v _ h (by rfl)

theorem off137_eq : ∀ i : Co, k0_off137 i = ![16 * step i + 14] := by decide +kernel

theorem off138_eq : ∀ i : Co, k0_off138 i = ![(slotW i).val] := by decide +kernel
@[sl_canon] theorem cell_canon138 (i : Co) (h : inSems (k0_off138 i)) : slotSem (k0_off138 i) h = cellS (slotW i) := cell_name _ _ h (off138_eq i)

theorem off139_eq : ∀ i : Co, k0_off139 i = ![(slotW i).val, 14, 0, 0, 0] := by decide +kernel
@[sl_canon] theorem ring_canon139 (i : Co) (h : inRing (k0_off139 i)) : ringPg (k0_off139 i) h = piece (slotW i) 14 := piece_name _ _ _ h (off139_eq i)

@[sl_canon] theorem page_canon140 (v : BitVec 32) (h : inCache (k0_off140 v)) : cachePg (k0_off140 v) h = pageM v := page_name v _ h (by rfl)

theorem off141_eq : ∀ i : Co, k0_off141 i = ![16 * step i + 15] := by decide +kernel

theorem off142_eq : ∀ i : Co, k0_off142 i = ![(slotW i).val] := by decide +kernel
@[sl_canon] theorem cell_canon142 (i : Co) (h : inSems (k0_off142 i)) : slotSem (k0_off142 i) h = cellS (slotW i) := cell_name _ _ h (off142_eq i)

theorem off143_eq : ∀ i : Co, k0_off143 i = ![(slotW i).val, 15, 0, 0, 0] := by decide +kernel
@[sl_canon] theorem ring_canon143 (i : Co) (h : inRing (k0_off143 i)) : ringPg (k0_off143 i) h = piece (slotW i) 15 := piece_name _ _ _ h (off143_eq i)

@[sl_canon] theorem page_canon144 (v : BitVec 32) (h : inCache (k0_off144 v)) : cachePg (k0_off144 v) h = pageM v := page_name v _ h (by rfl)

theorem off145_eq : ∀ i : Co, k0_off145 i = ![(slotW i).val, 0, 0, 0, 0] := by decide +kernel
@[sl_canon] theorem ring_canon145 (i : Co) (h : inRing (k0_off145 i)) : ringPg (k0_off145 i) h = piece (slotW i) 0 := piece_name _ _ _ h (off145_eq i)

theorem off146_eq : ∀ i : Co, k0_off146 i = ![(slotW i).val, 1, 0, 0, 0] := by decide +kernel
@[sl_canon] theorem ring_canon146 (i : Co) (h : inRing (k0_off146 i)) : ringPg (k0_off146 i) h = piece (slotW i) 1 := piece_name _ _ _ h (off146_eq i)

theorem off147_eq : ∀ i : Co, k0_off147 i = ![(slotW i).val, 2, 0, 0, 0] := by decide +kernel
@[sl_canon] theorem ring_canon147 (i : Co) (h : inRing (k0_off147 i)) : ringPg (k0_off147 i) h = piece (slotW i) 2 := piece_name _ _ _ h (off147_eq i)

theorem off148_eq : ∀ i : Co, k0_off148 i = ![(slotW i).val, 3, 0, 0, 0] := by decide +kernel
@[sl_canon] theorem ring_canon148 (i : Co) (h : inRing (k0_off148 i)) : ringPg (k0_off148 i) h = piece (slotW i) 3 := piece_name _ _ _ h (off148_eq i)

theorem off149_eq : ∀ i : Co, k0_off149 i = ![(slotW i).val, 4, 0, 0, 0] := by decide +kernel
@[sl_canon] theorem ring_canon149 (i : Co) (h : inRing (k0_off149 i)) : ringPg (k0_off149 i) h = piece (slotW i) 4 := piece_name _ _ _ h (off149_eq i)

theorem off150_eq : ∀ i : Co, k0_off150 i = ![(slotW i).val, 5, 0, 0, 0] := by decide +kernel
@[sl_canon] theorem ring_canon150 (i : Co) (h : inRing (k0_off150 i)) : ringPg (k0_off150 i) h = piece (slotW i) 5 := piece_name _ _ _ h (off150_eq i)

theorem off151_eq : ∀ i : Co, k0_off151 i = ![(slotW i).val, 6, 0, 0, 0] := by decide +kernel
@[sl_canon] theorem ring_canon151 (i : Co) (h : inRing (k0_off151 i)) : ringPg (k0_off151 i) h = piece (slotW i) 6 := piece_name _ _ _ h (off151_eq i)

theorem off152_eq : ∀ i : Co, k0_off152 i = ![(slotW i).val, 7, 0, 0, 0] := by decide +kernel
@[sl_canon] theorem ring_canon152 (i : Co) (h : inRing (k0_off152 i)) : ringPg (k0_off152 i) h = piece (slotW i) 7 := piece_name _ _ _ h (off152_eq i)

theorem off153_eq : ∀ i : Co, k0_off153 i = ![(slotW i).val, 8, 0, 0, 0] := by decide +kernel
@[sl_canon] theorem ring_canon153 (i : Co) (h : inRing (k0_off153 i)) : ringPg (k0_off153 i) h = piece (slotW i) 8 := piece_name _ _ _ h (off153_eq i)

theorem off154_eq : ∀ i : Co, k0_off154 i = ![(slotW i).val, 9, 0, 0, 0] := by decide +kernel
@[sl_canon] theorem ring_canon154 (i : Co) (h : inRing (k0_off154 i)) : ringPg (k0_off154 i) h = piece (slotW i) 9 := piece_name _ _ _ h (off154_eq i)

theorem off155_eq : ∀ i : Co, k0_off155 i = ![(slotW i).val, 10, 0, 0, 0] := by decide +kernel
@[sl_canon] theorem ring_canon155 (i : Co) (h : inRing (k0_off155 i)) : ringPg (k0_off155 i) h = piece (slotW i) 10 := piece_name _ _ _ h (off155_eq i)

theorem off156_eq : ∀ i : Co, k0_off156 i = ![(slotW i).val, 11, 0, 0, 0] := by decide +kernel
@[sl_canon] theorem ring_canon156 (i : Co) (h : inRing (k0_off156 i)) : ringPg (k0_off156 i) h = piece (slotW i) 11 := piece_name _ _ _ h (off156_eq i)

theorem off157_eq : ∀ i : Co, k0_off157 i = ![(slotW i).val, 12, 0, 0, 0] := by decide +kernel
@[sl_canon] theorem ring_canon157 (i : Co) (h : inRing (k0_off157 i)) : ringPg (k0_off157 i) h = piece (slotW i) 12 := piece_name _ _ _ h (off157_eq i)

theorem off158_eq : ∀ i : Co, k0_off158 i = ![(slotW i).val, 13, 0, 0, 0] := by decide +kernel
@[sl_canon] theorem ring_canon158 (i : Co) (h : inRing (k0_off158 i)) : ringPg (k0_off158 i) h = piece (slotW i) 13 := piece_name _ _ _ h (off158_eq i)

theorem off159_eq : ∀ i : Co, k0_off159 i = ![(slotW i).val, 14, 0, 0, 0] := by decide +kernel
@[sl_canon] theorem ring_canon159 (i : Co) (h : inRing (k0_off159 i)) : ringPg (k0_off159 i) h = piece (slotW i) 14 := piece_name _ _ _ h (off159_eq i)

theorem off160_eq : ∀ i : Co, k0_off160 i = ![(slotW i).val, 15, 0, 0, 0] := by decide +kernel
@[sl_canon] theorem ring_canon160 (i : Co) (h : inRing (k0_off160 i)) : ringPg (k0_off160 i) h = piece (slotW i) 15 := piece_name _ _ _ h (off160_eq i)

end Cert.Kernel3Ideal.Out
-- ==== Proof.OutDefs.lean ====
/- What a copy of a page hands back, and the kernel's body split where it begins to wait for its own pages. -/
module

public import proofs.«01_k».proof.Proof.OutNames
public import proofs.«01_k».proof.Proof.Whole

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table held whole. -/
abbrev heldT (c : Dev nD) (q : PosShare TreeShare) (f : Buf (Elt F) (tblM.view.loc (c : Thread nD τ))) : sProp 𝕄 :=
  tblM.view.loc (c : Thread nD τ) ↦{q} f

/-- The cache's contents, seen as those of the buffer a page is a part of. -/
def asPage (c : Dev nD) (w : BitVec 32) (fc : Buf (Elt F) ((c : Thread nD τ).loc main_v9)) : Buf (Elt F) ((pageM w).view.loc (c : Thread nD τ)) := fc

/-- The contents of a ring page once the page of number `w` has landed in it. -/
abbrev landed (c : Dev nD) (s : Fin 2) (k : Fin 16) (w : BitVec 32) (fc : Buf (Elt F) ((c : Thread nD τ).loc main_v9)) :
    Buf (Elt F) ((piece s k).view.loc (c : Thread nD τ)) :=
  (piece s k).view.writes (Elt F) (piece s k).view.junk [⟨Rect.whole S128x8x128, ReadAs.same.apply ((pageM w).view.read (Elt F) (asPage c w fc))⟩]

/-- What the copy of a page hands back: the ring page filled, the cache page returned. -/
def deliv (c : Dev nD) (s : Fin 2) (w : Fin 16 → BitVec 32) (q : Fin 16 → PosShare TreeShare) (fc : Buf (Elt F) ((c : Thread nD τ).loc main_v9)) (k : Fin 16) : sProp 𝕄 :=
  iprop(own c (piece s k) fullShare (landed c s k (w k) fc) ∗ own c (pageM (w k)) (q k) (asPage c (w k) fc))

instance deliv_storable (c : Dev nD) (s : Fin 2) (w : Fin 16 → BitVec 32) (q : Fin 16 → PosShare TreeShare) (fc : Buf (Elt F) ((c : Thread nD τ).loc main_v9)) (k : Fin 16) :
    BI.Storable (upEmb : UEmb _ 𝕄) (deliv c s w q fc k) := by
  unfold deliv; infer_instance

/-- A slot's copies, `n` started. -/
abbrev flights (c : Dev nD) (s : Fin 2) (w : Fin 16 → BitVec 32) (q : Fin 16 → PosShare TreeShare) (fc : Buf (Elt F) ((c : Thread nD τ).loc main_v9)) (n : ℕ) : sProp 𝕄 :=
  Transfers.Batch (countersEmb (U := Pipeline.UD sig nD τ)) (c : Thread nD τ) (cell s) () (credit s) (deliv c s w q fc) n 0

/-- A word of the table as the kernel reads it. -/
abbrev wordAt (c : Dev nD) (ft : Buf (Elt F) (tblM.view.loc (c : Thread nD τ))) (off : Fin 1 → Nat) (h : ∀ a, off a + S1.size a ≤ S512.size a) : BitVec 32 :=
  View.readAt (Elt F) tblM.view (Rect.unit (s := S512) off S1.size h).toLoadRect ft (Shape.Idx.first (numel1_S1.symm ▸ Nat.one_pos))

/-- The body from the last loads of its product on. -/
def landProg (i : grid0.Coords) (arg1 : Memref sig .tc .smem S512 .i32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg10 : Memref sig .tc .hbm S5120x128x8x128 .f32) (harg10 : arg10.IsWhole) (arg11 : Memref sig .tc .vmem S256x2048 .f32) (harg11 : arg11.IsWhole) (arg12 : Memref sig .tc .vmem S16x8x128 .f32) (harg12 : arg12.IsWhole) (arg13 : Memref sig .tc .vmem S2x16x128x8x128 .f32) (harg13 : arg13.IsWhole) (arg14 : DmaSems sig S2) (arg0 : BitVec 32) (v22 : FVec F S256x2048 .f32) (v31 : FVec F S256x2048 .f32) (v32 : Vec F S256x1024 .bf16) :
    Prog (TpuEff nD τ sig (Elt F) Λ₀ .tc) PUnit := do
  k0_part13 i arg1 harg1 arg2 harg2 arg3 harg3 arg4 harg4 arg5 harg5 arg6 harg6 arg7 harg7 arg8 harg8 arg9 harg9 arg10 harg10 arg11 harg11 arg12 harg12 arg13 harg13 arg14 arg0 v22 v31 v32
  let ⟨v86, k0_hw36⟩ : Σ' (v86 : Elt F .i32), k0_chk36 v86 ← k0_part14 i arg1 harg1 arg2 harg2 arg3 harg3 arg4 harg4 arg5 harg5 arg6 harg6 arg7 harg7 arg8 harg8 arg9 harg9 arg10 harg10 arg11 harg11 arg12 harg12 arg13 harg13 arg14 arg0
  let ⟨v119, k0_hw39⟩ : Σ' (v119 : Elt F .i32), k0_chk39 v119 ← k0_part15 i arg1 harg1 arg2 harg2 arg3 harg3 arg4 harg4 arg5 harg5 arg6 harg6 arg7 harg7 arg8 harg8 arg9 harg9 arg10 harg10 arg11 harg11 arg12 harg12 arg13 harg13 arg14 arg0 v86 k0_hw36
  let ⟨v148, c0_i32_115⟩ : Σ' (v148 : BitVec 32), BitVec 32 ← k0_part16 i arg1 harg1 arg2 harg2 arg3 harg3 arg4 harg4 arg5 harg5 arg6 harg6 arg7 harg7 arg8 harg8 arg9 harg9 arg10 harg10 arg11 harg11 arg12 harg12 arg13 harg13 arg14 arg0 v119 k0_hw39
  let ⟨v174, k0_hw44⟩ : Σ' (v174 : Elt F .i32), k0_chk44 v174 ← k0_part17 i arg1 harg1 arg2 harg2 arg3 harg3 arg4 harg4 arg5 harg5 arg6 harg6 arg7 harg7 arg8 harg8 arg9 harg9 arg10 harg10 arg11 harg11 arg12 harg12 arg13 harg13 arg14 arg0 v148 c0_i32_115
  let v207 : Elt F .i32 ← k0_part18 i arg1 harg1 arg2 harg2 arg3 harg3 arg4 harg4 arg5 harg5 arg6 harg6 arg7 harg7 arg8 harg8 arg9 harg9 arg10 harg10 arg11 harg11 arg12 harg12 arg13 harg13 arg14 arg0 v174 k0_hw44
  let v231 : FVec F S16x8x128 .f32 ← k0_part19 i arg1 harg1 arg2 harg2 arg3 harg3 arg4 harg4 arg5 harg5 arg6 harg6 arg7 harg7 arg8 harg8 arg9 harg9 arg10 harg10 arg11 harg11 arg12 harg12 arg13 harg13 arg14 arg0 v207
  let v251 : FVec F S16x8x128 .f32 ← k0_part20 i arg1 harg1 arg2 harg2 arg3 harg3 arg4 harg4 arg5 harg5 arg6 harg6 arg7 harg7 arg8 harg8 arg9 harg9 arg10 harg10 arg11 harg11 arg12 harg12 arg13 harg13 arg14 v231
  let v282 : FVec F S16x8x128 .f32 ← k0_part21 i arg1 harg1 arg2 harg2 arg3 harg3 arg4 harg4 arg5 harg5 arg6 harg6 arg7 harg7 arg8 harg8 arg9 harg9 arg10 harg10 arg11 harg11 arg12 harg12 arg13 harg13 arg14 v251
  let ⟨v309, v310⟩ : Σ' (v309 : FVec F S2x8x128 .f32), FVec F S2x8x128 .f32 ← k0_part22 i arg1 harg1 arg2 harg2 arg3 harg3 arg4 harg4 arg5 harg5 arg6 harg6 arg7 harg7 arg8 harg8 arg9 harg9 arg10 harg10 arg11 harg11 arg12 harg12 arg13 harg13 arg14 v282
  let v333 : FVec F S16x8x128 .f32 ← k0_part23 i arg1 harg1 arg2 harg2 arg3 harg3 arg4 harg4 arg5 harg5 arg6 harg6 arg7 harg7 arg8 harg8 arg9 harg9 arg10 harg10 arg11 harg11 arg12 harg12 arg13 harg13 arg14 v309 v310
  k0_part24 i arg1 harg1 arg2 harg2 arg3 harg3 arg4 harg4 arg5 harg5 arg6 harg6 arg7 harg7 arg8 harg8 arg9 harg9 arg10 harg10 arg11 harg11 arg12 harg12 arg13 harg13 arg14 v333
  let v384 : FVec F S16x8x128 .f32 ← k0_part25 i arg1 harg1 arg2 harg2 arg3 harg3 arg4 harg4 arg5 harg5 arg6 harg6 arg7 harg7 arg8 harg8 arg9 harg9 arg10 harg10 arg11 harg11 arg12 harg12 arg13 harg13 arg14
  let v415 : Vec F S16x8x128 .f32 ← k0_part26 i arg1 harg1 arg2 harg2 arg3 harg3 arg4 harg4 arg5 harg5 arg6 harg6 arg7 harg7 arg8 harg8 arg9 harg9 arg10 harg10 arg11 harg11 arg12 harg12 arg13 harg13 arg14 v384
  let v435 : FVec F S16x8x128 .f32 ← k0_part27 i arg1 harg1 arg2 harg2 arg3 harg3 arg4 harg4 arg5 harg5 arg6 harg6 arg7 harg7 arg8 harg8 arg9 harg9 arg10 harg10 arg11 harg11 arg12 harg12 arg13 harg13 arg14 v415
  let v466 : FVec F S16x8x128 .f32 ← k0_part28 i arg1 harg1 arg2 harg2 arg3 harg3 arg4 harg4 arg5 harg5 arg6 harg6 arg7 harg7 arg8 harg8 arg9 harg9 arg10 harg10 arg11 harg11 arg12 harg12 arg13 harg13 arg14 v435
  let v490 : FVec F S16x8x128 .f32 ← k0_part29 i arg1 harg1 arg2 harg2 arg3 harg3 arg4 harg4 arg5 harg5 arg6 harg6 arg7 harg7 arg8 harg8 arg9 harg9 arg10 harg10 arg11 harg11 arg12 harg12 arg13 harg13 arg14 v466
  let v517 : FVec F S16x8x128 .f32 ← k0_part30 i arg1 harg1 arg2 harg2 arg3 harg3 arg4 harg4 arg5 harg5 arg6 harg6 arg7 harg7 arg8 harg8 arg9 harg9 arg10 harg10 arg11 harg11 arg12 harg12 arg13 harg13 arg14 v490
  let v550 : FVec F S8x128 .f32 ← k0_part31 i arg1 harg1 arg2 harg2 arg3 harg3 arg4 harg4 arg5 harg5 arg6 harg6 arg7 harg7 arg8 harg8 arg9 harg9 arg10 harg10 arg11 harg11 arg12 harg12 arg13 harg13 arg14 v517
  let ⟨v568, v571⟩ : Σ' (v568 : FVec F S16x8x128 .f32), Vec F S16x8x128 .f32 ← k0_part32 i arg1 harg1 arg2 harg2 arg3 harg3 arg4 harg4 arg5 harg5 arg6 harg6 arg7 harg7 arg8 harg8 arg9 harg9 arg10 harg10 arg11 harg11 arg12 harg12 arg13 harg13 arg14 v550
  k0_part33 i arg1 harg1 arg2 harg2 arg3 harg3 arg4 harg4 arg5 harg5 arg6 harg6 arg7 harg7 arg8 harg8 arg9 harg9 arg10 harg10 arg11 harg11 arg12 harg12 arg13 harg13 arg14 v568 v571
  let v623 : FVec F S16x8x128 .f32 ← k0_part34 i arg1 harg1 arg2 harg2 arg3 harg3 arg4 harg4 arg5 harg5 arg6 harg6 arg7 harg7 arg8 harg8 arg9 harg9 arg10 harg10 arg11 harg11 arg12 harg12 arg13 harg13 arg14
  let v650 : Vec F S16x8x128 .f32 ← k0_part35 i arg1 harg1 arg2 harg2 arg3 harg3 arg4 harg4 arg5 harg5 arg6 harg6 arg7 harg7 arg8 harg8 arg9 harg9 arg10 harg10 arg11 harg11 arg12 harg12 arg13 harg13 arg14 v623
  let v674 : FVec F S16x8x128 .f32 ← k0_part36 i arg1 harg1 arg2 harg2 arg3 harg3 arg4 harg4 arg5 harg5 arg6 harg6 arg7 harg7 arg8 harg8 arg9 harg9 arg10 harg10 arg11 harg11 arg12 harg12 arg13 harg13 arg14 v650
  let v705 : FVec F S16x8x128 .f32 ← k0_part37 i arg1 harg1 arg2 harg2 arg3 harg3 arg4 harg4 arg5 harg5 arg6 harg6 arg7 harg7 arg8 harg8 arg9 harg9 arg10 harg10 arg11 harg11 arg12 harg12 arg13 harg13 arg14 v674
  let ⟨v729, v730⟩ : Σ' (v729 : FVec F S4x8x128 .f32), FVec F S4x8x128 .f32 ← k0_part38 i arg1 harg1 arg2 harg2 arg3 harg3 arg4 harg4 arg5 harg5 arg6 harg6 arg7 harg7 arg8 harg8 arg9 harg9 arg10 harg10 arg11 harg11 arg12 harg12 arg13 harg13 arg14 v705
  let v756 : FVec F S16x8x128 .f32 ← k0_part39 i arg1 harg1 arg2 harg2 arg3 harg3 arg4 harg4 arg5 harg5 arg6 harg6 arg7 harg7 arg8 harg8 arg9 harg9 arg10 harg10 arg11 harg11 arg12 harg12 arg13 harg13 arg14 v729 v730
  let v785 : FVec F S8x128 .f32 ← k0_part40 i arg1 harg1 arg2 harg2 arg3 harg3 arg4 harg4 arg5 harg5 arg6 harg6 arg7 harg7 arg8 harg8 arg9 harg9 arg10 harg10 arg11 harg11 arg12 harg12 arg13 harg13 arg14 v756
  let v807 : FVec F S16x8x128 .f32 ← k0_part41 i arg1 harg1 arg2 harg2 arg3 harg3 arg4 harg4 arg5 harg5 arg6 harg6 arg7 harg7 arg8 harg8 arg9 harg9 arg10 harg10 arg11 harg11 arg12 harg12 arg13 harg13 arg14 v785
  let v838 : Vec F S16x8x128 .f32 ← k0_part42 i arg1 harg1 arg2 harg2 arg3 harg3 arg4 harg4 arg5 harg5 arg6 harg6 arg7 harg7 arg8 harg8 arg9 harg9 arg10 harg10 arg11 harg11 arg12 harg12 arg13 harg13 arg14 v807
  let v858 : FVec F S16x8x128 .f32 ← k0_part43 i arg1 harg1 arg2 harg2 arg3 harg3 arg4 harg4 arg5 harg5 arg6 harg6 arg7 harg7 arg8 harg8 arg9 harg9 arg10 harg10 arg11 harg11 arg12 harg12 arg13 harg13 arg14 v838
  let v889 : FVec F S16x8x128 .f32 ← k0_part44 i arg1 harg1 arg2 harg2 arg3 harg3 arg4 harg4 arg5 harg5 arg6 harg6 arg7 harg7 arg8 harg8 arg9 harg9 arg10 harg10 arg11 harg11 arg12 harg12 arg13 harg13 arg14 v858
  let v909 : FVec F S16x8x128 .f32 ← k0_part45 i arg1 harg1 arg2 harg2 arg3 harg3 arg4 harg4 arg5 harg5 arg6 harg6 arg7 harg7 arg8 harg8 arg9 harg9 arg10 harg10 arg11 harg11 arg12 harg12 arg13 harg13 arg14 v889
  let v940 : FVec F S16x8x128 .f32 ← k0_part46 i arg1 harg1 arg2 harg2 arg3 harg3 arg4 harg4 arg5 harg5 arg6 harg6 arg7 harg7 arg8 harg8 arg9 harg9 arg10 harg10 arg11 harg11 arg12 harg12 arg13 harg13 arg14 v909
  let ⟨v969, v970⟩ : Σ' (v969 : FVec F S2x8x128 .f32), FVec F S1x8x128 .f32 ← k0_part47 i arg1 harg1 arg2 harg2 arg3 harg3 arg4 harg4 arg5 harg5 arg6 harg6 arg7 harg7 arg8 harg8 arg9 harg9 arg10 harg10 arg11 harg11 arg12 harg12 arg13 harg13 arg14 v940
  let v974 : Vec F S1x8x128 .f32 ← Prog.lift (.load arg12 (Rect.unit (s := S16x8x128) ![15, 0, 0] S1x8x128.size inb_S16x8x128_S1x8x128_15_0_0).toLoadRect (View.loadsAt_vmem h_S1x8x128))
  Prog.lift (.store arg12 (Rect.unit (s := S16x8x128) ![15, 0, 0] S1x8x128.size inb_S16x8x128_S1x8x128_15_0_0) (k0_pay1 v969 v970) Finset.univ (View.stores_vmem_bits_univ h_S1x8x128 rfl) (.inl rfl))
  pure ⟨⟩

set_option maxRecDepth 65536 in
/-- The body is its launches and first loads, then its product, its waits and sums. -/
theorem body_split (i : grid0.Coords) (arg1 : Memref sig .tc .smem S512 .i32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg10 : Memref sig .tc .hbm S5120x128x8x128 .f32) (harg10 : arg10.IsWhole) (arg11 : Memref sig .tc .vmem S256x2048 .f32) (harg11 : arg11.IsWhole) (arg12 : Memref sig .tc .vmem S16x8x128 .f32) (harg12 : arg12.IsWhole) (arg13 : Memref sig .tc .vmem S2x16x128x8x128 .f32) (harg13 : arg13.IsWhole) (arg14 : DmaSems sig S2) :
    cc0_out_proj_stream (F := F) i arg1 harg1 arg2 harg2 arg3 harg3 arg4 harg4 arg5 harg5 arg6 harg6 arg7 harg7 arg8 harg8 arg9 harg9 arg10 harg10 arg11 harg11 arg12 harg12 arg13 harg13 arg14
      = k0_part12 i arg1 harg1 arg2 harg2 arg3 harg3 arg4 harg4 arg5 harg5 arg6 harg6 arg7 harg7 arg8 harg8 arg9 harg9 arg10 harg10 arg11 harg11 arg12 harg12 arg13 harg13 arg14 >>= fun r => landProg i arg1 harg1 arg2 harg2 arg3 harg3 arg4 harg4 arg5 harg5 arg6 harg6 arg7 harg7 arg8 harg8 arg9 harg9 arg10 harg10 arg11 harg11 arg12 harg12 arg13 harg13 arg14 r.1 r.2.1 r.2.2.1 r.2.2.2 := by
  rw [cc0_out_proj_stream_eq_skeleton]; rfl

end Cert.Kernel3Ideal.Out
-- ==== Proof.OutWords.lean ====
/- The words of the page table, in the order the kernel reads them, and the checks the kernel makes of them. -/
module

public import proofs.«01_k».proof.Proof.OutDefs
public import proofs.«01_k».proof.Proof.Whole

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem word_inb (n : ℕ) : ∀ a, (![min n 511] : Fin 1 → Nat) a + S1.size a ≤ S512.size a := by
  intro a; fin_cases a; show min n 511 + 1 ≤ 512; omega

/-- Word `n` of the table. -/
def word (c : Dev nD) (ft : Buf (Elt F) (tblM.view.loc (c : Thread nD τ))) (n : ℕ) : BitVec 32 := wordAt c ft ![min n 511] (word_inb n)

/-- A word read at any spelling of its offset. -/
theorem word_at (c : Dev nD) (ft : Buf (Elt F) (tblM.view.loc (c : Thread nD τ))) (n : ℕ) (off : Fin 1 → Nat)
    (h : ∀ a, off a + S1.size a ≤ S512.size a) (ho : off = ![n]) : wordAt c ft off h = word c ft n := by
  subst ho
  have hn : n + 1 ≤ 512 := h 0
  have e : min n 511 = n := Nat.min_eq_left (by omega)
  unfold word
  congr 3
  rw [e]

/-- The sixteen words of step `t`. -/
abbrev words (c : Dev nD) (ft : Buf (Elt F) (tblM.view.loc (c : Thread nD τ))) (t : ℕ) : Fin 16 → BitVec 32 :=
  ![word c ft (16 * t + 0), word c ft (16 * t + 1), word c ft (16 * t + 2), word c ft (16 * t + 3), word c ft (16 * t + 4), word c ft (16 * t + 5), word c ft (16 * t + 6), word c ft (16 * t + 7), word c ft (16 * t + 8), word c ft (16 * t + 9), word c ft (16 * t + 10), word c ft (16 * t + 11), word c ft (16 * t + 12), word c ft (16 * t + 13), word c ft (16 * t + 14), word c ft (16 * t + 15)]

/-- A page of a small number lies in the cache. -/
theorem page_ok (w : BitVec 32) (h : w.toNat < 5120) : ∀ a, (![w.toNat, 0, 0, 0] : Fin 4 → Nat) a + S1x128x8x128.size a ≤ S5120x128x8x128.size a := by
  have e : pageNo w = w.toNat := Nat.min_eq_left (by omega)
  rw [← e]; exact page_inb w

theorem cond1_iff : ∀ i : grid0.Coords, k0_cond1 i = 1#1 ↔ step i = 0 := by decide +kernel
theorem cond2_iff : ∀ i : grid0.Coords, k0_cond2 i = 1#1 ↔ step i < 31 := by decide +kernel

end Cert.Kernel3Ideal.Out
-- ==== Proof.OutSums.lean ====
/- The sum of a page over its tokens, in the kernel's order, and the block of sixteen of them. -/
module

public import proofs.«01_k».proof.Proof.OutDefs
public import proofs.«01_k».proof.Proof.Whole
public import Idealize.ShloMosaic.Lib.WritesUnit

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A page as the kernel reads it in the cache. -/
abbrev pageVec (c : Dev nD) (w : BitVec 32) (fc : Buf (Elt F) ((c : Thread nD τ).loc main_v9)) : S128x8x128.Idx → Elt F .f32 :=
  (pageM w).view.read (Elt F) (asPage c w fc)

/-- Sixteen tokens of a page. -/
def chunk (P : S128x8x128.Idx → Elt F .f32) (o : Fin 3 → Nat) (h : ∀ a, o a + S16x8x128.size a ≤ S128x8x128.size a) : Vec F S16x8x128 .f32 :=
  fun x => P ((Rect.unit (s := S128x8x128) o S16x8x128.size h).toLoadRect.idx x)

/-- A page summed over its tokens: eight chunks added in turn, then halves. -/
def rowSum (P : S128x8x128.Idx → Elt F .f32) : FVec F S1x8x128 .f32 :=
  k0_pay7 (k0_pay6 (k0_pay5 (chunk P ![0, 0, 0] inb_S128x8x128_S16x8x128_0_0_0) (chunk P ![16, 0, 0] inb_S128x8x128_S16x8x128_16_0_0)) (chunk P ![32, 0, 0] inb_S128x8x128_S16x8x128_32_0_0) (chunk P ![48, 0, 0] inb_S128x8x128_S16x8x128_48_0_0)
    (chunk P ![64, 0, 0] inb_S128x8x128_S16x8x128_64_0_0) (chunk P ![80, 0, 0] inb_S128x8x128_S16x8x128_80_0_0) (chunk P ![96, 0, 0] inb_S128x8x128_S16x8x128_96_0_0)) (chunk P ![112, 0, 0] inb_S128x8x128_S16x8x128_112_0_0)

/-- Sixteen rows as one block. -/
def rows16 (p : Fin 16 → FVec F S1x8x128 .f32) : Vec F S16x8x128 .f32 :=
  fun y => p (y 0) fun a => match a with | ⟨0, _⟩ => (0 : Fin 1) | ⟨1, _⟩ => y 1 | ⟨2, _⟩ => y 2

/-- The block of a step's sixteen sums. -/
def sumsBlk (P : Fin 16 → S128x8x128.Idx → Elt F .f32) : Vec F S16x8x128 .f32 := rows16 fun k => rowSum (P k)

theorem row_pick (v : View sig .tc .vmem S16x8x128 .f32) (f : v.ty.Contents (Elt F)) (k : Nat) (off : Fin 3 → Nat) (ho : off = ![k, 0, 0])
    (inb : ∀ a, off a + S1x8x128.size a ≤ S16x8x128.size a) (p : FVec F S1x8x128 .f32) (L : List (View.Piece (Elt F) S16x8x128 .f32)) (y : S16x8x128.Idx) :
    v.read (Elt F) (v.writes (Elt F) f ((⟨Rect.unit (s := S16x8x128) off S1x8x128.size inb, p⟩ : View.Piece (Elt F) S16x8x128 .f32) :: L)) y
      = if (y 0).val = k then p (fun a => match a with | ⟨0, _⟩ => (0 : Fin 1) | ⟨1, _⟩ => y 1 | ⟨2, _⟩ => y 2)
        else v.read (Elt F) (v.writes (Elt F) f L) y := by
  by_cases hk : (y 0).val = k
  · rw [if_pos hk]
    refine View.read_writes_cons_unit_of_mem v f inb p L y _ ho fun a => ?_
    match a with
    | ⟨0, _⟩ => exact hk
    | ⟨1, _⟩ => exact (Nat.zero_add _).symm
    | ⟨2, _⟩ => exact (Nat.zero_add _).symm
  · rw [if_neg hk]
    refine View.read_writes_cons_unit_of_not_mem v f inb p L y ho 0 ?_
    show (y 0).val < k ∨ k + 1 ≤ (y 0).val
    omega

/-- Sixteen rows stored one after the other read as the block. -/
theorem read_rows16 (v : View sig .tc .vmem S16x8x128 .f32) (f : v.ty.Contents (Elt F)) (p0 p1 p2 p3 p4 p5 p6 p7 p8 p9 p10 p11 p12 p13 p14 p15 : FVec F S1x8x128 .f32) (p : Fin 16 → FVec F S1x8x128 .f32)
    (h0 : p0 = p 0) (h1 : p1 = p 1) (h2 : p2 = p 2) (h3 : p3 = p 3) (h4 : p4 = p 4) (h5 : p5 = p 5) (h6 : p6 = p 6) (h7 : p7 = p 7) (h8 : p8 = p 8) (h9 : p9 = p 9) (h10 : p10 = p 10) (h11 : p11 = p 11) (h12 : p12 = p 12) (h13 : p13 = p 13) (h14 : p14 = p 14) (h15 : p15 = p 15) :
    v.read (Elt F) (v.writes (Elt F) f [(⟨Rect.unit (s := S16x8x128) ![15, 0, 0] S1x8x128.size inb_S16x8x128_S1x8x128_15_0_0, p15⟩ : View.Piece (Elt F) S16x8x128 .f32), (⟨Rect.unit (s := S16x8x128) ![14, 0, 0] S1x8x128.size inb_S16x8x128_S1x8x128_14_0_0, p14⟩ : View.Piece (Elt F) S16x8x128 .f32), (⟨Rect.unit (s := S16x8x128) ![13, 0, 0] S1x8x128.size inb_S16x8x128_S1x8x128_13_0_0, p13⟩ : View.Piece (Elt F) S16x8x128 .f32), (⟨Rect.unit (s := S16x8x128) ![12, 0, 0] S1x8x128.size inb_S16x8x128_S1x8x128_12_0_0, p12⟩ : View.Piece (Elt F) S16x8x128 .f32), (⟨Rect.unit (s := S16x8x128) ![11, 0, 0] S1x8x128.size inb_S16x8x128_S1x8x128_11_0_0, p11⟩ : View.Piece (Elt F) S16x8x128 .f32), (⟨Rect.unit (s := S16x8x128) ![10, 0, 0] S1x8x128.size inb_S16x8x128_S1x8x128_10_0_0, p10⟩ : View.Piece (Elt F) S16x8x128 .f32), (⟨Rect.unit (s := S16x8x128) ![9, 0, 0] S1x8x128.size inb_S16x8x128_S1x8x128_9_0_0, p9⟩ : View.Piece (Elt F) S16x8x128 .f32), (⟨Rect.unit (s := S16x8x128) ![8, 0, 0] S1x8x128.size inb_S16x8x128_S1x8x128_8_0_0, p8⟩ : View.Piece (Elt F) S16x8x128 .f32), (⟨Rect.unit (s := S16x8x128) ![7, 0, 0] S1x8x128.size inb_S16x8x128_S1x8x128_7_0_0, p7⟩ : View.Piece (Elt F) S16x8x128 .f32), (⟨Rect.unit (s := S16x8x128) ![6, 0, 0] S1x8x128.size inb_S16x8x128_S1x8x128_6_0_0, p6⟩ : View.Piece (Elt F) S16x8x128 .f32), (⟨Rect.unit (s := S16x8x128) ![5, 0, 0] S1x8x128.size inb_S16x8x128_S1x8x128_5_0_0, p5⟩ : View.Piece (Elt F) S16x8x128 .f32), (⟨Rect.unit (s := S16x8x128) ![4, 0, 0] S1x8x128.size inb_S16x8x128_S1x8x128_4_0_0, p4⟩ : View.Piece (Elt F) S16x8x128 .f32), (⟨Rect.unit (s := S16x8x128) ![3, 0, 0] S1x8x128.size inb_S16x8x128_S1x8x128_3_0_0, p3⟩ : View.Piece (Elt F) S16x8x128 .f32), (⟨Rect.unit (s := S16x8x128) ![2, 0, 0] S1x8x128.size inb_S16x8x128_S1x8x128_2_0_0, p2⟩ : View.Piece (Elt F) S16x8x128 .f32), (⟨Rect.unit (s := S16x8x128) ![1, 0, 0] S1x8x128.size inb_S16x8x128_S1x8x128_1_0_0, p1⟩ : View.Piece (Elt F) S16x8x128 .f32), (⟨Rect.unit (s := S16x8x128) ![0, 0, 0] S1x8x128.size inb_S16x8x128_S1x8x128_0_0_0, p0⟩ : View.Piece (Elt F) S16x8x128 .f32)]) = rows16 p := by
  subst h0 h1 h2 h3 h4 h5 h6 h7 h8 h9 h10 h11 h12 h13 h14 h15
  funext y
  have hy := (y 0).isLt
  have hlt : (y 0).val < 16 := hy
  have hy0 : ∀ k : Fin 16, (y 0).val = k.val → p (y 0) = p k := fun k h => congrArg p (Fin.ext h)
  unfold rows16
  rw [row_pick v f 15 _ rfl]
  by_cases a15 : (y 0).val = 15
  · rw [if_pos a15]; exact congrFun (hy0 15 a15).symm _
  rw [if_neg a15]
  rw [row_pick v f 14 _ rfl]
  by_cases a14 : (y 0).val = 14
  · rw [if_pos a14]; exact congrFun (hy0 14 a14).symm _
  rw [if_neg a14]
  rw [row_pick v f 13 _ rfl]
  by_cases a13 : (y 0).val = 13
  · rw [if_pos a13]; exact congrFun (hy0 13 a13).symm _
  rw [if_neg a13]
  rw [row_pick v f 12 _ rfl]
  by_cases a12 : (y 0).val = 12
  · rw [if_pos a12]; exact congrFun (hy0 12 a12).symm _
  rw [if_neg a12]
  rw [row_pick v f 11 _ rfl]
  by_cases a11 : (y 0).val = 11
  · rw [if_pos a11]; exact congrFun (hy0 11 a11).symm _
  rw [if_neg a11]
  rw [row_pick v f 10 _ rfl]
  by_cases a10 : (y 0).val = 10
  · rw [if_pos a10]; exact congrFun (hy0 10 a10).symm _
  rw [if_neg a10]
  rw [row_pick v f 9 _ rfl]
  by_cases a9 : (y 0).val = 9
  · rw [if_pos a9]; exact congrFun (hy0 9 a9).symm _
  rw [if_neg a9]
  rw [row_pick v f 8 _ rfl]
  by_cases a8 : (y 0).val = 8
  · rw [if_pos a8]; exact congrFun (hy0 8 a8).symm _
  rw [if_neg a8]
  rw [row_pick v f 7 _ rfl]
  by_cases a7 : (y 0).val = 7
  · rw [if_pos a7]; exact congrFun (hy0 7 a7).symm _
  rw [if_neg a7]
  rw [row_pick v f 6 _ rfl]
  by_cases a6 : (y 0).val = 6
  · rw [if_pos a6]; exact congrFun (hy0 6 a6).symm _
  rw [if_neg a6]
  rw [row_pick v f 5 _ rfl]
  by_cases a5 : (y 0).val = 5
  · rw [if_pos a5]; exact congrFun (hy0 5 a5).symm _
  rw [if_neg a5]
  rw [row_pick v f 4 _ rfl]
  by_cases a4 : (y 0).val = 4
  · rw [if_pos a4]; exact congrFun (hy0 4 a4).symm _
  rw [if_neg a4]
  rw [row_pick v f 3 _ rfl]
  by_cases a3 : (y 0).val = 3
  · rw [if_pos a3]; exact congrFun (hy0 3 a3).symm _
  rw [if_neg a3]
  rw [row_pick v f 2 _ rfl]
  by_cases a2 : (y 0).val = 2
  · rw [if_pos a2]; exact congrFun (hy0 2 a2).symm _
  rw [if_neg a2]
  rw [row_pick v f 1 _ rfl]
  by_cases a1 : (y 0).val = 1
  · rw [if_pos a1]; exact congrFun (hy0 1 a1).symm _
  rw [if_neg a1]
  rw [row_pick v f 0 _ rfl]
  by_cases a0 : (y 0).val = 0
  · rw [if_pos a0]; exact congrFun (hy0 0 a0).symm _
  rw [if_neg a0]
  omega

/-- What a ring page holds after its copy: the cache page. -/
theorem landed_read (c : Dev nD) (s : Fin 2) (k : Fin 16) (w : BitVec 32) (fc : Buf (Elt F) ((c : Thread nD τ).loc main_v9)) :
    (piece s k).view.read (Elt F) (landed c s k w fc) = pageVec c w fc :=
  View.read_writes_whole _ _ _

end Cert.Kernel3Ideal.Out
-- ==== Proof.OutSplit.lean ====
/- The first half of the kernel's body, cut where its conditions begin and end. -/
module

public import proofs.«01_k».proof.Proof.OutSums

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The grid point's number as the kernel computes it. -/
def numb (i : grid0.Coords) : BitVec 32 := BitVec.ofNat 32 (i 0).val

set_option cleanup.letToHave false in
/-- The first step's own sixteen copies. -/
def firstProg (i : grid0.Coords) (arg1 : Memref sig .tc .smem S512 .i32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg10 : Memref sig .tc .hbm S5120x128x8x128 .f32) (harg10 : arg10.IsWhole) (arg11 : Memref sig .tc .vmem S256x2048 .f32) (harg11 : arg11.IsWhole) (arg12 : Memref sig .tc .vmem S16x8x128 .f32) (harg12 : arg12.IsWhole) (arg13 : Memref sig .tc .vmem S2x16x128x8x128 .f32) (harg13 : arg13.IsWhole) (arg14 : DmaSems sig S2) (k0_h1 : k0_cond1 i = 1#1) : Prog (TpuEff nD τ sig (Elt F) Λ₀ .tc) PUnit := do
  let ⟨v998, k0_hw4⟩ : Σ' (v998 : Elt F .i32), k0_chk4 i v998 ← k0_part1 i arg1 harg1 arg2 harg2 arg3 harg3 arg4 harg4 arg5 harg5 arg6 harg6 arg7 harg7 arg8 harg8 arg9 harg9 arg10 harg10 arg11 harg11 arg12 harg12 arg13 harg13 arg14 k0_h1
  let ⟨v1019, k0_hw7⟩ : Σ' (v1019 : Elt F .i32), k0_chk7 i v1019 ← k0_part2 i arg1 harg1 arg2 harg2 arg3 harg3 arg4 harg4 arg5 harg5 arg6 harg6 arg7 harg7 arg8 harg8 arg9 harg9 arg10 harg10 arg11 harg11 arg12 harg12 arg13 harg13 arg14 k0_h1 v998 k0_hw4
  let ⟨v1040, k0_hw10⟩ : Σ' (v1040 : Elt F .i32), k0_chk10 i v1040 ← k0_part3 i arg1 harg1 arg2 harg2 arg3 harg3 arg4 harg4 arg5 harg5 arg6 harg6 arg7 harg7 arg8 harg8 arg9 harg9 arg10 harg10 arg11 harg11 arg12 harg12 arg13 harg13 arg14 k0_h1 v1019 k0_hw7
  let ⟨v1061, k0_hw13⟩ : Σ' (v1061 : Elt F .i32), k0_chk13 i v1061 ← k0_part4 i arg1 harg1 arg2 harg2 arg3 harg3 arg4 harg4 arg5 harg5 arg6 harg6 arg7 harg7 arg8 harg8 arg9 harg9 arg10 harg10 arg11 harg11 arg12 harg12 arg13 harg13 arg14 k0_h1 v1040 k0_hw10
  let ⟨v1082, k0_hw16⟩ : Σ' (v1082 : Elt F .i32), k0_chk16 i v1082 ← k0_part5 i arg1 harg1 arg2 harg2 arg3 harg3 arg4 harg4 arg5 harg5 arg6 harg6 arg7 harg7 arg8 harg8 arg9 harg9 arg10 harg10 arg11 harg11 arg12 harg12 arg13 harg13 arg14 k0_h1 v1061 k0_hw13
  let v1087 : Memref sig .tc .hbm S1x128x8x128 .f32 := arg10.slice (Rect.unit (s := S5120x128x8x128) (k0_off16 v1082) S1x128x8x128.size (k0_off16_inb i v1082 k0_hw16 k0_h1)) (fun _ => rfl)
  let v1088 : Memref sig .tc .hbm S128x8x128 .f32 := v1087.squeeze S128x8x128 squeezes_S1x128x8x128_S128x8x128
  let v1083 : DmaSems sig S1 := arg14.slice (Rect.unit (s := S2) ![0] S1.size inb_S2_S1_0)
  let v1084 : DmaSems sig S_ := v1083.squeeze S_ squeezes_S1_S_
  let v1085 : Memref sig .tc .vmem S1x1x128x8x128 .f32 := arg13.slice (Rect.unit (s := S2x16x128x8x128) ![0, 15, 0, 0, 0] S1x1x128x8x128.size inb_S2x16x128x8x128_S1x1x128x8x128_0_15_0_0_0) (fun _ => rfl)
  let v1086 : Memref sig .tc .vmem S128x8x128 .f32 := v1085.squeeze S128x8x128 squeezes_S1x1x128x8x128_S128x8x128
  Prog.lift (.enqueueDma v1088 (.here v1086) (.dma v1084.sem) ((View.wordExact_bits rfl).reshape _ _) ((View.wordExact_bits rfl).reshape _ _) ⟨Or.inl rfl, trivial⟩)
  pure ⟨⟩

set_option cleanup.letToHave false in
/-- The sixteen copies for the step after. -/
def nextProg (i : grid0.Coords) (arg1 : Memref sig .tc .smem S512 .i32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg10 : Memref sig .tc .hbm S5120x128x8x128 .f32) (harg10 : arg10.IsWhole) (arg11 : Memref sig .tc .vmem S256x2048 .f32) (harg11 : arg11.IsWhole) (arg12 : Memref sig .tc .vmem S16x8x128 .f32) (harg12 : arg12.IsWhole) (arg13 : Memref sig .tc .vmem S2x16x128x8x128 .f32) (harg13 : arg13.IsWhole) (arg14 : DmaSems sig S2) (arg0 v4 : BitVec 32) (k0_h2 : k0_cond2 i = 1#1) : Prog (TpuEff nD τ sig (Elt F) Λ₀ .tc) PUnit := do
  let ⟨v977, v1006⟩ : Σ' (v977 : BitVec 32), Elt F .i32 ← k0_part6 i arg1 harg1 arg2 harg2 arg3 harg3 arg4 harg4 arg5 harg5 arg6 harg6 arg7 harg7 arg8 harg8 arg9 harg9 arg10 harg10 arg11 harg11 arg12 harg12 arg13 harg13 arg14 arg0 v4 k0_h2
  let ⟨v1028, k0_hw21⟩ : Σ' (v1028 : Elt F .i32), k0_chk21 i v1028 ← k0_part7 i arg1 harg1 arg2 harg2 arg3 harg3 arg4 harg4 arg5 harg5 arg6 harg6 arg7 harg7 arg8 harg8 arg9 harg9 arg10 harg10 arg11 harg11 arg12 harg12 arg13 harg13 arg14 k0_h2 v977 v1006
  let ⟨v1061, k0_hw24⟩ : Σ' (v1061 : Elt F .i32), k0_chk24 i v1061 ← k0_part8 i arg1 harg1 arg2 harg2 arg3 harg3 arg4 harg4 arg5 harg5 arg6 harg6 arg7 harg7 arg8 harg8 arg9 harg9 arg10 harg10 arg11 harg11 arg12 harg12 arg13 harg13 arg14 k0_h2 v977 v1028 k0_hw21
  let v1091 : BitVec 32 ← k0_part9 i arg1 harg1 arg2 harg2 arg3 harg3 arg4 harg4 arg5 harg5 arg6 harg6 arg7 harg7 arg8 harg8 arg9 harg9 arg10 harg10 arg11 harg11 arg12 harg12 arg13 harg13 arg14 k0_h2 v977 v1061 k0_hw24
  let ⟨v1116, k0_hw29⟩ : Σ' (v1116 : Elt F .i32), k0_chk29 i v1116 ← k0_part10 i arg1 harg1 arg2 harg2 arg3 harg3 arg4 harg4 arg5 harg5 arg6 harg6 arg7 harg7 arg8 harg8 arg9 harg9 arg10 harg10 arg11 harg11 arg12 harg12 arg13 harg13 arg14 k0_h2 v977 v1091
  let ⟨v1149, k0_hw32⟩ : Σ' (v1149 : Elt F .i32), k0_chk32 i v1149 ← k0_part11 i arg1 harg1 arg2 harg2 arg3 harg3 arg4 harg4 arg5 harg5 arg6 harg6 arg7 harg7 arg8 harg8 arg9 harg9 arg10 harg10 arg11 harg11 arg12 harg12 arg13 harg13 arg14 k0_h2 v977 v1116 k0_hw29
  let v1150 : DmaSems sig S1 := arg14.slice (Rect.unit (s := S2) (k0_off78 i) S1.size (k0_off78_inb i k0_h2))
  let v1151 : DmaSems sig S_ := v1150.squeeze S_ squeezes_S1_S_
  let v1152 : Memref sig .tc .vmem S1x1x128x8x128 .f32 := arg13.slice (Rect.unit (s := S2x16x128x8x128) (k0_off79 i) S1x1x128x8x128.size (k0_off79_inb i k0_h2)) (fun _ => rfl)
  let v1153 : Memref sig .tc .vmem S128x8x128 .f32 := v1152.squeeze S128x8x128 squeezes_S1x1x128x8x128_S128x8x128
  let v1154 : Memref sig .tc .hbm S1x128x8x128 .f32 := arg10.slice (Rect.unit (s := S5120x128x8x128) (k0_off80 v1149) S1x128x8x128.size (k0_off80_inb i v1149 k0_hw32 k0_h2)) (fun _ => rfl)
  let v1155 : Memref sig .tc .hbm S128x8x128 .f32 := v1154.squeeze S128x8x128 squeezes_S1x128x8x128_S128x8x128
  Prog.lift (.enqueueDma v1155 (.here v1153) (.dma v1151.sem) ((View.wordExact_bits rfl).reshape _ _) ((View.wordExact_bits rfl).reshape _ _) ⟨Or.inl rfl, trivial⟩)
  pure ⟨⟩

set_option cleanup.letToHave false in
/-- The first loads of a step's product. -/
def loadProg (i : grid0.Coords) (arg1 : Memref sig .tc .smem S512 .i32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg10 : Memref sig .tc .hbm S5120x128x8x128 .f32) (harg10 : arg10.IsWhole) (arg11 : Memref sig .tc .vmem S256x2048 .f32) (harg11 : arg11.IsWhole) (arg12 : Memref sig .tc .vmem S16x8x128 .f32) (harg12 : arg12.IsWhole) (arg13 : Memref sig .tc .vmem S2x16x128x8x128 .f32) (harg13 : arg13.IsWhole) (arg14 : DmaSems sig S2) (arg0 : BitVec 32) : Prog (TpuEff nD τ sig (Elt F) Λ₀ .tc) (Σ' (arg0 : BitVec 32) (v22 : FVec F S256x2048 .f32) (v31 : FVec F S256x2048 .f32), Vec F S256x1024 .bf16) := do
  let v9 : Vec F S256x2048 .bf16 ← Prog.lift (.load arg4 (Rect.unit (s := S256x2048) ![0, 0] S256x2048.size inb_S256x2048_S256x2048_0_0).toLoadRect (View.loadsAt_vmem h_S256x2048))
  let v18 : Vec F S256x1024 .bf16 ← Prog.lift (.load arg2 (Rect.unit (s := S256x1024) ![0, 0] S256x1024.size inb_S256x1024_S256x1024_0_0).toLoadRect (View.loadsAt_vmem h_S256x1024))
  let v19 : Vec F S1024x2048 .bf16 ← Prog.lift (.load arg7 (Rect.unit (s := S1024x2048) ![0, 0] S1024x2048.size inb_S1024x2048_S1024x2048_0_0).toLoadRect (View.loadsAt_vmem h_S1024x2048))
  let v23 : Vec F S256x2048 .bf16 ← Prog.lift (.load arg5 (Rect.unit (s := S256x2048) ![0, 0] S256x2048.size inb_S256x2048_S256x2048_0_0).toLoadRect (View.loadsAt_vmem h_S256x2048))
  let v32 : Vec F S256x1024 .bf16 ← Prog.lift (.load arg3 (Rect.unit (s := S256x1024) ![0, 0] S256x1024.size inb_S256x1024_S256x1024_0_0).toLoadRect (View.loadsAt_vmem h_S256x1024))
  pure ⟨arg0, k0_pay2 v9 v18 v19, k0_pay3 v23, v32⟩

set_option maxRecDepth 65536 in
/-- The body's first half is these three, the first two under their conditions. -/
theorem part12_split (i : grid0.Coords) (arg1 : Memref sig .tc .smem S512 .i32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg10 : Memref sig .tc .hbm S5120x128x8x128 .f32) (harg10 : arg10.IsWhole) (arg11 : Memref sig .tc .vmem S256x2048 .f32) (harg11 : arg11.IsWhole) (arg12 : Memref sig .tc .vmem S16x8x128 .f32) (harg12 : arg12.IsWhole) (arg13 : Memref sig .tc .vmem S2x16x128x8x128 .f32) (harg13 : arg13.IsWhole) (arg14 : DmaSems sig S2) :
    k0_part12 (F := F) i arg1 harg1 arg2 harg2 arg3 harg3 arg4 harg4 arg5 harg5 arg6 harg6 arg7 harg7 arg8 harg8 arg9 harg9 arg10 harg10 arg11 harg11 arg12 harg12 arg13 harg13 arg14
      = (if h : k0_cond1 i = 1#1 then firstProg i arg1 harg1 arg2 harg2 arg3 harg3 arg4 harg4 arg5 harg5 arg6 harg6 arg7 harg7 arg8 harg8 arg9 harg9 arg10 harg10 arg11 harg11 arg12 harg12 arg13 harg13 arg14 h else pure ⟨⟩) >>= fun _ =>
        (if h : k0_cond2 i = 1#1 then nextProg i arg1 harg1 arg2 harg2 arg3 harg3 arg4 harg4 arg5 harg5 arg6 harg6 arg7 harg7 arg8 harg8 arg9 harg9 arg10 harg10 arg11 harg11 arg12 harg12 arg13 harg13 arg14 (numb i) (Scalar.addi (Scalar.muli (numb i) 1#32) 0#32) h else pure ⟨⟩) >>= fun _ =>
        loadProg i arg1 harg1 arg2 harg2 arg3 harg3 arg4 harg4 arg5 harg5 arg6 harg6 arg7 harg7 arg8 harg8 arg9 harg9 arg10 harg10 arg11 harg11 arg12 harg12 arg13 harg13 arg14 (numb i) := by
  rw [k0_part12_eq_skeleton]
  unfold k0_part12_skel firstProg nextProg loadProg numb
  by_cases h1 : k0_cond1 i = 1#1 <;> by_cases h2 : k0_cond2 i = 1#1 <;>
    simp only [dif_pos, dif_neg, h1, h2, not_false_eq_true, bind_assoc, pure_bind, ↓reduceDIte]

/-- A load of a whole buffer reads what it holds. -/
theorem readAll {S : Shape} {e : EltTy} (v : View sig .tc .vmem S e) (f : v.ty.Contents (Elt F)) {off : Fin S.rank → Nat}
    (inb : ∀ a, off a + S.size a ≤ S.size a) (h : ∀ a, off a = 0) :
    View.readAt (Elt F) v (Rect.unit off S.size inb).toLoadRect f = v.read (Elt F) f := by
  rw [View.readAt_eq_ld, View.ld_unit_lit inb _ h]

set_option maxHeartbeats 2000000 in
/-- The first loads leave everything as it is. -/
theorem loads (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg11 : Memref sig .tc .vmem S256x2048 .f32) (harg11 : arg11.IsWhole) (arg12 : Memref sig .tc .vmem S16x8x128 .f32) (harg12 : arg12.IsWhole) (arg0 : BitVec 32)
    (ha hb : Vec F S256x1024 .bf16) (ga gb : Vec F S256x2048 .bf16) (wa : Vec F S1024x2048 .bf16)
    (K : (Σ' (arg0 : BitVec 32) (v22 : FVec F S256x2048 .f32) (v31 : FVec F S256x2048 .f32), Vec F S256x1024 .bf16) → sProp 𝕄) :
    iprop(owns (c : Thread nD τ) arg2 fullShare ha ∗ owns (c : Thread nD τ) arg3 fullShare hb ∗ owns (c : Thread nD τ) arg4 fullShare ga
        ∗ owns (c : Thread nD τ) arg5 fullShare gb ∗ owns (c : Thread nD τ) arg7 fullShare wa
        ∗ (iprop(owns (c : Thread nD τ) arg2 fullShare ha ∗ owns (c : Thread nD τ) arg3 fullShare hb ∗ owns (c : Thread nD τ) arg4 fullShare ga
          ∗ owns (c : Thread nD τ) arg5 fullShare gb ∗ owns (c : Thread nD τ) arg7 fullShare wa) -∗ K ⟨arg0, k0_pay2 ga ha wa, k0_pay3 gb, hb⟩))
      ⊢ wp frame (wpE (defs₀ (F := F)) Variants.none c none) Set.univ (loadProg i tblM (Memref.isWhole_whole _) arg2 harg2 arg3 harg3 arg4 harg4 arg5 harg5 arg6 harg6 arg7 harg7 arg8 harg8 arg9 harg9 cacheM (Memref.isWhole_whole _) arg11 harg11 arg12 harg12 ringM (Memref.isWhole_whole _) cc0_scratch1 arg0) K := by
  unfold loadProg owns
  iintro ⟨⟨%f2, %h2, H2⟩, ⟨%f3, %h3, H3⟩, ⟨%f4, %h4, H4⟩, ⟨%f5, %h5, H5⟩, ⟨%f7, %h7, H7⟩, Hk⟩
  sl_exec
  sl_step
  rw [show View.readAt (Elt F) arg4.view _ f4 = ga from (readAll arg4.view f4 inb_S256x2048_S256x2048_0_0 (by decide)).trans h4,
    show View.readAt (Elt F) arg2.view _ f2 = ha from (readAll arg2.view f2 inb_S256x1024_S256x1024_0_0 (by decide)).trans h2,
    show View.readAt (Elt F) arg7.view _ f7 = wa from (readAll arg7.view f7 inb_S1024x2048_S1024x2048_0_0 (by decide)).trans h7,
    show View.readAt (Elt F) arg5.view _ f5 = gb from (readAll arg5.view f5 inb_S256x2048_S256x2048_0_0 (by decide)).trans h5,
    show View.readAt (Elt F) arg3.view _ f3 = hb from (readAll arg3.view f3 inb_S256x1024_S256x1024_0_0 (by decide)).trans h3]
  iapply Hk
  isplitl [H2]
  · iexists f2; isplitr; ipureintro; exact h2
    iexact H2
  isplitl [H3]
  · iexists f3; isplitr; ipureintro; exact h3
    iexact H3
  isplitl [H4]
  · iexists f4; isplitr; ipureintro; exact h4
    iexact H4
  isplitl [H5]
  · iexists f5; isplitr; ipureintro; exact h5
    iexact H5
  iexists f7; isplitr; ipureintro; exact h7
  iexact H7

end Cert.Kernel3Ideal.Out
-- ==== Proof.OutLand.lean ====
/- The product of a step, the waits for a slot's sixteen pages and the sixteen sums stored from them. -/
module

public import proofs.«01_k».proof.Proof.OutSums
public import proofs.«01_k».proof.Proof.OutSplit

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
/-- From a slot's sixteen copies in flight: the product is stored, the pages come back and the sums' block is written. -/
theorem land (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg11 : Memref sig .tc .vmem S256x2048 .f32) (harg11 : arg11.IsWhole) (arg12 : Memref sig .tc .vmem S16x8x128 .f32) (harg12 : arg12.IsWhole) (arg0 : BitVec 32) (v22 : FVec F S256x2048 .f32) (v31 : FVec F S256x2048 .f32) (v32 : Vec F S256x1024 .bf16)
    (x : Vec F S256x2048 .f32) (wb : Vec F S1024x2048 .bf16) (wo : Vec F S2048x2048 .bf16)
    (w : Fin 16 → BitVec 32) (q : Fin 16 → PosShare TreeShare) (qt : PosShare TreeShare)
    (ft : Buf (Elt F) (tblM.view.loc (c : Thread nD τ))) (fc : Buf (Elt F) ((c : Thread nD τ).loc main_v9))
    (hc0 : k0_chk33 (wordAt c ft (k0_off81 i) (k0_off81_inb i)))
    (hc1 : k0_chk34 (wordAt c ft (k0_off85 i) (k0_off85_inb i)))
    (hc2 : k0_chk35 (wordAt c ft (k0_off89 i) (k0_off89_inb i)))
    (hc3 : k0_chk36 (wordAt c ft (k0_off93 i) (k0_off93_inb i)))
    (hc4 : k0_chk37 (wordAt c ft (k0_off97 i) (k0_off97_inb i)))
    (hc5 : k0_chk38 (wordAt c ft (k0_off101 i) (k0_off101_inb i)))
    (hc6 : k0_chk39 (wordAt c ft (k0_off105 i) (k0_off105_inb i)))
    (hc7 : k0_chk40 (wordAt c ft (k0_off109 i) (k0_off109_inb i)))
    (hc8 : k0_chk41 (wordAt c ft (k0_off113 i) (k0_off113_inb i)))
    (hc9 : k0_chk42 (wordAt c ft (k0_off117 i) (k0_off117_inb i)))
    (hc10 : k0_chk43 (wordAt c ft (k0_off121 i) (k0_off121_inb i)))
    (hc11 : k0_chk44 (wordAt c ft (k0_off125 i) (k0_off125_inb i)))
    (hc12 : k0_chk45 (wordAt c ft (k0_off129 i) (k0_off129_inb i)))
    (hc13 : k0_chk46 (wordAt c ft (k0_off133 i) (k0_off133_inb i)))
    (hc14 : k0_chk47 (wordAt c ft (k0_off137 i) (k0_off137_inb i)))
    (hc15 : k0_chk48 (wordAt c ft (k0_off141 i) (k0_off141_inb i)))
    (W : Waits sig Unit) (K : PUnit → sProp 𝕄) :
    iprop(flights c (slotW i) w q fc 16 ∗ heldT c qt ft ∗ (∃ d, owns (c : Thread nD τ) arg12 fullShare d) ∗ owes (c : Thread nD τ) 0 W
        ∗ owns (c : Thread nD τ) arg6 fullShare x ∗ owns (c : Thread nD τ) arg8 fullShare wb ∗ owns (c : Thread nD τ) arg9 fullShare wo
        ∗ (∃ d, owns (c : Thread nD τ) arg11 fullShare d)
        ∗ (iprop(own c (piece (slotW i) 0) fullShare (landed c (slotW i) 0 (w 0) fc) ∗ own c (piece (slotW i) 1) fullShare (landed c (slotW i) 1 (w 1) fc) ∗ own c (piece (slotW i) 2) fullShare (landed c (slotW i) 2 (w 2) fc) ∗ own c (piece (slotW i) 3) fullShare (landed c (slotW i) 3 (w 3) fc) ∗ own c (piece (slotW i) 4) fullShare (landed c (slotW i) 4 (w 4) fc) ∗ own c (piece (slotW i) 5) fullShare (landed c (slotW i) 5 (w 5) fc) ∗ own c (piece (slotW i) 6) fullShare (landed c (slotW i) 6 (w 6) fc) ∗ own c (piece (slotW i) 7) fullShare (landed c (slotW i) 7 (w 7) fc) ∗ own c (piece (slotW i) 8) fullShare (landed c (slotW i) 8 (w 8) fc) ∗ own c (piece (slotW i) 9) fullShare (landed c (slotW i) 9 (w 9) fc) ∗ own c (piece (slotW i) 10) fullShare (landed c (slotW i) 10 (w 10) fc) ∗ own c (piece (slotW i) 11) fullShare (landed c (slotW i) 11 (w 11) fc) ∗ own c (piece (slotW i) 12) fullShare (landed c (slotW i) 12 (w 12) fc) ∗ own c (piece (slotW i) 13) fullShare (landed c (slotW i) 13 (w 13) fc) ∗ own c (piece (slotW i) 14) fullShare (landed c (slotW i) 14 (w 14) fc) ∗ own c (piece (slotW i) 15) fullShare (landed c (slotW i) 15 (w 15) fc) ∗ own c (pageM (w 0)) (q 0) (asPage c (w 0) fc) ∗ own c (pageM (w 1)) (q 1) (asPage c (w 1) fc) ∗ own c (pageM (w 2)) (q 2) (asPage c (w 2) fc) ∗ own c (pageM (w 3)) (q 3) (asPage c (w 3) fc) ∗ own c (pageM (w 4)) (q 4) (asPage c (w 4) fc) ∗ own c (pageM (w 5)) (q 5) (asPage c (w 5) fc) ∗ own c (pageM (w 6)) (q 6) (asPage c (w 6) fc) ∗ own c (pageM (w 7)) (q 7) (asPage c (w 7) fc) ∗ own c (pageM (w 8)) (q 8) (asPage c (w 8) fc) ∗ own c (pageM (w 9)) (q 9) (asPage c (w 9) fc) ∗ own c (pageM (w 10)) (q 10) (asPage c (w 10) fc) ∗ own c (pageM (w 11)) (q 11) (asPage c (w 11) fc) ∗ own c (pageM (w 12)) (q 12) (asPage c (w 12) fc) ∗ own c (pageM (w 13)) (q 13) (asPage c (w 13) fc) ∗ own c (pageM (w 14)) (q 14) (asPage c (w 14) fc) ∗ own c (pageM (w 15)) (q 15) (asPage c (w 15) fc)
            ∗ semVal ((c : Thread nD τ), cell (slotW i)) 0 ∗ heldT c qt ft ∗ owns (c : Thread nD τ) arg12 fullShare (sumsBlk fun k => pageVec c (w k) fc)
            ∗ owns (c : Thread nD τ) arg6 fullShare x ∗ owns (c : Thread nD τ) arg8 fullShare wb ∗ owns (c : Thread nD τ) arg9 fullShare wo
            ∗ owns (c : Thread nD τ) arg11 fullShare (k0_pay4 v22 v31 v32 wb x wo)
            ∗ ∃ W', owes (c : Thread nD τ) 0 W') -∗ K ⟨⟩))
      ⊢ wp frame (wpE (defs₀ (F := F)) Variants.none c none) Set.univ
          (landProg i tblM (Memref.isWhole_whole _) arg2 harg2 arg3 harg3 arg4 harg4 arg5 harg5 arg6 harg6 arg7 harg7 arg8 harg8 arg9 harg9 cacheM (Memref.isWhole_whole _) arg11 harg11 arg12 harg12 ringM (Memref.isWhole_whole _) cc0_scratch1 arg0 v22 v31 v32) K := by
  unfold owns
  iintro ⟨HB, HT, ⟨%d, %f, -, HO⟩, HW, ⟨%f6, %h6, H6⟩, ⟨%f8, %h8, H8⟩, ⟨%f9, %h9, H9⟩, ⟨%d11, %f11, -, H11⟩, Hk⟩
  unfold landProg
  sl_exec (disch := (first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15))
  sl_step
  iapply Hk
  isplitl [HB_dst0]; · iexact HB_dst0
  isplitl [HB_dst1]; · iexact HB_dst1
  isplitl [HB_dst2]; · iexact HB_dst2
  isplitl [HB_dst3]; · iexact HB_dst3
  isplitl [HB_dst4]; · iexact HB_dst4
  isplitl [HB_dst5]; · iexact HB_dst5
  isplitl [HB_dst6]; · iexact HB_dst6
  isplitl [HB_dst7]; · iexact HB_dst7
  isplitl [HB_dst8]; · iexact HB_dst8
  isplitl [HB_dst9]; · iexact HB_dst9
  isplitl [HB_dst10]; · iexact HB_dst10
  isplitl [HB_dst11]; · iexact HB_dst11
  isplitl [HB_dst12]; · iexact HB_dst12
  isplitl [HB_dst13]; · iexact HB_dst13
  isplitl [HB_dst14]; · iexact HB_dst14
  isplitl [HB_dst15]; · iexact HB_dst15
  isplitl [HB_src0]; · iexact HB_src0
  isplitl [HB_src1]; · iexact HB_src1
  isplitl [HB_src2]; · iexact HB_src2
  isplitl [HB_src3]; · iexact HB_src3
  isplitl [HB_src4]; · iexact HB_src4
  isplitl [HB_src5]; · iexact HB_src5
  isplitl [HB_src6]; · iexact HB_src6
  isplitl [HB_src7]; · iexact HB_src7
  isplitl [HB_src8]; · iexact HB_src8
  isplitl [HB_src9]; · iexact HB_src9
  isplitl [HB_src10]; · iexact HB_src10
  isplitl [HB_src11]; · iexact HB_src11
  isplitl [HB_src12]; · iexact HB_src12
  isplitl [HB_src13]; · iexact HB_src13
  isplitl [HB_src14]; · iexact HB_src14
  isplitl [HB_src15]; · iexact HB_src15
  isplitl [HB]; · iexact HB
  isplitl [HT]; · iexact HT
  isplitl [HO]
  · iexists _
    isplitr
    rotate_left
    · iexact HO
    · ipureintro
      refine read_rows16 _ _ _ _ _ _ _ _ _ _ _ _ _ _ _ _ _ _ _ ?_ ?_ ?_ ?_ ?_ ?_ ?_ ?_ ?_ ?_ ?_ ?_ ?_ ?_ ?_ ?_
      · exact congrArg rowSum (landed_read c (slotW i) 0 (w 0) fc)
      · exact congrArg rowSum (landed_read c (slotW i) 1 (w 1) fc)
      · exact congrArg rowSum (landed_read c (slotW i) 2 (w 2) fc)
      · exact congrArg rowSum (landed_read c (slotW i) 3 (w 3) fc)
      · exact congrArg rowSum (landed_read c (slotW i) 4 (w 4) fc)
      · exact congrArg rowSum (landed_read c (slotW i) 5 (w 5) fc)
      · exact congrArg rowSum (landed_read c (slotW i) 6 (w 6) fc)
      · exact congrArg rowSum (landed_read c (slotW i) 7 (w 7) fc)
      · exact congrArg rowSum (landed_read c (slotW i) 8 (w 8) fc)
      · exact congrArg rowSum (landed_read c (slotW i) 9 (w 9) fc)
      · exact congrArg rowSum (landed_read c (slotW i) 10 (w 10) fc)
      · exact congrArg rowSum (landed_read c (slotW i) 11 (w 11) fc)
      · exact congrArg rowSum (landed_read c (slotW i) 12 (w 12) fc)
      · exact congrArg rowSum (landed_read c (slotW i) 13 (w 13) fc)
      · exact congrArg rowSum (landed_read c (slotW i) 14 (w 14) fc)
      · exact congrArg rowSum (landed_read c (slotW i) 15 (w 15) fc)
  isplitl [H6]
  · iexists f6; isplitr; ipureintro; exact h6
    iexact H6
  isplitl [H8]
  · iexists f8; isplitr; ipureintro; exact h8
    iexact H8
  isplitl [H9]
  · iexists f9; isplitr; ipureintro; exact h9
    iexact H9
  isplitl [H11]
  · iexists _
    isplitr
    rotate_left
    · iexact H11
    · ipureintro
      refine (Cert.Whole.read_store _ _ _ (by decide) _).trans ?_
      rw [show View.readAt (Elt F) arg8.view _ f8 = wb from (readAll arg8.view f8 inb_S1024x2048_S1024x2048_0_0 (by decide)).trans h8,
        show View.readAt (Elt F) arg6.view _ f6 = x from (readAll arg6.view f6 inb_S256x2048_S256x2048_0_0 (by decide)).trans h6,
        show View.readAt (Elt F) arg9.view _ f9 = wo from (readAll arg9.view f9 inb_S2048x2048_S2048x2048_0_0 (by decide)).trans h9]
  iexists _
  iexact HW

end Cert.Kernel3Ideal.Out
-- ==== Proof.OutFirst.lean ====
/- The first step starts its own sixteen copies into slot 0. -/
module

public import proofs.«01_k».proof.Proof.OutSplit

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
/-- The first step starts its own sixteen copies into slot 0. -/
theorem first (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg11 : Memref sig .tc .vmem S256x2048 .f32) (harg11 : arg11.IsWhole) (arg12 : Memref sig .tc .vmem S16x8x128 .f32) (harg12 : arg12.IsWhole) (h1 : k0_cond1 i = 1#1)
    (w0 w1 w2 w3 w4 w5 w6 w7 w8 w9 w10 w11 w12 w13 w14 w15 : BitVec 32) (q : Fin 16 → PosShare TreeShare) (qt : PosShare TreeShare)
    (ft : Buf (Elt F) (tblM.view.loc (c : Thread nD τ))) (fc : Buf (Elt F) ((c : Thread nD τ).loc main_v9))
    (hw0 : wordAt c ft ![0] inb_S512_S1_0 = w0)
    (hw1 : wordAt c ft ![1] inb_S512_S1_1 = w1)
    (hw2 : wordAt c ft ![2] inb_S512_S1_2 = w2)
    (hw3 : wordAt c ft ![3] inb_S512_S1_3 = w3)
    (hw4 : wordAt c ft ![4] inb_S512_S1_4 = w4)
    (hw5 : wordAt c ft ![5] inb_S512_S1_5 = w5)
    (hw6 : wordAt c ft ![6] inb_S512_S1_6 = w6)
    (hw7 : wordAt c ft ![7] inb_S512_S1_7 = w7)
    (hw8 : wordAt c ft ![8] inb_S512_S1_8 = w8)
    (hw9 : wordAt c ft ![9] inb_S512_S1_9 = w9)
    (hw10 : wordAt c ft ![10] inb_S512_S1_10 = w10)
    (hw11 : wordAt c ft ![11] inb_S512_S1_11 = w11)
    (hw12 : wordAt c ft ![12] inb_S512_S1_12 = w12)
    (hw13 : wordAt c ft ![13] inb_S512_S1_13 = w13)
    (hw14 : wordAt c ft ![14] inb_S512_S1_14 = w14)
    (hw15 : wordAt c ft ![15] inb_S512_S1_15 = w15)
    (hc0 : k0_chk1 i w0)
    (hc1 : k0_chk2 i w1)
    (hc2 : k0_chk3 i w2)
    (hc3 : k0_chk4 i w3)
    (hc4 : k0_chk5 i w4)
    (hc5 : k0_chk6 i w5)
    (hc6 : k0_chk7 i w6)
    (hc7 : k0_chk8 i w7)
    (hc8 : k0_chk9 i w8)
    (hc9 : k0_chk10 i w9)
    (hc10 : k0_chk11 i w10)
    (hc11 : k0_chk12 i w11)
    (hc12 : k0_chk13 i w12)
    (hc13 : k0_chk14 i w13)
    (hc14 : k0_chk15 i w14)
    (hc15 : k0_chk16 i w15)
    (K : PUnit → sProp 𝕄) :
    iprop(((∃ f, own (F := F) c (piece 0 0) fullShare f) ∗ (∃ f, own (F := F) c (piece 0 1) fullShare f) ∗ (∃ f, own (F := F) c (piece 0 2) fullShare f) ∗ (∃ f, own (F := F) c (piece 0 3) fullShare f) ∗ (∃ f, own (F := F) c (piece 0 4) fullShare f) ∗ (∃ f, own (F := F) c (piece 0 5) fullShare f) ∗ (∃ f, own (F := F) c (piece 0 6) fullShare f) ∗ (∃ f, own (F := F) c (piece 0 7) fullShare f) ∗ (∃ f, own (F := F) c (piece 0 8) fullShare f) ∗ (∃ f, own (F := F) c (piece 0 9) fullShare f) ∗ (∃ f, own (F := F) c (piece 0 10) fullShare f) ∗ (∃ f, own (F := F) c (piece 0 11) fullShare f) ∗ (∃ f, own (F := F) c (piece 0 12) fullShare f) ∗ (∃ f, own (F := F) c (piece 0 13) fullShare f) ∗ (∃ f, own (F := F) c (piece 0 14) fullShare f) ∗ (∃ f, own (F := F) c (piece 0 15) fullShare f)) ∗ (own c (pageM w0) (q 0) (asPage c w0 fc) ∗ own c (pageM w1) (q 1) (asPage c w1 fc) ∗ own c (pageM w2) (q 2) (asPage c w2 fc) ∗ own c (pageM w3) (q 3) (asPage c w3 fc) ∗ own c (pageM w4) (q 4) (asPage c w4 fc) ∗ own c (pageM w5) (q 5) (asPage c w5 fc) ∗ own c (pageM w6) (q 6) (asPage c w6 fc) ∗ own c (pageM w7) (q 7) (asPage c w7 fc) ∗ own c (pageM w8) (q 8) (asPage c w8 fc) ∗ own c (pageM w9) (q 9) (asPage c w9 fc) ∗ own c (pageM w10) (q 10) (asPage c w10 fc) ∗ own c (pageM w11) (q 11) (asPage c w11 fc) ∗ own c (pageM w12) (q 12) (asPage c w12 fc) ∗ own c (pageM w13) (q 13) (asPage c w13 fc) ∗ own c (pageM w14) (q 14) (asPage c w14 fc) ∗ own c (pageM w15) (q 15) (asPage c w15 fc))
        ∗ heldT c qt ft ∗ flights c 0 ![w0, w1, w2, w3, w4, w5, w6, w7, w8, w9, w10, w11, w12, w13, w14, w15] q fc 0
        ∗ (iprop(heldT c qt ft ∗ flights c 0 ![w0, w1, w2, w3, w4, w5, w6, w7, w8, w9, w10, w11, w12, w13, w14, w15] q fc 16) -∗ K ⟨⟩))
      ⊢ wp frame (wpE (defs₀ (F := F)) Variants.none c none) Set.univ
          (firstProg i tblM (Memref.isWhole_whole _) arg2 harg2 arg3 harg3 arg4 harg4 arg5 harg5 arg6 harg6 arg7 harg7 arg8 harg8 arg9 harg9 cacheM (Memref.isWhole_whole _) arg11 harg11 arg12 harg12 ringM (Memref.isWhole_whole _) cc0_scratch1 h1) K := by
  unfold firstProg; rw [k0_part1_eq_skeleton, k0_part2_eq_skeleton, k0_part3_eq_skeleton, k0_part4_eq_skeleton, k0_part5_eq_skeleton]; unfold k0_part1_skel k0_part2_skel k0_part3_skel k0_part4_skel k0_part5_skel
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩, ⟨P0, P1, P2, P3, P4, P5, P6, P7, P8, P9, P10, P11, P12, P13, P14, P15⟩, HT, HB, Hk⟩
  subst hw0 hw1 hw2 hw3 hw4 hw5 hw6 hw7 hw8 hw9 hw10 hw11 hw12 hw13 hw14 hw15
  sl_exec (disch := (first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15))
  sl_step
  iapply Hk
  isplitl [HT]; · iexact HT
  iexact HB

end Cert.Kernel3Ideal.Out
-- ==== Proof.OutNext.lean ====
/- A step starts the sixteen copies of the step after. -/
module

public import proofs.«01_k».proof.Proof.OutSplit

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 8000000 in
/-- A step starts the sixteen copies of the step after. -/
theorem next (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg11 : Memref sig .tc .vmem S256x2048 .f32) (harg11 : arg11.IsWhole) (arg12 : Memref sig .tc .vmem S16x8x128 .f32) (harg12 : arg12.IsWhole) (arg0 v4 : BitVec 32) (h2 : k0_cond2 i = 1#1)
    (w0 w1 w2 w3 w4 w5 w6 w7 w8 w9 w10 w11 w12 w13 w14 w15 : BitVec 32) (q : Fin 16 → PosShare TreeShare) (qt : PosShare TreeShare)
    (ft : Buf (Elt F) (tblM.view.loc (c : Thread nD τ))) (fc : Buf (Elt F) ((c : Thread nD τ).loc main_v9))
    (hw0 : wordAt c ft (k0_off17 i) (k0_off17_inb i h2) = w0)
    (hw1 : wordAt c ft (k0_off21 i) (k0_off21_inb i h2) = w1)
    (hw2 : wordAt c ft (k0_off25 i) (k0_off25_inb i h2) = w2)
    (hw3 : wordAt c ft (k0_off29 i) (k0_off29_inb i h2) = w3)
    (hw4 : wordAt c ft (k0_off33 i) (k0_off33_inb i h2) = w4)
    (hw5 : wordAt c ft (k0_off37 i) (k0_off37_inb i h2) = w5)
    (hw6 : wordAt c ft (k0_off41 i) (k0_off41_inb i h2) = w6)
    (hw7 : wordAt c ft (k0_off45 i) (k0_off45_inb i h2) = w7)
    (hw8 : wordAt c ft (k0_off49 i) (k0_off49_inb i h2) = w8)
    (hw9 : wordAt c ft (k0_off53 i) (k0_off53_inb i h2) = w9)
    (hw10 : wordAt c ft (k0_off57 i) (k0_off57_inb i h2) = w10)
    (hw11 : wordAt c ft (k0_off61 i) (k0_off61_inb i h2) = w11)
    (hw12 : wordAt c ft (k0_off65 i) (k0_off65_inb i h2) = w12)
    (hw13 : wordAt c ft (k0_off69 i) (k0_off69_inb i h2) = w13)
    (hw14 : wordAt c ft (k0_off73 i) (k0_off73_inb i h2) = w14)
    (hw15 : wordAt c ft (k0_off77 i) (k0_off77_inb i h2) = w15)
    (hc0 : k0_chk17 i w0)
    (hc1 : k0_chk18 i w1)
    (hc2 : k0_chk19 i w2)
    (hc3 : k0_chk20 i w3)
    (hc4 : k0_chk21 i w4)
    (hc5 : k0_chk22 i w5)
    (hc6 : k0_chk23 i w6)
    (hc7 : k0_chk24 i w7)
    (hc8 : k0_chk25 i w8)
    (hc9 : k0_chk26 i w9)
    (hc10 : k0_chk27 i w10)
    (hc11 : k0_chk28 i w11)
    (hc12 : k0_chk29 i w12)
    (hc13 : k0_chk30 i w13)
    (hc14 : k0_chk31 i w14)
    (hc15 : k0_chk32 i w15)
    (K : PUnit → sProp 𝕄) :
    iprop(((∃ f, own (F := F) c (piece (slotL i) 0) fullShare f) ∗ (∃ f, own (F := F) c (piece (slotL i) 1) fullShare f) ∗ (∃ f, own (F := F) c (piece (slotL i) 2) fullShare f) ∗ (∃ f, own (F := F) c (piece (slotL i) 3) fullShare f) ∗ (∃ f, own (F := F) c (piece (slotL i) 4) fullShare f) ∗ (∃ f, own (F := F) c (piece (slotL i) 5) fullShare f) ∗ (∃ f, own (F := F) c (piece (slotL i) 6) fullShare f) ∗ (∃ f, own (F := F) c (piece (slotL i) 7) fullShare f) ∗ (∃ f, own (F := F) c (piece (slotL i) 8) fullShare f) ∗ (∃ f, own (F := F) c (piece (slotL i) 9) fullShare f) ∗ (∃ f, own (F := F) c (piece (slotL i) 10) fullShare f) ∗ (∃ f, own (F := F) c (piece (slotL i) 11) fullShare f) ∗ (∃ f, own (F := F) c (piece (slotL i) 12) fullShare f) ∗ (∃ f, own (F := F) c (piece (slotL i) 13) fullShare f) ∗ (∃ f, own (F := F) c (piece (slotL i) 14) fullShare f) ∗ (∃ f, own (F := F) c (piece (slotL i) 15) fullShare f)) ∗ (own c (pageM w0) (q 0) (asPage c w0 fc) ∗ own c (pageM w1) (q 1) (asPage c w1 fc) ∗ own c (pageM w2) (q 2) (asPage c w2 fc) ∗ own c (pageM w3) (q 3) (asPage c w3 fc) ∗ own c (pageM w4) (q 4) (asPage c w4 fc) ∗ own c (pageM w5) (q 5) (asPage c w5 fc) ∗ own c (pageM w6) (q 6) (asPage c w6 fc) ∗ own c (pageM w7) (q 7) (asPage c w7 fc) ∗ own c (pageM w8) (q 8) (asPage c w8 fc) ∗ own c (pageM w9) (q 9) (asPage c w9 fc) ∗ own c (pageM w10) (q 10) (asPage c w10 fc) ∗ own c (pageM w11) (q 11) (asPage c w11 fc) ∗ own c (pageM w12) (q 12) (asPage c w12 fc) ∗ own c (pageM w13) (q 13) (asPage c w13 fc) ∗ own c (pageM w14) (q 14) (asPage c w14 fc) ∗ own c (pageM w15) (q 15) (asPage c w15 fc))
        ∗ heldT c qt ft ∗ flights c (slotL i) ![w0, w1, w2, w3, w4, w5, w6, w7, w8, w9, w10, w11, w12, w13, w14, w15] q fc 0
        ∗ (iprop(heldT c qt ft ∗ flights c (slotL i) ![w0, w1, w2, w3, w4, w5, w6, w7, w8, w9, w10, w11, w12, w13, w14, w15] q fc 16) -∗ K ⟨⟩))
      ⊢ wp frame (wpE (defs₀ (F := F)) Variants.none c none) Set.univ
          (nextProg i tblM (Memref.isWhole_whole _) arg2 harg2 arg3 harg3 arg4 harg4 arg5 harg5 arg6 harg6 arg7 harg7 arg8 harg8 arg9 harg9 cacheM (Memref.isWhole_whole _) arg11 harg11 arg12 harg12 ringM (Memref.isWhole_whole _) cc0_scratch1 arg0 v4 h2) K := by
  unfold nextProg; rw [k0_part6_eq_skeleton, k0_part7_eq_skeleton, k0_part8_eq_skeleton, k0_part9_eq_skeleton, k0_part10_eq_skeleton, k0_part11_eq_skeleton]; unfold k0_part6_skel k0_part7_skel k0_part8_skel k0_part9_skel k0_part10_skel k0_part11_skel
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩, ⟨P0, P1, P2, P3, P4, P5, P6, P7, P8, P9, P10, P11, P12, P13, P14, P15⟩, HT, HB, Hk⟩
  subst hw0 hw1 hw2 hw3 hw4 hw5 hw6 hw7 hw8 hw9 hw10 hw11 hw12 hw13 hw14 hw15
  sl_exec (disch := (first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15))
  sl_step
  iapply Hk
  isplitl [HT]; · iexact HT
  iexact HB

end Cert.Kernel3Ideal.Out
-- ==== Proof.OutState.lean ====
/- The two states of a slot of the ring, and the launches and waits as steps between them. -/
module

public import proofs.«01_k».proof.Proof.OutWords
public import proofs.«01_k».proof.Proof.OutLand
public import proofs.«01_k».proof.Proof.OutFirst
public import proofs.«01_k».proof.Proof.OutNext

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The read share of the cache the copy into page `k` of slot `s` takes. -/
def tok (s : Fin 2) (k : Fin 16) : PosShare TreeShare := Transfers.shareTokN fullShare (16 * s.val + k.val)

/-- The cache held whole at a share. -/
abbrev atLeast (c : Dev nD) (q : PosShare TreeShare) (fc : Cache c F) : sProp 𝕄 := ((c : Thread nD τ).loc main_v9) ↦{q} fc

/-- The cache but for one page. -/
def restC (c : Dev nD) (w : BitVec 32) (q : PosShare TreeShare) (fc : Cache c F) : sProp 𝕄 :=
  (pageM w).view.loc (c : Thread nD τ) ↦[Finset.univ \ (pageM w).view.set]{q} (asPage c w fc)

theorem page_cut (c : Dev nD) (w : BitVec 32) (q : PosShare TreeShare) (fc : Cache c F) :
    (atLeast c q fc : sProp 𝕄) ⊢ iprop(own c (pageM w) q (asPage c w fc) ∗ restC c w q fc) :=
  (pointsTo_split_subset (ℓ := (pageM w).view.loc (c : Thread nD τ)) (Finset.subset_univ _)).1
theorem page_glue (c : Dev nD) (w : BitVec 32) (q : PosShare TreeShare) (fc : Cache c F) :
    iprop(own c (pageM w) q (asPage c w fc) ∗ restC c w q fc) ⊢ (atLeast c q fc : sProp 𝕄) :=
  (pointsTo_split_subset (ℓ := (pageM w).view.loc (c : Thread nD τ)) (Finset.subset_univ _)).2

/-- A slot at rest: its pages at anything, its semaphore at zero, its sixteen read shares of the cache whole. -/
def calm (c : Dev nD) (s : Fin 2) (fc : Cache c F) : sProp 𝕄 :=
  iprop(((∃ f, own (F := F) c (piece s 0) fullShare f) ∗ (∃ f, own (F := F) c (piece s 1) fullShare f) ∗ (∃ f, own (F := F) c (piece s 2) fullShare f) ∗ (∃ f, own (F := F) c (piece s 3) fullShare f) ∗ (∃ f, own (F := F) c (piece s 4) fullShare f) ∗ (∃ f, own (F := F) c (piece s 5) fullShare f) ∗ (∃ f, own (F := F) c (piece s 6) fullShare f) ∗ (∃ f, own (F := F) c (piece s 7) fullShare f) ∗ (∃ f, own (F := F) c (piece s 8) fullShare f) ∗ (∃ f, own (F := F) c (piece s 9) fullShare f) ∗ (∃ f, own (F := F) c (piece s 10) fullShare f) ∗ (∃ f, own (F := F) c (piece s 11) fullShare f) ∗ (∃ f, own (F := F) c (piece s 12) fullShare f) ∗ (∃ f, own (F := F) c (piece s 13) fullShare f) ∗ (∃ f, own (F := F) c (piece s 14) fullShare f) ∗ (∃ f, own (F := F) c (piece s 15) fullShare f)) ∗ semVal ((c : Thread nD τ), cell s) 0 ∗ (atLeast c (tok s 0) fc ∗ atLeast c (tok s 1) fc ∗ atLeast c (tok s 2) fc ∗ atLeast c (tok s 3) fc ∗ atLeast c (tok s 4) fc ∗ atLeast c (tok s 5) fc ∗ atLeast c (tok s 6) fc ∗ atLeast c (tok s 7) fc ∗ atLeast c (tok s 8) fc ∗ atLeast c (tok s 9) fc ∗ atLeast c (tok s 10) fc ∗ atLeast c (tok s 11) fc ∗ atLeast c (tok s 12) fc ∗ atLeast c (tok s 13) fc ∗ atLeast c (tok s 14) fc ∗ atLeast c (tok s 15) fc))

/-- A slot being filled with the pages `w`. -/
def busy (c : Dev nD) (s : Fin 2) (w : Fin 16 → BitVec 32) (fc : Cache c F) : sProp 𝕄 :=
  iprop(flights c s w (tok s) fc 16 ∗ (restC c (w 0) (tok s 0) fc ∗ restC c (w 1) (tok s 1) fc ∗ restC c (w 2) (tok s 2) fc ∗ restC c (w 3) (tok s 3) fc ∗ restC c (w 4) (tok s 4) fc ∗ restC c (w 5) (tok s 5) fc ∗ restC c (w 6) (tok s 6) fc ∗ restC c (w 7) (tok s 7) fc ∗ restC c (w 8) (tok s 8) fc ∗ restC c (w 9) (tok s 9) fc ∗ restC c (w 10) (tok s 10) fc ∗ restC c (w 11) (tok s 11) fc ∗ restC c (w 12) (tok s 12) fc ∗ restC c (w 13) (tok s 13) fc ∗ restC c (w 14) (tok s 14) fc ∗ restC c (w 15) (tok s 15) fc))

set_option maxHeartbeats 4000000 in
/-- Starting a slot's copies. -/
theorem first_calm (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg11 : Memref sig .tc .vmem S256x2048 .f32) (harg11 : arg11.IsWhole) (arg12 : Memref sig .tc .vmem S16x8x128 .f32) (harg12 : arg12.IsWhole) (h1 : k0_cond1 i = 1#1) (qt : PosShare TreeShare)
    (ft : Buf (Elt F) (tblM.view.loc (c : Thread nD τ))) (fc : Cache c F) (hft : ∀ n, (word c ft n).toNat < 5120) (K : PUnit → sProp 𝕄) :
    iprop(calm c 0 fc ∗ heldT c qt ft ∗ (iprop(heldT c qt ft ∗ busy c 0 (words c ft 0) fc) -∗ K ⟨⟩))
      ⊢ wp frame (wpE (defs₀ (F := F)) Variants.none c none) Set.univ (firstProg i tblM (Memref.isWhole_whole _) arg2 harg2 arg3 harg3 arg4 harg4 arg5 harg5 arg6 harg6 arg7 harg7 arg8 harg8 arg9 harg9 cacheM (Memref.isWhole_whole _) arg11 harg11 arg12 harg12 ringM (Memref.isWhole_whole _) cc0_scratch1 h1) K := by
  unfold calm
  iintro ⟨⟨HP, HS, ⟨C0, C1, C2, C3, C4, C5, C6, C7, C8, C9, C10, C11, C12, C13, C14, C15⟩⟩, HT, Hk⟩
  imod (Transfers.batch_alloc' (Lvl := ℕ) (countersEmb (U := Pipeline.UD sig nD τ)) (c : Thread nD τ) () (credit 0) (deliv c 0 (words c ft 0) (tok 0) fc)
    (sm := cell 0) (E := Set.univ)) $$ HS with HB
  ihave C0 := (page_cut c (words c ft 0 0) (tok 0 0) fc) $$ C0
  icases C0 with ⟨G0, R0⟩
  ihave C1 := (page_cut c (words c ft 0 1) (tok 0 1) fc) $$ C1
  icases C1 with ⟨G1, R1⟩
  ihave C2 := (page_cut c (words c ft 0 2) (tok 0 2) fc) $$ C2
  icases C2 with ⟨G2, R2⟩
  ihave C3 := (page_cut c (words c ft 0 3) (tok 0 3) fc) $$ C3
  icases C3 with ⟨G3, R3⟩
  ihave C4 := (page_cut c (words c ft 0 4) (tok 0 4) fc) $$ C4
  icases C4 with ⟨G4, R4⟩
  ihave C5 := (page_cut c (words c ft 0 5) (tok 0 5) fc) $$ C5
  icases C5 with ⟨G5, R5⟩
  ihave C6 := (page_cut c (words c ft 0 6) (tok 0 6) fc) $$ C6
  icases C6 with ⟨G6, R6⟩
  ihave C7 := (page_cut c (words c ft 0 7) (tok 0 7) fc) $$ C7
  icases C7 with ⟨G7, R7⟩
  ihave C8 := (page_cut c (words c ft 0 8) (tok 0 8) fc) $$ C8
  icases C8 with ⟨G8, R8⟩
  ihave C9 := (page_cut c (words c ft 0 9) (tok 0 9) fc) $$ C9
  icases C9 with ⟨G9, R9⟩
  ihave C10 := (page_cut c (words c ft 0 10) (tok 0 10) fc) $$ C10
  icases C10 with ⟨G10, R10⟩
  ihave C11 := (page_cut c (words c ft 0 11) (tok 0 11) fc) $$ C11
  icases C11 with ⟨G11, R11⟩
  ihave C12 := (page_cut c (words c ft 0 12) (tok 0 12) fc) $$ C12
  icases C12 with ⟨G12, R12⟩
  ihave C13 := (page_cut c (words c ft 0 13) (tok 0 13) fc) $$ C13
  icases C13 with ⟨G13, R13⟩
  ihave C14 := (page_cut c (words c ft 0 14) (tok 0 14) fc) $$ C14
  icases C14 with ⟨G14, R14⟩
  ihave C15 := (page_cut c (words c ft 0 15) (tok 0 15) fc) $$ C15
  icases C15 with ⟨G15, R15⟩
  iapply (first c i arg2 harg2 arg3 harg3 arg4 harg4 arg5 harg5 arg6 harg6 arg7 harg7 arg8 harg8 arg9 harg9 arg11 harg11 arg12 harg12 h1 _ _ _ _ _ _ _ _ _ _ _ _ _ _ _ _ (tok 0) qt ft fc
    (word_at c ft (16 * 0 + 0) _ _ rfl) (word_at c ft (16 * 0 + 1) _ _ rfl) (word_at c ft (16 * 0 + 2) _ _ rfl) (word_at c ft (16 * 0 + 3) _ _ rfl) (word_at c ft (16 * 0 + 4) _ _ rfl) (word_at c ft (16 * 0 + 5) _ _ rfl) (word_at c ft (16 * 0 + 6) _ _ rfl) (word_at c ft (16 * 0 + 7) _ _ rfl) (word_at c ft (16 * 0 + 8) _ _ rfl) (word_at c ft (16 * 0 + 9) _ _ rfl) (word_at c ft (16 * 0 + 10) _ _ rfl) (word_at c ft (16 * 0 + 11) _ _ rfl) (word_at c ft (16 * 0 + 12) _ _ rfl) (word_at c ft (16 * 0 + 13) _ _ rfl) (word_at c ft (16 * 0 + 14) _ _ rfl) (word_at c ft (16 * 0 + 15) _ _ rfl)
    (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) K)
  isplitl [HP]; · iexact HP
  isplitl [G0 G1 G2 G3 G4 G5 G6 G7 G8 G9 G10 G11 G12 G13 G14 G15]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    iexact G15
  isplitl [HT]; · iexact HT
  isplitl [HB]; · iexact HB
  iintro ⟨HT, HB⟩
  iapply Hk
  isplitl [HT]; · iexact HT
  unfold busy
  isplitl [HB]; · iexact HB
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

set_option maxHeartbeats 4000000 in
/-- Starting a slot's copies. -/
theorem next_calm (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg11 : Memref sig .tc .vmem S256x2048 .f32) (harg11 : arg11.IsWhole) (arg12 : Memref sig .tc .vmem S16x8x128 .f32) (harg12 : arg12.IsWhole) (arg0 v4 : BitVec 32) (h2 : k0_cond2 i = 1#1) (qt : PosShare TreeShare)
    (ft : Buf (Elt F) (tblM.view.loc (c : Thread nD τ))) (fc : Cache c F) (hft : ∀ n, (word c ft n).toNat < 5120) (K : PUnit → sProp 𝕄) :
    iprop(calm c (slotL i) fc ∗ heldT c qt ft ∗ (iprop(heldT c qt ft ∗ busy c (slotL i) (words c ft (step i + 1)) fc) -∗ K ⟨⟩))
      ⊢ wp frame (wpE (defs₀ (F := F)) Variants.none c none) Set.univ (nextProg i tblM (Memref.isWhole_whole _) arg2 harg2 arg3 harg3 arg4 harg4 arg5 harg5 arg6 harg6 arg7 harg7 arg8 harg8 arg9 harg9 cacheM (Memref.isWhole_whole _) arg11 harg11 arg12 harg12 ringM (Memref.isWhole_whole _) cc0_scratch1 arg0 v4 h2) K := by
  unfold calm
  iintro ⟨⟨HP, HS, ⟨C0, C1, C2, C3, C4, C5, C6, C7, C8, C9, C10, C11, C12, C13, C14, C15⟩⟩, HT, Hk⟩
  imod (Transfers.batch_alloc' (Lvl := ℕ) (countersEmb (U := Pipeline.UD sig nD τ)) (c : Thread nD τ) () (credit (slotL i)) (deliv c (slotL i) (words c ft (step i + 1)) (tok (slotL i)) fc)
    (sm := cell (slotL i)) (E := Set.univ)) $$ HS with HB
  ihave C0 := (page_cut c (words c ft (step i + 1) 0) (tok (slotL i) 0) fc) $$ C0
  icases C0 with ⟨G0, R0⟩
  ihave C1 := (page_cut c (words c ft (step i + 1) 1) (tok (slotL i) 1) fc) $$ C1
  icases C1 with ⟨G1, R1⟩
  ihave C2 := (page_cut c (words c ft (step i + 1) 2) (tok (slotL i) 2) fc) $$ C2
  icases C2 with ⟨G2, R2⟩
  ihave C3 := (page_cut c (words c ft (step i + 1) 3) (tok (slotL i) 3) fc) $$ C3
  icases C3 with ⟨G3, R3⟩
  ihave C4 := (page_cut c (words c ft (step i + 1) 4) (tok (slotL i) 4) fc) $$ C4
  icases C4 with ⟨G4, R4⟩
  ihave C5 := (page_cut c (words c ft (step i + 1) 5) (tok (slotL i) 5) fc) $$ C5
  icases C5 with ⟨G5, R5⟩
  ihave C6 := (page_cut c (words c ft (step i + 1) 6) (tok (slotL i) 6) fc) $$ C6
  icases C6 with ⟨G6, R6⟩
  ihave C7 := (page_cut c (words c ft (step i + 1) 7) (tok (slotL i) 7) fc) $$ C7
  icases C7 with ⟨G7, R7⟩
  ihave C8 := (page_cut c (words c ft (step i + 1) 8) (tok (slotL i) 8) fc) $$ C8
  icases C8 with ⟨G8, R8⟩
  ihave C9 := (page_cut c (words c ft (step i + 1) 9) (tok (slotL i) 9) fc) $$ C9
  icases C9 with ⟨G9, R9⟩
  ihave C10 := (page_cut c (words c ft (step i + 1) 10) (tok (slotL i) 10) fc) $$ C10
  icases C10 with ⟨G10, R10⟩
  ihave C11 := (page_cut c (words c ft (step i + 1) 11) (tok (slotL i) 11) fc) $$ C11
  icases C11 with ⟨G11, R11⟩
  ihave C12 := (page_cut c (words c ft (step i + 1) 12) (tok (slotL i) 12) fc) $$ C12
  icases C12 with ⟨G12, R12⟩
  ihave C13 := (page_cut c (words c ft (step i + 1) 13) (tok (slotL i) 13) fc) $$ C13
  icases C13 with ⟨G13, R13⟩
  ihave C14 := (page_cut c (words c ft (step i + 1) 14) (tok (slotL i) 14) fc) $$ C14
  icases C14 with ⟨G14, R14⟩
  ihave C15 := (page_cut c (words c ft (step i + 1) 15) (tok (slotL i) 15) fc) $$ C15
  icases C15 with ⟨G15, R15⟩
  iapply (next c i arg2 harg2 arg3 harg3 arg4 harg4 arg5 harg5 arg6 harg6 arg7 harg7 arg8 harg8 arg9 harg9 arg11 harg11 arg12 harg12 arg0 v4 h2 _ _ _ _ _ _ _ _ _ _ _ _ _ _ _ _ (tok (slotL i)) qt ft fc
    (word_at c ft (16 * (step i + 1) + 0) _ _ (off17_eq i h2)) (word_at c ft (16 * (step i + 1) + 1) _ _ (off21_eq i h2)) (word_at c ft (16 * (step i + 1) + 2) _ _ (off25_eq i h2)) (word_at c ft (16 * (step i + 1) + 3) _ _ (off29_eq i h2)) (word_at c ft (16 * (step i + 1) + 4) _ _ (off33_eq i h2)) (word_at c ft (16 * (step i + 1) + 5) _ _ (off37_eq i h2)) (word_at c ft (16 * (step i + 1) + 6) _ _ (off41_eq i h2)) (word_at c ft (16 * (step i + 1) + 7) _ _ (off45_eq i h2)) (word_at c ft (16 * (step i + 1) + 8) _ _ (off49_eq i h2)) (word_at c ft (16 * (step i + 1) + 9) _ _ (off53_eq i h2)) (word_at c ft (16 * (step i + 1) + 10) _ _ (off57_eq i h2)) (word_at c ft (16 * (step i + 1) + 11) _ _ (off61_eq i h2)) (word_at c ft (16 * (step i + 1) + 12) _ _ (off65_eq i h2)) (word_at c ft (16 * (step i + 1) + 13) _ _ (off69_eq i h2)) (word_at c ft (16 * (step i + 1) + 14) _ _ (off73_eq i h2)) (word_at c ft (16 * (step i + 1) + 15) _ _ (off77_eq i h2))
    (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) (fun _ => page_ok _ (hft _)) K)
  isplitl [HP]; · iexact HP
  isplitl [G0 G1 G2 G3 G4 G5 G6 G7 G8 G9 G10 G11 G12 G13 G14 G15]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    iexact G15
  isplitl [HT]; · iexact HT
  isplitl [HB]; · iexact HB
  iintro ⟨HT, HB⟩
  iapply Hk
  isplitl [HT]; · iexact HT
  unfold busy
  isplitl [HB]; · iexact HB
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

set_option maxHeartbeats 4000000 in
/-- The product of a step, and waiting for a slot's copies and summing the pages. -/
theorem land_busy (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg11 : Memref sig .tc .vmem S256x2048 .f32) (harg11 : arg11.IsWhole) (arg12 : Memref sig .tc .vmem S16x8x128 .f32) (harg12 : arg12.IsWhole) (arg0 : BitVec 32) (v22 : FVec F S256x2048 .f32) (v31 : FVec F S256x2048 .f32) (v32 : Vec F S256x1024 .bf16)
    (x : Vec F S256x2048 .f32) (wb : Vec F S1024x2048 .bf16) (wo : Vec F S2048x2048 .bf16) (w : Fin 16 → BitVec 32) (qt : PosShare TreeShare)
    (ft : Buf (Elt F) (tblM.view.loc (c : Thread nD τ))) (fc : Cache c F) (hft : ∀ n, (word c ft n).toNat < 5120) (W : Waits sig Unit) (K : PUnit → sProp 𝕄) :
    iprop(busy c (slotW i) w fc ∗ heldT c qt ft ∗ (∃ d, owns (c : Thread nD τ) arg12 fullShare d) ∗ owes (c : Thread nD τ) 0 W
        ∗ owns (c : Thread nD τ) arg6 fullShare x ∗ owns (c : Thread nD τ) arg8 fullShare wb ∗ owns (c : Thread nD τ) arg9 fullShare wo ∗ (∃ d, owns (c : Thread nD τ) arg11 fullShare d)
        ∗ (iprop(calm c (slotW i) fc ∗ heldT c qt ft ∗ owns (c : Thread nD τ) arg12 fullShare (sumsBlk fun k => pageVec c (w k) fc)
          ∗ owns (c : Thread nD τ) arg6 fullShare x ∗ owns (c : Thread nD τ) arg8 fullShare wb ∗ owns (c : Thread nD τ) arg9 fullShare wo ∗ owns (c : Thread nD τ) arg11 fullShare (k0_pay4 v22 v31 v32 wb x wo) ∗ ∃ W', owes (c : Thread nD τ) 0 W') -∗ K ⟨⟩))
      ⊢ wp frame (wpE (defs₀ (F := F)) Variants.none c none) Set.univ (landProg i tblM (Memref.isWhole_whole _) arg2 harg2 arg3 harg3 arg4 harg4 arg5 harg5 arg6 harg6 arg7 harg7 arg8 harg8 arg9 harg9 cacheM (Memref.isWhole_whole _) arg11 harg11 arg12 harg12 ringM (Memref.isWhole_whole _) cc0_scratch1 arg0 v22 v31 v32) K := by
  unfold busy
  iintro ⟨⟨HB, ⟨R0, R1, R2, R3, R4, R5, R6, R7, R8, R9, R10, R11, R12, R13, R14, R15⟩⟩, HT, HO, HW, H6, H8, H9, H11, Hk⟩
  iapply (land c i arg2 harg2 arg3 harg3 arg4 harg4 arg5 harg5 arg6 harg6 arg7 harg7 arg8 harg8 arg9 harg9 arg11 harg11 arg12 harg12 arg0 v22 v31 v32 x wb wo w (tok (slotW i)) qt ft fc
    (page_ok _ (by rw [word_at c ft (16 * step i + 0) _ _ (off81_eq i)]; exact hft _))
    (page_ok _ (by rw [word_at c ft (16 * step i + 1) _ _ (off85_eq i)]; exact hft _))
    (page_ok _ (by rw [word_at c ft (16 * step i + 2) _ _ (off89_eq i)]; exact hft _))
    (page_ok _ (by rw [word_at c ft (16 * step i + 3) _ _ (off93_eq i)]; exact hft _))
    (page_ok _ (by rw [word_at c ft (16 * step i + 4) _ _ (off97_eq i)]; exact hft _))
    (page_ok _ (by rw [word_at c ft (16 * step i + 5) _ _ (off101_eq i)]; exact hft _))
    (page_ok _ (by rw [word_at c ft (16 * step i + 6) _ _ (off105_eq i)]; exact hft _))
    (page_ok _ (by rw [word_at c ft (16 * step i + 7) _ _ (off109_eq i)]; exact hft _))
    (page_ok _ (by rw [word_at c ft (16 * step i + 8) _ _ (off113_eq i)]; exact hft _))
    (page_ok _ (by rw [word_at c ft (16 * step i + 9) _ _ (off117_eq i)]; exact hft _))
    (page_ok _ (by rw [word_at c ft (16 * step i + 10) _ _ (off121_eq i)]; exact hft _))
    (page_ok _ (by rw [word_at c ft (16 * step i + 11) _ _ (off125_eq i)]; exact hft _))
    (page_ok _ (by rw [word_at c ft (16 * step i + 12) _ _ (off129_eq i)]; exact hft _))
    (page_ok _ (by rw [word_at c ft (16 * step i + 13) _ _ (off133_eq i)]; exact hft _))
    (page_ok _ (by rw [word_at c ft (16 * step i + 14) _ _ (off137_eq i)]; exact hft _))
    (page_ok _ (by rw [word_at c ft (16 * step i + 15) _ _ (off141_eq i)]; exact hft _)) W K)
  isplitl [HB]; · iexact HB
  isplitl [HT]; · iexact HT
  isplitl [HO]; · iexact HO
  isplitl [HW]; · iexact HW
  isplitl [H6]; · iexact H6
  isplitl [H8]; · iexact H8
  isplitl [H9]; · iexact H9
  isplitl [H11]; · iexact H11
  iintro ⟨P0, P1, P2, P3, P4, P5, P6, P7, P8, P9, P10, P11, P12, P13, P14, P15, G0, G1, G2, G3, G4, G5, G6, G7, G8, G9, G10, G11, G12, G13, G14, G15, HS, HT, HO, H6, H8, H9, H11, HW⟩
  iapply Hk
  isplitl [P0 G0 R0 P1 G1 R1 P2 G2 R2 P3 G3 R3 P4 G4 R4 P5 G5 R5 P6 G6 R6 P7 G7 R7 P8 G8 R8 P9 G9 R9 P10 G10 R10 P11 G11 R11 P12 G12 R12 P13 G13 R13 P14 G14 R14 P15 G15 R15 HS]
  · unfold calm
    isplitl [P0 P1 P2 P3 P4 P5 P6 P7 P8 P9 P10 P11 P12 P13 P14 P15]
    · isplitl [P0]; · iexists _; iexact P0
      isplitl [P1]; · iexists _; iexact P1
      isplitl [P2]; · iexists _; iexact P2
      isplitl [P3]; · iexists _; iexact P3
      isplitl [P4]; · iexists _; iexact P4
      isplitl [P5]; · iexists _; iexact P5
      isplitl [P6]; · iexists _; iexact P6
      isplitl [P7]; · iexists _; iexact P7
      isplitl [P8]; · iexists _; iexact P8
      isplitl [P9]; · iexists _; iexact P9
      isplitl [P10]; · iexists _; iexact P10
      isplitl [P11]; · iexists _; iexact P11
      isplitl [P12]; · iexists _; iexact P12
      isplitl [P13]; · iexists _; iexact P13
      isplitl [P14]; · iexists _; iexact P14
      iexists _; iexact P15
    isplitl [HS]; · iexact HS
    isplitl [G0 R0]; · iapply (page_glue c (w 0) (tok (slotW i) 0) fc); isplitl [G0] <;> iassumption
    isplitl [G1 R1]; · iapply (page_glue c (w 1) (tok (slotW i) 1) fc); isplitl [G1] <;> iassumption
    isplitl [G2 R2]; · iapply (page_glue c (w 2) (tok (slotW i) 2) fc); isplitl [G2] <;> iassumption
    isplitl [G3 R3]; · iapply (page_glue c (w 3) (tok (slotW i) 3) fc); isplitl [G3] <;> iassumption
    isplitl [G4 R4]; · iapply (page_glue c (w 4) (tok (slotW i) 4) fc); isplitl [G4] <;> iassumption
    isplitl [G5 R5]; · iapply (page_glue c (w 5) (tok (slotW i) 5) fc); isplitl [G5] <;> iassumption
    isplitl [G6 R6]; · iapply (page_glue c (w 6) (tok (slotW i) 6) fc); isplitl [G6] <;> iassumption
    isplitl [G7 R7]; · iapply (page_glue c (w 7) (tok (slotW i) 7) fc); isplitl [G7] <;> iassumption
    isplitl [G8 R8]; · iapply (page_glue c (w 8) (tok (slotW i) 8) fc); isplitl [G8] <;> iassumption
    isplitl [G9 R9]; · iapply (page_glue c (w 9) (tok (slotW i) 9) fc); isplitl [G9] <;> iassumption
    isplitl [G10 R10]; · iapply (page_glue c (w 10) (tok (slotW i) 10) fc); isplitl [G10] <;> iassumption
    isplitl [G11 R11]; · iapply (page_glue c (w 11) (tok (slotW i) 11) fc); isplitl [G11] <;> iassumption
    isplitl [G12 R12]; · iapply (page_glue c (w 12) (tok (slotW i) 12) fc); isplitl [G12] <;> iassumption
    isplitl [G13 R13]; · iapply (page_glue c (w 13) (tok (slotW i) 13) fc); isplitl [G13] <;> iassumption
    isplitl [G14 R14]; · iapply (page_glue c (w 14) (tok (slotW i) 14) fc); isplitl [G14] <;> iassumption
    iapply (page_glue c (w 15) (tok (slotW i) 15) fc); isplitl [G15] <;> iassumption
  isplitl [HT]; · iexact HT
  isplitl [HO]; · iexact HO
  isplitl [H6]; · iexact H6
  isplitl [H8]; · iexact H8
  isplitl [H9]; · iexact H9
  isplitl [H11]; · iexact H11
  iexact HW

end Cert.Kernel3Ideal.Out
-- ==== Proof.OutBody.lean ====
/- The whole body of a step, from the state of the ring before it to the state after it. -/
module

public import proofs.«01_k».proof.Proof.OutState

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ
/-- The ring before step `i`: nothing in flight at the first, its own pages in flight at every other. -/
def ringBefore (c : Dev nD) (i : grid0.Coords) (ft : Buf (Elt F) (tblM.view.loc (c : Thread nD τ))) (fc : Cache c F) : sProp 𝕄 :=
  if step i = 0 then iprop(calm c 0 fc ∗ calm c 1 fc) else iprop(busy c (slotW i) (words c ft (step i)) fc ∗ calm c (slotL i) fc)
/-- The other slot once the step after has been started. -/
def nextSlot (c : Dev nD) (i : grid0.Coords) (ft : Buf (Elt F) (tblM.view.loc (c : Thread nD τ))) (fc : Cache c F) : sProp 𝕄 :=
  if step i < 31 then busy c (slotL i) (words c ft (step i + 1)) fc else calm c (slotL i) fc

theorem first_if (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg11 : Memref sig .tc .vmem S256x2048 .f32) (harg11 : arg11.IsWhole) (arg12 : Memref sig .tc .vmem S16x8x128 .f32) (harg12 : arg12.IsWhole) (qt : PosShare TreeShare)
    (ft : Buf (Elt F) (tblM.view.loc (c : Thread nD τ))) (fc : Cache c F) (hft : ∀ n, (word c ft n).toNat < 5120) (K : PUnit → sProp 𝕄) :
    iprop(ringBefore c i ft fc ∗ heldT c qt ft
        ∗ (iprop(heldT c qt ft ∗ busy c (slotW i) (words c ft (step i)) fc ∗ calm c (slotL i) fc) -∗ K ⟨⟩))
      ⊢ wp frame (wpE (defs₀ (F := F)) Variants.none c none) Set.univ (if h : k0_cond1 i = 1#1 then firstProg i tblM (Memref.isWhole_whole _) arg2 harg2 arg3 harg3 arg4 harg4 arg5 harg5 arg6 harg6 arg7 harg7 arg8 harg8 arg9 harg9 cacheM (Memref.isWhole_whole _) arg11 harg11 arg12 harg12 ringM (Memref.isWhole_whole _) cc0_scratch1 h else pure ⟨⟩) K := by
  unfold ringBefore
  by_cases h0 : step i = 0
  · have h1 := (cond1_iff i).mpr h0
    have eW : slotW i = 0 := Fin.ext (by show step i % 2 = 0; rw [h0])
    have eL : slotL i = 1 := Fin.ext (by show (step i + 1) % 2 = 1; rw [h0])
    rw [dif_pos h1, if_pos h0, eW, eL, h0]
    iintro ⟨⟨H0, H1⟩, HT, Hk⟩
    iapply (first_calm c i arg2 harg2 arg3 harg3 arg4 harg4 arg5 harg5 arg6 harg6 arg7 harg7 arg8 harg8 arg9 harg9 arg11 harg11 arg12 harg12 h1 qt ft fc hft K)
    isplitl [H0]; · iexact H0
    isplitl [HT]; · iexact HT
    iintro ⟨HT, HB⟩
    iapply Hk
    isplitl [HT]; · iexact HT
    isplitl [HB]; · iexact HB
    iexact H1
  · have h1 : ¬ k0_cond1 i = 1#1 := fun e => h0 ((cond1_iff i).mp e)
    rw [dif_neg h1, if_neg h0, wp_pure]
    iintro ⟨⟨H0, H1⟩, HT, Hk⟩
    imodintro
    iapply Hk
    isplitl [HT]; · iexact HT
    isplitl [H0]; · iexact H0
    iexact H1

theorem next_if (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg11 : Memref sig .tc .vmem S256x2048 .f32) (harg11 : arg11.IsWhole) (arg12 : Memref sig .tc .vmem S16x8x128 .f32) (harg12 : arg12.IsWhole) (arg0 v4 : BitVec 32) (qt : PosShare TreeShare)
    (ft : Buf (Elt F) (tblM.view.loc (c : Thread nD τ))) (fc : Cache c F) (hft : ∀ n, (word c ft n).toNat < 5120) (K : PUnit → sProp 𝕄) :
    iprop(calm c (slotL i) fc ∗ heldT c qt ft ∗ (iprop(heldT c qt ft ∗ nextSlot c i ft fc) -∗ K ⟨⟩))
      ⊢ wp frame (wpE (defs₀ (F := F)) Variants.none c none) Set.univ (if h : k0_cond2 i = 1#1 then nextProg i tblM (Memref.isWhole_whole _) arg2 harg2 arg3 harg3 arg4 harg4 arg5 harg5 arg6 harg6 arg7 harg7 arg8 harg8 arg9 harg9 cacheM (Memref.isWhole_whole _) arg11 harg11 arg12 harg12 ringM (Memref.isWhole_whole _) cc0_scratch1 arg0 v4 h else pure ⟨⟩) K := by
  unfold nextSlot
  by_cases h0 : step i < 31
  · have h1 := (cond2_iff i).mpr h0
    rw [dif_pos h1, if_pos h0]
    exact next_calm c i arg2 harg2 arg3 harg3 arg4 harg4 arg5 harg5 arg6 harg6 arg7 harg7 arg8 harg8 arg9 harg9 arg11 harg11 arg12 harg12 arg0 v4 h1 qt ft fc hft K
  · have h1 : ¬ k0_cond2 i = 1#1 := fun e => h0 ((cond2_iff i).mp e)
    rw [dif_neg h1, if_neg h0, wp_pure]
    iintro ⟨H0, HT, Hk⟩
    imodintro
    iapply Hk
    isplitl [HT]; · iexact HT
    iexact H0

/-- The output block of a step, of its blocks of the inputs. -/
def yBlk (ha hb : Vec F S256x1024 .bf16) (ga gb : Vec F S256x2048 .bf16) (x : Vec F S256x2048 .f32) (wa wb : Vec F S1024x2048 .bf16) (wo : Vec F S2048x2048 .bf16) : Vec F S256x2048 .f32 :=
  k0_pay4 (k0_pay2 ga ha wa) (k0_pay3 gb) hb wb x wo

set_option maxHeartbeats 1000000 in
/-- A step of the body: the copies of the next step started, the block's product, and the step's pages waited for and summed. -/
theorem body (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x2048 .bf16) (harg9 : arg9.IsWhole) (arg11 : Memref sig .tc .vmem S256x2048 .f32) (harg11 : arg11.IsWhole) (arg12 : Memref sig .tc .vmem S16x8x128 .f32) (harg12 : arg12.IsWhole) (qt : PosShare TreeShare)
    (ft : Buf (Elt F) (tblM.view.loc (c : Thread nD τ))) (fc : Cache c F) (hft : ∀ n, (word c ft n).toNat < 5120)
    (ha hb : Vec F S256x1024 .bf16) (ga gb : Vec F S256x2048 .bf16) (x : Vec F S256x2048 .f32) (wa wb : Vec F S1024x2048 .bf16) (wo : Vec F S2048x2048 .bf16)
    (W : Waits sig Unit) (K : PUnit → sProp 𝕄) :
    iprop(ringBefore c i ft fc ∗ heldT c qt ft
        ∗ owns (c : Thread nD τ) arg2 fullShare ha ∗ owns (c : Thread nD τ) arg3 fullShare hb ∗ owns (c : Thread nD τ) arg4 fullShare ga ∗ owns (c : Thread nD τ) arg5 fullShare gb ∗ owns (c : Thread nD τ) arg6 fullShare x ∗ owns (c : Thread nD τ) arg7 fullShare wa ∗ owns (c : Thread nD τ) arg8 fullShare wb ∗ owns (c : Thread nD τ) arg9 fullShare wo
        ∗ (∃ d, owns (c : Thread nD τ) arg11 fullShare d) ∗ (∃ d, owns (c : Thread nD τ) arg12 fullShare d)
        ∗ owes (c : Thread nD τ) 0 W
        ∗ (iprop(calm c (slotW i) fc ∗ nextSlot c i ft fc ∗ heldT c qt ft
            ∗ owns (c : Thread nD τ) arg2 fullShare ha ∗ owns (c : Thread nD τ) arg3 fullShare hb ∗ owns (c : Thread nD τ) arg4 fullShare ga ∗ owns (c : Thread nD τ) arg5 fullShare gb ∗ owns (c : Thread nD τ) arg6 fullShare x ∗ owns (c : Thread nD τ) arg7 fullShare wa ∗ owns (c : Thread nD τ) arg8 fullShare wb ∗ owns (c : Thread nD τ) arg9 fullShare wo
            ∗ owns (c : Thread nD τ) arg11 fullShare (yBlk ha hb ga gb x wa wb wo)
            ∗ owns (c : Thread nD τ) arg12 fullShare (sumsBlk fun k => pageVec c (words c ft (step i) k) fc) ∗ ∃ W', owes (c : Thread nD τ) 0 W') -∗ K ⟨⟩))
      ⊢ wp frame (wpE (defs₀ (F := F)) Variants.none c none) Set.univ (cc0_out_proj_stream (F := F) i tblM (Memref.isWhole_whole _) arg2 harg2 arg3 harg3 arg4 harg4 arg5 harg5 arg6 harg6 arg7 harg7 arg8 harg8 arg9 harg9 cacheM (Memref.isWhole_whole _) arg11 harg11 arg12 harg12 ringM (Memref.isWhole_whole _) cc0_scratch1) K := by
  rw [body_split, part12_split, wp_bind, wp_bind]
  iintro ⟨HR, HT, H2, H3, H4, H5, H6, H7, H8, H9, H11, H12, HW, Hk⟩
  iapply (first_if c i arg2 harg2 arg3 harg3 arg4 harg4 arg5 harg5 arg6 harg6 arg7 harg7 arg8 harg8 arg9 harg9 arg11 harg11 arg12 harg12 qt ft fc hft _)
  isplitl [HR]; · iexact HR
  isplitl [HT]; · iexact HT
  iintro ⟨HT, HB, HL⟩
  rw [wp_bind]
  iapply (next_if c i arg2 harg2 arg3 harg3 arg4 harg4 arg5 harg5 arg6 harg6 arg7 harg7 arg8 harg8 arg9 harg9 arg11 harg11 arg12 harg12 _ _ qt ft fc hft _)
  isplitl [HL]; · iexact HL
  isplitl [HT]; · iexact HT
  iintro ⟨HT, HL⟩
  iapply (loads c i arg2 harg2 arg3 harg3 arg4 harg4 arg5 harg5 arg6 harg6 arg7 harg7 arg8 harg8 arg9 harg9 arg11 harg11 arg12 harg12 (numb i) ha hb ga gb wa _)
  isplitl [H2]; · iexact H2
  isplitl [H3]; · iexact H3
  isplitl [H4]; · iexact H4
  isplitl [H5]; · iexact H5
  isplitl [H7]; · iexact H7
  iintro ⟨H2, H3, H4, H5, H7⟩
  iapply (land_busy c i arg2 harg2 arg3 harg3 arg4 harg4 arg5 harg5 arg6 harg6 arg7 harg7 arg8 harg8 arg9 harg9 arg11 harg11 arg12 harg12 (numb i) (k0_pay2 ga ha wa) (k0_pay3 gb) hb x wb wo (words c ft (step i)) qt ft fc hft W K)
  isplitl [HB]; · iexact HB
  isplitl [HT]; · iexact HT
  isplitl [H12]; · iexact H12
  isplitl [HW]; · iexact HW
  isplitl [H6]; · iexact H6
  isplitl [H8]; · iexact H8
  isplitl [H9]; · iexact H9
  isplitl [H11]; · iexact H11
  iintro ⟨HB, HT, H12, H6, H8, H9, H11, HW⟩
  iapply Hk
  isplitl [HB]; · iexact HB
  isplitl [HL]; · iexact HL
  isplitl [HT]; · iexact HT
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  iexact HW

end Cert.Kernel3Ideal.Out
-- ==== Proof.OutKit.lean ====
/- The program up to its region: the arrays there, the page table's words, and each window's block. -/
module

public import proofs.«01_k».proof.Proof.OutBody
public import proofs.«01_k».proof.Proof.Gen.Kernel3Ideal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The stretches of host operations before the region. -/
abbrev hostAll : List (List (HloOp τ sig (Elt F))) := [hostOps0, hostOps0_1]

/-- Core `c`'s buffers when the region is entered. -/
abbrev V (c : Dev nD) (b : Ref sig .tc) : Buf (Elt F) ((c : Thread nD τ).loc b) := StableHlo.after hostAll.flatten (fun b => m (c, b)) b

theorem hostAll_fresh : (hostAll : List (List (HloOp τ sig (Elt F)))).Forall fun ops => ops.Forall fun op => op.fresh = ∅ := by
  simp only [List.Forall]; repeat' constructor

theorem hostAll_sub : (hostAll : List (List (HloOp τ sig (Elt F)))).Forall fun ops => ops.Forall fun op => op.bufs ⊆ StableHlo.tcRefs τ sig :=
  ⟨hostOps0_sub, hostOps0_1_sub⟩

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main hostAll hostAll_sub hostAll_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostAll, hostOps0, hostOps0_1, List.flatten_cons, List.flatten_nil, List.append_nil, List.cons_append,
      List.nil_append, List.Forall, StableHlo.TRef.unary, StableHlo.TRef.binary, StableHlo.nullary_writes, StableHlo.unary_writes, StableHlo.binary_writes, StableHlo.reshape_writes, Finset.mem_singleton]
    repeat' apply And.intro
    all_goals exact StableHlo.devRef_ne_of_ne (by decide)))
/-- The page table as the region finds it. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Window 2's blocks do not tile its array, but the two columns of blocks it reads lie inside. -/
theorem clip_2 : ∀ i : grid0.Coords, ∀ a, clip0_2 i a = none := by decide +kernel
theorem before_2_of {c : Dev nD} (dat : Dat τ (Elt F) Unit ℕ (Pipeline.UD sig nD τ) ℕ (cfgM m) c) (X : Fin (cfgM m).N → Vec F S256x2048 .bf16)
    (hafter : ∀ t, dat.after 2 t = X t) (hX : ∀ t, ((cfgM m).win 2).cut ((cfgM m).grid.coords t) (X t) = dat.blockOf 2 t)
    (t : Fin (cfgM m).N) (d) : dat.before 2 t d = X t := by
  refine (dat.before_in_eq_fetched 2 rfl (fun _ => rfl) (fun t t' _ => funext fun a => (clip_2 _ a).trans (clip_2 _ a).symm) (fun t => by rw [hafter]; exact hX t) t d).trans ?_
  exact (congrArg (((cfgM m).win 2).fill ((cfgM m).grid.coords t) d) (hX t).symm).trans
    ((Pipeline.fill_of_clip_none 2 _ (fun a => clip_2 _ a) d (X t) _).trans (Pipeline.Window.fill_cut ((cfgM m).win 2) _ (X t)))

/-- Window 3's blocks do not tile its array, but the two columns of blocks it reads lie inside. -/
theorem clip_3 : ∀ i : grid0.Coords, ∀ a, clip0_3 i a = none := by decide +kernel
theorem before_3_of {c : Dev nD} (dat : Dat τ (Elt F) Unit ℕ (Pipeline.UD sig nD τ) ℕ (cfgM m) c) (X : Fin (cfgM m).N → Vec F S256x2048 .bf16)
    (hafter : ∀ t, dat.after 3 t = X t) (hX : ∀ t, ((cfgM m).win 3).cut ((cfgM m).grid.coords t) (X t) = dat.blockOf 3 t)
    (t : Fin (cfgM m).N) (d) : dat.before 3 t d = X t := by
  refine (dat.before_in_eq_fetched 3 rfl (fun _ => rfl) (fun t t' _ => funext fun a => (clip_3 _ a).trans (clip_3 _ a).symm) (fun t => by rw [hafter]; exact hX t) t d).trans ?_
  exact (congrArg (((cfgM m).win 3).fill ((cfgM m).grid.coords t) d) (hX t).symm).trans
    ((Pipeline.fill_of_clip_none 3 _ (fun a => clip_3 _ a) d (X t) _).trans (Pipeline.Window.fill_cut ((cfgM m).win 3) _ (X t)))

theorem before_4_of {c : Dev nD} (dat : Dat τ (Elt F) Unit ℕ (Pipeline.UD sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (Pipeline.UD sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (Pipeline.UD sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7_of {c : Dev nD} (dat : Dat τ (Elt F) Unit ℕ (Pipeline.UD sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The kernel's own semaphores, one for each slot of the ring. -/
abbrev osem0 : Fin 2 → SemLoc sig := fun j => (![SemLoc.dma 17, SemLoc.dma 18] : Fin 2 → SemLoc sig) j
theorem ownSemFacts0 : Pipeline.OwnSemFacts spec0 osem0 := by decide
/-- The cache is the one array the body reads itself. -/
abbrev H0 : Finset (Ref sig .tc) := {main_v9}
theorem H0_sub : H0 ⊆ Pipeline.restRefsP sig pre0 spec0 := by decide
theorem ownSems_eq (c : Dev nD) : (Pipeline.ownSems0 (Ix := Unit) (Name := ℕ) (U := Pipeline.UD sig nD τ) (Lvl := ℕ) (Val := Elt F) osem0 c : sProp 𝕄)
    = iprop(semVal ((c : Thread nD τ), cell 0) 0 ∗ semVal ((c : Thread nD τ), cell 1) 0) := by
  rw [Pipeline.ownSems0_eq_of_list c osem0 [0, 1] (by decide) (by decide)]; rfl
theorem cache_eq (c : Dev nD) : (bigSep H0 (fun b => ((c : Thread nD τ).loc b) ↦{fullShare} V m c b) : sProp 𝕄) = atLeast c fullShare (V m c main_v9) := by
  rw [BI.bigSep_eq_bigSepL_of_eq [main_v9] (by decide) (by decide)]; rfl
theorem table_eq (c : Dev nD) : (Pipeline.ΦT pre0 (tbl m) c : sProp 𝕄) = heldT c fullShare.right (V m c main_v10) := by
  obtain rfl : c = 0 := Subsingleton.elim _ _
  unfold Pipeline.ΦT Pipeline.prefHeld
  rw [show (Finset.univ : Finset (Fin 1)) = {(0 : Fin 1)} from by decide, bigSep_singleton]; rfl

end Cert.Kernel3Ideal.Out
-- ==== Proof.OutBlocks.lean ====
/- Which part of its array each block of the pipeline is. -/
module

public import proofs.«01_k».proof.Proof.OutKit
public import Idealize.ShloMosaic.Lib.Pipeline.ValueKit
public import Idealize.ShloMosaic.Lib.Pointwise

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem step_coords : ∀ t : Fin grid0.N, step (grid0.coords t) = t.val := by decide +kernel
theorem index_0 : ∀ t : Fin grid0.N, cc0_transform_0 (grid0.coords t) = ![t.val, 0] := by decide +kernel
theorem index_1 : ∀ t : Fin grid0.N, cc0_transform_1 (grid0.coords t) = ![t.val, 0] := by decide +kernel
theorem index_2 : ∀ t : Fin grid0.N, cc0_transform_2 (grid0.coords t) = ![t.val, 0] := by decide +kernel
theorem index_3 : ∀ t : Fin grid0.N, cc0_transform_3 (grid0.coords t) = ![t.val, 1] := by decide +kernel
theorem index_4 : ∀ t : Fin grid0.N, cc0_transform_4 (grid0.coords t) = ![t.val, 0] := by decide +kernel
theorem index_5 : ∀ t : Fin grid0.N, cc0_transform_5 (grid0.coords t) = ![0, 0] := by decide +kernel
theorem index_6 : ∀ t : Fin grid0.N, cc0_transform_6 (grid0.coords t) = ![0, 0] := by decide +kernel
theorem index_7 : ∀ t : Fin grid0.N, cc0_transform_7 (grid0.coords t) = ![0, 0] := by decide +kernel
theorem index_8 : ∀ t : Fin grid0.N, cc0_transform_9 (grid0.coords t) = ![t.val, 0] := by decide +kernel
theorem index_9 : ∀ t : Fin grid0.N, cc0_transform_10 (grid0.coords t) = ![t.val, 0, 0] := by decide +kernel

theorem lt_32 (t : Fin (cfgM m).N) : t.val < 32 := Nat.lt_of_lt_of_eq t.isLt N_0

theorem flush_8 : ∀ t : Fin grid0.N, Pipeline.Window.flushOf grid0 true cc0_transform_9 t = true := by decide +kernel
theorem flush_9 : ∀ t : Fin grid0.N, Pipeline.Window.flushOf grid0 true cc0_transform_10 t = true := by decide +kernel

/-- Rows `256 b …` of window 0's array. -/
def haAt (c : Dev nD) (b : ℕ) : Vec F S256x1024 .bf16 := fun y =>
  V m c main_arg0 (ix2 ⟨256 * min b 31 + (y 0).val, by have : (y 0).val < 256 := (y 0).isLt; omega⟩ (y 1))
/-- Rows `256 b …` of window 1's array. -/
def hbAt (c : Dev nD) (b : ℕ) : Vec F S256x1024 .bf16 := fun y =>
  V m c main_arg1 (ix2 ⟨256 * min b 31 + (y 0).val, by have : (y 0).val < 256 := (y 0).isLt; omega⟩ (y 1))
/-- Rows `256 b …` of window 4's array. -/
def xAt (c : Dev nD) (b : ℕ) : Vec F S256x2048 .f32 := fun y =>
  V m c main_v2 (ix2 ⟨256 * min b 31 + (y 0).val, by have : (y 0).val < 256 := (y 0).isLt; omega⟩ (y 1))
/-- Rows `256 b …` of the projection's columns from 0 on. -/
def gaAt (c : Dev nD) (b : ℕ) : Vec F S256x2048 .bf16 := fun y =>
  V m c main_arg2 (ix2 ⟨256 * min b 31 + (y 0).val, by have : (y 0).val < 256 := (y 0).isLt; omega⟩
    ⟨0 + (y 1).val, by have : (y 1).val < 2048 := (y 1).isLt; omega⟩)
/-- Rows `256 b …` of the projection's columns from 2048 on. -/
def gbAt (c : Dev nD) (b : ℕ) : Vec F S256x2048 .bf16 := fun y =>
  V m c main_arg2 (ix2 ⟨256 * min b 31 + (y 0).val, by have : (y 0).val < 256 := (y 0).isLt; omega⟩
    ⟨2048 + (y 1).val, by have : (y 1).val < 2048 := (y 1).isLt; omega⟩)

theorem iblk_0 (c : Dev nD) (t : Fin (cfgM m).N) : iblk m c 0 t = haAt m c t.val := by
  have e := index_0 t
  have h := lt_32 m t
  refine funext fun (y : S256x1024.Idx) => ?_
  show V m c main_arg0 ((((cfgM m).win 0).blk t).view.emb y) = _
  unfold haAt
  congr 1
  funext a
  apply Fin.ext
  match a with
  | ⟨0, _⟩ =>
    refine (Pipeline.Window.rect_emb_val_off ((cfgM m).win 0) t _ _).trans ?_
    show cc0_transform_0 (grid0.coords t) 0 * 256 + (y 0).val = 256 * min t.val 31 + (y 0).val
    rw [e]; show t.val * 256 + _ = _; omega
  | ⟨1, _⟩ =>
    refine (Pipeline.Window.rect_emb_val_off ((cfgM m).win 0) t _ _).trans ?_
    show cc0_transform_0 (grid0.coords t) 1 * 1024 + (y 1).val = (y 1).val
    rw [e]; show 0 * 1024 + _ = _; omega

theorem iblk_1 (c : Dev nD) (t : Fin (cfgM m).N) : iblk m c 1 t = hbAt m c t.val := by
  have e := index_1 t
  have h := lt_32 m t
  refine funext fun (y : S256x1024.Idx) => ?_
  show V m c main_arg1 ((((cfgM m).win 1).blk t).view.emb y) = _
  unfold hbAt
  congr 1
  funext a
  apply Fin.ext
  match a with
  | ⟨0, _⟩ =>
    refine (Pipeline.Window.rect_emb_val_off ((cfgM m).win 1) t _ _).trans ?_
    show cc0_transform_1 (grid0.coords t) 0 * 256 + (y 0).val = 256 * min t.val 31 + (y 0).val
    rw [e]; show t.val * 256 + _ = _; omega
  | ⟨1, _⟩ =>
    refine (Pipeline.Window.rect_emb_val_off ((cfgM m).win 1) t _ _).trans ?_
    show cc0_transform_1 (grid0.coords t) 1 * 1024 + (y 1).val = (y 1).val
    rw [e]; show 0 * 1024 + _ = _; omega

theorem iblk_4 (c : Dev nD) (t : Fin (cfgM m).N) : iblk m c 4 t = xAt m c t.val := by
  have e := index_4 t
  have h := lt_32 m t
  refine funext fun (y : S256x2048.Idx) => ?_
  show V m c main_v2 ((((cfgM m).win 4).blk t).view.emb y) = _
  unfold xAt
  congr 1
  funext a
  apply Fin.ext
  match a with
  | ⟨0, _⟩ =>
    refine (Pipeline.Window.rect_emb_val_off ((cfgM m).win 4) t _ _).trans ?_
    show cc0_transform_4 (grid0.coords t) 0 * 256 + (y 0).val = 256 * min t.val 31 + (y 0).val
    rw [e]; show t.val * 256 + _ = _; omega
  | ⟨1, _⟩ =>
    refine (Pipeline.Window.rect_emb_val_off ((cfgM m).win 4) t _ _).trans ?_
    show cc0_transform_4 (grid0.coords t) 1 * 2048 + (y 1).val = (y 1).val
    rw [e]; show 0 * 2048 + _ = _; omega

theorem cut_2 (c : Dev nD) (t : Fin (cfgM m).N) :
    ((cfgM m).win 2).cut ((cfgM m).grid.coords t) (gaAt m c t.val) = iblk m c 2 t := by
  have e := index_2 t
  have h := lt_32 m t
  refine funext fun y => Eq.symm ?_
  show V m c main_arg2 ((((cfgM m).win 2).blk t).view.emb y) = gaAt m c t.val (((cfgM m).win 2).xinj _ y)
  unfold gaAt
  congr 1
  funext a
  apply Fin.ext
  match a with
  | ⟨0, _⟩ =>
    refine (Pipeline.Window.rect_emb_val_off ((cfgM m).win 2) t _ _).trans ?_
    show cc0_transform_2 (grid0.coords t) 0 * 256 + (y (0 : Fin 2)).val = 256 * min t.val 31 + (y (0 : Fin 2)).val
    rw [e]; show t.val * 256 + _ = _; omega
  | ⟨1, _⟩ =>
    refine (Pipeline.Window.rect_emb_val_off ((cfgM m).win 2) t _ _).trans ?_
    show cc0_transform_2 (grid0.coords t) 1 * 2048 + (y (1 : Fin 2)).val = 0 + (y (1 : Fin 2)).val
    rw [e]; show 0 * 2048 + _ = _; omega

theorem cut_3 (c : Dev nD) (t : Fin (cfgM m).N) :
    ((cfgM m).win 3).cut ((cfgM m).grid.coords t) (gbAt m c t.val) = iblk m c 3 t := by
  have e := index_3 t
  have h := lt_32 m t
  refine funext fun y => Eq.symm ?_
  show V m c main_arg2 ((((cfgM m).win 3).blk t).view.emb y) = gbAt m c t.val (((cfgM m).win 3).xinj _ y)
  unfold gbAt
  congr 1
  funext a
  apply Fin.ext
  match a with
  | ⟨0, _⟩ =>
    refine (Pipeline.Window.rect_emb_val_off ((cfgM m).win 3) t _ _).trans ?_
    show cc0_transform_3 (grid0.coords t) 0 * 256 + (y (0 : Fin 2)).val = 256 * min t.val 31 + (y (0 : Fin 2)).val
    rw [e]; show t.val * 256 + _ = _; omega
  | ⟨1, _⟩ =>
    refine (Pipeline.Window.rect_emb_val_off ((cfgM m).win 3) t _ _).trans ?_
    show cc0_transform_3 (grid0.coords t) 1 * 2048 + (y (1 : Fin 2)).val = 2048 + (y (1 : Fin 2)).val
    rw [e]; show 1 * 2048 + _ = _; omega

theorem iblk_5 (c : Dev nD) (t : Fin (cfgM m).N) : iblk m c 5 t = V m c main_v4 := by
  have e := index_5 t
  refine funext fun (y : S1024x2048.Idx) => ?_
  show V m c main_v4 ((((cfgM m).win 5).blk t).view.emb y) = _
  congr 1
  funext a
  apply Fin.ext
  match a with
  | ⟨0, _⟩ =>
    refine (Pipeline.Window.rect_emb_val_off ((cfgM m).win 5) t _ _).trans ?_
    show cc0_transform_5 (grid0.coords t) 0 * 1024 + (y 0).val = (y 0).val
    rw [e]; show 0 * 1024 + _ = _; omega
  | ⟨1, _⟩ =>
    refine (Pipeline.Window.rect_emb_val_off ((cfgM m).win 5) t _ _).trans ?_
    show cc0_transform_5 (grid0.coords t) 1 * 2048 + (y 1).val = (y 1).val
    rw [e]; show 0 * 2048 + _ = _; omega

theorem iblk_6 (c : Dev nD) (t : Fin (cfgM m).N) : iblk m c 6 t = V m c main_v6 := by
  have e := index_6 t
  refine funext fun (y : S1024x2048.Idx) => ?_
  show V m c main_v6 ((((cfgM m).win 6).blk t).view.emb y) = _
  congr 1
  funext a
  apply Fin.ext
  match a with
  | ⟨0, _⟩ =>
    refine (Pipeline.Window.rect_emb_val_off ((cfgM m).win 6) t _ _).trans ?_
    show cc0_transform_6 (grid0.coords t) 0 * 1024 + (y 0).val = (y 0).val
    rw [e]; show 0 * 1024 + _ = _; omega
  | ⟨1, _⟩ =>
    refine (Pipeline.Window.rect_emb_val_off ((cfgM m).win 6) t _ _).trans ?_
    show cc0_transform_6 (grid0.coords t) 1 * 2048 + (y 1).val = (y 1).val
    rw [e]; show 0 * 2048 + _ = _; omega

theorem iblk_7 (c : Dev nD) (t : Fin (cfgM m).N) : iblk m c 7 t = V m c main_v8 := by
  have e := index_7 t
  refine funext fun (y : S2048x2048.Idx) => ?_
  show V m c main_v8 ((((cfgM m).win 7).blk t).view.emb y) = _
  congr 1
  funext a
  apply Fin.ext
  match a with
  | ⟨0, _⟩ =>
    refine (Pipeline.Window.rect_emb_val_off ((cfgM m).win 7) t _ _).trans ?_
    show cc0_transform_7 (grid0.coords t) 0 * 2048 + (y 0).val = (y 0).val
    rw [e]; show 0 * 2048 + _ = _; omega
  | ⟨1, _⟩ =>
    refine (Pipeline.Window.rect_emb_val_off ((cfgM m).win 7) t _ _).trans ?_
    show cc0_transform_7 (grid0.coords t) 1 * 2048 + (y 1).val = (y 1).val
    rw [e]; show 0 * 2048 + _ = _; omega

end Cert.Kernel3Ideal.Out
-- ==== Proof.OutPhi.lean ====
/- What the kernel holds between two steps, and how the launch's resources make it and get it back. -/
module

public import proofs.«01_k».proof.Proof.OutBlocks
public import Idealize.ShloMosaic.Lib.Ring.FamCut

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pages of a slot at anything. -/
abbrev pieces (c : Dev nD) (s : Fin 2) : sProp 𝕄 :=
  iprop((∃ f, own (F := F) c (piece s 0) fullShare f) ∗ (∃ f, own (F := F) c (piece s 1) fullShare f) ∗ (∃ f, own (F := F) c (piece s 2) fullShare f) ∗ (∃ f, own (F := F) c (piece s 3) fullShare f) ∗ (∃ f, own (F := F) c (piece s 4) fullShare f) ∗ (∃ f, own (F := F) c (piece s 5) fullShare f) ∗ (∃ f, own (F := F) c (piece s 6) fullShare f) ∗ (∃ f, own (F := F) c (piece s 7) fullShare f) ∗ (∃ f, own (F := F) c (piece s 8) fullShare f) ∗ (∃ f, own (F := F) c (piece s 9) fullShare f) ∗ (∃ f, own (F := F) c (piece s 10) fullShare f) ∗ (∃ f, own (F := F) c (piece s 11) fullShare f) ∗ (∃ f, own (F := F) c (piece s 12) fullShare f) ∗ (∃ f, own (F := F) c (piece s 13) fullShare f) ∗ (∃ f, own (F := F) c (piece s 14) fullShare f) ∗ (∃ f, own (F := F) c (piece s 15) fullShare f))
/-- A slot's sixteen read shares of the cache. -/
abbrev toks (c : Dev nD) (s : Fin 2) (fc : Cache c F) : sProp 𝕄 :=
  iprop(atLeast c (tok s 0) fc ∗ atLeast c (tok s 1) fc ∗ atLeast c (tok s 2) fc ∗ atLeast c (tok s 3) fc ∗ atLeast c (tok s 4) fc ∗ atLeast c (tok s 5) fc ∗ atLeast c (tok s 6) fc ∗ atLeast c (tok s 7) fc ∗ atLeast c (tok s 8) fc ∗ atLeast c (tok s 9) fc ∗ atLeast c (tok s 10) fc ∗ atLeast c (tok s 11) fc ∗ atLeast c (tok s 12) fc ∗ atLeast c (tok s 13) fc ∗ atLeast c (tok s 14) fc ∗ atLeast c (tok s 15) fc)

abbrev ringLoc (c : Dev nD) : Loc nD τ sig := (c : Thread nD τ).loc cc0_scratch0
/-- The elements of the ring that a page is. -/
def pieceSet (c : Dev nD) (b : Fin 2 × Fin 16) : Finset (Idx (ringLoc c)) := (piece b.1 b.2).view.set

theorem pieces_disjoint (c : Dev nD) (b b' : Fin 2 × Fin 16) (h : b ≠ b') : Disjoint (pieceSet c b) (pieceSet c b') := by
  unfold pieceSet piece
  rw [Memref.set_view_squeeze, Memref.set_view_squeeze]
  by_cases h0 : b.1 = b'.1
  · have h1 : b.2 ≠ b'.2 := fun e => h (Prod.ext h0 e)
    refine View.disjoint_slice_of_sep _ _ _ ⟨1, by decide⟩ rfl rfl ?_
    have : b.2.val ≠ b'.2.val := fun e => h1 (Fin.ext e)
    show b.2.val + 1 ≤ b'.2.val ∨ b'.2.val + 1 ≤ b.2.val
    omega
  · refine View.disjoint_slice_of_sep _ _ _ ⟨0, by decide⟩ rfl rfl ?_
    have : b.1.val ≠ b'.1.val := fun e => h0 (Fin.ext e)
    show b.1.val + 1 ≤ b'.1.val ∨ b'.1.val + 1 ≤ b.1.val
    omega

theorem pairs_eq (Φ : Fin 2 × Fin 16 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (0, 8) ∗ Φ (0, 9) ∗ Φ (0, 10) ∗ Φ (0, 11) ∗ Φ (0, 12) ∗ Φ (0, 13) ∗ Φ (0, 14) ∗ Φ (0, 15) ∗ Φ (1, 0) ∗ Φ (1, 1) ∗ Φ (1, 2) ∗ Φ (1, 3) ∗ Φ (1, 4) ∗ Φ (1, 5) ∗ Φ (1, 6) ∗ Φ (1, 7) ∗ Φ (1, 8) ∗ Φ (1, 9) ∗ Φ (1, 10) ∗ Φ (1, 11) ∗ Φ (1, 12) ∗ Φ (1, 13) ∗ Φ (1, 14) ∗ Φ (1, 15)) :=
  bigSep_univ_eq_bigSepL [(0, 0), (0, 1), (0, 2), (0, 3), (0, 4), (0, 5), (0, 6), (0, 7), (0, 8), (0, 9), (0, 10), (0, 11), (0, 12), (0, 13), (0, 14), (0, 15), (1, 0), (1, 1), (1, 2), (1, 3), (1, 4), (1, 5), (1, 6), (1, 7), (1, 8), (1, 9), (1, 10), (1, 11), (1, 12), (1, 13), (1, 14), (1, 15)] (by decide) (by decide) Φ

/-- What of the ring no page covers. -/
abbrev ringRest (c : Dev nD) : sProp 𝕄 := iprop(∃ f : Buf (Elt F) (ringLoc c), ringLoc c ↦[Ring.restOf (pieceSet c)]{fullShare} f)

theorem ring_cut (c : Dev nD) : (iprop(∃ f : Buf (Elt F) (ringLoc c), ringLoc c ↦{fullShare} f) : sProp 𝕄) ⊢ iprop(pieces (F := F) c 0 ∗ pieces (F := F) c 1 ∗ ringRest (F := F) c) := by
  refine (Ring.fam_split_ex (Ix := Unit) (Name := ℕ) (U := Pipeline.UD sig nD τ) (Lvl := ℕ) (pieceSet c) (pieces_disjoint c)).trans ?_
  rw [pairs_eq]
  iintro ⟨⟨P0, P1, P2, P3, P4, P5, P6, P7, P8, P9, P10, P11, P12, P13, P14, P15, P16, P17, P18, P19, P20, P21, P22, P23, P24, P25, P26, P27, P28, P29, P30, P31⟩, HR⟩
  isplitl [P0 P1 P2 P3 P4 P5 P6 P7 P8 P9 P10 P11 P12 P13 P14 P15]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    iexact P15
  isplitl [P16 P17 P18 P19 P20 P21 P22 P23 P24 P25 P26 P27 P28 P29 P30 P31]
  · isplitl [P16]; · iexact P16
    isplitl [P17]; · iexact P17
    isplitl [P18]; · iexact P18
    isplitl [P19]; · iexact P19
    isplitl [P20]; · iexact P20
    isplitl [P21]; · iexact P21
    isplitl [P22]; · iexact P22
    isplitl [P23]; · iexact P23
    isplitl [P24]; · iexact P24
    isplitl [P25]; · iexact P25
    isplitl [P26]; · iexact P26
    isplitl [P27]; · iexact P27
    isplitl [P28]; · iexact P28
    isplitl [P29]; · iexact P29
    isplitl [P30]; · iexact P30
    iexact P31
  iexact HR

theorem ring_join (c : Dev nD) (f₀ : Buf (Elt F) (ringLoc c)) : iprop(pieces (F := F) c 0 ∗ pieces (F := F) c 1 ∗ ringRest (F := F) c) ⊢ (iprop(∃ f : Buf (Elt F) (ringLoc c), ringLoc c ↦{fullShare} f) : sProp 𝕄) := by
  refine .trans ?_ (Ring.fam_join (Ix := Unit) (Name := ℕ) (U := Pipeline.UD sig nD τ) (Lvl := ℕ) (pieceSet c) (pieces_disjoint c) f₀)
  rw [pairs_eq]
  iintro ⟨⟨P0, P1, P2, P3, P4, P5, P6, P7, P8, P9, P10, P11, P12, P13, P14, P15⟩, ⟨P16, P17, P18, P19, P20, P21, P22, P23, P24, P25, P26, P27, P28, P29, P30, P31⟩, HR⟩
  isplitl [P0 P1 P2 P3 P4 P5 P6 P7 P8 P9 P10 P11 P12 P13 P14 P15 P16 P17 P18 P19 P20 P21 P22 P23 P24 P25 P26 P27 P28 P29 P30 P31]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    isplitl [P17]; · iexact P17
    isplitl [P18]; · iexact P18
    isplitl [P19]; · iexact P19
    isplitl [P20]; · iexact P20
    isplitl [P21]; · iexact P21
    isplitl [P22]; · iexact P22
    isplitl [P23]; · iexact P23
    isplitl [P24]; · iexact P24
    isplitl [P25]; · iexact P25
    isplitl [P26]; · iexact P26
    isplitl [P27]; · iexact P27
    isplitl [P28]; · iexact P28
    isplitl [P29]; · iexact P29
    isplitl [P30]; · iexact P30
    iexact P31
  iexact HR

/-- What of the cache no copy reads with. -/
abbrev cacheRest (c : Dev nD) (fc : Cache c F) : sProp 𝕄 := atLeast c (Transfers.shareDrop fullShare 32) fc

theorem range_eq (Φ : ℕ → sProp 𝕄) : bigSep (Finset.range 32) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  BI.bigSep_eq_bigSepL_of_eq [0, 1, 2, 3, 4, 5, 6, 7, 8, 9, 10, 11, 12, 13, 14, 15, 16, 17, 18, 19, 20, 21, 22, 23, 24, 25, 26, 27, 28, 29, 30, 31] (by decide) (by decide) Φ

theorem cache_cut (c : Dev nD) (fc : Cache c F) : (atLeast c fullShare fc : sProp 𝕄) ⊢ iprop(toks c 0 fc ∗ toks c 1 fc ∗ cacheRest c fc) := by
  refine ((Transfers.pointsTo_toks_range fullShare 32).1).trans ?_
  rw [range_eq]
  iintro ⟨HR, ⟨C0, C1, C2, C3, C4, C5, C6, C7, C8, C9, C10, C11, C12, C13, C14, C15, C16, C17, C18, C19, C20, C21, C22, C23, C24, C25, C26, C27, C28, C29, C30, C31⟩⟩
  isplitl [C0 C1 C2 C3 C4 C5 C6 C7 C8 C9 C10 C11 C12 C13 C14 C15]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    iexact C15
  isplitl [C16 C17 C18 C19 C20 C21 C22 C23 C24 C25 C26 C27 C28 C29 C30 C31]
  · isplitl [C16]; · iexact C16
    isplitl [C17]; · iexact C17
    isplitl [C18]; · iexact C18
    isplitl [C19]; · iexact C19
    isplitl [C20]; · iexact C20
    isplitl [C21]; · iexact C21
    isplitl [C22]; · iexact C22
    isplitl [C23]; · iexact C23
    isplitl [C24]; · iexact C24
    isplitl [C25]; · iexact C25
    isplitl [C26]; · iexact C26
    isplitl [C27]; · iexact C27
    isplitl [C28]; · iexact C28
    isplitl [C29]; · iexact C29
    isplitl [C30]; · iexact C30
    iexact C31
  iexact HR

theorem cache_join (c : Dev nD) (fc : Cache c F) : iprop(toks c 0 fc ∗ toks c 1 fc ∗ cacheRest c fc) ⊢ (atLeast c fullShare fc : sProp 𝕄) := by
  refine .trans ?_ ((Transfers.pointsTo_toks_range fullShare 32).2)
  rw [range_eq]
  iintro ⟨⟨C0, C1, C2, C3, C4, C5, C6, C7, C8, C9, C10, C11, C12, C13, C14, C15⟩, ⟨C16, C17, C18, C19, C20, C21, C22, C23, C24, C25, C26, C27, C28, C29, C30, C31⟩, HR⟩
  isplitl [HR]; · iexact HR
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C29]; · iexact C29
  isplitl [C30]; · iexact C30
  iexact C31

/-- A slot by the parity of the step. -/
def slotN (n : ℕ) : Fin 2 := ⟨n % 2, Nat.mod_lt _ (by decide)⟩

/-- The ring before step `n`: at rest before the first and after the last, the step's pages in flight otherwise. -/
def ringAt (c : Dev nD) (n : ℕ) (ft : Buf (Elt F) (tblM.view.loc (c : Thread nD τ))) (fc : Cache c F) : sProp 𝕄 :=
  if n = 0 ∨ n = 32 then iprop(calm c 0 fc ∗ calm c 1 fc) else iprop(busy c (slotN n) (words c ft n) fc ∗ calm c (slotN (n + 1)) fc)

theorem ringAt_before (c : Dev nD) (i : grid0.Coords) (ft : Buf (Elt F) (tblM.view.loc (c : Thread nD τ))) (fc : Cache c F) (h : step i < 32) :
    ringAt c (step i) ft fc = ringBefore c i ft fc := by
  unfold ringAt ringBefore
  by_cases h0 : step i = 0
  · rw [if_pos h0, if_pos (Or.inl h0)]
  · rw [if_neg h0, if_neg (by omega)]; rfl

theorem ringAt_after (c : Dev nD) (i : grid0.Coords) (ft : Buf (Elt F) (tblM.view.loc (c : Thread nD τ))) (fc : Cache c F) (h : step i < 32) :
    iprop(calm c (slotW i) fc ∗ nextSlot c i ft fc) ⊢ ringAt c (step i + 1) ft fc := by
  unfold ringAt nextSlot
  by_cases h0 : step i < 31
  · rw [if_pos h0, if_neg (by omega)]
    have e : slotW i = slotN (step i + 1 + 1) := Fin.ext (by show step i % 2 = (step i + 1 + 1) % 2; omega)
    rw [e]
    iintro ⟨H, H'⟩
    isplitl [H']; · iexact H'
    iexact H
  · have h7 : step i = 31 := by omega
    rw [if_neg h0, if_pos (by omega)]
    have e : slotW i = 1 := Fin.ext (by show step i % 2 = 1; rw [h7])
    have e' : slotL i = 0 := Fin.ext (by show (step i + 1) % 2 = 0; rw [h7])
    rw [e, e']
    iintro ⟨H, H'⟩
    isplitl [H']; · iexact H'
    iexact H

/-- What is held between two steps. -/
def Phi (c : Dev nD) (n : ℕ) : sProp 𝕄 :=
  iprop(ringAt c n (V m c main_v10) (V m c main_v9) ∗ heldT c fullShare.right (V m c main_v10)
    ∗ (ringRest (F := F) c ∗ (∃ r, prngReg c r) ∗ cacheRest c (V m c main_v9)))

theorem ΦD_eq (c : Dev nD) : (Pipeline.ΦD osem0 spec0 H0 (V m) c : sProp 𝕄)
    = iprop((∃ f : Buf (Elt F) (ringLoc c), ringLoc c ↦{fullShare} f)
      ∗ (∃ r, prngReg c r) ∗ (semVal ((c : Thread nD τ), cell 0) 0 ∗ semVal ((c : Thread nD τ), cell 1) 0) ∗ atLeast c fullShare (V m c main_v9)) := by
  rw [← ownSems_eq, ← cache_eq, ← scopedRest0_eq]
  rfl

theorem hin (c : Dev nD) : iprop(Pipeline.ΦD osem0 spec0 H0 (V m) c ∗ Pipeline.ΦT pre0 (tbl m) c) ⊢ Phi m c 0 := by
  rw [ΦD_eq, table_eq]
  unfold Phi ringAt calm
  rw [if_pos (Or.inl rfl)]
  iintro ⟨⟨HR, HP, ⟨S0, S1⟩, HC⟩, HT⟩
  ihave HR := (ring_cut (F := F) c) $$ HR
  icases HR with ⟨A0, A1, AR⟩
  ihave HC := (cache_cut c (V m c main_v9)) $$ HC
  icases HC with ⟨B0, B1, BR⟩
  isplitl [A0 A1 B0 B1 S0 S1]
  · isplitl [A0 B0 S0]
    · isplitl [A0]; · iexact A0
      isplitl [S0]; · iexact S0
      iexact B0
    · isplitl [A1]; · iexact A1
      isplitl [S1]; · iexact S1
      iexact B1
  isplitl [HT]; · iexact HT
  isplitl [AR]; · iexact AR
  isplitl [HP]; · iexact HP
  iexact BR

theorem hout (c : Dev nD) : Phi m c 32 ⊢ (Pipeline.ΦD osem0 spec0 H0 (V m) c : sProp 𝕄) := by
  rw [ΦD_eq]
  unfold Phi ringAt calm
  rw [if_pos (Or.inr rfl)]
  iintro ⟨⟨⟨A0, S0, B0⟩, ⟨A1, S1, B1⟩⟩, -, AR, HP, BR⟩
  isplitl [A0 A1 AR]
  · iapply (ring_join (F := F) c (m (ringLoc c)))
    isplitl [A0]; · iexact A0
    isplitl [A1]; · iexact A1
    iexact AR
  isplitl [HP]; · iexact HP
  isplitl [S0 S1]
  · isplitl [S0]; · iexact S0
    iexact S1
  iapply (cache_join c (V m c main_v9))
  isplitl [B0]; · iexact B0
  isplitl [B1]; · iexact B1
  iexact BR

end Cert.Kernel3Ideal.Out
-- ==== Proof.OutRun.lean ====
/- The pipeline's proof data, the body at every point, and the launch. -/
module

public import proofs.«01_k».proof.Proof.OutPhi

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What step `n` leaves in each output's buffer. -/
abbrev yOut (c : Dev nD) (n : ℕ) : Vec F S256x2048 .f32 :=
  yBlk (haAt m c n) (hbAt m c n) (gaAt m c n) (gbAt m c n) (xAt m c n) (V m c main_v4) (V m c main_v6) (V m c main_v8)
abbrev sumsOut (c : Dev nD) (n : ℕ) : Vec F S16x8x128 .f32 := sumsBlk fun k => pageVec c (words c (V m c main_v10) n k) (V m c main_v9)

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => gaAt m c t.val
    | ⟨3, _⟩ => gbAt m c t.val
    | ⟨4, _⟩ => iblk m c 4 t
    | ⟨5, _⟩ => iblk m c 5 t
    | ⟨6, _⟩ => iblk m c 6 t
    | ⟨7, _⟩ => iblk m c 7 t
    | ⟨8, _⟩ => yOut m c t.val
    | ⟨9, _⟩ => sumsOut m c t.val
  Φ t := Phi m c t.val
  q w := Pipeline.shareOf spec0 w
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = gaAt m c t.val := by dsimp only [dats]; try rfl
theorem after_3 (c : Dev nD) (t : Fin (cfgM m).N) : (dats m 0 c).after 3 t = gbAt m c t.val := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = iblk m c 6 t := by dsimp only [dats]; try rfl
theorem after_7 (c : Dev nD) (t : Fin (cfgM m).N) : (dats m 0 c).after 7 t = iblk m c 7 t := by dsimp only [dats]; try rfl
theorem after_8 (c : Dev nD) (t : Fin (cfgM m).N) : (dats m 0 c).after 8 t = yOut m c t.val := by dsimp only [dats]; try rfl
theorem after_9 (c : Dev nD) (t : Fin (cfgM m).N) : (dats m 0 c).after 9 t = sumsOut m c t.val := by dsimp only [dats]; try rfl
theorem before_0 (c : Dev nD) (t : Fin (cfgM m).N) (d) : (dats m 0 c).before 0 t d = iblk m c 0 t :=
  before_0_of m (dats m 0 c) (A_eq m c 0) (after_0 m c) t d
theorem before_1 (c : Dev nD) (t : Fin (cfgM m).N) (d) : (dats m 0 c).before 1 t d = iblk m c 1 t :=
  before_1_of m (dats m 0 c) (A_eq m c 1) (after_1 m c) t d
theorem before_2 (c : Dev nD) (t : Fin (cfgM m).N) (d) : (dats m 0 c).before 2 t d = gaAt m c t.val :=
  before_2_of m (dats m 0 c) (fun t => gaAt m c t.val) (after_2 m c) (fun t => (cut_2 m c t).trans (by unfold iblk Dat.blockOf; rw [A_eq])) t d
theorem before_3 (c : Dev nD) (t : Fin (cfgM m).N) (d) : (dats m 0 c).before 3 t d = gbAt m c t.val :=
  before_3_of m (dats m 0 c) (fun t => gbAt m c t.val) (after_3 m c) (fun t => (cut_3 m c t).trans (by unfold iblk Dat.blockOf; rw [A_eq])) t d
theorem before_4 (c : Dev nD) (t : Fin (cfgM m).N) (d) : (dats m 0 c).before 4 t d = iblk m c 4 t :=
  before_4_of m (dats m 0 c) (A_eq m c 4) (after_4 m c) t d
theorem before_5 (c : Dev nD) (t : Fin (cfgM m).N) (d) : (dats m 0 c).before 5 t d = iblk m c 5 t :=
  before_5_of m (dats m 0 c) (A_eq m c 5) (after_5 m c) t d
theorem before_6 (c : Dev nD) (t : Fin (cfgM m).N) (d) : (dats m 0 c).before 6 t d = iblk m c 6 t :=
  before_6_of m (dats m 0 c) (A_eq m c 6) (after_6 m c) t d
theorem before_7 (c : Dev nD) (t : Fin (cfgM m).N) (d) : (dats m 0 c).before 7 t d = iblk m c 7 t :=
  before_7_of m (dats m 0 c) (A_eq m c 7) (after_7 m c) t d

/-- The staging buffers at point `t`, and the body there. -/
abbrev ms_0 (t : Fin (cfgM m).N) : Memref sig .tc .vmem S256x1024 .bf16 := spec0_0.stage ((cfgM m).slots t 0)
abbrev ms_1 (t : Fin (cfgM m).N) : Memref sig .tc .vmem S256x1024 .bf16 := spec0_1.stage ((cfgM m).slots t 1)
abbrev ms_2 (t : Fin (cfgM m).N) : Memref sig .tc .vmem S256x2048 .bf16 := spec0_2.stage ((cfgM m).slots t 2)
abbrev ms_3 (t : Fin (cfgM m).N) : Memref sig .tc .vmem S256x2048 .bf16 := spec0_3.stage ((cfgM m).slots t 3)
abbrev ms_4 (t : Fin (cfgM m).N) : Memref sig .tc .vmem S256x2048 .f32 := spec0_4.stage ((cfgM m).slots t 4)
abbrev ms_5 (t : Fin (cfgM m).N) : Memref sig .tc .vmem S1024x2048 .bf16 := spec0_5.stage ((cfgM m).slots t 5)
abbrev ms_6 (t : Fin (cfgM m).N) : Memref sig .tc .vmem S1024x2048 .bf16 := spec0_6.stage ((cfgM m).slots t 6)
abbrev ms_7 (t : Fin (cfgM m).N) : Memref sig .tc .vmem S2048x2048 .bf16 := spec0_7.stage ((cfgM m).slots t 7)
abbrev ms_8 (t : Fin (cfgM m).N) : Memref sig .tc .vmem S256x2048 .f32 := spec0_8.stage ((cfgM m).slots t 8)
abbrev ms_9 (t : Fin (cfgM m).N) : Memref sig .tc .vmem S16x8x128 .f32 := spec0_9.stage ((cfgM m).slots t 9)

abbrev bodyAt (t : Fin (cfgM m).N) : Prog (TpuEff nD τ sig (Elt F) Λ₀ .tc) PUnit :=
  cc0_out_proj_stream (grid0.coords t) (Memref.whole main_v10) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (Memref.whole main_v9) (Memref.isWhole_whole _) (spec0_8.stage ((cfgM m).slots t 8)) (hstage0_8 (((cfgM m).slots t 8).cast nbuf0_8)) (spec0_9.stage ((cfgM m).slots t 9)) (hstage0_9 (((cfgM m).slots t 9).cast nbuf0_9)) (Memref.whole cc0_scratch0) (Memref.isWhole_whole _) cc0_scratch1

def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare ((dats m 0 c).before 4 t d))
    ∗ (∃ d, owns (c : Thread nD τ) (ms_5 m t) fullShare ((dats m 0 c).before 5 t d))
    ∗ (∃ d, owns (c : Thread nD τ) (ms_6 m t) fullShare ((dats m 0 c).before 6 t d))
    ∗ (∃ d, owns (c : Thread nD τ) (ms_7 m t) fullShare ((dats m 0 c).before 7 t d))
    ∗ (∃ d, owns (c : Thread nD τ) (ms_8 m t) fullShare ((dats m 0 c).before 8 t d))
    ∗ (∃ d, owns (c : Thread nD τ) (ms_9 m t) fullShare ((dats m 0 c).before 9 t d)))

def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_0 (c : Dev nD) (t : Fin (cfgM m).N) :
    (dats m 0 c).leavesExact 0 t = owns (c : Thread nD τ) (ms_0 m t) fullShare (iblk m c 0 t) := by
  rw [← after_0 m c t]; rfl
theorem leaves_1 (c : Dev nD) (t : Fin (cfgM m).N) :
    (dats m 0 c).leavesExact 1 t = owns (c : Thread nD τ) (ms_1 m t) fullShare (iblk m c 1 t) := by
  rw [← after_1 m c t]; rfl
theorem leaves_2 (c : Dev nD) (t : Fin (cfgM m).N) :
    (dats m 0 c).leavesExact 2 t = owns (c : Thread nD τ) (ms_2 m t) fullShare (gaAt m c t.val) := by
  rw [← after_2 m c t]; rfl
theorem leaves_3 (c : Dev nD) (t : Fin (cfgM m).N) :
    (dats m 0 c).leavesExact 3 t = owns (c : Thread nD τ) (ms_3 m t) fullShare (gbAt m c t.val) := by
  rw [← after_3 m c t]; rfl
theorem leaves_4 (c : Dev nD) (t : Fin (cfgM m).N) :
    (dats m 0 c).leavesExact 4 t = owns (c : Thread nD τ) (ms_4 m t) fullShare (iblk m c 4 t) := by
  rw [← after_4 m c t]; rfl
theorem leaves_5 (c : Dev nD) (t : Fin (cfgM m).N) :
    (dats m 0 c).leavesExact 5 t = owns (c : Thread nD τ) (ms_5 m t) fullShare (iblk m c 5 t) := by
  rw [← after_5 m c t]; rfl
theorem leaves_6 (c : Dev nD) (t : Fin (cfgM m).N) :
    (dats m 0 c).leavesExact 6 t = owns (c : Thread nD τ) (ms_6 m t) fullShare (iblk m c 6 t) := by
  rw [← after_6 m c t]; rfl
theorem leaves_7 (c : Dev nD) (t : Fin (cfgM m).N) :
    (dats m 0 c).leavesExact 7 t = owns (c : Thread nD τ) (ms_7 m t) fullShare (iblk m c 7 t) := by
  rw [← after_7 m c t]; rfl
theorem leaves_8 (c : Dev nD) (t : Fin (cfgM m).N) :
    (dats m 0 c).leavesExact 8 t = owns (c : Thread nD τ) (ms_8 m t) fullShare (yOut m c t.val) := by
  rw [← after_8 m c t]; rfl
theorem leaves_9 (c : Dev nD) (t : Fin (cfgM m).N) :
    (dats m 0 c).leavesExact 9 t = owns (c : Thread nD τ) (ms_9 m t) fullShare (sumsOut m c t.val) := by
  rw [← after_9 m c t]; rfl

theorem Phi_castSucc (c : Dev nD) (t : Fin (cfgM m).N) : (dats m 0 c).Φ t.castSucc = Phi m c t.val := by
  dsimp only [dats]; simp only [Fin.val_castSucc]
theorem Phi_succ (c : Dev nD) (t : Fin (cfgM m).N) : (dats m 0 c).Φ t.succ = Phi m c (t.val + 1) := by
  dsimp only [dats]; simp only [Fin.val_succ]

variable (hw : ∀ (c : Dev nD) (n : ℕ), (word c (V m c main_v10) n).toNat < 5120)

include hw in
set_option maxHeartbeats 800000 in
theorem sound_body (c : Dev nD) (t : Fin (cfgM m).N) :
    bodyPre m c t ⊢ wp frame (wpE (defs₀ (F := F)) Variants.none c none) Set.univ (bodyAt m t) (fun _ => bodyPost m c t) := by
  have ht := lt_32 m t
  have es : step (grid0.coords t) = t.val := step_coords t
  unfold bodyPre bodyPost bodyAt
  simp only [before_0, before_1, before_2, before_3, before_4, before_5, before_6, before_7]
  rw [Phi_castSucc, Phi_succ, leaves_0, leaves_1, leaves_2, leaves_3, leaves_4, leaves_5, leaves_6, leaves_7, leaves_8, leaves_9, iblk_0, iblk_1, iblk_4, iblk_5, iblk_6, iblk_7]
  unfold Dat.owesAt Pipeline.owesWithin
  rw [show (dats m 0 c).owed t.castSucc = 0 from rfl, show (dats m 0 c).owed t.succ = 0 from rfl]
  unfold Phi
  iintro ⟨⟨HR, HT, HX⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body c (grid0.coords t) _ _ _ _ _ _ _ _ _ _ _ _ _ _ _ _ _ _ _ _ fullShare.right (V m c main_v10) (V m c main_v9) (hw c)
    (haAt m c t.val) (hbAt m c t.val) (gaAt m c t.val) (gbAt m c t.val) (xAt m c t.val) (V m c main_v4) (V m c main_v6) (V m c main_v8) W _)
  rw [← ringAt_before c (grid0.coords t) _ _ (by omega), es]
  isplitl [HR]; · iexact HR
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HW]; · iexact HW
  iintro ⟨HB, HN, HT, H0, H1, H2, H3, H4, H5, H6, H7, H8, H9, ⟨%W', HW⟩⟩
  isplitl [HB HN HT HX]
  · isplitl [HB HN]
    · rw [← es]
      iapply (ringAt_after c (grid0.coords t) (V m c main_v10) (V m c main_v9) (by omega))
      isplitl [HB]; · iexact HB
      iexact HN
    isplitl [HT]; · iexact HT
    iexact HX
  isplitl [HW]
  · iexists W'
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin (cfgM m).N) :
    defs₀ (F := F) .tc (cfgM m).body ((cfgM m).bodyArgs t ((cfgM m).slots t)) = bodyAt m t := by
  unfold defs₀; rw [Defs.onTc_tc]

include hw in
theorem body_obligation (c : Dev nD) : BodyObligation (dats (F := F) m 0 c) (defs₀ (F := F)) Variants.none () Set.univ := fun t => by
  rw [bigSep_W0, bigSep_W0, defs₀_row]
  exact triple_restated (sound_body m hw c t) rfl .rfl fun _ => .rfl

set_option backward.isDefEq.respectTransparency.types false in
include hw in
/-- The launch: every execution ends, the arrays as the proof data say, every semaphore counter at zero. -/
theorem run_quiescent : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma_shared (Q' := _) pcfgs (fun _ => adm m) (dats m) (0 : Fin 1) launch₀0 osem0 defs₀ Variants.none ownSemFacts0 H0 H0_sub m ρ main
    (hbody := fun c => (body_obligation m hw c).loose) (hq := fun _ _ _ => rfl)
    (howed := fun _ _ => rfl) (V := V m) (hmain := hmain m Variants.none) (hA := A_eq m) (hpf := V_pre m)
    (hin := hin m) (hout := hout m)

end Cert.Kernel3Ideal.Out
-- ==== Proof.OutRows.lean ====
/- The arrays the region finds, and the output block's entries over the extended reals. -/
module

public import proofs.«01_k».proof.Proof.OutRun
public import proofs.«01_k».proof.Proof.Gen.Reference3Ideal
public import Idealize.ShloMosaic.Lib.Pipeline.ValueKit
public import Idealize.ShloMosaic.Lib.Pointwise

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Entry
variable {F : FTy → Type} [FloatOps F]
variable (m : (ℓ : Loc nD τ sig) → Buf (Elt F) ℓ)

theorem V_x (c : Dev nD) : V m c main_v2 = shapeCast S8192x2048 (m ((c : Thread nD τ).loc main_arg3)) shapeCasts_S4x2048x2048_S8192x2048 := by
  entry_read
  rfl
theorem V_wa (c : Dev nD) : V m c main_v4 = truncf .bf16 (shapeCast S1024x2048 (m ((c : Thread nD τ).loc main_arg4)) shapeCasts_S1x1024x2048_S1024x2048) bitsLt_bf16_f32 := by
  entry_read
  rfl
theorem V_wb (c : Dev nD) : V m c main_v6 = truncf .bf16 (shapeCast S1024x2048 (m ((c : Thread nD τ).loc main_arg5)) shapeCasts_S1x1024x2048_S1024x2048) bitsLt_bf16_f32 := by
  entry_read
  rfl
theorem V_wo (c : Dev nD) : V m c main_v8 = truncf .bf16 (shapeCast S2048x2048 (m ((c : Thread nD τ).loc main_arg6)) shapeCasts_S1x2048x2048_S2048x2048) bitsLt_bf16_f32 := by
  entry_read
  rfl
theorem V_cache (c : Dev nD) : V m c main_v9 = shapeCast S5120x128x8x128 (m ((c : Thread nD τ).loc main_arg8)) shapeCasts_S1x5120x128x8x128_S5120x128x8x128 := by
  entry_read
  rfl
theorem V_tbl (c : Dev nD) : V m c main_v10 = pad S512 ![0] ![0] ![0] (extractStridedSlice S512 ![3584] (shapeCast S4096 (m ((c : Thread nD τ).loc main_arg7)) shapeCasts_S32x128_S4096) slices_S4096_S512_3584) (constantI S_ 32 0#32) pads_S512_S512_000 h_S_ := by
  entry_read
  rfl
end Entry

/-- The logistic gate, as both sides write it. -/
def gate (v : EReal) : EReal := Ideal.div (Ideal.ofBits FTy.f32 1065353216#32) (Ideal.ofBits FTy.f32 1065353216#32 + Ideal.exp (-v))

theorem b_el (g : Vec Ideal S256x2048 .bf16) (r : Fin 256) (k : Fin 2048) : k0_pay3 (F := Ideal) g (ix2 r k) = gate (g (ix2 r k)) := by
  pointwise [k0_pay3]
  unfold gate
  simp

theorem a_el (g : Vec Ideal S256x2048 .bf16) (h : Vec Ideal S256x1024 .bf16) (w : Vec Ideal S1024x2048 .bf16) (r : Fin 256) (k : Fin 2048) :
    k0_pay2 (F := Ideal) g h w (ix2 r k) = gate (g (ix2 r k)) * ∑ i : Fin 1024, h (ix2 r i) * w (ix2 i k) := by
  pointwise [k0_pay2]
  unfold gate
  simp

theorem c_el (a b : FVec Ideal S256x2048 .f32) (h : Vec Ideal S256x1024 .bf16) (w : Vec Ideal S1024x2048 .bf16) (x : Vec Ideal S256x2048 .f32) (wo : Vec Ideal S2048x2048 .bf16) (r : Fin 256) (k : Fin 2048) :
    k0_pay4 (F := Ideal) a b h w x wo (ix2 r k)
      = x (ix2 r k) + ∑ j : Fin 2048, (a (ix2 r j) + b (ix2 r j) * ∑ i : Fin 1024, h (ix2 r i) * w (ix2 i j)) * wo (ix2 j k) := by
  pointwise [k0_pay4]

/-- An entry of the output block. -/
theorem y_el (ha hb : Vec Ideal S256x1024 .bf16) (ga gb : Vec Ideal S256x2048 .bf16) (x : Vec Ideal S256x2048 .f32) (wa wb : Vec Ideal S1024x2048 .bf16) (wo : Vec Ideal S2048x2048 .bf16) (r : Fin 256) (k : Fin 2048) :
    yBlk ha hb ga gb x wa wb wo (ix2 r k)
      = x (ix2 r k) + ∑ j : Fin 2048, (gate (ga (ix2 r j)) * (∑ i : Fin 1024, ha (ix2 r i) * wa (ix2 i j)) + gate (gb (ix2 r j)) * ∑ i : Fin 1024, hb (ix2 r i) * wb (ix2 i j)) * wo (ix2 j k) := by
  unfold yBlk
  rw [c_el]
  simp only [a_el, b_el]

/-- The reference's two gated products, added. -/
abbrev refU (HA HB : FVec Ideal Cert.Reference3Ideal.S8192x1024 .bf16) (X : FVec Ideal Cert.Reference3Ideal.S8192x13312 .bf16) (WA WB : FVec Ideal Cert.Reference3Ideal.S1024x2048 .f32) : FVec Ideal Cert.Reference3Ideal.S8192x2048 .f32 :=
  addf (mulf (Host.divf (broadcastInDim Cert.Reference3Ideal.S8192x2048 ![] Cert.Reference3Ideal.Gen.bcast_S_S8192x2048 (constant Cert.Reference3Ideal.S_ .f32 0x3F800000#32)) (addf (broadcastInDim Cert.Reference3Ideal.S8192x2048 ![] Cert.Reference3Ideal.Gen.bcast_S_S8192x2048 (constant Cert.Reference3Ideal.S_ .f32 0x3F800000#32)) (Host.exp (Host.negf (extf .f32 (extractStridedSlice Cert.Reference3Ideal.S8192x2048 ![0, 0] X Cert.Reference3Ideal.Gen.slices_S8192x13312_S8192x2048_0_0) Cert.Reference3Ideal.Gen.bitsLt_bf16_f32))))) (Host.dotGeneral Cert.Reference3Ideal.dot_S8192x1024_S1024x2048_S8192x2048_1_0_0_1_n_n none HA (truncf .bf16 WA Cert.Reference3Ideal.Gen.bitsLt_bf16_f32))) (mulf (Host.divf (broadcastInDim Cert.Reference3Ideal.S8192x2048 ![] Cert.Reference3Ideal.Gen.bcast_S_S8192x2048 (constant Cert.Reference3Ideal.S_ .f32 0x3F800000#32)) (addf (broadcastInDim Cert.Reference3Ideal.S8192x2048 ![] Cert.Reference3Ideal.Gen.bcast_S_S8192x2048 (constant Cert.Reference3Ideal.S_ .f32 0x3F800000#32)) (Host.exp (Host.negf (extf .f32 (extractStridedSlice Cert.Reference3Ideal.S8192x2048 ![0, 2048] X Cert.Reference3Ideal.Gen.slices_S8192x13312_S8192x2048_0_2048) Cert.Reference3Ideal.Gen.bitsLt_bf16_f32))))) (Host.dotGeneral Cert.Reference3Ideal.dot_S8192x1024_S1024x2048_S8192x2048_1_0_0_1_n_n none HB (truncf .bf16 WB Cert.Reference3Ideal.Gen.bitsLt_bf16_f32)))

/-- The reference's output. -/
abbrev refY (HA HB : FVec Ideal Cert.Reference3Ideal.S8192x1024 .bf16) (X : FVec Ideal Cert.Reference3Ideal.S8192x13312 .bf16) (WA WB : FVec Ideal Cert.Reference3Ideal.S1024x2048 .f32) (WO : FVec Ideal Cert.Reference3Ideal.S2048x2048 .f32) (Y : FVec Ideal Cert.Reference3Ideal.S8192x2048 .f32) : FVec Ideal Cert.Reference3Ideal.S8192x2048 .f32 :=
  addf Y (Host.dotGeneral Cert.Reference3Ideal.dot_S8192x2048_S2048x2048_S8192x2048_1_0_0_1_n_n none (truncf .bf16 (refU HA HB X WA WB) Cert.Reference3Ideal.Gen.bitsLt_bf16_f32) (truncf .bf16 WO Cert.Reference3Ideal.Gen.bitsLt_bf16_f32))

theorem refU_el (HA HB : FVec Ideal Cert.Reference3Ideal.S8192x1024 .bf16) (X : FVec Ideal Cert.Reference3Ideal.S8192x13312 .bf16) (WA WB : FVec Ideal Cert.Reference3Ideal.S1024x2048 .f32) (r : Fin 8192) (j : Fin 2048) :
    refU HA HB X WA WB (ix2 r j) = gate (X (ix2 r ⟨0 + j.val, by omega⟩)) * (∑ i : Fin 1024, HA (ix2 r i) * WA (ix2 i j)) + gate (X (ix2 r ⟨2048 + j.val, by omega⟩)) * ∑ i : Fin 1024, HB (ix2 r i) * WB (ix2 i j) := by
  pointwise [refU, gate]

theorem refY_el (HA HB : FVec Ideal Cert.Reference3Ideal.S8192x1024 .bf16) (X : FVec Ideal Cert.Reference3Ideal.S8192x13312 .bf16) (WA WB : FVec Ideal Cert.Reference3Ideal.S1024x2048 .f32) (WO : FVec Ideal Cert.Reference3Ideal.S2048x2048 .f32) (Y : FVec Ideal Cert.Reference3Ideal.S8192x2048 .f32) (r : Fin 8192) (k : Fin 2048) :
    refY HA HB X WA WB WO Y (ix2 r k) = Y (ix2 r k) + ∑ j : Fin 2048, refU HA HB X WA WB (ix2 r j) * WO (ix2 j k) := by
  unfold refY
  generalize refU HA HB X WA WB = U
  pointwise

/-- Sixteen numbers added by halves. -/
theorem tree16 {M : Type} [AddCommMonoid M] (R : ℕ → M) :
    ((((R 0 + R 8) + (R 4 + R 12)) + ((R 2 + R 10) + (R 6 + R 14))) + (((R 1 + R 9) + (R 5 + R 13)) + ((R 3 + R 11) + (R 7 + R 15)))) = ∑ a ∈ Finset.range 16, R a := by
  simp only [Finset.sum_range_succ, Finset.sum_range_zero, zero_add]
  ac_rfl

/-- A hundred and twenty-eight numbers: eight runs of sixteen added, then halves. -/
theorem tree128 {M : Type} [AddCommMonoid M] (f : ℕ → M) :
    (((((f (0 + 0) + f (16 + 0) + f (32 + 0) + f (48 + 0) + f (64 + 0) + f (80 + 0) + f (96 + 0) + f (112 + 0)) + (f (0 + 8) + f (16 + 8) + f (32 + 8) + f (48 + 8) + f (64 + 8) + f (80 + 8) + f (96 + 8) + f (112 + 8))) + ((f (0 + 4) + f (16 + 4) + f (32 + 4) + f (48 + 4) + f (64 + 4) + f (80 + 4) + f (96 + 4) + f (112 + 4)) + (f (0 + 12) + f (16 + 12) + f (32 + 12) + f (48 + 12) + f (64 + 12) + f (80 + 12) + f (96 + 12) + f (112 + 12)))) + (((f (0 + 2) + f (16 + 2) + f (32 + 2) + f (48 + 2) + f (64 + 2) + f (80 + 2) + f (96 + 2) + f (112 + 2)) + (f (0 + 10) + f (16 + 10) + f (32 + 10) + f (48 + 10) + f (64 + 10) + f (80 + 10) + f (96 + 10) + f (112 + 10))) + ((f (0 + 6) + f (16 + 6) + f (32 + 6) + f (48 + 6) + f (64 + 6) + f (80 + 6) + f (96 + 6) + f (112 + 6)) + (f (0 + 14) + f (16 + 14) + f (32 + 14) + f (48 + 14) + f (64 + 14) + f (80 + 14) + f (96 + 14) + f (112 + 14))))) + ((((f (0 + 1) + f (16 + 1) + f (32 + 1) + f (48 + 1) + f (64 + 1) + f (80 + 1) + f (96 + 1) + f (112 + 1)) + (f (0 + 9) + f (16 + 9) + f (32 + 9) + f (48 + 9) + f (64 + 9) + f (80 + 9) + f (96 + 9) + f (112 + 9))) + ((f (0 + 5) + f (16 + 5) + f (32 + 5) + f (48 + 5) + f (64 + 5) + f (80 + 5) + f (96 + 5) + f (112 + 5)) + (f (0 + 13) + f (16 + 13) + f (32 + 13) + f (48 + 13) + f (64 + 13) + f (80 + 13) + f (96 + 13) + f (112 + 13)))) + (((f (0 + 3) + f (16 + 3) + f (32 + 3) + f (48 + 3) + f (64 + 3) + f (80 + 3) + f (96 + 3) + f (112 + 3)) + (f (0 + 11) + f (16 + 11) + f (32 + 11) + f (48 + 11) + f (64 + 11) + f (80 + 11) + f (96 + 11) + f (112 + 11))) + ((f (0 + 7) + f (16 + 7) + f (32 + 7) + f (48 + 7) + f (64 + 7) + f (80 + 7) + f (96 + 7) + f (112 + 7)) + (f (0 + 15) + f (16 + 15) + f (32 + 15) + f (48 + 15) + f (64 + 15) + f (80 + 15) + f (96 + 15) + f (112 + 15))))))
      = ∑ n ∈ Finset.range 128, f n := by
  refine (tree16 fun a => (f (0 + a) + f (16 + a) + f (32 + a) + f (48 + a) + f (64 + a) + f (80 + a) + f (96 + a) + f (112 + a))).trans ?_
  simp only [Finset.sum_add_distrib]
  rw [show (128 : ℕ) = 16 + 16 + 16 + 16 + 16 + 16 + 16 + 16 from rfl]
  simp only [Finset.sum_range_add, zero_add]

/-- A page's element by its token's number. -/
def tokAt (P : Vec Ideal S128x8x128 .f32) (u : Fin 8) (k : Fin 128) (n : ℕ) : EReal := if h : n < 128 then P (ix3 ⟨n, h⟩ u k) else 0

theorem chunk_el (P : Vec Ideal S128x8x128 .f32) (o : ℕ) (h : ∀ a, (![o, 0, 0] : Fin 3 → ℕ) a + S16x8x128.size a ≤ S128x8x128.size a) (a : Fin 16) (u : Fin 8) (k : Fin 128) :
    chunk (F := Ideal) P ![o, 0, 0] h (ix3 a u k) = tokAt P u k (o + a.val) := by
  have ho : o + 16 ≤ 128 := h 0
  unfold chunk tokAt
  rw [dif_pos (by omega)]
  refine congrArg P (funext fun b => Fin.ext ?_)
  match b with
  | ⟨0, _⟩ => show o + 1 * a.val = o + a.val; omega
  | ⟨1, _⟩ => show 0 + 1 * u.val = u.val; omega
  | ⟨2, _⟩ => show 0 + 1 * k.val = k.val; omega

theorem sum_el (P : Vec Ideal S128x8x128 .f32) (r : Fin 1) (u : Fin 8) (k : Fin 128) :
    rowSum (F := Ideal) P (ix3 r u k) = ∑ t : Fin 128, P (ix3 t u k) := by
  unfold rowSum
  pointwise [k0_pay5, k0_pay6, k0_pay7]
  simp only [chunk_el]
  refine (tree128 (tokAt P u k)).trans ?_
  rw [Finset.sum_range]
  refine Finset.sum_congr rfl fun t _ => ?_
  unfold tokAt
  rw [dif_pos t.isLt]

end Cert.Kernel3Ideal.Out
-- ==== Proof.OutTable.lean ====
/- The page table as the region finds it: its words, their bound under the precondition, and a page gathered by the reference. -/
module

public import proofs.«01_k».proof.Proof.OutRows
public import proofs.«01_k».proof.Proof.Gen.Pre_pages3
public import Idealize.ShloMosaic.Lib.StableHlo.Predicate
public import Idealize.ShloMosaic.Lib.KernelVsHost

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL.Sem

section AnyF
variable {F : FTy → Type} [FloatOps F]
variable (m : (ℓ : Loc nD τ sig) → Buf (Elt F) ℓ)

/-- A word of the table by its index. -/
theorem word_val (c : Dev nD) (ft : Buf (Elt F) (tblM.view.loc (c : Thread nD τ))) (n : ℕ) :
    word c ft n = (ft : IVec S512 32) (ix1 ⟨min n 511, by omega⟩) := by
  unfold word
  refine congrArg ft (funext fun a => Fin.ext ?_)
  match a with
  | ⟨0, _⟩ => rfl

/-- The table's entries from the argument's. -/
theorem tbl_small (A : IVec S32x128 32) (hA : ∀ x, (A x).toNat < 5120) (n : Fin 512) :
    (pad S512 ![0] ![0] ![0] (extractStridedSlice S512 ![3584] (shapeCast S4096 A shapeCasts_S32x128_S4096) slices_S4096_S512_3584) (constantI S_ 32 0#32) pads_S512_S512_000 h_S_ (ix1 n)).toNat < 5120 := by
  unfold pad
  split
  · exact hA _
  · show (0#32 : BitVec 32).toNat < 5120
    decide

/-- The table is padded by nothing. -/
theorem tbl_eq (S : IVec S512 32) (z : IVec S_ 32) : pad S512 ![0] ![0] ![0] S z pads_S512_S512_000 h_S_ = S := by
  funext y
  unfold pad
  split
  · refine congrArg S (funext fun a => Fin.ext ?_)
    match a with
    | ⟨0, _⟩ => exact Nat.div_one _
  · rename_i h
    exact absurd (fun a => by match a with | ⟨0, _⟩ => exact ⟨Nat.zero_le _, Nat.mod_one _, by show ((y 0).val - 0) / (0 + 1) < 512; have : (y 0).val < 512 := (y 0).isLt; omega⟩) h

/-- What the precondition says of an entry of the argument. -/
theorem entry_small {A0 : FVec F Cert.Pre_pages3.S8192x1024 .bf16} {A1 : FVec F Cert.Pre_pages3.S8192x1024 .bf16} {A2 : FVec F Cert.Pre_pages3.S8192x13312 .bf16} {A3 : FVec F Cert.Pre_pages3.S4x2048x2048 .f32} {A4 : FVec F Cert.Pre_pages3.S1x1024x2048 .f32} {A5 : FVec F Cert.Pre_pages3.S1x1024x2048 .f32} {A6 : FVec F Cert.Pre_pages3.S1x2048x2048 .f32} {A7 : IVec Cert.Pre_pages3.S32x128 32} {A8 : FVec F Cert.Pre_pages3.S1x5120x128x8x128 .f32}
    (h : Cert.Pre_pages3.fn A0 A1 A2 A3 A4 A5 A6 A7 A8 = fun _ => 1#1) (x : Cert.Pre_pages3.S32x128.Idx) : (A7 x).toNat < 5120 := by
  have e := congrFun h x
  simp only [Cert.Pre_pages3.fn, andi, cmpi, constantI, broadcastInDim] at e
  generalize A7 x = v at e ⊢
  have h2 : ∀ a b : BitVec 1, IntOp.andi a b = 1#1 → a = 1#1 ∧ b = 1#1 := by decide
  obtain ⟨e1, e2⟩ := h2 _ _ e
  have hb : ∀ b : Bool, BitVec.ofBool b = 1#1 → b = true := by decide
  have f1 : (0 : ℤ) ≤ v.toInt := by
    have := of_decide_eq_true (hb _ e1)
    simpa using this
  have f2 : v.toInt < 5120 := by
    have := of_decide_eq_true (hb _ e2)
    simpa using this
  have ht := BitVec.toInt_eq_toNat_cond v
  split at ht <;> omega

/-- The words the kernel reads are page numbers. -/
theorem words_small (hA : ∀ (c : Dev nD) x, ((m ((c : Thread nD τ).loc main_arg7) : IVec S32x128 32) x).toNat < 5120) (c : Dev nD) (n : ℕ) :
    (word c (V m c main_v10) n).toNat < 5120 := by
  rw [word_val, V_tbl]
  exact tbl_small _ (hA c) _

/-- A page's element in the cache. -/
theorem page_el (c : Dev nD) (w : BitVec 32) (fc : Buf (Elt F) ((c : Thread nD τ).loc main_v9)) (t : Fin 128) (u : Fin 8) (k : Fin 128) :
    pageVec c w fc (ix3 t u k) = (fc : FVec F S5120x128x8x128 .f32) (ix4 ⟨pageNo w, by unfold pageNo; omega⟩ t u k) := by
  have e : pageVec c w fc = shapeCast S128x8x128 (fun z : S1x128x8x128.Idx => (fc : FVec F S5120x128x8x128 .f32)
      ((Rect.unit (s := S5120x128x8x128) ![pageNo w, 0, 0, 0] S1x128x8x128.size (page_inb w)).emb z)) (by decide) := rfl
  rw [e]
  pointwise
  refine congrArg fc (funext fun a => Fin.ext ?_)
  match a with
  | ⟨0, _⟩ => show pageNo w + 1 * 0 = pageNo w; omega
  | ⟨1, _⟩ => show 0 + 1 * t.val = t.val; omega
  | ⟨2, _⟩ => show 0 + 1 * u.val = u.val; omega
  | ⟨3, _⟩ => show 0 + 1 * k.val = k.val; omega
end AnyF

/-- The reference's choice of pages. -/
abbrev takePages := Cert.Reference3Ideal.gather_S5120x128x8x128_S512x1_S512x128x8x128_123_0_n_n_0_1_11288128

theorem take_0 (I : IVec Cert.Reference3Ideal.S512x1 32) (r : Fin 512) (t : Fin 128) (u : Fin 8) (k : Fin 128)
    (hb : (I (ix2 r (0 : Fin 1))).toNat < 5120) :
    takePages.start (ix4 r t u k) I (0 : Fin 4) + takePages.batchCoord (ix4 r t u k) (0 : Fin 4) + takePages.offCoord (ix4 r t u k) (0 : Fin 4) = (I (ix2 r (0 : Fin 1))).toNat := by
  rw [takePages.batchCoord_eq_zero _ _ List.not_mem_nil,
    takePages.offCoord_eq_zero _ _ (fun h => ((GatherDims.mem_sKept _ _).mp h).1 (List.mem_singleton.mpr rfl))]
  simp only [Nat.add_zero]
  unfold GatherDims.start
  rw [dif_pos (show (0 : Fin 4) ∈ takePages.startIndexMap from List.mem_singleton.mpr rfl)]
  have hsi : takePages.siIdx (ix4 r t u k)
      ⟨List.idxOf (0 : Fin 4) takePages.startIndexMap, List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  have hi : (I (ix2 r (0 : Fin 1))).toInt = ((I (ix2 r (0 : Fin 1))).toNat : ℤ) := BitVec.toInt_eq_toNat_of_lt (by omega)
  show min (I (ix2 r (0 : Fin 1))).toInt.toNat 5119 = (I (ix2 r (0 : Fin 1))).toNat
  rw [hi]
  omega

theorem take_1 (I : IVec Cert.Reference3Ideal.S512x1 32) (r : Fin 512) (t : Fin 128) (u : Fin 8) (k : Fin 128) :
    takePages.start (ix4 r t u k) I (1 : Fin 4) + takePages.batchCoord (ix4 r t u k) (1 : Fin 4) + takePages.offCoord (ix4 r t u k) (1 : Fin 4) = t.val := by
  have e0 : takePages.start (ix4 r t u k) I (1 : Fin 4) = 0 := by
    unfold GatherDims.start
    rw [dif_neg (show (1 : Fin 4) ∉ takePages.startIndexMap by decide)]
  rw [takePages.batchCoord_eq_zero _ _ List.not_mem_nil, e0]
  have e1 : takePages.offCoord (ix4 r t u k) (1 : Fin 4) = t.val := by
    unfold GatherDims.offCoord
    rw [dif_pos (show (1 : Fin 4) ∈ takePages.sKept by decide)]
    rfl
  rw [e1]; omega

theorem take_2 (I : IVec Cert.Reference3Ideal.S512x1 32) (r : Fin 512) (t : Fin 128) (u : Fin 8) (k : Fin 128) :
    takePages.start (ix4 r t u k) I (2 : Fin 4) + takePages.batchCoord (ix4 r t u k) (2 : Fin 4) + takePages.offCoord (ix4 r t u k) (2 : Fin 4) = u.val := by
  have e0 : takePages.start (ix4 r t u k) I (2 : Fin 4) = 0 := by
    unfold GatherDims.start
    rw [dif_neg (show (2 : Fin 4) ∉ takePages.startIndexMap by decide)]
  rw [takePages.batchCoord_eq_zero _ _ List.not_mem_nil, e0]
  have e1 : takePages.offCoord (ix4 r t u k) (2 : Fin 4) = u.val := by
    unfold GatherDims.offCoord
    rw [dif_pos (show (2 : Fin 4) ∈ takePages.sKept by decide)]
    rfl
  rw [e1]; omega

theorem take_3 (I : IVec Cert.Reference3Ideal.S512x1 32) (r : Fin 512) (t : Fin 128) (u : Fin 8) (k : Fin 128) :
    takePages.start (ix4 r t u k) I (3 : Fin 4) + takePages.batchCoord (ix4 r t u k) (3 : Fin 4) + takePages.offCoord (ix4 r t u k) (3 : Fin 4) = k.val := by
  have e0 : takePages.start (ix4 r t u k) I (3 : Fin 4) = 0 := by
    unfold GatherDims.start
    rw [dif_neg (show (3 : Fin 4) ∉ takePages.startIndexMap by decide)]
  rw [takePages.batchCoord_eq_zero _ _ List.not_mem_nil, e0]
  have e1 : takePages.offCoord (ix4 r t u k) (3 : Fin 4) = k.val := by
    unfold GatherDims.offCoord
    rw [dif_pos (show (3 : Fin 4) ∈ takePages.sKept by decide)]
    rfl
  rw [e1]; omega

/-- The reference's gather at an element: the page its table names. -/
theorem gather_page (C : FVec Ideal S5120x128x8x128 .f32) (I : IVec Cert.Reference3Ideal.S512x1 32) (r : Fin 512) (t : Fin 128) (u : Fin 8) (k : Fin 128)
    (hb : (I (ix2 r (0 : Fin 1))).toNat < 5120) :
    Host.gather takePages C I (ix4 r t u k) = C (ix4 ⟨(I (ix2 r (0 : Fin 1))).toNat, hb⟩ t u k) := by
  unfold Host.gather
  refine congrArg C (funext fun a => Fin.ext ?_)
  match a with
  | ⟨0, _⟩ => exact take_0 I r t u k hb
  | ⟨1, _⟩ => exact take_1 I r t u k
  | ⟨2, _⟩ => exact take_2 I r t u k
  | ⟨3, _⟩ => exact take_3 I r t u k

end Cert.Kernel3Ideal.Out
-- ==== Proof.OutFrame.lean ====
/- The streaming output projection's frame: its arguments unchanged, every semaphore counter at zero. For any float values. -/
module

public import proofs.«01_k».proof.Proof.OutTable
public import Idealize.ShloMosaic.Lib.Claim

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

theorem kept_0 (c : Dev nD) : (dats m 0 c).arrAt 0 (cfgM m).N = m ((c : Thread nD τ).loc main_arg0) :=
  ((dats m 0 c).arrAt_in 0 rfl _).trans ((A_eq m c 0).trans (V_main_arg0 m c))
theorem kept_1 (c : Dev nD) : (dats m 0 c).arrAt 1 (cfgM m).N = m ((c : Thread nD τ).loc main_arg1) :=
  ((dats m 0 c).arrAt_in 1 rfl _).trans ((A_eq m c 1).trans (V_main_arg1 m c))
theorem kept_2 (c : Dev nD) : (dats m 0 c).arrAt 2 (cfgM m).N = m ((c : Thread nD τ).loc main_arg2) :=
  ((dats m 0 c).arrAt_in 2 rfl _).trans ((A_eq m c 2).trans (V_main_arg2 m c))

/-- What the launch leaves of the arguments. -/
theorem args_of (r : PUnit × MemSt nD τ sig (Elt F)) (h : Pipeline.FramePost (Pipeline.pin pcfgs fun _ => adm m) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (kept_0 m c), ((h c).1 1).trans (kept_1 m c), ((h c).1 2).trans (kept_2 m c),
     ((h c).2 main_arg3 (Pipeline.mem_restRefs_of main_arg3 (by decide) (show ∀ w : Fin 10, (spec0 w).arr.view.ref ≠ main_arg3 by decide))).trans (V_main_arg3 m c),
     ((h c).2 main_arg4 (Pipeline.mem_restRefs_of main_arg4 (by decide) (show ∀ w : Fin 10, (spec0 w).arr.view.ref ≠ main_arg4 by decide))).trans (V_main_arg4 m c),
     ((h c).2 main_arg5 (Pipeline.mem_restRefs_of main_arg5 (by decide) (show ∀ w : Fin 10, (spec0 w).arr.view.ref ≠ main_arg5 by decide))).trans (V_main_arg5 m c),
     ((h c).2 main_arg6 (Pipeline.mem_restRefs_of main_arg6 (by decide) (show ∀ w : Fin 10, (spec0 w).arr.view.ref ≠ main_arg6 by decide))).trans (V_main_arg6 m c),
     ((h c).2 main_arg7 (Pipeline.mem_restRefs_of main_arg7 (by decide) (show ∀ w : Fin 10, (spec0 w).arr.view.ref ≠ main_arg7 by decide))).trans (V_main_arg7 m c),
     ((h c).2 main_arg8 (Pipeline.mem_restRefs_of main_arg8 (by decide) (show ∀ w : Fin 10, (spec0 w).arr.view.ref ≠ main_arg8 by decide))).trans (V_main_arg8 m c)⟩

theorem frame_of (hw : ∀ (c : Dev nD) (n : ℕ), (word c (V m c main_v10) n).toNat < 5120) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => args_of m r h.1 c, h.2⟩) (run_quiescent m ρ hw)

end Cert.Kernel3Ideal.Out
-- ==== Proof.OutValue.lean ====
/- The two arrays the streaming output projection returns, as its reference states them, over the extended reals. -/
module

public import proofs.«01_k».proof.Proof.OutFrame

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL.Sem

section AnyF
variable {F : FTy → Type} [FloatOps F]
variable (m : (ℓ : Loc nD τ sig) → Buf (Elt F) ℓ)

theorem emb_8 (t : Fin (cfgM m).N) (y : S256x2048.Idx) :
    ((((cfgM m).win 8).blk t).view.emb y : S8192x2048.Idx) = ix2 ⟨256 * t.val + (y 0).val, by have := lt_32 m t; have : (y 0).val < 256 := (y 0).isLt; omega⟩ (y 1) := by
  have e := index_8 t
  funext a
  apply Fin.ext
  match a with
  | ⟨0, _⟩ =>
    refine (Pipeline.Window.rect_emb_val_off ((cfgM m).win 8) t _ _).trans ?_
    show cc0_transform_9 (grid0.coords t) 0 * 256 + (y 0).val = 256 * t.val + (y 0).val
    rw [e]; show t.val * 256 + _ = _; omega
  | ⟨1, _⟩ =>
    refine (Pipeline.Window.rect_emb_val_off ((cfgM m).win 8) t _ _).trans ?_
    show cc0_transform_9 (grid0.coords t) 1 * 2048 + (y 1).val = (y 1).val
    rw [e]; show 0 * 2048 + _ = _; omega

theorem emb_9 (t : Fin (cfgM m).N) (y : S16x8x128.Idx) :
    ((((cfgM m).win 9).blk t).view.emb y : S512x8x128.Idx) = ix3 ⟨16 * t.val + (y 0).val, by have := lt_32 m t; have : (y 0).val < 16 := (y 0).isLt; omega⟩ (y 1) (y 2) := by
  have e := index_9 t
  funext a
  apply Fin.ext
  match a with
  | ⟨0, _⟩ =>
    refine (Pipeline.Window.rect_emb_val_off ((cfgM m).win 9) t _ _).trans ?_
    show cc0_transform_10 (grid0.coords t) 0 * 16 + (y 0).val = 16 * t.val + (y 0).val
    rw [e]; show t.val * 16 + _ = _; omega
  | ⟨1, _⟩ =>
    refine (Pipeline.Window.rect_emb_val_off ((cfgM m).win 9) t _ _).trans ?_
    show cc0_transform_10 (grid0.coords t) 1 * 8 + (y 1).val = (y 1).val
    rw [e]; show 0 * 8 + _ = _; omega
  | ⟨2, _⟩ =>
    refine (Pipeline.Window.rect_emb_val_off ((cfgM m).win 9) t _ _).trans ?_
    show cc0_transform_10 (grid0.coords t) 2 * 128 + (y 2).val = (y 2).val
    rw [e]; show 0 * 128 + _ = _; omega

/-- The element a view places an index at is one of its elements. -/
theorem mem_of_emb {κ : Kind} {sp : Space} {S : Shape} {e : EltTy} (v : View sig κ sp S e) {i : v.ty.Idx} {x : S.Idx} (h : v.emb x = i) : i ∈ v.set :=
  h ▸ v.emb_mem_set x

theorem cover_8 (i : S8192x2048.Idx) : ∃ t : Fin (cfgM m).N, ((cfgM m).win 8).flush t = true ∧ i ∈ (((cfgM m).win 8).blk t).view.set := by
  have h0 : (i 0).val < 8192 := (i 0).isLt
  have ht : (i 0).val / 256 < grid0.N := by rw [show grid0.N = 32 from N_0]; omega
  refine ⟨⟨(i 0).val / 256, ht⟩, flush_8 _, ?_⟩
  have e := emb_8 m ⟨(i 0).val / 256, ht⟩ (ix2 ⟨(i 0).val % 256, Nat.mod_lt _ (by decide)⟩ (i 1))
  refine mem_of_emb _ (e.trans ?_)
  · funext a
    apply Fin.ext
    symm
    match a with
    | ⟨0, _⟩ => show (i 0).val = 256 * ((i 0).val / 256) + (i 0).val % 256; omega
    | ⟨1, _⟩ => rfl

theorem cover_9 (i : S512x8x128.Idx) : ∃ t : Fin (cfgM m).N, ((cfgM m).win 9).flush t = true ∧ i ∈ (((cfgM m).win 9).blk t).view.set := by
  have h0 : (i 0).val < 512 := (i 0).isLt
  have ht : (i 0).val / 16 < grid0.N := by rw [show grid0.N = 32 from N_0]; omega
  refine ⟨⟨(i 0).val / 16, ht⟩, flush_9 _, ?_⟩
  have e := emb_9 m ⟨(i 0).val / 16, ht⟩ (ix3 ⟨(i 0).val % 16, Nat.mod_lt _ (by decide)⟩ (i 1) (i 2))
  refine mem_of_emb _ (e.trans ?_)
  · funext a
    apply Fin.ext
    symm
    match a with
    | ⟨0, _⟩ => show (i 0).val = 16 * ((i 0).val / 16) + (i 0).val % 16; omega
    | ⟨1, _⟩ => rfl
    | ⟨2, _⟩ => rfl

end AnyF

variable (m : (ℓ : Loc nD τ sig) → Buf (Elt Ideal) ℓ)

theorem arr_8 (c : Dev nD) (G : FVec Ideal S8192x2048 .f32)
    (hG : ∀ (b : Fin 32) (r : Fin 256) (k : Fin 2048), yOut m c b.val (ix2 r k) = G (ix2 ⟨256 * b.val + r.val, by omega⟩ k)) :
    (dats m 0 c).arrAt 8 (cfgM m).N = G := by
  have key : ∀ (t : Fin (cfgM m).N) (y : S256x2048.Idx), yOut m c t.val y = G ((((cfgM m).win 8).blk t).view.emb y : S8192x2048.Idx) := fun t y => by
    have h := lt_32 m t
    refine Eq.trans ?_ (congrArg G (emb_8 m t y).symm)
    have e := hG ⟨t.val, h⟩ (y 0) (y 1)
    exact (congrArg (yOut m c t.val) (eq_ix2 y)).trans e
  refine (dats m 0 c).arrAt_eq_of_emb 8 G (fun t hf y => ?_) (cover_8 m)
  blk_simp
  rw [after_8]
  exact key t y

theorem arr_9 (c : Dev nD) (G : FVec Ideal S512x8x128 .f32)
    (hG : ∀ (n : Fin 32) (r : Fin 16) (u : Fin 8) (k : Fin 128), sumsOut m c n.val (ix3 r u k) = G (ix3 ⟨16 * n.val + r.val, by omega⟩ u k)) :
    (dats m 0 c).arrAt 9 (cfgM m).N = G := by
  have key : ∀ (t : Fin (cfgM m).N) (y : S16x8x128.Idx), sumsOut m c t.val y = G ((((cfgM m).win 9).blk t).view.emb y : S512x8x128.Idx) := fun t y => by
    have h := lt_32 m t
    refine Eq.trans ?_ (congrArg G (emb_9 m t y).symm)
    have e := hG ⟨t.val, h⟩ (y 0) (y 1) (y 2)
    exact (congrArg (sumsOut m c t.val) (eq_ix3 y)).trans e
  refine (dats m 0 c).arrAt_eq_of_emb 9 G (fun t hf y => ?_) (cover_9 m)
  blk_simp
  rw [after_9]
  exact key t y

end Cert.Kernel3Ideal.Out
-- ==== Proof.OutTie.lean ====
/- The streaming output projection's two results are its reference's, over the extended reals: the same gated products summed
   in any order, the same pages summed. -/
module

public import proofs.«01_k».proof.Proof.OutValue

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL.Sem

variable (m : (ℓ : Loc nD τ sig) → Buf (Elt Ideal) ℓ)

/-- The pages the reference takes. -/
abbrev taken (A : IVec Cert.Reference3Ideal.S32x128 32) : IVec Cert.Reference3Ideal.S512 32 :=
  extractStridedSlice Cert.Reference3Ideal.S512 ![3584] (shapeCast Cert.Reference3Ideal.S4096 A Cert.Reference3Ideal.Gen.shapeCasts_S32x128_S4096) Cert.Reference3Ideal.Gen.slices_S4096_S512_3584

/-- The page sums, as the reference makes them. -/
abbrev refSums (C : FVec Ideal Cert.Reference3Ideal.S5120x128x8x128 .f32) (T : IVec Cert.Reference3Ideal.S512 32) : FVec Ideal Cert.Reference3Ideal.S512x8x128 .f32 :=
  Host.reduceAdd (Host.gather takePages C (broadcastInDim Cert.Reference3Ideal.S512x1 ![0] Cert.Reference3Ideal.Gen.bcast_S512_S512x1_0 T))
    (constant Cert.Reference3Ideal.S_ .f32 0x00000000#32) Cert.Reference3Ideal.Gen.reducesTo_S512x128x8x128_S512x8x128_d1 Cert.Reference3Ideal.Gen.h_S_

theorem refSums_el (C : FVec Ideal Cert.Reference3Ideal.S5120x128x8x128 .f32) (T : IVec Cert.Reference3Ideal.S512 32) (r : Fin 512) (u : Fin 8) (k : Fin 128)
    (hb : (T (ix1 r)).toNat < 5120) : refSums C T (ix3 r u k) = ∑ t : Fin 128, C (ix4 ⟨(T (ix1 r)).toNat, hb⟩ t u k) := by
  unfold refSums
  have hg : ∀ t : Fin 128, Host.gather takePages C (broadcastInDim Cert.Reference3Ideal.S512x1 ![0] Cert.Reference3Ideal.Gen.bcast_S512_S512x1_0 T) (ix4 r t u k)
      = C (ix4 ⟨(T (ix1 r)).toNat, hb⟩ t u k) := fun t => by
    have e : broadcastInDim Cert.Reference3Ideal.S512x1 ![0] Cert.Reference3Ideal.Gen.bcast_S512_S512x1_0 T (ix2 r (0 : Fin 1)) = T (ix1 r) := by pointwise
    refine (gather_page C _ r t u k (by rw [e]; exact hb)).trans ?_
    congr 2
    exact Fin.ext (congrArg BitVec.toNat e)
  generalize Host.gather takePages C _ = Q at hg ⊢
  rw [← Finset.sum_congr rfl fun t _ => hg t]
  pointwise

theorem haAt_el (c : Dev nD) (b : Fin 32) (r : Fin 256) (k : Fin 1024) :
    haAt m c b.val (ix2 r k) = (m ((c : Thread nD τ).loc main_arg0) : FVec Ideal S8192x1024 .bf16) (ix2 ⟨256 * b.val + r.val, by omega⟩ k) := by
  unfold haAt
  rw [V_main_arg0]
  refine congrArg (m ((c : Thread nD τ).loc main_arg0)) (funext fun a => Fin.ext ?_)
  match a with
  | ⟨0, _⟩ => show 256 * min b.val 31 + r.val = 256 * b.val + r.val; omega
  | ⟨1, _⟩ => rfl

theorem hbAt_el (c : Dev nD) (b : Fin 32) (r : Fin 256) (k : Fin 1024) :
    hbAt m c b.val (ix2 r k) = (m ((c : Thread nD τ).loc main_arg1) : FVec Ideal S8192x1024 .bf16) (ix2 ⟨256 * b.val + r.val, by omega⟩ k) := by
  unfold hbAt
  rw [V_main_arg1]
  refine congrArg (m ((c : Thread nD τ).loc main_arg1)) (funext fun a => Fin.ext ?_)
  match a with
  | ⟨0, _⟩ => show 256 * min b.val 31 + r.val = 256 * b.val + r.val; omega
  | ⟨1, _⟩ => rfl

theorem gaAt_el (c : Dev nD) (b : Fin 32) (r : Fin 256) (k : Fin 2048) :
    gaAt m c b.val (ix2 r k) = (m ((c : Thread nD τ).loc main_arg2) : FVec Ideal S8192x13312 .bf16) (ix2 ⟨256 * b.val + r.val, by omega⟩ ⟨0 + k.val, by omega⟩) := by
  unfold gaAt
  rw [V_main_arg2]
  refine congrArg (m ((c : Thread nD τ).loc main_arg2)) (funext fun a => Fin.ext ?_)
  match a with
  | ⟨0, _⟩ => show 256 * min b.val 31 + r.val = 256 * b.val + r.val; omega
  | ⟨1, _⟩ => rfl

theorem gbAt_el (c : Dev nD) (b : Fin 32) (r : Fin 256) (k : Fin 2048) :
    gbAt m c b.val (ix2 r k) = (m ((c : Thread nD τ).loc main_arg2) : FVec Ideal S8192x13312 .bf16) (ix2 ⟨256 * b.val + r.val, by omega⟩ ⟨2048 + k.val, by omega⟩) := by
  unfold gbAt
  rw [V_main_arg2]
  refine congrArg (m ((c : Thread nD τ).loc main_arg2)) (funext fun a => Fin.ext ?_)
  match a with
  | ⟨0, _⟩ => show 256 * min b.val 31 + r.val = 256 * b.val + r.val; omega
  | ⟨1, _⟩ => rfl

theorem xAt_el (c : Dev nD) (b : Fin 32) (r : Fin 256) (k : Fin 2048) :
    xAt m c b.val (ix2 r k) = shapeCast Cert.Reference3Ideal.S8192x2048 (m ((c : Thread nD τ).loc main_arg3)) Cert.Reference3Ideal.Gen.shapeCasts_S4x2048x2048_S8192x2048 (ix2 ⟨256 * b.val + r.val, by omega⟩ k) := by
  unfold xAt
  rw [V_x]
  refine congrArg (shapeCast Cert.Reference3Ideal.S8192x2048 (m ((c : Thread nD τ).loc main_arg3)) Cert.Reference3Ideal.Gen.shapeCasts_S4x2048x2048_S8192x2048) (funext fun a => Fin.ext ?_)
  match a with
  | ⟨0, _⟩ => show 256 * min b.val 31 + r.val = 256 * b.val + r.val; omega
  | ⟨1, _⟩ => rfl

theorem value_8 (c : Dev nD) : (dats m 0 c).arrAt 8 (cfgM m).N = refY (m ((c : Thread nD τ).loc main_arg0)) (m ((c : Thread nD τ).loc main_arg1)) (m ((c : Thread nD τ).loc main_arg2)) (shapeCast Cert.Reference3Ideal.S1024x2048 (m ((c : Thread nD τ).loc main_arg4)) Cert.Reference3Ideal.Gen.shapeCasts_S1x1024x2048_S1024x2048) (shapeCast Cert.Reference3Ideal.S1024x2048 (m ((c : Thread nD τ).loc main_arg5)) Cert.Reference3Ideal.Gen.shapeCasts_S1x1024x2048_S1024x2048) (shapeCast Cert.Reference3Ideal.S2048x2048 (m ((c : Thread nD τ).loc main_arg6)) Cert.Reference3Ideal.Gen.shapeCasts_S1x2048x2048_S2048x2048) (shapeCast Cert.Reference3Ideal.S8192x2048 (m ((c : Thread nD τ).loc main_arg3)) Cert.Reference3Ideal.Gen.shapeCasts_S4x2048x2048_S8192x2048) := by
  refine arr_8 m c _ fun b r k => ?_
  unfold yOut
  rw [y_el, refY_el]
  simp only [refU_el, haAt_el, hbAt_el, gaAt_el, gbAt_el, xAt_el]
  rw [V_wa, V_wb, V_wo]
  rfl

theorem value_9 (hA : ∀ (c : Dev nD) x, ((m ((c : Thread nD τ).loc main_arg7) : IVec S32x128 32) x).toNat < 5120) (c : Dev nD) :
    (dats m 0 c).arrAt 9 (cfgM m).N = refSums (shapeCast Cert.Reference3Ideal.S5120x128x8x128 (m ((c : Thread nD τ).loc main_arg8)) Cert.Reference3Ideal.Gen.shapeCasts_S1x5120x128x8x128_S5120x128x8x128) (taken (m ((c : Thread nD τ).loc main_arg7))) := by
  refine arr_9 m c _ fun n r u k => ?_
  have hb : (taken (m ((c : Thread nD τ).loc main_arg7)) (ix1 ⟨16 * n.val + r.val, by omega⟩)).toNat < 5120 := hA c _
  rw [refSums_el _ _ _ _ _ hb]
  have ew : words c (V m c main_v10) n.val r = taken (m ((c : Thread nD τ).loc main_arg7)) (ix1 ⟨16 * n.val + r.val, by omega⟩) := by
    have e0 : words c (V m c main_v10) n.val r = word c (V m c main_v10) (16 * n.val + r.val) := by
      fin_cases r <;> rfl
    rw [e0, word_val, V_tbl, tbl_eq]
    refine congrArg (taken (m ((c : Thread nD τ).loc main_arg7))) ?_
    congr 1
    exact Fin.ext (show min (16 * n.val + r.val) 511 = 16 * n.val + r.val by omega)
  have er : sumsOut m c n.val (ix3 r u k) = rowSum (pageVec c (words c (V m c main_v10) n.val r) (V m c main_v9)) (ix3 (0 : Fin 1) u k) := by
    unfold sumsOut sumsBlk rows16
    refine congrArg (rowSum (pageVec c (words c (V m c main_v10) n.val r) (V m c main_v9))) (funext fun a => ?_)
    match a with
    | ⟨0, _⟩ => rfl
    | ⟨1, _⟩ => rfl
    | ⟨2, _⟩ => rfl
  rw [er, sum_el]
  refine Finset.sum_congr rfl fun t _ => ?_
  rw [page_el, V_cache]
  refine congrArg (shapeCast Cert.Reference3Ideal.S5120x128x8x128 (m ((c : Thread nD τ).loc main_arg8)) Cert.Reference3Ideal.Gen.shapeCasts_S1x5120x128x8x128_S5120x128x8x128) ?_
  congr 1
  refine Fin.ext ?_
  show pageNo (words c (V m c main_v10) n.val r) = _
  rw [ew]
  exact Nat.min_eq_left (by omega)

end Cert.Kernel3Ideal.Out
-- ==== Proof.OutMain.lean ====
/- The streaming output projection's whole run over the extended reals: its two results as its reference's terms of the
   arguments, the arguments unchanged. -/
module

public import proofs.«01_k».proof.Proof.OutTie
public import proofs.«01_k».proof.Proof.Gen.Kernel3
public import proofs.«01_k».proof.Proof.Gen.Reference3Ideal.Run
public import Idealize.ShloMosaic.Lib.Claim

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem run (hA : ∀ (c : Dev nD) x, ((m ((c : Thread nD τ).loc main_arg7) : IVec S32x128 32) x).toNat < 5120) :
    θ_run defs (onTc (τ := τ) (main (F := Ideal))) ⟨m, fun _ => 0, ρ⟩ (fun r => ∀ c : Dev nD,
      r.2.mem ((c.tc : Thread nD τ).loc main_v11_0) = refY (m ((c : Thread nD τ).loc main_arg0)) (m ((c : Thread nD τ).loc main_arg1)) (m ((c : Thread nD τ).loc main_arg2)) (shapeCast Cert.Reference3Ideal.S1024x2048 (m ((c : Thread nD τ).loc main_arg4)) Cert.Reference3Ideal.Gen.shapeCasts_S1x1024x2048_S1024x2048) (shapeCast Cert.Reference3Ideal.S1024x2048 (m ((c : Thread nD τ).loc main_arg5)) Cert.Reference3Ideal.Gen.shapeCasts_S1x1024x2048_S1024x2048) (shapeCast Cert.Reference3Ideal.S2048x2048 (m ((c : Thread nD τ).loc main_arg6)) Cert.Reference3Ideal.Gen.shapeCasts_S1x2048x2048_S2048x2048) (shapeCast Cert.Reference3Ideal.S8192x2048 (m ((c : Thread nD τ).loc main_arg3)) Cert.Reference3Ideal.Gen.shapeCasts_S4x2048x2048_S8192x2048)
      ∧ r.2.mem ((c.tc : Thread nD τ).loc main_v11_1) = refSums (shapeCast Cert.Reference3Ideal.S5120x128x8x128 (m ((c : Thread nD τ).loc main_arg8)) Cert.Reference3Ideal.Gen.shapeCasts_S1x5120x128x8x128_S5120x128x8x128) (taken (m ((c : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h.1 c).1 8).trans (value_8 m c), ((h.1 c).1 9).trans (value_9 m hA c), args_of m r h.1 c⟩)
    (run_quiescent m ρ (words_small m hA))

end Cert.Kernel3Ideal.Out
-- ==== Proof.SmallRows.lean ====
/- The sample batch's output projection: an entry of the block its body computes and an entry of its reference, over the
   extended reals. -/
module

public import proofs.«01_k».proof.Proof.Gen.Kernel4Ideal.Frame
public import proofs.«01_k».proof.Proof.Gen.Reference4Ideal
public import Idealize.ShloMosaic.Lib.Pipeline.ValueKit
public import Idealize.ShloMosaic.Lib.Pointwise

@[expose] public section

set_option maxRecDepth 16384

noncomputable section

namespace Cert.Kernel4Ideal.Small

open Cert.Kernel4Ideal Cert.Kernel4Ideal.Gen
open Idealize.ShloMosaic Idealize.ShloMosaic.TcCoe Idealize.ShloMosaic.Tactic
open Idealize.SL.Sem

/-- The logistic gate, as both sides write it. -/
def gate (v : EReal) : EReal := Ideal.div (Ideal.ofBits FTy.f32 1065353216#32) (Ideal.ofBits FTy.f32 1065353216#32 + Ideal.exp (-v))

/-- The gated products, added. -/
theorem u_el (ga gb : Vec Ideal S32x2048 .f32) (ha hb : Vec Ideal S32x1024 .f32) (wa wb : Vec Ideal S1024x2048 .bf16) (r : Fin 32) (j : Fin 2048) :
    k0_pay3 (F := Ideal) ga ha wa gb hb wb (ix2 r j)
      = gate (ga (ix2 r j)) * (∑ i : Fin 1024, ha (ix2 r i) * wa (ix2 i j)) + gate (gb (ix2 r j)) * ∑ i : Fin 1024, hb (ix2 r i) * wb (ix2 i j) := by
  pointwise [k0_pay3]
  unfold gate
  simp

/-- The output block's entry. -/
theorem y_el (x : FVec Ideal S32x2048 .f32) (u : FVec Ideal S32x2048 .bf16) (wo : Vec Ideal S2048x2048 .bf16) (r : Fin 32) (k : Fin 2048) :
    k0_pay1 (F := Ideal) (k0_pay2 x) u wo (ix2 r k) = x (ix2 r k) + ∑ j : Fin 2048, u (ix2 r j) * wo (ix2 j k) := by
  pointwise [k0_pay1, k0_pay2]

/-- The reference's two gated products, added. -/
abbrev refU (HA HB : FVec Ideal Cert.Reference4Ideal.S32x1024 .f32) (X : FVec Ideal Cert.Reference4Ideal.S32x13312 .f32) (WA WB : FVec Ideal Cert.Reference4Ideal.S1024x2048 .f32) : FVec Ideal Cert.Reference4Ideal.S32x2048 .f32 :=
  addf (mulf (Host.divf (broadcastInDim Cert.Reference4Ideal.S32x2048 ![] Cert.Reference4Ideal.Gen.bcast_S_S32x2048 (constant Cert.Reference4Ideal.S_ .f32 0x3F800000#32)) (addf (broadcastInDim Cert.Reference4Ideal.S32x2048 ![] Cert.Reference4Ideal.Gen.bcast_S_S32x2048 (constant Cert.Reference4Ideal.S_ .f32 0x3F800000#32)) (Host.exp (Host.negf (extractStridedSlice Cert.Reference4Ideal.S32x2048 ![0, 0] X Cert.Reference4Ideal.Gen.slices_S32x13312_S32x2048_0_0))))) (Host.dotGeneral Cert.Reference4Ideal.dot_S32x1024_S1024x2048_S32x2048_1_0_0_1_n_n none (truncf .bf16 HA Cert.Reference4Ideal.Gen.bitsLt_bf16_f32) (truncf .bf16 WA Cert.Reference4Ideal.Gen.bitsLt_bf16_f32))) (mulf (Host.divf (broadcastInDim Cert.Reference4Ideal.S32x2048 ![] Cert.Reference4Ideal.Gen.bcast_S_S32x2048 (constant Cert.Reference4Ideal.S_ .f32 0x3F800000#32)) (addf (broadcastInDim Cert.Reference4Ideal.S32x2048 ![] Cert.Reference4Ideal.Gen.bcast_S_S32x2048 (constant Cert.Reference4Ideal.S_ .f32 0x3F800000#32)) (Host.exp (Host.negf (extractStridedSlice Cert.Reference4Ideal.S32x2048 ![0, 2048] X Cert.Reference4Ideal.Gen.slices_S32x13312_S32x2048_0_2048))))) (Host.dotGeneral Cert.Reference4Ideal.dot_S32x1024_S1024x2048_S32x2048_1_0_0_1_n_n none (truncf .bf16 HB Cert.Reference4Ideal.Gen.bitsLt_bf16_f32) (truncf .bf16 WB Cert.Reference4Ideal.Gen.bitsLt_bf16_f32)))

/-- The reference's output. -/
abbrev refY (HA HB : FVec Ideal Cert.Reference4Ideal.S32x1024 .f32) (X : FVec Ideal Cert.Reference4Ideal.S32x13312 .f32) (WA WB : FVec Ideal Cert.Reference4Ideal.S1024x2048 .f32) (WO : FVec Ideal Cert.Reference4Ideal.S2048x2048 .f32) (Y : FVec Ideal Cert.Reference4Ideal.S32x2048 .f32) : FVec Ideal Cert.Reference4Ideal.S32x2048 .f32 :=
  addf Y (Host.dotGeneral Cert.Reference4Ideal.dot_S32x2048_S2048x2048_S32x2048_1_0_0_1_n_n none (truncf .bf16 (refU HA HB X WA WB) Cert.Reference4Ideal.Gen.bitsLt_bf16_f32) (truncf .bf16 WO Cert.Reference4Ideal.Gen.bitsLt_bf16_f32))

theorem refU_el (HA HB : FVec Ideal Cert.Reference4Ideal.S32x1024 .f32) (X : FVec Ideal Cert.Reference4Ideal.S32x13312 .f32) (WA WB : FVec Ideal Cert.Reference4Ideal.S1024x2048 .f32) (r : Fin 32) (j : Fin 2048) :
    refU HA HB X WA WB (ix2 r j) = gate (X (ix2 r ⟨0 + j.val, by omega⟩)) * (∑ i : Fin 1024, HA (ix2 r i) * WA (ix2 i j)) + gate (X (ix2 r ⟨2048 + j.val, by omega⟩)) * ∑ i : Fin 1024, HB (ix2 r i) * WB (ix2 i j) := by
  pointwise [refU, gate]

theorem refY_el (HA HB : FVec Ideal Cert.Reference4Ideal.S32x1024 .f32) (X : FVec Ideal Cert.Reference4Ideal.S32x13312 .f32) (WA WB : FVec Ideal Cert.Reference4Ideal.S1024x2048 .f32) (WO : FVec Ideal Cert.Reference4Ideal.S2048x2048 .f32) (Y : FVec Ideal Cert.Reference4Ideal.S32x2048 .f32) (r : Fin 32) (k : Fin 2048) :
    refY HA HB X WA WB WO Y (ix2 r k) = Y (ix2 r k) + ∑ j : Fin 2048, refU HA HB X WA WB (ix2 r j) * WO (ix2 j k) := by
  unfold refY
  generalize refU HA HB X WA WB = U
  pointwise

end Cert.Kernel4Ideal.Small
-- ==== Proof.SmallBlocks.lean ====
/- The sample batch's output projection: its blocks read off the arrays, and what its body leaves in the output block, for
   any float values. -/
module

public import proofs.«01_k».proof.Proof.SmallRows
public import proofs.«01_k».proof.Proof.Whole

@[expose] public section

set_option maxRecDepth 16384

noncomputable section

namespace Cert.Kernel4Ideal.Small

open Cert.Kernel4Ideal Cert.Kernel4Ideal.Gen
open Idealize.ShloMosaic Idealize.ShloMosaic.TcCoe Idealize.ShloMosaic.Tactic
open Idealize.SL.Sem

variable {F : FTy → Type} [FloatOps F]

theorem zeros : ∀ a : Fin 2, (![0, 0] : Fin 2 → Nat) a = 0 := by decide

/-- The body's one store, of the block it computes from the blocks it loads. -/
theorem out_eq (c : Dev nD) (i : grid0.Coords) (arg1 : Memref sig .tc .vmem S32x1024 .f32) (harg1 : arg1.IsWhole) (arg2 : Memref sig .tc .vmem S32x1024 .f32) (harg2 : arg2.IsWhole) (arg3 : Memref sig .tc .vmem S32x2048 .f32) (harg3 : arg3.IsWhole) (arg4 : Memref sig .tc .vmem S32x2048 .f32) (harg4 : arg4.IsWhole) (arg5 : Memref sig .tc .vmem S32x2048 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S32x2048 .f32) (harg9 : arg9.IsWhole) (x0 : Vec F S32x1024 .f32) (x1 : Vec F S32x1024 .f32) (x2 : Vec F S32x2048 .f32) (x3 : Vec F S32x2048 .f32) (x4 : Vec F S32x2048 .f32) (x5 : Vec F S1024x2048 .bf16) (x6 : Vec F S1024x2048 .bf16) (x7 : Vec F S2048x2048 .bf16) :
    out0_A_8 c i arg1 harg1 arg2 harg2 arg3 harg3 arg4 harg4 arg5 harg5 arg6 harg6 arg7 harg7 arg8 harg8 arg9 harg9 x0 x1 x2 x3 x4 x5 x6 x7 = k0_pay1 (k0_pay2 x4) (k0_pay3 x2 x0 x5 x3 x1 x6) x7 := by
  unfold out0_A_8
  rw [View.read_writes_junk_eq_canon]
  show View.canon ([⟨Rect.unit ![0, 0] S32x2048.size inb_S32x2048_S32x2048_0_0,
      k0_pay1 (k0_pay2 (View.readAt (Elt F) arg5.view (Rect.unit (s := S32x2048) ![0, 0] S32x2048.size inb_S32x2048_S32x2048_0_0).toLoadRect (harg5.unread x4))) (k0_pay3 (View.readAt (Elt F) arg3.view (Rect.unit (s := S32x2048) ![0, 0] S32x2048.size inb_S32x2048_S32x2048_0_0).toLoadRect (harg3.unread x2)) (View.readAt (Elt F) arg1.view (Rect.unit (s := S32x1024) ![0, 0] S32x1024.size inb_S32x1024_S32x1024_0_0).toLoadRect (harg1.unread x0)) (View.readAt (Elt F) arg6.view (Rect.unit (s := S1024x2048) ![0, 0] S1024x2048.size inb_S1024x2048_S1024x2048_0_0).toLoadRect (harg6.unread x5)) (View.readAt (Elt F) arg4.view (Rect.unit (s := S32x2048) ![0, 0] S32x2048.size inb_S32x2048_S32x2048_0_0).toLoadRect (harg4.unread x3)) (View.readAt (Elt F) arg2.view (Rect.unit (s := S32x1024) ![0, 0] S32x1024.size inb_S32x1024_S32x1024_0_0).toLoadRect (harg2.unread x1)) (View.readAt (Elt F) arg7.view (Rect.unit (s := S1024x2048) ![0, 0] S1024x2048.size inb_S1024x2048_S1024x2048_0_0).toLoadRect (harg7.unread x6))) (View.readAt (Elt F) arg8.view (Rect.unit (s := S2048x2048) ![0, 0] S2048x2048.size inb_S2048x2048_S2048x2048_0_0).toLoadRect (harg8.unread x7))⟩] : List (View.Piece (Elt F) S32x2048 .f32)) = _
  rw [View.canon_cons_unit_lit _ _ [] zeros]
  rw [Whole.load harg5 x4 _ zeros, Whole.load harg3 x2 _ zeros, Whole.load harg1 x0 _ zeros, Whole.load harg6 x5 _ zeros, Whole.load harg4 x3 _ zeros,
    Whole.load harg2 x1 _ zeros, Whole.load harg7 x6 _ zeros, Whole.load harg8 x7 _ zeros]

variable (m : (ℓ : Loc nD τ sig) → Buf (Elt F) ℓ)

theorem V_ha (c : Dev nD) : V m c main_v0 = shapeCast S32x1024 (m ((c : Thread nD τ).loc main_arg0)) shapeCasts_S32x1x1024_S32x1024 := by
  entry_read
  rfl
theorem V_hb (c : Dev nD) : V m c main_v1 = shapeCast S32x1024 (m ((c : Thread nD τ).loc main_arg1)) shapeCasts_S32x8x128_S32x1024 := by
  entry_read
  rfl
theorem V_x (c : Dev nD) : V m c main_v2 = shapeCast S32x2048 (m ((c : Thread nD τ).loc main_arg3)) shapeCasts_S32x1x2048_S32x2048 := by
  entry_read
  rfl
theorem V_wa (c : Dev nD) : V m c main_v4 = truncf .bf16 (shapeCast S1024x2048 (m ((c : Thread nD τ).loc main_arg4)) shapeCasts_S1x1024x2048_S1024x2048) bitsLt_bf16_f32 := by
  entry_read
  rfl
theorem V_wb (c : Dev nD) : V m c main_v6 = truncf .bf16 (shapeCast S1024x2048 (m ((c : Thread nD τ).loc main_arg5)) shapeCasts_S1x1024x2048_S1024x2048) bitsLt_bf16_f32 := by
  entry_read
  rfl
theorem V_wo (c : Dev nD) : V m c main_v8 = truncf .bf16 (shapeCast S2048x2048 (m ((c : Thread nD τ).loc main_arg6)) shapeCasts_S1x2048x2048_S2048x2048) bitsLt_bf16_f32 := by
  entry_read
  rfl

theorem index_0 : ∀ t : Fin grid0.N, win0_0.index t = ![0, 0] := by decide +kernel

theorem iblk_0 (c : Dev nD) (t : Fin cfg0.N) (y : S32x1024.Idx) : iblk m c 0 t y = V m c main_v0 y := by
  have e := index_0 t
  show V m c main_v0 (((cfg0.win 0).blk t).view.emb y) = _
  congr 1
  funext a
  apply Fin.ext
  match a with
  | ⟨0, _⟩ =>
    refine (Pipeline.Window.rect_emb_val_off win0_0 t _ _).trans ?_
    show win0_0.index t 0 * 32 + (y 0).val = (y 0).val
    rw [e]; simp
  | ⟨1, _⟩ =>
    refine (Pipeline.Window.rect_emb_val_off win0_0 t _ _).trans ?_
    show win0_0.index t 1 * 1024 + (y 1).val = (y 1).val
    rw [e]; simp

theorem index_1 : ∀ t : Fin grid0.N, win0_1.index t = ![0, 0] := by decide +kernel

theorem iblk_1 (c : Dev nD) (t : Fin cfg0.N) (y : S32x1024.Idx) : iblk m c 1 t y = V m c main_v1 y := by
  have e := index_1 t
  show V m c main_v1 (((cfg0.win 1).blk t).view.emb y) = _
  congr 1
  funext a
  apply Fin.ext
  match a with
  | ⟨0, _⟩ =>
    refine (Pipeline.Window.rect_emb_val_off win0_1 t _ _).trans ?_
    show win0_1.index t 0 * 32 + (y 0).val = (y 0).val
    rw [e]; simp
  | ⟨1, _⟩ =>
    refine (Pipeline.Window.rect_emb_val_off win0_1 t _ _).trans ?_
    show win0_1.index t 1 * 1024 + (y 1).val = (y 1).val
    rw [e]; simp

theorem index_4 : ∀ t : Fin grid0.N, win0_4.index t = ![0, 0] := by decide +kernel

theorem iblk_4 (c : Dev nD) (t : Fin cfg0.N) (y : S32x2048.Idx) : iblk m c 4 t y = V m c main_v2 y := by
  have e := index_4 t
  show V m c main_v2 (((cfg0.win 4).blk t).view.emb y) = _
  congr 1
  funext a
  apply Fin.ext
  match a with
  | ⟨0, _⟩ =>
    refine (Pipeline.Window.rect_emb_val_off win0_4 t _ _).trans ?_
    show win0_4.index t 0 * 32 + (y 0).val = (y 0).val
    rw [e]; simp
  | ⟨1, _⟩ =>
    refine (Pipeline.Window.rect_emb_val_off win0_4 t _ _).trans ?_
    show win0_4.index t 1 * 2048 + (y 1).val = (y 1).val
    rw [e]; simp

theorem index_5 : ∀ t : Fin grid0.N, win0_5.index t = ![0, 0] := by decide +kernel

theorem iblk_5 (c : Dev nD) (t : Fin cfg0.N) (y : S1024x2048.Idx) : iblk m c 5 t y = V m c main_v4 y := by
  have e := index_5 t
  show V m c main_v4 (((cfg0.win 5).blk t).view.emb y) = _
  congr 1
  funext a
  apply Fin.ext
  match a with
  | ⟨0, _⟩ =>
    refine (Pipeline.Window.rect_emb_val_off win0_5 t _ _).trans ?_
    show win0_5.index t 0 * 1024 + (y 0).val = (y 0).val
    rw [e]; simp
  | ⟨1, _⟩ =>
    refine (Pipeline.Window.rect_emb_val_off win0_5 t _ _).trans ?_
    show win0_5.index t 1 * 2048 + (y 1).val = (y 1).val
    rw [e]; simp

theorem index_6 : ∀ t : Fin grid0.N, win0_6.index t = ![0, 0] := by decide +kernel

theorem iblk_6 (c : Dev nD) (t : Fin cfg0.N) (y : S1024x2048.Idx) : iblk m c 6 t y = V m c main_v6 y := by
  have e := index_6 t
  show V m c main_v6 (((cfg0.win 6).blk t).view.emb y) = _
  congr 1
  funext a
  apply Fin.ext
  match a with
  | ⟨0, _⟩ =>
    refine (Pipeline.Window.rect_emb_val_off win0_6 t _ _).trans ?_
    show win0_6.index t 0 * 1024 + (y 0).val = (y 0).val
    rw [e]; simp
  | ⟨1, _⟩ =>
    refine (Pipeline.Window.rect_emb_val_off win0_6 t _ _).trans ?_
    show win0_6.index t 1 * 2048 + (y 1).val = (y 1).val
    rw [e]; simp

theorem index_7 : ∀ t : Fin grid0.N, win0_7.index t = ![0, 0] := by decide +kernel

theorem iblk_7 (c : Dev nD) (t : Fin cfg0.N) (y : S2048x2048.Idx) : iblk m c 7 t y = V m c main_v8 y := by
  have e := index_7 t
  show V m c main_v8 (((cfg0.win 7).blk t).view.emb y) = _
  congr 1
  funext a
  apply Fin.ext
  match a with
  | ⟨0, _⟩ =>
    refine (Pipeline.Window.rect_emb_val_off win0_7 t _ _).trans ?_
    show win0_7.index t 0 * 2048 + (y 0).val = (y 0).val
    rw [e]; simp
  | ⟨1, _⟩ =>
    refine (Pipeline.Window.rect_emb_val_off win0_7 t _ _).trans ?_
    show win0_7.index t 1 * 2048 + (y 1).val = (y 1).val
    rw [e]; simp

theorem index_8 : ∀ t : Fin grid0.N, win0_8.index t = ![0, 0] := by decide +kernel

theorem emb_8 (t : Fin cfg0.N) (y : S32x2048.Idx) : ((win0_8.blk t).view.emb y : S32x2048.Idx) = y := by
  have e := index_8 t
  funext a
  apply Fin.ext
  match a with
  | ⟨0, _⟩ =>
    refine (Pipeline.Window.rect_emb_val_off win0_8 t _ _).trans ?_
    show win0_8.index t 0 * 32 + (y 0).val = (y 0).val
    rw [e]; simp
  | ⟨1, _⟩ =>
    refine (Pipeline.Window.rect_emb_val_off win0_8 t _ _).trans ?_
    show win0_8.index t 1 * 2048 + (y 1).val = (y 1).val
    rw [e]; simp

theorem index_2 : ∀ t : Fin grid0.N, win0_2.index t = ![0, 0] := by decide +kernel
theorem clip_2 : ∀ (i : grid0.Coords) (a : Fin 2), win0_2.clip i a = none := by decide +kernel

/-- Its block is the columns from 0. -/
theorem X0_2_el (c : Dev nD) (t : Fin cfg0.N) (r : Fin 32) (k : Fin 2048) :
    X0_2 m c t (ix2 r k) = V m c main_arg2 (ix2 r ⟨0 + k.val, by omega⟩) := by
  have e := index_2 t
  unfold X0_2 Pipeline.Window.fill
  rw [dif_pos (moved0_2 t _)]
  unfold iblk
  show V m c main_arg2 (((cfg0.win 2).blk t).view.emb _) = _
  congr 1
  funext a
  apply Fin.ext
  match a with
  | ⟨0, _⟩ =>
    refine (Pipeline.Window.rect_emb_val_off win0_2 t _ _).trans ?_
    show win0_2.index t 0 * 32 + r.val = r.val
    rw [e]; simp
  | ⟨1, _⟩ =>
    refine (Pipeline.Window.rect_emb_val_off win0_2 t _ _).trans ?_
    show win0_2.index t 1 * 2048 + k.val = 0 + k.val
    rw [e]; simp

theorem index_3 : ∀ t : Fin grid0.N, win0_3.index t = ![0, 1] := by decide +kernel
theorem clip_3 : ∀ (i : grid0.Coords) (a : Fin 2), win0_3.clip i a = none := by decide +kernel

/-- Its block is the columns from 2048. -/
theorem X0_3_el (c : Dev nD) (t : Fin cfg0.N) (r : Fin 32) (k : Fin 2048) :
    X0_3 m c t (ix2 r k) = V m c main_arg2 (ix2 r ⟨2048 + k.val, by omega⟩) := by
  have e := index_3 t
  unfold X0_3 Pipeline.Window.fill
  rw [dif_pos (moved0_3 t _)]
  unfold iblk
  show V m c main_arg2 (((cfg0.win 3).blk t).view.emb _) = _
  congr 1
  funext a
  apply Fin.ext
  match a with
  | ⟨0, _⟩ =>
    refine (Pipeline.Window.rect_emb_val_off win0_3 t _ _).trans ?_
    show win0_3.index t 0 * 32 + r.val = r.val
    rw [e]; simp
  | ⟨1, _⟩ =>
    refine (Pipeline.Window.rect_emb_val_off win0_3 t _ _).trans ?_
    show win0_3.index t 1 * 2048 + k.val = 2048 + k.val
    rw [e]; simp

end Cert.Kernel4Ideal.Small
-- ==== Proof.SmallMain.lean ====
/- The sample batch's output projection: its result is its reference's, over the extended reals. -/
module

public import proofs.«01_k».proof.Proof.SmallBlocks
public import proofs.«01_k».proof.Proof.Gen.Kernel4
public import proofs.«01_k».proof.Proof.Gen.Reference4Ideal.Run
public import Idealize.ShloMosaic.Lib.Claim

@[expose] public section

set_option maxRecDepth 16384

noncomputable section

namespace Cert.Kernel4Ideal.Small

open Cert.Kernel4Ideal Cert.Kernel4Ideal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem value_8 (c : Dev nD) : (dats m 0 c).arrAt 8 (cfgs 0).N = refY (shapeCast Cert.Reference4Ideal.S32x1024 (m ((c : Thread nD τ).loc main_arg0)) Cert.Reference4Ideal.Gen.shapeCasts_S32x1x1024_S32x1024) (shapeCast Cert.Reference4Ideal.S32x1024 (m ((c : Thread nD τ).loc main_arg1)) Cert.Reference4Ideal.Gen.shapeCasts_S32x8x128_S32x1024) (m ((c : Thread nD τ).loc main_arg2)) (shapeCast Cert.Reference4Ideal.S1024x2048 (m ((c : Thread nD τ).loc main_arg4)) Cert.Reference4Ideal.Gen.shapeCasts_S1x1024x2048_S1024x2048) (shapeCast Cert.Reference4Ideal.S1024x2048 (m ((c : Thread nD τ).loc main_arg5)) Cert.Reference4Ideal.Gen.shapeCasts_S1x1024x2048_S1024x2048) (shapeCast Cert.Reference4Ideal.S2048x2048 (m ((c : Thread nD τ).loc main_arg6)) Cert.Reference4Ideal.Gen.shapeCasts_S1x2048x2048_S2048x2048) (shapeCast Cert.Reference4Ideal.S32x2048 (m ((c : Thread nD τ).loc main_arg3)) Cert.Reference4Ideal.Gen.shapeCasts_S32x1x2048_S32x2048) := by
  have key : ∀ (t : Fin cfg0.N) (y : S32x2048.Idx), outsAt0 m c t y = (refY (shapeCast Cert.Reference4Ideal.S32x1024 (m ((c : Thread nD τ).loc main_arg0)) Cert.Reference4Ideal.Gen.shapeCasts_S32x1x1024_S32x1024) (shapeCast Cert.Reference4Ideal.S32x1024 (m ((c : Thread nD τ).loc main_arg1)) Cert.Reference4Ideal.Gen.shapeCasts_S32x8x128_S32x1024) (m ((c : Thread nD τ).loc main_arg2)) (shapeCast Cert.Reference4Ideal.S1024x2048 (m ((c : Thread nD τ).loc main_arg4)) Cert.Reference4Ideal.Gen.shapeCasts_S1x1024x2048_S1024x2048) (shapeCast Cert.Reference4Ideal.S1024x2048 (m ((c : Thread nD τ).loc main_arg5)) Cert.Reference4Ideal.Gen.shapeCasts_S1x1024x2048_S1024x2048) (shapeCast Cert.Reference4Ideal.S2048x2048 (m ((c : Thread nD τ).loc main_arg6)) Cert.Reference4Ideal.Gen.shapeCasts_S1x2048x2048_S2048x2048) (shapeCast Cert.Reference4Ideal.S32x2048 (m ((c : Thread nD τ).loc main_arg3)) Cert.Reference4Ideal.Gen.shapeCasts_S32x1x2048_S32x2048) : FVec Ideal Cert.Reference4Ideal.S32x2048 .f32) ((win0_8.blk t).view.emb y : S32x2048.Idx) := fun t y => by
    rw [emb_8]
    obtain ⟨r, k, rfl⟩ : ∃ r k, y = ix2 r k := ⟨y 0, y 1, eq_ix2 y⟩
    unfold outsAt0
    rw [out_eq, y_el, refY_el]
    simp only [u_el, refU_el, iblk_0, iblk_1, X0_2_el, X0_3_el, iblk_4, iblk_5, iblk_6, iblk_7]
    rw [V_ha, V_hb, V_x, V_wa, V_wb, V_wo, V_main_arg2]
    rfl
  refine (dats m 0 c).arrAt_eq_of_covers 8 _ (by decide +kernel) fun t hf y => ?_
  blk_simp
  rw [after0_8]
  exact key t y

theorem run : θ_run defs (onTc (τ := τ) (main (F := Ideal))) ⟨m, fun _ => 0, ρ⟩ (fun r => ∀ c : Dev nD,
      r.2.mem ((c.tc : Thread nD τ).loc main_v9) = refY (shapeCast Cert.Reference4Ideal.S32x1024 (m ((c : Thread nD τ).loc main_arg0)) Cert.Reference4Ideal.Gen.shapeCasts_S32x1x1024_S32x1024) (shapeCast Cert.Reference4Ideal.S32x1024 (m ((c : Thread nD τ).loc main_arg1)) Cert.Reference4Ideal.Gen.shapeCasts_S32x8x128_S32x1024) (m ((c : Thread nD τ).loc main_arg2)) (shapeCast Cert.Reference4Ideal.S1024x2048 (m ((c : Thread nD τ).loc main_arg4)) Cert.Reference4Ideal.Gen.shapeCasts_S1x1024x2048_S1024x2048) (shapeCast Cert.Reference4Ideal.S1024x2048 (m ((c : Thread nD τ).loc main_arg5)) Cert.Reference4Ideal.Gen.shapeCasts_S1x1024x2048_S1024x2048) (shapeCast Cert.Reference4Ideal.S2048x2048 (m ((c : Thread nD τ).loc main_arg6)) Cert.Reference4Ideal.Gen.shapeCasts_S1x2048x2048_S2048x2048) (shapeCast Cert.Reference4Ideal.S32x2048 (m ((c : Thread nD τ).loc main_arg3)) Cert.Reference4Ideal.Gen.shapeCasts_S32x1x2048_S32x2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from run_main m ρ
  exact value_8 m c

end Cert.Kernel4Ideal.Small
-- ==== Proof.CellRows.lean ====
/- The sample batch's mLSTM step: an entry of each block its body computes for a head, over the extended reals. -/
module

public import proofs.«01_k».proof.Proof.Gen.Kernel5Ideal.Frame
public import proofs.«01_k».proof.Proof.Gen.Reference5Ideal
public import Idealize.ShloMosaic.Lib.Pipeline.ValueKit
public import Idealize.ShloMosaic.Lib.Pointwise

@[expose] public section

set_option maxRecDepth 16384

noncomputable section

namespace Cert.Kernel5Ideal.Cell

open Cert.Kernel5Ideal Cert.Kernel5Ideal.Gen
open Idealize.ShloMosaic Idealize.ShloMosaic.TcCoe Idealize.ShloMosaic.Tactic
open Idealize.SL.Sem

/-- The absolute value. -/
def ab (x : EReal) : EReal := max x (-x)
/-- The logarithm of the logistic function, as the body writes it. -/
def ls (x : EReal) : EReal := min x 0 - Ideal.log1p (Ideal.exp (0 - ab x))
/-- The state's carried exponent, its new one, and the two weights: of the step's own key and value, and of the state before. -/
def mIn (f m0 : EReal) : EReal := m0 + ls f
def mS (i f m0 : EReal) : EReal := max (mIn f m0) i
def dS (i f m0 : EReal) : EReal := Ideal.exp (i - mS i f m0)
def wS (i f m0 : EReal) : EReal := Ideal.exp (mIn f m0 - mS i f m0)
/-- The key scale, the mean's divisor and the norm's shift. -/
def kap : EReal := Ideal.ofBits FTy.f32 0x3D800000#32
def one : EReal := Ideal.ofBits FTy.f32 0x3F800000#32
/-- The logistic function. -/
def sg (x : EReal) : EReal := Ideal.div one (one + Ideal.exp (0 - x))

/-- The product of query and scaled key, weighted. -/
def qkS (d : EReal) (q k : Fin 256 → EReal) : EReal := (∑ s : Fin 256, q s * (k s * kap)) * d
/-- A row of the head's output before its norm. -/
def hS (m d w : EReal) (q k n : Fin 256 → EReal) (c : Fin 256 → EReal) (v : EReal) : EReal :=
  Ideal.div (qkS d q k * v + w * ∑ s : Fin 256, c s * q s)
    (max (ab (qkS d q k + w * ∑ s : Fin 256, n s * q s)) (Ideal.exp (0 - m)))
/-- The head's output: its norm, its gate and its branch's activation. -/
def oS (h : Fin 256 → EReal) (g o z : EReal) (s : Fin 256) : EReal :=
  h s * Ideal.rsqrt (Ideal.div (∑ x : Fin 256, h x * h x) (Ideal.ofBits FTy.f32 0x43800000#32) + Ideal.ofBits FTy.f32 0x358637BD#32) * g * sg o * (z * sg z)

theorem eye (r x : Fin 256) (a : EReal) :
    Scalar.select (IntOp.cmpi CmpIPredicate.eq (BitVec.ofNat 32 r.val) (BitVec.ofNat 32 x.val)) a 0 = if r = x then a else 0 := by
  by_cases h : r = x
  · subst h
    simp [Scalar.select, IntOp.cmpi]
  · have h' : ¬ (BitVec.ofNat 32 r.val = BitVec.ofNat 32 x.val) := by
      intro e
      have e' := congrArg BitVec.toNat e
      simp only [BitVec.toNat_ofNat] at e'
      have hr := r.isLt
      have hx := x.isLt
      exact h (Fin.ext (by omega))
    have hb : (BitVec.ofNat 32 r.val == BitVec.ofNat 32 x.val) = false := beq_eq_false_iff_ne.mpr h'
    rw [if_neg h]
    show (if BitVec.ofBool (BitVec.ofNat 32 r.val == BitVec.ofNat 32 x.val) = 1 then a else 0) = 0
    rw [hb]
    rfl

theorem m0_el (v4 v5 : Vec Ideal S1x128 .f32) (v9 : Vec Ideal S1x4 .f32) (z : S1x1.Idx) : k0_pay10 (F := Ideal) v4 v5 v9 z = mS (v4 (ix2 0 0) + v5 (ix2 0 0)) (v4 (ix2 0 4) + v5 (ix2 0 4)) (v9 (ix2 0 0)) := by
  pointwise [k0_pay10, k0_pay11, k0_pay12, k0_pay9, k0_pay8, k0_pay3, k0_pay4]
  simp only [dS, wS, mS, mIn, ls, ab, Ideal.absf_def]
theorem d0_el (v4 v5 : Vec Ideal S1x128 .f32) (v9 : Vec Ideal S1x4 .f32) (z : S1x1.Idx) : k0_pay11 (F := Ideal) v4 v5 v9 z = dS (v4 (ix2 0 0) + v5 (ix2 0 0)) (v4 (ix2 0 4) + v5 (ix2 0 4)) (v9 (ix2 0 0)) := by
  pointwise [k0_pay10, k0_pay11, k0_pay12, k0_pay9, k0_pay8, k0_pay3, k0_pay4]
  simp only [dS, wS, mS, mIn, ls, ab, Ideal.absf_def]
theorem w0_el (v4 v5 : Vec Ideal S1x128 .f32) (v9 : Vec Ideal S1x4 .f32) (z : S1x1.Idx) : k0_pay12 (F := Ideal) v4 v5 v9 z = wS (v4 (ix2 0 0) + v5 (ix2 0 0)) (v4 (ix2 0 4) + v5 (ix2 0 4)) (v9 (ix2 0 0)) := by
  pointwise [k0_pay10, k0_pay11, k0_pay12, k0_pay9, k0_pay8, k0_pay3, k0_pay4]
  simp only [dS, wS, mS, mIn, ls, ab, Ideal.absf_def]
theorem m1_el (v4 v5 : Vec Ideal S1x128 .f32) (v9 : Vec Ideal S1x4 .f32) (z : S1x1.Idx) : k0_pay28 (F := Ideal) (k0_pay3 v4 v5) (k0_pay4 v9) z = mS (v4 (ix2 0 1) + v5 (ix2 0 1)) (v4 (ix2 0 5) + v5 (ix2 0 5)) (v9 (ix2 0 1)) := by
  pointwise [k0_pay28, k0_pay29, k0_pay30, k0_pay27, k0_pay26, k0_pay3, k0_pay4]
  simp only [dS, wS, mS, mIn, ls, ab, Ideal.absf_def]
theorem d1_el (v4 v5 : Vec Ideal S1x128 .f32) (v9 : Vec Ideal S1x4 .f32) (z : S1x1.Idx) : k0_pay29 (F := Ideal) (k0_pay3 v4 v5) (k0_pay4 v9) z = dS (v4 (ix2 0 1) + v5 (ix2 0 1)) (v4 (ix2 0 5) + v5 (ix2 0 5)) (v9 (ix2 0 1)) := by
  pointwise [k0_pay28, k0_pay29, k0_pay30, k0_pay27, k0_pay26, k0_pay3, k0_pay4]
  simp only [dS, wS, mS, mIn, ls, ab, Ideal.absf_def]
theorem w1_el (v4 v5 : Vec Ideal S1x128 .f32) (v9 : Vec Ideal S1x4 .f32) (z : S1x1.Idx) : k0_pay30 (F := Ideal) (k0_pay3 v4 v5) (k0_pay4 v9) z = wS (v4 (ix2 0 1) + v5 (ix2 0 1)) (v4 (ix2 0 5) + v5 (ix2 0 5)) (v9 (ix2 0 1)) := by
  pointwise [k0_pay28, k0_pay29, k0_pay30, k0_pay27, k0_pay26, k0_pay3, k0_pay4]
  simp only [dS, wS, mS, mIn, ls, ab, Ideal.absf_def]
theorem m2_el (v4 v5 : Vec Ideal S1x128 .f32) (v9 : Vec Ideal S1x4 .f32) (z : S1x1.Idx) : k0_pay47 (F := Ideal) (k0_pay3 v4 v5) (k0_pay4 v9) z = mS (v4 (ix2 0 2) + v5 (ix2 0 2)) (v4 (ix2 0 6) + v5 (ix2 0 6)) (v9 (ix2 0 2)) := by
  pointwise [k0_pay47, k0_pay48, k0_pay49, k0_pay46, k0_pay45, k0_pay3, k0_pay4]
  simp only [dS, wS, mS, mIn, ls, ab, Ideal.absf_def]
theorem d2_el (v4 v5 : Vec Ideal S1x128 .f32) (v9 : Vec Ideal S1x4 .f32) (z : S1x1.Idx) : k0_pay48 (F := Ideal) (k0_pay3 v4 v5) (k0_pay4 v9) z = dS (v4 (ix2 0 2) + v5 (ix2 0 2)) (v4 (ix2 0 6) + v5 (ix2 0 6)) (v9 (ix2 0 2)) := by
  pointwise [k0_pay47, k0_pay48, k0_pay49, k0_pay46, k0_pay45, k0_pay3, k0_pay4]
  simp only [dS, wS, mS, mIn, ls, ab, Ideal.absf_def]
theorem w2_el (v4 v5 : Vec Ideal S1x128 .f32) (v9 : Vec Ideal S1x4 .f32) (z : S1x1.Idx) : k0_pay49 (F := Ideal) (k0_pay3 v4 v5) (k0_pay4 v9) z = wS (v4 (ix2 0 2) + v5 (ix2 0 2)) (v4 (ix2 0 6) + v5 (ix2 0 6)) (v9 (ix2 0 2)) := by
  pointwise [k0_pay47, k0_pay48, k0_pay49, k0_pay46, k0_pay45, k0_pay3, k0_pay4]
  simp only [dS, wS, mS, mIn, ls, ab, Ideal.absf_def]
theorem m3_el (v4 v5 : Vec Ideal S1x128 .f32) (v9 : Vec Ideal S1x4 .f32) (z : S1x1.Idx) : k0_pay66 (F := Ideal) (k0_pay3 v4 v5) (k0_pay4 v9) z = mS (v4 (ix2 0 3) + v5 (ix2 0 3)) (v4 (ix2 0 7) + v5 (ix2 0 7)) (v9 (ix2 0 3)) := by
  pointwise [k0_pay66, k0_pay67, k0_pay68, k0_pay65, k0_pay64, k0_pay3, k0_pay4]
  simp only [dS, wS, mS, mIn, ls, ab, Ideal.absf_def]
theorem d3_el (v4 v5 : Vec Ideal S1x128 .f32) (v9 : Vec Ideal S1x4 .f32) (z : S1x1.Idx) : k0_pay67 (F := Ideal) (k0_pay3 v4 v5) (k0_pay4 v9) z = dS (v4 (ix2 0 3) + v5 (ix2 0 3)) (v4 (ix2 0 7) + v5 (ix2 0 7)) (v9 (ix2 0 3)) := by
  pointwise [k0_pay66, k0_pay67, k0_pay68, k0_pay65, k0_pay64, k0_pay3, k0_pay4]
  simp only [dS, wS, mS, mIn, ls, ab, Ideal.absf_def]
theorem w3_el (v4 v5 : Vec Ideal S1x128 .f32) (v9 : Vec Ideal S1x4 .f32) (z : S1x1.Idx) : k0_pay68 (F := Ideal) (k0_pay3 v4 v5) (k0_pay4 v9) z = wS (v4 (ix2 0 3) + v5 (ix2 0 3)) (v4 (ix2 0 7) + v5 (ix2 0 7)) (v9 (ix2 0 3)) := by
  pointwise [k0_pay66, k0_pay67, k0_pay68, k0_pay65, k0_pay64, k0_pay3, k0_pay4]
  simp only [dS, wS, mS, mIn, ls, ab, Ideal.absf_def]

theorem M0_el (M : FVec Ideal S1x1 .f32) (r : Fin 128) : k0_pay19 (F := Ideal) M (ix3 0 0 r) = M (ix2 0 0) := by
  pointwise [k0_pay19]
theorem N0_el (D W : FVec Ideal S1x1 .f32) (k : Vec Ideal S1x256 .f32) (n : Vec Ideal S1x1x256 .f32) (r : Fin 256) :
    k0_pay18 (F := Ideal) (k0_pay5 k) (k0_pay7 n) D (k0_pay17 W) (ix3 0 0 r) = W (ix2 0 0) * n (ix3 0 0 r) + D (ix2 0 0) * (k (ix2 0 r) * kap) := by
  pointwise [k0_pay18, k0_pay5, k0_pay7, k0_pay17, kap]
theorem C0_el (D W : FVec Ideal S1x1 .f32) (k v : Vec Ideal S1x256 .f32) (c : Vec Ideal S1x1x256x256 .f32) (r s : Fin 256) :
    k0_pay16 (F := Ideal) k0_pay2 (k0_pay5 k) v (k0_pay6 c) D W (ix4 0 0 r s) = W (ix2 0 0) * c (ix4 0 0 r s) + D (ix2 0 0) * v (ix2 0 r) * (k (ix2 0 s) * kap) := by
  pointwise [k0_pay16, k0_pay14, k0_pay2, k0_pay5, k0_pay6, kap]
  simp only [eye, Finset.sum_ite_eq, Finset.mem_univ, if_true]

theorem M1_el (M : FVec Ideal S1x1 .f32) (r : Fin 128) : k0_pay38 (F := Ideal) M (ix3 0 0 r) = M (ix2 0 0) := by
  pointwise [k0_pay38]
theorem N1_el (D W : FVec Ideal S1x1 .f32) (k : Vec Ideal S1x256 .f32) (n : Vec Ideal S1x1x256 .f32) (r : Fin 256) :
    k0_pay37 (F := Ideal) (k0_pay23 k) (k0_pay35 (k0_pay25 n) W) (k0_pay36 D) (ix3 0 0 r) = W (ix2 0 0) * n (ix3 0 0 r) + D (ix2 0 0) * (k (ix2 0 r) * kap) := by
  pointwise [k0_pay37, k0_pay23, k0_pay35, k0_pay25, k0_pay36, kap]
theorem C1_el (D W : FVec Ideal S1x1 .f32) (k v : Vec Ideal S1x256 .f32) (c : Vec Ideal S1x1x256x256 .f32) (r s : Fin 256) :
    k0_pay34 (F := Ideal) k0_pay2 (k0_pay23 k) v (k0_pay24 c) D W (ix4 0 0 r s) = W (ix2 0 0) * c (ix4 0 0 r s) + D (ix2 0 0) * v (ix2 0 r) * (k (ix2 0 s) * kap) := by
  pointwise [k0_pay34, k0_pay32, k0_pay2, k0_pay23, k0_pay24, kap]
  simp only [eye, Finset.sum_ite_eq, Finset.mem_univ, if_true]

theorem M2_el (M : FVec Ideal S1x1 .f32) (r : Fin 128) : k0_pay56 (F := Ideal) M (ix3 0 0 r) = M (ix2 0 0) := by
  pointwise [k0_pay56]
theorem N2_el (D W : FVec Ideal S1x1 .f32) (k : Vec Ideal S1x256 .f32) (n : Vec Ideal S1x1x256 .f32) (r : Fin 256) :
    k0_pay55 (F := Ideal) (k0_pay54 (k0_pay42 k) (k0_pay44 n) D W) (ix3 0 0 r) = W (ix2 0 0) * n (ix3 0 0 r) + D (ix2 0 0) * (k (ix2 0 r) * kap) := by
  pointwise [k0_pay55, k0_pay54, k0_pay42, k0_pay44, kap]
theorem C2_el (D W : FVec Ideal S1x1 .f32) (k v : Vec Ideal S1x256 .f32) (c : Vec Ideal S1x1x256x256 .f32) (r s : Fin 256) :
    k0_pay53 (F := Ideal) k0_pay2 (k0_pay42 k) v (k0_pay43 c) D W (Scalar.ofBits .f32 0x00000000#32) (ix4 0 0 r s) = W (ix2 0 0) * c (ix4 0 0 r s) + D (ix2 0 0) * v (ix2 0 r) * (k (ix2 0 s) * kap) := by
  pointwise [k0_pay53, k0_pay51, k0_pay2, k0_pay42, k0_pay43, kap]
  simp only [eye, Finset.sum_ite_eq, Finset.mem_univ, if_true]

theorem M3_el (M : FVec Ideal S1x1 .f32) (r : Fin 128) : k0_pay76 (F := Ideal) M (ix3 0 0 r) = M (ix2 0 0) := by
  pointwise [k0_pay76]
theorem N3_el (D W : FVec Ideal S1x1 .f32) (k : Vec Ideal S1x256 .f32) (n : Vec Ideal S1x1x256 .f32) (r : Fin 256) :
    k0_pay75 (F := Ideal) (k0_pay74 (k0_pay61 k) (k0_pay63 n) D W) (ix3 0 0 r) = W (ix2 0 0) * n (ix3 0 0 r) + D (ix2 0 0) * (k (ix2 0 r) * kap) := by
  pointwise [k0_pay75, k0_pay74, k0_pay61, k0_pay63, kap]
theorem C3_el (D W : FVec Ideal S1x1 .f32) (k v : Vec Ideal S1x256 .f32) (c : Vec Ideal S1x1x256x256 .f32) (r s : Fin 256) :
    k0_pay73 (F := Ideal) k0_pay2 (k0_pay61 k) (k0_pay62 c) D W (Scalar.ofBits .f32 0x00000000#32) (k0_pay70 v) (ix4 0 0 r s) = W (ix2 0 0) * c (ix4 0 0 r s) + D (ix2 0 0) * v (ix2 0 r) * (k (ix2 0 s) * kap) := by
  pointwise [k0_pay73, k0_pay71, k0_pay70, k0_pay2, k0_pay61, k0_pay62, kap]
  simp only [eye, Finset.sum_ite_eq, Finset.mem_univ, if_true]

theorem P0_el (M D W : FVec Ideal S1x1 .f32) (q k v : Vec Ideal S1x256 .f32) (c : Vec Ideal S1x1x256x256 .f32) (n : Vec Ideal S1x1x256 .f32) (r : Fin 256) :
    k0_pay15 (F := Ideal) k0_pay2 q v (k0_pay6 c) (k0_pay7 n) M D W (k0_pay13 q k) (ix2 0 r) = hS (M (ix2 0 0)) (D (ix2 0 0)) (W (ix2 0 0)) (fun s => q (ix2 0 s)) (fun s => k (ix2 0 s)) (fun s => n (ix3 0 0 s)) (fun s => c (ix4 0 0 r s)) (v (ix2 0 r)) := by
  pointwise [k0_pay15, k0_pay14, k0_pay2, k0_pay6, k0_pay7, k0_pay13, k0_pay5, hS, qkS, kap, ab, Ideal.absf_def]
  simp only [eye, Finset.sum_ite_eq, Finset.sum_ite_eq', Finset.mem_univ, if_true]
theorem H0_el (h : FVec Ideal S1x256 .f32) (g o z : Vec Ideal S1x256 .f32) (s : Fin 256) :
    k0_pay22 (F := Ideal) z (k0_pay20 h g o) (k0_pay21 z) (Scalar.ofBits .f32 0x3F800000#32) (ix3 0 0 s) = oS (fun x => h (ix2 0 x)) (g (ix2 0 s)) (o (ix2 0 s)) (z (ix2 0 s)) s := by
  pointwise [k0_pay22, k0_pay20, k0_pay21, oS, sg, one]

theorem P1_el (M D W : FVec Ideal S1x1 .f32) (q k v : Vec Ideal S1x256 .f32) (c : Vec Ideal S1x1x256x256 .f32) (n : Vec Ideal S1x1x256 .f32) (r : Fin 256) :
    k0_pay33 (F := Ideal) k0_pay2 q v (k0_pay24 c) (k0_pay25 n) M D W (k0_pay31 q k) (ix2 0 r) = hS (M (ix2 0 0)) (D (ix2 0 0)) (W (ix2 0 0)) (fun s => q (ix2 0 s)) (fun s => k (ix2 0 s)) (fun s => n (ix3 0 0 s)) (fun s => c (ix4 0 0 r s)) (v (ix2 0 r)) := by
  pointwise [k0_pay33, k0_pay32, k0_pay2, k0_pay24, k0_pay25, k0_pay31, k0_pay23, hS, qkS, kap, ab, Ideal.absf_def]
  simp only [eye, Finset.sum_ite_eq, Finset.sum_ite_eq', Finset.mem_univ, if_true]
theorem H1_el (h : FVec Ideal S1x256 .f32) (g o z : Vec Ideal S1x256 .f32) (s : Fin 256) :
    k0_pay41 (F := Ideal) z (k0_pay39 h g o) (k0_pay40 z) (ix3 0 0 s) = oS (fun x => h (ix2 0 x)) (g (ix2 0 s)) (o (ix2 0 s)) (z (ix2 0 s)) s := by
  pointwise [k0_pay41, k0_pay39, k0_pay40, oS, sg, one]

theorem P2_el (A : FVec Ideal S1x128 .f32) (B : FVec Ideal S1x4 .f32) (M W : FVec Ideal S1x1 .f32) (q k v : Vec Ideal S1x256 .f32) (c : Vec Ideal S1x1x256x256 .f32) (n : Vec Ideal S1x1x256 .f32) (r : Fin 256) :
    k0_pay52 (F := Ideal) k0_pay2 q v (k0_pay43 c) (k0_pay44 n) M W (k0_pay50 A B q k) (Scalar.ofBits .f32 0x00000000#32) (ix2 0 r) = hS (M (ix2 0 0)) (k0_pay48 A B (ix2 0 0)) (W (ix2 0 0)) (fun s => q (ix2 0 s)) (fun s => k (ix2 0 s)) (fun s => n (ix3 0 0 s)) (fun s => c (ix4 0 0 r s)) (v (ix2 0 r)) := by
  unfold k0_pay50
  generalize k0_pay48 A B = D
  pointwise [k0_pay52, k0_pay51, k0_pay2, k0_pay43, k0_pay44, k0_pay50, k0_pay42, hS, qkS, kap, ab, Ideal.absf_def]
  simp only [eye, Finset.sum_ite_eq, Finset.sum_ite_eq', Finset.mem_univ, if_true]
theorem H2_el (h : FVec Ideal S1x256 .f32) (g o z : Vec Ideal S1x256 .f32) (s : Fin 256) :
    k0_pay60 (F := Ideal) z (k0_pay57 h g o) (k0_pay58 z) k0_pay59 (ix3 0 0 s) = oS (fun x => h (ix2 0 x)) (g (ix2 0 s)) (o (ix2 0 s)) (z (ix2 0 s)) s := by
  pointwise [k0_pay60, k0_pay57, k0_pay58, k0_pay59, oS, sg, one]

theorem P3_el (A : FVec Ideal S1x128 .f32) (B : FVec Ideal S1x4 .f32) (M W : FVec Ideal S1x1 .f32) (q k v : Vec Ideal S1x256 .f32) (c : Vec Ideal S1x1x256x256 .f32) (n : Vec Ideal S1x1x256 .f32) (r : Fin 256) :
    k0_pay72 (F := Ideal) k0_pay2 q (k0_pay62 c) (k0_pay63 n) M W (k0_pay69 A B q k) (Scalar.ofBits .f32 0x00000000#32) (k0_pay70 v) (ix2 0 r) = hS (M (ix2 0 0)) (k0_pay67 A B (ix2 0 0)) (W (ix2 0 0)) (fun s => q (ix2 0 s)) (fun s => k (ix2 0 s)) (fun s => n (ix3 0 0 s)) (fun s => c (ix4 0 0 r s)) (v (ix2 0 r)) := by
  unfold k0_pay69
  generalize k0_pay67 A B = D
  pointwise [k0_pay72, k0_pay71, k0_pay70, k0_pay2, k0_pay62, k0_pay63, k0_pay69, k0_pay61, hS, qkS, kap, ab, Ideal.absf_def]
  simp only [eye, Finset.sum_ite_eq, Finset.sum_ite_eq', Finset.mem_univ, if_true]
theorem H3_el (h : FVec Ideal S1x256 .f32) (g o z : Vec Ideal S1x256 .f32) (s : Fin 256) :
    k0_pay1 (F := Ideal) (k0_pay77 h g o) (k0_pay78 z) (ix3 0 0 s) = oS (fun x => h (ix2 0 x)) (g (ix2 0 s)) (o (ix2 0 s)) (z (ix2 0 s)) s := by
  pointwise [k0_pay1, k0_pay77, k0_pay78, oS, sg, one]

end Cert.Kernel5Ideal.Cell
-- ==== Proof.CellBlocks.lean ====
/- The sample batch's mLSTM step: what its body leaves in each output block, over the extended reals. -/
module

public import proofs.«01_k».proof.Proof.CellRows
public import Idealize.ShloMosaic.Lib.WritesUnit
public import Idealize.ShloMosaic.Lib.Pipeline.ValueKit
public import Idealize.ShloMosaic.Lib.Pointwise

@[expose] public section

set_option maxRecDepth 16384

noncomputable section

namespace Cert.Kernel5Ideal.Cell

open Cert.Kernel5Ideal Cert.Kernel5Ideal.Gen
open Idealize.ShloMosaic Idealize.ShloMosaic.TcCoe Idealize.ShloMosaic.Tactic
open Idealize.SL.Sem

/-- A load of a box of a whole buffer, at an entry. -/
theorem rd {κ : Kind} {sp : Space} {S : Shape} {e : EltTy} {m : Memref sig κ sp S e} (hm : m.IsWhole) (X : S.Idx → Elt Ideal e)
    {off size : Fin S.rank → Nat} (inb : ∀ a, off a + size a ≤ S.size a) (j : (Rect.unit off size inb).shape.Idx) (y : S.Idx)
    (h : ∀ a, (y a).val = off a + (j a).val) :
    View.readAt (Elt Ideal) m.view (Rect.unit off size inb).toLoadRect (hm.unread X) j = X y := by
  rw [View.readAt_eq_ld, hm.read_unread]
  show X ((Rect.unit off size inb).emb j) = X y
  congr 1
  funext a
  apply Fin.ext
  show off a + 1 * (j a).val = (y a).val
  rw [h a, Nat.one_mul]

/-- The step's row. -/
def row (i : grid0.Coords) : Fin 32 := ⟨(i 0).val, (i 0).isLt⟩
/-- A head's column. -/
def col (h : Fin 4) (s : Fin 256) : Fin 1024 := ⟨256 * h.val + s.val, by omega⟩
theorem rdq0 {m : Memref sig .tc .vmem S32x1024 .f32} (hm : m.IsWhole) (X : Vec Ideal S32x1024 .f32) (i : grid0.Coords) (s : Fin 256) :
    View.readAt (Elt Ideal) m.view (Rect.unit (s := S32x1024) (k0_off3 i) (![1, 256] : Fin 2 → ℕ) (k0_off3_inb i)).toLoadRect (hm.unread X) (ix2 0 s) = X (ix2 (row i) (col 0 s)) := by
  refine rd hm X _ _ _ fun a => ?_
  match a with
  | ⟨0, _⟩ => exact (congrFun (k0_off3_eq i) 0).symm
  | ⟨1, _⟩ => exact congrArg (· + s.val) (congrFun (k0_off3_eq i) 1).symm
theorem rdq1 {m : Memref sig .tc .vmem S32x1024 .f32} (hm : m.IsWhole) (X : Vec Ideal S32x1024 .f32) (i : grid0.Coords) (s : Fin 256) :
    View.readAt (Elt Ideal) m.view (Rect.unit (s := S32x1024) (k0_off4 i) (![1, 256] : Fin 2 → ℕ) (k0_off4_inb i)).toLoadRect (hm.unread X) (ix2 0 s) = X (ix2 (row i) (col 1 s)) := by
  refine rd hm X _ _ _ fun a => ?_
  match a with
  | ⟨0, _⟩ => exact (congrFun (k0_off4_eq i) 0).symm
  | ⟨1, _⟩ => exact congrArg (· + s.val) (congrFun (k0_off4_eq i) 1).symm
theorem rdq2 {m : Memref sig .tc .vmem S32x1024 .f32} (hm : m.IsWhole) (X : Vec Ideal S32x1024 .f32) (i : grid0.Coords) (s : Fin 256) :
    View.readAt (Elt Ideal) m.view (Rect.unit (s := S32x1024) (k0_off5 i) (![1, 256] : Fin 2 → ℕ) (k0_off5_inb i)).toLoadRect (hm.unread X) (ix2 0 s) = X (ix2 (row i) (col 2 s)) := by
  refine rd hm X _ _ _ fun a => ?_
  match a with
  | ⟨0, _⟩ => exact (congrFun (k0_off5_eq i) 0).symm
  | ⟨1, _⟩ => exact congrArg (· + s.val) (congrFun (k0_off5_eq i) 1).symm
theorem rdq3 {m : Memref sig .tc .vmem S32x1024 .f32} (hm : m.IsWhole) (X : Vec Ideal S32x1024 .f32) (i : grid0.Coords) (s : Fin 256) :
    View.readAt (Elt Ideal) m.view (Rect.unit (s := S32x1024) (k0_off6 i) (![1, 256] : Fin 2 → ℕ) (k0_off6_inb i)).toLoadRect (hm.unread X) (ix2 0 s) = X (ix2 (row i) (col 3 s)) := by
  refine rd hm X _ _ _ fun a => ?_
  match a with
  | ⟨0, _⟩ => exact (congrFun (k0_off6_eq i) 0).symm
  | ⟨1, _⟩ => exact congrArg (· + s.val) (congrFun (k0_off6_eq i) 1).symm
theorem rdg {m : Memref sig .tc .vmem S32x128 .f32} (hm : m.IsWhole) (X : Vec Ideal S32x128 .f32) (i : grid0.Coords) (s : Fin 128) :
    View.readAt (Elt Ideal) m.view (Rect.unit (s := S32x128) (k0_off1 i) (![1, 128] : Fin 2 → ℕ) (k0_off1_inb i)).toLoadRect (hm.unread X) (ix2 0 s) = X (ix2 (row i) s) := by
  refine rd hm X _ _ _ fun a => ?_
  match a with
  | ⟨0, _⟩ => exact (congrFun (k0_off1_eq i) 0).symm
  | ⟨1, _⟩ => exact (Nat.zero_add s.val).symm.trans (congrArg (· + s.val) (congrFun (k0_off1_eq i) 1).symm)
theorem rdm {m : Memref sig .tc .vmem S32x4 .f32} (hm : m.IsWhole) (X : Vec Ideal S32x4 .f32) (i : grid0.Coords) (s : Fin 4) :
    View.readAt (Elt Ideal) m.view (Rect.unit (s := S32x4) (k0_off2 i) (![1, 4] : Fin 2 → ℕ) (k0_off2_inb i)).toLoadRect (hm.unread X) (ix2 0 s) = X (ix2 (row i) s) := by
  refine rd hm X _ _ _ fun a => ?_
  match a with
  | ⟨0, _⟩ => exact (congrFun (k0_off2_eq i) 0).symm
  | ⟨1, _⟩ => exact (Nat.zero_add s.val).symm.trans (congrArg (· + s.val) (congrFun (k0_off2_eq i) 1).symm)
theorem rdb {m : Memref sig .tc .vmem S1x128 .f32} (hm : m.IsWhole) (X : Vec Ideal S1x128 .f32) (s : Fin 128) :
    View.readAt (Elt Ideal) m.view (Rect.unit (s := S1x128) ![0, 0] (![1, 128] : Fin 2 → ℕ) inb_S1x128_S1x128_0_0).toLoadRect (hm.unread X) (ix2 0 s) = X (ix2 0 s) := by
  refine rd hm X _ _ _ fun a => ?_
  match a with
  | ⟨0, _⟩ => exact rfl
  | ⟨1, _⟩ => exact (Nat.zero_add _).symm
theorem rdn0 {m : Memref sig .tc .vmem S1x4x256 .f32} (hm : m.IsWhole) (X : Vec Ideal S1x4x256 .f32) (s : Fin 256) :
    View.readAt (Elt Ideal) m.view (Rect.unit (s := S1x4x256) ![0, 0, 0] (![1, 1, 256] : Fin 3 → ℕ) inb_S1x4x256_S1x1x256_0_0_0).toLoadRect (hm.unread X) (ix3 0 0 s) = X (ix3 0 0 s) := by
  refine rd hm X _ _ _ fun a => ?_
  match a with
  | ⟨0, _⟩ => exact rfl
  | ⟨1, _⟩ => exact rfl
  | ⟨2, _⟩ => exact (Nat.zero_add _).symm
theorem rdc0 {m : Memref sig .tc .vmem S1x4x256x256 .f32} (hm : m.IsWhole) (X : Vec Ideal S1x4x256x256 .f32) (r s : Fin 256) :
    View.readAt (Elt Ideal) m.view (Rect.unit (s := S1x4x256x256) ![0, 0, 0, 0] (![1, 1, 256, 256] : Fin 4 → ℕ) inb_S1x4x256x256_S1x1x256x256_0_0_0_0).toLoadRect (hm.unread X) (ix4 0 0 r s) = X (ix4 0 0 r s) := by
  refine rd hm X _ _ _ fun a => ?_
  match a with
  | ⟨0, _⟩ => exact rfl
  | ⟨1, _⟩ => exact rfl
  | ⟨2, _⟩ => exact (Nat.zero_add _).symm
  | ⟨3, _⟩ => exact (Nat.zero_add _).symm
theorem rdw0 {m : Memref sig .tc .vmem S1x1024 .f32} (hm : m.IsWhole) (X : Vec Ideal S1x1024 .f32) (s : Fin 256) :
    View.readAt (Elt Ideal) m.view (Rect.unit (s := S1x1024) ![0, 0] (![1, 256] : Fin 2 → ℕ) inb_S1x1024_S1x256_0_0).toLoadRect (hm.unread X) (ix2 0 s) = X (ix2 0 (col 0 s)) := by
  refine rd hm X _ _ _ fun a => ?_
  match a with
  | ⟨0, _⟩ => exact rfl
  | ⟨1, _⟩ => exact rfl
theorem rdn1 {m : Memref sig .tc .vmem S1x4x256 .f32} (hm : m.IsWhole) (X : Vec Ideal S1x4x256 .f32) (s : Fin 256) :
    View.readAt (Elt Ideal) m.view (Rect.unit (s := S1x4x256) ![0, 1, 0] (![1, 1, 256] : Fin 3 → ℕ) inb_S1x4x256_S1x1x256_0_1_0).toLoadRect (hm.unread X) (ix3 0 0 s) = X (ix3 0 1 s) := by
  refine rd hm X _ _ _ fun a => ?_
  match a with
  | ⟨0, _⟩ => exact rfl
  | ⟨1, _⟩ => exact rfl
  | ⟨2, _⟩ => exact (Nat.zero_add _).symm
theorem rdc1 {m : Memref sig .tc .vmem S1x4x256x256 .f32} (hm : m.IsWhole) (X : Vec Ideal S1x4x256x256 .f32) (r s : Fin 256) :
    View.readAt (Elt Ideal) m.view (Rect.unit (s := S1x4x256x256) ![0, 1, 0, 0] (![1, 1, 256, 256] : Fin 4 → ℕ) inb_S1x4x256x256_S1x1x256x256_0_1_0_0).toLoadRect (hm.unread X) (ix4 0 0 r s) = X (ix4 0 1 r s) := by
  refine rd hm X _ _ _ fun a => ?_
  match a with
  | ⟨0, _⟩ => exact rfl
  | ⟨1, _⟩ => exact rfl
  | ⟨2, _⟩ => exact (Nat.zero_add _).symm
  | ⟨3, _⟩ => exact (Nat.zero_add _).symm
theorem rdw1 {m : Memref sig .tc .vmem S1x1024 .f32} (hm : m.IsWhole) (X : Vec Ideal S1x1024 .f32) (s : Fin 256) :
    View.readAt (Elt Ideal) m.view (Rect.unit (s := S1x1024) ![0, 256] (![1, 256] : Fin 2 → ℕ) inb_S1x1024_S1x256_0_256).toLoadRect (hm.unread X) (ix2 0 s) = X (ix2 0 (col 1 s)) := by
  refine rd hm X _ _ _ fun a => ?_
  match a with
  | ⟨0, _⟩ => exact rfl
  | ⟨1, _⟩ => exact rfl
theorem rdn2 {m : Memref sig .tc .vmem S1x4x256 .f32} (hm : m.IsWhole) (X : Vec Ideal S1x4x256 .f32) (s : Fin 256) :
    View.readAt (Elt Ideal) m.view (Rect.unit (s := S1x4x256) ![0, 2, 0] (![1, 1, 256] : Fin 3 → ℕ) inb_S1x4x256_S1x1x256_0_2_0).toLoadRect (hm.unread X) (ix3 0 0 s) = X (ix3 0 2 s) := by
  refine rd hm X _ _ _ fun a => ?_
  match a with
  | ⟨0, _⟩ => exact rfl
  | ⟨1, _⟩ => exact rfl
  | ⟨2, _⟩ => exact (Nat.zero_add _).symm
theorem rdc2 {m : Memref sig .tc .vmem S1x4x256x256 .f32} (hm : m.IsWhole) (X : Vec Ideal S1x4x256x256 .f32) (r s : Fin 256) :
    View.readAt (Elt Ideal) m.view (Rect.unit (s := S1x4x256x256) ![0, 2, 0, 0] (![1, 1, 256, 256] : Fin 4 → ℕ) inb_S1x4x256x256_S1x1x256x256_0_2_0_0).toLoadRect (hm.unread X) (ix4 0 0 r s) = X (ix4 0 2 r s) := by
  refine rd hm X _ _ _ fun a => ?_
  match a with
  | ⟨0, _⟩ => exact rfl
  | ⟨1, _⟩ => exact rfl
  | ⟨2, _⟩ => exact (Nat.zero_add _).symm
  | ⟨3, _⟩ => exact (Nat.zero_add _).symm
theorem rdw2 {m : Memref sig .tc .vmem S1x1024 .f32} (hm : m.IsWhole) (X : Vec Ideal S1x1024 .f32) (s : Fin 256) :
    View.readAt (Elt Ideal) m.view (Rect.unit (s := S1x1024) ![0, 512] (![1, 256] : Fin 2 → ℕ) inb_S1x1024_S1x256_0_512).toLoadRect (hm.unread X) (ix2 0 s) = X (ix2 0 (col 2 s)) := by
  refine rd hm X _ _ _ fun a => ?_
  match a with
  | ⟨0, _⟩ => exact rfl
  | ⟨1, _⟩ => exact rfl
theorem rdn3 {m : Memref sig .tc .vmem S1x4x256 .f32} (hm : m.IsWhole) (X : Vec Ideal S1x4x256 .f32) (s : Fin 256) :
    View.readAt (Elt Ideal) m.view (Rect.unit (s := S1x4x256) ![0, 3, 0] (![1, 1, 256] : Fin 3 → ℕ) inb_S1x4x256_S1x1x256_0_3_0).toLoadRect (hm.unread X) (ix3 0 0 s) = X (ix3 0 3 s) := by
  refine rd hm X _ _ _ fun a => ?_
  match a with
  | ⟨0, _⟩ => exact rfl
  | ⟨1, _⟩ => exact rfl
  | ⟨2, _⟩ => exact (Nat.zero_add _).symm
theorem rdc3 {m : Memref sig .tc .vmem S1x4x256x256 .f32} (hm : m.IsWhole) (X : Vec Ideal S1x4x256x256 .f32) (r s : Fin 256) :
    View.readAt (Elt Ideal) m.view (Rect.unit (s := S1x4x256x256) ![0, 3, 0, 0] (![1, 1, 256, 256] : Fin 4 → ℕ) inb_S1x4x256x256_S1x1x256x256_0_3_0_0).toLoadRect (hm.unread X) (ix4 0 0 r s) = X (ix4 0 3 r s) := by
  refine rd hm X _ _ _ fun a => ?_
  match a with
  | ⟨0, _⟩ => exact rfl
  | ⟨1, _⟩ => exact rfl
  | ⟨2, _⟩ => exact (Nat.zero_add _).symm
  | ⟨3, _⟩ => exact (Nat.zero_add _).symm
theorem rdw3 {m : Memref sig .tc .vmem S1x1024 .f32} (hm : m.IsWhole) (X : Vec Ideal S1x1024 .f32) (s : Fin 256) :
    View.readAt (Elt Ideal) m.view (Rect.unit (s := S1x1024) ![0, 768] (![1, 256] : Fin 2 → ℕ) inb_S1x1024_S1x256_0_768).toLoadRect (hm.unread X) (ix2 0 s) = X (ix2 0 (col 3 s)) := by
  refine rd hm X _ _ _ fun a => ?_
  match a with
  | ⟨0, _⟩ => exact rfl
  | ⟨1, _⟩ => exact rfl

/-- The input gate, the forget gate and the exponent of a row and head. -/
def iG (x5 : Vec Ideal S32x128 .f32) (x6 : Vec Ideal S1x128 .f32) (a : Fin 32) (h : Fin 4) : EReal := x5 (ix2 a ⟨h.val, by omega⟩) + x6 (ix2 0 ⟨h.val, by omega⟩)
def fG (x5 : Vec Ideal S32x128 .f32) (x6 : Vec Ideal S1x128 .f32) (a : Fin 32) (h : Fin 4) : EReal := x5 (ix2 a ⟨h.val + 4, by omega⟩) + x6 (ix2 0 ⟨h.val + 4, by omega⟩)

/-- The new exponent, and the two weights, of a row and head. -/
def mG (x5 : Vec Ideal S32x128 .f32) (x6 : Vec Ideal S1x128 .f32) (x10 : Vec Ideal S32x4 .f32) (a : Fin 32) (h : Fin 4) : EReal := mS (iG x5 x6 a h) (fG x5 x6 a h) (x10 (ix2 a h))
def dG (x5 : Vec Ideal S32x128 .f32) (x6 : Vec Ideal S1x128 .f32) (x10 : Vec Ideal S32x4 .f32) (a : Fin 32) (h : Fin 4) : EReal := dS (iG x5 x6 a h) (fG x5 x6 a h) (x10 (ix2 a h))
def wG (x5 : Vec Ideal S32x128 .f32) (x6 : Vec Ideal S1x128 .f32) (x10 : Vec Ideal S32x4 .f32) (a : Fin 32) (h : Fin 4) : EReal := wS (iG x5 x6 a h) (fG x5 x6 a h) (x10 (ix2 a h))

/-- An entry of each output block. -/
def cG (x1 x2 : Vec Ideal S32x1024 .f32) (x5 : Vec Ideal S32x128 .f32) (x6 : Vec Ideal S1x128 .f32) (x8 : Vec Ideal S1x4x256x256 .f32) (x10 : Vec Ideal S32x4 .f32) (a : Fin 32) (h : Fin 4) (r s : Fin 256) : EReal :=
  wG x5 x6 x10 a h * x8 (ix4 0 h r s) + dG x5 x6 x10 a h * x2 (ix2 a (col h r)) * (x1 (ix2 a (col h s)) * kap)
def nG (x1 : Vec Ideal S32x1024 .f32) (x5 : Vec Ideal S32x128 .f32) (x6 : Vec Ideal S1x128 .f32) (x9 : Vec Ideal S1x4x256 .f32) (x10 : Vec Ideal S32x4 .f32) (a : Fin 32) (h : Fin 4) (s : Fin 256) : EReal :=
  wG x5 x6 x10 a h * x9 (ix3 0 h s) + dG x5 x6 x10 a h * (x1 (ix2 a (col h s)) * kap)
def hG (x0 x1 x2 : Vec Ideal S32x1024 .f32) (x5 : Vec Ideal S32x128 .f32) (x6 : Vec Ideal S1x128 .f32) (x8 : Vec Ideal S1x4x256x256 .f32) (x9 : Vec Ideal S1x4x256 .f32) (x10 : Vec Ideal S32x4 .f32) (a : Fin 32) (h : Fin 4) (r : Fin 256) : EReal :=
  hS (mG x5 x6 x10 a h) (dG x5 x6 x10 a h) (wG x5 x6 x10 a h) (fun s => x0 (ix2 a (col h s))) (fun s => x1 (ix2 a (col h s))) (fun s => x9 (ix3 0 h s)) (fun s => x8 (ix4 0 h r s)) (x2 (ix2 a (col h r)))
def oG (x0 x1 x2 x3 x4 : Vec Ideal S32x1024 .f32) (x5 : Vec Ideal S32x128 .f32) (x6 : Vec Ideal S1x128 .f32) (x7 : Vec Ideal S1x1024 .f32) (x8 : Vec Ideal S1x4x256x256 .f32) (x9 : Vec Ideal S1x4x256 .f32) (x10 : Vec Ideal S32x4 .f32) (a : Fin 32) (h : Fin 4) (s : Fin 256) : EReal :=
  oS (hG x0 x1 x2 x5 x6 x8 x9 x10 a h) (x7 (ix2 0 (col h s))) (x3 (ix2 a (col h s))) (x4 (ix2 a (col h s))) s

/-- The head a column of the joined heads belongs to, and its place there. -/
def hd (j : Fin 1024) : Fin 4 := ⟨j.val / 256, by omega⟩
def pl (j : Fin 1024) : Fin 256 := ⟨j.val % 256, Nat.mod_lt _ (by omega)⟩
theorem hd_col (h : Fin 4) (s : Fin 256) : hd (col h s) = h := Fin.ext (by show (256 * h.val + s.val) / 256 = h.val; omega)
theorem pl_col (h : Fin 4) (s : Fin 256) : pl (col h s) = s := Fin.ext (by show (256 * h.val + s.val) % 256 = s.val; omega)
theorem emC0 (r s : Fin 256) : ((Rect.unit (s := S1x4x256x256) ![0, 0, 0, 0] S1x1x256x256.size inb_S1x4x256x256_S1x1x256x256_0_0_0_0).emb (ix4 0 0 r s) : S1x4x256x256.Idx) = ix4 0 0 r s := by
  funext a
  apply Fin.ext
  match a with
  | ⟨0, _⟩ => rfl
  | ⟨1, _⟩ => rfl
  | ⟨2, _⟩ =>
    show 0 + 1 * r.val = r.val
    omega
  | ⟨3, _⟩ =>
    show 0 + 1 * s.val = s.val
    omega
theorem emN0 (s : Fin 256) : ((Rect.unit (s := S1x4x256) ![0, 0, 0] S1x1x256.size inb_S1x4x256_S1x1x256_0_0_0).emb (ix3 0 0 s) : S1x4x256.Idx) = ix3 0 0 s := by
  funext a
  apply Fin.ext
  match a with
  | ⟨0, _⟩ => rfl
  | ⟨1, _⟩ => rfl
  | ⟨2, _⟩ =>
    show 0 + 1 * s.val = s.val
    omega
theorem emM0 (s : Fin 128) : ((Rect.unit (s := S1x4x128) ![0, 0, 0] S1x1x128.size inb_S1x4x128_S1x1x128_0_0_0).emb (ix3 0 0 s) : S1x4x128.Idx) = ix3 0 0 s := by
  funext a
  apply Fin.ext
  match a with
  | ⟨0, _⟩ => rfl
  | ⟨1, _⟩ => rfl
  | ⟨2, _⟩ =>
    show 0 + 1 * s.val = s.val
    omega
theorem emH0 (s : Fin 256) : ((Rect.unit (s := S1x1x1024) ![0, 0, 0] S1x1x256.size inb_S1x1x1024_S1x1x256_0_0_0).emb (ix3 0 0 s) : S1x1x1024.Idx) = ix3 0 0 (col 0 s) := by
  funext a
  apply Fin.ext
  match a with
  | ⟨0, _⟩ => rfl
  | ⟨1, _⟩ => rfl
  | ⟨2, _⟩ =>
    show 0 + 1 * s.val = 256 * 0 + s.val
    omega
theorem emC1 (r s : Fin 256) : ((Rect.unit (s := S1x4x256x256) ![0, 1, 0, 0] S1x1x256x256.size inb_S1x4x256x256_S1x1x256x256_0_1_0_0).emb (ix4 0 0 r s) : S1x4x256x256.Idx) = ix4 0 1 r s := by
  funext a
  apply Fin.ext
  match a with
  | ⟨0, _⟩ => rfl
  | ⟨1, _⟩ => rfl
  | ⟨2, _⟩ =>
    show 0 + 1 * r.val = r.val
    omega
  | ⟨3, _⟩ =>
    show 0 + 1 * s.val = s.val
    omega
theorem emN1 (s : Fin 256) : ((Rect.unit (s := S1x4x256) ![0, 1, 0] S1x1x256.size inb_S1x4x256_S1x1x256_0_1_0).emb (ix3 0 0 s) : S1x4x256.Idx) = ix3 0 1 s := by
  funext a
  apply Fin.ext
  match a with
  | ⟨0, _⟩ => rfl
  | ⟨1, _⟩ => rfl
  | ⟨2, _⟩ =>
    show 0 + 1 * s.val = s.val
    omega
theorem emM1 (s : Fin 128) : ((Rect.unit (s := S1x4x128) ![0, 1, 0] S1x1x128.size inb_S1x4x128_S1x1x128_0_1_0).emb (ix3 0 0 s) : S1x4x128.Idx) = ix3 0 1 s := by
  funext a
  apply Fin.ext
  match a with
  | ⟨0, _⟩ => rfl
  | ⟨1, _⟩ => rfl
  | ⟨2, _⟩ =>
    show 0 + 1 * s.val = s.val
    omega
theorem emH1 (s : Fin 256) : ((Rect.unit (s := S1x1x1024) ![0, 0, 256] S1x1x256.size inb_S1x1x1024_S1x1x256_0_0_256).emb (ix3 0 0 s) : S1x1x1024.Idx) = ix3 0 0 (col 1 s) := by
  funext a
  apply Fin.ext
  match a with
  | ⟨0, _⟩ => rfl
  | ⟨1, _⟩ => rfl
  | ⟨2, _⟩ =>
    show 256 + 1 * s.val = 256 * 1 + s.val
    omega
theorem emC2 (r s : Fin 256) : ((Rect.unit (s := S1x4x256x256) ![0, 2, 0, 0] S1x1x256x256.size inb_S1x4x256x256_S1x1x256x256_0_2_0_0).emb (ix4 0 0 r s) : S1x4x256x256.Idx) = ix4 0 2 r s := by
  funext a
  apply Fin.ext
  match a with
  | ⟨0, _⟩ => rfl
  | ⟨1, _⟩ => rfl
  | ⟨2, _⟩ =>
    show 0 + 1 * r.val = r.val
    omega
  | ⟨3, _⟩ =>
    show 0 + 1 * s.val = s.val
    omega
theorem emN2 (s : Fin 256) : ((Rect.unit (s := S1x4x256) ![0, 2, 0] S1x1x256.size inb_S1x4x256_S1x1x256_0_2_0).emb (ix3 0 0 s) : S1x4x256.Idx) = ix3 0 2 s := by
  funext a
  apply Fin.ext
  match a with
  | ⟨0, _⟩ => rfl
  | ⟨1, _⟩ => rfl
  | ⟨2, _⟩ =>
    show 0 + 1 * s.val = s.val
    omega
theorem emM2 (s : Fin 128) : ((Rect.unit (s := S1x4x128) ![0, 2, 0] S1x1x128.size inb_S1x4x128_S1x1x128_0_2_0).emb (ix3 0 0 s) : S1x4x128.Idx) = ix3 0 2 s := by
  funext a
  apply Fin.ext
  match a with
  | ⟨0, _⟩ => rfl
  | ⟨1, _⟩ => rfl
  | ⟨2, _⟩ =>
    show 0 + 1 * s.val = s.val
    omega
theorem emH2 (s : Fin 256) : ((Rect.unit (s := S1x1x1024) ![0, 0, 512] S1x1x256.size inb_S1x1x1024_S1x1x256_0_0_512).emb (ix3 0 0 s) : S1x1x1024.Idx) = ix3 0 0 (col 2 s) := by
  funext a
  apply Fin.ext
  match a with
  | ⟨0, _⟩ => rfl
  | ⟨1, _⟩ => rfl
  | ⟨2, _⟩ =>
    show 512 + 1 * s.val = 256 * 2 + s.val
    omega
theorem emC3 (r s : Fin 256) : ((Rect.unit (s := S1x4x256x256) ![0, 3, 0, 0] S1x1x256x256.size inb_S1x4x256x256_S1x1x256x256_0_3_0_0).emb (ix4 0 0 r s) : S1x4x256x256.Idx) = ix4 0 3 r s := by
  funext a
  apply Fin.ext
  match a with
  | ⟨0, _⟩ => rfl
  | ⟨1, _⟩ => rfl
  | ⟨2, _⟩ =>
    show 0 + 1 * r.val = r.val
    omega
  | ⟨3, _⟩ =>
    show 0 + 1 * s.val = s.val
    omega
theorem emN3 (s : Fin 256) : ((Rect.unit (s := S1x4x256) ![0, 3, 0] S1x1x256.size inb_S1x4x256_S1x1x256_0_3_0).emb (ix3 0 0 s) : S1x4x256.Idx) = ix3 0 3 s := by
  funext a
  apply Fin.ext
  match a with
  | ⟨0, _⟩ => rfl
  | ⟨1, _⟩ => rfl
  | ⟨2, _⟩ =>
    show 0 + 1 * s.val = s.val
    omega
theorem emM3 (s : Fin 128) : ((Rect.unit (s := S1x4x128) ![0, 3, 0] S1x1x128.size inb_S1x4x128_S1x1x128_0_3_0).emb (ix3 0 0 s) : S1x4x128.Idx) = ix3 0 3 s := by
  funext a
  apply Fin.ext
  match a with
  | ⟨0, _⟩ => rfl
  | ⟨1, _⟩ => rfl
  | ⟨2, _⟩ =>
    show 0 + 1 * s.val = s.val
    omega
theorem emH3 (s : Fin 256) : ((Rect.unit (s := S1x1x1024) ![0, 0, 768] S1x1x256.size inb_S1x1x1024_S1x1x256_0_0_768).emb (ix3 0 0 s) : S1x1x1024.Idx) = ix3 0 0 (col 3 s) := by
  funext a
  apply Fin.ext
  match a with
  | ⟨0, _⟩ => rfl
  | ⟨1, _⟩ => rfl
  | ⟨2, _⟩ =>
    show 768 + 1 * s.val = 256 * 3 + s.val
    omega

theorem out_14 (c : Dev nD) (i : grid0.Coords) (arg1 : Memref sig .tc .vmem S32x1024 .f32) (harg1 : arg1.IsWhole) (arg2 : Memref sig .tc .vmem S32x1024 .f32) (harg2 : arg2.IsWhole) (arg3 : Memref sig .tc .vmem S32x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x4x256x256 .f32) (harg9 : arg9.IsWhole) (arg10 : Memref sig .tc .vmem S1x4x256 .f32) (harg10 : arg10.IsWhole) (arg11 : Memref sig .tc .vmem S32x4 .f32) (harg11 : arg11.IsWhole) (arg12 : Memref sig .tc .vmem S1x1x1024 .f32) (harg12 : arg12.IsWhole) (arg13 : Memref sig .tc .vmem S1x4x256x256 .f32) (harg13 : arg13.IsWhole) (arg14 : Memref sig .tc .vmem S1x4x256 .f32) (harg14 : arg14.IsWhole) (arg15 : Memref sig .tc .vmem S1x4x128 .f32) (harg15 : arg15.IsWhole)
    (x0 : Vec Ideal S32x1024 .f32) (x1 : Vec Ideal S32x1024 .f32) (x2 : Vec Ideal S32x1024 .f32) (x3 : Vec Ideal S32x1024 .f32) (x4 : Vec Ideal S32x1024 .f32) (x5 : Vec Ideal S32x128 .f32) (x6 : Vec Ideal S1x128 .f32) (x7 : Vec Ideal S1x1024 .f32) (x8 : Vec Ideal S1x4x256x256 .f32) (x9 : Vec Ideal S1x4x256 .f32) (x10 : Vec Ideal S32x4 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 = fun y : S1x4x128.Idx => mG x5 x6 x10 (row i) (y 1) := by
  unfold out0_A_14
  rw [View.read_writes_junk_eq_canon]
  funext y
  refine View.canon_apply_of_pieces (fun y : S1x4x128.Idx => mG x5 x6 x10 (row i) (y 1)) _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 y)
  refine List.forall_mem_cons.mpr ⟨?_, List.forall_mem_cons.mpr ⟨?_, List.forall_mem_cons.mpr ⟨?_, List.forall_mem_cons.mpr ⟨?_, fun _ h => absurd h List.not_mem_nil⟩⟩⟩⟩
  · intro x
    obtain ⟨s, rfl⟩ : ∃ s : Fin 128, x = (ix3 0 0 s : S1x1x128.Idx) := ⟨x 2, by rw [eq_ix3 x]; congr 1 <;> exact Subsingleton.elim _ _⟩
    dsimp only
    simp only [kernelRun0_A.sl.r, kernelRun0_A.sl.r_1, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.cst_106]
    refine (M3_el _ s).trans ?_
    refine Eq.trans ?_ (congrArg (fun y : S1x4x128.Idx => mG x5 x6 x10 (row i) (y 1)) (emM3 s)).symm
    simp only [m3_el, rdq0, rdq1, rdq2, rdq3, rdg, rdm, rdb, rdn0, rdc0, rdw0, rdn1, rdc1, rdw1, rdn2, rdc2, rdw2, rdn3, rdc3, rdw3]
    rfl
  · intro x
    obtain ⟨s, rfl⟩ : ∃ s : Fin 128, x = (ix3 0 0 s : S1x1x128.Idx) := ⟨x 2, by rw [eq_ix3 x]; congr 1 <;> exact Subsingleton.elim _ _⟩
    dsimp only
    simp only [kernelRun0_A.sl.r, kernelRun0_A.sl.r_1, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.cst_106]
    refine (M2_el _ s).trans ?_
    refine Eq.trans ?_ (congrArg (fun y : S1x4x128.Idx => mG x5 x6 x10 (row i) (y 1)) (emM2 s)).symm
    simp only [m2_el, rdq0, rdq1, rdq2, rdq3, rdg, rdm, rdb, rdn0, rdc0, rdw0, rdn1, rdc1, rdw1, rdn2, rdc2, rdw2, rdn3, rdc3, rdw3]
    rfl
  · intro x
    obtain ⟨s, rfl⟩ : ∃ s : Fin 128, x = (ix3 0 0 s : S1x1x128.Idx) := ⟨x 2, by rw [eq_ix3 x]; congr 1 <;> exact Subsingleton.elim _ _⟩
    dsimp only
    simp only [kernelRun0_A.sl.r, kernelRun0_A.sl.r_1, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30]
    refine (M1_el _ s).trans ?_
    refine Eq.trans ?_ (congrArg (fun y : S1x4x128.Idx => mG x5 x6 x10 (row i) (y 1)) (emM1 s)).symm
    simp only [m1_el, rdq0, rdq1, rdq2, rdq3, rdg, rdm, rdb, rdn0, rdc0, rdw0, rdn1, rdc1, rdw1, rdn2, rdc2, rdw2, rdn3, rdc3, rdw3]
    rfl
  · intro x
    obtain ⟨s, rfl⟩ : ∃ s : Fin 128, x = (ix3 0 0 s : S1x1x128.Idx) := ⟨x 2, by rw [eq_ix3 x]; congr 1 <;> exact Subsingleton.elim _ _⟩
    dsimp only
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.cst_44]
    refine (M0_el _ s).trans ?_
    refine Eq.trans ?_ (congrArg (fun y : S1x4x128.Idx => mG x5 x6 x10 (row i) (y 1)) (emM0 s)).symm
    simp only [m0_el, rdq0, rdq1, rdq2, rdq3, rdg, rdm, rdb, rdn0, rdc0, rdw0, rdn1, rdc1, rdw1, rdn2, rdc2, rdw2, rdn3, rdc3, rdw3]
    rfl

theorem out_13 (c : Dev nD) (i : grid0.Coords) (arg1 : Memref sig .tc .vmem S32x1024 .f32) (harg1 : arg1.IsWhole) (arg2 : Memref sig .tc .vmem S32x1024 .f32) (harg2 : arg2.IsWhole) (arg3 : Memref sig .tc .vmem S32x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x4x256x256 .f32) (harg9 : arg9.IsWhole) (arg10 : Memref sig .tc .vmem S1x4x256 .f32) (harg10 : arg10.IsWhole) (arg11 : Memref sig .tc .vmem S32x4 .f32) (harg11 : arg11.IsWhole) (arg12 : Memref sig .tc .vmem S1x1x1024 .f32) (harg12 : arg12.IsWhole) (arg13 : Memref sig .tc .vmem S1x4x256x256 .f32) (harg13 : arg13.IsWhole) (arg14 : Memref sig .tc .vmem S1x4x256 .f32) (harg14 : arg14.IsWhole) (arg15 : Memref sig .tc .vmem S1x4x128 .f32) (harg15 : arg15.IsWhole)
    (x0 : Vec Ideal S32x1024 .f32) (x1 : Vec Ideal S32x1024 .f32) (x2 : Vec Ideal S32x1024 .f32) (x3 : Vec Ideal S32x1024 .f32) (x4 : Vec Ideal S32x1024 .f32) (x5 : Vec Ideal S32x128 .f32) (x6 : Vec Ideal S1x128 .f32) (x7 : Vec Ideal S1x1024 .f32) (x8 : Vec Ideal S1x4x256x256 .f32) (x9 : Vec Ideal S1x4x256 .f32) (x10 : Vec Ideal S32x4 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 = fun y : S1x4x256.Idx => nG x1 x5 x6 x9 x10 (row i) (y 1) (y 2) := by
  unfold out0_A_13
  rw [View.read_writes_junk_eq_canon]
  funext y
  refine View.canon_apply_of_pieces (fun y : S1x4x256.Idx => nG x1 x5 x6 x9 x10 (row i) (y 1) (y 2)) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 y)
  refine List.forall_mem_cons.mpr ⟨?_, List.forall_mem_cons.mpr ⟨?_, List.forall_mem_cons.mpr ⟨?_, List.forall_mem_cons.mpr ⟨?_, fun _ h => absurd h List.not_mem_nil⟩⟩⟩⟩
  · intro x
    obtain ⟨s, rfl⟩ : ∃ s : Fin 256, x = (ix3 0 0 s : S1x1x256.Idx) := ⟨x 2, by rw [eq_ix3 x]; congr 1 <;> exact Subsingleton.elim _ _⟩
    dsimp only
    simp only [kernelRun0_A.sl.r, kernelRun0_A.sl.r_1, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.cst_106]
    refine (N3_el _ _ _ _ s).trans ?_
    refine Eq.trans ?_ (congrArg (fun y : S1x4x256.Idx => nG x1 x5 x6 x9 x10 (row i) (y 1) (y 2)) (emN3 s)).symm
    simp only [w3_el, d3_el, rdq0, rdq1, rdq2, rdq3, rdg, rdm, rdb, rdn0, rdc0, rdw0, rdn1, rdc1, rdw1, rdn2, rdc2, rdw2, rdn3, rdc3, rdw3]
    rfl
  · intro x
    obtain ⟨s, rfl⟩ : ∃ s : Fin 256, x = (ix3 0 0 s : S1x1x256.Idx) := ⟨x 2, by rw [eq_ix3 x]; congr 1 <;> exact Subsingleton.elim _ _⟩
    dsimp only
    simp only [kernelRun0_A.sl.r, kernelRun0_A.sl.r_1, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.cst_106]
    refine (N2_el _ _ _ _ s).trans ?_
    refine Eq.trans ?_ (congrArg (fun y : S1x4x256.Idx => nG x1 x5 x6 x9 x10 (row i) (y 1) (y 2)) (emN2 s)).symm
    simp only [w2_el, d2_el, rdq0, rdq1, rdq2, rdq3, rdg, rdm, rdb, rdn0, rdc0, rdw0, rdn1, rdc1, rdw1, rdn2, rdc2, rdw2, rdn3, rdc3, rdw3]
    rfl
  · intro x
    obtain ⟨s, rfl⟩ : ∃ s : Fin 256, x = (ix3 0 0 s : S1x1x256.Idx) := ⟨x 2, by rw [eq_ix3 x]; congr 1 <;> exact Subsingleton.elim _ _⟩
    dsimp only
    simp only [kernelRun0_A.sl.r, kernelRun0_A.sl.r_1, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30]
    refine (N1_el _ _ _ _ s).trans ?_
    refine Eq.trans ?_ (congrArg (fun y : S1x4x256.Idx => nG x1 x5 x6 x9 x10 (row i) (y 1) (y 2)) (emN1 s)).symm
    simp only [w1_el, d1_el, rdq0, rdq1, rdq2, rdq3, rdg, rdm, rdb, rdn0, rdc0, rdw0, rdn1, rdc1, rdw1, rdn2, rdc2, rdw2, rdn3, rdc3, rdw3]
    rfl
  · intro x
    obtain ⟨s, rfl⟩ : ∃ s : Fin 256, x = (ix3 0 0 s : S1x1x256.Idx) := ⟨x 2, by rw [eq_ix3 x]; congr 1 <;> exact Subsingleton.elim _ _⟩
    dsimp only
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.cst_44]
    refine (N0_el _ _ _ _ s).trans ?_
    refine Eq.trans ?_ (congrArg (fun y : S1x4x256.Idx => nG x1 x5 x6 x9 x10 (row i) (y 1) (y 2)) (emN0 s)).symm
    simp only [w0_el, d0_el, rdq0, rdq1, rdq2, rdq3, rdg, rdm, rdb, rdn0, rdc0, rdw0, rdn1, rdc1, rdw1, rdn2, rdc2, rdw2, rdn3, rdc3, rdw3]
    rfl

theorem out_12 (c : Dev nD) (i : grid0.Coords) (arg1 : Memref sig .tc .vmem S32x1024 .f32) (harg1 : arg1.IsWhole) (arg2 : Memref sig .tc .vmem S32x1024 .f32) (harg2 : arg2.IsWhole) (arg3 : Memref sig .tc .vmem S32x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x4x256x256 .f32) (harg9 : arg9.IsWhole) (arg10 : Memref sig .tc .vmem S1x4x256 .f32) (harg10 : arg10.IsWhole) (arg11 : Memref sig .tc .vmem S32x4 .f32) (harg11 : arg11.IsWhole) (arg12 : Memref sig .tc .vmem S1x1x1024 .f32) (harg12 : arg12.IsWhole) (arg13 : Memref sig .tc .vmem S1x4x256x256 .f32) (harg13 : arg13.IsWhole) (arg14 : Memref sig .tc .vmem S1x4x256 .f32) (harg14 : arg14.IsWhole) (arg15 : Memref sig .tc .vmem S1x4x128 .f32) (harg15 : arg15.IsWhole)
    (x0 : Vec Ideal S32x1024 .f32) (x1 : Vec Ideal S32x1024 .f32) (x2 : Vec Ideal S32x1024 .f32) (x3 : Vec Ideal S32x1024 .f32) (x4 : Vec Ideal S32x1024 .f32) (x5 : Vec Ideal S32x128 .f32) (x6 : Vec Ideal S1x128 .f32) (x7 : Vec Ideal S1x1024 .f32) (x8 : Vec Ideal S1x4x256x256 .f32) (x9 : Vec Ideal S1x4x256 .f32) (x10 : Vec Ideal S32x4 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 = fun y : S1x4x256x256.Idx => cG x1 x2 x5 x6 x8 x10 (row i) (y 1) (y 2) (y 3) := by
  unfold out0_A_12
  rw [View.read_writes_junk_eq_canon]
  funext y
  refine View.canon_apply_of_pieces (fun y : S1x4x256x256.Idx => cG x1 x2 x5 x6 x8 x10 (row i) (y 1) (y 2) (y 3)) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 y)
  refine List.forall_mem_cons.mpr ⟨?_, List.forall_mem_cons.mpr ⟨?_, List.forall_mem_cons.mpr ⟨?_, List.forall_mem_cons.mpr ⟨?_, fun _ h => absurd h List.not_mem_nil⟩⟩⟩⟩
  · intro x
    obtain ⟨r, s, rfl⟩ : ∃ r s : Fin 256, x = (ix4 0 0 r s : S1x1x256x256.Idx) := ⟨x 2, x 3, by rw [eq_ix4 x]; congr 1 <;> exact Subsingleton.elim _ _⟩
    dsimp only
    simp only [kernelRun0_A.sl.r, kernelRun0_A.sl.r_1, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.cst_106]
    refine (C3_el _ _ _ _ _ r s).trans ?_
    refine Eq.trans ?_ (congrArg (fun y : S1x4x256x256.Idx => cG x1 x2 x5 x6 x8 x10 (row i) (y 1) (y 2) (y 3)) (emC3 r s)).symm
    simp only [w3_el, d3_el, rdq0, rdq1, rdq2, rdq3, rdg, rdm, rdb, rdn0, rdc0, rdw0, rdn1, rdc1, rdw1, rdn2, rdc2, rdw2, rdn3, rdc3, rdw3]
    rfl
  · intro x
    obtain ⟨r, s, rfl⟩ : ∃ r s : Fin 256, x = (ix4 0 0 r s : S1x1x256x256.Idx) := ⟨x 2, x 3, by rw [eq_ix4 x]; congr 1 <;> exact Subsingleton.elim _ _⟩
    dsimp only
    simp only [kernelRun0_A.sl.r, kernelRun0_A.sl.r_1, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.cst_106]
    refine (C2_el _ _ _ _ _ r s).trans ?_
    refine Eq.trans ?_ (congrArg (fun y : S1x4x256x256.Idx => cG x1 x2 x5 x6 x8 x10 (row i) (y 1) (y 2) (y 3)) (emC2 r s)).symm
    simp only [w2_el, d2_el, rdq0, rdq1, rdq2, rdq3, rdg, rdm, rdb, rdn0, rdc0, rdw0, rdn1, rdc1, rdw1, rdn2, rdc2, rdw2, rdn3, rdc3, rdw3]
    rfl
  · intro x
    obtain ⟨r, s, rfl⟩ : ∃ r s : Fin 256, x = (ix4 0 0 r s : S1x1x256x256.Idx) := ⟨x 2, x 3, by rw [eq_ix4 x]; congr 1 <;> exact Subsingleton.elim _ _⟩
    dsimp only
    simp only [kernelRun0_A.sl.r, kernelRun0_A.sl.r_1, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30]
    refine (C1_el _ _ _ _ _ r s).trans ?_
    refine Eq.trans ?_ (congrArg (fun y : S1x4x256x256.Idx => cG x1 x2 x5 x6 x8 x10 (row i) (y 1) (y 2) (y 3)) (emC1 r s)).symm
    simp only [w1_el, d1_el, rdq0, rdq1, rdq2, rdq3, rdg, rdm, rdb, rdn0, rdc0, rdw0, rdn1, rdc1, rdw1, rdn2, rdc2, rdw2, rdn3, rdc3, rdw3]
    rfl
  · intro x
    obtain ⟨r, s, rfl⟩ : ∃ r s : Fin 256, x = (ix4 0 0 r s : S1x1x256x256.Idx) := ⟨x 2, x 3, by rw [eq_ix4 x]; congr 1 <;> exact Subsingleton.elim _ _⟩
    dsimp only
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.cst_44]
    refine (C0_el _ _ _ _ _ r s).trans ?_
    refine Eq.trans ?_ (congrArg (fun y : S1x4x256x256.Idx => cG x1 x2 x5 x6 x8 x10 (row i) (y 1) (y 2) (y 3)) (emC0 r s)).symm
    simp only [w0_el, d0_el, rdq0, rdq1, rdq2, rdq3, rdg, rdm, rdb, rdn0, rdc0, rdw0, rdn1, rdc1, rdw1, rdn2, rdc2, rdw2, rdn3, rdc3, rdw3]
    rfl

theorem out_11 (c : Dev nD) (i : grid0.Coords) (arg1 : Memref sig .tc .vmem S32x1024 .f32) (harg1 : arg1.IsWhole) (arg2 : Memref sig .tc .vmem S32x1024 .f32) (harg2 : arg2.IsWhole) (arg3 : Memref sig .tc .vmem S32x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x4x256x256 .f32) (harg9 : arg9.IsWhole) (arg10 : Memref sig .tc .vmem S1x4x256 .f32) (harg10 : arg10.IsWhole) (arg11 : Memref sig .tc .vmem S32x4 .f32) (harg11 : arg11.IsWhole) (arg12 : Memref sig .tc .vmem S1x1x1024 .f32) (harg12 : arg12.IsWhole) (arg13 : Memref sig .tc .vmem S1x4x256x256 .f32) (harg13 : arg13.IsWhole) (arg14 : Memref sig .tc .vmem S1x4x256 .f32) (harg14 : arg14.IsWhole) (arg15 : Memref sig .tc .vmem S1x4x128 .f32) (harg15 : arg15.IsWhole)
    (x0 : Vec Ideal S32x1024 .f32) (x1 : Vec Ideal S32x1024 .f32) (x2 : Vec Ideal S32x1024 .f32) (x3 : Vec Ideal S32x1024 .f32) (x4 : Vec Ideal S32x1024 .f32) (x5 : Vec Ideal S32x128 .f32) (x6 : Vec Ideal S1x128 .f32) (x7 : Vec Ideal S1x1024 .f32) (x8 : Vec Ideal S1x4x256x256 .f32) (x9 : Vec Ideal S1x4x256 .f32) (x10 : Vec Ideal S32x4 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 = fun y : S1x1x1024.Idx => oG x0 x1 x2 x3 x4 x5 x6 x7 x8 x9 x10 (row i) (hd (y 2)) (pl (y 2)) := by
  unfold out0_A_11
  rw [View.read_writes_junk_eq_canon]
  funext y
  refine View.canon_apply_of_pieces (fun y : S1x1x1024.Idx => oG x0 x1 x2 x3 x4 x5 x6 x7 x8 x9 x10 (row i) (hd (y 2)) (pl (y 2))) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 y)
  refine List.forall_mem_cons.mpr ⟨?_, List.forall_mem_cons.mpr ⟨?_, List.forall_mem_cons.mpr ⟨?_, List.forall_mem_cons.mpr ⟨?_, fun _ h => absurd h List.not_mem_nil⟩⟩⟩⟩
  · intro x
    obtain ⟨s, rfl⟩ : ∃ s : Fin 256, x = (ix3 0 0 s : S1x1x256.Idx) := ⟨x 2, by rw [eq_ix3 x]; congr 1 <;> exact Subsingleton.elim _ _⟩
    dsimp only
    simp only [kernelRun0_A.sl.r, kernelRun0_A.sl.r_1, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.cst_106]
    refine (H3_el _ _ _ _ s).trans ?_
    refine Eq.trans ?_ (congrArg (fun y : S1x1x1024.Idx => oG x0 x1 x2 x3 x4 x5 x6 x7 x8 x9 x10 (row i) (hd (y 2)) (pl (y 2))) (emH3 s)).symm
    simp only [P3_el, m3_el, d3_el, w3_el, rdq0, rdq1, rdq2, rdq3, rdg, rdm, rdb, rdn0, rdc0, rdw0, rdn1, rdc1, rdw1, rdn2, rdc2, rdw2, rdn3, rdc3, rdw3]
    show _ = oG x0 x1 x2 x3 x4 x5 x6 x7 x8 x9 x10 (row i) (hd (col 3 s)) (pl (col 3 s))
    rw [hd_col, pl_col]
    rfl
  · intro x
    obtain ⟨s, rfl⟩ : ∃ s : Fin 256, x = (ix3 0 0 s : S1x1x256.Idx) := ⟨x 2, by rw [eq_ix3 x]; congr 1 <;> exact Subsingleton.elim _ _⟩
    dsimp only
    simp only [kernelRun0_A.sl.r, kernelRun0_A.sl.r_1, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.cst_106]
    refine (H2_el _ _ _ _ s).trans ?_
    refine Eq.trans ?_ (congrArg (fun y : S1x1x1024.Idx => oG x0 x1 x2 x3 x4 x5 x6 x7 x8 x9 x10 (row i) (hd (y 2)) (pl (y 2))) (emH2 s)).symm
    simp only [P2_el, m2_el, d2_el, w2_el, rdq0, rdq1, rdq2, rdq3, rdg, rdm, rdb, rdn0, rdc0, rdw0, rdn1, rdc1, rdw1, rdn2, rdc2, rdw2, rdn3, rdc3, rdw3]
    show _ = oG x0 x1 x2 x3 x4 x5 x6 x7 x8 x9 x10 (row i) (hd (col 2 s)) (pl (col 2 s))
    rw [hd_col, pl_col]
    rfl
  · intro x
    obtain ⟨s, rfl⟩ : ∃ s : Fin 256, x = (ix3 0 0 s : S1x1x256.Idx) := ⟨x 2, by rw [eq_ix3 x]; congr 1 <;> exact Subsingleton.elim _ _⟩
    dsimp only
    simp only [kernelRun0_A.sl.r, kernelRun0_A.sl.r_1, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30]
    refine (H1_el _ _ _ _ s).trans ?_
    refine Eq.trans ?_ (congrArg (fun y : S1x1x1024.Idx => oG x0 x1 x2 x3 x4 x5 x6 x7 x8 x9 x10 (row i) (hd (y 2)) (pl (y 2))) (emH1 s)).symm
    simp only [P1_el, m1_el, d1_el, w1_el, rdq0, rdq1, rdq2, rdq3, rdg, rdm, rdb, rdn0, rdc0, rdw0, rdn1, rdc1, rdw1, rdn2, rdc2, rdw2, rdn3, rdc3, rdw3]
    show _ = oG x0 x1 x2 x3 x4 x5 x6 x7 x8 x9 x10 (row i) (hd (col 1 s)) (pl (col 1 s))
    rw [hd_col, pl_col]
    rfl
  · intro x
    obtain ⟨s, rfl⟩ : ∃ s : Fin 256, x = (ix3 0 0 s : S1x1x256.Idx) := ⟨x 2, by rw [eq_ix3 x]; congr 1 <;> exact Subsingleton.elim _ _⟩
    dsimp only
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.cst_44]
    refine (H0_el _ _ _ _ s).trans ?_
    refine Eq.trans ?_ (congrArg (fun y : S1x1x1024.Idx => oG x0 x1 x2 x3 x4 x5 x6 x7 x8 x9 x10 (row i) (hd (y 2)) (pl (y 2))) (emH0 s)).symm
    simp only [P0_el, m0_el, d0_el, w0_el, rdq0, rdq1, rdq2, rdq3, rdg, rdm, rdb, rdn0, rdc0, rdw0, rdn1, rdc1, rdw1, rdn2, rdc2, rdw2, rdn3, rdc3, rdw3]
    show _ = oG x0 x1 x2 x3 x4 x5 x6 x7 x8 x9 x10 (row i) (hd (col 0 s)) (pl (col 0 s))
    rw [hd_col, pl_col]
    rfl

end Cert.Kernel5Ideal.Cell
-- ==== Proof.CellWins.lean ====
/- The sample batch's mLSTM step: its blocks read off the arrays. -/
module

public import proofs.«01_k».proof.Proof.CellBlocks
public import Idealize.ShloMosaic.Lib.Pipeline.ValueKit
public import Idealize.ShloMosaic.Lib.Pointwise

@[expose] public section

set_option maxRecDepth 16384

noncomputable section

namespace Cert.Kernel5Ideal.Cell

open Cert.Kernel5Ideal Cert.Kernel5Ideal.Gen
open Idealize.ShloMosaic Idealize.ShloMosaic.TcCoe Idealize.ShloMosaic.Tactic
open Idealize.SL.Sem

variable (m : (ℓ : Loc nD τ sig) → Buf (Elt Ideal) ℓ)

theorem V_b (c : Dev nD) : V m c main_v4 = shapeCast S1x128 (pad S128 ![0] ![120] ![0] (concatenate S8 0 [⟨S4, shapeCast S4 (m ((c : Thread nD τ).loc main_arg2)) shapeCasts_S1x4_S4⟩, ⟨S4, shapeCast S4 (m ((c : Thread nD τ).loc main_arg3)) shapeCasts_S1x4_S4⟩] concatenates_S4_S4_S8_d0) (sitofp (F := Ideal) .f32 (constantI S_ 32 0#32)) pads_S8_S128_01200 h_S_) shapeCasts_S128_S1x128 := by
  entry_read
  rfl
theorem V_n (c : Dev nD) : V m c main_v9 = shapeCast S1x1024 (shapeCast S1024 (m ((c : Thread nD τ).loc main_arg4)) shapeCasts_S1x1024_S1024) shapeCasts_S1024_S1x1024 := by
  entry_read
  rfl
theorem V_c0 (c : Dev nD) : V m c main_v6 = shapeCast S32x4x256x256 (m ((c : Thread nD τ).loc main_arg5)) shapeCasts_S1x32x4x256x256_S32x4x256x256 := by
  entry_read
  rfl
theorem V_n0 (c : Dev nD) : V m c main_v7 = shapeCast S32x4x256 (m ((c : Thread nD τ).loc main_arg6)) shapeCasts_S1x32x4x256_S32x4x256 := by
  entry_read
  rfl
theorem V_m0 (c : Dev nD) : V m c main_v8 = shapeCast S32x4 (m ((c : Thread nD τ).loc main_arg7)) shapeCasts_S1x32x4_S32x4 := by
  entry_read
  rfl

/-- The biases, padded and joined: the input gates' first, then the forget gates'. -/
theorem b_i (x y : Vec Ideal S4 .f32) (v : Vec Ideal S_ .f32) (h : Fin 4) :
    shapeCast S1x128 (pad S128 ![0] ![120] ![0] (concatenate S8 0 [⟨S4, x⟩, ⟨S4, y⟩] concatenates_S4_S4_S8_d0) v pads_S8_S128_01200 h_S_) shapeCasts_S128_S1x128 (ix2 0 ⟨h.val, by omega⟩) = x (ix1 h) := by
  match h with
  | 0 => pointwise
  | 1 => pointwise
  | 2 => pointwise
  | 3 => pointwise
theorem b_f (x y : Vec Ideal S4 .f32) (v : Vec Ideal S_ .f32) (h : Fin 4) :
    shapeCast S1x128 (pad S128 ![0] ![120] ![0] (concatenate S8 0 [⟨S4, x⟩, ⟨S4, y⟩] concatenates_S4_S4_S8_d0) v pads_S8_S128_01200 h_S_) shapeCasts_S128_S1x128 (ix2 0 ⟨h.val + 4, by omega⟩) = y (ix1 h) := by
  match h with
  | 0 => pointwise
  | 1 => pointwise
  | 2 => pointwise
  | 3 => pointwise

theorem row_coords : ∀ t : Fin grid0.N, (row (grid0.coords t)).val = t.val := by decide +kernel

theorem index_0 : ∀ t : Fin grid0.N, win0_0.index t = ![0, 4] := by decide +kernel

theorem iblk_0 (c : Dev nD) (t : Fin cfg0.N) (r : Fin 32) (j : Fin 1024) : iblk m c 0 t (ix2 r j) = V m c main_arg0 (ix2 r ⟨4096 + j.val, by omega⟩) := by
  have e := index_0 t
  show V m c main_arg0 (((cfg0.win 0).blk t).view.emb (ix2 r j : S32x1024.Idx)) = _
  congr 1
  funext a
  apply Fin.ext
  match a with
  | ⟨0, _⟩ =>
    refine (Pipeline.Window.rect_emb_val_off win0_0 t _ _).trans ?_
    show win0_0.index t 0 * 32 + r.val = r.val
    rw [e]
    first | done | simp | (show 0 * 32 + r.val = r.val; omega)
  | ⟨1, _⟩ =>
    refine (Pipeline.Window.rect_emb_val_off win0_0 t _ _).trans ?_
    show win0_0.index t 1 * 1024 + j.val = 4096 + j.val
    rw [e]
    first | done | simp | (show 4 * 1024 + j.val = 4096 + j.val; omega)

theorem index_1 : ∀ t : Fin grid0.N, win0_1.index t = ![0, 5] := by decide +kernel

theorem iblk_1 (c : Dev nD) (t : Fin cfg0.N) (r : Fin 32) (j : Fin 1024) : iblk m c 1 t (ix2 r j) = V m c main_arg0 (ix2 r ⟨5120 + j.val, by omega⟩) := by
  have e := index_1 t
  show V m c main_arg0 (((cfg0.win 1).blk t).view.emb (ix2 r j : S32x1024.Idx)) = _
  congr 1
  funext a
  apply Fin.ext
  match a with
  | ⟨0, _⟩ =>
    refine (Pipeline.Window.rect_emb_val_off win0_1 t _ _).trans ?_
    show win0_1.index t 0 * 32 + r.val = r.val
    rw [e]
    first | done | simp | (show 0 * 32 + r.val = r.val; omega)
  | ⟨1, _⟩ =>
    refine (Pipeline.Window.rect_emb_val_off win0_1 t _ _).trans ?_
    show win0_1.index t 1 * 1024 + j.val = 5120 + j.val
    rw [e]
    first | done | simp | (show 5 * 1024 + j.val = 5120 + j.val; omega)

theorem index_2 : ∀ t : Fin grid0.N, win0_2.index t = ![0, 6] := by decide +kernel

theorem iblk_2 (c : Dev nD) (t : Fin cfg0.N) (r : Fin 32) (j : Fin 1024) : iblk m c 2 t (ix2 r j) = V m c main_arg0 (ix2 r ⟨6144 + j.val, by omega⟩) := by
  have e := index_2 t
  show V m c main_arg0 (((cfg0.win 2).blk t).view.emb (ix2 r j : S32x1024.Idx)) = _
  congr 1
  funext a
  apply Fin.ext
  match a with
  | ⟨0, _⟩ =>
    refine (Pipeline.Window.rect_emb_val_off win0_2 t _ _).trans ?_
    show win0_2.index t 0 * 32 + r.val = r.val
    rw [e]
    first | done | simp | (show 0 * 32 + r.val = r.val; omega)
  | ⟨1, _⟩ =>
    refine (Pipeline.Window.rect_emb_val_off win0_2 t _ _).trans ?_
    show win0_2.index t 1 * 1024 + j.val = 6144 + j.val
    rw [e]
    first | done | simp | (show 6 * 1024 + j.val = 6144 + j.val; omega)

theorem index_3 : ∀ t : Fin grid0.N, win0_3.index t = ![0, 7] := by decide +kernel

theorem iblk_3 (c : Dev nD) (t : Fin cfg0.N) (r : Fin 32) (j : Fin 1024) : iblk m c 3 t (ix2 r j) = V m c main_arg0 (ix2 r ⟨7168 + j.val, by omega⟩) := by
  have e := index_3 t
  show V m c main_arg0 (((cfg0.win 3).blk t).view.emb (ix2 r j : S32x1024.Idx)) = _
  congr 1
  funext a
  apply Fin.ext
  match a with
  | ⟨0, _⟩ =>
    refine (Pipeline.Window.rect_emb_val_off win0_3 t _ _).trans ?_
    show win0_3.index t 0 * 32 + r.val = r.val
    rw [e]
    first | done | simp | (show 0 * 32 + r.val = r.val; omega)
  | ⟨1, _⟩ =>
    refine (Pipeline.Window.rect_emb_val_off win0_3 t _ _).trans ?_
    show win0_3.index t 1 * 1024 + j.val = 7168 + j.val
    rw [e]
    first | done | simp | (show 7 * 1024 + j.val = 7168 + j.val; omega)

theorem index_4 : ∀ t : Fin grid0.N, win0_4.index t = ![0, 8] := by decide +kernel

theorem iblk_4 (c : Dev nD) (t : Fin cfg0.N) (r : Fin 32) (j : Fin 1024) : iblk m c 4 t (ix2 r j) = V m c main_arg0 (ix2 r ⟨8192 + j.val, by omega⟩) := by
  have e := index_4 t
  show V m c main_arg0 (((cfg0.win 4).blk t).view.emb (ix2 r j : S32x1024.Idx)) = _
  congr 1
  funext a
  apply Fin.ext
  match a with
  | ⟨0, _⟩ =>
    refine (Pipeline.Window.rect_emb_val_off win0_4 t _ _).trans ?_
    show win0_4.index t 0 * 32 + r.val = r.val
    rw [e]
    first | done | simp | (show 0 * 32 + r.val = r.val; omega)
  | ⟨1, _⟩ =>
    refine (Pipeline.Window.rect_emb_val_off win0_4 t _ _).trans ?_
    show win0_4.index t 1 * 1024 + j.val = 8192 + j.val
    rw [e]
    first | done | simp | (show 8 * 1024 + j.val = 8192 + j.val; omega)

theorem index_5 : ∀ t : Fin grid0.N, win0_5.index t = ![0, 0] := by decide +kernel

theorem iblk_5 (c : Dev nD) (t : Fin cfg0.N) (r : Fin 32) (j : Fin 128) : iblk m c 5 t (ix2 r j) = V m c main_arg1 (ix2 r j) := by
  have e := index_5 t
  show V m c main_arg1 (((cfg0.win 5).blk t).view.emb (ix2 r j : S32x128.Idx)) = _
  congr 1
  funext a
  apply Fin.ext
  match a with
  | ⟨0, _⟩ =>
    refine (Pipeline.Window.rect_emb_val_off win0_5 t _ _).trans ?_
    show win0_5.index t 0 * 32 + r.val = r.val
    rw [e]
    first | done | simp | (show 0 * 32 + r.val = r.val; omega)
  | ⟨1, _⟩ =>
    refine (Pipeline.Window.rect_emb_val_off win0_5 t _ _).trans ?_
    show win0_5.index t 1 * 128 + j.val = j.val
    rw [e]
    first | done | simp | (show 0 * 128 + j.val = j.val; omega)

theorem index_6 : ∀ t : Fin grid0.N, win0_6.index t = ![0, 0] := by decide +kernel

theorem iblk_6 (c : Dev nD) (t : Fin cfg0.N) (j : Fin 128) : iblk m c 6 t (ix2 0 j) = V m c main_v4 (ix2 0 j) := by
  have e := index_6 t
  show V m c main_v4 (((cfg0.win 6).blk t).view.emb (ix2 0 j : S1x128.Idx)) = _
  congr 1
  funext a
  apply Fin.ext
  match a with
  | ⟨0, _⟩ =>
    refine (Pipeline.Window.rect_emb_val_off win0_6 t _ _).trans ?_
    show win0_6.index t 0 * 1 + 0 = 0
    rw [e]
    first | done | simp | (show 0 * 1 + 0 = 0; omega)
  | ⟨1, _⟩ =>
    refine (Pipeline.Window.rect_emb_val_off win0_6 t _ _).trans ?_
    show win0_6.index t 1 * 128 + j.val = j.val
    rw [e]
    first | done | simp | (show 0 * 128 + j.val = j.val; omega)

theorem index_7 : ∀ t : Fin grid0.N, win0_7.index t = ![0, 0] := by decide +kernel

theorem iblk_7 (c : Dev nD) (t : Fin cfg0.N) (j : Fin 1024) : iblk m c 7 t (ix2 0 j) = V m c main_v9 (ix2 0 j) := by
  have e := index_7 t
  show V m c main_v9 (((cfg0.win 7).blk t).view.emb (ix2 0 j : S1x1024.Idx)) = _
  congr 1
  funext a
  apply Fin.ext
  match a with
  | ⟨0, _⟩ =>
    refine (Pipeline.Window.rect_emb_val_off win0_7 t _ _).trans ?_
    show win0_7.index t 0 * 1 + 0 = 0
    rw [e]
    first | done | simp | (show 0 * 1 + 0 = 0; omega)
  | ⟨1, _⟩ =>
    refine (Pipeline.Window.rect_emb_val_off win0_7 t _ _).trans ?_
    show win0_7.index t 1 * 1024 + j.val = j.val
    rw [e]
    first | done | simp | (show 0 * 1024 + j.val = j.val; omega)

theorem index_8 : ∀ t : Fin grid0.N, win0_8.index t = ![t.val, 0, 0, 0] := by decide +kernel

theorem iblk_8 (c : Dev nD) (t : Fin cfg0.N) (h : Fin 4) (r s : Fin 256) : iblk m c 8 t (ix4 0 h r s) = V m c main_v6 (ix4 (row (grid0.coords t)) h r s) := by
  have e := index_8 t
  show V m c main_v6 (((cfg0.win 8).blk t).view.emb (ix4 0 h r s : S1x4x256x256.Idx)) = _
  congr 1
  funext a
  apply Fin.ext
  match a with
  | ⟨0, _⟩ =>
    refine (Pipeline.Window.rect_emb_val_off win0_8 t _ _).trans ?_
    show win0_8.index t 0 * 1 + 0 = (row (grid0.coords t)).val
    rw [e, row_coords t]
    first | done | simp | (show t.val * 1 + 0 = (row (grid0.coords t)).val; omega)
  | ⟨1, _⟩ =>
    refine (Pipeline.Window.rect_emb_val_off win0_8 t _ _).trans ?_
    show win0_8.index t 1 * 4 + h.val = h.val
    rw [e]
    first | done | simp | (show 0 * 4 + h.val = h.val; omega)
  | ⟨2, _⟩ =>
    refine (Pipeline.Window.rect_emb_val_off win0_8 t _ _).trans ?_
    show win0_8.index t 2 * 256 + r.val = r.val
    rw [e]
    first | done | simp | (show 0 * 256 + r.val = r.val; omega)
  | ⟨3, _⟩ =>
    refine (Pipeline.Window.rect_emb_val_off win0_8 t _ _).trans ?_
    show win0_8.index t 3 * 256 + s.val = s.val
    rw [e]
    first | done | simp | (show 0 * 256 + s.val = s.val; omega)

theorem index_9 : ∀ t : Fin grid0.N, win0_9.index t = ![t.val, 0, 0] := by decide +kernel

theorem iblk_9 (c : Dev nD) (t : Fin cfg0.N) (h : Fin 4) (s : Fin 256) : iblk m c 9 t (ix3 0 h s) = V m c main_v7 (ix3 (row (grid0.coords t)) h s) := by
  have e := index_9 t
  show V m c main_v7 (((cfg0.win 9).blk t).view.emb (ix3 0 h s : S1x4x256.Idx)) = _
  congr 1
  funext a
  apply Fin.ext
  match a with
  | ⟨0, _⟩ =>
    refine (Pipeline.Window.rect_emb_val_off win0_9 t _ _).trans ?_
    show win0_9.index t 0 * 1 + 0 = (row (grid0.coords t)).val
    rw [e, row_coords t]
    first | done | simp | (show t.val * 1 + 0 = (row (grid0.coords t)).val; omega)
  | ⟨1, _⟩ =>
    refine (Pipeline.Window.rect_emb_val_off win0_9 t _ _).trans ?_
    show win0_9.index t 1 * 4 + h.val = h.val
    rw [e]
    first | done | simp | (show 0 * 4 + h.val = h.val; omega)
  | ⟨2, _⟩ =>
    refine (Pipeline.Window.rect_emb_val_off win0_9 t _ _).trans ?_
    show win0_9.index t 2 * 256 + s.val = s.val
    rw [e]
    first | done | simp | (show 0 * 256 + s.val = s.val; omega)

theorem index_10 : ∀ t : Fin grid0.N, win0_10.index t = ![0, 0] := by decide +kernel

theorem iblk_10 (c : Dev nD) (t : Fin cfg0.N) (r : Fin 32) (h : Fin 4) : iblk m c 10 t (ix2 r h) = V m c main_v8 (ix2 r h) := by
  have e := index_10 t
  show V m c main_v8 (((cfg0.win 10).blk t).view.emb (ix2 r h : S32x4.Idx)) = _
  congr 1
  funext a
  apply Fin.ext
  match a with
  | ⟨0, _⟩ =>
    refine (Pipeline.Window.rect_emb_val_off win0_10 t _ _).trans ?_
    show win0_10.index t 0 * 32 + r.val = r.val
    rw [e]
    first | done | simp | (show 0 * 32 + r.val = r.val; omega)
  | ⟨1, _⟩ =>
    refine (Pipeline.Window.rect_emb_val_off win0_10 t _ _).trans ?_
    show win0_10.index t 1 * 4 + h.val = h.val
    rw [e]
    first | done | simp | (show 0 * 4 + h.val = h.val; omega)

theorem index_11 : ∀ t : Fin grid0.N, win0_11.index t = ![t.val, 0, 0] := by decide +kernel

theorem emb_11 (t : Fin cfg0.N) (j : Fin 1024) : ((win0_11.blk t).view.emb (ix3 0 0 j : S1x1x1024.Idx) : S32x1x1024.Idx) = ix3 (row (grid0.coords t)) 0 j := by
  have e := index_11 t
  funext a
  apply Fin.ext
  match a with
  | ⟨0, _⟩ =>
    refine (Pipeline.Window.rect_emb_val_off win0_11 t _ _).trans ?_
    show win0_11.index t 0 * 1 + 0 = (row (grid0.coords t)).val
    rw [e, row_coords t]
    first | done | simp | (show t.val * 1 + 0 = (row (grid0.coords t)).val; omega)
  | ⟨1, _⟩ =>
    refine (Pipeline.Window.rect_emb_val_off win0_11 t _ _).trans ?_
    show win0_11.index t 1 * 1 + 0 = 0
    rw [e]
    first | done | simp | (show 0 * 1 + 0 = 0; omega)
  | ⟨2, _⟩ =>
    refine (Pipeline.Window.rect_emb_val_off win0_11 t _ _).trans ?_
    show win0_11.index t 2 * 1024 + j.val = j.val
    rw [e]
    first | done | simp | (show 0 * 1024 + j.val = j.val; omega)

theorem index_12 : ∀ t : Fin grid0.N, win0_12.index t = ![t.val, 0, 0, 0] := by decide +kernel

theorem emb_12 (t : Fin cfg0.N) (h : Fin 4) (r s : Fin 256) : ((win0_12.blk t).view.emb (ix4 0 h r s : S1x4x256x256.Idx) : S32x4x256x256.Idx) = ix4 (row (grid0.coords t)) h r s := by
  have e := index_12 t
  funext a
  apply Fin.ext
  match a with
  | ⟨0, _⟩ =>
    refine (Pipeline.Window.rect_emb_val_off win0_12 t _ _).trans ?_
    show win0_12.index t 0 * 1 + 0 = (row (grid0.coords t)).val
    rw [e, row_coords t]
    first | done | simp | (show t.val * 1 + 0 = (row (grid0.coords t)).val; omega)
  | ⟨1, _⟩ =>
    refine (Pipeline.Window.rect_emb_val_off win0_12 t _ _).trans ?_
    show win0_12.index t 1 * 4 + h.val = h.val
    rw [e]
    first | done | simp | (show 0 * 4 + h.val = h.val; omega)
  | ⟨2, _⟩ =>
    refine (Pipeline.Window.rect_emb_val_off win0_12 t _ _).trans ?_
    show win0_12.index t 2 * 256 + r.val = r.val
    rw [e]
    first | done | simp | (show 0 * 256 + r.val = r.val; omega)
  | ⟨3, _⟩ =>
    refine (Pipeline.Window.rect_emb_val_off win0_12 t _ _).trans ?_
    show win0_12.index t 3 * 256 + s.val = s.val
    rw [e]
    first | done | simp | (show 0 * 256 + s.val = s.val; omega)

theorem index_13 : ∀ t : Fin grid0.N, win0_13.index t = ![t.val, 0, 0] := by decide +kernel

theorem emb_13 (t : Fin cfg0.N) (h : Fin 4) (s : Fin 256) : ((win0_13.blk t).view.emb (ix3 0 h s : S1x4x256.Idx) : S32x4x256.Idx) = ix3 (row (grid0.coords t)) h s := by
  have e := index_13 t
  funext a
  apply Fin.ext
  match a with
  | ⟨0, _⟩ =>
    refine (Pipeline.Window.rect_emb_val_off win0_13 t _ _).trans ?_
    show win0_13.index t 0 * 1 + 0 = (row (grid0.coords t)).val
    rw [e, row_coords t]
    first | done | simp | (show t.val * 1 + 0 = (row (grid0.coords t)).val; omega)
  | ⟨1, _⟩ =>
    refine (Pipeline.Window.rect_emb_val_off win0_13 t _ _).trans ?_
    show win0_13.index t 1 * 4 + h.val = h.val
    rw [e]
    first | done | simp | (show 0 * 4 + h.val = h.val; omega)
  | ⟨2, _⟩ =>
    refine (Pipeline.Window.rect_emb_val_off win0_13 t _ _).trans ?_
    show win0_13.index t 2 * 256 + s.val = s.val
    rw [e]
    first | done | simp | (show 0 * 256 + s.val = s.val; omega)

theorem index_14 : ∀ t : Fin grid0.N, win0_14.index t = ![t.val, 0, 0] := by decide +kernel

theorem emb_14 (t : Fin cfg0.N) (h : Fin 4) (s : Fin 128) : ((win0_14.blk t).view.emb (ix3 0 h s : S1x4x128.Idx) : S32x4x128.Idx) = ix3 (row (grid0.coords t)) h s := by
  have e := index_14 t
  funext a
  apply Fin.ext
  match a with
  | ⟨0, _⟩ =>
    refine (Pipeline.Window.rect_emb_val_off win0_14 t _ _).trans ?_
    show win0_14.index t 0 * 1 + 0 = (row (grid0.coords t)).val
    rw [e, row_coords t]
    first | done | simp | (show t.val * 1 + 0 = (row (grid0.coords t)).val; omega)
  | ⟨1, _⟩ =>
    refine (Pipeline.Window.rect_emb_val_off win0_14 t _ _).trans ?_
    show win0_14.index t 1 * 4 + h.val = h.val
    rw [e]
    first | done | simp | (show 0 * 4 + h.val = h.val; omega)
  | ⟨2, _⟩ =>
    refine (Pipeline.Window.rect_emb_val_off win0_14 t _ _).trans ?_
    show win0_14.index t 2 * 128 + s.val = s.val
    rw [e]
    first | done | simp | (show 0 * 128 + s.val = s.val; omega)

end Cert.Kernel5Ideal.Cell
-- ==== Proof.CellRef.lean ====
/- The sample batch's mLSTM step: an entry of each of its reference's results, over the extended reals. -/
module

public import proofs.«01_k».proof.Proof.CellBlocks
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Reference5Ideal.Cell

open Cert.Reference5Ideal Cert.Reference5Ideal.Gen Cert.Reference5Ideal.Value
open Cert.Kernel5Ideal.Cell (ls mIn mS dS wS kap one sg qkS hS oS col hd pl hd_col pl_col ab)
open Idealize.ShloMosaic Idealize.ShloMosaic.TcCoe Idealize.ShloMosaic.Tactic
open Idealize.SL.Sem

def rQ (P : FVec Ideal S32x13312 .f32) : FVec Ideal S32x4x256 .f32 := shapeCast S32x4x256 (extractStridedSlice S32x1024 ![0, 4096] P slices_S32x13312_S32x1024_0_4096) shapeCasts_S32x1024_S32x4x256
theorem rQ_el (P : FVec Ideal S32x13312 .f32) (a : Fin 32) (h : Fin 4) (s : Fin 256) : rQ P (ix3 a h s) = P (ix2 a ⟨4096 + (col h s).val, by omega⟩) := by
  unfold rQ
  have e : h.val * 256 + s.val = (col h s).val := by
    show _ = 256 * h.val + s.val
    omega
  show extractStridedSlice S32x1024 ![0, 4096] P slices_S32x13312_S32x1024_0_4096 _ = _
  pointwise
  simp only [e]
def rK (P : FVec Ideal S32x13312 .f32) : FVec Ideal S32x4x256 .f32 := shapeCast S32x4x256 (extractStridedSlice S32x1024 ![0, 5120] P slices_S32x13312_S32x1024_0_5120) shapeCasts_S32x1024_S32x4x256
theorem rK_el (P : FVec Ideal S32x13312 .f32) (a : Fin 32) (h : Fin 4) (s : Fin 256) : rK P (ix3 a h s) = P (ix2 a ⟨5120 + (col h s).val, by omega⟩) := by
  unfold rK
  have e : h.val * 256 + s.val = (col h s).val := by
    show _ = 256 * h.val + s.val
    omega
  show extractStridedSlice S32x1024 ![0, 5120] P slices_S32x13312_S32x1024_0_5120 _ = _
  pointwise
  simp only [e]
def rV (P : FVec Ideal S32x13312 .f32) : FVec Ideal S32x4x256 .f32 := shapeCast S32x4x256 (extractStridedSlice S32x1024 ![0, 6144] P slices_S32x13312_S32x1024_0_6144) shapeCasts_S32x1024_S32x4x256
theorem rV_el (P : FVec Ideal S32x13312 .f32) (a : Fin 32) (h : Fin 4) (s : Fin 256) : rV P (ix3 a h s) = P (ix2 a ⟨6144 + (col h s).val, by omega⟩) := by
  unfold rV
  have e : h.val * 256 + s.val = (col h s).val := by
    show _ = 256 * h.val + s.val
    omega
  show extractStridedSlice S32x1024 ![0, 6144] P slices_S32x13312_S32x1024_0_6144 _ = _
  pointwise
  simp only [e]
def rO (P : FVec Ideal S32x13312 .f32) : FVec Ideal S32x4x256 .f32 := shapeCast S32x4x256 (extractStridedSlice S32x1024 ![0, 7168] P slices_S32x13312_S32x1024_0_7168) shapeCasts_S32x1024_S32x4x256
theorem rO_el (P : FVec Ideal S32x13312 .f32) (a : Fin 32) (h : Fin 4) (s : Fin 256) : rO P (ix3 a h s) = P (ix2 a ⟨7168 + (col h s).val, by omega⟩) := by
  unfold rO
  have e : h.val * 256 + s.val = (col h s).val := by
    show _ = 256 * h.val + s.val
    omega
  show extractStridedSlice S32x1024 ![0, 7168] P slices_S32x13312_S32x1024_0_7168 _ = _
  pointwise
  simp only [e]
def rZ (P : FVec Ideal S32x13312 .f32) : FVec Ideal S32x4x256 .f32 := shapeCast S32x4x256 (extractStridedSlice S32x1024 ![0, 8192] P slices_S32x13312_S32x1024_0_8192) shapeCasts_S32x1024_S32x4x256
theorem rZ_el (P : FVec Ideal S32x13312 .f32) (a : Fin 32) (h : Fin 4) (s : Fin 256) : rZ P (ix3 a h s) = P (ix2 a ⟨8192 + (col h s).val, by omega⟩) := by
  unfold rZ
  have e : h.val * 256 + s.val = (col h s).val := by
    show _ = 256 * h.val + s.val
    omega
  show extractStridedSlice S32x1024 ![0, 8192] P slices_S32x13312_S32x1024_0_8192 _ = _
  pointwise
  simp only [e]

def rKS (P : FVec Ideal S32x13312 .f32) : FVec Ideal S32x4x256 .f32 := mulf (rK P) (broadcastInDim S32x4x256 ![] bcast_S_S32x4x256 (constant S_ .f32 0x3D800000#32))
theorem rKS_el (P : FVec Ideal S32x13312 .f32) (a : Fin 32) (h : Fin 4) (s : Fin 256) : rKS P (ix3 a h s) = rK P (ix3 a h s) * kap := by
  pointwise [rKS, kap]

def rI (G : FVec Ideal S32x128 .f32) (B : FVec Ideal S1x4 .f32) : FVec Ideal S32x4 .f32 := addf (extractStridedSlice S32x4 ![0, 0] G slices_S32x128_S32x4_0_0) (broadcastInDim S32x4 ![0, 1] bcast_S1x4_S32x4_0_1 (broadcastInDim S1x4 ![1] bcast_S4_S1x4_1 (shapeCast S4 B shapeCasts_S1x4_S4)))
theorem rI_el (G : FVec Ideal S32x128 .f32) (B : FVec Ideal S1x4 .f32) (a : Fin 32) (h : Fin 4) : rI G B (ix2 a h) = G (ix2 a ⟨0 + h.val, by omega⟩) + B (ix2 0 h) := by
  pointwise [rI]

def rF (G : FVec Ideal S32x128 .f32) (B : FVec Ideal S1x4 .f32) : FVec Ideal S32x4 .f32 := addf (extractStridedSlice S32x4 ![0, 4] G slices_S32x128_S32x4_0_4) (broadcastInDim S32x4 ![0, 1] bcast_S1x4_S32x4_0_1 (broadcastInDim S1x4 ![1] bcast_S4_S1x4_1 (shapeCast S4 B shapeCasts_S1x4_S4)))
theorem rF_el (G : FVec Ideal S32x128 .f32) (B : FVec Ideal S1x4 .f32) (a : Fin 32) (h : Fin 4) : rF G B (ix2 a h) = G (ix2 a ⟨4 + h.val, by omega⟩) + B (ix2 0 h) := by
  pointwise [rF]

def z4 : FVec Ideal S32x4 .f32 := broadcastInDim S32x4 ![] bcast_S_S32x4 (constant S_ .f32 0x00000000#32)
theorem l1p_ne (y : EReal) : Ideal.log1p (Ideal.exp y) ≠ ⊥ := by
  unfold Ideal.log1p
  induction y using EReal.rec with
  | bot =>
    have e : (1 : EReal) + Ideal.exp ⊥ = ((1 : ℝ) : EReal) := by simp
    rw [e, Ideal.log_coe, if_neg (by norm_num)]
    exact EReal.coe_ne_bot _
  | top =>
    have e : (1 : EReal) + Ideal.exp ⊤ = ⊤ := EReal.add_top_of_ne_bot (EReal.coe_ne_bot 1)
    rw [e, Ideal.log_top]
    exact top_ne_bot
  | coe r =>
    have e : (1 : EReal) + Ideal.exp (r : EReal) = ((1 + Real.exp r : ℝ) : EReal) := by simp
    have p := Real.exp_pos r
    rw [e, Ideal.log_coe, if_neg (by linarith)]
    exact EReal.coe_ne_bot _
theorem neg_soft (x : EReal) : -(max (-x) 0 + Ideal.log1p (Ideal.exp (-max x (-x)))) = min x 0 - Ideal.log1p (Ideal.exp (0 - max x (-x))) := by
  have h0 : (0 : EReal) ≤ max (-x) 0 := le_max_right _ _
  rw [EReal.neg_add]
  · rw [sub_eq_add_neg (0 : EReal), zero_add]
    congr 1
    rcases le_total x 0 with hx | hx
    · rw [min_eq_left hx, max_eq_left (EReal.neg_nonneg.mpr hx), neg_neg]
    · rw [min_eq_right hx, max_eq_right (by simpa using EReal.neg_le_neg_iff.mpr hx), neg_zero]
  · exact Or.inl (fun e => by rw [e] at h0; exact absurd h0 (by simp))
  · exact Or.inr (l1p_ne _)
def rLS (f : FVec Ideal S32x4 .f32) : FVec Ideal S32x4 .f32 :=
  Host.negf (select (cmpf .une (subf (Host.negf f) z4) (subf (Host.negf f) z4)) (addf (Host.negf f) z4) (addf (maximumf (Host.negf f) z4) (Host.log1p (Host.exp (Host.negf (Host.absf (subf (Host.negf f) z4)))))))
theorem rLS_el (f : FVec Ideal S32x4 .f32) (a : Fin 32) (h : Fin 4) : rLS f (ix2 a h) = ls (f (ix2 a h)) := by
  pointwise [rLS, z4]
  rw [if_neg (by simp), Ideal.absf_def, neg_neg, max_comm (-f (ix2 a h)) (f (ix2 a h))]
  exact neg_soft _
def rMin (M : FVec Ideal S1x32x4 .f32) (f : FVec Ideal S32x4 .f32) : FVec Ideal S32x4 .f32 := addf (shapeCast S32x4 M shapeCasts_S1x32x4_S32x4) (rLS f)
theorem rMin_el (M : FVec Ideal S1x32x4 .f32) (f : FVec Ideal S32x4 .f32) (a : Fin 32) (h : Fin 4) : rMin M f (ix2 a h) = mIn (f (ix2 a h)) (M (ix3 0 a h)) := by
  unfold mIn
  rw [← rLS_el f a h]
  unfold rMin
  generalize rLS f = L
  pointwise
def rM (i f : FVec Ideal S32x4 .f32) (M : FVec Ideal S1x32x4 .f32) : FVec Ideal S32x4 .f32 := maximumf (rMin M f) i
theorem rM_el (i f : FVec Ideal S32x4 .f32) (M : FVec Ideal S1x32x4 .f32) (a : Fin 32) (h : Fin 4) : rM i f M (ix2 a h) = mS (i (ix2 a h)) (f (ix2 a h)) (M (ix3 0 a h)) := by
  unfold mS
  rw [← rMin_el M f a h]
  unfold rM
  generalize rMin M f = L
  pointwise
def rD (i f : FVec Ideal S32x4 .f32) (M : FVec Ideal S1x32x4 .f32) : FVec Ideal S32x4x1 .f32 := broadcastInDim S32x4x1 ![0, 1] bcast_S32x4_S32x4x1_0_1 (Host.exp (subf i (rM i f M)))
theorem rD_el (i f : FVec Ideal S32x4 .f32) (M : FVec Ideal S1x32x4 .f32) (a : Fin 32) (h : Fin 4) : rD i f M (ix3 a h 0) = dS (i (ix2 a h)) (f (ix2 a h)) (M (ix3 0 a h)) := by
  unfold dS
  rw [← rM_el i f M a h]
  unfold rD
  generalize rM i f M = L
  pointwise
def rW (i f : FVec Ideal S32x4 .f32) (M : FVec Ideal S1x32x4 .f32) : FVec Ideal S32x4x1 .f32 := broadcastInDim S32x4x1 ![0, 1] bcast_S32x4_S32x4x1_0_1 (Host.exp (subf (rMin M f) (rM i f M)))
theorem rW_el (i f : FVec Ideal S32x4 .f32) (M : FVec Ideal S1x32x4 .f32) (a : Fin 32) (h : Fin 4) : rW i f M (ix3 a h 0) = wS (i (ix2 a h)) (f (ix2 a h)) (M (ix3 0 a h)) := by
  unfold wS
  rw [← rM_el i f M a h, ← rMin_el M f a h]
  unfold rW
  generalize rM i f M = L
  generalize rMin M f = L'
  pointwise

/-- The new key sums. -/
def refN (d w : FVec Ideal S32x4x1 .f32) (ks : FVec Ideal S32x4x256 .f32) (N : FVec Ideal S1x32x4x256 .f32) : FVec Ideal S32x4x256 .f32 :=
  addf (mulf (broadcastInDim S32x4x256 ![0, 1, 2] bcast_S32x4x1_S32x4x256_0_1_2 w) (shapeCast S32x4x256 N shapeCasts_S1x32x4x256_S32x4x256)) (mulf (broadcastInDim S32x4x256 ![0, 1, 2] bcast_S32x4x1_S32x4x256_0_1_2 d) ks)
theorem refN_el (d w : FVec Ideal S32x4x1 .f32) (ks : FVec Ideal S32x4x256 .f32) (N : FVec Ideal S1x32x4x256 .f32) (a : Fin 32) (h : Fin 4) (s : Fin 256) :
    refN d w ks N (ix3 a h s) = w (ix3 a h 0) * N (ix4 0 a h s) + d (ix3 a h 0) * ks (ix3 a h s) := by
  pointwise [refN]

/-- The new state. -/
def refC (d w : FVec Ideal S32x4x1 .f32) (v ks : FVec Ideal S32x4x256 .f32) (C : FVec Ideal S1x32x4x256x256 .f32) : FVec Ideal S32x4x256x256 .f32 :=
  addf (mulf (broadcastInDim S32x4x256x256 ![0, 1, 2, 3] bcast_S32x4x1x1_S32x4x256x256_0_1_2_3 (broadcastInDim S32x4x1x1 ![0, 1, 2] bcast_S32x4x1_S32x4x1x1_0_1_2 w)) (shapeCast S32x4x256x256 C shapeCasts_S1x32x4x256x256_S32x4x256x256))
    (mulf (broadcastInDim S32x4x256x256 ![0, 1, 2, 3] bcast_S32x4x256x1_S32x4x256x256_0_1_2_3 (mulf (broadcastInDim S32x4x256x1 ![0, 1, 2, 3] bcast_S32x4x1x1_S32x4x256x1_0_1_2_3 (broadcastInDim S32x4x1x1 ![0, 1, 2] bcast_S32x4x1_S32x4x1x1_0_1_2 d)) (broadcastInDim S32x4x256x1 ![0, 1, 2] bcast_S32x4x256_S32x4x256x1_0_1_2 v)))
      (broadcastInDim S32x4x256x256 ![0, 1, 2, 3] bcast_S32x4x1x256_S32x4x256x256_0_1_2_3 (broadcastInDim S32x4x1x256 ![0, 1, 3] bcast_S32x4x256_S32x4x1x256_0_1_3 ks)))
theorem refC_el (d w : FVec Ideal S32x4x1 .f32) (v ks : FVec Ideal S32x4x256 .f32) (C : FVec Ideal S1x32x4x256x256 .f32) (a : Fin 32) (h : Fin 4) (r s : Fin 256) :
    refC d w v ks C (ix4 a h r s) = w (ix3 a h 0) * C (ix5 0 a h r s) + d (ix3 a h 0) * v (ix3 a h r) * ks (ix3 a h s) := by
  pointwise [refC]

/-- The product of query and scaled key, weighted. -/
def rQK (d : FVec Ideal S32x4x1 .f32) (q ks : FVec Ideal S32x4x256 .f32) : FVec Ideal S32x4x1 .f32 :=
  mulf (broadcastInDim S32x4x1 ![0, 1] bcast_S32x4_S32x4x1_0_1 (Host.reduceAdd (mulf q ks) (constant S_ .f32 0x00000000#32) reducesTo_S32x4x256_S32x4_d2 h_S_)) d
theorem rQK_el (d : FVec Ideal S32x4x1 .f32) (q ks : FVec Ideal S32x4x256 .f32) (a : Fin 32) (h : Fin 4) :
    rQK d q ks (ix3 a h 0) = (∑ s : Fin 256, q (ix3 a h s) * ks (ix3 a h s)) * d (ix3 a h 0) := by
  pointwise [rQK]

/-- The heads' outputs before their norms. -/
def rH (m : FVec Ideal S32x4 .f32) (d w : FVec Ideal S32x4x1 .f32) (q v ks : FVec Ideal S32x4x256 .f32) (C : FVec Ideal S1x32x4x256x256 .f32) (N : FVec Ideal S1x32x4x256 .f32) : FVec Ideal S32x4x256 .f32 :=
  Host.divf (addf (mulf (broadcastInDim S32x4x256 ![0, 1, 2] bcast_S32x4x1_S32x4x256_0_1_2 (rQK d q ks)) v)
      (mulf (broadcastInDim S32x4x256 ![0, 1, 2] bcast_S32x4x1_S32x4x256_0_1_2 w) (Host.reduceAdd (mulf (shapeCast S32x4x256x256 C shapeCasts_S1x32x4x256x256_S32x4x256x256) (broadcastInDim S32x4x256x256 ![0, 1, 2, 3] bcast_S32x4x1x256_S32x4x256x256_0_1_2_3 (broadcastInDim S32x4x1x256 ![0, 1, 3] bcast_S32x4x256_S32x4x1x256_0_1_3 q))) (constant S_ .f32 0x00000000#32) reducesTo_S32x4x256x256_S32x4x256_d3 h_S_)))
    (broadcastInDim S32x4x256 ![0, 1, 2] bcast_S32x4x1_S32x4x256_0_1_2 (maximumf (Host.absf (addf (rQK d q ks) (mulf w (broadcastInDim S32x4x1 ![0, 1] bcast_S32x4_S32x4x1_0_1 (Host.reduceAdd (mulf (shapeCast S32x4x256 N shapeCasts_S1x32x4x256_S32x4x256) q) (constant S_ .f32 0x00000000#32) reducesTo_S32x4x256_S32x4_d2 h_S_))))) (broadcastInDim S32x4x1 ![0, 1] bcast_S32x4_S32x4x1_0_1 (Host.exp (Host.negf m)))))
theorem rH_el (m : FVec Ideal S32x4 .f32) (d w : FVec Ideal S32x4x1 .f32) (q v ks : FVec Ideal S32x4x256 .f32) (C : FVec Ideal S1x32x4x256x256 .f32) (N : FVec Ideal S1x32x4x256 .f32) (a : Fin 32) (h : Fin 4) (r : Fin 256) :
    rH m d w q v ks C N (ix3 a h r) = Ideal.div (rQK d q ks (ix3 a h 0) * v (ix3 a h r) + w (ix3 a h 0) * ∑ s : Fin 256, C (ix5 0 a h r s) * q (ix3 a h s))
      (max (ab (rQK d q ks (ix3 a h 0) + w (ix3 a h 0) * ∑ s : Fin 256, N (ix4 0 a h s) * q (ix3 a h s))) (Ideal.exp (0 - m (ix2 a h)))) := by
  unfold rH
  generalize rQK d q ks = Z
  pointwise [ab]
  simp only [Ideal.absf_def, sub_eq_add_neg, zero_add]

/-- The branch's output. -/
def refH (x : FVec Ideal S32x4x256 .f32) (g : FVec Ideal S1x1024 .f32) (o z : FVec Ideal S32x4x256 .f32) : FVec Ideal S32x1x1024 .f32 :=
  shapeCast S32x1x1024 (mulf (mulf (mulf (mulf x (broadcastInDim S32x4x256 ![0, 1, 2] bcast_S32x4x1_S32x4x256_0_1_2 (Host.rsqrt (addf (Host.divf (broadcastInDim S32x4x1 ![0, 1] bcast_S32x4_S32x4x1_0_1 (Host.reduceAdd (mulf x x) (constant S_ .f32 0x00000000#32) reducesTo_S32x4x256_S32x4_d2 h_S_)) (broadcastInDim S32x4x1 ![] bcast_S_S32x4x1 (constant S_ .f32 0x43800000#32))) (broadcastInDim S32x4x1 ![] bcast_S_S32x4x1 (constant S_ .f32 0x358637BD#32))))))
      (broadcastInDim S32x4x256 ![0, 1, 2] bcast_S1x4x256_S32x4x256_0_1_2 (broadcastInDim S1x4x256 ![1, 2] bcast_S4x256_S1x4x256_1_2 (shapeCast S4x256 (shapeCast S1024 g shapeCasts_S1x1024_S1024) shapeCasts_S1024_S4x256))))
      (Host.divf (broadcastInDim S32x4x256 ![] bcast_S_S32x4x256 (constant S_ .f32 0x3F800000#32)) (addf (broadcastInDim S32x4x256 ![] bcast_S_S32x4x256 (constant S_ .f32 0x3F800000#32)) (Host.exp (Host.negf o)))))
    (mulf z (Host.divf (broadcastInDim S32x4x256 ![] bcast_S_S32x4x256 (constant S_ .f32 0x3F800000#32)) (addf (broadcastInDim S32x4x256 ![] bcast_S_S32x4x256 (constant S_ .f32 0x3F800000#32)) (Host.exp (Host.negf z)))))) shapeCasts_S32x4x256_S32x1x1024
theorem refH_el (x : FVec Ideal S32x4x256 .f32) (g : FVec Ideal S1x1024 .f32) (o z : FVec Ideal S32x4x256 .f32) (a : Fin 32) (h : Fin 4) (s : Fin 256) :
    refH x g o z (ix3 a 0 (col h s)) = oS (fun y => x (ix3 a h y)) (g (ix2 0 (col h s))) (o (ix3 a h s)) (z (ix3 a h s)) s := by
  have e : (⟨(col h s).val / 256, by have := (col h s).isLt; omega⟩ : Fin 4) = h := hd_col h s
  have e' : (⟨(col h s).val % 256, by omega⟩ : Fin 256) = s := pl_col h s
  pointwise [refH, oS, sg, one]
  simp only [e, e', sub_eq_add_neg, zero_add]

/-- The reference's four results, of its eight arguments. -/
def resM (P : FVec Ideal S32x13312 .f32) (G : FVec Ideal S32x128 .f32) (bi bf : FVec Ideal S1x4 .f32) (g : FVec Ideal S1x1024 .f32) (C : FVec Ideal S1x32x4x256x256 .f32) (N : FVec Ideal S1x32x4x256 .f32) (M : FVec Ideal S1x32x4 .f32) : FVec Ideal S32x4 .f32 := rM (rI G bi) (rF G bf) M
def resN (P : FVec Ideal S32x13312 .f32) (G : FVec Ideal S32x128 .f32) (bi bf : FVec Ideal S1x4 .f32) (g : FVec Ideal S1x1024 .f32) (C : FVec Ideal S1x32x4x256x256 .f32) (N : FVec Ideal S1x32x4x256 .f32) (M : FVec Ideal S1x32x4 .f32) : FVec Ideal S32x4x256 .f32 := refN (rD (rI G bi) (rF G bf) M) (rW (rI G bi) (rF G bf) M) (rKS P) N
def resC (P : FVec Ideal S32x13312 .f32) (G : FVec Ideal S32x128 .f32) (bi bf : FVec Ideal S1x4 .f32) (g : FVec Ideal S1x1024 .f32) (C : FVec Ideal S1x32x4x256x256 .f32) (N : FVec Ideal S1x32x4x256 .f32) (M : FVec Ideal S1x32x4 .f32) : FVec Ideal S32x4x256x256 .f32 := refC (rD (rI G bi) (rF G bf) M) (rW (rI G bi) (rF G bf) M) (rV P) (rKS P) C
def resH (P : FVec Ideal S32x13312 .f32) (G : FVec Ideal S32x128 .f32) (bi bf : FVec Ideal S1x4 .f32) (g : FVec Ideal S1x1024 .f32) (C : FVec Ideal S1x32x4x256x256 .f32) (N : FVec Ideal S1x32x4x256 .f32) (M : FVec Ideal S1x32x4 .f32) : FVec Ideal S32x1x1024 .f32 :=
  refH (rH (rM (rI G bi) (rF G bf) M) (rD (rI G bi) (rF G bf) M) (rW (rI G bi) (rF G bf) M) (rQ P) (rV P) (rKS P) C N) g (rO P) (rZ P)

variable (m : (ℓ : Loc nD τ sig) → Buf (Elt Ideal) ℓ)
set_option maxHeartbeats 4000000 in
theorem res_n (c : Dev nD) : res_out2 m c = resN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_out2 res_main_v101
  rfl
set_option maxHeartbeats 4000000 in
theorem res_c (c : Dev nD) : res_out1 m c = resC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_out1 res_main_v95
  rfl
set_option maxHeartbeats 4000000 in
theorem res_h (c : Dev nD) : res_out0 m c = resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_out0 res_main_v102
  rfl

end Cert.Reference5Ideal.Cell
-- ==== Proof.CellMain.lean ====
/- The sample batch's mLSTM step: its results are its reference's, over the extended reals. -/
module

public import proofs.«01_k».proof.Proof.CellWins
public import proofs.«01_k».proof.Proof.CellRef
public import proofs.«01_k».proof.Proof.Gen.Kernel5
public import proofs.«01_k».proof.Proof.Gen.Reference5Ideal.Run
public import Idealize.ShloMosaic.Lib.Claim

@[expose] public section

set_option maxRecDepth 16384

noncomputable section

namespace Cert.Kernel5Ideal.Cell

open Cert.Kernel5Ideal Cert.Kernel5Ideal.Gen
open Cert.Reference5Ideal.Cell (rI rF rI_el rF_el rM rM_el rD rD_el rW rW_el rKS rKS_el rQ rQ_el rK rK_el rV rV_el rO rO_el rZ rZ_el refN refN_el refC refC_el rQK rQK_el rH rH_el refH refH_el resM resN resC resH)
open Idealize.ShloMosaic Idealize.ShloMosaic.TcCoe Idealize.ShloMosaic.Tactic
open Idealize.SL.Sem

variable (m : (ℓ : Loc nD τ sig) → Buf (Elt Ideal) ℓ) (ρ : Dev nD → PrngReg)

theorem i_eq (c : Dev nD) (t : Fin cfg0.N) (a : Fin 32) (h : Fin 4) :
    iG (iblk m c 5 t) (iblk m c 6 t) a h = rI (m ((c : Thread nD τ).loc main_arg1)) (m ((c : Thread nD τ).loc main_arg2)) (ix2 a h) := by
  unfold iG
  rw [rI_el, iblk_5, iblk_6, V_b, b_i, V_main_arg1]
  have e : (⟨0 + h.val, by omega⟩ : Fin 128) = ⟨h.val, by omega⟩ := Fin.ext (by show 0 + h.val = h.val; omega)
  rw [e]
  congr 1
  pointwise

theorem f_eq (c : Dev nD) (t : Fin cfg0.N) (a : Fin 32) (h : Fin 4) :
    fG (iblk m c 5 t) (iblk m c 6 t) a h = rF (m ((c : Thread nD τ).loc main_arg1)) (m ((c : Thread nD τ).loc main_arg3)) (ix2 a h) := by
  unfold fG
  rw [rF_el, iblk_5, iblk_6, V_b, b_f, V_main_arg1]
  have e : (⟨4 + h.val, by omega⟩ : Fin 128) = ⟨h.val + 4, by omega⟩ := Fin.ext (by show 4 + h.val = h.val + 4; omega)
  rw [e]
  congr 1
  pointwise

theorem sc7 (M : FVec Ideal S1x32x4 .f32) (a : Fin 32) (h : Fin 4) : shapeCast S32x4 M shapeCasts_S1x32x4_S32x4 (ix2 a h) = M (ix3 0 a h) := by
  pointwise
theorem sc6 (N : FVec Ideal S1x32x4x256 .f32) (a : Fin 32) (h : Fin 4) (s : Fin 256) : shapeCast S32x4x256 N shapeCasts_S1x32x4x256_S32x4x256 (ix3 a h s) = N (ix4 0 a h s) := by
  pointwise
theorem sc5 (C : FVec Ideal S1x32x4x256x256 .f32) (a : Fin 32) (h : Fin 4) (r s : Fin 256) : shapeCast S32x4x256x256 C shapeCasts_S1x32x4x256x256_S32x4x256x256 (ix4 a h r s) = C (ix5 0 a h r s) := by
  pointwise
theorem x10_eq (c : Dev nD) (t : Fin cfg0.N) (a : Fin 32) (h : Fin 4) : iblk m c 10 t (ix2 a h) = (m ((c : Thread nD τ).loc main_arg7) : FVec Ideal S1x32x4 .f32) (ix3 0 a h) := by
  rw [iblk_10, V_m0]
  exact sc7 _ a h
theorem x9_eq (c : Dev nD) (t : Fin cfg0.N) (h : Fin 4) (s : Fin 256) : iblk m c 9 t (ix3 0 h s) = (m ((c : Thread nD τ).loc main_arg6) : FVec Ideal S1x32x4x256 .f32) (ix4 0 (row (grid0.coords t)) h s) := by
  rw [iblk_9, V_n0]
  exact sc6 _ _ h s
theorem x8_eq (c : Dev nD) (t : Fin cfg0.N) (h : Fin 4) (r s : Fin 256) : iblk m c 8 t (ix4 0 h r s) = (m ((c : Thread nD τ).loc main_arg5) : FVec Ideal S1x32x4x256x256 .f32) (ix5 0 (row (grid0.coords t)) h r s) := by
  rw [iblk_8, V_c0]
  exact sc5 _ _ h r s
theorem x7_eq (c : Dev nD) (t : Fin cfg0.N) (j : Fin 1024) : iblk m c 7 t (ix2 0 j) = (m ((c : Thread nD τ).loc main_arg4) : FVec Ideal S1x1024 .f32) (ix2 0 j) := by
  rw [iblk_7, V_n]
  pointwise
theorem x0_eq (c : Dev nD) (t : Fin cfg0.N) (a : Fin 32) (h : Fin 4) (s : Fin 256) : iblk m c 0 t (ix2 a (col h s)) = rQ (m ((c : Thread nD τ).loc main_arg0)) (ix3 a h s) := by
  rw [iblk_0, rQ_el, V_main_arg0]
theorem x1_eq (c : Dev nD) (t : Fin cfg0.N) (a : Fin 32) (h : Fin 4) (s : Fin 256) : iblk m c 1 t (ix2 a (col h s)) = rK (m ((c : Thread nD τ).loc main_arg0)) (ix3 a h s) := by
  rw [iblk_1, rK_el, V_main_arg0]
theorem x2_eq (c : Dev nD) (t : Fin cfg0.N) (a : Fin 32) (h : Fin 4) (s : Fin 256) : iblk m c 2 t (ix2 a (col h s)) = rV (m ((c : Thread nD τ).loc main_arg0)) (ix3 a h s) := by
  rw [iblk_2, rV_el, V_main_arg0]
theorem x3_eq (c : Dev nD) (t : Fin cfg0.N) (a : Fin 32) (h : Fin 4) (s : Fin 256) : iblk m c 3 t (ix2 a (col h s)) = rO (m ((c : Thread nD τ).loc main_arg0)) (ix3 a h s) := by
  rw [iblk_3, rO_el, V_main_arg0]
theorem x4_eq (c : Dev nD) (t : Fin cfg0.N) (a : Fin 32) (h : Fin 4) (s : Fin 256) : iblk m c 4 t (ix2 a (col h s)) = rZ (m ((c : Thread nD τ).loc main_arg0)) (ix3 a h s) := by
  rw [iblk_4, rZ_el, V_main_arg0]
theorem m_eq (c : Dev nD) (t : Fin cfg0.N) (a : Fin 32) (h : Fin 4) :
    mG (iblk m c 5 t) (iblk m c 6 t) (iblk m c 10 t) a h = rM (rI (m ((c : Thread nD τ).loc main_arg1)) (m ((c : Thread nD τ).loc main_arg2))) (rF (m ((c : Thread nD τ).loc main_arg1)) (m ((c : Thread nD τ).loc main_arg3))) (m ((c : Thread nD τ).loc main_arg7)) (ix2 a h) := by
  unfold mG
  rw [rM_el, i_eq, f_eq, x10_eq]
theorem d_eq (c : Dev nD) (t : Fin cfg0.N) (a : Fin 32) (h : Fin 4) :
    dG (iblk m c 5 t) (iblk m c 6 t) (iblk m c 10 t) a h = rD (rI (m ((c : Thread nD τ).loc main_arg1)) (m ((c : Thread nD τ).loc main_arg2))) (rF (m ((c : Thread nD τ).loc main_arg1)) (m ((c : Thread nD τ).loc main_arg3))) (m ((c : Thread nD τ).loc main_arg7)) (ix3 a h 0) := by
  unfold dG
  rw [rD_el, i_eq, f_eq, x10_eq]
theorem w_eq (c : Dev nD) (t : Fin cfg0.N) (a : Fin 32) (h : Fin 4) :
    wG (iblk m c 5 t) (iblk m c 6 t) (iblk m c 10 t) a h = rW (rI (m ((c : Thread nD τ).loc main_arg1)) (m ((c : Thread nD τ).loc main_arg2))) (rF (m ((c : Thread nD τ).loc main_arg1)) (m ((c : Thread nD τ).loc main_arg3))) (m ((c : Thread nD τ).loc main_arg7)) (ix3 a h 0) := by
  unfold wG
  rw [rW_el, i_eq, f_eq, x10_eq]
theorem c_eq (c : Dev nD) (t : Fin cfg0.N) (h : Fin 4) (r s : Fin 256) :
    cG (iblk m c 1 t) (iblk m c 2 t) (iblk m c 5 t) (iblk m c 6 t) (iblk m c 8 t) (iblk m c 10 t) (row (grid0.coords t)) h r s = resC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix4 (row (grid0.coords t)) h r s) := by
  unfold cG resC
  rw [refC_el, rKS_el, d_eq, w_eq, x8_eq, x1_eq, x2_eq]
theorem n_eq (c : Dev nD) (t : Fin cfg0.N) (h : Fin 4) (s : Fin 256) :
    nG (iblk m c 1 t) (iblk m c 5 t) (iblk m c 6 t) (iblk m c 9 t) (iblk m c 10 t) (row (grid0.coords t)) h s = resN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (row (grid0.coords t)) h s) := by
  unfold nG resN
  rw [refN_el, rKS_el, d_eq, w_eq, x9_eq, x1_eq]
theorem h_eq (c : Dev nD) (t : Fin cfg0.N) (h : Fin 4) (r : Fin 256) :
    hG (iblk m c 0 t) (iblk m c 1 t) (iblk m c 2 t) (iblk m c 5 t) (iblk m c 6 t) (iblk m c 8 t) (iblk m c 9 t) (iblk m c 10 t) (row (grid0.coords t)) h r =
      rH (rM (rI (m ((c : Thread nD τ).loc main_arg1)) (m ((c : Thread nD τ).loc main_arg2))) (rF (m ((c : Thread nD τ).loc main_arg1)) (m ((c : Thread nD τ).loc main_arg3))) (m ((c : Thread nD τ).loc main_arg7))) (rD (rI (m ((c : Thread nD τ).loc main_arg1)) (m ((c : Thread nD τ).loc main_arg2))) (rF (m ((c : Thread nD τ).loc main_arg1)) (m ((c : Thread nD τ).loc main_arg3))) (m ((c : Thread nD τ).loc main_arg7))) (rW (rI (m ((c : Thread nD τ).loc main_arg1)) (m ((c : Thread nD τ).loc main_arg2))) (rF (m ((c : Thread nD τ).loc main_arg1)) (m ((c : Thread nD τ).loc main_arg3))) (m ((c : Thread nD τ).loc main_arg7))) (rQ (m ((c : Thread nD τ).loc main_arg0))) (rV (m ((c : Thread nD τ).loc main_arg0))) (rKS (m ((c : Thread nD τ).loc main_arg0))) (m ((c : Thread nD τ).loc main_arg5)) (m ((c : Thread nD τ).loc main_arg6)) (ix3 (row (grid0.coords t)) h r) := by
  unfold hG hS qkS
  rw [rH_el, rQK_el]
  simp only [rKS_el, m_eq, d_eq, w_eq, x0_eq, x1_eq, x2_eq, x8_eq, x9_eq]
theorem o_eq (c : Dev nD) (t : Fin cfg0.N) (h : Fin 4) (s : Fin 256) :
    oG (iblk m c 0 t) (iblk m c 1 t) (iblk m c 2 t) (iblk m c 3 t) (iblk m c 4 t) (iblk m c 5 t) (iblk m c 6 t) (iblk m c 7 t) (iblk m c 8 t) (iblk m c 9 t) (iblk m c 10 t) (row (grid0.coords t)) h s = resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (row (grid0.coords t)) 0 (col h s)) := by
  have e : hG (iblk m c 0 t) (iblk m c 1 t) (iblk m c 2 t) (iblk m c 5 t) (iblk m c 6 t) (iblk m c 8 t) (iblk m c 9 t) (iblk m c 10 t) (row (grid0.coords t)) h = fun r => rH (rM (rI (m ((c : Thread nD τ).loc main_arg1)) (m ((c : Thread nD τ).loc main_arg2))) (rF (m ((c : Thread nD τ).loc main_arg1)) (m ((c : Thread nD τ).loc main_arg3))) (m ((c : Thread nD τ).loc main_arg7))) (rD (rI (m ((c : Thread nD τ).loc main_arg1)) (m ((c : Thread nD τ).loc main_arg2))) (rF (m ((c : Thread nD τ).loc main_arg1)) (m ((c : Thread nD τ).loc main_arg3))) (m ((c : Thread nD τ).loc main_arg7))) (rW (rI (m ((c : Thread nD τ).loc main_arg1)) (m ((c : Thread nD τ).loc main_arg2))) (rF (m ((c : Thread nD τ).loc main_arg1)) (m ((c : Thread nD τ).loc main_arg3))) (m ((c : Thread nD τ).loc main_arg7))) (rQ (m ((c : Thread nD τ).loc main_arg0))) (rV (m ((c : Thread nD τ).loc main_arg0))) (rKS (m ((c : Thread nD τ).loc main_arg0))) (m ((c : Thread nD τ).loc main_arg5)) (m ((c : Thread nD τ).loc main_arg6)) (ix3 (row (grid0.coords t)) h r) := funext fun r => h_eq m c t h r
  unfold oG resH
  rw [refH_el, e, x7_eq, x3_eq, x4_eq]

theorem value_14 (c : Dev nD) : (dats m 0 c).arrAt 14 (cfgs 0).N = (fun y : S32x4x128.Idx => resM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (y 0) (y 1))) := by
  have key : ∀ (t : Fin cfg0.N) (y : S1x4x128.Idx), (outsAt0 m c t).2.2.2 y = ((fun y : S32x4x128.Idx => resM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (y 0) (y 1))) : FVec Ideal S32x4x128 .f32) ((win0_14.blk t).view.emb y : S32x4x128.Idx) := fun t y => by
    obtain ⟨h, s, rfl⟩ : ∃ (h : Fin 4) (s : Fin 128), y = (ix3 0 h s : S1x4x128.Idx) := ⟨y 1, y 2, (eq_ix3 y).trans (congrArg (fun z : Fin 1 => (ix3 z (y 1) (y 2) : S1x4x128.Idx)) (Subsingleton.elim _ _))⟩
    rw [emb_14]
    unfold outsAt0
    dsimp only
    rw [out_14]
    exact m_eq m c t (row (grid0.coords t)) h
  refine (dats m 0 c).arrAt_eq_of_covers 14 _ (by decide +kernel) fun t hf y => ?_
  blk_simp
  rw [after0_14]
  exact key t y

theorem value_13 (c : Dev nD) : (dats m 0 c).arrAt 13 (cfgs 0).N = resN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have key : ∀ (t : Fin cfg0.N) (y : S1x4x256.Idx), (outsAt0 m c t).2.2.1 y = (resN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : FVec Ideal S32x4x256 .f32) ((win0_13.blk t).view.emb y : S32x4x256.Idx) := fun t y => by
    obtain ⟨h, s, rfl⟩ : ∃ (h : Fin 4) (s : Fin 256), y = (ix3 0 h s : S1x4x256.Idx) := ⟨y 1, y 2, (eq_ix3 y).trans (congrArg (fun z : Fin 1 => (ix3 z (y 1) (y 2) : S1x4x256.Idx)) (Subsingleton.elim _ _))⟩
    rw [emb_13]
    unfold outsAt0
    dsimp only
    rw [out_13]
    exact n_eq m c t h s
  refine (dats m 0 c).arrAt_eq_of_covers 13 _ (by decide +kernel) fun t hf y => ?_
  blk_simp
  rw [after0_13]
  exact key t y

theorem value_12 (c : Dev nD) : (dats m 0 c).arrAt 12 (cfgs 0).N = resC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have key : ∀ (t : Fin cfg0.N) (y : S1x4x256x256.Idx), (outsAt0 m c t).2.1 y = (resC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : FVec Ideal S32x4x256x256 .f32) ((win0_12.blk t).view.emb y : S32x4x256x256.Idx) := fun t y => by
    obtain ⟨h, r, s, rfl⟩ : ∃ (h : Fin 4) (r s : Fin 256), y = (ix4 0 h r s : S1x4x256x256.Idx) := ⟨y 1, y 2, y 3, (eq_ix4 y).trans (congrArg (fun z : Fin 1 => (ix4 z (y 1) (y 2) (y 3) : S1x4x256x256.Idx)) (Subsingleton.elim _ _))⟩
    rw [emb_12]
    unfold outsAt0
    dsimp only
    rw [out_12]
    exact c_eq m c t h r s
  refine (dats m 0 c).arrAt_eq_of_covers 12 _ (by decide +kernel) fun t hf y => ?_
  blk_simp
  rw [after0_12]
  exact key t y

theorem value_11 (c : Dev nD) : (dats m 0 c).arrAt 11 (cfgs 0).N = resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have key : ∀ (t : Fin cfg0.N) (y : S1x1x1024.Idx), (outsAt0 m c t).1 y = (resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : FVec Ideal S32x1x1024 .f32) ((win0_11.blk t).view.emb y : S32x1x1024.Idx) := fun t y => by
    obtain ⟨j, rfl⟩ : ∃ (j : Fin 1024), y = (ix3 0 0 j : S1x1x1024.Idx) := ⟨y 2, (eq_ix3 y).trans ((congrArg (fun z : Fin 1 => (ix3 z (y 1) (y 2) : S1x1x1024.Idx)) (Subsingleton.elim _ _)).trans (congrArg (fun z : Fin 1 => (ix3 0 z (y 2) : S1x1x1024.Idx)) (Subsingleton.elim _ _)))⟩
    rw [emb_11]
    unfold outsAt0
    dsimp only
    rw [out_11]
    have e : col (hd j) (pl j) = j := Fin.ext (by show 256 * (j.val / 256) + j.val % 256 = j.val; omega)
    refine (o_eq m c t (hd j) (pl j)).trans ?_
    rw [e]
  refine (dats m 0 c).arrAt_eq_of_covers 11 _ (by decide +kernel) fun t hf y => ?_
  blk_simp
  rw [after0_11]
  exact key t y

/-- The exponents the lines after the region return: the first of each head's lanes. -/
theorem lane_m (X : FVec Ideal S32x4x128 .f32) (Y : FVec Ideal S32x4 .f32) (e : X = fun y : S32x4x128.Idx => Y (ix2 (y 0) (y 1))) :
    shapeCast S32x4 (extractStridedSlice S32x4x1 ![0, 0, 0] X slices_S32x4x128_S32x4x1_0_0_0) shapeCasts_S32x4x1_S32x4 = Y := by
  funext y
  obtain ⟨a, h, rfl⟩ : ∃ (a : Fin 32) (h : Fin 4), y = (ix2 a h : S32x4.Idx) := ⟨y 0, y 1, eq_ix2 y⟩
  subst e
  pointwise

theorem tail_m (c : Dev nD) : Pipeline.afterTail₀ cfgs (dats m) 0 (V0 m) [hostOps1] c main_v12 = resM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine Eq.trans ?_ (lane_m ((dats m 0 c).arrAt 14 (cfgs 0).N) _ (value_14 m c))
  have e := Pipeline.withArrays_arr_shared (cfgs 0).spec c (V0 m c) (fun w => (dats m 0 c).arrAt w (cfgs 0).N) (fun w w' hne e => (dats m 0 c).arrAt_sharedIn sharedIn0 (V0 m c) (A_eq m c) _ w w' hne e) 14
  unfold Pipeline.afterTail₀
  refine Eq.trans ?_ (congrArg (fun X : FVec Ideal S32x4x128 .f32 => shapeCast S32x4 (extractStridedSlice S32x4x1 ![0, 0, 0] X slices_S32x4x128_S32x4x1_0_0_0) shapeCasts_S32x4x1_S32x4) e)
  generalize Pipeline.withArrays (cfgs 0).spec c (V0 m c) (fun w => (dats m 0 c).arrAt w (cfgs 0).N) = W
  show StableHlo.after [_, _] W (Proc.devRef .tc main_v12) = _
  after_results <;> rfl

theorem run : θ_run defs (onTc (τ := τ) (main (F := Ideal))) ⟨m, fun _ => 0, ρ⟩ (fun r => ∀ c : Dev nD,
      r.2.mem ((c.tc : Thread nD τ).loc main_v10_0) = resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v10_1) = resC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v10_2) = resN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v12) = resM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  run_from run_main m ρ & unchanged m ρ
  · exact value_11 m c
  · exact value_12 m c
  · exact value_13 m c
  · exact tail_m m c

end Cert.Kernel5Ideal.Cell
-- ==== Proof.lean ====
/- The claims about the weight-packing call, the streamed projection and the streaming output projection, from their runs
   (PrepMain.lean, ProjFrame.lean, ProjMain.lean, OutFrame.lean, OutMain.lean) and their references'. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.PrepMain
public import proofs.«01_k».proof.Proof.ProjMain
public import proofs.«01_k».proof.Proof.OutMain
public import proofs.«01_k».proof.Proof.SmallMain
public import proofs.«01_k».proof.Proof.CellMain
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_pages
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Pre_pages3
public import Idealize.ShloMosaic.Adequacy
public import Idealize.ShloMosaic.Init

@[expose] public section

noncomputable section

namespace Cert.Proof

open Idealize.ShloMosaic Idealize.SL.Sem Cert.Kernel

/-- The two prints of the kernel are one program: the frame's and the values' run at bit patterns is the one over any
    float values. -/
theorem defs_eq : Cert.Kernel.defs (F := Bits) = Cert.KernelIdeal.defs (F := Bits) := by sl_kernel_rfl

/-- The kernel's frame: the run over any float values, at bit patterns. -/
theorem frame_kernel : Cert.quiescent_Kernel := fun m ρ _ => by
  rw [defs_eq]
  exact (θ_run Cert.KernelIdeal.defs _ _).mono (fun _ h => h) (Cert.KernelIdeal.Prep.frame (F := Bits) m ρ)

theorem frame_kernelIdeal : Cert.quiescent_KernelIdeal := fun m ρ _ => Cert.KernelIdeal.Prep.frame m ρ

/-- The reference's frame: its generated run, and no counter is there to be left above zero. -/
theorem frame_referenceIdeal : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The same at bit patterns. -/
theorem frame_reference : Cert.quiescent_Reference := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Bits) m ρ)

/-- Both results over the extended reals: the packed rows and the packed gate rows are the reference's. -/
theorem algebraic : Cert.algebraic_KernelIdeal_ReferenceIdeal := fun m ρ m' ρ' _ hagree =>
  ⟨_, _, Cert.KernelIdeal.Prep.run m ρ, (θ_run Cert.ReferenceIdeal.defs _ _).mono (fun _ h c => by
    have h := h c
    rw [hagree c] at h ⊢
    exact h) (Cert.ReferenceIdeal.Value.run m' ρ')⟩

/-- Both results at bit patterns, by the same two runs. -/
theorem bitexact : Cert.bitexact_Kernel_Reference := fun m ρ m' ρ' _ hagree => by
  rw [defs_eq]
  refine ⟨_, _, (θ_run Cert.KernelIdeal.defs _ _).mono (fun _ h => h) (Cert.KernelIdeal.Prep.run (F := Bits) m ρ),
    (θ_run Cert.ReferenceIdeal.defs _ _).mono (fun _ h c => ?_) (Cert.ReferenceIdeal.Value.run (F := Bits) m' ρ')⟩
  have h := h c
  have e := hagree c
  refine ⟨h.1.trans ?_, h.2.1.trans ?_, h.2.2⟩
  · exact congrArg Cert.KernelIdeal.Prep.packed e
  · exact congrArg Cert.KernelIdeal.Prep.gates e

/-- The two prints of the streamed projection are one program. -/
theorem defs_eq2 : Cert.Kernel2.defs (F := Bits) = Cert.Kernel2Ideal.defs (F := Bits) := by sl_kernel_rfl

theorem main_eq2 : Cert.Kernel2.main (F := Bits) = Cert.Kernel2Ideal.main (F := Bits) := by sl_kernel_rfl

/-- At bit patterns the argument's entries are page numbers. -/
theorem small2 (m : (ℓ : Loc Cert.Kernel2.nD Cert.Kernel2.τ Cert.Kernel2.sig) → Buf (Elt Bits) ℓ) (hp : Cert.Pre_Kernel2 m)
    (c : Dev Cert.Kernel2.nD) (x : Cert.Pre_pages.S32x128.Idx) :
    ((m ((c.tc : Thread Cert.Kernel2.nD Cert.Kernel2.τ).loc Cert.Kernel2.main_arg4) : IVec Cert.Pre_pages.S32x128 32) x).toNat < 5120 :=
  Cert.Kernel2Ideal.Proj.entry_small (hp c) x

set_option maxHeartbeats 4000000 in
/-- The streamed projection's frame at bit patterns: the run over any float values. -/
theorem frame_kernel2 : Cert.quiescent_Kernel2 := fun m ρ hp => by
  have hs := small2 m hp
  rw [defs_eq2, main_eq2]
  exact (θ_run Cert.Kernel2Ideal.defs _ _).mono (fun _ h => h) (Cert.Kernel2Ideal.Proj.frame_of (F := Bits) m ρ
    (Cert.Kernel2Ideal.Proj.words_small (F := Bits) m hs))

theorem frame_kernel2Ideal : Cert.quiescent_Kernel2Ideal := fun m ρ hp =>
  Cert.Kernel2Ideal.Proj.frame_of m ρ (Cert.Kernel2Ideal.Proj.words_small m fun c x => Cert.Kernel2Ideal.Proj.entry_small (hp c) x)

/-- Its reference's frame: its generated run, and no counter is there to be left above zero. -/
theorem frame_reference2Ideal : Cert.quiescent_Reference2Ideal := fun m ρ _ =>
  (θ_run Cert.Reference2Ideal.defs _ _).mono (fun r h => ⟨fun c => (h c).2.2.2, Idealize.ShloMosaic.sem_eq_zero_of_no_sems (by decide) r.2⟩)
    (Cert.Reference2Ideal.Value.run (F := Ideal) m ρ)

/-- The streamed projection's three results over the extended reals are its reference's. -/
theorem algebraic2 : Cert.algebraic_Kernel2Ideal_Reference2Ideal := fun m ρ m' ρ' hp hagree =>
  ⟨_, _, _, Cert.Kernel2Ideal.Proj.run m ρ (fun c x => Cert.Kernel2Ideal.Proj.entry_small (hp c) x),
    (θ_run Cert.Reference2Ideal.defs _ _).mono (fun _ h c => by
      have h := h c
      have e := hagree c
      have e0 := e.1
      have e1 := e.2.1
      have e2 := e.2.2.1
      have e3 := e.2.2.2.1
      have e4 := e.2.2.2.2.1
      have e5 := e.2.2.2.2.2
      refine ⟨h.1.trans ?_, h.2.1.trans ?_, h.2.2.1.trans ?_, h.2.2.2⟩
      · rw [e0, e1, e2]
      · rw [e0, e1, e3]
      · rw [e4, e5]; rfl) (Cert.Reference2Ideal.Value.run m' ρ')⟩

/-- The two prints of the streaming output projection are one program. -/
theorem defs_eq3 : Cert.Kernel3.defs (F := Bits) = Cert.Kernel3Ideal.defs (F := Bits) := by sl_kernel_rfl

theorem main_eq3 : Cert.Kernel3.main (F := Bits) = Cert.Kernel3Ideal.main (F := Bits) := by sl_kernel_rfl

/-- At bit patterns the table's entries are page numbers. -/
theorem small3 (m : (ℓ : Loc Cert.Kernel3.nD Cert.Kernel3.τ Cert.Kernel3.sig) → Buf (Elt Bits) ℓ) (hp : Cert.Pre_Kernel3 m)
    (c : Dev Cert.Kernel3.nD) (x : Cert.Pre_pages3.S32x128.Idx) :
    ((m ((c.tc : Thread Cert.Kernel3.nD Cert.Kernel3.τ).loc Cert.Kernel3.main_arg7) : IVec Cert.Pre_pages3.S32x128 32) x).toNat < 5120 :=
  Cert.Kernel3Ideal.Out.entry_small (hp c) x

set_option maxHeartbeats 4000000 in
/-- The streaming output projection's frame at bit patterns: the run over any float values. -/
theorem frame_kernel3 : Cert.quiescent_Kernel3 := fun m ρ hp => by
  have hs := small3 m hp
  rw [defs_eq3, main_eq3]
  exact (θ_run Cert.Kernel3Ideal.defs _ _).mono (fun _ h => h) (Cert.Kernel3Ideal.Out.frame_of (F := Bits) m ρ
    (Cert.Kernel3Ideal.Out.words_small (F := Bits) m hs))

theorem frame_kernel3Ideal : Cert.quiescent_Kernel3Ideal := fun m ρ hp =>
  Cert.Kernel3Ideal.Out.frame_of m ρ (Cert.Kernel3Ideal.Out.words_small m fun c x => Cert.Kernel3Ideal.Out.entry_small (hp c) x)

/-- Its reference's frame: its generated run, and no counter is there to be left above zero. -/
theorem frame_reference3Ideal : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The streaming output projection's two results over the extended reals are its reference's. -/
theorem algebraic3 : Cert.algebraic_Kernel3Ideal_Reference3Ideal := fun m ρ m' ρ' hp hagree =>
  ⟨_, _, Cert.Kernel3Ideal.Out.run m ρ (fun c x => Cert.Kernel3Ideal.Out.entry_small (hp c) x),
    (θ_run Cert.Reference3Ideal.defs _ _).mono (fun _ h c => by
      have h := h c
      obtain ⟨e0, e1, e2, e3, e4, e5, e6, e7, e8⟩ := hagree c
      refine ⟨h.1.trans ?_, h.2.1.trans ?_, h.2.2⟩
      · rw [e0, e1, e2, e3, e4, e5, e6]; try rfl
      · rw [e7, e8]; try rfl) (Cert.Reference3Ideal.Value.run m' ρ')⟩

/-- The two prints of this program are one. -/
theorem defs_eq4 : Cert.Kernel4.defs (F := Bits) = Cert.Kernel4Ideal.defs (F := Bits) := by sl_kernel_rfl

theorem main_eq4 : Cert.Kernel4.main (F := Bits) = Cert.Kernel4Ideal.main (F := Bits) := by sl_kernel_rfl

set_option maxHeartbeats 4000000 in
/-- The sample batch's output projection: its frame at bit patterns is the run over any float values. -/
theorem frame_kernel4 : Cert.quiescent_Kernel4 := fun m ρ _ => by
  rw [defs_eq4, main_eq4]
  exact (θ_run Cert.Kernel4Ideal.defs _ _).mono (fun _ h => h) (Cert.Kernel4Ideal.Gen.frame (F := Bits) m ρ)

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The sample batch's output projection over the extended reals: what it returns is its reference's. -/
theorem algebraic4 : Cert.algebraic_Kernel4Ideal_Reference4Ideal := fun m ρ m' ρ' _ hagree =>
  ⟨_, Cert.Kernel4Ideal.Small.run m ρ,
    (θ_run Cert.Reference4Ideal.defs _ _).mono (fun _ h c => by
      have h := h c
      obtain ⟨e0, e1, e2, e3, e4, e5, e6⟩ := hagree c
      refine ⟨h.1.trans ?_, h.2⟩
      rw [e0, e1, e2, e3, e4, e5, e6]; try rfl) (Cert.Reference4Ideal.Value.run m' ρ')⟩

/-- The two prints of this program are one. -/
theorem defs_eq5 : Cert.Kernel5.defs (F := Bits) = Cert.Kernel5Ideal.defs (F := Bits) := by sl_kernel_rfl

theorem main_eq5 : Cert.Kernel5.main (F := Bits) = Cert.Kernel5Ideal.main (F := Bits) := by sl_kernel_rfl

set_option maxHeartbeats 4000000 in
/-- The sample batch's recurrent step: its frame at bit patterns is the run over any float values. -/
theorem frame_kernel5 : Cert.quiescent_Kernel5 := fun m ρ _ => by
  rw [defs_eq5, main_eq5]
  exact (θ_run Cert.Kernel5Ideal.defs _ _).mono (fun _ h => h) (Cert.Kernel5Ideal.Gen.frame (F := Bits) m ρ)

theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m ρ)

/-- The sample batch's recurrent step over the extended reals: what it returns is its reference's. -/
theorem algebraic5 : Cert.algebraic_Kernel5Ideal_Reference5Ideal := fun m ρ m' ρ' _ hagree =>
  ⟨_, _, _, _, Cert.Kernel5Ideal.Cell.run m ρ,
    (θ_run Cert.Reference5Ideal.defs _ _).mono (fun _ h c => by
      have h := h c
      obtain ⟨e0, e1, e2, e3, e4, e5, e6, e7⟩ := hagree c
      refine ⟨h.1.trans ((Cert.Reference5Ideal.Cell.res_h m' c).trans ?_), h.2.1.trans ((Cert.Reference5Ideal.Cell.res_c m' c).trans ?_),
        h.2.2.1.trans ((Cert.Reference5Ideal.Cell.res_n m' c).trans ?_), h.2.2.2.1.trans ?_, h.2.2.2.2⟩
      · rw [e0, e1, e2, e3, e4, e5, e6, e7]
      · rw [e0, e1, e2, e3, e4, e5, e6, e7]
      · rw [e0, e1, e2, e3, e4, e5, e6, e7]
      · rw [e1, e2, e3, e7]; rfl) (Cert.Reference5Ideal.Value.run m' ρ')⟩

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Pre_pages.Gen.facts, Cert.Pre_pages3.Gen.facts,
  frame_kernel, frame_kernelIdeal, frame_referenceIdeal, frame_reference, frame_kernel2, frame_kernel2Ideal, frame_reference2Ideal,
  frame_kernel3, frame_kernel3Ideal, frame_reference3Ideal, frame_kernel4, frame_kernel4Ideal, frame_reference4Ideal, frame_kernel5, frame_kernel5Ideal, frame_reference5Ideal,
  trivial, algebraic, bitexact, trivial, algebraic2, trivial, algebraic3, trivial, algebraic4, trivial, algebraic5⟩

end Cert.Proof

end
